-- ==== Defs.lean ====
def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdIdeal_finite_proj [hPre_finite_proj : Cert.Pre_finite_proj.Facts] (m : (ℓ : Loc Cert.ProjBwdIdeal.nD Cert.ProjBwdIdeal.τ Cert.ProjBwdIdeal.sig) → Buf (Elt Ideal) ℓ) : Prop :=
  ∀ c : Dev Cert.ProjBwdIdeal.nD,
    (Cert.Pre_finite_proj.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4))).1 = (fun _ => 1#1)
    ∧ (Cert.Pre_finite_proj.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4))).2.1 = (fun _ => 1#1)
    ∧ (Cert.Pre_finite_proj.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4))).2.2.1 = (fun _ => 1#1)
    ∧ (Cert.Pre_finite_proj.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4))).2.2.2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_proj [hPre_finite_proj : Cert.Pre_finite_proj.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).1 = (fun _ => 1#1)
    ∧ (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).2.1 = (fun _ => 1#1)
    ∧ (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).2.2.1 = (fun _ => 1#1)
    ∧ (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).2.2.2 = (fun _ => 1#1)

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostBwdIdeal_finite_post [hPre_finite_post : Cert.Pre_finite_post.Facts] (m : (ℓ : Loc Cert.PostBwdIdeal.nD Cert.PostBwdIdeal.τ Cert.PostBwdIdeal.sig) → Buf (Elt Ideal) ℓ) : Prop :=
  ∀ c : Dev Cert.PostBwdIdeal.nD,
    (Cert.Pre_finite_post.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8))).1 = (fun _ => 1#1)
    ∧ (Cert.Pre_finite_post.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8))).2.1 = (fun _ => 1#1)
    ∧ (Cert.Pre_finite_post.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8))).2.2.1 = (fun _ => 1#1)
    ∧ (Cert.Pre_finite_post.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8))).2.2.2.1 = (fun _ => 1#1)
    ∧ (Cert.Pre_finite_post.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8))).2.2.2.2.1 = (fun _ => 1#1)
    ∧ (Cert.Pre_finite_post.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8))).2.2.2.2.2.1 = (fun _ => 1#1)
    ∧ (Cert.Pre_finite_post.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8))).2.2.2.2.2.2 = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_finite_post [hPre_finite_post : Cert.Pre_finite_post.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8))).1 = (fun _ => 1#1)
    ∧ (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8))).2.1 = (fun _ => 1#1)
    ∧ (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8))).2.2.1 = (fun _ => 1#1)
    ∧ (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8))).2.2.2.1 = (fun _ => 1#1)
    ∧ (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8))).2.2.2.2.1 = (fun _ => 1#1)
    ∧ (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8))).2.2.2.2.2.1 = (fun _ => 1#1)
    ∧ (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8))).2.2.2.2.2.2 = (fun _ => 1#1)

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_SguBwd (m : (ℓ : Loc Cert.SguBwd.nD Cert.SguBwd.τ Cert.SguBwd.sig) → Buf (Elt Bits) ℓ) : Prop :=
  True

def Pre_SguBwdIdeal (m : (ℓ : Loc Cert.SguBwdIdeal.nD Cert.SguBwdIdeal.τ Cert.SguBwdIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ r.2.sem = fun _ => 0)

def quiescent_ProjBwdIdeal_pre_finite_proj [hProjBwdIdeal : Cert.ProjBwdIdeal.Facts] [hPre_finite_proj : Cert.Pre_finite_proj.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal_finite_proj m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_ProjRefIdeal_pre_finite_proj [hProjRefIdeal : Cert.ProjRefIdeal.Facts] [hPre_finite_proj : Cert.Pre_finite_proj.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_proj m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2)
      ∧ r.2.mem ((c.tc : Thread Cert.PostBwd.nD Cert.PostBwd.τ).loc Cert.PostBwd.main_arg3) = m ((c.tc : Thread Cert.PostBwd.nD Cert.PostBwd.τ).loc Cert.PostBwd.main_arg3)
      ∧ r.2.mem ((c.tc : Thread Cert.PostBwd.nD Cert.PostBwd.τ).loc Cert.PostBwd.main_arg4) = m ((c.tc : Thread Cert.PostBwd.nD Cert.PostBwd.τ).loc Cert.PostBwd.main_arg4)
      ∧ r.2.mem ((c.tc : Thread Cert.PostBwd.nD Cert.PostBwd.τ).loc Cert.PostBwd.main_arg5) = m ((c.tc : Thread Cert.PostBwd.nD Cert.PostBwd.τ).loc Cert.PostBwd.main_arg5)
      ∧ r.2.mem ((c.tc : Thread Cert.PostBwd.nD Cert.PostBwd.τ).loc Cert.PostBwd.main_arg6) = m ((c.tc : Thread Cert.PostBwd.nD Cert.PostBwd.τ).loc Cert.PostBwd.main_arg6)
      ∧ r.2.mem ((c.tc : Thread Cert.PostBwd.nD Cert.PostBwd.τ).loc Cert.PostBwd.main_arg7) = m ((c.tc : Thread Cert.PostBwd.nD Cert.PostBwd.τ).loc Cert.PostBwd.main_arg7)
      ∧ r.2.mem ((c.tc : Thread Cert.PostBwd.nD Cert.PostBwd.τ).loc Cert.PostBwd.main_arg8) = m ((c.tc : Thread Cert.PostBwd.nD Cert.PostBwd.τ).loc Cert.PostBwd.main_arg8))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
      ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
      ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
      ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6)
      ∧ r.2.mem ((c.tc : Thread Cert.PostBwdIdeal.nD Cert.PostBwdIdeal.τ).loc Cert.PostBwdIdeal.main_arg7) = m ((c.tc : Thread Cert.PostBwdIdeal.nD Cert.PostBwdIdeal.τ).loc Cert.PostBwdIdeal.main_arg7)
      ∧ r.2.mem ((c.tc : Thread Cert.PostBwdIdeal.nD Cert.PostBwdIdeal.τ).loc Cert.PostBwdIdeal.main_arg8) = m ((c.tc : Thread Cert.PostBwdIdeal.nD Cert.PostBwdIdeal.τ).loc Cert.PostBwdIdeal.main_arg8))
      ∧ r.2.sem = fun _ => 0)

def quiescent_PostBwdIdeal_pre_finite_post [hPostBwdIdeal : Cert.PostBwdIdeal.Facts] [hPre_finite_post : Cert.Pre_finite_post.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal_finite_post m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
      ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
      ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
      ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6)
      ∧ r.2.mem ((c.tc : Thread Cert.PostBwdIdeal.nD Cert.PostBwdIdeal.τ).loc Cert.PostBwdIdeal.main_arg7) = m ((c.tc : Thread Cert.PostBwdIdeal.nD Cert.PostBwdIdeal.τ).loc Cert.PostBwdIdeal.main_arg7)
      ∧ r.2.mem ((c.tc : Thread Cert.PostBwdIdeal.nD Cert.PostBwdIdeal.τ).loc Cert.PostBwdIdeal.main_arg8) = m ((c.tc : Thread Cert.PostBwdIdeal.nD Cert.PostBwdIdeal.τ).loc Cert.PostBwdIdeal.main_arg8))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def quiescent_PostRefIdeal_pre_finite_post [hPostRefIdeal : Cert.PostRefIdeal.Facts] [hPre_finite_post : Cert.Pre_finite_post.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_finite_post m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4)
      ∧ r.2.mem ((c.tc : Thread Cert.LossBwd.nD Cert.LossBwd.τ).loc Cert.LossBwd.main_arg5) = m ((c.tc : Thread Cert.LossBwd.nD Cert.LossBwd.τ).loc Cert.LossBwd.main_arg5)
      ∧ r.2.mem ((c.tc : Thread Cert.LossBwd.nD Cert.LossBwd.τ).loc Cert.LossBwd.main_arg6) = m ((c.tc : Thread Cert.LossBwd.nD Cert.LossBwd.τ).loc Cert.LossBwd.main_arg6)
      ∧ r.2.mem ((c.tc : Thread Cert.LossBwd.nD Cert.LossBwd.τ).loc Cert.LossBwd.main_arg7) = m ((c.tc : Thread Cert.LossBwd.nD Cert.LossBwd.τ).loc Cert.LossBwd.main_arg7))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
      ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5)
      ∧ r.2.mem ((c.tc : Thread Cert.LossBwdIdeal.nD Cert.LossBwdIdeal.τ).loc Cert.LossBwdIdeal.main_arg6) = m ((c.tc : Thread Cert.LossBwdIdeal.nD Cert.LossBwdIdeal.τ).loc Cert.LossBwdIdeal.main_arg6)
      ∧ r.2.mem ((c.tc : Thread Cert.LossBwdIdeal.nD Cert.LossBwdIdeal.τ).loc Cert.LossBwdIdeal.main_arg7) = m ((c.tc : Thread Cert.LossBwdIdeal.nD Cert.LossBwdIdeal.τ).loc Cert.LossBwdIdeal.main_arg7))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def quiescent_SguBwd [hSguBwd : Cert.SguBwd.Facts] : Prop :=
  ∀ (m : (ℓ : Loc Cert.SguBwd.nD Cert.SguBwd.τ Cert.SguBwd.sig) → Buf (Elt Bits) ℓ) (g : Dev Cert.SguBwd.nD → PrngReg), Pre_SguBwd m →
    θ_run (Cert.SguBwd.defs (F := Bits)) (onTc (τ := Cert.SguBwd.τ) (Cert.SguBwd.main (F := Bits))) ⟨m, fun _ => 0, g⟩ (fun r => (∀ c : Dev Cert.SguBwd.nD,
      r.2.mem ((c.tc : Thread Cert.SguBwd.nD Cert.SguBwd.τ).loc Cert.SguBwd.main_arg0) = m ((c.tc : Thread Cert.SguBwd.nD Cert.SguBwd.τ).loc Cert.SguBwd.main_arg0)
      ∧ r.2.mem ((c.tc : Thread Cert.SguBwd.nD Cert.SguBwd.τ).loc Cert.SguBwd.main_arg1) = m ((c.tc : Thread Cert.SguBwd.nD Cert.SguBwd.τ).loc Cert.SguBwd.main_arg1)
      ∧ r.2.mem ((c.tc : Thread Cert.SguBwd.nD Cert.SguBwd.τ).loc Cert.SguBwd.main_arg2) = m ((c.tc : Thread Cert.SguBwd.nD Cert.SguBwd.τ).loc Cert.SguBwd.main_arg2)
      ∧ r.2.mem ((c.tc : Thread Cert.SguBwd.nD Cert.SguBwd.τ).loc Cert.SguBwd.main_arg3) = m ((c.tc : Thread Cert.SguBwd.nD Cert.SguBwd.τ).loc Cert.SguBwd.main_arg3)
      ∧ r.2.mem ((c.tc : Thread Cert.SguBwd.nD Cert.SguBwd.τ).loc Cert.SguBwd.main_arg4) = m ((c.tc : Thread Cert.SguBwd.nD Cert.SguBwd.τ).loc Cert.SguBwd.main_arg4)
      ∧ r.2.mem ((c.tc : Thread Cert.SguBwd.nD Cert.SguBwd.τ).loc Cert.SguBwd.main_arg5) = m ((c.tc : Thread Cert.SguBwd.nD Cert.SguBwd.τ).loc Cert.SguBwd.main_arg5))
      ∧ r.2.sem = fun _ => 0)

def quiescent_SguBwdIdeal [hSguBwdIdeal : Cert.SguBwdIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5)
      ∧ r.2.mem ((c.tc : Thread Cert.ConvBwd.nD Cert.ConvBwd.τ).loc Cert.ConvBwd.main_arg6) = m ((c.tc : Thread Cert.ConvBwd.nD Cert.ConvBwd.τ).loc Cert.ConvBwd.main_arg6)
      ∧ r.2.mem ((c.tc : Thread Cert.ConvBwd.nD Cert.ConvBwd.τ).loc Cert.ConvBwd.main_arg7) = m ((c.tc : Thread Cert.ConvBwd.nD Cert.ConvBwd.τ).loc Cert.ConvBwd.main_arg7))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5)
      ∧ r.2.mem ((c.tc : Thread Cert.ConvBwdIdeal.nD Cert.ConvBwdIdeal.τ).loc Cert.ConvBwdIdeal.main_arg6) = m ((c.tc : Thread Cert.ConvBwdIdeal.nD Cert.ConvBwdIdeal.τ).loc Cert.ConvBwdIdeal.main_arg6)
      ∧ r.2.mem ((c.tc : Thread Cert.ConvBwdIdeal.nD Cert.ConvBwdIdeal.τ).loc Cert.ConvBwdIdeal.main_arg7) = m ((c.tc : Thread Cert.ConvBwdIdeal.nD Cert.ConvBwdIdeal.τ).loc Cert.ConvBwdIdeal.main_arg7))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7))
      ∧ r.2.sem = fun _ => 0)

def preserves_ProjBwd_ProjBwdIdeal : Prop :=
  True

def algebraic_ProjBwdIdeal_ProjRefIdeal_pre_finite_proj [hProjBwdIdeal : Cert.ProjBwdIdeal.Facts] [hProjRefIdeal : Cert.ProjRefIdeal.Facts] [hPre_finite_proj : Cert.Pre_finite_proj.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjBwdIdeal_finite_proj m →
    (∀ c : Dev Cert.ProjBwdIdeal.nD,
      m' ((c.tc : Thread Cert.ProjRefIdeal.nD Cert.ProjRefIdeal.τ).loc Cert.ProjRefIdeal.main_arg0) = m ((c.tc : Thread Cert.ProjBwdIdeal.nD Cert.ProjBwdIdeal.τ).loc Cert.ProjBwdIdeal.main_arg0)
      ∧ m' ((c.tc : Thread Cert.ProjRefIdeal.nD Cert.ProjRefIdeal.τ).loc Cert.ProjRefIdeal.main_arg1) = m ((c.tc : Thread Cert.ProjBwdIdeal.nD Cert.ProjBwdIdeal.τ).loc Cert.ProjBwdIdeal.main_arg1)
      ∧ m' ((c.tc : Thread Cert.ProjRefIdeal.nD Cert.ProjRefIdeal.τ).loc Cert.ProjRefIdeal.main_arg2) = m ((c.tc : Thread Cert.ProjBwdIdeal.nD Cert.ProjBwdIdeal.τ).loc Cert.ProjBwdIdeal.main_arg2)
      ∧ m' ((c.tc : Thread Cert.ProjRefIdeal.nD Cert.ProjRefIdeal.τ).loc Cert.ProjRefIdeal.main_arg3) = m ((c.tc : Thread Cert.ProjBwdIdeal.nD Cert.ProjBwdIdeal.τ).loc Cert.ProjBwdIdeal.main_arg3)
      ∧ m' ((c.tc : Thread Cert.ProjRefIdeal.nD Cert.ProjRefIdeal.τ).loc Cert.ProjRefIdeal.main_arg4) = m ((c.tc : Thread Cert.ProjBwdIdeal.nD Cert.ProjBwdIdeal.τ).loc Cert.ProjBwdIdeal.main_arg4)) →
    ∃ (v0 : (c : Dev Cert.ProjBwdIdeal.nD) → Buf (Elt Ideal) ((c.tc : Thread Cert.ProjBwdIdeal.nD Cert.ProjBwdIdeal.τ).loc Cert.ProjBwdIdeal.main_v22_0)) (v1 : (c : Dev Cert.ProjBwdIdeal.nD) → Buf (Elt Ideal) ((c.tc : Thread Cert.ProjBwdIdeal.nD Cert.ProjBwdIdeal.τ).loc Cert.ProjBwdIdeal.main_v22_1)) (v2 : (c : Dev Cert.ProjBwdIdeal.nD) → Buf (Elt Ideal) ((c.tc : Thread Cert.ProjBwdIdeal.nD Cert.ProjBwdIdeal.τ).loc Cert.ProjBwdIdeal.main_v22_2)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v22_0) = v0 c
          ∧ r.2.mem ((c.tc : Thread Cert.ProjBwdIdeal.nD Cert.ProjBwdIdeal.τ).loc Cert.ProjBwdIdeal.main_v22_1) = v1 c
          ∧ r.2.mem ((c.tc : Thread Cert.ProjBwdIdeal.nD Cert.ProjBwdIdeal.τ).loc Cert.ProjBwdIdeal.main_v22_2) = v2 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v40) = v0 c
          ∧ r.2.mem ((c.tc : Thread Cert.ProjRefIdeal.nD Cert.ProjRefIdeal.τ).loc Cert.ProjRefIdeal.main_v55) = v1 c
          ∧ r.2.mem ((c.tc : Thread Cert.ProjRefIdeal.nD Cert.ProjRefIdeal.τ).loc Cert.ProjRefIdeal.main_v56) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_PostBwd_PostBwdIdeal : Prop :=
  True

def algebraic_PostBwdIdeal_PostRefIdeal_pre_finite_post [hPostBwdIdeal : Cert.PostBwdIdeal.Facts] [hPostRefIdeal : Cert.PostRefIdeal.Facts] [hPre_finite_post : Cert.Pre_finite_post.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostBwdIdeal_finite_post m →
    (∀ c : Dev Cert.PostBwdIdeal.nD,
      m' ((c.tc : Thread Cert.PostRefIdeal.nD Cert.PostRefIdeal.τ).loc Cert.PostRefIdeal.main_arg0) = m ((c.tc : Thread Cert.PostBwdIdeal.nD Cert.PostBwdIdeal.τ).loc Cert.PostBwdIdeal.main_arg0)
      ∧ m' ((c.tc : Thread Cert.PostRefIdeal.nD Cert.PostRefIdeal.τ).loc Cert.PostRefIdeal.main_arg1) = m ((c.tc : Thread Cert.PostBwdIdeal.nD Cert.PostBwdIdeal.τ).loc Cert.PostBwdIdeal.main_arg1)
      ∧ m' ((c.tc : Thread Cert.PostRefIdeal.nD Cert.PostRefIdeal.τ).loc Cert.PostRefIdeal.main_arg2) = m ((c.tc : Thread Cert.PostBwdIdeal.nD Cert.PostBwdIdeal.τ).loc Cert.PostBwdIdeal.main_arg2)
      ∧ m' ((c.tc : Thread Cert.PostRefIdeal.nD Cert.PostRefIdeal.τ).loc Cert.PostRefIdeal.main_arg3) = m ((c.tc : Thread Cert.PostBwdIdeal.nD Cert.PostBwdIdeal.τ).loc Cert.PostBwdIdeal.main_arg3)
      ∧ m' ((c.tc : Thread Cert.PostRefIdeal.nD Cert.PostRefIdeal.τ).loc Cert.PostRefIdeal.main_arg4) = m ((c.tc : Thread Cert.PostBwdIdeal.nD Cert.PostBwdIdeal.τ).loc Cert.PostBwdIdeal.main_arg4)
      ∧ m' ((c.tc : Thread Cert.PostRefIdeal.nD Cert.PostRefIdeal.τ).loc Cert.PostRefIdeal.main_arg5) = m ((c.tc : Thread Cert.PostBwdIdeal.nD Cert.PostBwdIdeal.τ).loc Cert.PostBwdIdeal.main_arg5)
      ∧ m' ((c.tc : Thread Cert.PostRefIdeal.nD Cert.PostRefIdeal.τ).loc Cert.PostRefIdeal.main_arg6) = m ((c.tc : Thread Cert.PostBwdIdeal.nD Cert.PostBwdIdeal.τ).loc Cert.PostBwdIdeal.main_arg6)
      ∧ m' ((c.tc : Thread Cert.PostRefIdeal.nD Cert.PostRefIdeal.τ).loc Cert.PostRefIdeal.main_arg7) = m ((c.tc : Thread Cert.PostBwdIdeal.nD Cert.PostBwdIdeal.τ).loc Cert.PostBwdIdeal.main_arg7)
      ∧ m' ((c.tc : Thread Cert.PostRefIdeal.nD Cert.PostRefIdeal.τ).loc Cert.PostRefIdeal.main_arg8) = m ((c.tc : Thread Cert.PostBwdIdeal.nD Cert.PostBwdIdeal.τ).loc Cert.PostBwdIdeal.main_arg8)) →
    ∃ (v0 : (c : Dev Cert.PostBwdIdeal.nD) → Buf (Elt Ideal) ((c.tc : Thread Cert.PostBwdIdeal.nD Cert.PostBwdIdeal.τ).loc Cert.PostBwdIdeal.main_v33_0)) (v1 : (c : Dev Cert.PostBwdIdeal.nD) → Buf (Elt Ideal) ((c.tc : Thread Cert.PostBwdIdeal.nD Cert.PostBwdIdeal.τ).loc Cert.PostBwdIdeal.main_v33_1)) (v2 : (c : Dev Cert.PostBwdIdeal.nD) → Buf (Elt Ideal) ((c.tc : Thread Cert.PostBwdIdeal.nD Cert.PostBwdIdeal.τ).loc Cert.PostBwdIdeal.main_v33_2)) (v3 : (c : Dev Cert.PostBwdIdeal.nD) → Buf (Elt Ideal) ((c.tc : Thread Cert.PostBwdIdeal.nD Cert.PostBwdIdeal.τ).loc Cert.PostBwdIdeal.main_v33_3)) (v4 : (c : Dev Cert.PostBwdIdeal.nD) → Buf (Elt Ideal) ((c.tc : Thread Cert.PostBwdIdeal.nD Cert.PostBwdIdeal.τ).loc Cert.PostBwdIdeal.main_v33_4)) (v5 : (c : Dev Cert.PostBwdIdeal.nD) → Buf (Elt Ideal) ((c.tc : Thread Cert.PostBwdIdeal.nD Cert.PostBwdIdeal.τ).loc Cert.PostBwdIdeal.main_v33_5)) (v6 : (c : Dev Cert.PostBwdIdeal.nD) → Buf (Elt Ideal) ((c.tc : Thread Cert.PostBwdIdeal.nD Cert.PostBwdIdeal.τ).loc Cert.PostBwdIdeal.main_v33_6)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v33_0) = v0 c
          ∧ r.2.mem ((c.tc : Thread Cert.PostBwdIdeal.nD Cert.PostBwdIdeal.τ).loc Cert.PostBwdIdeal.main_v33_1) = v1 c
          ∧ r.2.mem ((c.tc : Thread Cert.PostBwdIdeal.nD Cert.PostBwdIdeal.τ).loc Cert.PostBwdIdeal.main_v33_2) = v2 c
          ∧ r.2.mem ((c.tc : Thread Cert.PostBwdIdeal.nD Cert.PostBwdIdeal.τ).loc Cert.PostBwdIdeal.main_v33_3) = v3 c
          ∧ r.2.mem ((c.tc : Thread Cert.PostBwdIdeal.nD Cert.PostBwdIdeal.τ).loc Cert.PostBwdIdeal.main_v33_4) = v4 c
          ∧ r.2.mem ((c.tc : Thread Cert.PostBwdIdeal.nD Cert.PostBwdIdeal.τ).loc Cert.PostBwdIdeal.main_v33_5) = v5 c
          ∧ r.2.mem ((c.tc : Thread Cert.PostBwdIdeal.nD Cert.PostBwdIdeal.τ).loc Cert.PostBwdIdeal.main_v33_6) = v6 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
          ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
          ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
          ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
          ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6)
          ∧ r.2.mem ((c.tc : Thread Cert.PostBwdIdeal.nD Cert.PostBwdIdeal.τ).loc Cert.PostBwdIdeal.main_arg7) = m ((c.tc : Thread Cert.PostBwdIdeal.nD Cert.PostBwdIdeal.τ).loc Cert.PostBwdIdeal.main_arg7)
          ∧ r.2.mem ((c.tc : Thread Cert.PostBwdIdeal.nD Cert.PostBwdIdeal.τ).loc Cert.PostBwdIdeal.main_arg8) = m ((c.tc : Thread Cert.PostBwdIdeal.nD Cert.PostBwdIdeal.τ).loc Cert.PostBwdIdeal.main_arg8))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v124) = v0 c
          ∧ r.2.mem ((c.tc : Thread Cert.PostRefIdeal.nD Cert.PostRefIdeal.τ).loc Cert.PostRefIdeal.main_v81) = v1 c
          ∧ r.2.mem ((c.tc : Thread Cert.PostRefIdeal.nD Cert.PostRefIdeal.τ).loc Cert.PostRefIdeal.main_v162) = v2 c
          ∧ r.2.mem ((c.tc : Thread Cert.PostRefIdeal.nD Cert.PostRefIdeal.τ).loc Cert.PostRefIdeal.main_v163) = v3 c
          ∧ r.2.mem ((c.tc : Thread Cert.PostRefIdeal.nD Cert.PostRefIdeal.τ).loc Cert.PostRefIdeal.main_v164) = v4 c
          ∧ r.2.mem ((c.tc : Thread Cert.PostRefIdeal.nD Cert.PostRefIdeal.τ).loc Cert.PostRefIdeal.main_v57) = v5 c
          ∧ r.2.mem ((c.tc : Thread Cert.PostRefIdeal.nD Cert.PostRefIdeal.τ).loc Cert.PostRefIdeal.main_v165) = v6 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8))

def preserves_LossBwd_LossBwdIdeal : Prop :=
  True

def algebraic_LossBwdIdeal_LossRefIdeal [hLossBwdIdeal : Cert.LossBwdIdeal.Facts] [hLossRefIdeal : Cert.LossRefIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossBwdIdeal m →
    (∀ c : Dev Cert.LossBwdIdeal.nD,
      m' ((c.tc : Thread Cert.LossRefIdeal.nD Cert.LossRefIdeal.τ).loc Cert.LossRefIdeal.main_arg0) = m ((c.tc : Thread Cert.LossBwdIdeal.nD Cert.LossBwdIdeal.τ).loc Cert.LossBwdIdeal.main_arg0)
      ∧ m' ((c.tc : Thread Cert.LossRefIdeal.nD Cert.LossRefIdeal.τ).loc Cert.LossRefIdeal.main_arg1) = m ((c.tc : Thread Cert.LossBwdIdeal.nD Cert.LossBwdIdeal.τ).loc Cert.LossBwdIdeal.main_arg1)
      ∧ m' ((c.tc : Thread Cert.LossRefIdeal.nD Cert.LossRefIdeal.τ).loc Cert.LossRefIdeal.main_arg2) = m ((c.tc : Thread Cert.LossBwdIdeal.nD Cert.LossBwdIdeal.τ).loc Cert.LossBwdIdeal.main_arg2)
      ∧ m' ((c.tc : Thread Cert.LossRefIdeal.nD Cert.LossRefIdeal.τ).loc Cert.LossRefIdeal.main_arg3) = m ((c.tc : Thread Cert.LossBwdIdeal.nD Cert.LossBwdIdeal.τ).loc Cert.LossBwdIdeal.main_arg3)
      ∧ m' ((c.tc : Thread Cert.LossRefIdeal.nD Cert.LossRefIdeal.τ).loc Cert.LossRefIdeal.main_arg4) = m ((c.tc : Thread Cert.LossBwdIdeal.nD Cert.LossBwdIdeal.τ).loc Cert.LossBwdIdeal.main_arg4)
      ∧ m' ((c.tc : Thread Cert.LossRefIdeal.nD Cert.LossRefIdeal.τ).loc Cert.LossRefIdeal.main_arg5) = m ((c.tc : Thread Cert.LossBwdIdeal.nD Cert.LossBwdIdeal.τ).loc Cert.LossBwdIdeal.main_arg5)
      ∧ m' ((c.tc : Thread Cert.LossRefIdeal.nD Cert.LossRefIdeal.τ).loc Cert.LossRefIdeal.main_arg6) = m ((c.tc : Thread Cert.LossBwdIdeal.nD Cert.LossBwdIdeal.τ).loc Cert.LossBwdIdeal.main_arg6)
      ∧ m' ((c.tc : Thread Cert.LossRefIdeal.nD Cert.LossRefIdeal.τ).loc Cert.LossRefIdeal.main_arg7) = m ((c.tc : Thread Cert.LossBwdIdeal.nD Cert.LossBwdIdeal.τ).loc Cert.LossBwdIdeal.main_arg7)) →
    ∃ (v0 : (c : Dev Cert.LossBwdIdeal.nD) → Buf (Elt Ideal) ((c.tc : Thread Cert.LossBwdIdeal.nD Cert.LossBwdIdeal.τ).loc Cert.LossBwdIdeal.main_v9_0)) (v1 : (c : Dev Cert.LossBwdIdeal.nD) → Buf (Elt Ideal) ((c.tc : Thread Cert.LossBwdIdeal.nD Cert.LossBwdIdeal.τ).loc Cert.LossBwdIdeal.main_v9_1)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v9_0) = v0 c
          ∧ r.2.mem ((c.tc : Thread Cert.LossBwdIdeal.nD Cert.LossBwdIdeal.τ).loc Cert.LossBwdIdeal.main_v9_1) = v1 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
          ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5)
          ∧ r.2.mem ((c.tc : Thread Cert.LossBwdIdeal.nD Cert.LossBwdIdeal.τ).loc Cert.LossBwdIdeal.main_arg6) = m ((c.tc : Thread Cert.LossBwdIdeal.nD Cert.LossBwdIdeal.τ).loc Cert.LossBwdIdeal.main_arg6)
          ∧ r.2.mem ((c.tc : Thread Cert.LossBwdIdeal.nD Cert.LossBwdIdeal.τ).loc Cert.LossBwdIdeal.main_arg7) = m ((c.tc : Thread Cert.LossBwdIdeal.nD Cert.LossBwdIdeal.τ).loc Cert.LossBwdIdeal.main_arg7))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v62) = v0 c
          ∧ r.2.mem ((c.tc : Thread Cert.LossRefIdeal.nD Cert.LossRefIdeal.τ).loc Cert.LossRefIdeal.main_v63) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7))

def preserves_SguBwd_SguBwdIdeal : Prop :=
  True

def algebraic_SguBwdIdeal_SguRefIdeal [hSguBwdIdeal : Cert.SguBwdIdeal.Facts] [hSguRefIdeal : Cert.SguRefIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguBwdIdeal m →
    (∀ c : Dev Cert.SguBwdIdeal.nD,
      m' ((c.tc : Thread Cert.SguRefIdeal.nD Cert.SguRefIdeal.τ).loc Cert.SguRefIdeal.main_arg0) = m ((c.tc : Thread Cert.SguBwdIdeal.nD Cert.SguBwdIdeal.τ).loc Cert.SguBwdIdeal.main_arg0)
      ∧ m' ((c.tc : Thread Cert.SguRefIdeal.nD Cert.SguRefIdeal.τ).loc Cert.SguRefIdeal.main_arg1) = m ((c.tc : Thread Cert.SguBwdIdeal.nD Cert.SguBwdIdeal.τ).loc Cert.SguBwdIdeal.main_arg1)
      ∧ m' ((c.tc : Thread Cert.SguRefIdeal.nD Cert.SguRefIdeal.τ).loc Cert.SguRefIdeal.main_arg2) = m ((c.tc : Thread Cert.SguBwdIdeal.nD Cert.SguBwdIdeal.τ).loc Cert.SguBwdIdeal.main_arg2)
      ∧ m' ((c.tc : Thread Cert.SguRefIdeal.nD Cert.SguRefIdeal.τ).loc Cert.SguRefIdeal.main_arg3) = m ((c.tc : Thread Cert.SguBwdIdeal.nD Cert.SguBwdIdeal.τ).loc Cert.SguBwdIdeal.main_arg3)
      ∧ m' ((c.tc : Thread Cert.SguRefIdeal.nD Cert.SguRefIdeal.τ).loc Cert.SguRefIdeal.main_arg4) = m ((c.tc : Thread Cert.SguBwdIdeal.nD Cert.SguBwdIdeal.τ).loc Cert.SguBwdIdeal.main_arg4)
      ∧ m' ((c.tc : Thread Cert.SguRefIdeal.nD Cert.SguRefIdeal.τ).loc Cert.SguRefIdeal.main_arg5) = m ((c.tc : Thread Cert.SguBwdIdeal.nD Cert.SguBwdIdeal.τ).loc Cert.SguBwdIdeal.main_arg5)) →
    ∃ (v0 : (c : Dev Cert.SguBwdIdeal.nD) → Buf (Elt Ideal) ((c.tc : Thread Cert.SguBwdIdeal.nD Cert.SguBwdIdeal.τ).loc Cert.SguBwdIdeal.main_v19_2)) (v1 : (c : Dev Cert.SguBwdIdeal.nD) → Buf (Elt Ideal) ((c.tc : Thread Cert.SguBwdIdeal.nD Cert.SguBwdIdeal.τ).loc Cert.SguBwdIdeal.main_v19_3)),
      θ_run (Cert.SguBwdIdeal.defs (F := Ideal)) (onTc (τ := Cert.SguBwdIdeal.τ) (Cert.SguBwdIdeal.main (F := Ideal))) ⟨m, fun _ => 0, g⟩ (fun r => ∀ c : Dev Cert.SguBwdIdeal.nD,
          r.2.mem ((c.tc : Thread Cert.SguBwdIdeal.nD Cert.SguBwdIdeal.τ).loc Cert.SguBwdIdeal.main_v19_2) = v0 c
          ∧ r.2.mem ((c.tc : Thread Cert.SguBwdIdeal.nD Cert.SguBwdIdeal.τ).loc Cert.SguBwdIdeal.main_v19_3) = v1 c
          ∧ r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
          ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
          ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
          ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
          ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
          ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v88) = v0 c
          ∧ r.2.mem ((c.tc : Thread Cert.SguRefIdeal.nD Cert.SguRefIdeal.τ).loc Cert.SguRefIdeal.main_v92) = v1 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5))

def preserves_AttnBwd_AttnBwdIdeal : Prop :=
  True

def algebraic_AttnBwdIdeal_AttnRefIdeal_pre_finite_attn [hAttnBwdIdeal : Cert.AttnBwdIdeal.Facts] [hAttnRefIdeal : Cert.AttnRefIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_finite_attn m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v50_0)) (v1 : (c : Dev Cert.AttnBwdIdeal.nD) → Buf (Elt Ideal) ((c.tc : Thread Cert.AttnBwdIdeal.nD Cert.AttnBwdIdeal.τ).loc Cert.AttnBwdIdeal.main_v50_1)) (v2 : (c : Dev Cert.AttnBwdIdeal.nD) → Buf (Elt Ideal) ((c.tc : Thread Cert.AttnBwdIdeal.nD Cert.AttnBwdIdeal.τ).loc Cert.AttnBwdIdeal.main_v50_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v50_0) = v0 c
          ∧ r.2.mem ((c.tc : Thread Cert.AttnBwdIdeal.nD Cert.AttnBwdIdeal.τ).loc Cert.AttnBwdIdeal.main_v50_1) = v1 c
          ∧ r.2.mem ((c.tc : Thread Cert.AttnBwdIdeal.nD Cert.AttnBwdIdeal.τ).loc Cert.AttnBwdIdeal.main_v50_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v63) = v0 c
          ∧ r.2.mem ((c.tc : Thread Cert.AttnRefIdeal.nD Cert.AttnRefIdeal.τ).loc Cert.AttnRefIdeal.main_v65) = v1 c
          ∧ r.2.mem ((c.tc : Thread Cert.AttnRefIdeal.nD Cert.AttnRefIdeal.τ).loc Cert.AttnRefIdeal.main_v66) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_ConvBwd_ConvBwdIdeal : Prop :=
  True

def algebraic_ConvBwdIdeal_ConvRefIdeal [hConvBwdIdeal : Cert.ConvBwdIdeal.Facts] [hConvRefIdeal : Cert.ConvRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)
      ∧ m' ((c.tc : Thread Cert.ConvRefIdeal.nD Cert.ConvRefIdeal.τ).loc Cert.ConvRefIdeal.main_arg3) = m ((c.tc : Thread Cert.ConvBwdIdeal.nD Cert.ConvBwdIdeal.τ).loc Cert.ConvBwdIdeal.main_arg3)
      ∧ m' ((c.tc : Thread Cert.ConvRefIdeal.nD Cert.ConvRefIdeal.τ).loc Cert.ConvRefIdeal.main_arg4) = m ((c.tc : Thread Cert.ConvBwdIdeal.nD Cert.ConvBwdIdeal.τ).loc Cert.ConvBwdIdeal.main_arg4)
      ∧ m' ((c.tc : Thread Cert.ConvRefIdeal.nD Cert.ConvRefIdeal.τ).loc Cert.ConvRefIdeal.main_arg5) = m ((c.tc : Thread Cert.ConvBwdIdeal.nD Cert.ConvBwdIdeal.τ).loc Cert.ConvBwdIdeal.main_arg5)
      ∧ m' ((c.tc : Thread Cert.ConvRefIdeal.nD Cert.ConvRefIdeal.τ).loc Cert.ConvRefIdeal.main_arg6) = m ((c.tc : Thread Cert.ConvBwdIdeal.nD Cert.ConvBwdIdeal.τ).loc Cert.ConvBwdIdeal.main_arg6)
      ∧ m' ((c.tc : Thread Cert.ConvRefIdeal.nD Cert.ConvRefIdeal.τ).loc Cert.ConvRefIdeal.main_arg7) = m ((c.tc : Thread Cert.ConvBwdIdeal.nD Cert.ConvBwdIdeal.τ).loc Cert.ConvBwdIdeal.main_arg7)) →
    ∃ (v0 : (c : Dev Cert.ConvBwdIdeal.nD) → Buf (Elt Ideal) ((c.tc : Thread Cert.ConvBwdIdeal.nD Cert.ConvBwdIdeal.τ).loc Cert.ConvBwdIdeal.main_v244_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v244_2) = v0 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
          ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5)
          ∧ r.2.mem ((c.tc : Thread Cert.ConvBwdIdeal.nD Cert.ConvBwdIdeal.τ).loc Cert.ConvBwdIdeal.main_arg6) = m ((c.tc : Thread Cert.ConvBwdIdeal.nD Cert.ConvBwdIdeal.τ).loc Cert.ConvBwdIdeal.main_arg6)
          ∧ r.2.mem ((c.tc : Thread Cert.ConvBwdIdeal.nD Cert.ConvBwdIdeal.τ).loc Cert.ConvBwdIdeal.main_arg7) = m ((c.tc : Thread Cert.ConvBwdIdeal.nD Cert.ConvBwdIdeal.τ).loc Cert.ConvBwdIdeal.main_arg7))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v266) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7))

def Claim : Prop :=
  ∃ (hProjBwd : Cert.ProjBwd.Facts) (hProjBwdIdeal : Cert.ProjBwdIdeal.Facts) (hProjRefIdeal : Cert.ProjRefIdeal.Facts) (hPostBwd : Cert.PostBwd.Facts) (hPostBwdIdeal : Cert.PostBwdIdeal.Facts) (hPostRefIdeal : Cert.PostRefIdeal.Facts) (hLossBwd : Cert.LossBwd.Facts) (hLossBwdIdeal : Cert.LossBwdIdeal.Facts) (hLossRefIdeal : Cert.LossRefIdeal.Facts) (hSguBwd : Cert.SguBwd.Facts) (hSguBwdIdeal : Cert.SguBwdIdeal.Facts) (hSguRefIdeal : Cert.SguRefIdeal.Facts) (hAttnBwd : Cert.AttnBwd.Facts) (hAttnBwdIdeal : Cert.AttnBwdIdeal.Facts) (hAttnRefIdeal : Cert.AttnRefIdeal.Facts) (hConvBwd : Cert.ConvBwd.Facts) (hConvBwdIdeal : Cert.ConvBwdIdeal.Facts) (hConvRefIdeal : Cert.ConvRefIdeal.Facts) (hPre_finite_proj : Cert.Pre_finite_proj.Facts) (hPre_finite_post : Cert.Pre_finite_post.Facts) (hPre_finite_attn : Cert.Pre_finite_attn.Facts),
    quiescent_ProjBwd (hProjBwd := hProjBwd)
    ∧ quiescent_ProjBwdIdeal (hProjBwdIdeal := hProjBwdIdeal)
    ∧ quiescent_ProjBwdIdeal_pre_finite_proj (hProjBwdIdeal := hProjBwdIdeal) (hPre_finite_proj := hPre_finite_proj)
    ∧ quiescent_ProjRefIdeal (hProjRefIdeal := hProjRefIdeal)
    ∧ quiescent_ProjRefIdeal_pre_finite_proj (hProjRefIdeal := hProjRefIdeal) (hPre_finite_proj := hPre_finite_proj)
    ∧ quiescent_PostBwd (hPostBwd := hPostBwd)
    ∧ quiescent_PostBwdIdeal (hPostBwdIdeal := hPostBwdIdeal)
    ∧ quiescent_PostBwdIdeal_pre_finite_post (hPostBwdIdeal := hPostBwdIdeal) (hPre_finite_post := hPre_finite_post)
    ∧ quiescent_PostRefIdeal (hPostRefIdeal := hPostRefIdeal)
    ∧ quiescent_PostRefIdeal_pre_finite_post (hPostRefIdeal := hPostRefIdeal) (hPre_finite_post := hPre_finite_post)
    ∧ quiescent_LossBwd (hLossBwd := hLossBwd)
    ∧ quiescent_LossBwdIdeal (hLossBwdIdeal := hLossBwdIdeal)
    ∧ quiescent_LossRefIdeal (hLossRefIdeal := hLossRefIdeal)
    ∧ quiescent_SguBwd (hSguBwd := hSguBwd)
    ∧ quiescent_SguBwdIdeal (hSguBwdIdeal := hSguBwdIdeal)
    ∧ quiescent_SguRefIdeal (hSguRefIdeal := hSguRefIdeal)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_ConvBwd (hConvBwd := hConvBwd)
    ∧ quiescent_ConvBwdIdeal (hConvBwdIdeal := hConvBwdIdeal)
    ∧ quiescent_ConvRefIdeal (hConvRefIdeal := hConvRefIdeal)
    ∧ preserves_ProjBwd_ProjBwdIdeal
    ∧ algebraic_ProjBwdIdeal_ProjRefIdeal_pre_finite_proj (hProjBwdIdeal := hProjBwdIdeal) (hProjRefIdeal := hProjRefIdeal) (hPre_finite_proj := hPre_finite_proj)
    ∧ preserves_PostBwd_PostBwdIdeal
    ∧ algebraic_PostBwdIdeal_PostRefIdeal_pre_finite_post (hPostBwdIdeal := hPostBwdIdeal) (hPostRefIdeal := hPostRefIdeal) (hPre_finite_post := hPre_finite_post)
    ∧ preserves_LossBwd_LossBwdIdeal
    ∧ algebraic_LossBwdIdeal_LossRefIdeal (hLossBwdIdeal := hLossBwdIdeal) (hLossRefIdeal := hLossRefIdeal)
    ∧ preserves_SguBwd_SguBwdIdeal
    ∧ algebraic_SguBwdIdeal_SguRefIdeal (hSguBwdIdeal := hSguBwdIdeal) (hSguRefIdeal := hSguRefIdeal)
    ∧ preserves_AttnBwd_AttnBwdIdeal
    ∧ algebraic_AttnBwdIdeal_AttnRefIdeal_pre_finite_attn (hAttnBwdIdeal := hAttnBwdIdeal) (hAttnRefIdeal := hAttnRefIdeal) (hPre_finite_attn := hPre_finite_attn)
    ∧ preserves_ConvBwd_ConvBwdIdeal
    ∧ algebraic_ConvBwdIdeal_ConvRefIdeal (hConvBwdIdeal := hConvBwdIdeal) (hConvRefIdeal := hConvRefIdeal)
-- ==== Pre_finite_attn.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  bcast_S_S8192x8x64 : S_.BroadcastsInDim S8192x8x64 (![] : Fin 0 → Fin S8192x8x64.rank)

variable [Facts]

def fn {F : FTy → Type} [FloatOps F] (main_arg0 : FVec F S8192x8x96 .f32) (main_arg1 : FVec F S8192x8x96 .f32) (main_arg2 : FVec F S8192x8x64 .f32) (main_arg3 : FVec F S8192x8x64 .f32) : IVec S8192x8x96 1 × IVec S8192x8x96 1 × IVec S8192x8x64 1 × IVec S8192x8x64 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_v3 : FVec F S8192x8x96 .f32 := Host.absf main_arg1
  let main_cst_0 : FVec F S_ .f32 := constant S_ .f32 0x7F800000#32
  let main_v4 : FVec F S8192x8x96 .f32 := broadcastInDim S8192x8x96 ![] bcast_S_S8192x8x96 main_cst_0
  let main_v5 : IVec S8192x8x96 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S8192x8x64 .f32 := Host.absf main_arg3
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  (main_v2, main_v5, main_v8, main_v11)
-- ==== Pre_finite_post.lean ====
abbrev S8192x256 : Shape := ⟨2, ![8192, 256]⟩
abbrev S8192x512 : Shape := ⟨2, ![8192, 512]⟩
abbrev S8192x3104 : Shape := ⟨2, ![8192, 3104]⟩
abbrev S1024 : Shape := ⟨1, ![1024]⟩
abbrev S1024x1024 : Shape := ⟨2, ![1024, 1024]⟩
abbrev S8192x8x96 : Shape := ⟨3, ![8192, 8, 96]⟩
abbrev S8192x1024 : Shape := ⟨2, ![8192, 1024]⟩
abbrev S_ : Shape := ⟨0, ![]⟩

class Facts : Prop where
  bcast_S_S8192x256 : S_.BroadcastsInDim S8192x256 (![] : Fin 0 → Fin S8192x256.rank)
  bcast_S_S8192x512 : S_.BroadcastsInDim S8192x512 (![] : Fin 0 → Fin S8192x512.rank)
  bcast_S_S8192x3104 : S_.BroadcastsInDim S8192x3104 (![] : Fin 0 → Fin S8192x3104.rank)
  bcast_S_S1024 : S_.BroadcastsInDim S1024 (![] : Fin 0 → Fin S1024.rank)
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn_part1 {F : FTy → Type} [FloatOps F] (main_arg8 : FVec F S8192x1024 .f32) (main_v2 : IVec S8192x256 1) (main_v5 : IVec S8192x512 1) (main_v8 : IVec S8192x256 1) (main_v11 : IVec S8192x3104 1) (main_v14 : IVec S1024 1) (main_v17 : IVec S1024x1024 1) : IVec S8192x256 1 × IVec S8192x512 1 × IVec S8192x256 1 × IVec S8192x3104 1 × IVec S1024 1 × IVec S1024x1024 1 × IVec S8192x1024 1 :=
  let main_v18 : FVec F S8192x1024 .f32 := Host.absf main_arg8
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x256 .f32) (main_arg1 : FVec F S8192x512 .f32) (main_arg2 : FVec F S8192x256 .f32) (main_arg3 : FVec F S8192x3104 .f32) (main_arg4 : FVec F S1024 .f32) (main_arg5 : FVec F S1024x1024 .f32) (main_arg6 : FVec F S8192x8x96 .f32) (main_arg7 : FVec F S8192x8x96 .f32) (main_arg8 : FVec F S8192x1024 .f32) : IVec S8192x256 1 × IVec S8192x512 1 × IVec S8192x256 1 × IVec S8192x3104 1 × IVec S1024 1 × IVec S1024x1024 1 × IVec S8192x1024 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S8192x3104 .f32 := Host.absf main_arg3
  let main_cst_2 : FVec F S_ .f32 := constant S_ .f32 0x7F800000#32
  let main_v10 : FVec F S8192x3104 .f32 := broadcastInDim S8192x3104 ![] bcast_S_S8192x3104 main_cst_2
  let main_v11 : IVec S8192x3104 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg8 main_v2 main_v5 main_v8 main_v11 main_v14 main_v17
-- ==== Pre_finite_proj.lean ====
abbrev S8192x1024 : Shape := ⟨2, ![8192, 1024]⟩
abbrev S1024 : Shape := ⟨1, ![1024]⟩
abbrev S1024x3104 : Shape := ⟨2, ![1024, 3104]⟩
abbrev S8192x3104 : Shape := ⟨2, ![8192, 3104]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x3104 : S_.BroadcastsInDim S1024x3104 (![] : Fin 0 → Fin S1024x3104.rank)
  bcast_S_S8192x3104 : S_.BroadcastsInDim S8192x3104 (![] : Fin 0 → Fin S8192x3104.rank)

variable [Facts]

def fn {F : FTy → Type} [FloatOps F] (main_arg0 : FVec F S8192x1024 .f32) (main_arg1 : FVec F S1024 .f32) (main_arg2 : FVec F S1024x3104 .f32) (main_arg3 : FVec F S8192x1024 .f32) (main_arg4 : FVec F S8192x3104 .f32) : IVec S8192x1024 1 × IVec S1024 1 × IVec S1024x3104 1 × IVec S8192x3104 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3104 .f32 := Host.absf main_arg2
  let main_cst_1 : FVec F S_ .f32 := constant S_ .f32 0x7F800000#32
  let main_v7 : FVec F S1024x3104 .f32 := broadcastInDim S1024x3104 ![] bcast_S_S1024x3104 main_cst_1
  let main_v8 : IVec S1024x3104 1 := cmpf .olt main_v6 main_v7
  let main_v9 : FVec F S8192x3104 .f32 := Host.absf main_arg4
  let main_cst_2 : FVec F S_ .f32 := constant S_ .f32 0x7F800000#32
  let main_v10 : FVec F S8192x3104 .f32 := broadcastInDim S8192x3104 ![] bcast_S_S8192x3104 main_cst_2
  let main_v11 : IVec S8192x3104 1 := cmpf .olt main_v9 main_v10
  (main_v2, main_v5, main_v8, main_v11)
-- ==== ProjBwd.lean ====
abbrev S8192x1024 : Shape := ⟨2, ![8192, 1024]⟩
abbrev S1024 : Shape := ⟨1, ![1024]⟩
abbrev S1024x3104 : Shape := ⟨2, ![1024, 3104]⟩
abbrev S8192x3104 : Shape := ⟨2, ![8192, 3104]⟩
abbrev S1024x1536 : Shape := ⟨2, ![1024, 1536]⟩
abbrev S1024x512 : Shape := ⟨2, ![1024, 512]⟩
abbrev S1024x256 : Shape := ⟨2, ![1024, 256]⟩
abbrev S1024x768 : Shape := ⟨2, ![1024, 768]⟩
abbrev S1024x32 : Shape := ⟨2, ![1024, 32]⟩
abbrev S_ : Shape := ⟨0, ![]⟩
abbrev S1024x96 : Shape := ⟨2, ![1024, 96]⟩
abbrev S1024x3200 : Shape := ⟨2, ![1024, 3200]⟩
abbrev S8192x768 : Shape := ⟨2, ![8192, 768]⟩
abbrev S8192x512 : Shape := ⟨2, ![8192, 512]⟩
abbrev S8192x256 : Shape := ⟨2, ![8192, 256]⟩
abbrev S8192x32 : Shape := ⟨2, ![8192, 32]⟩
abbrev S8192x128 : Shape := ⟨2, ![8192, 128]⟩
abbrev S1x1024 : Shape := ⟨2, ![1, 1024]⟩
abbrev S1024x8192 : Shape := ⟨2, ![1024, 8192]⟩
abbrev S512x1024 : Shape := ⟨2, ![512, 1024]⟩
abbrev S512x768 : Shape := ⟨2, ![512, 768]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1024x128 : Shape := ⟨2, ![1024, 128]⟩

abbrev nBuf : Space → Nat
  | .hbm => 33
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3104, .f32⟩
  | .hbm, ⟨3, _⟩ => ⟨S8192x1024, .f32⟩
  | .hbm, ⟨4, _⟩ => ⟨S8192x3104, .f32⟩
  | .hbm, ⟨5, _⟩ => ⟨S1024x1536, .f32⟩
  | .hbm, ⟨6, _⟩ => ⟨S1024x512, .f32⟩
  | .hbm, ⟨7, _⟩ => ⟨S1024x256, .f32⟩
  | .hbm, ⟨8, _⟩ => ⟨S1024x768, .f32⟩
  | .hbm, ⟨9, _⟩ => ⟨S1024x32, .f32⟩
  | .hbm, ⟨10, _⟩ => ⟨S_, .f32⟩
  | .hbm, ⟨11, _⟩ => ⟨S1024x96, .f32⟩
  | .hbm, ⟨12, _⟩ => ⟨S1024x3200, .f32⟩
  | .hbm, ⟨13, _⟩ => ⟨S1024x3200, .bf16⟩
  | .hbm, ⟨14, _⟩ => ⟨S8192x768, .f32⟩
  | .hbm, ⟨15, _⟩ => ⟨S8192x768, .f32⟩
  | .hbm, ⟨16, _⟩ => ⟨S8192x512, .f32⟩
  | .hbm, ⟨17, _⟩ => ⟨S8192x256, .f32⟩
  | .hbm, ⟨18, _⟩ => ⟨S8192x768, .f32⟩
  | .hbm, ⟨19, _⟩ => ⟨S8192x32, .f32⟩
  | .hbm, ⟨20, _⟩ => ⟨S_, .i32⟩
  | .hbm, ⟨21, _⟩ => ⟨S_, .f32⟩
  | .hbm, ⟨22, _⟩ => ⟨S8192x128, .f32⟩
  | .hbm, ⟨23, _⟩ => ⟨S8192x768, .bf16⟩
  | .hbm, ⟨24, _⟩ => ⟨S8192x768, .bf16⟩
  | .hbm, ⟨25, _⟩ => ⟨S8192x512, .bf16⟩
  | .hbm, ⟨26, _⟩ => ⟨S8192x256, .bf16⟩
  | .hbm, ⟨27, _⟩ => ⟨S8192x768, .bf16⟩
  | .hbm, ⟨28, _⟩ => ⟨S8192x128, .bf16⟩
  | .hbm, ⟨29, _⟩ => ⟨S1x1024, .f32⟩
  | .hbm, ⟨30, _⟩ => ⟨S8192x1024, .f32⟩
  | .hbm, ⟨31, _⟩ => ⟨S1024x8192, .bf16⟩
  | .hbm, ⟨32, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x1024, .f32⟩
  | .local _ .vmem, ⟨5, _⟩ => ⟨S512x1024, .f32⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S512x512, .bf16⟩
  | .local _ .vmem, ⟨11, _⟩ => ⟨S512x512, .bf16⟩
  | .local _ .vmem, ⟨12, _⟩ => ⟨S512x256, .bf16⟩
  | .local _ .vmem, ⟨13, _⟩ => ⟨S512x256, .bf16⟩
  | .local _ .vmem, ⟨14, _⟩ => ⟨S512x768, .bf16⟩
  | .local _ .vmem, ⟨15, _⟩ => ⟨S512x768, .bf16⟩
  | .local _ .vmem, ⟨16, _⟩ => ⟨S512x128, .bf16⟩
  | .local _ .vmem, ⟨17, _⟩ => ⟨S512x128, .bf16⟩
  | .local _ .vmem, ⟨18, _⟩ => ⟨S512x1024, .f32⟩
  | .local _ .vmem, ⟨19, _⟩ => ⟨S512x1024, .f32⟩
  | .local _ .vmem, ⟨20, _⟩ => ⟨S1024x512, .bf16⟩
  | .local _ .vmem, ⟨21, _⟩ => ⟨S1024x512, .bf16⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ProjRefIdeal.lean ====
abbrev S8192x1024 : Shape := ⟨2, ![8192, 1024]⟩
abbrev S1024 : Shape := ⟨1, ![1024]⟩
abbrev S1024x3104 : Shape := ⟨2, ![1024, 3104]⟩
abbrev S8192x3104 : Shape := ⟨2, ![8192, 3104]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S3104x1024 : Shape := ⟨2, ![3104, 1024]⟩
abbrev S1024x8192 : Shape := ⟨2, ![1024, 8192]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3104, .f32⟩
  | .hbm, ⟨3, _⟩ => ⟨S8192x1024, .f32⟩
  | .hbm, ⟨4, _⟩ => ⟨S8192x3104, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x3104, .f32⟩
  | .hbm, ⟨26, _⟩ => ⟨S3104x1024, .f32⟩
  | .hbm, ⟨27, _⟩ => ⟨S1024x3104, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S1024x8192, .f32⟩
  | .hbm, ⟨72, _⟩ => ⟨S1024x8192, .bf16⟩
  | .hbm, ⟨73, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== PostBwd.lean ====
abbrev S8192x256 : Shape := ⟨2, ![8192, 256]⟩
abbrev S8192x512 : Shape := ⟨2, ![8192, 512]⟩
abbrev S8192x3104 : Shape := ⟨2, ![8192, 3104]⟩
abbrev S1024 : Shape := ⟨1, ![1024]⟩
abbrev S1024x1024 : Shape := ⟨2, ![1024, 1024]⟩
abbrev S8192x8x96 : Shape := ⟨3, ![8192, 8, 96]⟩
abbrev S8192x1024 : Shape := ⟨2, ![8192, 1024]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8192x8 : Shape := ⟨2, ![8192, 8]⟩
abbrev S8192x8x64 : Shape := ⟨3, ![8192, 8, 64]⟩
abbrev S8192x1536 : Shape := ⟨2, ![8192, 1536]⟩
abbrev S8192x768 : Shape := ⟨2, ![8192, 768]⟩
abbrev S8192x32 : Shape := ⟨2, ![8192, 32]⟩
abbrev S8192x96 : Shape := ⟨2, ![8192, 96]⟩
abbrev S8192x3200 : Shape := ⟨2, ![8192, 3200]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1x256 : Shape := ⟨2, ![1, 256]⟩
abbrev S256x1024 : Shape := ⟨2, ![256, 1024]⟩
abbrev S256 : Shape := ⟨1, ![256]⟩
abbrev S1x512 : Shape := ⟨2, ![1, 512]⟩

abbrev nBuf : Space → Nat
  | .hbm => 57
  | .vmem => 27
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x256, .f32⟩
  | .hbm, ⟨3, _⟩ => ⟨S8192x3104, .f32⟩
  | .hbm, ⟨4, _⟩ => ⟨S1024, .f32⟩
  | .hbm, ⟨5, _⟩ => ⟨S1024x1024, .f32⟩
  | .hbm, ⟨6, _⟩ => ⟨S8192x8x96, .f32⟩
  | .hbm, ⟨7, _⟩ => ⟨S8192x8x96, .f32⟩
  | .hbm, ⟨8, _⟩ => ⟨S8192x1024, .f32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S1x8192x8192, .i1⟩
  | .hbm, ⟨20, _⟩ => ⟨S_, .f32⟩
  | .hbm, ⟨21, _⟩ => ⟨S_, .f32⟩
  | .hbm, ⟨22, _⟩ => ⟨S8x8192x8192, .i1⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S8x8192x1, .f32⟩
  | .hbm, ⟨34, _⟩ => ⟨S8x8192x1, .f32⟩
  | .hbm, ⟨35, _⟩ => ⟨S8x8192x1, .f32⟩
  | .hbm, ⟨36, _⟩ => ⟨S8x8192, .f32⟩
  | .hbm, ⟨37, _⟩ => ⟨S8192x8, .f32⟩
  | .hbm, ⟨38, _⟩ => ⟨S8192x8x64, .f32⟩
  | .hbm, ⟨39, _⟩ => ⟨S8192x512, .f32⟩
  | .hbm, ⟨40, _⟩ => ⟨S8192x1536, .f32⟩
  | .hbm, ⟨41, _⟩ => ⟨S8192x512, .f32⟩
  | .hbm, ⟨42, _⟩ => ⟨S8192x256, .f32⟩
  | .hbm, ⟨43, _⟩ => ⟨S8192x768, .f32⟩
  | .hbm, ⟨44, _⟩ => ⟨S8192x32, .f32⟩
  | .hbm, ⟨45, _⟩ => ⟨S_, .f32⟩
  | .hbm, ⟨46, _⟩ => ⟨S8192x96, .f32⟩
  | .hbm, ⟨47, _⟩ => ⟨S8192x3200, .f32⟩
  | .hbm, ⟨48, _⟩ => ⟨S1x1024, .f32⟩
  | .hbm, ⟨49, _⟩ => ⟨S1024x1024, .bf16⟩
  | .hbm, ⟨50, _⟩ => ⟨S8192x256, .f32⟩
  | .hbm, ⟨51, _⟩ => ⟨S8192x256, .f32⟩
  | .hbm, ⟨52, _⟩ => ⟨S8192x512, .bf16⟩
  | .hbm, ⟨53, _⟩ => ⟨S8192x512, .bf16⟩
  | .hbm, ⟨54, _⟩ => ⟨S8192x512, .f32⟩
  | .hbm, ⟨55, _⟩ => ⟨S1024x1024, .f32⟩
  | .hbm, ⟨56, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S512x256, .f32⟩
  | .local _ .vmem, ⟨12, _⟩ => ⟨S1x1024, .f32⟩
  | .local _ .vmem, ⟨13, _⟩ => ⟨S1024x1024, .bf16⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .f32⟩
  | .local _ .vmem, ⟨23, _⟩ => ⟨S512x512, .f32⟩
  | .local _ .vmem, ⟨24, _⟩ => ⟨S1024x1024, .f32⟩
  | .local _ .vmem, ⟨25, _⟩ => ⟨S1x1024, .f32⟩
  | .local _ .vmem, ⟨26, _⟩ => ⟨S512x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33_0 : Ref sig .tc := ⟨.hbm, 50, rfl⟩
abbrev main_v33_1 : Ref sig .tc := ⟨.hbm, 51, rfl⟩
abbrev main_v33_2 : Ref sig .tc := ⟨.hbm, 52, rfl⟩
abbrev main_v33_3 : Ref sig .tc := ⟨.hbm, 53, rfl⟩
abbrev main_v33_4 : Ref sig .tc := ⟨.hbm, 54, rfl⟩
abbrev main_v33_5 : Ref sig .tc := ⟨.hbm, 55, rfl⟩
abbrev main_v33_6 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== PostRefIdeal.lean ====
abbrev S8192x256 : Shape := ⟨2, ![8192, 256]⟩
abbrev S8192x512 : Shape := ⟨2, ![8192, 512]⟩
abbrev S8192x3104 : Shape := ⟨2, ![8192, 3104]⟩
abbrev S1024 : Shape := ⟨1, ![1024]⟩
abbrev S1024x1024 : Shape := ⟨2, ![1024, 1024]⟩
abbrev S8192x8x96 : Shape := ⟨3, ![8192, 8, 96]⟩
abbrev S8192x1024 : Shape := ⟨2, ![8192, 1024]⟩
abbrev S_ : Shape := ⟨0, ![]⟩
abbrev S256 : Shape := ⟨1, ![256]⟩
abbrev S8192 : Shape := ⟨1, ![8192]⟩
abbrev S8192x1 : Shape := ⟨2, ![8192, 1]⟩
abbrev S1x256 : Shape := ⟨2, ![1, 256]⟩
abbrev S512 : Shape := ⟨1, ![512]⟩
abbrev S1x512 : Shape := ⟨2, ![1, 512]⟩
abbrev S8192x8x64 : Shape := ⟨3, ![8192, 8, 64]⟩
abbrev S8192x8 : Shape := ⟨2, ![8192, 8]⟩
abbrev S8x8192x8192 : Shape := ⟨3, ![8, 8192, 8192]⟩
abbrev S1x8192 : Shape := ⟨2, ![1, 8192]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8192x8x1 : Shape := ⟨3, ![8192, 8, 1]⟩
abbrev S8192x8x1x32 : Shape := ⟨4, ![8192, 8, 1, 32]⟩
abbrev S8192x8x32 : Shape := ⟨3, ![8192, 8, 32]⟩
abbrev S1x1024 : Shape := ⟨2, ![1, 1024]⟩

abbrev nBuf : Space → Nat
  | .hbm => 228
  | .vmem => 0
  | .smem => 0
  | _ => 0

abbrev hbmTy0_0 (i : Nat) : BufTy := match i % 128 with
  | 0 => ⟨S8192x256, .f32⟩
  | 1 => ⟨S8192x512, .f32⟩
  | 2 => ⟨S8192x256, .f32⟩
  | 3 => ⟨S8192x3104, .f32⟩
  | 4 => ⟨S1024, .f32⟩
  | 5 => ⟨S1024x1024, .f32⟩
  | 6 => ⟨S8192x8x96, .f32⟩
  | 7 => ⟨S8192x8x96, .f32⟩
  | 8 => ⟨S8192x1024, .f32⟩
  | 9 => ⟨S8192x512, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S_, .f32⟩
  | 19 => ⟨S8192x512, .f32⟩
  | 20 => ⟨S8192x512, .f32⟩
  | 21 => ⟨S8192x512, .f32⟩
  | 22 => ⟨S8192x512, .f32⟩
  | 23 => ⟨S8192x512, .f32⟩
  | 24 => ⟨S256, .f32⟩
  | 25 => ⟨S8192x256, .f32⟩
  | 26 => ⟨S_, .f32⟩
  | 27 => ⟨S8192, .f32⟩
  | 28 => ⟨S8192x1, .f32⟩
  | 29 => ⟨S_, .f32⟩
  | 30 => ⟨S8192x1, .f32⟩
  | 31 => ⟨S8192x1, .f32⟩
  | 32 => ⟨S_, .f32⟩
  | 33 => ⟨S8192x1, .f32⟩
  | 34 => ⟨S8192x1, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S8192x256, .f32⟩
  | 41 => ⟨S8192x256, .f32⟩
  | 42 => ⟨S1x256, .f32⟩
  | 43 => ⟨S8192x256, .f32⟩
  | 44 => ⟨S8192x256, .f32⟩
  | 45 => ⟨S512, .f32⟩
  | 46 => ⟨S8192x512, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192x1, .f32⟩
  | 55 => ⟨S8192x1, .f32⟩
  | 56 => ⟨S8192x1, .f32⟩
  | 57 => ⟨S8192x1, .f32⟩
  | 58 => ⟨S_, .f32⟩
  | 59 => ⟨S8192x1, .f32⟩
  | 60 => ⟨S8192x1, .f32⟩
  | 61 => ⟨S8192x512, .f32⟩
  | 62 => ⟨S8192x512, .f32⟩
  | 63 => ⟨S1x512, .f32⟩
  | 64 => ⟨S8192x512, .f32⟩
  | 65 => ⟨S8192x512, .f32⟩
  | 66 => ⟨S256, .f32⟩
  | 67 => ⟨S8192x256, .f32⟩
  | 68 => ⟨S_, .f32⟩
  | 69 => ⟨S8192, .f32⟩
  | 70 => ⟨S8192x1, .f32⟩
  | 71 => ⟨S_, .f32⟩
  | 72 => ⟨S8192x1, .f32⟩
  | 73 => ⟨S8192x1, .f32⟩
  | 74 => ⟨S_, .f32⟩
  | 75 => ⟨S8192x1, .f32⟩
  | 76 => ⟨S8192x1, .f32⟩
  | 77 => ⟨S8192x1, .f32⟩
  | 78 => ⟨S8192x1, .f32⟩
  | 79 => ⟨S_, .f32⟩
  | 80 => ⟨S8192x1, .f32⟩
  | 81 => ⟨S8192x1, .f32⟩
  | 82 => ⟨S8192x256, .f32⟩
  | 83 => ⟨S8192x256, .f32⟩
  | 84 => ⟨S1x256, .f32⟩
  | 85 => ⟨S8192x256, .f32⟩
  | 86 => ⟨S8192x256, .f32⟩
  | 87 => ⟨S8192x1024, .f32⟩
  | 88 => ⟨S8192x1024, .f32⟩
  | 89 => ⟨S1024x1024, .f32⟩
  | 90 => ⟨S1024x1024, .f32⟩
  | 91 => ⟨S8192x1024, .f32⟩
  | 92 => ⟨S8192x256, .f32⟩
  | 93 => ⟨S8192x512, .f32⟩
  | 94 => ⟨S8192x256, .f32⟩
  | 95 => ⟨S8192x256, .f32⟩
  | 96 => ⟨S_, .f32⟩
  | 97 => ⟨S256, .f32⟩
  | 98 => ⟨S1x256, .f32⟩
  | 99 => ⟨S8192x256, .f32⟩
  | 100 => ⟨S8192x256, .f32⟩
  | 101 => ⟨S_, .f32⟩
  | 102 => ⟨S256, .f32⟩
  | 103 => ⟨S8192x256, .f32⟩
  | 104 => ⟨S_, .f32⟩
  | 105 => ⟨S8192, .f32⟩
  | 106 => ⟨S8192x1, .f32⟩
  | 107 => ⟨S8192x256, .f32⟩
  | 108 => ⟨S8192x256, .f32⟩
  | 109 => ⟨S8192x1, .f32⟩
  | 110 => ⟨S_, .f32⟩
  | 111 => ⟨S8192x1, .f32⟩
  | 112 => ⟨S8192x1, .f32⟩
  | 113 => ⟨S_, .f32⟩
  | 114 => ⟨S8192, .f32⟩
  | 115 => ⟨S8192x256, .f32⟩
  | 116 => ⟨S8192x256, .f32⟩
  | 117 => ⟨S8192x256, .f32⟩
  | 118 => ⟨S8192x256, .f32⟩
  | 119 => ⟨S8192x256, .f32⟩
  | 120 => ⟨S_, .f32⟩
  | 121 => ⟨S1024, .f32⟩
  | 122 => ⟨S8192x512, .f32⟩
  | 123 => ⟨S_, .f32⟩
  | 124 => ⟨S512, .f32⟩
  | 125 => ⟨S1x512, .f32⟩
  | 126 => ⟨S8192x512, .f32⟩
  | 127 => ⟨S8192x512, .f32⟩
  | _ => ⟨S8192x256, .f32⟩

abbrev hbmTy0_1 (i : Nat) : BufTy := match i % 128 with
  | 0 => ⟨S_, .f32⟩
  | 1 => ⟨S512, .f32⟩
  | 2 => ⟨S8192x512, .f32⟩
  | 3 => ⟨S_, .f32⟩
  | 4 => ⟨S8192, .f32⟩
  | 5 => ⟨S8192x1, .f32⟩
  | 6 => ⟨S8192x512, .f32⟩
  | 7 => ⟨S8192x512, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S_, .f32⟩
  | 20 => ⟨S1024, .f32⟩
  | 21 => ⟨S1024, .f32⟩
  | 22 => ⟨S8192x256, .f32⟩
  | 23 => ⟨S_, .f32⟩
  | 24 => ⟨S256, .f32⟩
  | 25 => ⟨S1x256, .f32⟩
  | 26 => ⟨S8192x256, .f32⟩
  | 27 => ⟨S8192x256, .f32⟩
  | 28 => ⟨S_, .f32⟩
  | 29 => ⟨S256, .f32⟩
  | 30 => ⟨S8192x256, .f32⟩
  | 31 => ⟨S_, .f32⟩
  | 32 => ⟨S8192, .f32⟩
  | 33 => ⟨S8192x1, .f32⟩
  | 34 => ⟨S8192x256, .f32⟩
  | 35 => ⟨S8192x256, .f32⟩
  | 36 => ⟨S8192x1, .f32⟩
  | 37 => ⟨S_, .f32⟩
  | 38 => ⟨S8192x1, .f32⟩
  | 39 => ⟨S8192x1, .f32⟩
  | 40 => ⟨S_, .f32⟩
  | 41 => ⟨S8192, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S_, .f32⟩
  | 48 => ⟨S1024, .f32⟩
  | 49 => ⟨S1024, .f32⟩
  | 50 => ⟨S8192x512, .f32⟩
  | 51 => ⟨S8192x512, .f32⟩
  | 52 => ⟨S8192x512, .f32⟩
  | 53 => ⟨S8192x512, .f32⟩
  | 54 => ⟨S8192x512, .f32⟩
  | 55 => ⟨S8192x512, .f32⟩
  | 56 => ⟨S8192x512, .f32⟩
  | 57 => ⟨S8192x8x64, .f32⟩
  | 58 => ⟨S_, .f32⟩
  | 59 => ⟨S8192x8, .f32⟩
  | 60 => ⟨S8x8192x8192, .f32⟩
  | 61 => ⟨S_, .f32⟩
  | 62 => ⟨S8x8192x8192, .f32⟩
  | 63 => ⟨S8x8192x8192, .f32⟩
  | 64 => ⟨S8192, .i32⟩
  | 65 => ⟨S1x8192, .i32⟩
  | 66 => ⟨S8192x1, .i32⟩
  | 67 => ⟨S8192x8192, .i32⟩
  | 68 => ⟨S8192x8192, .i32⟩
  | 69 => ⟨S8192x8192, .i1⟩
  | 70 => ⟨S1x8192x8192, .i1⟩
  | 71 => ⟨S_, .f32⟩
  | 72 => ⟨S_, .f32⟩
  | 73 => ⟨S8x8192x8192, .i1⟩
  | 74 => ⟨S8x8192x8192, .f32⟩
  | 75 => ⟨S8x8192x8192, .f32⟩
  | 76 => ⟨S_, .f32⟩
  | 77 => ⟨S8x8192, .f32⟩
  | 78 => ⟨S8x8192x1, .f32⟩
  | 79 => ⟨S8x8192x8192, .f32⟩
  | 80 => ⟨S8x8192x8192, .f32⟩
  | 81 => ⟨S8x8192x8192, .f32⟩
  | 82 => ⟨S_, .f32⟩
  | 83 => ⟨S8x8192, .f32⟩
  | 84 => ⟨S8x8192x1, .f32⟩
  | 85 => ⟨S8x8192x1, .f32⟩
  | 86 => ⟨S8x8192x1, .f32⟩
  | 87 => ⟨S8x8192, .f32⟩
  | 88 => ⟨S8192x8, .f32⟩
  | 89 => ⟨S8192x8x1, .f32⟩
  | 90 => ⟨S8192x8x1x32, .f32⟩
  | 91 => ⟨S8192x8x32, .f32⟩
  | 92 => ⟨S8192x8x1, .f32⟩
  | 93 => ⟨S8192x8x1x32, .f32⟩
  | 94 => ⟨S8192x8x32, .f32⟩
  | 95 => ⟨S8192x8x64, .f32⟩
  | 96 => ⟨S8192x512, .bf16⟩
  | 97 => ⟨S8192x512, .bf16⟩
  | 98 => ⟨S8192x512, .f32⟩
  | 99 => ⟨S1x1024, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v1_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v1_1 : Ref sig .tc := ⟨.hbm, 21, rfl⟩
abbrev main_v1_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_cst_0 : Ref sig .tc := ⟨.hbm, 29, rfl⟩
abbrev main_v7 : Ref sig .tc := ⟨.hbm, 30, rfl⟩
abbrev main_v8 : Ref sig .tc := ⟨.hbm, 31, rfl⟩
abbrev main_cst_1 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_cst_4 : Ref sig .tc := ⟨.hbm, 50, rfl⟩
abbrev main_v24 : Ref sig .tc := ⟨.hbm, 51, rfl⟩
abbrev main_v25 : Ref sig .tc := ⟨.hbm, 52, rfl⟩
abbrev main_cst_5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_10 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_cst_13 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_14 : Ref sig .tc := ⟨.hbm, 110, rfl⟩
abbrev main_v74 : Ref sig .tc := ⟨.hbm, 111, rfl⟩
abbrev main_v75 : Ref sig .tc := ⟨.hbm, 112, rfl⟩
abbrev main_cst_15 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_16 : Ref sig .tc := ⟨.hbm, 120, rfl⟩
abbrev main_v82 : Ref sig .tc := ⟨.hbm, 121, rfl⟩
abbrev main_v83 : Ref sig .tc := ⟨.hbm, 122, rfl⟩
abbrev main_cst_17 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_18 : Ref sig .tc := ⟨.hbm, 128, rfl⟩
abbrev main_v88 : Ref sig .tc := ⟨.hbm, 129, rfl⟩
abbrev main_v89 : Ref sig .tc := ⟨.hbm, 130, rfl⟩
abbrev main_cst_19 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_20 : Ref sig .tc := ⟨.hbm, 137, rfl⟩
abbrev main_v95 : Ref sig .tc := ⟨.hbm, 138, rfl⟩
abbrev main_v96 : Ref sig .tc := ⟨.hbm, 139, rfl⟩
abbrev main_cst_21 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_22 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_23 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_24 : Ref sig .tc := ⟨.hbm, 156, rfl⟩
abbrev main_v110 : Ref sig .tc := ⟨.hbm, 157, rfl⟩
abbrev main_v111 : Ref sig .tc := ⟨.hbm, 158, rfl⟩
abbrev main_cst_25 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_26 : Ref sig .tc := ⟨.hbm, 165, rfl⟩
abbrev main_v117 : Ref sig .tc := ⟨.hbm, 166, rfl⟩
abbrev main_v118 : Ref sig .tc := ⟨.hbm, 167, rfl⟩
abbrev main_cst_27 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_28 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_call1_v0 : Ref sig .tc := ⟨.hbm, 180, rfl⟩
abbrev main_call1_v1 : Ref sig .tc := ⟨.hbm, 181, rfl⟩
abbrev main_call1_v2 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_29 : Ref sig .tc := ⟨.hbm, 186, rfl⟩
abbrev main_v132 : Ref sig .tc := ⟨.hbm, 187, rfl⟩
abbrev main_v133 : Ref sig .tc := ⟨.hbm, 188, rfl⟩
abbrev main_cst_30 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_31 : Ref sig .tc := ⟨.hbm, 199, rfl⟩
abbrev main_call2_v0 : Ref sig .tc := ⟨.hbm, 200, rfl⟩
abbrev main_call2_v1 : Ref sig .tc := ⟨.hbm, 201, rfl⟩
abbrev main_call2_v2 : Ref sig .tc := ⟨.hbm, 202, rfl⟩
abbrev main_v143 : Ref sig .tc := ⟨.hbm, 203, rfl⟩
abbrev main_cst_32 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_cst_33 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩

abbrev nD : Nat := 1
abbrev τ : Topo := Topo.v7x

variable {F : FTy → Type} [FloatOps F]
-- ==== LossBwd.lean ====
abbrev S8192x1024 : Shape := ⟨2, ![8192, 1024]⟩
abbrev S8192x256 : Shape := ⟨2, ![8192, 256]⟩
abbrev S8192x512 : Shape := ⟨2, ![8192, 512]⟩
abbrev S8192x3104 : Shape := ⟨2, ![8192, 3104]⟩
abbrev S1024 : Shape := ⟨1, ![1024]⟩
abbrev S1024x1024 : Shape := ⟨2, ![1024, 1024]⟩
abbrev S8192x1536 : Shape := ⟨2, ![8192, 1536]⟩
abbrev S8192x768 : Shape := ⟨2, ![8192, 768]⟩
abbrev S8192x32 : Shape := ⟨2, ![8192, 32]⟩
abbrev S_ : Shape := ⟨0, ![]⟩
abbrev S8192x96 : Shape := ⟨2, ![8192, 96]⟩
abbrev S8192x3200 : Shape := ⟨2, ![8192, 3200]⟩
abbrev S1x1024 : Shape := ⟨2, ![1, 1024]⟩
abbrev S8x128 : Shape := ⟨2, ![8, 128]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1x256 : Shape := ⟨2, ![1, 256]⟩
abbrev S256x1024 : Shape := ⟨2, ![256, 1024]⟩
abbrev S1x512 : Shape := ⟨2, ![1, 512]⟩
abbrev S64x8x1024 : Shape := ⟨3, ![64, 8, 1024]⟩
abbrev S8x1024 : Shape := ⟨2, ![8, 1024]⟩
abbrev S8 : Shape := ⟨1, ![8]⟩
abbrev S8x1 : Shape := ⟨2, ![8, 1]⟩
abbrev S1 : Shape := ⟨1, ![1]⟩
abbrev S1x1 : Shape := ⟨2, ![1, 1]⟩

abbrev nBuf : Space → Nat
  | .hbm => 20
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S8192x3104, .f32⟩
  | .hbm, ⟨5, _⟩ => ⟨S1024, .f32⟩
  | .hbm, ⟨6, _⟩ => ⟨S1024x1024, .f32⟩
  | .hbm, ⟨7, _⟩ => ⟨S8192x1024, .f32⟩
  | .hbm, ⟨8, _⟩ => ⟨S8192x1536, .f32⟩
  | .hbm, ⟨9, _⟩ => ⟨S8192x512, .f32⟩
  | .hbm, ⟨10, _⟩ => ⟨S8192x256, .f32⟩
  | .hbm, ⟨11, _⟩ => ⟨S8192x768, .f32⟩
  | .hbm, ⟨12, _⟩ => ⟨S8192x32, .f32⟩
  | .hbm, ⟨13, _⟩ => ⟨S_, .f32⟩
  | .hbm, ⟨14, _⟩ => ⟨S8192x96, .f32⟩
  | .hbm, ⟨15, _⟩ => ⟨S8192x3200, .f32⟩
  | .hbm, ⟨16, _⟩ => ⟨S1x1024, .f32⟩
  | .hbm, ⟨17, _⟩ => ⟨S1024x1024, .bf16⟩
  | .hbm, ⟨18, _⟩ => ⟨S8192x1024, .f32⟩
  | .hbm, ⟨19, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S1x1024, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S8x128, .f32⟩
  | .local _ .vmem, ⟨17, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v103 : BitVec 1 := Scalar.cmpi .eq arg0 c15_i32
  let v104 : BitVec 32 := Scalar.extui v103
  let c0_i32_44 : BitVec 32 := 0#32
  let v105 : BitVec 1 := Scalar.cmpi .ne v104 c0_i32_44
  v105

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S8192x1024 : Shape := ⟨2, ![8192, 1024]⟩
abbrev S8192x256 : Shape := ⟨2, ![8192, 256]⟩
abbrev S8192x512 : Shape := ⟨2, ![8192, 512]⟩
abbrev S8192x3104 : Shape := ⟨2, ![8192, 3104]⟩
abbrev S1024 : Shape := ⟨1, ![1024]⟩
abbrev S1024x1024 : Shape := ⟨2, ![1024, 1024]⟩
abbrev S_ : Shape := ⟨0, ![]⟩
abbrev S256 : Shape := ⟨1, ![256]⟩
abbrev S8192 : Shape := ⟨1, ![8192]⟩
abbrev S8192x1 : Shape := ⟨2, ![8192, 1]⟩
abbrev S1x256 : Shape := ⟨2, ![1, 256]⟩
abbrev S512 : Shape := ⟨1, ![512]⟩
abbrev S1x512 : Shape := ⟨2, ![1, 512]⟩
abbrev S8x128 : Shape := ⟨2, ![8, 128]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S8192x3104, .f32⟩
  | .hbm, ⟨5, _⟩ => ⟨S1024, .f32⟩
  | .hbm, ⟨6, _⟩ => ⟨S1024x1024, .f32⟩
  | .hbm, ⟨7, _⟩ => ⟨S8192x1024, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S256, .f32⟩
  | .hbm, ⟨20, _⟩ => ⟨S8192x256, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x256, .f32⟩
  | .hbm, ⟨32, _⟩ => ⟨S8192x256, .f32⟩
  | .hbm, ⟨33, _⟩ => ⟨S1x256, .f32⟩
  | .hbm, ⟨34, _⟩ => ⟨S8192x256, .f32⟩
  | .hbm, ⟨35, _⟩ => ⟨S8192x256, .f32⟩
  | .hbm, ⟨36, _⟩ => ⟨S512, .f32⟩
  | .hbm, ⟨37, _⟩ => ⟨S8192x512, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x512, .f32⟩
  | .hbm, ⟨49, _⟩ => ⟨S8192x512, .f32⟩
  | .hbm, ⟨50, _⟩ => ⟨S1x512, .f32⟩
  | .hbm, ⟨51, _⟩ => ⟨S8192x512, .f32⟩
  | .hbm, ⟨52, _⟩ => ⟨S8192x512, .f32⟩
  | .hbm, ⟨53, _⟩ => ⟨S256, .f32⟩
  | .hbm, ⟨54, _⟩ => ⟨S8192x256, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x256, .f32⟩
  | .hbm, ⟨66, _⟩ => ⟨S8192x256, .f32⟩
  | .hbm, ⟨67, _⟩ => ⟨S1x256, .f32⟩
  | .hbm, ⟨68, _⟩ => ⟨S8192x256, .f32⟩
  | .hbm, ⟨69, _⟩ => ⟨S8192x256, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S_, .f32⟩
  | .hbm, ⟨81, _⟩ => ⟨S8192, .f32⟩
  | .hbm, ⟨82, _⟩ => ⟨S8192, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S8192, .f32⟩
  | .hbm, ⟨91, _⟩ => ⟨S_, .f32⟩
  | .hbm, ⟨92, _⟩ => ⟨S8192, .f32⟩
  | .hbm, ⟨93, _⟩ => ⟨S8192, .f32⟩
  | .hbm, ⟨94, _⟩ => ⟨S8192x1024, .f32⟩
  | .hbm, ⟨95, _⟩ => ⟨S8192x1024, .f32⟩
  | .hbm, ⟨96, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_cst_13 : Ref sig .tc := ⟨.hbm, 87, rfl⟩
abbrev main_cst_14 : Ref sig .tc := ⟨.hbm, 88, rfl⟩
abbrev main_v57 : Ref sig .tc := ⟨.hbm, 89, rfl⟩
abbrev main_v58 : Ref sig .tc := ⟨.hbm, 90, rfl⟩
abbrev main_cst_15 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩

abbrev nD : Nat := 1
abbrev τ : Topo := Topo.v7x

variable {F : FTy → Type} [FloatOps F]
-- ==== SguBwd.lean ====
abbrev S8192x3104 : Shape := ⟨2, ![8192, 3104]⟩
abbrev S256 : Shape := ⟨1, ![256]⟩
abbrev S4x128x128 : Shape := ⟨3, ![4, 128, 128]⟩
abbrev S4x128 : Shape := ⟨2, ![4, 128]⟩
abbrev S8192x256 : Shape := ⟨2, ![8192, 256]⟩
abbrev S_ : Shape := ⟨0, ![]⟩
abbrev S128x128 : Shape := ⟨2, ![128, 128]⟩
abbrev S1x128x128 : Shape := ⟨3, ![1, 128, 128]⟩
abbrev S8192x1536 : Shape := ⟨2, ![8192, 1536]⟩
abbrev S8192x512 : Shape := ⟨2, ![8192, 512]⟩
abbrev S8192x768 : Shape := ⟨2, ![8192, 768]⟩
abbrev S8192x32 : Shape := ⟨2, ![8192, 32]⟩
abbrev S8192x96 : Shape := ⟨2, ![8192, 96]⟩
abbrev S8192x3200 : Shape := ⟨2, ![8192, 3200]⟩
abbrev S1x256 : Shape := ⟨2, ![1, 256]⟩
abbrev S128x4 : Shape := ⟨2, ![128, 4]⟩
abbrev S128x4x64 : Shape := ⟨3, ![128, 4, 64]⟩
abbrev S128x256 : Shape := ⟨2, ![128, 256]⟩
abbrev S8x256 : Shape := ⟨2, ![8, 256]⟩
abbrev S512x768 : Shape := ⟨2, ![512, 768]⟩
abbrev S512x256 : Shape := ⟨2, ![512, 256]⟩
abbrev S512 : Shape := ⟨1, ![512]⟩
abbrev S512x1 : Shape := ⟨2, ![512, 1]⟩

abbrev nBuf : Space → Nat
  | .hbm => 43
  | .vmem => 16
  | .smem => 0
  | _ => 0

abbrev bufTy : (tb : Table) → Fin (tcTables nBuf tb) → BufTy
  | .hbm, ⟨0, _⟩ => ⟨S8192x3104, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S8192x256, .f32⟩
  | .hbm, ⟨6, _⟩ => ⟨S_, .i1⟩
  | .hbm, ⟨7, _⟩ => ⟨S128x128, .i1⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .i1⟩
  | .hbm, ⟨15, _⟩ => ⟨S128x128, .i1⟩
  | .hbm, ⟨16, _⟩ => ⟨S128x128, .i1⟩
  | .hbm, ⟨17, _⟩ => ⟨S1x128x128, .i1⟩
  | .hbm, ⟨18, _⟩ => ⟨S_, .f32⟩
  | .hbm, ⟨19, _⟩ => ⟨S_, .f32⟩
  | .hbm, ⟨20, _⟩ => ⟨S4x128x128, .i1⟩
  | .hbm, ⟨21, _⟩ => ⟨S4x128x128, .f32⟩
  | .hbm, ⟨22, _⟩ => ⟨S4x128x128, .f32⟩
  | .hbm, ⟨23, _⟩ => ⟨S8192x1536, .f32⟩
  | .hbm, ⟨24, _⟩ => ⟨S8192x512, .f32⟩
  | .hbm, ⟨25, _⟩ => ⟨S8192x256, .f32⟩
  | .hbm, ⟨26, _⟩ => ⟨S8192x768, .f32⟩
  | .hbm, ⟨27, _⟩ => ⟨S8192x32, .f32⟩
  | .hbm, ⟨28, _⟩ => ⟨S_, .f32⟩
  | .hbm, ⟨29, _⟩ => ⟨S8192x96, .f32⟩
  | .hbm, ⟨30, _⟩ => ⟨S8192x3200, .f32⟩
  | .hbm, ⟨31, _⟩ => ⟨S1x256, .f32⟩
  | .hbm, ⟨32, _⟩ => ⟨S1x256, .f32⟩
  | .hbm, ⟨33, _⟩ => ⟨S4x128x128, .bf16⟩
  | .hbm, ⟨34, _⟩ => ⟨S4x128x128, .f32⟩
  | .hbm, ⟨35, _⟩ => ⟨S4x128x128, .bf16⟩
  | .hbm, ⟨36, _⟩ => ⟨S128x4, .f32⟩
  | .hbm, ⟨37, _⟩ => ⟨S128x4x64, .f32⟩
  | .hbm, ⟨38, _⟩ => ⟨S128x256, .f32⟩
  | .hbm, ⟨39, _⟩ => ⟨S8192x768, .bf16⟩
  | .hbm, ⟨40, _⟩ => ⟨S4x128x128, .f32⟩
  | .hbm, ⟨41, _⟩ => ⟨S128x256, .f32⟩
  | .hbm, ⟨42, _⟩ => ⟨S8x256, .f32⟩
  | .local _ .vmem, ⟨0, _⟩ => ⟨S512x768, .f32⟩
  | .local _ .vmem, ⟨1, _⟩ => ⟨S512x768, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S1x256, .f32⟩
  | .local _ .vmem, ⟨6, _⟩ => ⟨S4x128x128, .bf16⟩
  | .local _ .vmem, ⟨7, _⟩ => ⟨S4x128x128, .bf16⟩
  | .local _ .vmem, ⟨8, _⟩ => ⟨S128x256, .f32⟩
  | .local _ .vmem, ⟨9, _⟩ => ⟨S512x768, .bf16⟩
  | .local _ .vmem, ⟨10, _⟩ => ⟨S512x768, .bf16⟩
  | .local _ .vmem, ⟨11, _⟩ => ⟨S4x128x128, .f32⟩
  | .local _ .vmem, ⟨12, _⟩ => ⟨S128x256, .f32⟩
  | .local _ .vmem, ⟨13, _⟩ => ⟨S8x256, .f32⟩
  | .local _ .vmem, ⟨14, _⟩ => ⟨S512x256, .f32⟩
  | .local _ .vmem, ⟨15, _⟩ => ⟨S512x256, .f32⟩
  | _, _ => ⟨S8192x3104, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19_0 : Ref sig .tc := ⟨.hbm, 39, rfl⟩
abbrev main_v19_1 : Ref sig .tc := ⟨.hbm, 40, rfl⟩
abbrev main_v19_2 : Ref sig .tc := ⟨.hbm, 41, rfl⟩
abbrev main_v19_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SguRefIdeal.lean ====
abbrev S8192x3104 : Shape := ⟨2, ![8192, 3104]⟩
abbrev S256 : Shape := ⟨1, ![256]⟩
abbrev S4x128x128 : Shape := ⟨3, ![4, 128, 128]⟩
abbrev S4x128 : Shape := ⟨2, ![4, 128]⟩
abbrev S8192x256 : Shape := ⟨2, ![8192, 256]⟩
abbrev S_ : Shape := ⟨0, ![]⟩
abbrev S128x128 : Shape := ⟨2, ![128, 128]⟩
abbrev S1x128x128 : Shape := ⟨3, ![1, 128, 128]⟩
abbrev S128x4 : Shape := ⟨2, ![128, 4]⟩
abbrev S128x4x1 : Shape := ⟨3, ![128, 4, 1]⟩
abbrev S128x4x64 : Shape := ⟨3, ![128, 4, 64]⟩
abbrev S8192 : Shape := ⟨1, ![8192]⟩
abbrev S8192x1 : Shape := ⟨2, ![8192, 1]⟩
abbrev S1x256 : Shape := ⟨2, ![1, 256]⟩
abbrev S64x128x4x64 : Shape := ⟨4, ![64, 128, 4, 64]⟩
abbrev S4x64x64x128 : Shape := ⟨4, ![4, 64, 64, 128]⟩
abbrev S1x128x4x64 : Shape := ⟨4, ![1, 128, 4, 64]⟩
abbrev S128x256 : Shape := ⟨2, ![128, 256]⟩
abbrev S6x256 : Shape := ⟨2, ![6, 256]⟩
abbrev S8x256 : Shape := ⟨2, ![8, 256]⟩

abbrev nBuf : Space → Nat
  | .hbm => 138
  | .vmem => 0
  | .smem => 0
  | _ => 0

abbrev hbmTy0_0 (i : Nat) : BufTy := match i % 128 with
  | 0 => ⟨S8192x3104, .f32⟩
  | 1 => ⟨S256, .f32⟩
  | 2 => ⟨S256, .f32⟩
  | 3 => ⟨S4x128x128, .f32⟩
  | 4 => ⟨S4x128, .f32⟩
  | 5 => ⟨S8192x256, .f32⟩
  | 6 => ⟨S8192x256, .f32⟩
  | 7 => ⟨S8192x256, .f32⟩
  | 8 => ⟨S8192x256, .f32⟩
  | 9 => ⟨S_, .i1⟩
  | 10 => ⟨S128x128, .i1⟩
  | 11 => ⟨S128x128, .i32⟩
  | 12 => ⟨S_, .i32⟩
  | 13 => ⟨S128x128, .i32⟩
  | 14 => ⟨S128x128, .i32⟩
  | 15 => ⟨S128x128, .i32⟩
  | 16 => ⟨S128x128, .i1⟩
  | 17 => ⟨S_, .i1⟩
  | 18 => ⟨S128x128, .i1⟩
  | 19 => ⟨S128x128, .i1⟩
  | 20 => ⟨S1x128x128, .i1⟩
  | 21 => ⟨S_, .f32⟩
  | 22 => ⟨S4x128x128, .f32⟩
  | 23 => ⟨S4x128x128, .i1⟩
  | 24 => ⟨S4x128x128, .f32⟩
  | 25 => ⟨S128x4, .f32⟩
  | 26 => ⟨S128x4x1, .f32⟩
  | 27 => ⟨S128x4x64, .f32⟩
  | 28 => ⟨S8192x256, .f32⟩
  | 29 => ⟨S8192x256, .f32⟩
  | 30 => ⟨S_, .f32⟩
  | 31 => ⟨S8192x256, .f32⟩
  | 32 => ⟨S8192x256, .f32⟩
  | 33 => ⟨S_, .f32⟩
  | 34 => ⟨S8192x256, .f32⟩
  | 35 => ⟨S8192x256, .f32⟩
  | 36 => ⟨S8192x256, .f32⟩
  | 37 => ⟨S8192x256, .f32⟩
  | 38 => ⟨S8192x256, .f32⟩
  | 39 => ⟨S_, .f32⟩
  | 40 => ⟨S8192x256, .f32⟩
  | 41 => ⟨S8192x256, .f32⟩
  | 42 => ⟨S8192x256, .f32⟩
  | 43 => ⟨S_, .f32⟩
  | 44 => ⟨S8192x256, .f32⟩
  | 45 => ⟨S8192x256, .f32⟩
  | 46 => ⟨S8192x256, .f32⟩
  | 47 => ⟨S_, .f32⟩
  | 48 => ⟨S8192x256, .f32⟩
  | 49 => ⟨S8192x256, .f32⟩
  | 50 => ⟨S_, .f32⟩
  | 51 => ⟨S8192x256, .f32⟩
  | 52 => ⟨S8192x256, .f32⟩
  | 53 => ⟨S8192x256, .f32⟩
  | 54 => ⟨S8192x256, .f32⟩
  | 55 => ⟨S8192x256, .f32⟩
  | 56 => ⟨S_, .f32⟩
  | 57 => ⟨S8192x256, .f32⟩
  | 58 => ⟨S8192x256, .f32⟩
  | 59 => ⟨S8192x256, .f32⟩
  | 60 => ⟨S_, .f32⟩
  | 61 => ⟨S8192x256, .f32⟩
  | 62 => ⟨S8192x256, .f32⟩
  | 63 => ⟨S8192x256, .f32⟩
  | 64 => ⟨S_, .f32⟩
  | 65 => ⟨S8192x256, .f32⟩
  | 66 => ⟨S8192x256, .f32⟩
  | 67 => ⟨S_, .f32⟩
  | 68 => ⟨S8192x256, .f32⟩
  | 69 => ⟨S8192x256, .f32⟩
  | 70 => ⟨S8192x256, .f32⟩
  | 71 => ⟨S_, .f32⟩
  | 72 => ⟨S8192, .f32⟩
  | 73 => ⟨S8192x1, .f32⟩
  | 74 => ⟨S_, .f32⟩
  | 75 => ⟨S8192x1, .f32⟩
  | 76 => ⟨S8192x1, .f32⟩
  | 77 => ⟨S8192x256, .f32⟩
  | 78 => ⟨S8192x256, .f32⟩
  | 79 => ⟨S8192x256, .f32⟩
  | 80 => ⟨S_, .f32⟩
  | 81 => ⟨S8192, .f32⟩
  | 82 => ⟨S8192x1, .f32⟩
  | 83 => ⟨S_, .f32⟩
  | 84 => ⟨S8192x1, .f32⟩
  | 85 => ⟨S8192x1, .f32⟩
  | 86 => ⟨S8192x256, .f32⟩
  | 87 => ⟨S8192x256, .f32⟩
  | 88 => ⟨S_, .f32⟩
  | 89 => ⟨S8192x1, .f32⟩
  | 90 => ⟨S8192x1, .f32⟩
  | 91 => ⟨S8192x1, .f32⟩
  | 92 => ⟨S8192x256, .f32⟩
  | 93 => ⟨S8192x256, .f32⟩
  | 94 => ⟨S1x256, .f32⟩
  | 95 => ⟨S8192x256, .f32⟩
  | 96 => ⟨S8192x256, .f32⟩
  | 97 => ⟨S1x256, .f32⟩
  | 98 => ⟨S8192x256, .f32⟩
  | 99 => ⟨S8192x256, .f32⟩
  | 100 => ⟨S64x128x4x64, .f32⟩
  | 101 => ⟨S4x64x64x128, .f32⟩
  | 102 => ⟨S64x128x4x64, .f32⟩
  | 103 => ⟨S1x128x4x64, .f32⟩
  | 104 => ⟨S64x128x4x64, .f32⟩
  | 105 => ⟨S64x128x4x64, .f32⟩
  | 106 => ⟨S8192x256, .f32⟩
  | 107 => ⟨S8192x256, .f32⟩
  | 108 => ⟨S8192x256, .f32⟩
  | 109 => ⟨S8192x256, .f32⟩
  | 110 => ⟨S8192x256, .f32⟩
  | 111 => ⟨S64x128x4x64, .f32⟩
  | 112 => ⟨S_, .f32⟩
  | 113 => ⟨S128x4x64, .f32⟩
  | 114 => ⟨S1x128x4x64, .f32⟩
  | 115 => ⟨S_, .f32⟩
  | 116 => ⟨S128x4x64, .f32⟩
  | 117 => ⟨S4x64x64x128, .f32⟩
  | 118 => ⟨S4x64x64x128, .f32⟩
  | 119 => ⟨S64x128x4x64, .f32⟩
  | 120 => ⟨S8192x256, .f32⟩
  | 121 => ⟨S_, .f32⟩
  | 122 => ⟨S256, .f32⟩
  | 123 => ⟨S1x256, .f32⟩
  | 124 => ⟨S_, .f32⟩
  | 125 => ⟨S256, .f32⟩
  | 126 => ⟨S8192x256, .f32⟩
  | 127 => ⟨S_, .f32⟩
  | _ => ⟨S8192x3104, .f32⟩

abbrev hbmTy0_1 (i : Nat) : BufTy := match i % 128 with
  | 0 => ⟨S256, .f32⟩
  | 1 => ⟨S1x256, .f32⟩
  | 2 => ⟨S_, .f32⟩
  | 3 => ⟨S256, .f32⟩
  | 4 => ⟨S128x256, .f32⟩
  | 5 => ⟨S1x256, .f32⟩
  | 6 => ⟨S1x256, .f32⟩
  | 7 => ⟨S_, .f32⟩
  | 8 => ⟨S6x256, .f32⟩
  | 9 => ⟨S8x256, .f32⟩
  | _ => ⟨S8192x3104, .f32⟩

abbrev hbmTy (i : Nat) : BufTy := match i / 128 with
  | 0 => hbmTy0_0 i
  | 1 => hbmTy0_1 i
  | _ => ⟨S8192x3104, .f32⟩

abbrev bufTy : (tb : Table) → Fin (tcTables nBuf tb) → BufTy
  | .hbm, ⟨i, _⟩ => hbmTy i
  | _, _ => ⟨S8192x3104, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_call1_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call2_v0 : Ref sig .tc := ⟨.hbm, 28, rfl⟩
abbrev main_call2_v1 : Ref sig .tc := ⟨.hbm, 29, rfl⟩
abbrev main_call2_cst : Ref sig .tc := ⟨.hbm, 30, rfl⟩
abbrev main_call2_v2 : Ref sig .tc := ⟨.hbm, 31, rfl⟩
abbrev main_call2_v3 : Ref sig .tc := ⟨.hbm, 32, rfl⟩
abbrev main_call2_cst_0 : Ref sig .tc := ⟨.hbm, 33, rfl⟩
abbrev main_call2_v4 : Ref sig .tc := ⟨.hbm, 34, rfl⟩
abbrev main_call2_v5 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_1 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_2 : Ref sig .tc := ⟨.hbm, 47, rfl⟩
abbrev main_v20 : Ref sig .tc := ⟨.hbm, 48, rfl⟩
abbrev main_v21 : Ref sig .tc := ⟨.hbm, 49, rfl⟩
abbrev main_cst_3 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_5 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_6 : Ref sig .tc := ⟨.hbm, 64, rfl⟩
abbrev main_v33 : Ref sig .tc := ⟨.hbm, 65, rfl⟩
abbrev main_v34 : Ref sig .tc := ⟨.hbm, 66, rfl⟩
abbrev main_cst_7 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_8 : Ref sig .tc := ⟨.hbm, 71, rfl⟩
abbrev main_v38 : Ref sig .tc := ⟨.hbm, 72, rfl⟩
abbrev main_v39 : Ref sig .tc := ⟨.hbm, 73, rfl⟩
abbrev main_cst_9 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_10 : Ref sig .tc := ⟨.hbm, 80, rfl⟩
abbrev main_v45 : Ref sig .tc := ⟨.hbm, 81, rfl⟩
abbrev main_v46 : Ref sig .tc := ⟨.hbm, 82, rfl⟩
abbrev main_cst_11 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_12 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_13 : Ref sig .tc := ⟨.hbm, 112, rfl⟩
abbrev main_v74 : Ref sig .tc := ⟨.hbm, 113, rfl⟩
abbrev main_v75 : Ref sig .tc := ⟨.hbm, 114, rfl⟩
abbrev main_cst_14 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_15 : Ref sig .tc := ⟨.hbm, 121, rfl⟩
abbrev main_v81 : Ref sig .tc := ⟨.hbm, 122, rfl⟩
abbrev main_v82 : Ref sig .tc := ⟨.hbm, 123, rfl⟩
abbrev main_cst_16 : Ref sig .tc := ⟨.hbm, 124, rfl⟩
abbrev main_v83 : Ref sig .tc := ⟨.hbm, 125, rfl⟩
abbrev main_v84 : Ref sig .tc := ⟨.hbm, 126, rfl⟩
abbrev main_cst_17 : Ref sig .tc := ⟨.hbm, 127, rfl⟩
abbrev main_v85 : Ref sig .tc := ⟨.hbm, 128, rfl⟩
abbrev main_v86 : Ref sig .tc := ⟨.hbm, 129, rfl⟩
abbrev main_cst_18 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_19 : Ref sig .tc := ⟨.hbm, 135, rfl⟩
abbrev main_v91 : Ref sig .tc := ⟨.hbm, 136, rfl⟩
abbrev main_v92 : Ref sig .tc := ⟨.hbm, 137, rfl⟩

abbrev nD : Nat := 1
abbrev τ : Topo := Topo.v7x

variable {F : FTy → Type} [FloatOps F]
-- ==== AttnBwd.lean ====
abbrev S8192x8x96 : Shape := ⟨3, ![8192, 8, 96]⟩
abbrev S8192x8x64 : Shape := ⟨3, ![8192, 8, 64]⟩
abbrev S_ : Shape := ⟨0, ![]⟩
abbrev S8192x768 : Shape := ⟨2, ![8192, 768]⟩
abbrev S8192x8x128 : Shape := ⟨3, ![8192, 8, 128]⟩
abbrev S8192x1024 : Shape := ⟨2, ![8192, 1024]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8192x8 : Shape := ⟨2, ![8192, 8]⟩
abbrev S8x64x8192 : Shape := ⟨3, ![8, 64, 8192]⟩
abbrev S8192x8x1 : Shape := ⟨3, ![8192, 8, 1]⟩
abbrev S8192x8x1x32 : Shape := ⟨4, ![8192, 8, 1, 32]⟩
abbrev S8192x8x32 : Shape := ⟨3, ![8192, 8, 32]⟩
abbrev S8192x512 : Shape := ⟨2, ![8192, 512]⟩
abbrev S8192x256 : Shape := ⟨2, ![8192, 256]⟩
abbrev S512x256 : Shape := ⟨2, ![512, 256]⟩
abbrev S512x128 : Shape := ⟨2, ![512, 128]⟩
abbrev S8192x128 : Shape := ⟨2, ![8192, 128]⟩
abbrev S512x512 : Shape := ⟨2, ![512, 512]⟩
abbrev S512x1 : Shape := ⟨2, ![512, 1]⟩

abbrev nBuf : Space → Nat
  | .hbm => 69
  | .vmem => 16
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S_, .f32⟩
  | .hbm, ⟨5, _⟩ => ⟨S8192x8x96, .f32⟩
  | .hbm, ⟨6, _⟩ => ⟨S8192x8x96, .f32⟩
  | .hbm, ⟨7, _⟩ => ⟨S8192x768, .f32⟩
  | .hbm, ⟨8, _⟩ => ⟨S8192x8x96, .f32⟩
  | .hbm, ⟨9, _⟩ => ⟨S_, .i32⟩
  | .hbm, ⟨10, _⟩ => ⟨S_, .f32⟩
  | .hbm, ⟨11, _⟩ => ⟨S8192x8x128, .f32⟩
  | .hbm, ⟨12, _⟩ => ⟨S8192x1024, .f32⟩
  | .hbm, ⟨13, _⟩ => ⟨S8192x1024, .bf16⟩
  | .hbm, ⟨14, _⟩ => ⟨S8192x768, .f32⟩
  | .hbm, ⟨15, _⟩ => ⟨S8192x8x96, .f32⟩
  | .hbm, ⟨16, _⟩ => ⟨S_, .i32⟩
  | .hbm, ⟨17, _⟩ => ⟨S_, .f32⟩
  | .hbm, ⟨18, _⟩ => ⟨S8192x8x128, .f32⟩
  | .hbm, ⟨19, _⟩ => ⟨S8192x1024, .f32⟩
  | .hbm, ⟨20, _⟩ => ⟨S8192x1024, .bf16⟩
  | .hbm, ⟨21, _⟩ => ⟨S8x8192x8192, .f32⟩
  | .hbm, ⟨22, _⟩ => ⟨S8192, .i32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S1x8192x8192, .i1⟩
  | .hbm, ⟨29, _⟩ => ⟨S_, .f32⟩
  | .hbm, ⟨30, _⟩ => ⟨S_, .f32⟩
  | .hbm, ⟨31, _⟩ => ⟨S8x8192x8192, .i1⟩
  | .hbm, ⟨32, _⟩ => ⟨S8x8192x8192, .f32⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S8x8192, .f32⟩
  | .hbm, ⟨42, _⟩ => ⟨S8x8192x1, .f32⟩
  | .hbm, ⟨43, _⟩ => ⟨S8x8192x1, .f32⟩
  | .hbm, ⟨44, _⟩ => ⟨S8x8192x1, .f32⟩
  | .hbm, ⟨45, _⟩ => ⟨S8x8192, .f32⟩
  | .hbm, ⟨46, _⟩ => ⟨S8192x8, .f32⟩
  | .hbm, ⟨47, _⟩ => ⟨S8x8192x8192, .f32⟩
  | .hbm, ⟨48, _⟩ => ⟨S8x8192x8192, .f32⟩
  | .hbm, ⟨49, _⟩ => ⟨S8x64x8192, .f32⟩
  | .hbm, ⟨50, _⟩ => ⟨S8192x8x64, .f32⟩
  | .hbm, ⟨51, _⟩ => ⟨S8192x8x64, .f32⟩
  | .hbm, ⟨52, _⟩ => ⟨S_, .f32⟩
  | .hbm, ⟨53, _⟩ => ⟨S8192x8, .f32⟩
  | .hbm, ⟨54, _⟩ => ⟨S8192x8x1, .f32⟩
  | .hbm, ⟨55, _⟩ => ⟨S8192x8x1x32, .f32⟩
  | .hbm, ⟨56, _⟩ => ⟨S8192x8x32, .f32⟩
  | .hbm, ⟨57, _⟩ => ⟨S8192x8x1, .f32⟩
  | .hbm, ⟨58, _⟩ => ⟨S8192x8x1x32, .f32⟩
  | .hbm, ⟨59, _⟩ => ⟨S8192x8x32, .f32⟩
  | .hbm, ⟨60, _⟩ => ⟨S8192x8x64, .f32⟩
  | .hbm, ⟨61, _⟩ => ⟨S8192x512, .f32⟩
  | .hbm, ⟨62, _⟩ => ⟨S8192x512, .bf16⟩
  | .hbm, ⟨63, _⟩ => ⟨S8192x512, .f32⟩
  | .hbm, ⟨64, _⟩ => ⟨S8192x512, .bf16⟩
  | .hbm, ⟨65, _⟩ => ⟨S8192x512, .f32⟩
  | .hbm, ⟨66, _⟩ => ⟨S8192x1024, .f32⟩
  | .hbm, ⟨67, _⟩ => ⟨S8192x1024, .f32⟩
  | .hbm, ⟨68, _⟩ => ⟨S8192x512, .f32⟩
  | .local _ .vmem, ⟨0, _⟩ => ⟨S8192x256, .bf16⟩
  | .local _ .vmem, ⟨1, _⟩ => ⟨S8192x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .f32⟩
  | .local _ .vmem, ⟨9, _⟩ => ⟨S8192x128, .f32⟩
  | .local _ .vmem, ⟨10, _⟩ => ⟨S8192x256, .f32⟩
  | .local _ .vmem, ⟨11, _⟩ => ⟨S8192x256, .f32⟩
  | .local _ .vmem, ⟨12, _⟩ => ⟨S512x256, .f32⟩
  | .local _ .vmem, ⟨13, _⟩ => ⟨S512x256, .f32⟩
  | .local _ .vmem, ⟨14, _⟩ => ⟨S512x128, .f32⟩
  | .local _ .vmem, ⟨15, _⟩ => ⟨S512x128, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50_0 : Ref sig .tc := ⟨.hbm, 66, rfl⟩
abbrev main_v50_1 : Ref sig .tc := ⟨.hbm, 67, rfl⟩
abbrev main_v50_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v10 : BitVec 32 := Scalar.muli arg1 c512_i32
  v10
def k0_off1 (i : grid0.Coords) : Fin 2 → Nat :=
  let arg1 : BitVec 32 := BitVec.ofNat 32 (i 1).val
  let c512_i32 : BitVec 32 := 512#32
  let v10 : BitVec 32 := Scalar.muli arg1 c512_i32
  let v11 : BitVec 32 := v10
  let v12 : Index := Scalar.indexCast v11
  let c0_5 : Index := 0#32
  ![v12.toNat, 0]
def k0_off2 (i : grid0.Coords) : Fin 2 → Nat :=
  let arg1 : BitVec 32 := BitVec.ofNat 32 (i 1).val
  let c512_i32 : BitVec 32 := 512#32
  let v10 : BitVec 32 := Scalar.muli arg1 c512_i32
  let v11 : BitVec 32 := v10
  let v20 : Index := Scalar.indexCast v11
  let c0_7 : Index := 0#32
  ![v20.toNat, 0]
def k0_off3 (i : grid0.Coords) : Fin 2 → Nat :=
  let arg1 : BitVec 32 := BitVec.ofNat 32 (i 1).val
  let c512_i32 : BitVec 32 := 512#32
  let v10 : BitVec 32 := Scalar.muli arg1 c512_i32
  let v11 : BitVec 32 := v10
  let v61 : Index := Scalar.indexCast v11
  let c128 : Index := 128#32
  ![v61.toNat, 128]
@[reducible] def k0_t1_loop (i : grid0.Coords) : Scf.Loop 32 :=
  let c0_i32_57 : BitVec 32 := 0#32
  let c15_i32 : BitVec 32 := 15#32
  let arg1 : BitVec 32 := BitVec.ofNat 32 (i 1).val
  let v105 : BitVec 32 := Scalar.subi c15_i32 arg1
  let c0_i32_51 : BitVec 32 := 0#32
  let v107 : BitVec 1 := Scalar.cmpi .sgt v105 c0_i32_51
  let v108 : BitVec 32 := Scalar.extui v107
  let c0_i32_52 : BitVec 32 := 0#32
  let v109 : BitVec 1 := Scalar.cmpi .slt v105 c0_i32_52
  let v110 : BitVec 32 := Scalar.extui v109
  let v111 : BitVec 32 := Scalar.subi v108 v110
  let c2_i32 : BitVec 32 := 2#32
  let c0_i32_53 : BitVec 32 := 0#32
  let v112 : BitVec 1 := Scalar.cmpi .sgt c2_i32 c0_i32_53
  let v113 : BitVec 32 := Scalar.extui v112
  let c0_i32_54 : BitVec 32 := 0#32
  let v114 : BitVec 1 := Scalar.cmpi .slt c2_i32 c0_i32_54
  let v115 : BitVec 32 := Scalar.extui v114
  let v116 : BitVec 32 := Scalar.subi v113 v115
  let v117 : BitVec 1 := Scalar.cmpi .ne v111 v116
  let v118 : BitVec 32 := Scalar.remsi v105 c2_i32
  let c0_i32_55 : BitVec 32 := 0#32
  let v119 : BitVec 1 := Scalar.cmpi .ne v118 c0_i32_55
  let v120 : BitVec 1 := Scalar.andi v117 v119
  let v106 : BitVec 32 := Scalar.divsi v105 c2_i32
  let c1_i32 : BitVec 32 := 1#32
  let v121 : BitVec 32 := Scalar.subi v106 c1_i32
  let v122 : BitVec 32 := Scalar.select v120 v121 v106
  let v123 : BitVec 32 := Scalar.subi v122 c0_i32_57
  let c1_i32_58 : BitVec 32 := 1#32
  let v125 : BitVec 32 := Scalar.divsi v123 c1_i32_58
  let v126 : BitVec 32 := Scalar.muli v125 c1_i32_58
  let v127 : BitVec 32 := Scalar.addi c0_i32_57 v126
  let c1_i32_59 : BitVec 32 := 1#32
  ⟨c0_i32_57, v127, c1_i32_59⟩
def k0_mult2 (i : grid0.Coords) (k0_t1 : Fin (k0_t1_loop i).trips) : BitVec 32 :=
  let arg1 : BitVec 32 := BitVec.ofNat 32 (i 1).val
  let c1_i32_69 : BitVec 32 := 1#32
  let v141 : BitVec 32 := Scalar.addi arg1 c1_i32_69
  let c2_i32_70 : BitVec 32 := 2#32
  let c0_i32_57 : BitVec 32 := 0#32
  let c1_i32_59 : BitVec 32 := 1#32
  let arg10 : BitVec 32 := Scf.iv c0_i32_57 c1_i32_59 k0_t1
  let v142 : BitVec 32 := Scalar.muli c2_i32_70 arg10
  let v143 : BitVec 32 := Scalar.addi v141 v142
  let c512_i32_71 : BitVec 32 := 512#32
  let v144 : BitVec 32 := Scalar.muli v143 c512_i32_71
  v144
def k0_off4 (i : grid0.Coords) (k0_t1 : Fin (k0_t1_loop i).trips) (c1_i32_69 : BitVec 32) : Fin 2 → Nat :=
  let arg1 : BitVec 32 := BitVec.ofNat 32 (i 1).val
  let v141 : BitVec 32 := Scalar.addi arg1 c1_i32_69
  let c2_i32_70 : BitVec 32 := 2#32
  let c0_i32_57 : BitVec 32 := 0#32
  let c1_i32_59 : BitVec 32 := 1#32
  let arg10 : BitVec 32 := Scf.iv c0_i32_57 c1_i32_59 k0_t1
  let v142 : BitVec 32 := Scalar.muli c2_i32_70 arg10
  let v143 : BitVec 32 := Scalar.addi v141 v142
  let c512_i32_71 : BitVec 32 := 512#32
  let v144 : BitVec 32 := Scalar.muli v143 c512_i32_71
  let v145 : BitVec 32 := v144
  let v146 : Index := Scalar.indexCast v145
  let c0_72 : Index := 0#32
  ![v146.toNat, 0]
def k0_off5 (i : grid0.Coords) (k0_t1 : Fin (k0_t1_loop i).trips) (c1_i32_69 : BitVec 32) : Fin 2 → Nat :=
  let arg1 : BitVec 32 := BitVec.ofNat 32 (i 1).val
  let v141 : BitVec 32 := Scalar.addi arg1 c1_i32_69
  let c2_i32_70 : BitVec 32 := 2#32
  let c0_i32_57 : BitVec 32 := 0#32
  let c1_i32_59 : BitVec 32 := 1#32
  let arg10 : BitVec 32 := Scf.iv c0_i32_57 c1_i32_59 k0_t1
  let v142 : BitVec 32 := Scalar.muli c2_i32_70 arg10
  let v143 : BitVec 32 := Scalar.addi v141 v142
  let c512_i32_71 : BitVec 32 := 512#32
  let v144 : BitVec 32 := Scalar.muli v143 c512_i32_71
  let v145 : BitVec 32 := v144
  let v154 : Index := Scalar.indexCast v145
  let c0_75 : Index := 0#32
  ![v154.toNat, 0]
def k0_off6 (i : grid0.Coords) (k0_t1 : Fin (k0_t1_loop i).trips) (c1_i32_69 : BitVec 32) : Fin 2 → Nat :=
  let arg1 : BitVec 32 := BitVec.ofNat 32 (i 1).val
  let v141 : BitVec 32 := Scalar.addi arg1 c1_i32_69
  let c2_i32_70 : BitVec 32 := 2#32
  let c0_i32_57 : BitVec 32 := 0#32
  let c1_i32_59 : BitVec 32 := 1#32
  let arg10 : BitVec 32 := Scf.iv c0_i32_57 c1_i32_59 k0_t1
  let v142 : BitVec 32 := Scalar.muli c2_i32_70 arg10
  let v143 : BitVec 32 := Scalar.addi v141 v142
  let c512_i32_71 : BitVec 32 := 512#32
  let v144 : BitVec 32 := Scalar.muli v143 c512_i32_71
  let v145 : BitVec 32 := v144
  let v192 : Index := Scalar.indexCast v145
  let c128_95 : Index := 128#32
  ![v192.toNat, 128]
def k0_mult3 (i : grid0.Coords) (k0_t1 : Fin (k0_t1_loop i).trips) : BitVec 32 :=
  let arg1 : BitVec 32 := BitVec.ofNat 32 (i 1).val
  let c2_i32_118 : BitVec 32 := 2#32
  let v233 : BitVec 32 := Scalar.addi arg1 c2_i32_118
  let c2_i32_119 : BitVec 32 := 2#32
  let c0_i32_57 : BitVec 32 := 0#32
  let c1_i32_59 : BitVec 32 := 1#32
  let arg10 : BitVec 32 := Scf.iv c0_i32_57 c1_i32_59 k0_t1
  let v234 : BitVec 32 := Scalar.muli c2_i32_119 arg10
  let v235 : BitVec 32 := Scalar.addi v233 v234
  let c512_i32_120 : BitVec 32 := 512#32
  let v236 : BitVec 32 := Scalar.muli v235 c512_i32_120
  v236
@[reducible] def k0_t2_loop (i : grid0.Coords) : Scf.Loop 32 :=
  let c0_i32_57 : BitVec 32 := 0#32
  let c15_i32 : BitVec 32 := 15#32
  let arg1 : BitVec 32 := BitVec.ofNat 32 (i 1).val
  let v105 : BitVec 32 := Scalar.subi c15_i32 arg1
  let c0_i32_51 : BitVec 32 := 0#32
  let v107 : BitVec 1 := Scalar.cmpi .sgt v105 c0_i32_51
  let v108 : BitVec 32 := Scalar.extui v107
  let c0_i32_52 : BitVec 32 := 0#32
  let v109 : BitVec 1 := Scalar.cmpi .slt v105 c0_i32_52
  let v110 : BitVec 32 := Scalar.extui v109
  let v111 : BitVec 32 := Scalar.subi v108 v110
  let c2_i32 : BitVec 32 := 2#32
  let c0_i32_53 : BitVec 32 := 0#32
  let v112 : BitVec 1 := Scalar.cmpi .sgt c2_i32 c0_i32_53
  let v113 : BitVec 32 := Scalar.extui v112
  let c0_i32_54 : BitVec 32 := 0#32
  let v114 : BitVec 1 := Scalar.cmpi .slt c2_i32 c0_i32_54
  let v115 : BitVec 32 := Scalar.extui v114
  let v116 : BitVec 32 := Scalar.subi v113 v115
  let v117 : BitVec 1 := Scalar.cmpi .ne v111 v116
  let v118 : BitVec 32 := Scalar.remsi v105 c2_i32
  let c0_i32_55 : BitVec 32 := 0#32
  let v119 : BitVec 1 := Scalar.cmpi .ne v118 c0_i32_55
  let v120 : BitVec 1 := Scalar.andi v117 v119
  let v106 : BitVec 32 := Scalar.divsi v105 c2_i32
  let c1_i32 : BitVec 32 := 1#32
  let v121 : BitVec 32 := Scalar.subi v106 c1_i32
  let v122 : BitVec 32 := Scalar.select v120 v121 v106
  let v123 : BitVec 32 := Scalar.subi v122 c0_i32_57
  let c1_i32_58 : BitVec 32 := 1#32
  let v125 : BitVec 32 := Scalar.divsi v123 c1_i32_58
  let v126 : BitVec 32 := Scalar.muli v125 c1_i32_58
  let v127 : BitVec 32 := Scalar.addi c0_i32_57 v126
  let v124 : BitVec 32 := Scalar.addi c0_i32_57 v123
  let c1_i32_60 : BitVec 32 := 1#32
  ⟨v127, v124, c1_i32_60⟩
def k0_mult4 (i : grid0.Coords) (k0_t2 : Fin (k0_t2_loop i).trips) : BitVec 32 :=
  let arg1 : BitVec 32 := BitVec.ofNat 32 (i 1).val
  let c1_i32_69 : BitVec 32 := 1#32
  let v141 : BitVec 32 := Scalar.addi arg1 c1_i32_69
  let c2_i32_70 : BitVec 32 := 2#32
  let c0_i32_57 : BitVec 32 := 0#32
  let c15_i32 : BitVec 32 := 15#32
  let v105 : BitVec 32 := Scalar.subi c15_i32 arg1
  let c0_i32_51 : BitVec 32 := 0#32
  let v107 : BitVec 1 := Scalar.cmpi .sgt v105 c0_i32_51
  let v108 : BitVec 32 := Scalar.extui v107
  let c0_i32_52 : BitVec 32 := 0#32
  let v109 : BitVec 1 := Scalar.cmpi .slt v105 c0_i32_52
  let v110 : BitVec 32 := Scalar.extui v109
  let v111 : BitVec 32 := Scalar.subi v108 v110
  let c2_i32 : BitVec 32 := 2#32
  let c0_i32_53 : BitVec 32 := 0#32
  let v112 : BitVec 1 := Scalar.cmpi .sgt c2_i32 c0_i32_53
  let v113 : BitVec 32 := Scalar.extui v112
  let c0_i32_54 : BitVec 32 := 0#32
  let v114 : BitVec 1 := Scalar.cmpi .slt c2_i32 c0_i32_54
  let v115 : BitVec 32 := Scalar.extui v114
  let v116 : BitVec 32 := Scalar.subi v113 v115
  let v117 : BitVec 1 := Scalar.cmpi .ne v111 v116
  let v118 : BitVec 32 := Scalar.remsi v105 c2_i32
  let c0_i32_55 : BitVec 32 := 0#32
  let v119 : BitVec 1 := Scalar.cmpi .ne v118 c0_i32_55
  let v120 : BitVec 1 := Scalar.andi v117 v119
  let v106 : BitVec 32 := Scalar.divsi v105 c2_i32
  let c1_i32 : BitVec 32 := 1#32
  let v121 : BitVec 32 := Scalar.subi v106 c1_i32
  let v122 : BitVec 32 := Scalar.select v120 v121 v106
  let v123 : BitVec 32 := Scalar.subi v122 c0_i32_57
  let c1_i32_58 : BitVec 32 := 1#32
  let v125 : BitVec 32 := Scalar.divsi v123 c1_i32_58
  let v126 : BitVec 32 := Scalar.muli v125 c1_i32_58
  let v127 : BitVec 32 := Scalar.addi c0_i32_57 v126
  let c1_i32_60 : BitVec 32 := 1#32
  let arg10 : BitVec 32 := Scf.iv v127 c1_i32_60 k0_t2
  let v142 : BitVec 32 := Scalar.muli c2_i32_70 arg10
  let v143 : BitVec 32 := Scalar.addi v141 v142
  let c512_i32_71 : BitVec 32 := 512#32
  let v144 : BitVec 32 := Scalar.muli v143 c512_i32_71
  v144
def k0_off7 (i : grid0.Coords) (k0_t2 : Fin (k0_t2_loop i).trips) (c1_i32_69 : BitVec 32) : Fin 2 → Nat :=
  let arg1 : BitVec 32 := BitVec.ofNat 32 (i 1).val
  let v141 : BitVec 32 := Scalar.addi arg1 c1_i32_69
  let c2_i32_70 : BitVec 32 := 2#32
  let c0_i32_57 : BitVec 32 := 0#32
  let c15_i32 : BitVec 32 := 15#32
  let v105 : BitVec 32 := Scalar.subi c15_i32 arg1
  let c0_i32_51 : BitVec 32 := 0#32
  let v107 : BitVec 1 := Scalar.cmpi .sgt v105 c0_i32_51
  let v108 : BitVec 32 := Scalar.extui v107
  let c0_i32_52 : BitVec 32 := 0#32
  let v109 : BitVec 1 := Scalar.cmpi .slt v105 c0_i32_52
  let v110 : BitVec 32 := Scalar.extui v109
  let v111 : BitVec 32 := Scalar.subi v108 v110
  let c2_i32 : BitVec 32 := 2#32
  let c0_i32_53 : BitVec 32 := 0#32
  let v112 : BitVec 1 := Scalar.cmpi .sgt c2_i32 c0_i32_53
  let v113 : BitVec 32 := Scalar.extui v112
  let c0_i32_54 : BitVec 32 := 0#32
  let v114 : BitVec 1 := Scalar.cmpi .slt c2_i32 c0_i32_54
  let v115 : BitVec 32 := Scalar.extui v114
  let v116 : BitVec 32 := Scalar.subi v113 v115
  let v117 : BitVec 1 := Scalar.cmpi .ne v111 v116
  let v118 : BitVec 32 := Scalar.remsi v105 c2_i32
  let c0_i32_55 : BitVec 32 := 0#32
  let v119 : BitVec 1 := Scalar.cmpi .ne v118 c0_i32_55
  let v120 : BitVec 1 := Scalar.andi v117 v119
  let v106 : BitVec 32 := Scalar.divsi v105 c2_i32
  let c1_i32 : BitVec 32 := 1#32
  let v121 : BitVec 32 := Scalar.subi v106 c1_i32
  let v122 : BitVec 32 := Scalar.select v120 v121 v106
  let v123 : BitVec 32 := Scalar.subi v122 c0_i32_57
  let c1_i32_58 : BitVec 32 := 1#32
  let v125 : BitVec 32 := Scalar.divsi v123 c1_i32_58
  let v126 : BitVec 32 := Scalar.muli v125 c1_i32_58
  let v127 : BitVec 32 := Scalar.addi c0_i32_57 v126
  let c1_i32_60 : BitVec 32 := 1#32
  let arg10 : BitVec 32 := Scf.iv v127 c1_i32_60 k0_t2
  let v142 : BitVec 32 := Scalar.muli c2_i32_70 arg10
  let v143 : BitVec 32 := Scalar.addi v141 v142
  let c512_i32_71 : BitVec 32 := 512#32
  let v144 : BitVec 32 := Scalar.muli v143 c512_i32_71
  let v145 : BitVec 32 := v144
  let v146 : Index := Scalar.indexCast v145
  let c0_72 : Index := 0#32
  ![v146.toNat, 0]
def k0_off8 (i : grid0.Coords) (k0_t2 : Fin (k0_t2_loop i).trips) (c1_i32_69 : BitVec 32) : Fin 2 → Nat :=
  let arg1 : BitVec 32 := BitVec.ofNat 32 (i 1).val
  let v141 : BitVec 32 := Scalar.addi arg1 c1_i32_69
  let c2_i32_70 : BitVec 32 := 2#32
  let c0_i32_57 : BitVec 32 := 0#32
  let c15_i32 : BitVec 32 := 15#32
  let v105 : BitVec 32 := Scalar.subi c15_i32 arg1
  let c0_i32_51 : BitVec 32 := 0#32
  let v107 : BitVec 1 := Scalar.cmpi .sgt v105 c0_i32_51
  let v108 : BitVec 32 := Scalar.extui v107
  let c0_i32_52 : BitVec 32 := 0#32
  let v109 : BitVec 1 := Scalar.cmpi .slt v105 c0_i32_52
  let v110 : BitVec 32 := Scalar.extui v109
  let v111 : BitVec 32 := Scalar.subi v108 v110
  let c2_i32 : BitVec 32 := 2#32
  let c0_i32_53 : BitVec 32 := 0#32
  let v112 : BitVec 1 := Scalar.cmpi .sgt c2_i32 c0_i32_53
  let v113 : BitVec 32 := Scalar.extui v112
  let c0_i32_54 : BitVec 32 := 0#32
  let v114 : BitVec 1 := Scalar.cmpi .slt c2_i32 c0_i32_54
  let v115 : BitVec 32 := Scalar.extui v114
  let v116 : BitVec 32 := Scalar.subi v113 v115
  let v117 : BitVec 1 := Scalar.cmpi .ne v111 v116
  let v118 : BitVec 32 := Scalar.remsi v105 c2_i32
  let c0_i32_55 : BitVec 32 := 0#32
  let v119 : BitVec 1 := Scalar.cmpi .ne v118 c0_i32_55
  let v120 : BitVec 1 := Scalar.andi v117 v119
  let v106 : BitVec 32 := Scalar.divsi v105 c2_i32
  let c1_i32 : BitVec 32 := 1#32
  let v121 : BitVec 32 := Scalar.subi v106 c1_i32
  let v122 : BitVec 32 := Scalar.select v120 v121 v106
  let v123 : BitVec 32 := Scalar.subi v122 c0_i32_57
  let c1_i32_58 : BitVec 32 := 1#32
  let v125 : BitVec 32 := Scalar.divsi v123 c1_i32_58
  let v126 : BitVec 32 := Scalar.muli v125 c1_i32_58
  let v127 : BitVec 32 := Scalar.addi c0_i32_57 v126
  let c1_i32_60 : BitVec 32 := 1#32
  let arg10 : BitVec 32 := Scf.iv v127 c1_i32_60 k0_t2
  let v142 : BitVec 32 := Scalar.muli c2_i32_70 arg10
  let v143 : BitVec 32 := Scalar.addi v141 v142
  let c512_i32_71 : BitVec 32 := 512#32
  let v144 : BitVec 32 := Scalar.muli v143 c512_i32_71
  let v145 : BitVec 32 := v144
  let v154 : Index := Scalar.indexCast v145
  let c0_75 : Index := 0#32
  ![v154.toNat, 0]
def k0_off9 (i : grid0.Coords) (k0_t2 : Fin (k0_t2_loop i).trips) (c1_i32_69 : BitVec 32) : Fin 2 → Nat :=
  let arg1 : BitVec 32 := BitVec.ofNat 32 (i 1).val
  let v141 : BitVec 32 := Scalar.addi arg1 c1_i32_69
  let c2_i32_70 : BitVec 32 := 2#32
  let c0_i32_57 : BitVec 32 := 0#32
  let c15_i32 : BitVec 32 := 15#32
  let v105 : BitVec 32 := Scalar.subi c15_i32 arg1
  let c0_i32_51 : BitVec 32 := 0#32
  let v107 : BitVec 1 := Scalar.cmpi .sgt v105 c0_i32_51
  let v108 : BitVec 32 := Scalar.extui v107
  let c0_i32_52 : BitVec 32 := 0#32
  let v109 : BitVec 1 := Scalar.cmpi .slt v105 c0_i32_52
  let v110 : BitVec 32 := Scalar.extui v109
  let v111 : BitVec 32 := Scalar.subi v108 v110
  let c2_i32 : BitVec 32 := 2#32
  let c0_i32_53 : BitVec 32 := 0#32
  let v112 : BitVec 1 := Scalar.cmpi .sgt c2_i32 c0_i32_53
  let v113 : BitVec 32 := Scalar.extui v112
  let c0_i32_54 : BitVec 32 := 0#32
  let v114 : BitVec 1 := Scalar.cmpi .slt c2_i32 c0_i32_54
  let v115 : BitVec 32 := Scalar.extui v114
  let v116 : BitVec 32 := Scalar.subi v113 v115
  let v117 : BitVec 1 := Scalar.cmpi .ne v111 v116
  let v118 : BitVec 32 := Scalar.remsi v105 c2_i32
  let c0_i32_55 : BitVec 32 := 0#32
  let v119 : BitVec 1 := Scalar.cmpi .ne v118 c0_i32_55
  let v120 : BitVec 1 := Scalar.andi v117 v119
  let v106 : BitVec 32 := Scalar.divsi v105 c2_i32
  let c1_i32 : BitVec 32 := 1#32
  let v121 : BitVec 32 := Scalar.subi v106 c1_i32
  let v122 : BitVec 32 := Scalar.select v120 v121 v106
  let v123 : BitVec 32 := Scalar.subi v122 c0_i32_57
  let c1_i32_58 : BitVec 32 := 1#32
  let v125 : BitVec 32 := Scalar.divsi v123 c1_i32_58
  let v126 : BitVec 32 := Scalar.muli v125 c1_i32_58
  let v127 : BitVec 32 := Scalar.addi c0_i32_57 v126
  let c1_i32_60 : BitVec 32 := 1#32
  let arg10 : BitVec 32 := Scf.iv v127 c1_i32_60 k0_t2
  let v142 : BitVec 32 := Scalar.muli c2_i32_70 arg10
  let v143 : BitVec 32 := Scalar.addi v141 v142
  let c512_i32_71 : BitVec 32 := 512#32
  let v144 : BitVec 32 := Scalar.muli v143 c512_i32_71
  let v145 : BitVec 32 := v144
  let v192 : Index := Scalar.indexCast v145
  let c128_95 : Index := 128#32
  ![v192.toNat, 128]
def k0_mult5 (i : grid0.Coords) (k0_t2 : Fin (k0_t2_loop i).trips) : BitVec 32 :=
  let arg1 : BitVec 32 := BitVec.ofNat 32 (i 1).val
  let c2_i32_118 : BitVec 32 := 2#32
  let v233 : BitVec 32 := Scalar.addi arg1 c2_i32_118
  let c2_i32_119 : BitVec 32 := 2#32
  let c0_i32_57 : BitVec 32 := 0#32
  let c15_i32 : BitVec 32 := 15#32
  let v105 : BitVec 32 := Scalar.subi c15_i32 arg1
  let c0_i32_51 : BitVec 32 := 0#32
  let v107 : BitVec 1 := Scalar.cmpi .sgt v105 c0_i32_51
  let v108 : BitVec 32 := Scalar.extui v107
  let c0_i32_52 : BitVec 32 := 0#32
  let v109 : BitVec 1 := Scalar.cmpi .slt v105 c0_i32_52
  let v110 : BitVec 32 := Scalar.extui v109
  let v111 : BitVec 32 := Scalar.subi v108 v110
  let c2_i32 : BitVec 32 := 2#32
  let c0_i32_53 : BitVec 32 := 0#32
  let v112 : BitVec 1 := Scalar.cmpi .sgt c2_i32 c0_i32_53
  let v113 : BitVec 32 := Scalar.extui v112
  let c0_i32_54 : BitVec 32 := 0#32
  let v114 : BitVec 1 := Scalar.cmpi .slt c2_i32 c0_i32_54
  let v115 : BitVec 32 := Scalar.extui v114
  let v116 : BitVec 32 := Scalar.subi v113 v115
  let v117 : BitVec 1 := Scalar.cmpi .ne v111 v116
  let v118 : BitVec 32 := Scalar.remsi v105 c2_i32
  let c0_i32_55 : BitVec 32 := 0#32
  let v119 : BitVec 1 := Scalar.cmpi .ne v118 c0_i32_55
  let v120 : BitVec 1 := Scalar.andi v117 v119
  let v106 : BitVec 32 := Scalar.divsi v105 c2_i32
  let c1_i32 : BitVec 32 := 1#32
  let v121 : BitVec 32 := Scalar.subi v106 c1_i32
  let v122 : BitVec 32 := Scalar.select v120 v121 v106
  let v123 : BitVec 32 := Scalar.subi v122 c0_i32_57
  let c1_i32_58 : BitVec 32 := 1#32
  let v125 : BitVec 32 := Scalar.divsi v123 c1_i32_58
  let v126 : BitVec 32 := Scalar.muli v125 c1_i32_58
  let v127 : BitVec 32 := Scalar.addi c0_i32_57 v126
  let c1_i32_60 : BitVec 32 := 1#32
  let arg10 : BitVec 32 := Scf.iv v127 c1_i32_60 k0_t2
  let v234 : BitVec 32 := Scalar.muli c2_i32_119 arg10
  let v235 : BitVec 32 := Scalar.addi v233 v234
  let c512_i32_120 : BitVec 32 := 512#32
  let v236 : BitVec 32 := Scalar.muli v235 c512_i32_120
  v236
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnRefIdeal.lean ====
abbrev S8192x8x96 : Shape := ⟨3, ![8192, 8, 96]⟩
abbrev S8192x8x64 : Shape := ⟨3, ![8192, 8, 64]⟩
abbrev S_ : Shape := ⟨0, ![]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩
abbrev S8192x8x128 : Shape := ⟨3, ![8192, 8, 128]⟩
abbrev S8192x1024 : Shape := ⟨2, ![8192, 1024]⟩
abbrev S8192x512 : Shape := ⟨2, ![8192, 512]⟩

abbrev nBuf : Space → Nat
  | .hbm => 96
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S_, .f32⟩
  | .hbm, ⟨5, _⟩ => ⟨S8192x8x96, .f32⟩
  | .hbm, ⟨6, _⟩ => ⟨S8192x8x96, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .i1⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .i1⟩
  | .hbm, ⟨36, _⟩ => ⟨S_, .f32⟩
  | .hbm, ⟨37, _⟩ => ⟨S8x8192, .f32⟩
  | .hbm, ⟨38, _⟩ => ⟨S8x8192, .i1⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S8x8192x1, .f32⟩
  | .hbm, ⟨60, _⟩ => ⟨S8x64x8192, .f32⟩
  | .hbm, ⟨61, _⟩ => ⟨S8192x8x64, .f32⟩
  | .hbm, ⟨62, _⟩ => ⟨S8x64x8192, .f32⟩
  | .hbm, ⟨63, _⟩ => ⟨S8x8192x8192, .f32⟩
  | .hbm, ⟨64, _⟩ => ⟨S8x64x8192, .f32⟩
  | .hbm, ⟨65, _⟩ => ⟨S8192x8x64, .f32⟩
  | .hbm, ⟨66, _⟩ => ⟨S8x8192x8192, .f32⟩
  | .hbm, ⟨67, _⟩ => ⟨S8x8192x8192, .f32⟩
  | .hbm, ⟨68, _⟩ => ⟨S8x8192x8192, .f32⟩
  | .hbm, ⟨69, _⟩ => ⟨S_, .f32⟩
  | .hbm, ⟨70, _⟩ => ⟨S8x8192, .f32⟩
  | .hbm, ⟨71, _⟩ => ⟨S8x8192x1, .f32⟩
  | .hbm, ⟨72, _⟩ => ⟨S8x8192x1, .f32⟩
  | .hbm, ⟨73, _⟩ => ⟨S8x8192x8192, .f32⟩
  | .hbm, ⟨74, _⟩ => ⟨S8x8192x8192, .f32⟩
  | .hbm, ⟨75, _⟩ => ⟨S_, .f32⟩
  | .hbm, ⟨76, _⟩ => ⟨S8x8192, .f32⟩
  | .hbm, ⟨77, _⟩ => ⟨S8x8192x8192, .f32⟩
  | .hbm, ⟨78, _⟩ => ⟨S8x8192x8192, .f32⟩
  | .hbm, ⟨79, _⟩ => ⟨S8x8192x8192, .f32⟩
  | .hbm, ⟨80, _⟩ => ⟨S_, .f32⟩
  | .hbm, ⟨81, _⟩ => ⟨S8x8192x8192, .f32⟩
  | .hbm, ⟨82, _⟩ => ⟨S8x8192x8192, .f32⟩
  | .hbm, ⟨83, _⟩ => ⟨S8x8192x96, .f32⟩
  | .hbm, ⟨84, _⟩ => ⟨S8192x8x96, .f32⟩
  | .hbm, ⟨85, _⟩ => ⟨S8x8192x96, .f32⟩
  | .hbm, ⟨86, _⟩ => ⟨S8192x8x96, .f32⟩
  | .hbm, ⟨87, _⟩ => ⟨S_, .i32⟩
  | .hbm, ⟨88, _⟩ => ⟨S_, .f32⟩
  | .hbm, ⟨89, _⟩ => ⟨S8192x8x128, .f32⟩
  | .hbm, ⟨90, _⟩ => ⟨S8192x1024, .f32⟩
  | .hbm, ⟨91, _⟩ => ⟨S_, .i32⟩
  | .hbm, ⟨92, _⟩ => ⟨S_, .f32⟩
  | .hbm, ⟨93, _⟩ => ⟨S8192x8x128, .f32⟩
  | .hbm, ⟨94, _⟩ => ⟨S8192x1024, .f32⟩
  | .hbm, ⟨95, _⟩ => ⟨S8192x512, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c : Ref sig .tc := ⟨.hbm, 87, rfl⟩
abbrev main_call2_v0 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_call3_v0 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]
-- ==== ConvBwd.lean ====
abbrev S8192x3104 : Shape := ⟨2, ![8192, 3104]⟩
abbrev S31x256 : Shape := ⟨2, ![31, 256]⟩
abbrev S256 : Shape := ⟨1, ![256]⟩
abbrev S256x256 : Shape := ⟨2, ![256, 256]⟩
abbrev S8192x256 : Shape := ⟨2, ![8192, 256]⟩
abbrev S8192x1536 : Shape := ⟨2, ![8192, 1536]⟩
abbrev S8192x512 : Shape := ⟨2, ![8192, 512]⟩
abbrev S8192x768 : Shape := ⟨2, ![8192, 768]⟩
abbrev S8192x32 : Shape := ⟨2, ![8192, 32]⟩
abbrev S_ : Shape := ⟨0, ![]⟩
abbrev S8192x96 : Shape := ⟨2, ![8192, 96]⟩
abbrev S8192x3200 : Shape := ⟨2, ![8192, 3200]⟩
abbrev S32x256 : Shape := ⟨2, ![32, 256]⟩
abbrev S30x256 : Shape := ⟨2, ![30, 256]⟩
abbrev S8222x256 : Shape := ⟨2, ![8222, 256]⟩
abbrev S1x256 : Shape := ⟨2, ![1, 256]⟩
abbrev S8x256 : Shape := ⟨2, ![8, 256]⟩
abbrev S512x768 : Shape := ⟨2, ![512, 768]⟩
abbrev S32x512 : Shape := ⟨2, ![32, 512]⟩
abbrev S512x256 : Shape := ⟨2, ![512, 256]⟩
abbrev S544x256 : Shape := ⟨2, ![544, 256]⟩
abbrev S512 : Shape := ⟨1, ![512]⟩
abbrev S512x1 : Shape := ⟨2, ![512, 1]⟩
abbrev S64x256 : Shape := ⟨2, ![64, 256]⟩
abbrev S8x8x256 : Shape := ⟨3, ![8, 8, 256]⟩

abbrev nBuf : Space → Nat
  | .hbm => 263
  | .vmem => 22
  | .smem => 0
  | _ => 0

abbrev hbmTy0_0 (i : Nat) : BufTy := match i % 128 with
  | 0 => ⟨S8192x3104, .f32⟩
  | 1 => ⟨S31x256, .f32⟩
  | 2 => ⟨S256, .f32⟩
  | 3 => ⟨S256, .f32⟩
  | 4 => ⟨S256, .f32⟩
  | 5 => ⟨S256x256, .f32⟩
  | 6 => ⟨S256, .f32⟩
  | 7 => ⟨S8192x256, .f32⟩
  | 8 => ⟨S8192x1536, .f32⟩
  | 9 => ⟨S8192x512, .f32⟩
  | 10 => ⟨S8192x256, .f32⟩
  | 11 => ⟨S8192x768, .f32⟩
  | 12 => ⟨S8192x32, .f32⟩
  | 13 => ⟨S_, .f32⟩
  | 14 => ⟨S8192x96, .f32⟩
  | 15 => ⟨S8192x3200, .f32⟩
  | 16 => ⟨S_, .i32⟩
  | 17 => ⟨S_, .f32⟩
  | 18 => ⟨S32x256, .f32⟩
  | 19 => ⟨S8192x256, .f32⟩
  | 20 => ⟨S8192x256, .f32⟩
  | 21 => ⟨S8192x256, .f32⟩
  | 22 => ⟨S8192x256, .f32⟩
  | 23 => ⟨S_, .f32⟩
  | 24 => ⟨S8192x256, .f32⟩
  | 25 => ⟨S8192x256, .f32⟩
  | 26 => ⟨S_, .f32⟩
  | 27 => ⟨S8192x256, .f32⟩
  | 28 => ⟨S8192x256, .f32⟩
  | 29 => ⟨S8192x256, .f32⟩
  | 30 => ⟨S_, .f32⟩
  | 31 => ⟨S30x256, .f32⟩
  | 32 => ⟨S8222x256, .f32⟩
  | 33 => ⟨S1x256, .f32⟩
  | 34 => ⟨S256, .f32⟩
  | 35 => ⟨S8192x256, .f32⟩
  | 36 => ⟨S1x256, .f32⟩
  | 37 => ⟨S8192x256, .f32⟩
  | 38 => ⟨S8192x256, .f32⟩
  | 39 => ⟨S_, .f32⟩
  | 40 => ⟨S8192x256, .f32⟩
  | 41 => ⟨S8192x256, .f32⟩
  | 42 => ⟨S1x256, .f32⟩
  | 43 => ⟨S256, .f32⟩
  | 44 => ⟨S8192x256, .f32⟩
  | 45 => ⟨S1x256, .f32⟩
  | 46 => ⟨S8192x256, .f32⟩
  | 47 => ⟨S8192x256, .f32⟩
  | 48 => ⟨S8192x256, .f32⟩
  | 49 => ⟨S1x256, .f32⟩
  | 50 => ⟨S256, .f32⟩
  | 51 => ⟨S8192x256, .f32⟩
  | 52 => ⟨S1x256, .f32⟩
  | 53 => ⟨S8192x256, .f32⟩
  | 54 => ⟨S8192x256, .f32⟩
  | 55 => ⟨S8192x256, .f32⟩
  | 56 => ⟨S1x256, .f32⟩
  | 57 => ⟨S256, .f32⟩
  | 58 => ⟨S8192x256, .f32⟩
  | 59 => ⟨S1x256, .f32⟩
  | 60 => ⟨S8192x256, .f32⟩
  | 61 => ⟨S8192x256, .f32⟩
  | 62 => ⟨S8192x256, .f32⟩
  | 63 => ⟨S1x256, .f32⟩
  | 64 => ⟨S256, .f32⟩
  | 65 => ⟨S8192x256, .f32⟩
  | 66 => ⟨S1x256, .f32⟩
  | 67 => ⟨S8192x256, .f32⟩
  | 68 => ⟨S8192x256, .f32⟩
  | 69 => ⟨S8192x256, .f32⟩
  | 70 => ⟨S1x256, .f32⟩
  | 71 => ⟨S256, .f32⟩
  | 72 => ⟨S8192x256, .f32⟩
  | 73 => ⟨S1x256, .f32⟩
  | 74 => ⟨S8192x256, .f32⟩
  | 75 => ⟨S8192x256, .f32⟩
  | 76 => ⟨S8192x256, .f32⟩
  | 77 => ⟨S1x256, .f32⟩
  | 78 => ⟨S256, .f32⟩
  | 79 => ⟨S8192x256, .f32⟩
  | 80 => ⟨S1x256, .f32⟩
  | 81 => ⟨S8192x256, .f32⟩
  | 82 => ⟨S8192x256, .f32⟩
  | 83 => ⟨S8192x256, .f32⟩
  | 84 => ⟨S1x256, .f32⟩
  | 85 => ⟨S256, .f32⟩
  | 86 => ⟨S8192x256, .f32⟩
  | 87 => ⟨S1x256, .f32⟩
  | 88 => ⟨S8192x256, .f32⟩
  | 89 => ⟨S8192x256, .f32⟩
  | 90 => ⟨S8192x256, .f32⟩
  | 91 => ⟨S1x256, .f32⟩
  | 92 => ⟨S256, .f32⟩
  | 93 => ⟨S8192x256, .f32⟩
  | 94 => ⟨S1x256, .f32⟩
  | 95 => ⟨S8192x256, .f32⟩
  | 96 => ⟨S8192x256, .f32⟩
  | 97 => ⟨S8192x256, .f32⟩
  | 98 => ⟨S1x256, .f32⟩
  | 99 => ⟨S256, .f32⟩
  | 100 => ⟨S8192x256, .f32⟩
  | 101 => ⟨S1x256, .f32⟩
  | 102 => ⟨S8192x256, .f32⟩
  | 103 => ⟨S8192x256, .f32⟩
  | 104 => ⟨S8192x256, .f32⟩
  | 105 => ⟨S1x256, .f32⟩
  | 106 => ⟨S256, .f32⟩
  | 107 => ⟨S8192x256, .f32⟩
  | 108 => ⟨S1x256, .f32⟩
  | 109 => ⟨S8192x256, .f32⟩
  | 110 => ⟨S8192x256, .f32⟩
  | 111 => ⟨S8192x256, .f32⟩
  | 112 => ⟨S1x256, .f32⟩
  | 113 => ⟨S256, .f32⟩
  | 114 => ⟨S8192x256, .f32⟩
  | 115 => ⟨S1x256, .f32⟩
  | 116 => ⟨S8192x256, .f32⟩
  | 117 => ⟨S8192x256, .f32⟩
  | 118 => ⟨S8192x256, .f32⟩
  | 119 => ⟨S1x256, .f32⟩
  | 120 => ⟨S256, .f32⟩
  | 121 => ⟨S8192x256, .f32⟩
  | 122 => ⟨S1x256, .f32⟩
  | 123 => ⟨S8192x256, .f32⟩
  | 124 => ⟨S8192x256, .f32⟩
  | 125 => ⟨S8192x256, .f32⟩
  | 126 => ⟨S1x256, .f32⟩
  | 127 => ⟨S256, .f32⟩
  | _ => ⟨S8192x3104, .f32⟩

abbrev hbmTy0_1 (i : Nat) : BufTy := match i % 128 with
  | 0 => ⟨S8192x256, .f32⟩
  | 1 => ⟨S1x256, .f32⟩
  | 2 => ⟨S8192x256, .f32⟩
  | 3 => ⟨S8192x256, .f32⟩
  | 4 => ⟨S8192x256, .f32⟩
  | 5 => ⟨S1x256, .f32⟩
  | 6 => ⟨S256, .f32⟩
  | 7 => ⟨S8192x256, .f32⟩
  | 8 => ⟨S1x256, .f32⟩
  | 9 => ⟨S8192x256, .f32⟩
  | 10 => ⟨S8192x256, .f32⟩
  | 11 => ⟨S8192x256, .f32⟩
  | 12 => ⟨S1x256, .f32⟩
  | 13 => ⟨S256, .f32⟩
  | 14 => ⟨S8192x256, .f32⟩
  | 15 => ⟨S1x256, .f32⟩
  | 16 => ⟨S8192x256, .f32⟩
  | 17 => ⟨S8192x256, .f32⟩
  | 18 => ⟨S8192x256, .f32⟩
  | 19 => ⟨S1x256, .f32⟩
  | 20 => ⟨S256, .f32⟩
  | 21 => ⟨S8192x256, .f32⟩
  | 22 => ⟨S1x256, .f32⟩
  | 23 => ⟨S8192x256, .f32⟩
  | 24 => ⟨S8192x256, .f32⟩
  | 25 => ⟨S8192x256, .f32⟩
  | 26 => ⟨S1x256, .f32⟩
  | 27 => ⟨S256, .f32⟩
  | 28 => ⟨S8192x256, .f32⟩
  | 29 => ⟨S1x256, .f32⟩
  | 30 => ⟨S8192x256, .f32⟩
  | 31 => ⟨S8192x256, .f32⟩
  | 32 => ⟨S8192x256, .f32⟩
  | 33 => ⟨S1x256, .f32⟩
  | 34 => ⟨S256, .f32⟩
  | 35 => ⟨S8192x256, .f32⟩
  | 36 => ⟨S1x256, .f32⟩
  | 37 => ⟨S8192x256, .f32⟩
  | 38 => ⟨S8192x256, .f32⟩
  | 39 => ⟨S8192x256, .f32⟩
  | 40 => ⟨S1x256, .f32⟩
  | 41 => ⟨S256, .f32⟩
  | 42 => ⟨S8192x256, .f32⟩
  | 43 => ⟨S1x256, .f32⟩
  | 44 => ⟨S8192x256, .f32⟩
  | 45 => ⟨S8192x256, .f32⟩
  | 46 => ⟨S8192x256, .f32⟩
  | 47 => ⟨S1x256, .f32⟩
  | 48 => ⟨S256, .f32⟩
  | 49 => ⟨S8192x256, .f32⟩
  | 50 => ⟨S1x256, .f32⟩
  | 51 => ⟨S8192x256, .f32⟩
  | 52 => ⟨S8192x256, .f32⟩
  | 53 => ⟨S8192x256, .f32⟩
  | 54 => ⟨S1x256, .f32⟩
  | 55 => ⟨S256, .f32⟩
  | 56 => ⟨S8192x256, .f32⟩
  | 57 => ⟨S1x256, .f32⟩
  | 58 => ⟨S8192x256, .f32⟩
  | 59 => ⟨S8192x256, .f32⟩
  | 60 => ⟨S8192x256, .f32⟩
  | 61 => ⟨S1x256, .f32⟩
  | 62 => ⟨S256, .f32⟩
  | 63 => ⟨S8192x256, .f32⟩
  | 64 => ⟨S1x256, .f32⟩
  | 65 => ⟨S8192x256, .f32⟩
  | 66 => ⟨S8192x256, .f32⟩
  | 67 => ⟨S8192x256, .f32⟩
  | 68 => ⟨S1x256, .f32⟩
  | 69 => ⟨S256, .f32⟩
  | 70 => ⟨S8192x256, .f32⟩
  | 71 => ⟨S1x256, .f32⟩
  | 72 => ⟨S8192x256, .f32⟩
  | 73 => ⟨S8192x256, .f32⟩
  | 74 => ⟨S8192x256, .f32⟩
  | 75 => ⟨S1x256, .f32⟩
  | 76 => ⟨S256, .f32⟩
  | 77 => ⟨S8192x256, .f32⟩
  | 78 => ⟨S1x256, .f32⟩
  | 79 => ⟨S8192x256, .f32⟩
  | 80 => ⟨S8192x256, .f32⟩
  | 81 => ⟨S8192x256, .f32⟩
  | 82 => ⟨S1x256, .f32⟩
  | 83 => ⟨S256, .f32⟩
  | 84 => ⟨S8192x256, .f32⟩
  | 85 => ⟨S1x256, .f32⟩
  | 86 => ⟨S8192x256, .f32⟩
  | 87 => ⟨S8192x256, .f32⟩
  | 88 => ⟨S8192x256, .f32⟩
  | 89 => ⟨S1x256, .f32⟩
  | 90 => ⟨S256, .f32⟩
  | 91 => ⟨S8192x256, .f32⟩
  | 92 => ⟨S1x256, .f32⟩
  | 93 => ⟨S8192x256, .f32⟩
  | 94 => ⟨S8192x256, .f32⟩
  | 95 => ⟨S8192x256, .f32⟩
  | 96 => ⟨S1x256, .f32⟩
  | 97 => ⟨S256, .f32⟩
  | 98 => ⟨S8192x256, .f32⟩
  | 99 => ⟨S1x256, .f32⟩
  | 100 => ⟨S8192x256, .f32⟩
  | 101 => ⟨S8192x256, .f32⟩
  | 102 => ⟨S8192x256, .f32⟩
  | 103 => ⟨S1x256, .f32⟩
  | 104 => ⟨S256, .f32⟩
  | 105 => ⟨S8192x256, .f32⟩
  | 106 => ⟨S1x256, .f32⟩
  | 107 => ⟨S8192x256, .f32⟩
  | 108 => ⟨S8192x256, .f32⟩
  | 109 => ⟨S8192x256, .f32⟩
  | 110 => ⟨S1x256, .f32⟩
  | 111 => ⟨S256, .f32⟩
  | 112 => ⟨S8192x256, .f32⟩
  | 113 => ⟨S1x256, .f32⟩
  | 114 => ⟨S8192x256, .f32⟩
  | 115 => ⟨S8192x256, .f32⟩
  | 116 => ⟨S8192x256, .f32⟩
  | 117 => ⟨S1x256, .f32⟩
  | 118 => ⟨S256, .f32⟩
  | 119 => ⟨S8192x256, .f32⟩
  | 120 => ⟨S1x256, .f32⟩
  | 121 => ⟨S8192x256, .f32⟩
  | 122 => ⟨S8192x256, .f32⟩
  | 123 => ⟨S8192x256, .f32⟩
  | 124 => ⟨S1x256, .f32⟩
  | 125 => ⟨S8192x256, .f32⟩
  | 126 => ⟨S8192x256, .f32⟩
  | 127 => ⟨S1x256, .f32⟩
  | _ => ⟨S8192x3104, .f32⟩

abbrev hbmTy0_2 (i : Nat) : BufTy := match i % 128 with
  | 0 => ⟨S1x256, .f32⟩
  | 1 => ⟨S256x256, .bf16⟩
  | 2 => ⟨S1x256, .f32⟩
  | 3 => ⟨S8192x768, .bf16⟩
  | 4 => ⟨S32x256, .f32⟩
  | 5 => ⟨S256x256, .f32⟩
  | 6 => ⟨S8x256, .f32⟩
  | _ => ⟨S8192x3104, .f32⟩

abbrev hbmTy (i : Nat) : BufTy := match i / 128 with
  | 0 => hbmTy0_0 i
  | 1 => hbmTy0_1 i
  | 2 => hbmTy0_2 i
  | _ => ⟨S8192x3104, .f32⟩

abbrev bufTy : (tb : Table) → Fin (tcTables nBuf tb) → BufTy
  | .hbm, ⟨i, _⟩ => hbmTy i
  | .local _ .vmem, ⟨0, _⟩ => ⟨S512x768, .f32⟩
  | .local _ .vmem, ⟨1, _⟩ => ⟨S512x768, .f32⟩
  | .local _ .vmem, ⟨2, _⟩ => ⟨S32x512, .f32⟩
  | .local _ .vmem, ⟨3, _⟩ => ⟨S32x512, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S32x256, .f32⟩
  | .local _ .vmem, ⟨9, _⟩ => ⟨S1x256, .f32⟩
  | .local _ .vmem, ⟨10, _⟩ => ⟨S1x256, .f32⟩
  | .local _ .vmem, ⟨11, _⟩ => ⟨S256x256, .bf16⟩
  | .local _ .vmem, ⟨12, _⟩ => ⟨S1x256, .f32⟩
  | .local _ .vmem, ⟨13, _⟩ => ⟨S512x768, .bf16⟩
  | .local _ .vmem, ⟨14, _⟩ => ⟨S512x768, .bf16⟩
  | .local _ .vmem, ⟨15, _⟩ => ⟨S32x256, .f32⟩
  | .local _ .vmem, ⟨16, _⟩ => ⟨S256x256, .f32⟩
  | .local _ .vmem, ⟨17, _⟩ => ⟨S8x256, .f32⟩
  | .local _ .vmem, ⟨18, _⟩ => ⟨S544x256, .f32⟩
  | .local _ .vmem, ⟨19, _⟩ => ⟨S544x256, .f32⟩
  | .local _ .vmem, ⟨20, _⟩ => ⟨S32x256, .f32⟩
  | .local _ .vmem, ⟨21, _⟩ => ⟨S256x256, .f32⟩
  | _, _ => ⟨S8192x3104, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244_0 : Ref sig .tc := ⟨.hbm, 259, rfl⟩
abbrev main_v244_1 : Ref sig .tc := ⟨.hbm, 260, rfl⟩
abbrev main_v244_2 : Ref sig .tc := ⟨.hbm, 261, rfl⟩
abbrev main_v244_3 : Ref sig .tc := ⟨.hbm, 262, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_2606 : BitVec 32 := 15#32
  let v4016 : BitVec 1 := Scalar.cmpi .eq arg0 c15_i32_2606
  let v4017 : BitVec 32 := Scalar.extui v4016
  let c0_i32_2607 : BitVec 32 := 0#32
  let v4018 : BitVec 1 := Scalar.cmpi .ne v4017 c0_i32_2607
  v4018

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ConvRefIdeal.lean ====
abbrev S8192x3104 : Shape := ⟨2, ![8192, 3104]⟩
abbrev S31x256 : Shape := ⟨2, ![31, 256]⟩
abbrev S256 : Shape := ⟨1, ![256]⟩
abbrev S256x256 : Shape := ⟨2, ![256, 256]⟩
abbrev S8192x256 : Shape := ⟨2, ![8192, 256]⟩
abbrev S_ : Shape := ⟨0, ![]⟩
abbrev S30x256 : Shape := ⟨2, ![30, 256]⟩
abbrev S8222x256 : Shape := ⟨2, ![8222, 256]⟩
abbrev S1x256 : Shape := ⟨2, ![1, 256]⟩
abbrev S8192 : Shape := ⟨1, ![8192]⟩
abbrev S8192x1 : Shape := ⟨2, ![8192, 1]⟩

abbrev nBuf : Space → Nat
  | .hbm => 300
  | .vmem => 0
  | .smem => 0
  | _ => 0

abbrev hbmTy0_0 (i : Nat) : BufTy := match i % 128 with
  | 0 => ⟨S8192x3104, .f32⟩
  | 1 => ⟨S31x256, .f32⟩
  | 2 => ⟨S256, .f32⟩
  | 3 => ⟨S256, .f32⟩
  | 4 => ⟨S256, .f32⟩
  | 5 => ⟨S256x256, .f32⟩
  | 6 => ⟨S256, .f32⟩
  | 7 => ⟨S8192x256, .f32⟩
  | 8 => ⟨S8192x256, .f32⟩
  | 9 => ⟨S8192x256, .f32⟩
  | 10 => ⟨S8192x256, .f32⟩
  | 11 => ⟨S8192x256, .f32⟩
  | 12 => ⟨S8192x256, .f32⟩
  | 13 => ⟨S_, .f32⟩
  | 14 => ⟨S8192x256, .f32⟩
  | 15 => ⟨S8192x256, .f32⟩
  | 16 => ⟨S_, .f32⟩
  | 17 => ⟨S8192x256, .f32⟩
  | 18 => ⟨S8192x256, .f32⟩
  | 19 => ⟨S8192x256, .f32⟩
  | 20 => ⟨S_, .f32⟩
  | 21 => ⟨S30x256, .f32⟩
  | 22 => ⟨S8222x256, .f32⟩
  | 23 => ⟨S1x256, .f32⟩
  | 24 => ⟨S256, .f32⟩
  | 25 => ⟨S8192x256, .f32⟩
  | 26 => ⟨S1x256, .f32⟩
  | 27 => ⟨S8192x256, .f32⟩
  | 28 => ⟨S8192x256, .f32⟩
  | 29 => ⟨S_, .f32⟩
  | 30 => ⟨S8192x256, .f32⟩
  | 31 => ⟨S8192x256, .f32⟩
  | 32 => ⟨S1x256, .f32⟩
  | 33 => ⟨S256, .f32⟩
  | 34 => ⟨S8192x256, .f32⟩
  | 35 => ⟨S1x256, .f32⟩
  | 36 => ⟨S8192x256, .f32⟩
  | 37 => ⟨S8192x256, .f32⟩
  | 38 => ⟨S8192x256, .f32⟩
  | 39 => ⟨S1x256, .f32⟩
  | 40 => ⟨S256, .f32⟩
  | 41 => ⟨S8192x256, .f32⟩
  | 42 => ⟨S1x256, .f32⟩
  | 43 => ⟨S8192x256, .f32⟩
  | 44 => ⟨S8192x256, .f32⟩
  | 45 => ⟨S8192x256, .f32⟩
  | 46 => ⟨S1x256, .f32⟩
  | 47 => ⟨S256, .f32⟩
  | 48 => ⟨S8192x256, .f32⟩
  | 49 => ⟨S1x256, .f32⟩
  | 50 => ⟨S8192x256, .f32⟩
  | 51 => ⟨S8192x256, .f32⟩
  | 52 => ⟨S8192x256, .f32⟩
  | 53 => ⟨S1x256, .f32⟩
  | 54 => ⟨S256, .f32⟩
  | 55 => ⟨S8192x256, .f32⟩
  | 56 => ⟨S1x256, .f32⟩
  | 57 => ⟨S8192x256, .f32⟩
  | 58 => ⟨S8192x256, .f32⟩
  | 59 => ⟨S8192x256, .f32⟩
  | 60 => ⟨S1x256, .f32⟩
  | 61 => ⟨S256, .f32⟩
  | 62 => ⟨S8192x256, .f32⟩
  | 63 => ⟨S1x256, .f32⟩
  | 64 => ⟨S8192x256, .f32⟩
  | 65 => ⟨S8192x256, .f32⟩
  | 66 => ⟨S8192x256, .f32⟩
  | 67 => ⟨S1x256, .f32⟩
  | 68 => ⟨S256, .f32⟩
  | 69 => ⟨S8192x256, .f32⟩
  | 70 => ⟨S1x256, .f32⟩
  | 71 => ⟨S8192x256, .f32⟩
  | 72 => ⟨S8192x256, .f32⟩
  | 73 => ⟨S8192x256, .f32⟩
  | 74 => ⟨S1x256, .f32⟩
  | 75 => ⟨S256, .f32⟩
  | 76 => ⟨S8192x256, .f32⟩
  | 77 => ⟨S1x256, .f32⟩
  | 78 => ⟨S8192x256, .f32⟩
  | 79 => ⟨S8192x256, .f32⟩
  | 80 => ⟨S8192x256, .f32⟩
  | 81 => ⟨S1x256, .f32⟩
  | 82 => ⟨S256, .f32⟩
  | 83 => ⟨S8192x256, .f32⟩
  | 84 => ⟨S1x256, .f32⟩
  | 85 => ⟨S8192x256, .f32⟩
  | 86 => ⟨S8192x256, .f32⟩
  | 87 => ⟨S8192x256, .f32⟩
  | 88 => ⟨S1x256, .f32⟩
  | 89 => ⟨S256, .f32⟩
  | 90 => ⟨S8192x256, .f32⟩
  | 91 => ⟨S1x256, .f32⟩
  | 92 => ⟨S8192x256, .f32⟩
  | 93 => ⟨S8192x256, .f32⟩
  | 94 => ⟨S8192x256, .f32⟩
  | 95 => ⟨S1x256, .f32⟩
  | 96 => ⟨S256, .f32⟩
  | 97 => ⟨S8192x256, .f32⟩
  | 98 => ⟨S1x256, .f32⟩
  | 99 => ⟨S8192x256, .f32⟩
  | 100 => ⟨S8192x256, .f32⟩
  | 101 => ⟨S8192x256, .f32⟩
  | 102 => ⟨S1x256, .f32⟩
  | 103 => ⟨S256, .f32⟩
  | 104 => ⟨S8192x256, .f32⟩
  | 105 => ⟨S1x256, .f32⟩
  | 106 => ⟨S8192x256, .f32⟩
  | 107 => ⟨S8192x256, .f32⟩
  | 108 => ⟨S8192x256, .f32⟩
  | 109 => ⟨S1x256, .f32⟩
  | 110 => ⟨S256, .f32⟩
  | 111 => ⟨S8192x256, .f32⟩
  | 112 => ⟨S1x256, .f32⟩
  | 113 => ⟨S8192x256, .f32⟩
  | 114 => ⟨S8192x256, .f32⟩
  | 115 => ⟨S8192x256, .f32⟩
  | 116 => ⟨S1x256, .f32⟩
  | 117 => ⟨S256, .f32⟩
  | 118 => ⟨S8192x256, .f32⟩
  | 119 => ⟨S1x256, .f32⟩
  | 120 => ⟨S8192x256, .f32⟩
  | 121 => ⟨S8192x256, .f32⟩
  | 122 => ⟨S8192x256, .f32⟩
  | 123 => ⟨S1x256, .f32⟩
  | 124 => ⟨S256, .f32⟩
  | 125 => ⟨S8192x256, .f32⟩
  | 126 => ⟨S1x256, .f32⟩
  | 127 => ⟨S8192x256, .f32⟩
  | _ => ⟨S8192x3104, .f32⟩

abbrev hbmTy0_1 (i : Nat) : BufTy := match i % 128 with
  | 0 => ⟨S8192x256, .f32⟩
  | 1 => ⟨S8192x256, .f32⟩
  | 2 => ⟨S1x256, .f32⟩
  | 3 => ⟨S256, .f32⟩
  | 4 => ⟨S8192x256, .f32⟩
  | 5 => ⟨S1x256, .f32⟩
  | 6 => ⟨S8192x256, .f32⟩
  | 7 => ⟨S8192x256, .f32⟩
  | 8 => ⟨S8192x256, .f32⟩
  | 9 => ⟨S1x256, .f32⟩
  | 10 => ⟨S256, .f32⟩
  | 11 => ⟨S8192x256, .f32⟩
  | 12 => ⟨S1x256, .f32⟩
  | 13 => ⟨S8192x256, .f32⟩
  | 14 => ⟨S8192x256, .f32⟩
  | 15 => ⟨S8192x256, .f32⟩
  | 16 => ⟨S1x256, .f32⟩
  | 17 => ⟨S256, .f32⟩
  | 18 => ⟨S8192x256, .f32⟩
  | 19 => ⟨S1x256, .f32⟩
  | 20 => ⟨S8192x256, .f32⟩
  | 21 => ⟨S8192x256, .f32⟩
  | 22 => ⟨S8192x256, .f32⟩
  | 23 => ⟨S1x256, .f32⟩
  | 24 => ⟨S256, .f32⟩
  | 25 => ⟨S8192x256, .f32⟩
  | 26 => ⟨S1x256, .f32⟩
  | 27 => ⟨S8192x256, .f32⟩
  | 28 => ⟨S8192x256, .f32⟩
  | 29 => ⟨S8192x256, .f32⟩
  | 30 => ⟨S1x256, .f32⟩
  | 31 => ⟨S256, .f32⟩
  | 32 => ⟨S8192x256, .f32⟩
  | 33 => ⟨S1x256, .f32⟩
  | 34 => ⟨S8192x256, .f32⟩
  | 35 => ⟨S8192x256, .f32⟩
  | 36 => ⟨S8192x256, .f32⟩
  | 37 => ⟨S1x256, .f32⟩
  | 38 => ⟨S256, .f32⟩
  | 39 => ⟨S8192x256, .f32⟩
  | 40 => ⟨S1x256, .f32⟩
  | 41 => ⟨S8192x256, .f32⟩
  | 42 => ⟨S8192x256, .f32⟩
  | 43 => ⟨S8192x256, .f32⟩
  | 44 => ⟨S1x256, .f32⟩
  | 45 => ⟨S256, .f32⟩
  | 46 => ⟨S8192x256, .f32⟩
  | 47 => ⟨S1x256, .f32⟩
  | 48 => ⟨S8192x256, .f32⟩
  | 49 => ⟨S8192x256, .f32⟩
  | 50 => ⟨S8192x256, .f32⟩
  | 51 => ⟨S1x256, .f32⟩
  | 52 => ⟨S256, .f32⟩
  | 53 => ⟨S8192x256, .f32⟩
  | 54 => ⟨S1x256, .f32⟩
  | 55 => ⟨S8192x256, .f32⟩
  | 56 => ⟨S8192x256, .f32⟩
  | 57 => ⟨S8192x256, .f32⟩
  | 58 => ⟨S1x256, .f32⟩
  | 59 => ⟨S256, .f32⟩
  | 60 => ⟨S8192x256, .f32⟩
  | 61 => ⟨S1x256, .f32⟩
  | 62 => ⟨S8192x256, .f32⟩
  | 63 => ⟨S8192x256, .f32⟩
  | 64 => ⟨S8192x256, .f32⟩
  | 65 => ⟨S1x256, .f32⟩
  | 66 => ⟨S256, .f32⟩
  | 67 => ⟨S8192x256, .f32⟩
  | 68 => ⟨S1x256, .f32⟩
  | 69 => ⟨S8192x256, .f32⟩
  | 70 => ⟨S8192x256, .f32⟩
  | 71 => ⟨S8192x256, .f32⟩
  | 72 => ⟨S1x256, .f32⟩
  | 73 => ⟨S256, .f32⟩
  | 74 => ⟨S8192x256, .f32⟩
  | 75 => ⟨S1x256, .f32⟩
  | 76 => ⟨S8192x256, .f32⟩
  | 77 => ⟨S8192x256, .f32⟩
  | 78 => ⟨S8192x256, .f32⟩
  | 79 => ⟨S1x256, .f32⟩
  | 80 => ⟨S256, .f32⟩
  | 81 => ⟨S8192x256, .f32⟩
  | 82 => ⟨S1x256, .f32⟩
  | 83 => ⟨S8192x256, .f32⟩
  | 84 => ⟨S8192x256, .f32⟩
  | 85 => ⟨S8192x256, .f32⟩
  | 86 => ⟨S1x256, .f32⟩
  | 87 => ⟨S256, .f32⟩
  | 88 => ⟨S8192x256, .f32⟩
  | 89 => ⟨S1x256, .f32⟩
  | 90 => ⟨S8192x256, .f32⟩
  | 91 => ⟨S8192x256, .f32⟩
  | 92 => ⟨S8192x256, .f32⟩
  | 93 => ⟨S1x256, .f32⟩
  | 94 => ⟨S256, .f32⟩
  | 95 => ⟨S8192x256, .f32⟩
  | 96 => ⟨S1x256, .f32⟩
  | 97 => ⟨S8192x256, .f32⟩
  | 98 => ⟨S8192x256, .f32⟩
  | 99 => ⟨S8192x256, .f32⟩
  | 100 => ⟨S1x256, .f32⟩
  | 101 => ⟨S256, .f32⟩
  | 102 => ⟨S8192x256, .f32⟩
  | 103 => ⟨S1x256, .f32⟩
  | 104 => ⟨S8192x256, .f32⟩
  | 105 => ⟨S8192x256, .f32⟩
  | 106 => ⟨S8192x256, .f32⟩
  | 107 => ⟨S1x256, .f32⟩
  | 108 => ⟨S256, .f32⟩
  | 109 => ⟨S8192x256, .f32⟩
  | 110 => ⟨S1x256, .f32⟩
  | 111 => ⟨S8192x256, .f32⟩
  | 112 => ⟨S8192x256, .f32⟩
  | 113 => ⟨S8192x256, .f32⟩
  | 114 => ⟨S1x256, .f32⟩
  | 115 => ⟨S8192x256, .f32⟩
  | 116 => ⟨S8192x256, .f32⟩
  | 117 => ⟨S_, .f32⟩
  | 118 => ⟨S8192, .f32⟩
  | 119 => ⟨S8192x1, .f32⟩
  | 120 => ⟨S_, .f32⟩
  | 121 => ⟨S8192x1, .f32⟩
  | 122 => ⟨S8192x1, .f32⟩
  | 123 => ⟨S8192x256, .f32⟩
  | 124 => ⟨S8192x256, .f32⟩
  | 125 => ⟨S8192x256, .f32⟩
  | 126 => ⟨S_, .f32⟩
  | 127 => ⟨S8192, .f32⟩
  | _ => ⟨S8192x3104, .f32⟩

abbrev hbmTy0_2 (i : Nat) : BufTy := match i % 128 with
  | 0 => ⟨S8192x1, .f32⟩
  | 1 => ⟨S_, .f32⟩
  | 2 => ⟨S8192x1, .f32⟩
  | 3 => ⟨S8192x1, .f32⟩
  | 4 => ⟨S8192x256, .f32⟩
  | 5 => ⟨S8192x256, .f32⟩
  | 6 => ⟨S_, .f32⟩
  | 7 => ⟨S8192x1, .f32⟩
  | 8 => ⟨S8192x1, .f32⟩
  | 9 => ⟨S8192x1, .f32⟩
  | 10 => ⟨S8192x256, .f32⟩
  | 11 => ⟨S8192x256, .f32⟩
  | 12 => ⟨S1x256, .f32⟩
  | 13 => ⟨S8192x256, .f32⟩
  | 14 => ⟨S8192x256, .f32⟩
  | 15 => ⟨S1x256, .f32⟩
  | 16 => ⟨S8192x256, .f32⟩
  | 17 => ⟨S8192x256, .f32⟩
  | 18 => ⟨S8192x256, .f32⟩
  | 19 => ⟨S8192x256, .f32⟩
  | 20 => ⟨S_, .f32⟩
  | 21 => ⟨S8192x256, .f32⟩
  | 22 => ⟨S8192x256, .f32⟩
  | 23 => ⟨S_, .f32⟩
  | 24 => ⟨S8192x256, .f32⟩
  | 25 => ⟨S8192x256, .f32⟩
  | 26 => ⟨S8192x256, .f32⟩
  | 27 => ⟨S8192x256, .f32⟩
  | 28 => ⟨S1x256, .f32⟩
  | 29 => ⟨S8192x256, .f32⟩
  | 30 => ⟨S8192x256, .f32⟩
  | 31 => ⟨S8192x256, .f32⟩
  | 32 => ⟨S8192x256, .f32⟩
  | 33 => ⟨S_, .f32⟩
  | 34 => ⟨S8192x256, .f32⟩
  | 35 => ⟨S8192x256, .f32⟩
  | 36 => ⟨S_, .f32⟩
  | 37 => ⟨S8192x256, .f32⟩
  | 38 => ⟨S8192x256, .f32⟩
  | 39 => ⟨S8192x256, .f32⟩
  | 40 => ⟨S8192x256, .f32⟩
  | 41 => ⟨S8192x256, .f32⟩
  | 42 => ⟨S256x256, .f32⟩
  | 43 => ⟨S256x256, .f32⟩
  | _ => ⟨S8192x3104, .f32⟩

abbrev hbmTy (i : Nat) : BufTy := match i / 128 with
  | 0 => hbmTy0_0 i
  | 1 => hbmTy0_1 i
  | 2 => hbmTy0_2 i
  | _ => ⟨S8192x3104, .f32⟩

abbrev bufTy : (tb : Table) → Fin (tcTables nBuf tb) → BufTy
  | .hbm, ⟨i, _⟩ => hbmTy i
  | _, _ => ⟨S8192x3104, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_cst_3 : Ref sig .tc := ⟨.hbm, 245, rfl⟩
abbrev main_v233 : Ref sig .tc := ⟨.hbm, 246, rfl⟩
abbrev main_v234 : Ref sig .tc := ⟨.hbm, 247, rfl⟩
abbrev main_cst_4 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_cst_5 : Ref sig .tc := ⟨.hbm, 254, rfl⟩
abbrev main_v240 : Ref sig .tc := ⟨.hbm, 255, rfl⟩
abbrev main_v241 : Ref sig .tc := ⟨.hbm, 256, rfl⟩
abbrev main_cst_6 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_cst_7 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_call0_v0 : Ref sig .tc := ⟨.hbm, 274, rfl⟩
abbrev main_call0_v1 : Ref sig .tc := ⟨.hbm, 275, rfl⟩
abbrev main_call0_cst : Ref sig .tc := ⟨.hbm, 276, rfl⟩
abbrev main_call0_v2 : Ref sig .tc := ⟨.hbm, 277, rfl⟩
abbrev main_call0_v3 : Ref sig .tc := ⟨.hbm, 278, rfl⟩
abbrev main_call0_cst_0 : Ref sig .tc := ⟨.hbm, 279, rfl⟩
abbrev main_call0_v4 : Ref sig .tc := ⟨.hbm, 280, rfl⟩
abbrev main_call0_v5 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_call1_v0 : Ref sig .tc := ⟨.hbm, 287, rfl⟩
abbrev main_call1_v1 : Ref sig .tc := ⟨.hbm, 288, rfl⟩
abbrev main_call1_cst : Ref sig .tc := ⟨.hbm, 289, rfl⟩
abbrev main_call1_v2 : Ref sig .tc := ⟨.hbm, 290, rfl⟩
abbrev main_call1_v3 : Ref sig .tc := ⟨.hbm, 291, rfl⟩
abbrev main_call1_cst_0 : Ref sig .tc := ⟨.hbm, 292, rfl⟩
abbrev main_call1_v4 : Ref sig .tc := ⟨.hbm, 293, rfl⟩
abbrev main_call1_v5 : Ref sig .tc := ⟨.hbm, 294, rfl⟩
abbrev main_v262 : Ref sig .tc := ⟨.hbm, 295, rfl⟩
abbrev main_v263 : Ref sig .tc := ⟨.hbm, 296, rfl⟩
abbrev main_v264 : Ref sig .tc := ⟨.hbm, 297, rfl⟩
abbrev main_v265 : Ref sig .tc := ⟨.hbm, 298, rfl⟩
abbrev main_v266 : Ref sig .tc := ⟨.hbm, 299, rfl⟩

abbrev nD : Nat := 1
abbrev τ : Topo := Topo.v7x

variable {F : FTy → Type} [FloatOps F]
-- ==== Proof.Lift.lean ====
/-
  Lemmas shared by the value proofs: extended-real operations at finite arguments are the real operations, the float
  constants of the programs as real numbers, and the algebra of the normalisations.
-/
module
public import Idealize.ShloMosaic.PureOps.Ideal
public import Idealize.ShloMosaic.Lib.Pointwise
@[expose] public section
noncomputable section
namespace Cert.Lift
open Idealize.ShloMosaic

/-- A finite sum of reals, read among the extended reals. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The number under every root of the norms. -/
def eps : ℝ := 8796093 * (2 : ℝ)⁻¹ ^ 43

theorem eps_pos : 0 < eps := by unfold eps; positivity

theorem word_eps : (Ideal.ofBits .f32 0x358637BD#32 : EReal) = ((eps : ℝ) : EReal) := by
  simp [Ideal.ofBits, Ideal.ieee, -EReal.coe_mul, eps]

theorem word_1024 : (Ideal.ofBits .f32 0x3A800000#32 : EReal) = (((1024 : ℝ)⁻¹ : ℝ) : EReal) := by
  simp [Ideal.ofBits, Ideal.ieee, -EReal.coe_mul]
  norm_num

/-- The reciprocal root at a positive number. -/
theorem rsqrt_pos {r : ℝ} (h : 0 < r) : Ideal.rsqrt (r : EReal) = (((Real.sqrt r)⁻¹ : ℝ) : EReal) := by
  rw [Ideal.rsqrt_coe, if_neg (not_lt.2 h.le), if_neg h.ne']

theorem word_1024' : (Ideal.ofBits .f32 0x44800000#32 : EReal) = ((1024 : ℝ) : EReal) := by
  simp [Ideal.ofBits, Ideal.ieee, -EReal.coe_mul]
  norm_num

theorem word_neg_half : (Ideal.ofBits .f32 0xBF000000#32 : EReal) = ((-(2 : ℝ)⁻¹ : ℝ) : EReal) := by
  simp [Ideal.ofBits, Ideal.ieee, -EReal.coe_mul]
  norm_num

/-- The number under the root of a norm of rows of length `n`, at the sum of the squares of a row. -/
def under (n : ℝ) (f : ℝ) : ℝ := f * n⁻¹ + eps

theorem under_pos {n : ℝ} (hn : 0 < n) {ι : Type} [Fintype ι] (f : ι → ℝ) : 0 < under n (∑ k, f k * f k) := by
  have h : 0 ≤ ∑ k, f k * f k := Finset.sum_nonneg fun k _ => mul_self_nonneg _
  have := eps_pos
  unfold under
  positivity

/-- `Ideal.div` by a real that isn't zero. -/
theorem div_real {y : ℝ} (h : y ≠ 0) (x : ℝ) : Ideal.div (x : EReal) (y : EReal) = ((x * y⁻¹ : ℝ) : EReal) := by
  rw [Ideal.div_coe h, ← EReal.coe_mul, one_div]

theorem inv_sqrt_sq {q : ℝ} (h : 0 < q) : (Real.sqrt q)⁻¹ * (Real.sqrt q)⁻¹ = q⁻¹ := by
  rw [← mul_inv, Real.mul_self_sqrt h.le]

/-- An array of numbers, all finite, is an array of reals. -/
theorem real_of_lt_inf {S : Shape} {x : Vec Ideal S .f32} {y : Vec Ideal S .f32} (hy : ∀ i, y i = Ideal.ofBits .f32 0x7F800000#32)
    (h : cmpf (F := Ideal) .olt (Host.absf (F := Ideal) (φ := .f32) x) y = fun _ => 1#1) : ∃ X : S.Idx → ℝ, x = fun i => ((X i : ℝ) : EReal) := by
  refine ⟨fun i => (x i : EReal).toReal, funext fun i => ?_⟩
  have htop : Ideal.ofBits .f32 0x7F800000#32 = ⊤ := by simp [Ideal.ofBits, Ideal.ieee]
  have hi : BitVec.ofBool (decide (max (x i : EReal) (-(x i : EReal)) < (y i : EReal))) = 1#1 := congrFun h i
  rw [hy i, htop] at hi
  have hlt : max (x i : EReal) (-(x i : EReal)) < ⊤ := by
    by_contra hn
    rw [decide_eq_false hn] at hi
    exact absurd hi (by decide)
  have h1 : (x i : EReal) ≠ ⊤ := fun e => by rw [e] at hlt; simp at hlt
  have h2 : (x i : EReal) ≠ ⊥ := fun e => by rw [e] at hlt; simp at hlt
  exact (EReal.coe_toReal h1 h2).symm

/-- An index of a matrix from its two coordinates. -/
theorem eq_ix2_of {n0 n1 : Nat} {i : Shape.Idx ⟨2, ![n0, n1]⟩} {a : Fin n0} {b : Fin n1} (h0 : (i 0).val = a.val)
    (h1 : (i 1).val = b.val) : i = ix2 a b := by
  rw [eq_ix2 i]
  exact congrArg₂ ix2 (Fin.ext h0) (Fin.ext h1)

end Cert.Lift
-- ==== Proof.ProjKernel.lean ====
/-
  The backward call of the input projection: what its three results hold, index by index, over the program's arguments.
-/
module
public import proofs.«01_k».proof.Proof.Gen.ProjBwdIdeal.Value
public import proofs.«01_k».proof.Proof.Lift
@[expose] public section
noncomputable section
namespace Cert.ProjBwdIdeal.Val
open Idealize.ShloMosaic Idealize.SL.Sem Cert.ProjBwdIdeal Cert.ProjBwdIdeal.Gen
open Idealize.ShloMosaic.StableHlo

/-! ## The body's payloads at an index -/

/-- The cotangent of the normalised rows in one row block: six products with column blocks of the laid-out weights. -/
def dhB (w : Vec Ideal S1024x3200 .bf16) (da dq : Vec Ideal S512x768 .bf16) (dz : Vec Ideal S512x512 .bf16)
    (dk : Vec Ideal S512x256 .bf16) (ds : Vec Ideal S512x768 .bf16) (dr : Vec Ideal S512x128 .bf16) (r : Fin 512) (j : Fin 1024) : EReal :=
  ∑ k : Fin 768, da (ix2 r k) * w (ix2 j ⟨k.val, by omega⟩) + ∑ k : Fin 768, dq (ix2 r k) * w (ix2 j ⟨768 + k.val, by omega⟩)
    + ∑ k : Fin 512, dz (ix2 r k) * w (ix2 j ⟨1536 + k.val, by omega⟩) + ∑ k : Fin 256, dk (ix2 r k) * w (ix2 j ⟨2048 + k.val, by omega⟩)
    + ∑ k : Fin 768, ds (ix2 r k) * w (ix2 j ⟨2304 + k.val, by omega⟩) + ∑ k : Fin 128, dr (ix2 r k) * w (ix2 j ⟨3072 + k.val, by omega⟩)

/-- The reciprocal root of a row. -/
def rB (x : Vec Ideal S512x1024 .f32) (r : Fin 512) : EReal :=
  Ideal.rsqrt ((∑ k, x (ix2 r k) * x (ix2 r k)) * Ideal.ofBits .f32 0x3A800000#32 + Ideal.ofBits .f32 0x358637BD#32)

section Payloads
variable (x d : Vec Ideal S512x1024 .f32) (g : Vec Ideal S1x1024 .f32) (w : Vec Ideal S1024x3200 .bf16) (da dq : Vec Ideal S512x768 .bf16)
  (dz : Vec Ideal S512x512 .bf16) (dk : Vec Ideal S512x256 .bf16) (ds : Vec Ideal S512x768 .bf16) (dr : Vec Ideal S512x128 .bf16)
  (old : Vec Ideal S1x1024 .f32)

/-- The first two products. -/
abbrev p6 := k0_pay6 da (View.ld w (Rect.unit ![0, 0] ![1024, 768] inb_S1024x3200_S1024x768_0_0)) dq
  (View.ld w (Rect.unit ![0, 768] ![1024, 768] inb_S1024x3200_S1024x768_0_768))
abbrev w3 := View.ld w (Rect.unit ![0, 1536] ![1024, 512] inb_S1024x3200_S1024x512_0_1536)
abbrev w4 := View.ld w (Rect.unit ![0, 2048] ![1024, 256] inb_S1024x3200_S1024x256_0_2048)
abbrev w5 := View.ld w (Rect.unit ![0, 2304] ![1024, 768] inb_S1024x3200_S1024x768_0_2304)
abbrev w6 := View.ld w (Rect.unit ![0, 3072] ![1024, 128] inb_S1024x3200_S1024x128_0_3072)

theorem dx_apply (r : Fin 512) (j : Fin 1024) :
    k0_pay1 (k0_pay2 x) (k0_pay3 x) (k0_pay11 (k0_pay4 g) (p6 w da dq) (k0_pay7 dz) (w3 w) dk (w4 w) ds (w5 w) dr (w6 w))
        (k0_pay12 (k0_pay3 x) (k0_pay4 g) (p6 w da dq) (k0_pay7 dz) (w3 w) dk (w4 w) ds (w5 w) dr (w6 w)) d (ix2 r j)
      = rB x r * (dhB w da dq dz dk ds dr r j * g (ix2 0 j) - x (ix2 r j) * rB x r *
          ((∑ k, dhB w da dq dz dk ds dr r k * g (ix2 0 k) * (x (ix2 r k) * rB x r)) * Ideal.ofBits .f32 0x3A800000#32)) + d (ix2 r j) := by
  unfold p6 w3 w4 w5 w6 rB dhB
  unfold_payloads
  pointwise

theorem hT_apply (r : Fin 512) (j : Fin 1024) : k0_pay5 x g (ix2 j r) = x (ix2 r j) * rB x r * g (ix2 0 j) := by
  unfold rB
  unfold_payloads
  pointwise

theorem gg_apply (j : Fin 1024) :
    k0_pay10 (k0_pay3 x) (p6 w da dq) (k0_pay7 dz) (w3 w) dk (w4 w) ds (w5 w) dr (w6 w) old (ix2 0 j)
      = old (ix2 0 j) + ∑ r, dhB w da dq dz dk ds dr r j * (x (ix2 r j) * rB x r) := by
  unfold p6 w3 w4 w5 w6 rB dhB
  unfold_payloads
  pointwise

end Payloads

variable (m : (ℓ : Loc nD τ sig) → Buf (Elt Ideal) ℓ) (c : Dev nD)

theorem hz : (![0, 0] : Fin 2 → Nat) = fun _ => 0 := by funext a; fin_cases a <;> rfl

/-! ## What the body leaves at a grid point, over the point's input blocks -/

abbrev bx (t : Fin cfg0.N) : Vec Ideal S512x1024 .f32 := iblk m c 0 t
abbrev bg (t : Fin cfg0.N) : Vec Ideal S1x1024 .f32 := iblk m c 1 t
abbrev bw (t : Fin cfg0.N) : Vec Ideal S1024x3200 .bf16 := iblk m c 2 t
abbrev bd (t : Fin cfg0.N) : Vec Ideal S512x1024 .f32 := iblk m c 3 t
abbrev b4 (t : Fin cfg0.N) : Vec Ideal S512x768 .bf16 := iblk m c 4 t
abbrev b5 (t : Fin cfg0.N) : Vec Ideal S512x768 .bf16 := iblk m c 5 t
abbrev b6 (t : Fin cfg0.N) : Vec Ideal S512x512 .bf16 := iblk m c 6 t
abbrev b7 (t : Fin cfg0.N) : Vec Ideal S512x256 .bf16 := iblk m c 7 t
abbrev b8 (t : Fin cfg0.N) : Vec Ideal S512x768 .bf16 := iblk m c 8 t
abbrev b9 (t : Fin cfg0.N) : Vec Ideal S512x128 .bf16 := iblk m c 9 t

/-- The block cotangent of the normalised rows at a grid point. -/
abbrev dhT (t : Fin cfg0.N) : Fin 512 → Fin 1024 → EReal := dhB (bw m c t) (b4 m c t) (b5 m c t) (b6 m c t) (b7 m c t) (b8 m c t) (b9 m c t)

theorem outs_dx (t : Fin cfg0.N) (r : Fin 512) (j : Fin 1024) :
    ((outsAt0 m c t.val t.isLt).1 : Vec Ideal S512x1024 .f32) (ix2 r j)
      = rB (bx m c t) r * (dhT m c t r j * bg m c t (ix2 0 j) - bx m c t (ix2 r j) * rB (bx m c t) r *
          ((∑ k, dhT m c t r k * bg m c t (ix2 0 k) * (bx m c t (ix2 r k) * rB (bx m c t) r)) * Ideal.ofBits .f32 0x3A800000#32))
        + bd m c t (ix2 r j) := by
  refine Eq.trans ?_ (dx_apply (bx m c t) (bd m c t) (bg m c t) (bw m c t) (b4 m c t) (b5 m c t) (b6 m c t)
    (b7 m c t) (b8 m c t) (b9 m c t) r j)
  by_cases h : t.val % 16 = 0
  · rw [outsAt0_A m c t h]
    dsimp only
    unfold out0_A_10
    rw [View.read_writes_eq_canon _ _ _ (fun _ => cover0_A_10 ..)]
    unfold kernelRun0_A
    dsimp only
    rw [View.canon_unit_zero hz]
    sl_unfold_words
    dsimp only
    simp only [View.readAt_eq_ld, Memref.IsWhole.read_unread, View.ld_unit_zero (S := S512x1024) hz, View.ld_unit_zero (S := S512x768) hz, View.ld_unit_zero (S := S512x512) hz, View.ld_unit_zero (S := S512x256) hz, View.ld_unit_zero (S := S512x128) hz, View.ld_unit_zero (S := S1x1024) hz, shapeCast_self]
  · rw [outsAt0_B m c t h]
    dsimp only
    unfold out0_B_10
    rw [View.read_writes_eq_canon _ _ _ (fun _ => cover0_B_10 ..)]
    unfold kernelRun0_B
    dsimp only
    rw [View.canon_unit_zero hz]
    sl_unfold_words
    dsimp only
    simp only [View.readAt_eq_ld, Memref.IsWhole.read_unread, View.ld_unit_zero (S := S512x1024) hz, View.ld_unit_zero (S := S512x768) hz, View.ld_unit_zero (S := S512x512) hz, View.ld_unit_zero (S := S512x256) hz, View.ld_unit_zero (S := S512x128) hz, View.ld_unit_zero (S := S1x1024) hz, shapeCast_self]

theorem outs_hT (t : Fin cfg0.N) (r : Fin 512) (j : Fin 1024) :
    ((outsAt0 m c t.val t.isLt).2.1 : Vec Ideal S1024x512 .bf16) (ix2 j r)
      = bx m c t (ix2 r j) * rB (bx m c t) r * bg m c t (ix2 0 j) := by
  refine Eq.trans ?_ (hT_apply (bx m c t) (bg m c t) r j)
  by_cases h : t.val % 16 = 0
  · rw [outsAt0_A m c t h]
    dsimp only
    unfold out0_A_11
    rw [View.read_writes_eq_canon _ _ _ (fun _ => cover0_A_11 ..)]
    unfold kernelRun0_A
    dsimp only
    rw [View.canon_unit_zero hz]
    simp only [View.readAt_eq_ld, Memref.IsWhole.read_unread, View.ld_unit_zero (S := S512x1024) hz, View.ld_unit_zero (S := S1x1024) hz, shapeCast_self]
  · rw [outsAt0_B m c t h]
    dsimp only
    unfold out0_B_11
    rw [View.read_writes_eq_canon _ _ _ (fun _ => cover0_B_11 ..)]
    unfold kernelRun0_B
    dsimp only
    rw [View.canon_unit_zero hz]
    simp only [View.readAt_eq_ld, Memref.IsWhole.read_unread, View.ld_unit_zero (S := S512x1024) hz, View.ld_unit_zero (S := S1x1024) hz, shapeCast_self]

/-- One row block's contribution to the norm weight's gradient. -/
def ggT (t : Fin cfg0.N) (j : Fin 1024) : EReal := ∑ r, dhT m c t r j * (bx m c t (ix2 r j) * rB (bx m c t) r)

theorem outs_gg0 (t : Fin cfg0.N) (h : t.val % 16 = 0) (j : Fin 1024) :
    ((outsAt0 m c t.val t.isLt).2.2 : Vec Ideal S1x1024 .f32) (ix2 0 j) = ggT m c t j := by
  refine Eq.trans ?_ ((gg_apply (bx m c t) (bw m c t) (b4 m c t) (b5 m c t) (b6 m c t)
    (b7 m c t) (b8 m c t) (b9 m c t) (k0_pay9 (F := Ideal)) j).trans ?_)
  · rw [outsAt0_A m c t h]
    dsimp only
    unfold out0_A_12
    rw [View.read_writes_eq_canon _ _ _ (fun _ => cover0_A_12 ..)]
    unfold kernelRun0_A
    dsimp only
    rw [View.canon_cons_unit_zero (S := S1x1024) hz]
    sl_unfold_words
    dsimp only
    simp only [View.readAt_eq_ld, Memref.IsWhole.read_unread, View.ld_unit_zero (S := S512x1024) hz, View.ld_unit_zero (S := S512x768) hz, View.ld_unit_zero (S := S512x512) hz, View.ld_unit_zero (S := S512x256) hz, View.ld_unit_zero (S := S512x128) hz, View.ld_unit_zero (S := S1x1024) hz, shapeCast_self, View.readCov_unit_zero (S := S1x1024) _ hz]
  · unfold_payloads
    pointwise
    simp [ggT]

theorem outs_gg1 (t : Fin cfg0.N) (h : ¬ t.val % 16 = 0) (j : Fin 1024) :
    ((outsAt0 m c t.val t.isLt).2.2 : Vec Ideal S1x1024 .f32) (ix2 0 j)
      = ((outsAt0 m c (t.val - 1) (by have := t.isLt; omega)).2.2 : Vec Ideal S1x1024 .f32) (ix2 0 j) + ggT m c t j := by
  refine Eq.trans ?_ (gg_apply (bx m c t) (bw m c t) (b4 m c t) (b5 m c t) (b6 m c t)
    (b7 m c t) (b8 m c t) (b9 m c t) _ j)
  rw [outsAt0_B m c t h]
  dsimp only
  unfold out0_B_12
  rw [View.read_writes_eq_canon _ _ _ (fun _ => cover0_B_12 ..)]
  unfold kernelRun0_B
  dsimp only
  rw [View.canon_unit_zero hz]
  sl_unfold_words
  dsimp only
  simp only [View.readAt_eq_ld, Memref.IsWhole.read_unread, View.ld_unit_zero (S := S512x1024) hz, View.ld_unit_zero (S := S512x768) hz, View.ld_unit_zero (S := S512x512) hz, View.ld_unit_zero (S := S512x256) hz, View.ld_unit_zero (S := S512x128) hz, View.ld_unit_zero (S := S1x1024) hz, shapeCast_self]

/-- After point `n` the accumulator holds the contributions of the points up to it. -/
theorem outs_gg (j : Fin 1024) : ∀ (n : ℕ) (h : n < cfg0.N), ((outsAt0 m c n h).2.2 : Vec Ideal S1x1024 .f32) (ix2 0 j)
      = ∑ s : Fin (n + 1), ggT m c ⟨s.val, by omega⟩ j
  | 0, h => by rw [outs_gg0 m c ⟨0, h⟩ rfl]; simp
  | n + 1, h => by
    have hN : cfg0.N = 16 := N_0
    rw [outs_gg1 m c ⟨n + 1, h⟩ (by dsimp only; omega), Fin.sum_univ_castSucc]
    exact congrArg₂ (· + ·) (outs_gg j n (by omega)) rfl

/-! ## The blocks in their arrays -/

/-- Row `r` of the row block of grid point `t`. -/
def row (t : Fin cfg0.N) (r : Fin 512) : Fin 8192 := ⟨t.val * 512 + r.val, by have := t.isLt; have : cfg0.N = 16 := N_0; have := r.isLt; omega⟩

theorem exists_row (r : Fin 8192) : ∃ (t : Fin cfg0.N) (r' : Fin 512), r = row t r' :=
  have hN : cfg0.N = 16 := N_0
  ⟨⟨r.val / 512, by have := r.isLt; show _ < cfg0.N; omega⟩, ⟨r.val % 512, by omega⟩, Fin.ext (by show r.val = r.val / 512 * 512 + r.val % 512; omega)⟩

theorem index_row : ∀ t : Fin cfg0.N, (win0_0.index t 0 = t.val ∧ win0_0.index t 1 = 0) ∧ (win0_3.index t 0 = t.val ∧ win0_3.index t 1 = 0)
   ∧ (win0_4.index t 0 = t.val ∧ win0_4.index t 1 = 0) ∧ (win0_5.index t 0 = t.val ∧ win0_5.index t 1 = 0)
   ∧ (win0_6.index t 0 = t.val ∧ win0_6.index t 1 = 0) ∧ (win0_7.index t 0 = t.val ∧ win0_7.index t 1 = 0)
   ∧ (win0_8.index t 0 = t.val ∧ win0_8.index t 1 = 0) ∧ (win0_9.index t 0 = t.val ∧ win0_9.index t 1 = 0)
   ∧ (win0_10.index t 0 = t.val ∧ win0_10.index t 1 = 0) ∧ (win0_11.index t 0 = 0 ∧ win0_11.index t 1 = t.val)
   ∧ (win0_1.index t 0 = 0 ∧ win0_1.index t 1 = 0) ∧ (win0_2.index t 0 = 0 ∧ win0_2.index t 1 = 0)
   ∧ (win0_12.index t 0 = 0 ∧ win0_12.index t 1 = 0) := by decide +kernel

/-- The arguments as functions of row and column. -/
abbrev aX : Vec Ideal S8192x1024 .f32 := m (c.tc.loc main_arg0)
abbrev aG : Vec Ideal S1024 .f32 := m (c.tc.loc main_arg1)
abbrev aW : Vec Ideal S1024x3104 .f32 := m (c.tc.loc main_arg2)
abbrev aD : Vec Ideal S8192x1024 .f32 := m (c.tc.loc main_arg3)
abbrev aCt : Vec Ideal S8192x3104 .f32 := m (c.tc.loc main_arg4)

section Host

theorem V_w (j : Fin 1024) (k : Fin 3200) : (V m c main_v7 : Vec Ideal S1024x3200 .bf16) (ix2 j k)
    = if h : k.val < 1536 then aW m c (ix2 j ⟨k.val, by omega⟩)
      else if h : k.val - 1536 < 512 then aW m c (ix2 j ⟨1824 + (k.val - 1536), by omega⟩)
      else if h : k.val - 1536 - 512 < 256 then aW m c (ix2 j ⟨1536 + (k.val - 1536 - 512), by omega⟩)
      else if h : k.val - 1536 - 512 - 256 < 768 then aW m c (ix2 j ⟨2336 + (k.val - 1536 - 512 - 256), by omega⟩)
      else if h : k.val - 1536 - 512 - 256 - 768 < 32 then aW m c (ix2 j ⟨1792 + (k.val - 1536 - 512 - 256 - 768), by omega⟩)
      else 0 := by
  dsimp only [V, hostOps0, hostOps0_1, hostOps0_2]
  simp only [List.flatten_cons, List.flatten_nil, List.append_nil, List.cons_append, List.nil_append]
  after_results_simp
  pointwise
  after_results_simp
  pointwise

/-- The laid-out cotangent pieces, the last padded with zero columns, and the norm's weight as a row. -/
theorem V_ct (r : Fin 8192) :
    (∀ k : Fin 768, (V m c main_v15 : Vec Ideal S8192x768 .bf16) (ix2 r k) = aCt m c (ix2 r ⟨k.val, by omega⟩))
    ∧ (∀ k : Fin 768, (V m c main_v16 : Vec Ideal S8192x768 .bf16) (ix2 r k) = aCt m c (ix2 r ⟨768 + k.val, by omega⟩))
    ∧ (∀ k : Fin 512, (V m c main_v17 : Vec Ideal S8192x512 .bf16) (ix2 r k) = aCt m c (ix2 r ⟨1824 + k.val, by omega⟩))
    ∧ (∀ k : Fin 256, (V m c main_v18 : Vec Ideal S8192x256 .bf16) (ix2 r k) = aCt m c (ix2 r ⟨1536 + k.val, by omega⟩))
    ∧ (∀ k : Fin 768, (V m c main_v19 : Vec Ideal S8192x768 .bf16) (ix2 r k) = aCt m c (ix2 r ⟨2336 + k.val, by omega⟩))
    ∧ (∀ k : Fin 128, (V m c main_v20 : Vec Ideal S8192x128 .bf16) (ix2 r k)
        = if h : k.val < 32 then aCt m c (ix2 r ⟨1792 + k.val, by omega⟩) else 0)
    ∧ (∀ j : Fin 1024, (V m c main_v21 : Vec Ideal S1x1024 .f32) (ix2 0 j) = aG m c (ix1 j)) := by
  dsimp only [V, hostOps0, hostOps0_1, hostOps0_2]
  simp only [List.flatten_cons, List.flatten_nil, List.append_nil, List.cons_append, List.nil_append]
  refine ⟨fun k => ?_, fun k => ?_, fun k => ?_, fun k => ?_, fun k => ?_, fun k => ?_, fun k => ?_⟩ <;>
    (after_results_simp
     try simp only [TRef.toBuf, TRef.ofBuf, cast_eq]
     pointwise)
  have e : (FloatOps.sitofp FTy.f32 (0#32) : Ideal .f32) = (0 : EReal) := by
    show (((0#32 : BitVec 32).toInt : ℝ) : EReal) = 0
    simp
  rw [e]

end Host

/-! ## The windows' blocks, read -/

theorem win_0 (t : Fin cfg0.N) (r : Fin 512) (j : Fin 1024) : bx m c t (ix2 r j) = V m c main_arg0 (ix2 (row t r) j) := by
  unfold bx iblk
  rw [View.read_apply]
  refine congrArg (V m c main_arg0) (Lift.eq_ix2_of (i := ((cfg0.win 0).blk t).view.emb (ix2 r j)) (?_ : win0_0.index t 0 * 512 + 1 * r.val = t.val * 512 + r.val)
    (?_ : win0_0.index t 1 * 1024 + 1 * j.val = j.val)) <;> simp [index_row t]

theorem win_3 (t : Fin cfg0.N) (r : Fin 512) (j : Fin 1024) : bd m c t (ix2 r j) = V m c main_arg3 (ix2 (row t r) j) := by
  unfold bd iblk
  rw [View.read_apply]
  refine congrArg (V m c main_arg3) (Lift.eq_ix2_of (i := ((cfg0.win 3).blk t).view.emb (ix2 r j)) (?_ : win0_3.index t 0 * 512 + 1 * r.val = t.val * 512 + r.val)
    (?_ : win0_3.index t 1 * 1024 + 1 * j.val = j.val)) <;> simp [index_row t]

theorem win_4 (t : Fin cfg0.N) (r : Fin 512) (j : Fin 768) : b4 m c t (ix2 r j) = V m c main_v15 (ix2 (row t r) j) := by
  unfold b4 iblk
  rw [View.read_apply]
  refine congrArg (V m c main_v15) (Lift.eq_ix2_of (i := ((cfg0.win 4).blk t).view.emb (ix2 r j)) (?_ : win0_4.index t 0 * 512 + 1 * r.val = t.val * 512 + r.val)
    (?_ : win0_4.index t 1 * 768 + 1 * j.val = j.val)) <;> simp [index_row t]

theorem win_5 (t : Fin cfg0.N) (r : Fin 512) (j : Fin 768) : b5 m c t (ix2 r j) = V m c main_v16 (ix2 (row t r) j) := by
  unfold b5 iblk
  rw [View.read_apply]
  refine congrArg (V m c main_v16) (Lift.eq_ix2_of (i := ((cfg0.win 5).blk t).view.emb (ix2 r j)) (?_ : win0_5.index t 0 * 512 + 1 * r.val = t.val * 512 + r.val)
    (?_ : win0_5.index t 1 * 768 + 1 * j.val = j.val)) <;> simp [index_row t]

theorem win_6 (t : Fin cfg0.N) (r : Fin 512) (j : Fin 512) : b6 m c t (ix2 r j) = V m c main_v17 (ix2 (row t r) j) := by
  unfold b6 iblk
  rw [View.read_apply]
  refine congrArg (V m c main_v17) (Lift.eq_ix2_of (i := ((cfg0.win 6).blk t).view.emb (ix2 r j)) (?_ : win0_6.index t 0 * 512 + 1 * r.val = t.val * 512 + r.val)
    (?_ : win0_6.index t 1 * 512 + 1 * j.val = j.val)) <;> simp [index_row t]

theorem win_7 (t : Fin cfg0.N) (r : Fin 512) (j : Fin 256) : b7 m c t (ix2 r j) = V m c main_v18 (ix2 (row t r) j) := by
  unfold b7 iblk
  rw [View.read_apply]
  refine congrArg (V m c main_v18) (Lift.eq_ix2_of (i := ((cfg0.win 7).blk t).view.emb (ix2 r j)) (?_ : win0_7.index t 0 * 512 + 1 * r.val = t.val * 512 + r.val)
    (?_ : win0_7.index t 1 * 256 + 1 * j.val = j.val)) <;> simp [index_row t]

theorem win_8 (t : Fin cfg0.N) (r : Fin 512) (j : Fin 768) : b8 m c t (ix2 r j) = V m c main_v19 (ix2 (row t r) j) := by
  unfold b8 iblk
  rw [View.read_apply]
  refine congrArg (V m c main_v19) (Lift.eq_ix2_of (i := ((cfg0.win 8).blk t).view.emb (ix2 r j)) (?_ : win0_8.index t 0 * 512 + 1 * r.val = t.val * 512 + r.val)
    (?_ : win0_8.index t 1 * 768 + 1 * j.val = j.val)) <;> simp [index_row t]

theorem win_9 (t : Fin cfg0.N) (r : Fin 512) (j : Fin 128) : b9 m c t (ix2 r j) = V m c main_v20 (ix2 (row t r) j) := by
  unfold b9 iblk
  rw [View.read_apply]
  refine congrArg (V m c main_v20) (Lift.eq_ix2_of (i := ((cfg0.win 9).blk t).view.emb (ix2 r j)) (?_ : win0_9.index t 0 * 512 + 1 * r.val = t.val * 512 + r.val)
    (?_ : win0_9.index t 1 * 128 + 1 * j.val = j.val)) <;> simp [index_row t]

theorem win_1 (t : Fin cfg0.N) (r : Fin 1) (j : Fin 1024) : bg m c t (ix2 r j) = V m c main_v21 (ix2 r j) := by
  unfold bg iblk
  rw [View.read_apply]
  refine congrArg (V m c main_v21) (Lift.eq_ix2_of (i := ((cfg0.win 1).blk t).view.emb (ix2 r j)) (?_ : win0_1.index t 0 * 1 + 1 * r.val = r.val)
    (?_ : win0_1.index t 1 * 1024 + 1 * j.val = j.val)) <;> simp [index_row t]

theorem win_2 (t : Fin cfg0.N) (r : Fin 1024) (j : Fin 3200) : bw m c t (ix2 r j) = V m c main_v7 (ix2 r j) := by
  unfold bw iblk
  rw [View.read_apply]
  refine congrArg (V m c main_v7) (Lift.eq_ix2_of (i := ((cfg0.win 2).blk t).view.emb (ix2 r j)) (?_ : win0_2.index t 0 * 1024 + 1 * r.val = r.val)
    (?_ : win0_2.index t 1 * 3200 + 1 * j.val = j.val)) <;> simp [index_row t]

/-! ## The six products are one -/

/-- A sum over the projection's columns, cut where the layout cuts them and taken in the layout's order. -/
theorem sum_cols (f : Fin 3104 → EReal) : ∑ k, f k = ∑ k : Fin 768, f ⟨k.val, by omega⟩ + ∑ k : Fin 768, f ⟨768 + k.val, by omega⟩
    + ∑ k : Fin 512, f ⟨1824 + k.val, by omega⟩ + ∑ k : Fin 256, f ⟨1536 + k.val, by omega⟩ + ∑ k : Fin 768, f ⟨2336 + k.val, by omega⟩
    + ∑ k : Fin 32, f ⟨1792 + k.val, by omega⟩ := by
  rw [Fin.sum_univ_two_halves 768 2336 rfl f, Fin.sum_univ_two_halves 768 1568 rfl, Fin.sum_univ_two_halves 256 1312 rfl,
    Fin.sum_univ_two_halves 32 1280 rfl, Fin.sum_univ_two_halves 512 768 rfl]
  simp only [← Nat.add_assoc, Nat.reduceAdd]
  ac_rfl

theorem dhT_eq (t : Fin cfg0.N) (r : Fin 512) (j : Fin 1024) :
    dhT m c t r j = ∑ k, aCt m c (ix2 (row t r) k) * aW m c (ix2 j k) := by
  obtain ⟨h4, h5, h6, h7, h8, h9, -⟩ := V_ct m c (row t r)
  rw [sum_cols]
  unfold dhT dhB
  simp only [win_2, win_4, win_5, win_6, win_7, win_8, win_9, h4, h5, h6, h7, h8, h9]
  have hr (k : Fin 128) : (if h : k.val < 32 then aCt m c (ix2 (row t r) ⟨1792 + k.val, by omega⟩) else 0) * (V m c main_v7 : Vec Ideal S1024x3200 .bf16) (ix2 j ⟨3072 + k.val, by omega⟩)
      = if h : k.val < 32 then aCt m c (ix2 (row t r) ⟨1792 + k.val, by omega⟩) * aW m c (ix2 j ⟨1792 + k.val, by omega⟩) else 0 := by
    split_ifs with h
    · rw [V_w, dif_neg (by dsimp only; omega), dif_neg (by dsimp only; omega), dif_neg (by dsimp only; omega), dif_neg (by dsimp only; omega), dif_pos (by dsimp only; omega)]
      exact congrArg (fun q => _ * aW m c (ix2 j q)) (Fin.ext (by simp only; omega))
    · exact zero_mul _
  have hs : ∑ k : Fin 128, (if h : k.val < 32 then aCt m c (ix2 (row t r) ⟨1792 + k.val, by omega⟩) * aW m c (ix2 j ⟨1792 + k.val, by omega⟩) else 0)
      = ∑ k : Fin 32, aCt m c (ix2 (row t r) ⟨1792 + k.val, by omega⟩) * aW m c (ix2 j ⟨1792 + k.val, by omega⟩) := by
    rw [Fin.sum_univ_two_halves 32 96 rfl]
    simp
  refine congrArg₂ (· + ·) (congrArg₂ (· + ·) (congrArg₂ (· + ·) (congrArg₂ (· + ·) (congrArg₂ (· + ·) ?_ ?_) ?_) ?_) ?_) ?_
  · refine Finset.sum_congr rfl fun k _ => congrArg _ ?_
    rw [V_w, dif_pos (by dsimp only; omega)]
  · refine Finset.sum_congr rfl fun k _ => congrArg _ ?_
    rw [V_w, dif_pos (by dsimp only; omega)]
  · refine Finset.sum_congr rfl fun k _ => congrArg _ ?_
    rw [V_w, dif_neg (by dsimp only; omega), dif_pos (by dsimp only; omega)]
    simp
  · refine Finset.sum_congr rfl fun k _ => congrArg _ ?_
    rw [V_w, dif_neg (by dsimp only; omega), dif_neg (by dsimp only; omega), dif_pos (by dsimp only; omega)]
    exact congrArg (fun q => aW m c (ix2 j q)) (Fin.ext (by simp only; omega))
  · refine Finset.sum_congr rfl fun k _ => congrArg _ ?_
    rw [V_w, dif_neg (by dsimp only; omega), dif_neg (by dsimp only; omega), dif_neg (by dsimp only; omega), dif_pos (by dsimp only; omega)]
    exact congrArg (fun q => aW m c (ix2 j q)) (Fin.ext (by simp only; omega))
  · rw [← hs]
    exact Finset.sum_congr rfl fun k _ => hr k

/-! ## The results -/

/-- The reciprocal root of row `r` of `x`. -/
def rR (x : Vec Ideal S8192x1024 .f32) (r : Fin 8192) : EReal :=
  Ideal.rsqrt ((∑ k, x (ix2 r k) * x (ix2 r k)) * Ideal.ofBits .f32 0x3A800000#32 + Ideal.ofBits .f32 0x358637BD#32)
/-- The cotangent of the normalised rows. -/
def dhR (w : Vec Ideal S1024x3104 .f32) (ct : Vec Ideal S8192x3104 .f32) (r : Fin 8192) (j : Fin 1024) : EReal :=
  ∑ k, ct (ix2 r k) * w (ix2 j k)
def dxR (x d : Vec Ideal S8192x1024 .f32) (g : Vec Ideal S1024 .f32) (w : Vec Ideal S1024x3104 .f32) (ct : Vec Ideal S8192x3104 .f32)
    (r : Fin 8192) (j : Fin 1024) : EReal :=
  rR x r * (dhR w ct r j * g (ix1 j) - x (ix2 r j) * rR x r *
    ((∑ k, dhR w ct r k * g (ix1 k) * (x (ix2 r k) * rR x r)) * Ideal.ofBits .f32 0x3A800000#32)) + d (ix2 r j)
def hTR (x : Vec Ideal S8192x1024 .f32) (g : Vec Ideal S1024 .f32) (r : Fin 8192) (j : Fin 1024) : EReal := x (ix2 r j) * rR x r * g (ix1 j)
def ggR (x : Vec Ideal S8192x1024 .f32) (w : Vec Ideal S1024x3104 .f32) (ct : Vec Ideal S8192x3104 .f32) (j : Fin 1024) : EReal :=
  ∑ r, dhR w ct r j * (x (ix2 r j) * rR x r)

theorem rB_eq (t : Fin cfg0.N) (r : Fin 512) : rB (bx m c t) r = rR (aX m c) (row t r) := by
  unfold rB rR; simp only [win_0]; rfl

theorem bg_eq (t : Fin cfg0.N) (j : Fin 1024) : bg m c t (ix2 0 j) = aG m c (ix1 j) :=
  (win_1 m c t 0 j).trans ((V_ct m c 0).2.2.2.2.2.2 j)

theorem arg_x : (V m c main_arg0 : Vec Ideal S8192x1024 .f32) = aX m c := V_main_arg0 m c
theorem arg_d : (V m c main_arg3 : Vec Ideal S8192x1024 .f32) = aD m c := V_main_arg3 m c

theorem dx_eq : (dats m 0 c).arrAt 10 cfg0.N = fun i => dxR (aX m c) (aD m c) (aG m c) (aW m c) (aCt m c) (i 0) (i 1) := by
  have he (t : Fin cfg0.N) (r : Fin 512) (j : Fin 1024) : ((cfg0.win 10).blk t).view.emb (ix2 r j) = ix2 (row t r) j :=
    Lift.eq_ix2_of (show win0_10.index t 0 * 512 + 1 * r.val = t.val * 512 + r.val by simp [index_row t])
      (show win0_10.index t 1 * 1024 + 1 * j.val = j.val by simp [index_row t])
  refine (dats m 0 c).arrAt_eq_of_cover 10 _ (fun t _ => ?_) fun i => ?_
  · rw [Value.flushed10]
    funext y
    obtain ⟨r, j, rfl⟩ : ∃ (r : Fin 512) (j : Fin 1024), y = ix2 r j := ⟨y 0, y 1, eq_ix2 y⟩
    rw [View.read_apply, he]
    refine (outs_dx m c t r j).trans ?_
    simp only [rB_eq, dhT_eq, bg_eq, win_0, win_3, arg_x, arg_d]
    rfl
  · obtain ⟨r, j, rfl⟩ : ∃ (r : Fin 8192) (j : Fin 1024), i = ix2 r j := ⟨i 0, i 1, eq_ix2 i⟩
    obtain ⟨t, r, rfl⟩ := exists_row r
    exact ⟨t, flush0_10 t, by rw [← he t r j]; exact Finset.mem_map_of_mem _ (Finset.mem_univ _)⟩

theorem hT_eq : (dats m 0 c).arrAt 11 cfg0.N = fun i => hTR (aX m c) (aG m c) (i 1) (i 0) := by
  have he (t : Fin cfg0.N) (r : Fin 512) (j : Fin 1024) : ((cfg0.win 11).blk t).view.emb (ix2 j r) = ix2 j (row t r) :=
    Lift.eq_ix2_of (show win0_11.index t 0 * 1024 + 1 * j.val = j.val by simp [index_row t])
      (show win0_11.index t 1 * 512 + 1 * r.val = t.val * 512 + r.val by simp [index_row t])
  refine (dats m 0 c).arrAt_eq_of_cover 11 _ (fun t _ => ?_) fun i => ?_
  · rw [Value.flushed11]
    funext y
    obtain ⟨j, r, rfl⟩ : ∃ (j : Fin 1024) (r : Fin 512), y = ix2 j r := ⟨y 0, y 1, eq_ix2 y⟩
    rw [View.read_apply, he]
    refine (outs_hT m c t r j).trans ?_
    simp only [rB_eq, bg_eq, win_0, arg_x]
    rfl
  · obtain ⟨j, r, rfl⟩ : ∃ (j : Fin 1024) (r : Fin 8192), i = ix2 j r := ⟨i 0, i 1, eq_ix2 i⟩
    obtain ⟨t, r, rfl⟩ := exists_row r
    exact ⟨t, flush0_11 t, by rw [← he t r j]; exact Finset.mem_map_of_mem _ (Finset.mem_univ _)⟩

theorem gg_sum (j : Fin 1024) : ∑ s : Fin 16, ggT m c ⟨s.val, by have : cfg0.N = 16 := N_0; omega⟩ j = ggR (aX m c) (aW m c) (aCt m c) j := by
  unfold ggR
  rw [Fin.sum_univ_tiles 16 512 rfl]
  simp only [ggT, rB_eq, dhT_eq, win_0, arg_x]
  exact Finset.sum_congr rfl fun s _ => Finset.sum_congr rfl fun r _ => rfl

theorem gg_last (j : Fin 1024) (n : ℕ) (h : n < cfg0.N) (hn : n = 15) :
    ((outsAt0 m c n h).2.2 : Vec Ideal S1x1024 .f32) (ix2 0 j) = ggR (aX m c) (aW m c) (aCt m c) j := by
  have hg (N : ℕ) (hN : N = n + 1) : ((outsAt0 m c n h).2.2 : Vec Ideal S1x1024 .f32) (ix2 0 j) = ∑ s : Fin N, ggT m c ⟨s.val, by omega⟩ j := by
    subst hN
    exact outs_gg m c j n h
  have h1 := hg 16 (by omega)
  have h2 := gg_sum m c j
  rw [h1]
  exact h2

theorem gg_eq : (dats m 0 c).arrAt 12 cfg0.N = fun i => ggR (aX m c) (aW m c) (aCt m c) (i 1) := by
  have he (t : Fin cfg0.N) (j : Fin 1024) : ((cfg0.win 12).blk t).view.emb (ix2 0 j) = ix2 0 j :=
    Lift.eq_ix2_of (show win0_12.index t 0 * 1 + 1 * 0 = 0 by simp [index_row t])
      (show win0_12.index t 1 * 1024 + 1 * j.val = j.val by simp [index_row t])
  have hN : cfg0.N = 16 := N_0
  refine (dats m 0 c).arrAt_eq_of_cover 12 _ (fun t hf => ?_) fun i => ?_
  · have ht : t.val = 15 := by have := (flush0_12 t).mp hf; have := t.isLt; omega
    rw [Value.flushed12]
    funext y
    obtain ⟨r, j, rfl⟩ : ∃ (r : Fin 1) (j : Fin 1024), y = ix2 r j := ⟨y 0, y 1, eq_ix2 y⟩
    obtain rfl : r = 0 := Subsingleton.elim _ _
    rw [View.read_apply, he]
    refine (gg_last m c j t.val t.isLt ht).trans ?_
    generalize ggR (aX m c) (aW m c) (aCt m c) = f
    rfl
  · obtain ⟨r, j, rfl⟩ : ∃ (r : Fin 1) (j : Fin 1024), i = ix2 r j := ⟨i 0, i 1, eq_ix2 i⟩
    obtain rfl : r = 0 := Subsingleton.elim _ _
    have h15 : 15 < cfg0.N := by omega
    exact ⟨⟨15, h15⟩, (flush0_12 _).mpr rfl, by rw [← he ⟨15, h15⟩ j]; exact Finset.mem_map_of_mem _ (Finset.mem_univ _)⟩

end Cert.ProjBwdIdeal.Val
-- ==== Proof.Rows.lean ====
/-
  One row of a root-mean-square norm and of its gradient, and the gate, over the extended reals.
-/
module
public import proofs.«01_k».proof.Proof.Lift
@[expose] public section
noncomputable section
namespace Cert.Rows
open Idealize.ShloMosaic

/-- The reciprocal root of a row, `c` the reciprocal of its length. -/
def rs (c : EReal) {n : ℕ} (y : Fin n → EReal) : EReal := Ideal.rsqrt ((∑ k, y k * y k) * c + Ideal.ofBits .f32 0x358637BD#32)

/-- The gradient of a normalised row's input, at the cotangent `t` of the normalised row. -/
def rb (c : EReal) {n : ℕ} (y t : Fin n → EReal) (j : Fin n) : EReal :=
  rs c y * (t j - y j * rs c y * ((∑ k, t k * (y k * rs c y)) * c))

/-- The logistic function, in the kernel's form. -/
def sg (z : EReal) : EReal := Ideal.div (Ideal.ofBits .f32 0x3F800000#32) (Ideal.ofBits .f32 0x3F800000#32 + Ideal.exp (Ideal.ofBits .f32 0x00000000#32 - z))

/-- The derivative of the gate `z * sg z`. -/
def dsl (z : EReal) : EReal := sg z * (Ideal.ofBits .f32 0x3F800000#32 + z * (Ideal.ofBits .f32 0x3F800000#32 - sg z))

abbrev c256 : EReal := Ideal.ofBits .f32 0x3B800000#32
abbrev c512 : EReal := Ideal.ofBits .f32 0x3B000000#32

open Cert.Lift

theorem word_one : (Ideal.ofBits .f32 0x3F800000#32 : EReal) = 1 := by
  simp [Ideal.ofBits, Ideal.ieee, -EReal.coe_mul]
  exact mod_cast (by norm_num : (8388608 : ℝ) * ((2 : ℝ) ^ 23)⁻¹ = 1)
theorem word_zero : (Ideal.ofBits .f32 0x00000000#32 : EReal) = 0 := by
  simp [Ideal.ofBits, Ideal.ieee]
theorem word_c256 : c256 = (((256 : ℝ)⁻¹ : ℝ) : EReal) := by
  simp [c256, Ideal.ofBits, Ideal.ieee, -EReal.coe_mul]
  norm_num
theorem word_c512 : c512 = (((512 : ℝ)⁻¹ : ℝ) : EReal) := by
  simp [c512, Ideal.ofBits, Ideal.ieee, -EReal.coe_mul]
  norm_num
theorem word_256 : (Ideal.ofBits .f32 0x43800000#32 : EReal) = ((256 : ℝ) : EReal) := by
  simp [Ideal.ofBits, Ideal.ieee, -EReal.coe_mul]
  norm_num
theorem word_512 : (Ideal.ofBits .f32 0x44000000#32 : EReal) = ((512 : ℝ) : EReal) := by
  simp [Ideal.ofBits, Ideal.ieee, -EReal.coe_mul]
  norm_num

/-- The logistic function in the reference's form. -/
theorem logi (z : EReal) : Ideal.div 1 (1 + Ideal.exp (-z)) = sg z := by
  unfold sg
  rw [word_one, word_zero, zero_sub]

/-- The logistic function over the reals. -/
def sgm (z : ℝ) : ℝ := (1 + Real.exp (-z))⁻¹

theorem sg_real (z : ℝ) : sg (z : EReal) = ((sgm z : ℝ) : EReal) := by
  rw [← logi, ← EReal.coe_neg]
  show Ideal.div 1 (1 + ((Real.exp (-z) : ℝ) : EReal)) = _
  rw [← EReal.coe_one, ← EReal.coe_add, div_real (by positivity), one_mul]
  rfl

/-- The norm's gradient in one row, over the reals: the quotient rule's form is the reference's, the projected form the call's. -/
theorem rms_bwd {n : ℕ} (N : ℝ) (hN : 0 < N) (X T : Fin n → ℝ) (j : Fin n) :
    let q := under N (∑ k, X k * X k)
    T j * (√q)⁻¹ + X j * ((∑ k, X k * T k) * (-2⁻¹ * ((√q)⁻¹ * q⁻¹)) * N⁻¹) + (∑ k, X k * T k) * (-2⁻¹ * ((√q)⁻¹ * q⁻¹)) * N⁻¹ * X j
      = (√q)⁻¹ * (T j - X j * (√q)⁻¹ * ((∑ k, T k * (X k * (√q)⁻¹)) * N⁻¹)) := by
  intro q
  have hq : 0 < q := under_pos hN X
  have h1 : ∑ k, T k * (X k * (√q)⁻¹) = (∑ k, X k * T k) * (√q)⁻¹ := by
    rw [Finset.sum_mul]; exact Finset.sum_congr rfl fun k _ => by ring
  rw [h1, ← inv_sqrt_sq hq]
  ring

/-- `rs` with a division by the length for the product by its reciprocal. -/
theorem rs_div {n : ℕ} {N : ℝ} (hN : N ≠ 0) {c Nw : EReal} (hc : c = ((N⁻¹ : ℝ) : EReal)) (hw : Nw = ((N : ℝ) : EReal)) (y : Fin n → EReal) :
    Ideal.rsqrt (Ideal.div (∑ k, y k * y k) Nw + Ideal.ofBits .f32 0x358637BD#32) = rs c y := by
  subst hc hw
  unfold rs
  rw [Ideal.div_coe hN, one_div]

/-- The reference's form of a row of the norm's gradient, at finite numbers. -/
theorem rb_ref {n : ℕ} {N : ℝ} (hN : 0 < N) {c Nw : EReal} (hc : c = ((N⁻¹ : ℝ) : EReal)) (hw : Nw = ((N : ℝ) : EReal))
    {y t : Fin n → EReal} {Y T : Fin n → ℝ} (hy : ∀ k, y k = ((Y k : ℝ) : EReal)) (ht : ∀ k, t k = ((T k : ℝ) : EReal)) (j : Fin n) :
    t j * Ideal.rsqrt (Ideal.div (∑ k, y k * y k) Nw + Ideal.ofBits .f32 0x358637BD#32)
      + y j * (∑ _ : Fin 1, Ideal.div ((∑ k, y k * t k) * (Ideal.ofBits .f32 0xBF000000#32 *
          Ideal.div (Ideal.rsqrt (Ideal.div (∑ k, y k * y k) Nw + Ideal.ofBits .f32 0x358637BD#32)) (Ideal.div (∑ k, y k * y k) Nw + Ideal.ofBits .f32 0x358637BD#32))) Nw)
      + (∑ _ : Fin 1, Ideal.div ((∑ k, y k * t k) * (Ideal.ofBits .f32 0xBF000000#32 *
          Ideal.div (Ideal.rsqrt (Ideal.div (∑ k, y k * y k) Nw + Ideal.ofBits .f32 0x358637BD#32)) (Ideal.div (∑ k, y k * y k) Nw + Ideal.ofBits .f32 0x358637BD#32))) Nw) * y j
      = rb c y t j := by
  obtain rfl : y = fun k => ((Y k : ℝ) : EReal) := funext hy
  obtain rfl : t = fun k => ((T k : ℝ) : EReal) := funext ht
  subst hc hw
  have hq : 0 < under N (∑ k, Y k * Y k) := under_pos hN _
  unfold rb rs
  simp only [word_eps, word_neg_half, ← EReal.coe_mul, coe_sum, div_real hN.ne', ← EReal.coe_add]
  simp only [show (∑ k, Y k * Y k) * N⁻¹ + eps = under N (∑ k, Y k * Y k) from rfl, rsqrt_pos hq, div_real hq.ne', ← EReal.coe_mul, coe_sum,
    div_real hN.ne', ← EReal.coe_sub]
  have key := rms_bwd N hN Y T j
  simp only at key
  rw [← key]
  simp only [Finset.univ_unique, Finset.sum_singleton, EReal.coe_add]

/-- A row of the norm's gradient at finite numbers is finite. -/
theorem rb_real {n : ℕ} {N : ℝ} (hN : 0 < N) {c : EReal} (hc : c = ((N⁻¹ : ℝ) : EReal))
    {y t : Fin n → EReal} {Y T : Fin n → ℝ} (hy : ∀ k, y k = ((Y k : ℝ) : EReal)) (ht : ∀ k, t k = ((T k : ℝ) : EReal)) (j : Fin n) :
    ∃ x : ℝ, rb c y t j = (x : EReal) := by
  obtain rfl : y = fun k => ((Y k : ℝ) : EReal) := funext hy
  obtain rfl : t = fun k => ((T k : ℝ) : EReal) := funext ht
  subst hc
  have hq : 0 < under N (∑ k, Y k * Y k) := under_pos hN _
  unfold rb rs
  simp only [word_eps, ← EReal.coe_mul, coe_sum, ← EReal.coe_add]
  simp only [show (∑ k, Y k * Y k) * N⁻¹ + eps = under N (∑ k, Y k * Y k) from rfl, rsqrt_pos hq, ← EReal.coe_mul, coe_sum, ← EReal.coe_sub]
  exact ⟨_, rfl⟩

end Cert.Rows
-- ==== Proof.ProjRef.lean ====
/-
  The reference of the input projection's backward call: its results, and that they are the call's.
-/
module
public import proofs.«01_k».proof.Proof.Gen.ProjRefIdeal.Read
public import proofs.«01_k».proof.Proof.ProjKernel
public import proofs.«01_k».proof.Proof.Rows
@[expose] public section
noncomputable section
namespace Cert.ProjRefIdeal.Val
open Idealize.ShloMosaic Idealize.SL.Sem Cert.ProjRefIdeal Cert.ProjRefIdeal.Gen Cert.ProjRefIdeal.Read
open Cert.ProjBwdIdeal.Val (dxR hTR ggR rR dhR)
open Cert.Lift Cert.Rows

variable (x d : Vec Ideal S8192x1024 .f32) (g : Vec Ideal S1024 .f32) (w : Vec Ideal S1024x3104 .f32) (ct : Vec Ideal S8192x3104 .f32)

theorem hT_ref (r : Fin 8192) (j : Fin 1024) : val_main_v55 x g (ix2 j r) = hTR x g r j := by
  simp only [val_main_v55, val_main_v54, val_main_v53, val_main_v52, val_main_v51, val_main_v50, val_main_v49, val_main_v48, val_main_v47, val_main_v46, val_main_cst_10, val_main_v45, val_main_v44, val_main_cst_9, val_main_v43, val_main_v42, val_main_cst_8, val_main_v41]
  pointwise
  rw [word_1024', Ideal.div_coe (by norm_num)]
  unfold hTR rR
  rw [word_1024, one_div]

theorem gg_ref (j : Fin 1024) : val_main_v56 x w ct (ix2 0 j) = ggR x w ct j := by
  simp only [val_main_v56, val_main_v25, val_main_cst_4, val_main_v22, val_main_v21, val_main_cst_3, val_main_v20, val_main_v19, val_main_v12, val_main_v11, val_main_v7, val_main_v6, val_main_v5, val_main_cst_1, val_main_v4, val_main_v3, val_main_cst_0, val_main_v2, val_main_v1, val_main_cst, val_main_v0]
  pointwise
  simp only [word_1024', Ideal.div_coe (show (1024 : ℝ) ≠ 0 by norm_num)]
  unfold ggR rR dhR
  simp only [word_1024, one_div]
  simp only [Finset.univ_unique, Finset.sum_singleton]
  exact Finset.sum_congr rfl fun k _ => mul_comm _ _

theorem dx_ref {X : S8192x1024.Idx → ℝ} {G : S1024.Idx → ℝ} {W : S1024x3104.Idx → ℝ} {C : S8192x3104.Idx → ℝ}
    (hx : x = fun i => ((X i : ℝ) : EReal)) (hg : g = fun i => ((G i : ℝ) : EReal)) (hw : w = fun i => ((W i : ℝ) : EReal))
    (hc : ct = fun i => ((C i : ℝ) : EReal)) (r : Fin 8192) (j : Fin 1024) :
    val_main_v40 x g w d ct (ix2 r j) = dxR x d g w ct r j := by
  simp only [val_main_v40, val_main_v39, val_main_v38, val_main_v37, val_main_v36, val_main_v35, val_main_cst_7, val_main_v34, val_main_v33, val_main_cst_6, val_main_v32, val_main_v31, val_main_v30, val_main_v29, val_main_v28, val_main_v27, val_main_cst_5, val_main_v26, val_main_v24, val_main_v23, val_main_v19, val_main_v13, val_main_v10, val_main_v9, val_main_cst_2, val_main_v8, val_main_v7, val_main_v6, val_main_v5, val_main_cst_1, val_main_v4, val_main_v3, val_main_cst_0, val_main_v2, val_main_v1, val_main_cst, val_main_v0]
  pointwise
  unfold dxR rR dhR
  subst hx hg hw hc
  have hq : 0 < under 1024 (∑ k, X (ix2 r k) * X (ix2 r k)) := under_pos (by norm_num) _
  simp only [word_1024', word_1024, word_eps, word_neg_half, ← EReal.coe_mul, coe_sum, div_real (show (1024 : ℝ) ≠ 0 by norm_num), ← EReal.coe_add]
  simp only [show (∑ k, X (ix2 r k) * X (ix2 r k)) * (1024 : ℝ)⁻¹ + eps = under 1024 (∑ k, X (ix2 r k) * X (ix2 r k)) from rfl, rsqrt_pos hq, div_real hq.ne', ← EReal.coe_mul, coe_sum,
    div_real (show (1024 : ℝ) ≠ 0 by norm_num), ← EReal.coe_sub]
  have key := rms_bwd 1024 (by norm_num) (fun k => X (ix2 r k)) (fun k => (∑ x_1, C (ix2 r x_1) * W (ix2 k x_1)) * G (ix1 k)) j
  simp only at key
  rw [← key]
  simp only [Finset.univ_unique, Finset.sum_singleton, EReal.coe_add]
  ac_rfl

end Cert.ProjRefIdeal.Val
-- ==== Proof.ProjClaim.lean ====
/-
  The claims of the input projection's backward call.
-/
module
public import proofs.«01_k».proof.Defs
public import proofs.«01_k».proof.Proof.Gen.ProjBwd.Frame
public import proofs.«01_k».proof.Proof.Gen.Pre_finite_proj
public import proofs.«01_k».proof.Proof.ProjRef
public import Idealize.ShloMosaic.Lib.Claim
@[expose] public section
noncomputable section
namespace Cert.ProjClaim
open Idealize.ShloMosaic Idealize.SL.Sem
open Cert.ProjBwdIdeal.Val Cert.Lift

theorem frame_kernel : Cert.quiescent_ProjBwd := fun m ρ _ => Cert.ProjBwd.Gen.frame m ρ
theorem frame_ideal : Cert.quiescent_ProjBwdIdeal := fun m ρ _ => Cert.ProjBwdIdeal.Gen.frame m ρ
theorem frame_ideal_pre : Cert.quiescent_ProjBwdIdeal_pre_finite_proj := fun m ρ _ => Cert.ProjBwdIdeal.Gen.frame m ρ

/-- The reference's run leaves its arguments and its counters. -/
theorem frame_ref : Cert.quiescent_ProjRefIdeal := fun m ρ _ =>
  (θ_run Cert.ProjRefIdeal.defs _ _).mono (fun r h => ⟨fun c => (h c).2.2.2, sem_eq_zero_of_no_sems (by decide) r.2⟩)
    (Cert.ProjRefIdeal.Value.run m ρ)
theorem frame_ref_pre : Cert.quiescent_ProjRefIdeal_pre_finite_proj := fun m ρ _ => frame_ref m ρ trivial

/-- The call's three results are the reference's, at finite input rows, gains, weights and cotangents. -/
theorem value : Cert.algebraic_ProjBwdIdeal_ProjRefIdeal_pre_finite_proj := by
  intro m g m' g' hpre hargs
  refine ⟨fun c => (Cert.ProjBwdIdeal.Gen.dats m 0 c).arrAt 10 Cert.ProjBwdIdeal.cfg0.N, fun c => (Cert.ProjBwdIdeal.Gen.dats m 0 c).arrAt 11 Cert.ProjBwdIdeal.cfg0.N,
    fun c => (Cert.ProjBwdIdeal.Gen.dats m 0 c).arrAt 12 Cert.ProjBwdIdeal.cfg0.N, Cert.ProjBwdIdeal.Value.run_blocks m g,
    (θ_run Cert.ProjRefIdeal.defs _ _).mono (fun r h c => ?_) (Cert.ProjRefIdeal.Value.run m' g')⟩
  obtain ⟨h0, h1, h2, hk⟩ := h c
  obtain ⟨a0, a1, a2, a3, a4⟩ := hargs c
  obtain ⟨p0, p1, p2, p4⟩ := hpre c
  refine ⟨(h0.trans (Cert.ProjRefIdeal.Read.val_main_v40_eq _ _)).trans ?_, (h1.trans (Cert.ProjRefIdeal.Read.val_main_v55_eq _ _)).trans ?_, (h2.trans (Cert.ProjRefIdeal.Read.val_main_v56_eq _ _ _)).trans ?_, hk⟩
  · rw [a0, a1, a2, a3, a4]
    refine Eq.trans ?_ (dx_eq m c).symm
    obtain ⟨X, hX⟩ := real_of_lt_inf (fun _ => rfl) p0
    obtain ⟨G, hG⟩ := real_of_lt_inf (fun _ => rfl) p1
    obtain ⟨W, hW⟩ := real_of_lt_inf (fun _ => rfl) p2
    obtain ⟨C, hC⟩ := real_of_lt_inf (fun _ => rfl) p4
    funext i
    obtain ⟨r, j, rfl⟩ : ∃ r j, i = ValueIdx.ix2 r j := ⟨i 0, i 1, ValueIdx.eq_ix2 i⟩
    exact Cert.ProjRefIdeal.Val.dx_ref _ _ _ _ _ hX hG hW hC r j
  · rw [a0, a1]
    refine Eq.trans ?_ (hT_eq m c).symm
    funext i
    obtain ⟨r, j, rfl⟩ : ∃ r j, i = ValueIdx.ix2 r j := ⟨i 0, i 1, ValueIdx.eq_ix2 i⟩
    exact Cert.ProjRefIdeal.Val.hT_ref _ _ j r
  · rw [a0, a2, a4]
    refine Eq.trans ?_ (gg_eq m c).symm
    funext i
    obtain ⟨r, j, rfl⟩ : ∃ r j, i = ValueIdx.ix2 r j := ⟨i 0, i 1, ValueIdx.eq_ix2 i⟩
    obtain rfl : r = 0 := Subsingleton.elim _ _
    exact Cert.ProjRefIdeal.Val.gg_ref _ _ _ j

end Cert.ProjClaim
-- ==== Proof.PostKernel.lean ====
/-
  The backward call of the branch norms, the attention's gate and the output product: what its seven results hold, index by index,
  over the program's arguments.
-/
module
public import proofs.«01_k».proof.Proof.Gen.PostBwdIdeal.Value
public import Idealize.ShloMosaic.Lib.Pipeline.ReadBack
public import proofs.«01_k».proof.Proof.Rows
@[expose] public section
noncomputable section
namespace Cert.PostBwdIdeal.Val
open Idealize.ShloMosaic Idealize.SL.Sem Cert.PostBwdIdeal Cert.PostBwdIdeal.Gen
open Idealize.ShloMosaic.StableHlo Cert.Rows

section Payloads
variable (d : Vec Ideal S512x1024 .f32) (yc ys : Vec Ideal S512x256 .f32) (o z ls : Vec Ideal S512x512 .f32) (g : Vec Ideal S1x1024 .f32)
  (w : Vec Ideal S1024x1024 .bf16)

abbrev g1 := View.ld g (Rect.unit ![0, 0] ![1, 256] inb_S1x1024_S1x256_0_0)
abbrev g2 := View.ld g (Rect.unit ![0, 256] ![1, 512] inb_S1x1024_S1x512_0_256)
abbrev g3 := View.ld g (Rect.unit ![0, 768] ![1, 256] inb_S1x1024_S1x256_0_768)
abbrev w1 := View.ld w (Rect.unit ![0, 0] ![256, 1024] inb_S1024x1024_S256x1024_0_0)
abbrev w2 := View.ld w (Rect.unit ![256, 0] ![512, 1024] inb_S1024x1024_S512x1024_256_0)
abbrev w3 := View.ld w (Rect.unit ![768, 0] ![256, 1024] inb_S1024x1024_S256x1024_768_0)

/-- The cotangent of the normalised, scaled rows in one row block. -/
def dyB (r : Fin 512) (k : Fin 1024) : EReal := ∑ e, d (ix2 r e) * w (ix2 k e)
/-- A row of the gated attention output. -/
def ymB (r : Fin 512) (j : Fin 512) : EReal := o (ix2 r j) * (z (ix2 r j) * sg (z (ix2 r j)))
/-- The gradient of the gated attention output. -/
def dB (r : Fin 512) (j : Fin 512) : EReal :=
  rb c512 (ymB o z r) (fun k => dyB d w r ⟨256 + k.val, by omega⟩ * g (ix2 0 ⟨256 + k.val, by omega⟩)) j

theorem dyc_apply (r : Fin 512) (j : Fin 256) :
    k0_pay15 (k0_pay4 d) (k0_pay8 yc) (k0_pay9 yc) (k0_pay10 (g1 g)) (w1 w) (ix2 r j)
      = rb c256 (fun k => yc (ix2 r k)) (fun k => dyB d w r ⟨k.val, by omega⟩ * g (ix2 0 ⟨k.val, by omega⟩)) j := by
  unfold g1 w1 rb rs dyB
  unfold_payloads
  pointwise

theorem dys_apply (r : Fin 512) (j : Fin 256) :
    k0_pay29 (k0_pay4 d) (k0_pay23 ys) (k0_pay24 ys) (k0_pay25 (g3 g)) (w3 w) (ix2 r j)
      = rb c256 (fun k => ys (ix2 r k)) (fun k => dyB d w r ⟨768 + k.val, by omega⟩ * g (ix2 0 ⟨768 + k.val, by omega⟩)) j := by
  unfold g3 w3 rb rs dyB
  unfold_payloads
  pointwise

abbrev pD := k0_pay22 (k0_pay4 d) (k0_pay16 (k0_pay7 o z)) (k0_pay17 (k0_pay7 o z)) (k0_pay18 (g2 g)) (w2 w)

theorem D_apply (r : Fin 512) (j : Fin 512) : pD d o z g w (ix2 r j) = dB d o z g w r j := by
  unfold pD g2 w2 dB ymB rb rs dyB sg
  unfold_payloads
  pointwise

theorem do_apply (D : Vec Ideal S512x512 .f32) (r : Fin 512) (j : Fin 512) :
    k0_pay32 (k0_pay6 z) D (ix2 r j) = D (ix2 r j) * (z (ix2 r j) * sg (z (ix2 r j))) := by
  unfold sg
  unfold_payloads
  pointwise

theorem dzm_apply (D : Vec Ideal S512x512 .f32) (r : Fin 512) (j : Fin 512) :
    k0_pay33 o (k0_pay5 z) D (ix2 r j) = D (ix2 r j) * o (ix2 r j) * dsl (z (ix2 r j)) := by
  unfold dsl sg
  unfold_payloads
  pointwise

theorem P_apply (D : Vec Ideal S512x512 .f32) (r : Fin 512) (j : Fin 512) :
    k0_pay34 o (k0_pay31 (k0_pay6 z) D) (ix2 r j) = D (ix2 r j) * (z (ix2 r j) * sg (z (ix2 r j))) * o (ix2 r j) := by
  unfold sg
  unfold_payloads
  pointwise

theorem gg1_apply (old : Vec Ideal S1x256 .f32) (j : Fin 256) :
    k0_pay14 (k0_pay4 d) (k0_pay9 yc) (w1 w) old (ix2 0 j)
      = old (ix2 0 j) + ∑ r, dyB d w r ⟨j.val, by omega⟩ * (yc (ix2 r j) * rs c256 (fun k => yc (ix2 r k))) := by
  unfold w1 rs dyB
  unfold_payloads
  pointwise

theorem gg2_apply (old : Vec Ideal S1x512 .f32) (j : Fin 512) :
    k0_pay21 (k0_pay4 d) (k0_pay17 (k0_pay7 o z)) (w2 w) old (ix2 0 j)
      = old (ix2 0 j) + ∑ r, dyB d w r ⟨256 + j.val, by omega⟩ * (ymB o z r j * rs c512 (ymB o z r)) := by
  unfold w2 ymB rs dyB sg
  unfold_payloads
  pointwise

theorem gg3_apply (old : Vec Ideal S1x256 .f32) (j : Fin 256) :
    k0_pay28 (k0_pay4 d) (k0_pay24 ys) (w3 w) old (ix2 0 j)
      = old (ix2 0 j) + ∑ r, dyB d w r ⟨768 + j.val, by omega⟩ * (ys (ix2 r j) * rs c256 (fun k => ys (ix2 r k))) := by
  unfold w3 rs dyB
  unfold_payloads
  pointwise

theorem gw_apply (old : Vec Ideal S1024x1024 .f32) (y : Vec Ideal S512x1024 .bf16) (k e : Fin 1024) :
    k0_pay30 (k0_pay4 d) old y (ix2 k e) = old (ix2 k e) + ∑ r, y (ix2 r k) * d (ix2 r e) := by
  unfold_payloads
  pointwise

theorem y1_apply (r : Fin 512) (j : Fin 256) : k0_pay12 (k0_pay11 yc (g1 g)) (ix2 r j)
    = yc (ix2 r j) * rs c256 (fun k => yc (ix2 r k)) * g (ix2 0 ⟨j.val, by omega⟩) := by
  unfold g1 rs
  unfold_payloads
  pointwise

theorem y2_apply (r : Fin 512) (j : Fin 512) : k0_pay19 (k0_pay7 o z) (g2 g) (ix2 r j)
    = ymB o z r j * rs c512 (ymB o z r) * g (ix2 0 ⟨256 + j.val, by omega⟩) := by
  unfold g2 ymB rs sg
  unfold_payloads
  pointwise

theorem y3_apply (r : Fin 512) (j : Fin 256) : k0_pay26 ys (g3 g) (ix2 r j)
    = ys (ix2 r j) * rs c256 (fun k => ys (ix2 r k)) * g (ix2 0 ⟨768 + j.val, by omega⟩) := by
  unfold g3 rs
  unfold_payloads
  pointwise

theorem head_apply (r j : Fin 512) : k0_pay35 (ix2 r j) = BitVec.ofNat 32 (j.val / 64) := by
  unfold_payloads
  pointwise
  revert j
  decide +kernel

theorem sel_bool (q : Bool) (a b : EReal) : Scalar.select (BitVec.ofBool q) a b = if q then a else b := by
  cases q <;> rfl

theorem cmp_head : ∀ (j : Fin 512) (k : Fin 8), IntOp.cmpi .eq (BitVec.ofNat 32 (j.val / 64)) (BitVec.ofNat 32 k.val) = BitVec.ofBool (decide (j.val / 64 = k.val)) := by
  decide +kernel

theorem sel_head (k : Fin 8) (j : Fin 512) (a b : EReal) :
    Scalar.select (IntOp.cmpi .eq (BitVec.ofNat 32 (j.val / 64)) (BitVec.ofNat 32 k.val)) a b = if j.val / 64 = k.val then a else b := by
  rw [cmp_head, sel_bool]
  simp

theorem cmp_half : ∀ j : Fin 512, IntOp.cmpi .slt (Scalar.select (IntOp.andi (IntOp.xori (IntOp.cmpi .slt
        (IntOp.remsi .vector (BitVec.ofNat 32 j.val) (Scalar.select (Scalar.cmpi .eq 64#32 0#32) 1#32 64#32)) 0#32)
        (Scalar.cmpi .slt (Scalar.select (Scalar.cmpi .eq 64#32 0#32) 1#32 64#32) 0#32))
        (IntOp.cmpi .ne (IntOp.remsi .vector (BitVec.ofNat 32 j.val) (Scalar.select (Scalar.cmpi .eq 64#32 0#32) 1#32 64#32)) 0#32))
        (IntOp.addi (IntOp.remsi .vector (BitVec.ofNat 32 j.val) (Scalar.select (Scalar.cmpi .eq 64#32 0#32) 1#32 64#32))
          (Scalar.select (Scalar.cmpi .eq 64#32 0#32) 1#32 64#32))
        (IntOp.remsi .vector (BitVec.ofNat 32 j.val) (Scalar.select (Scalar.cmpi .eq 64#32 0#32) 1#32 64#32))) 32#32
      = BitVec.ofBool (decide (j.val % 64 < 32)) := by
  decide +kernel

/-- The sum of a head's columns. -/
theorem sum_head (f : Fin 512 → EReal) (k : Fin 8) : (∑ x, if x.val / 64 = k.val then f x else 0) = ∑ l : Fin 64, f ⟨k.val * 64 + l.val, by omega⟩ := by
  rw [Fin.sum_univ_tiles 8 64 rfl, Finset.sum_eq_single k]
  · refine Finset.sum_congr rfl fun l _ => if_pos ?_
    have := l.isLt
    show (k.val * 64 + l.val) / 64 = k.val
    omega
  · intro b _ hb
    refine Finset.sum_eq_zero fun l _ => if_neg ?_
    have := l.isLt
    have : b.val ≠ k.val := fun h => hb (Fin.ext h)
    show ¬ (b.val * 64 + l.val) / 64 = k.val
    omega
  · simp

theorem st_apply (P : Vec Ideal S512x512 .f32) (r : Fin 512) (j : Fin 512) :
    k0_pay1 (k0_pay39 P k0_pay35 (k0_pay36 P k0_pay35 (FloatOps.ofBits .f32 0#32)) (k0_pay37 k0_pay35) (k0_pay38 P k0_pay35)) (k0_pay40 k0_pay35)
      (k0_pay41 P k0_pay35) ls (ix2 r j) = if j.val % 64 < 32 then ls (ix2 r j) else ∑ l : Fin 64, P (ix2 r ⟨(j.val / 64) * 64 + l.val, by omega⟩) := by
  generalize hh : (k0_pay35 : IVec S512x512 32) = h
  have hh (r j : Fin 512) : h (ix2 r j) = BitVec.ofNat 32 (j.val / 64) := by rw [← hh]; exact head_apply r j
  unfold_payloads
  pointwise
  simp only [hh]
  rw [cmp_half, sel_bool]
  simp only [
    show ∀ j : Fin 512, ∀ a b : EReal, Scalar.select (IntOp.cmpi .eq (BitVec.ofNat 32 (j.val / 64)) 7#32) a b = if j.val / 64 = 7 then a else b from fun j => sel_head 7 j,
    show ∀ j : Fin 512, ∀ a b : EReal, Scalar.select (IntOp.cmpi .eq (BitVec.ofNat 32 (j.val / 64)) 6#32) a b = if j.val / 64 = 6 then a else b from fun j => sel_head 6 j,
    show ∀ j : Fin 512, ∀ a b : EReal, Scalar.select (IntOp.cmpi .eq (BitVec.ofNat 32 (j.val / 64)) 5#32) a b = if j.val / 64 = 5 then a else b from fun j => sel_head 5 j,
    show ∀ j : Fin 512, ∀ a b : EReal, Scalar.select (IntOp.cmpi .eq (BitVec.ofNat 32 (j.val / 64)) 4#32) a b = if j.val / 64 = 4 then a else b from fun j => sel_head 4 j,
    show ∀ j : Fin 512, ∀ a b : EReal, Scalar.select (IntOp.cmpi .eq (BitVec.ofNat 32 (j.val / 64)) 3#32) a b = if j.val / 64 = 3 then a else b from fun j => sel_head 3 j,
    show ∀ j : Fin 512, ∀ a b : EReal, Scalar.select (IntOp.cmpi .eq (BitVec.ofNat 32 (j.val / 64)) 2#32) a b = if j.val / 64 = 2 then a else b from fun j => sel_head 2 j,
    show ∀ j : Fin 512, ∀ a b : EReal, Scalar.select (IntOp.cmpi .eq (BitVec.ofNat 32 (j.val / 64)) 1#32) a b = if j.val / 64 = 1 then a else b from fun j => sel_head 1 j,
    show ∀ j : Fin 512, ∀ a b : EReal, Scalar.select (IntOp.cmpi .eq (BitVec.ofNat 32 (j.val / 64)) 0#32) a b = if j.val / 64 = 0 then a else b from fun j => sel_head 0 j]
  have s7 := sum_head (fun x => P (ix2 r x)) 7
  have s6 := sum_head (fun x => P (ix2 r x)) 6
  have s5 := sum_head (fun x => P (ix2 r x)) 5
  have s4 := sum_head (fun x => P (ix2 r x)) 4
  have s3 := sum_head (fun x => P (ix2 r x)) 3
  have s2 := sum_head (fun x => P (ix2 r x)) 2
  have s1 := sum_head (fun x => P (ix2 r x)) 1
  have s0 := sum_head (fun x => P (ix2 r x)) 0
  have hq (k : Fin 8) (e : j.val / 64 = k.val) : ∑ l : Fin 64, P (ix2 r ⟨(j.val / 64) * 64 + l.val, by omega⟩) = ∑ l : Fin 64, P (ix2 r ⟨k.val * 64 + l.val, by omega⟩) :=
    Finset.sum_congr rfl fun l _ => congrArg (fun q => P (ix2 r q)) (Fin.ext (by simp only [e]))
  by_cases hl : j.val % 64 < 32
  · rw [if_pos (decide_eq_true hl), if_pos hl]
  · rw [if_neg (fun h => hl (of_decide_eq_true h)), if_neg hl]
    by_cases e7 : j.val / 64 = 7
    · rw [if_pos e7]; exact s7.trans (hq 7 e7).symm
    rw [if_neg e7]
    by_cases e6 : j.val / 64 = 6
    · rw [if_pos e6]; exact s6.trans (hq 6 e6).symm
    rw [if_neg e6]
    by_cases e5 : j.val / 64 = 5
    · rw [if_pos e5]; exact s5.trans (hq 5 e5).symm
    rw [if_neg e5]
    by_cases e4 : j.val / 64 = 4
    · rw [if_pos e4]; exact s4.trans (hq 4 e4).symm
    rw [if_neg e4]
    by_cases e3 : j.val / 64 = 3
    · rw [if_pos e3]; exact s3.trans (hq 3 e3).symm
    rw [if_neg e3]
    by_cases e2 : j.val / 64 = 2
    · rw [if_pos e2]; exact s2.trans (hq 2 e2).symm
    rw [if_neg e2]
    by_cases e1 : j.val / 64 = 1
    · rw [if_pos e1]; exact s1.trans (hq 1 e1).symm
    rw [if_neg e1]
    by_cases e0 : j.val / 64 = 0
    · rw [if_pos e0]; exact s0.trans (hq 0 e0).symm
    rw [if_neg e0]
    omega

end Payloads

/-! ## Buffers stored in three column blocks -/

section Pieces

theorem mem_of_emb {s : Shape} {r : Rect s} (x : r.shape.Idx) {y : s.Idx} (h : r.emb x = y) : y ∈ r.set := by
  rw [← h, ← Rect.map_emb_univ]
  exact Finset.mem_map_of_mem _ (Finset.mem_univ x)

variable (G : S1x1024.Idx → EReal) (q1 q3 : Vec Ideal S1x256 .f32) (q2 : Vec Ideal S1x512 .f32)

theorem emb1 (j : Fin 256) : (Rect.unit (s := S1x1024) ![0, 0] ![1, 256] inb_S1x1024_S1x256_0_0).emb (ix2 0 j) = ix2 0 ⟨j.val, by omega⟩ :=
  Lift.eq_ix2_of rfl (show 0 + 1 * j.val = j.val by omega)
theorem emb2 (j : Fin 512) : (Rect.unit (s := S1x1024) ![0, 256] ![1, 512] inb_S1x1024_S1x512_0_256).emb (ix2 0 j) = ix2 0 ⟨256 + j.val, by omega⟩ :=
  Lift.eq_ix2_of rfl (show 256 + 1 * j.val = 256 + j.val by omega)
theorem emb3 (j : Fin 256) : (Rect.unit (s := S1x1024) ![0, 768] ![1, 256] inb_S1x1024_S1x256_0_768).emb (ix2 0 j) = ix2 0 ⟨768 + j.val, by omega⟩ :=
  Lift.eq_ix2_of rfl (show 768 + 1 * j.val = 768 + j.val by omega)

theorem canon_row (L : List (View.Piece (Elt Ideal) S1x1024 .f32)) (h1 : ∀ j : Fin 256, q1 (ix2 0 j) = G (ix2 0 ⟨j.val, by omega⟩))
    (h2 : ∀ j : Fin 512, q2 (ix2 0 j) = G (ix2 0 ⟨256 + j.val, by omega⟩)) (h3 : ∀ j : Fin 256, q3 (ix2 0 j) = G (ix2 0 ⟨768 + j.val, by omega⟩)) (j : Fin 1024) :
    View.canon (Val := Elt Ideal) (e := .f32) ([⟨Rect.unit (s := S1x1024) ![0, 768] ![1, 256] inb_S1x1024_S1x256_0_768, q3⟩,
      ⟨Rect.unit (s := S1x1024) ![0, 256] ![1, 512] inb_S1x1024_S1x512_0_256, q2⟩, ⟨Rect.unit (s := S1x1024) ![0, 0] ![1, 256] inb_S1x1024_S1x256_0_0, q1⟩] ++ L) (ix2 0 j)
      = G (ix2 0 j) := by
  refine View.canon_append_of_piecesOf (Val := Elt Ideal) (e := .f32) G L [_, _, _] ⟨fun x => ?_, fun x => ?_, fun x => ?_, trivial⟩ _ ?_
  · obtain ⟨r, j, rfl⟩ : ∃ (r : Fin 1) (j : Fin 256), x = ix2 r j := ⟨x 0, x 1, eq_ix2 x⟩
    obtain rfl : r = 0 := Subsingleton.elim _ _
    exact (h3 j).trans (congrArg G (emb3 j).symm)
  · obtain ⟨r, j, rfl⟩ : ∃ (r : Fin 1) (j : Fin 512), x = ix2 r j := ⟨x 0, x 1, eq_ix2 x⟩
    obtain rfl : r = 0 := Subsingleton.elim _ _
    exact (h2 j).trans (congrArg G (emb2 j).symm)
  · obtain ⟨r, j, rfl⟩ : ∃ (r : Fin 1) (j : Fin 256), x = ix2 r j := ⟨x 0, x 1, eq_ix2 x⟩
    obtain rfl : r = 0 := Subsingleton.elim _ _
    exact (h1 j).trans (congrArg G (emb1 j).symm)
  · by_cases c1 : j.val < 256
    · exact ⟨_, .tail _ (.tail _ (.head _)), mem_of_emb (ix2 0 ⟨j.val, c1⟩) (emb1 _)⟩
    by_cases c2 : j.val < 768
    · exact ⟨_, .tail _ (.head _), mem_of_emb (ix2 0 ⟨j.val - 256, by omega⟩) ((emb2 _).trans (congrArg (ix2 0) (Fin.ext (by simp only; omega))))⟩
    · exact ⟨_, .head _, mem_of_emb (ix2 0 ⟨j.val - 768, by omega⟩) ((emb3 _).trans (congrArg (ix2 0) (Fin.ext (by simp only; omega))))⟩

variable (Y : S512x1024.Idx → EReal) (y1 y3 : Vec Ideal S512x256 .bf16) (y2 : Vec Ideal S512x512 .bf16)

theorem embY1 (r : Fin 512) (j : Fin 256) : (Rect.unit (s := S512x1024) ![0, 0] ![512, 256] inb_S512x1024_S512x256_0_0).emb (ix2 r j) = ix2 r ⟨j.val, by omega⟩ :=
  Lift.eq_ix2_of (show 0 + 1 * r.val = r.val by omega) (show 0 + 1 * j.val = j.val by omega)
theorem embY2 (r : Fin 512) (j : Fin 512) : (Rect.unit (s := S512x1024) ![0, 256] ![512, 512] inb_S512x1024_S512x512_0_256).emb (ix2 r j) = ix2 r ⟨256 + j.val, by omega⟩ :=
  Lift.eq_ix2_of (show 0 + 1 * r.val = r.val by omega) (show 256 + 1 * j.val = 256 + j.val by omega)
theorem embY3 (r : Fin 512) (j : Fin 256) : (Rect.unit (s := S512x1024) ![0, 768] ![512, 256] inb_S512x1024_S512x256_0_768).emb (ix2 r j) = ix2 r ⟨768 + j.val, by omega⟩ :=
  Lift.eq_ix2_of (show 0 + 1 * r.val = r.val by omega) (show 768 + 1 * j.val = 768 + j.val by omega)

theorem canon_rows (h1 : ∀ (r : Fin 512) (j : Fin 256), y1 (ix2 r j) = Y (ix2 r ⟨j.val, by omega⟩))
    (h2 : ∀ (r : Fin 512) (j : Fin 512), y2 (ix2 r j) = Y (ix2 r ⟨256 + j.val, by omega⟩)) (h3 : ∀ (r : Fin 512) (j : Fin 256), y3 (ix2 r j) = Y (ix2 r ⟨768 + j.val, by omega⟩)) :
    View.canon (Val := Elt Ideal) (e := .bf16) [⟨Rect.unit (s := S512x1024) ![0, 768] ![512, 256] inb_S512x1024_S512x256_0_768, y3⟩,
      ⟨Rect.unit (s := S512x1024) ![0, 256] ![512, 512] inb_S512x1024_S512x512_0_256, y2⟩, ⟨Rect.unit (s := S512x1024) ![0, 0] ![512, 256] inb_S512x1024_S512x256_0_0, y1⟩]
      = Y := by
  funext i
  obtain ⟨r, j, rfl⟩ : ∃ (r : Fin 512) (j : Fin 1024), i = ix2 r j := ⟨i 0, i 1, eq_ix2 i⟩
  refine View.canon_append_of_piecesOf (Val := Elt Ideal) (e := .bf16) Y [] [_, _, _] ⟨fun x => ?_, fun x => ?_, fun x => ?_, trivial⟩ _ ?_
  · obtain ⟨r, j, rfl⟩ : ∃ (r : Fin 512) (j : Fin 256), x = ix2 r j := ⟨x 0, x 1, eq_ix2 x⟩
    exact (h3 r j).trans (congrArg Y (embY3 r j).symm)
  · obtain ⟨r, j, rfl⟩ : ∃ (r : Fin 512) (j : Fin 512), x = ix2 r j := ⟨x 0, x 1, eq_ix2 x⟩
    exact (h2 r j).trans (congrArg Y (embY2 r j).symm)
  · obtain ⟨r, j, rfl⟩ : ∃ (r : Fin 512) (j : Fin 256), x = ix2 r j := ⟨x 0, x 1, eq_ix2 x⟩
    exact (h1 r j).trans (congrArg Y (embY1 r j).symm)
  · by_cases c1 : j.val < 256
    · exact ⟨_, .tail _ (.tail _ (.head _)), mem_of_emb (ix2 r ⟨j.val, c1⟩) (embY1 r _)⟩
    by_cases c2 : j.val < 768
    · exact ⟨_, .tail _ (.head _), mem_of_emb (ix2 r ⟨j.val - 256, by omega⟩) ((embY2 r _).trans (congrArg (ix2 r) (Fin.ext (by simp only; omega))))⟩
    · exact ⟨_, .head _, mem_of_emb (ix2 r ⟨j.val - 768, by omega⟩) ((embY3 r _).trans (congrArg (ix2 r) (Fin.ext (by simp only; omega))))⟩

end Pieces

variable (m : (ℓ : Loc nD τ sig) → Buf (Elt Ideal) ℓ) (c : Dev nD)

theorem hz : (![0, 0] : Fin 2 → Nat) = fun _ => 0 := by funext a; fin_cases a <;> rfl

/-! ## What the body leaves at a grid point, over the point's input blocks -/

abbrev bd (t : Fin cfg0.N) : Vec Ideal S512x1024 .f32 := iblk m c 0 t
abbrev bc (t : Fin cfg0.N) : Vec Ideal S512x256 .f32 := iblk m c 1 t
abbrev bo (t : Fin cfg0.N) : Vec Ideal S512x512 .f32 := iblk m c 2 t
abbrev bl (t : Fin cfg0.N) : Vec Ideal S512x512 .f32 := iblk m c 3 t
abbrev bs (t : Fin cfg0.N) : Vec Ideal S512x256 .f32 := iblk m c 5 t
abbrev bg (t : Fin cfg0.N) : Vec Ideal S1x1024 .f32 := iblk m c 6 t
abbrev bw (t : Fin cfg0.N) : Vec Ideal S1024x1024 .bf16 := iblk m c 7 t
abbrev bz (t : Fin cfg0.N) : Vec Ideal S512x512 .f32 := X0_4 m c t

theorem outs_dyc (t : Fin cfg0.N) (r : Fin 512) (j : Fin 256) :
    ((outsAt0 m c t.val t.isLt).1 : Vec Ideal S512x256 .f32) (ix2 r j)
      = rb c256 (fun k => bc m c t (ix2 r k)) (fun k => dyB (bd m c t) (bw m c t) r ⟨k.val, by omega⟩ * bg m c t (ix2 0 ⟨k.val, by omega⟩)) j := by
  refine Eq.trans ?_ (dyc_apply (bd m c t) (bc m c t) (bg m c t) (bw m c t) r j)
  by_cases h : t.val % 16 = 0
  · rw [outsAt0_A m c t h]
    dsimp only
    unfold out0_A_8
    rw [View.read_writes_eq_canon _ _ _ (fun _ => cover0_A_8 ..)]
    unfold kernelRun0_A
    dsimp only
    rw [View.canon_unit_zero hz]
    sl_unfold_words
    try dsimp only
    simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, shapeCast_self]
  · rw [outsAt0_B m c t h]
    dsimp only
    unfold out0_B_8
    rw [View.read_writes_eq_canon _ _ _ (fun _ => cover0_B_8 ..)]
    unfold kernelRun0_B
    dsimp only
    rw [View.canon_unit_zero hz]
    sl_unfold_words
    try dsimp only
    simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, shapeCast_self]

theorem outs_dys (t : Fin cfg0.N) (r : Fin 512) (j : Fin 256) :
    ((outsAt0 m c t.val t.isLt).2.1 : Vec Ideal S512x256 .f32) (ix2 r j)
      = rb c256 (fun k => bs m c t (ix2 r k)) (fun k => dyB (bd m c t) (bw m c t) r ⟨768 + k.val, by omega⟩ * bg m c t (ix2 0 ⟨768 + k.val, by omega⟩)) j := by
  refine Eq.trans ?_ (dys_apply (bd m c t) (bs m c t) (bg m c t) (bw m c t) r j)
  by_cases h : t.val % 16 = 0
  · rw [outsAt0_A m c t h]
    dsimp only
    unfold out0_A_9
    rw [View.read_writes_eq_canon _ _ _ (fun _ => cover0_A_9 ..)]
    unfold kernelRun0_A
    dsimp only
    rw [View.canon_unit_zero hz]
    sl_unfold_words
    try dsimp only
    simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, shapeCast_self]
  · rw [outsAt0_B m c t h]
    dsimp only
    unfold out0_B_9
    rw [View.read_writes_eq_canon _ _ _ (fun _ => cover0_B_9 ..)]
    unfold kernelRun0_B
    dsimp only
    rw [View.canon_unit_zero hz]
    sl_unfold_words
    try dsimp only
    simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, shapeCast_self]

theorem outs_do (t : Fin cfg0.N) (r : Fin 512) (j : Fin 512) :
    ((outsAt0 m c t.val t.isLt).2.2.1 : Vec Ideal S512x512 .bf16) (ix2 r j)
      = dB (bd m c t) (bo m c t) (bz m c t) (bg m c t) (bw m c t) r j * (bz m c t (ix2 r j) * sg (bz m c t (ix2 r j))) := by
  refine Eq.trans ?_ ((do_apply (bz m c t) (pD (bd m c t) (bo m c t) (bz m c t) (bg m c t) (bw m c t)) r j).trans (congrArg (· * (bz m c t (ix2 r j) * sg (bz m c t (ix2 r j)))) (D_apply (bd m c t) (bo m c t) (bz m c t) (bg m c t) (bw m c t) r j)))
  by_cases h : t.val % 16 = 0
  · rw [outsAt0_A m c t h]
    dsimp only
    unfold out0_A_10
    rw [View.read_writes_eq_canon _ _ _ (fun _ => cover0_A_10 ..)]
    unfold kernelRun0_A
    dsimp only
    rw [View.canon_unit_zero hz]
    sl_unfold_words
    try dsimp only
    simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, shapeCast_self]
  · rw [outsAt0_B m c t h]
    dsimp only
    unfold out0_B_10
    rw [View.read_writes_eq_canon _ _ _ (fun _ => cover0_B_10 ..)]
    unfold kernelRun0_B
    dsimp only
    rw [View.canon_unit_zero hz]
    sl_unfold_words
    try dsimp only
    simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, shapeCast_self]

theorem outs_dzm (t : Fin cfg0.N) (r : Fin 512) (j : Fin 512) :
    ((outsAt0 m c t.val t.isLt).2.2.2.1 : Vec Ideal S512x512 .bf16) (ix2 r j)
      = dB (bd m c t) (bo m c t) (bz m c t) (bg m c t) (bw m c t) r j * bo m c t (ix2 r j) * dsl (bz m c t (ix2 r j)) := by
  refine Eq.trans ?_ ((dzm_apply (bo m c t) (bz m c t) (pD (bd m c t) (bo m c t) (bz m c t) (bg m c t) (bw m c t)) r j).trans (congrArg (· * bo m c t (ix2 r j) * dsl (bz m c t (ix2 r j))) (D_apply (bd m c t) (bo m c t) (bz m c t) (bg m c t) (bw m c t) r j)))
  by_cases h : t.val % 16 = 0
  · rw [outsAt0_A m c t h]
    dsimp only
    unfold out0_A_11
    rw [View.read_writes_eq_canon _ _ _ (fun _ => cover0_A_11 ..)]
    unfold kernelRun0_A
    dsimp only
    rw [View.canon_unit_zero hz]
    sl_unfold_words
    try dsimp only
    simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, shapeCast_self]
  · rw [outsAt0_B m c t h]
    dsimp only
    unfold out0_B_11
    rw [View.read_writes_eq_canon _ _ _ (fun _ => cover0_B_11 ..)]
    unfold kernelRun0_B
    dsimp only
    rw [View.canon_unit_zero hz]
    sl_unfold_words
    try dsimp only
    simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, shapeCast_self]

theorem outs_st (t : Fin cfg0.N) (r : Fin 512) (j : Fin 512) :
    ((outsAt0 m c t.val t.isLt).2.2.2.2.1 : Vec Ideal S512x512 .f32) (ix2 r j)
      = if j.val % 64 < 32 then bl m c t (ix2 r j) else ∑ l : Fin 64,
          dB (bd m c t) (bo m c t) (bz m c t) (bg m c t) (bw m c t) r ⟨(j.val / 64) * 64 + l.val, by omega⟩ * (bz m c t (ix2 r ⟨(j.val / 64) * 64 + l.val, by omega⟩) * sg (bz m c t (ix2 r ⟨(j.val / 64) * 64 + l.val, by omega⟩)))
            * bo m c t (ix2 r ⟨(j.val / 64) * 64 + l.val, by omega⟩) := by
  refine Eq.trans ?_ ((st_apply (bl m c t) (k0_pay34 (bo m c t) (k0_pay31 (k0_pay6 (bz m c t)) (pD (bd m c t) (bo m c t) (bz m c t) (bg m c t) (bw m c t)))) r j).trans ?_)
  · by_cases h : t.val % 16 = 0
    · rw [outsAt0_A m c t h]
      dsimp only
      unfold out0_A_12
      rw [View.read_writes_eq_canon _ _ _ (fun _ => cover0_A_12 ..)]
      unfold kernelRun0_A
      dsimp only
      rw [View.canon_unit_zero hz]
      sl_unfold_words
      try dsimp only
      simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, shapeCast_self]
    · rw [outsAt0_B m c t h]
      dsimp only
      unfold out0_B_12
      rw [View.read_writes_eq_canon _ _ _ (fun _ => cover0_B_12 ..)]
      unfold kernelRun0_B
      dsimp only
      rw [View.canon_unit_zero hz]
      sl_unfold_words
      try dsimp only
      simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, shapeCast_self]
  · simp only [P_apply, D_apply]

/-- The normalised rows before the gain, all three branches. -/
def nB (yc ys : Vec Ideal S512x256 .f32) (o z : Vec Ideal S512x512 .f32) (r : Fin 512) (k : Fin 1024) : EReal :=
  if h : k.val < 256 then yc (ix2 r ⟨k.val, h⟩) * rs c256 (fun k => yc (ix2 r k))
  else if h : k.val < 768 then ymB o z r ⟨k.val - 256, by omega⟩ * rs c512 (ymB o z r)
  else ys (ix2 r ⟨k.val - 768, by omega⟩) * rs c256 (fun k => ys (ix2 r k))

section
variable (yc ys : Vec Ideal S512x256 .f32) (o z : Vec Ideal S512x512 .f32) (r : Fin 512)
theorem nB_1 (j : Fin 256) : nB yc ys o z r ⟨j.val, by omega⟩ = yc (ix2 r j) * rs c256 (fun k => yc (ix2 r k)) := dif_pos j.isLt
theorem nB_2 (j : Fin 512) : nB yc ys o z r ⟨256 + j.val, by omega⟩ = ymB o z r j * rs c512 (ymB o z r) := by
  unfold nB
  rw [dif_neg (by dsimp only; omega), dif_pos (by dsimp only; omega)]
  exact congrArg (fun q => ymB o z r q * _) (Fin.ext (by simp only; omega))
theorem nB_3 (j : Fin 256) : nB yc ys o z r ⟨768 + j.val, by omega⟩ = ys (ix2 r j) * rs c256 (fun k => ys (ix2 r k)) := by
  unfold nB
  rw [dif_neg (by dsimp only; omega), dif_neg (by dsimp only; omega)]
  exact congrArg (fun q => ys (ix2 r q) * _) (Fin.ext (by simp only; omega))
end

/-- One row block's contribution to the output weight's gradient, and to the norms'. -/
def gwT (t : Fin cfg0.N) (k e : Fin 1024) : EReal := ∑ r, nB (bc m c t) (bs m c t) (bo m c t) (bz m c t) r k * bg m c t (ix2 0 k) * bd m c t (ix2 r e)
def ggT (t : Fin cfg0.N) (j : Fin 1024) : EReal := ∑ r, dyB (bd m c t) (bw m c t) r j * nB (bc m c t) (bs m c t) (bo m c t) (bz m c t) r j

theorem rows_canon (t : Fin cfg0.N) : View.canon (Val := Elt Ideal) (e := .bf16) [⟨Rect.unit (s := S512x1024) ![0, 768] ![512, 256] inb_S512x1024_S512x256_0_768, k0_pay26 (bs m c t) (g3 (bg m c t))⟩,
      ⟨Rect.unit (s := S512x1024) ![0, 256] ![512, 512] inb_S512x1024_S512x512_0_256, k0_pay19 (k0_pay7 (bo m c t) (bz m c t)) (g2 (bg m c t))⟩,
      ⟨Rect.unit (s := S512x1024) ![0, 0] ![512, 256] inb_S512x1024_S512x256_0_0, k0_pay12 (k0_pay11 (bc m c t) (g1 (bg m c t)))⟩]
      = fun i => nB (bc m c t) (bs m c t) (bo m c t) (bz m c t) (i 0) (i 1) * bg m c t (ix2 0 (i 1)) :=
  canon_rows _ _ _ _ (fun r j => (y1_apply _ _ r j).trans (congrArg (· * _) (nB_1 ..).symm)) (fun r j => (y2_apply _ _ _ r j).trans (congrArg (· * _) (nB_2 ..).symm))
    fun r j => (y3_apply _ _ r j).trans (congrArg (· * _) (nB_3 ..).symm)

theorem outs_gw0 (t : Fin cfg0.N) (h : t.val % 16 = 0) (k e : Fin 1024) :
    ((outsAt0 m c t.val t.isLt).2.2.2.2.2.1 : Vec Ideal S1024x1024 .f32) (ix2 k e) = gwT m c t k e := by
  refine Eq.trans ?_ ((gw_apply (bd m c t) (k0_pay2 (F := Ideal)) (fun i => nB (bc m c t) (bs m c t) (bo m c t) (bz m c t) (i 0) (i 1) * bg m c t (ix2 0 (i 1))) k e).trans ?_)
  · rw [← rows_canon m c t]
    rw [outsAt0_A m c t h]
    dsimp only
    unfold out0_A_13
    rw [View.read_writes_eq_canon _ _ _ (fun _ => cover0_A_13 ..)]
    unfold kernelRun0_A
    dsimp only
    rw [View.canon_cons_unit_zero (S := S1024x1024) hz]
    sl_unfold_words
    try dsimp only
    simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, shapeCast_self, View.readCov_unit_zero (S := S1024x1024) _ hz, View.readCov_eq_canon']
    refine congrFun (congrArg _ ?_) _
    funext i
    exact congrArg _ ((Lift.eq_ix2_of (b := i 1) (show 0 + 1 * (i 0).val = (i 0).val by omega) (show 0 + 1 * (i 1).val = (i 1).val by omega)).trans (eq_ix2 i).symm)
  · unfold_payloads
    pointwise
    simp [gwT]

theorem outs_gw1 (t : Fin cfg0.N) (h : ¬ t.val % 16 = 0) (k e : Fin 1024) :
    ((outsAt0 m c t.val t.isLt).2.2.2.2.2.1 : Vec Ideal S1024x1024 .f32) (ix2 k e)
      = ((outsAt0 m c (t.val - 1) (by have := t.isLt; omega)).2.2.2.2.2.1 : Vec Ideal S1024x1024 .f32) (ix2 k e) + gwT m c t k e := by
  refine Eq.trans ?_ (gw_apply (bd m c t) _ (fun i => nB (bc m c t) (bs m c t) (bo m c t) (bz m c t) (i 0) (i 1) * bg m c t (ix2 0 (i 1))) k e)
  rw [← rows_canon m c t]
  rw [outsAt0_B m c t h]
  dsimp only
  unfold out0_B_13
  rw [View.read_writes_eq_canon _ _ _ (fun _ => cover0_B_13 ..)]
  unfold kernelRun0_B
  dsimp only
  rw [View.canon_unit_zero hz]
  sl_unfold_words
  try dsimp only
  simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, shapeCast_self, View.readCov_eq_canon']
  refine congrFun (congrArg _ ?_) _
  funext i
  exact congrArg _ ((Lift.eq_ix2_of (b := i 1) (show 0 + 1 * (i 0).val = (i 0).val by omega) (show 0 + 1 * (i 1).val = (i 1).val by omega)).trans (eq_ix2 i).symm)

theorem outs_gg1 (t : Fin cfg0.N) (h : ¬ t.val % 16 = 0) (j : Fin 1024) :
    ((outsAt0 m c t.val t.isLt).2.2.2.2.2.2 : Vec Ideal S1x1024 .f32) (ix2 0 j)
      = ((outsAt0 m c (t.val - 1) (by have := t.isLt; omega)).2.2.2.2.2.2 : Vec Ideal S1x1024 .f32) (ix2 0 j) + ggT m c t j := by
  have old : ∃ old : Vec Ideal S1x1024 .f32, old = (outsAt0 m c (t.val - 1) (by have := t.isLt; omega)).2.2.2.2.2.2 := ⟨_, rfl⟩
  obtain ⟨old, ho⟩ := old
  rw [← ho]
  refine Eq.trans ?_ (canon_row (fun i => old i + ggT m c t (i 1)) (k0_pay14 (k0_pay4 (bd m c t)) (k0_pay9 (bc m c t)) (w1 (bw m c t)) (g1 old))
    (k0_pay28 (k0_pay4 (bd m c t)) (k0_pay24 (bs m c t)) (w3 (bw m c t)) (g3 old))
    (k0_pay21 (k0_pay4 (bd m c t)) (k0_pay17 (k0_pay7 (bo m c t) (bz m c t))) (w2 (bw m c t)) (g2 old)) [] (fun j => ?_) (fun j => ?_) (fun j => ?_) j)
  · subst ho
    rw [outsAt0_B m c t h]
    dsimp only
    unfold out0_B_14
    rw [View.read_writes_eq_canon _ _ _ (fun _ => cover0_B_14 ..)]
    unfold kernelRun0_B
    dsimp only
    sl_unfold_words
    try dsimp only
    simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, shapeCast_self]
    rfl
  · refine (gg1_apply _ _ _ _ j).trans (congrArg₂ (· + ·) (congrArg old (emb1 j)) (Finset.sum_congr rfl fun r _ => congrArg _ (nB_1 ..).symm))
  · refine (gg2_apply _ _ _ _ _ j).trans (congrArg₂ (· + ·) (congrArg old (emb2 j)) (Finset.sum_congr rfl fun r _ => congrArg _ (nB_2 ..).symm))
  · refine (gg3_apply _ _ _ _ j).trans (congrArg₂ (· + ·) (congrArg old (emb3 j)) (Finset.sum_congr rfl fun r _ => congrArg _ (nB_3 ..).symm))

section Fills
variable {sig : RefSig} {κ : Kind} {sp : Space} (v : View sig κ sp S1x1024 .f32) (z : Vec Ideal S1x1024 .f32) (q1 : Vec Ideal S1x256 .f32) (q2 : Vec Ideal S1x512 .f32)

theorem fill (r : Rect S1x1024) : v.readCov (Val := Elt Ideal) [⟨Rect.unit (s := S1x1024) ![0, 0] ![1, 1024] inb_S1x1024_S1x1024_0_0, z⟩] r.toLoadRect = View.ld z r :=
  View.readCov_fill v _ z [] r (by decide)
/-- A column block of a row filled whole and then stored in the blocks before it reads the fill. -/
theorem fill1 : v.readCov (Val := Elt Ideal) [⟨Rect.unit (s := S1x1024) ![0, 0] ![1, 1024] inb_S1x1024_S1x1024_0_0, z⟩]
      (Rect.unit (s := S1x1024) ![0, 0] ![1, 256] inb_S1x1024_S1x256_0_0).toLoadRect = g1 z :=
  fill v z _
theorem fill2 : v.readCov (Val := Elt Ideal) [⟨Rect.unit (s := S1x1024) ![0, 0] ![1, 256] inb_S1x1024_S1x256_0_0, q1⟩,
      ⟨Rect.unit (s := S1x1024) ![0, 0] ![1, 1024] inb_S1x1024_S1x1024_0_0, z⟩]
      (Rect.unit (s := S1x1024) ![0, 256] ![1, 512] inb_S1x1024_S1x512_0_256).toLoadRect = g2 z :=
  by
  rw [View.readCov_skip (Val := Elt Ideal) v (Rect.unit (s := S1x1024) ![0, 0] ![1, 256] inb_S1x1024_S1x256_0_0) q1 _ _ (by decide +kernel)]
  exact fill v z _
theorem fill3 : v.readCov (Val := Elt Ideal) [⟨Rect.unit (s := S1x1024) ![0, 256] ![1, 512] inb_S1x1024_S1x512_0_256, q2⟩,
      ⟨Rect.unit (s := S1x1024) ![0, 0] ![1, 256] inb_S1x1024_S1x256_0_0, q1⟩,
      ⟨Rect.unit (s := S1x1024) ![0, 0] ![1, 1024] inb_S1x1024_S1x1024_0_0, z⟩]
      (Rect.unit (s := S1x1024) ![0, 768] ![1, 256] inb_S1x1024_S1x256_0_768).toLoadRect = g3 z :=
  by
  rw [View.readCov_skip (Val := Elt Ideal) v (Rect.unit (s := S1x1024) ![0, 256] ![1, 512] inb_S1x1024_S1x512_0_256) q2 _ _ (by decide +kernel), View.readCov_skip (Val := Elt Ideal) v (Rect.unit (s := S1x1024) ![0, 0] ![1, 256] inb_S1x1024_S1x256_0_0) q1 _ _ (by decide +kernel)]
  exact fill v z _
end Fills

theorem outs_gg0 (t : Fin cfg0.N) (h : t.val % 16 = 0) (j : Fin 1024) :
    ((outsAt0 m c t.val t.isLt).2.2.2.2.2.2 : Vec Ideal S1x1024 .f32) (ix2 0 j) = ggT m c t j := by
  have hz0 (i : S1x1024.Idx) : (k0_pay3 (F := Ideal)) i = (0 : EReal) := by
    unfold_payloads
    pointwise
  refine Eq.trans ?_ (canon_row (fun i => ggT m c t (i 1)) (k0_pay14 (k0_pay4 (bd m c t)) (k0_pay9 (bc m c t)) (w1 (bw m c t)) (g1 (k0_pay3 (F := Ideal))))
    (k0_pay28 (k0_pay4 (bd m c t)) (k0_pay24 (bs m c t)) (w3 (bw m c t)) (g3 (k0_pay3 (F := Ideal))))
    (k0_pay21 (k0_pay4 (bd m c t)) (k0_pay17 (k0_pay7 (bo m c t) (bz m c t))) (w2 (bw m c t)) (g2 (k0_pay3 (F := Ideal))))
    [⟨Rect.unit (s := S1x1024) ![0, 0] ![1, 1024] inb_S1x1024_S1x1024_0_0, k0_pay3 (F := Ideal)⟩] (fun j => ?_) (fun j => ?_) (fun j => ?_) j)
  · rw [outsAt0_A m c t h]
    dsimp only
    unfold out0_A_14
    rw [View.read_writes_eq_canon _ _ _ (fun _ => cover0_A_14 ..)]
    unfold kernelRun0_A
    dsimp only
    sl_unfold_words
    try dsimp only
    simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, shapeCast_self]
    rw [fill1, fill2, fill3]
    rfl
  · refine ((gg1_apply _ _ _ _ j).trans (congrArg₂ (· + ·) (hz0 _) (Finset.sum_congr rfl fun r _ => congrArg _ (nB_1 ..).symm))).trans (zero_add _)
  · refine ((gg2_apply _ _ _ _ _ j).trans (congrArg₂ (· + ·) (hz0 _) (Finset.sum_congr rfl fun r _ => congrArg _ (nB_2 ..).symm))).trans (zero_add _)
  · refine ((gg3_apply _ _ _ _ j).trans (congrArg₂ (· + ·) (hz0 _) (Finset.sum_congr rfl fun r _ => congrArg _ (nB_3 ..).symm))).trans (zero_add _)

/-! ## Sums over the grid -/

theorem outs_gw (k e : Fin 1024) : ∀ (n : ℕ) (h : n < cfg0.N), ((outsAt0 m c n h).2.2.2.2.2.1 : Vec Ideal S1024x1024 .f32) (ix2 k e)
      = ∑ s : Fin (n + 1), gwT m c ⟨s.val, by omega⟩ k e
  | 0, h => by rw [outs_gw0 m c ⟨0, h⟩ rfl]; simp
  | n + 1, h => by
    have hN : cfg0.N = 16 := N_0
    rw [outs_gw1 m c ⟨n + 1, h⟩ (by dsimp only; omega), Fin.sum_univ_castSucc]
    exact congrArg₂ (· + ·) (outs_gw k e n (by omega)) rfl

theorem outs_gg (j : Fin 1024) : ∀ (n : ℕ) (h : n < cfg0.N), ((outsAt0 m c n h).2.2.2.2.2.2 : Vec Ideal S1x1024 .f32) (ix2 0 j)
      = ∑ s : Fin (n + 1), ggT m c ⟨s.val, by omega⟩ j
  | 0, h => by rw [outs_gg0 m c ⟨0, h⟩ rfl]; simp
  | n + 1, h => by
    have hN : cfg0.N = 16 := N_0
    rw [outs_gg1 m c ⟨n + 1, h⟩ (by dsimp only; omega), Fin.sum_univ_castSucc]
    exact congrArg₂ (· + ·) (outs_gg j n (by omega)) rfl

/-! ## The blocks in their arrays -/

/-- Row `r` of the row block of grid point `t`. -/
def row (t : Fin cfg0.N) (r : Fin 512) : Fin 8192 := ⟨t.val * 512 + r.val, by have := t.isLt; have : cfg0.N = 16 := N_0; have := r.isLt; omega⟩

theorem exists_row (r : Fin 8192) : ∃ (t : Fin cfg0.N) (r' : Fin 512), r = row t r' :=
  have hN : cfg0.N = 16 := N_0
  ⟨⟨r.val / 512, by have := r.isLt; show _ < cfg0.N; omega⟩, ⟨r.val % 512, by omega⟩, Fin.ext (by show r.val = r.val / 512 * 512 + r.val % 512; omega)⟩

theorem index_row : ∀ t : Fin cfg0.N, (win0_4.index t 0 = t.val ∧ win0_4.index t 1 = 3)
   ∧ (win0_0.index t 0 = t.val ∧ win0_0.index t 1 = 0)
   ∧ (win0_1.index t 0 = t.val ∧ win0_1.index t 1 = 0)
   ∧ (win0_2.index t 0 = t.val ∧ win0_2.index t 1 = 0)
   ∧ (win0_3.index t 0 = t.val ∧ win0_3.index t 1 = 0)
   ∧ (win0_5.index t 0 = t.val ∧ win0_5.index t 1 = 0)
   ∧ (win0_8.index t 0 = t.val ∧ win0_8.index t 1 = 0)
   ∧ (win0_9.index t 0 = t.val ∧ win0_9.index t 1 = 0)
   ∧ (win0_10.index t 0 = t.val ∧ win0_10.index t 1 = 0)
   ∧ (win0_11.index t 0 = t.val ∧ win0_11.index t 1 = 0)
   ∧ (win0_12.index t 0 = t.val ∧ win0_12.index t 1 = 0)
   ∧ (win0_6.index t 0 = 0 ∧ win0_6.index t 1 = 0)
   ∧ (win0_7.index t 0 = 0 ∧ win0_7.index t 1 = 0)
   ∧ (win0_13.index t 0 = 0 ∧ win0_13.index t 1 = 0)
   ∧ (win0_14.index t 0 = 0 ∧ win0_14.index t 1 = 0) := by decide +kernel

/-- The arguments, and the row statistics the host hands the call. -/
abbrev aC : Vec Ideal S8192x256 .f32 := m (c.tc.loc main_arg0)
abbrev aO : Vec Ideal S8192x512 .f32 := m (c.tc.loc main_arg1)
abbrev aS : Vec Ideal S8192x256 .f32 := m (c.tc.loc main_arg2)
abbrev aP : Vec Ideal S8192x3104 .f32 := m (c.tc.loc main_arg3)
abbrev aG : Vec Ideal S1024 .f32 := m (c.tc.loc main_arg4)
abbrev aW : Vec Ideal S1024x1024 .f32 := m (c.tc.loc main_arg5)
abbrev aQ : Vec Ideal S8192x8x96 .f32 := m (c.tc.loc main_arg6)
abbrev aK : Vec Ideal S8192x8x96 .f32 := m (c.tc.loc main_arg7)
abbrev aD : Vec Ideal S8192x1024 .f32 := m (c.tc.loc main_arg8)

section Host

theorem V_z (r : Fin 8192) (k : Fin 3200) : (V m c main_v30 : Vec Ideal S8192x3200 .f32) (ix2 r k)
    = if h : k.val < 1536 then aP m c (ix2 r ⟨k.val, by omega⟩)
      else if h : k.val - 1536 < 512 then aP m c (ix2 r ⟨1824 + (k.val - 1536), by omega⟩)
      else if h : k.val - 1536 - 512 < 256 then aP m c (ix2 r ⟨1536 + (k.val - 1536 - 512), by omega⟩)
      else if h : k.val - 1536 - 512 - 256 < 768 then aP m c (ix2 r ⟨2336 + (k.val - 1536 - 512 - 256), by omega⟩)
      else if h : k.val - 1536 - 512 - 256 - 768 < 32 then aP m c (ix2 r ⟨1792 + (k.val - 1536 - 512 - 256 - 768), by omega⟩)
      else 0 := by
  dsimp only [V, hostOps0, hostOps0_1, hostOps0_2]
  simp only [List.flatten_cons, List.flatten_nil, List.append_nil, List.cons_append, List.nil_append]
  after_results_simp
  pointwise
  after_results_simp
  pointwise

theorem V_g (j : Fin 1024) : (V m c main_v31 : Vec Ideal S1x1024 .f32) (ix2 0 j) = aG m c (ix1 j) := by
  dsimp only [V, hostOps0, hostOps0_1, hostOps0_2]
  simp only [List.flatten_cons, List.flatten_nil, List.append_nil, List.cons_append, List.nil_append]
  after_results_simp
  try simp only [TRef.toBuf, TRef.ofBuf, cast_eq]
  pointwise

theorem V_w (k e : Fin 1024) : (V m c main_v32 : Vec Ideal S1024x1024 .bf16) (ix2 k e) = aW m c (ix2 k e) := by
  dsimp only [V, hostOps0, hostOps0_1, hostOps0_2]
  simp only [List.flatten_cons, List.flatten_nil, List.append_nil, List.cons_append, List.nil_append]
  after_results_simp
  try simp only [TRef.toBuf, TRef.ofBuf, cast_eq]
  pointwise

end Host

/-! ## The windows' blocks, read -/

theorem win_4 (t : Fin cfg0.N) (r : Fin 512) (j : Fin 512) : bz m c t (ix2 r j) = aP m c (ix2 (row t r) ⟨1824 + j.val, by omega⟩) := by
  have h0 : bz m c t (ix2 r j) = V m c main_v30 (ix2 (row t r) ⟨1536 + j.val, by omega⟩) := by
    unfold bz X0_4 Pipeline.Window.fill
    rw [dif_pos (moved0_4 t _)]
    unfold iblk
    rw [View.read_apply]
    refine congrArg (V m c main_v30) (Lift.eq_ix2_of (?_ : win0_4.index t 0 * 512 + 1 * r.val = t.val * 512 + r.val)
      (?_ : win0_4.index t 1 * 512 + 1 * j.val = 1536 + j.val)) <;> simp [index_row t]
  rw [h0, V_z, dif_neg (by dsimp only; omega), dif_pos (by dsimp only; omega)]
  exact congrArg (fun q => aP m c (ix2 (row t r) q)) (Fin.ext (by simp only; omega))

theorem win_0 (t : Fin cfg0.N) (r : Fin 512) (j : Fin 1024) : bd m c t (ix2 r j) = aD m c (ix2 (row t r) j) := by
  have h0 : bd m c t (ix2 r j) = V m c main_arg8 (ix2 (row t r) j) := by
    unfold bd iblk
    rw [View.read_apply]
    refine congrArg (V m c main_arg8) (Lift.eq_ix2_of (i := ((cfg0.win 0).blk t).view.emb (ix2 r j)) (?_ : win0_0.index t 0 * 512 + 1 * r.val = t.val * 512 + r.val)
      (?_ : win0_0.index t 1 * 1024 + 1 * j.val = j.val)) <;> simp [index_row t]
  exact h0.trans (congrFun (V_main_arg8 m c) _)

theorem win_1 (t : Fin cfg0.N) (r : Fin 512) (j : Fin 256) : bc m c t (ix2 r j) = aC m c (ix2 (row t r) j) := by
  have h0 : bc m c t (ix2 r j) = V m c main_arg0 (ix2 (row t r) j) := by
    unfold bc iblk
    rw [View.read_apply]
    refine congrArg (V m c main_arg0) (Lift.eq_ix2_of (i := ((cfg0.win 1).blk t).view.emb (ix2 r j)) (?_ : win0_1.index t 0 * 512 + 1 * r.val = t.val * 512 + r.val)
      (?_ : win0_1.index t 1 * 256 + 1 * j.val = j.val)) <;> simp [index_row t]
  exact h0.trans (congrFun (V_main_arg0 m c) _)

theorem win_2 (t : Fin cfg0.N) (r : Fin 512) (j : Fin 512) : bo m c t (ix2 r j) = aO m c (ix2 (row t r) j) := by
  have h0 : bo m c t (ix2 r j) = V m c main_arg1 (ix2 (row t r) j) := by
    unfold bo iblk
    rw [View.read_apply]
    refine congrArg (V m c main_arg1) (Lift.eq_ix2_of (i := ((cfg0.win 2).blk t).view.emb (ix2 r j)) (?_ : win0_2.index t 0 * 512 + 1 * r.val = t.val * 512 + r.val)
      (?_ : win0_2.index t 1 * 512 + 1 * j.val = j.val)) <;> simp [index_row t]
  exact h0.trans (congrFun (V_main_arg1 m c) _)

theorem win_5 (t : Fin cfg0.N) (r : Fin 512) (j : Fin 256) : bs m c t (ix2 r j) = aS m c (ix2 (row t r) j) := by
  have h0 : bs m c t (ix2 r j) = V m c main_arg2 (ix2 (row t r) j) := by
    unfold bs iblk
    rw [View.read_apply]
    refine congrArg (V m c main_arg2) (Lift.eq_ix2_of (i := ((cfg0.win 5).blk t).view.emb (ix2 r j)) (?_ : win0_5.index t 0 * 512 + 1 * r.val = t.val * 512 + r.val)
      (?_ : win0_5.index t 1 * 256 + 1 * j.val = j.val)) <;> simp [index_row t]
  exact h0.trans (congrFun (V_main_arg2 m c) _)

theorem read_3 (A : Vec Ideal S8192x512 .f32) (t : Fin cfg0.N) (r : Fin 512) (j : Fin 512) :
    (((cfg0.win 3).blk t).view.read (Elt Ideal) A : Vec Ideal S512x512 .f32) (ix2 r j) = A (ix2 (row t r) j) := by
  rw [View.read_apply]
  refine congrArg A (Lift.eq_ix2_of (i := ((cfg0.win 3).blk t).view.emb (ix2 r j)) (?_ : win0_3.index t 0 * 512 + 1 * r.val = t.val * 512 + r.val)
      (?_ : win0_3.index t 1 * 512 + 1 * j.val = j.val)) <;> simp [index_row t]

/-- The row statistics as the call finds them. -/
def aL : Vec Ideal S8192x512 .f32 := V m c (Pipeline.arrRef spec0 3)

theorem win_3 (t : Fin cfg0.N) (r : Fin 512) (j : Fin 512) : bl m c t (ix2 r j) = aL m c (ix2 (row t r) j) := by
  have h := read_3 (aL m c) t r j
  unfold aL at h
  unfold aL bl iblk
  exact h

theorem win_6 (t : Fin cfg0.N) (r : Fin 1) (j : Fin 1024) : bg m c t (ix2 r j) = aG m c (ix1 j) := by
  have h0 : bg m c t (ix2 r j) = V m c main_v31 (ix2 (r) j) := by
    unfold bg iblk
    rw [View.read_apply]
    refine congrArg (V m c main_v31) (Lift.eq_ix2_of (i := ((cfg0.win 6).blk t).view.emb (ix2 r j)) (?_ : win0_6.index t 0 * 1 + 1 * r.val = r.val)
      (?_ : win0_6.index t 1 * 1024 + 1 * j.val = j.val)) <;> simp [index_row t]
  obtain rfl : r = 0 := Subsingleton.elim _ _
  exact h0.trans (V_g m c j)

theorem win_7 (t : Fin cfg0.N) (r : Fin 1024) (j : Fin 1024) : bw m c t (ix2 r j) = aW m c (ix2 r j) := by
  have h0 : bw m c t (ix2 r j) = V m c main_v32 (ix2 (r) j) := by
    unfold bw iblk
    rw [View.read_apply]
    refine congrArg (V m c main_v32) (Lift.eq_ix2_of (i := ((cfg0.win 7).blk t).view.emb (ix2 r j)) (?_ : win0_7.index t 0 * 1024 + 1 * r.val = r.val)
      (?_ : win0_7.index t 1 * 1024 + 1 * j.val = j.val)) <;> simp [index_row t]
  exact h0.trans (V_w m c r j)

/-! ## The results -/

/-- The gate's input, a row of the gated attention output, and the cotangent of the normalised, scaled rows. -/
def ymR (o : Vec Ideal S8192x512 .f32) (p : Vec Ideal S8192x3104 .f32) (r : Fin 8192) (j : Fin 512) : EReal :=
  o (ix2 r j) * (p (ix2 r ⟨1824 + j.val, by omega⟩) * sg (p (ix2 r ⟨1824 + j.val, by omega⟩)))
def dyR (d : Vec Ideal S8192x1024 .f32) (w : Vec Ideal S1024x1024 .f32) (r : Fin 8192) (k : Fin 1024) : EReal := ∑ e, d (ix2 r e) * w (ix2 k e)
def dycR (d : Vec Ideal S8192x1024 .f32) (yc : Vec Ideal S8192x256 .f32) (g : Vec Ideal S1024 .f32) (w : Vec Ideal S1024x1024 .f32) (r : Fin 8192) (j : Fin 256) : EReal :=
  rb c256 (fun k => yc (ix2 r k)) (fun k => dyR d w r ⟨k.val, by omega⟩ * g (ix1 ⟨k.val, by omega⟩)) j
def dysR (d : Vec Ideal S8192x1024 .f32) (ys : Vec Ideal S8192x256 .f32) (g : Vec Ideal S1024 .f32) (w : Vec Ideal S1024x1024 .f32) (r : Fin 8192) (j : Fin 256) : EReal :=
  rb c256 (fun k => ys (ix2 r k)) (fun k => dyR d w r ⟨768 + k.val, by omega⟩ * g (ix1 ⟨768 + k.val, by omega⟩)) j
/-- The gradient of the gated attention output. -/
def dR (d : Vec Ideal S8192x1024 .f32) (o : Vec Ideal S8192x512 .f32) (p : Vec Ideal S8192x3104 .f32) (g : Vec Ideal S1024 .f32) (w : Vec Ideal S1024x1024 .f32) (r : Fin 8192) (j : Fin 512) : EReal :=
  rb c512 (ymR o p r) (fun k => dyR d w r ⟨256 + k.val, by omega⟩ * g (ix1 ⟨256 + k.val, by omega⟩)) j
def doR (d : Vec Ideal S8192x1024 .f32) (o : Vec Ideal S8192x512 .f32) (p : Vec Ideal S8192x3104 .f32) (g : Vec Ideal S1024 .f32) (w : Vec Ideal S1024x1024 .f32) (r : Fin 8192) (j : Fin 512) : EReal :=
  dR d o p g w r j * (p (ix2 r ⟨1824 + j.val, by omega⟩) * sg (p (ix2 r ⟨1824 + j.val, by omega⟩)))
def dzmR (d : Vec Ideal S8192x1024 .f32) (o : Vec Ideal S8192x512 .f32) (p : Vec Ideal S8192x3104 .f32) (g : Vec Ideal S1024 .f32) (w : Vec Ideal S1024x1024 .f32) (r : Fin 8192) (j : Fin 512) : EReal :=
  dR d o p g w r j * o (ix2 r j) * dsl (p (ix2 r ⟨1824 + j.val, by omega⟩))
def stR (d : Vec Ideal S8192x1024 .f32) (o : Vec Ideal S8192x512 .f32) (p : Vec Ideal S8192x3104 .f32) (g : Vec Ideal S1024 .f32) (w : Vec Ideal S1024x1024 .f32) (ls : Vec Ideal S8192x512 .f32) (r : Fin 8192) (j : Fin 512) : EReal :=
  if j.val % 64 < 32 then ls (ix2 r j) else ∑ l : Fin 64,
    doR d o p g w r ⟨(j.val / 64) * 64 + l.val, by omega⟩ * o (ix2 r ⟨(j.val / 64) * 64 + l.val, by omega⟩)
/-- The normalised rows before the gain, all three branches. -/
def nR (yc ys : Vec Ideal S8192x256 .f32) (o : Vec Ideal S8192x512 .f32) (p : Vec Ideal S8192x3104 .f32) (r : Fin 8192) (k : Fin 1024) : EReal :=
  if h : k.val < 256 then yc (ix2 r ⟨k.val, h⟩) * rs c256 (fun k => yc (ix2 r k))
  else if h : k.val < 768 then ymR o p r ⟨k.val - 256, by omega⟩ * rs c512 (ymR o p r)
  else ys (ix2 r ⟨k.val - 768, by omega⟩) * rs c256 (fun k => ys (ix2 r k))
def gwR (d : Vec Ideal S8192x1024 .f32) (yc ys : Vec Ideal S8192x256 .f32) (o : Vec Ideal S8192x512 .f32) (p : Vec Ideal S8192x3104 .f32) (g : Vec Ideal S1024 .f32) (k e : Fin 1024) : EReal :=
  ∑ r, nR yc ys o p r k * g (ix1 k) * d (ix2 r e)
def ggR (d : Vec Ideal S8192x1024 .f32) (yc ys : Vec Ideal S8192x256 .f32) (o : Vec Ideal S8192x512 .f32) (p : Vec Ideal S8192x3104 .f32) (w : Vec Ideal S1024x1024 .f32) (j : Fin 1024) : EReal :=
  ∑ r, dyR d w r j * nR yc ys o p r j

theorem dyB_eq (t : Fin cfg0.N) (r : Fin 512) (k : Fin 1024) : dyB (bd m c t) (bw m c t) r k = dyR (aD m c) (aW m c) (row t r) k := by
  unfold dyB dyR; simp only [win_0, win_7]
theorem ymB_eq (t : Fin cfg0.N) (r : Fin 512) : ymB (bo m c t) (bz m c t) r = ymR (aO m c) (aP m c) (row t r) := by
  funext j; unfold ymB ymR; simp only [win_2, win_4]
theorem dB_eq (t : Fin cfg0.N) (r : Fin 512) (j : Fin 512) : dB (bd m c t) (bo m c t) (bz m c t) (bg m c t) (bw m c t) r j
    = dR (aD m c) (aO m c) (aP m c) (aG m c) (aW m c) (row t r) j := by
  unfold dB dR; simp only [ymB_eq, dyB_eq, win_6]
theorem nB_eq (t : Fin cfg0.N) (r : Fin 512) (k : Fin 1024) : nB (bc m c t) (bs m c t) (bo m c t) (bz m c t) r k = nR (aC m c) (aS m c) (aO m c) (aP m c) (row t r) k := by
  unfold nB nR; simp only [ymB_eq, win_1, win_5]

theorem dyc_eq : (dats m 0 c).arrAt 8 cfg0.N = fun i => dycR (aD m c) (aC m c) (aG m c) (aW m c) (i 0) (i 1) := by
  have he (t : Fin cfg0.N) (r : Fin 512) (j : Fin 256) : ((cfg0.win 8).blk t).view.emb (ix2 r j) = ix2 (row t r) j :=
    Lift.eq_ix2_of (show win0_8.index t 0 * 512 + 1 * r.val = t.val * 512 + r.val by simp [index_row t])
      (show win0_8.index t 1 * 256 + 1 * j.val = j.val by simp [index_row t])
  refine (dats m 0 c).arrAt_eq_of_cover 8 _ (fun t _ => ?_) fun i => ?_
  · rw [Value.flushed8]
    funext y
    obtain ⟨r, j, rfl⟩ : ∃ (r : Fin 512) (j : Fin 256), y = ix2 r j := ⟨y 0, y 1, eq_ix2 y⟩
    rw [View.read_apply, he]
    refine (outs_dyc m c t r j).trans ?_
    simp only [win_1, win_6, dyB_eq]
    rfl
  · obtain ⟨r, j, rfl⟩ : ∃ (r : Fin 8192) (j : Fin 256), i = ix2 r j := ⟨i 0, i 1, eq_ix2 i⟩
    obtain ⟨t, r, rfl⟩ := exists_row r
    exact ⟨t, flush0_8 t, by rw [← he t r j]; exact Finset.mem_map_of_mem _ (Finset.mem_univ _)⟩

theorem dys_eq : (dats m 0 c).arrAt 9 cfg0.N = fun i => dysR (aD m c) (aS m c) (aG m c) (aW m c) (i 0) (i 1) := by
  have he (t : Fin cfg0.N) (r : Fin 512) (j : Fin 256) : ((cfg0.win 9).blk t).view.emb (ix2 r j) = ix2 (row t r) j :=
    Lift.eq_ix2_of (show win0_9.index t 0 * 512 + 1 * r.val = t.val * 512 + r.val by simp [index_row t])
      (show win0_9.index t 1 * 256 + 1 * j.val = j.val by simp [index_row t])
  refine (dats m 0 c).arrAt_eq_of_cover 9 _ (fun t _ => ?_) fun i => ?_
  · rw [Value.flushed9]
    funext y
    obtain ⟨r, j, rfl⟩ : ∃ (r : Fin 512) (j : Fin 256), y = ix2 r j := ⟨y 0, y 1, eq_ix2 y⟩
    rw [View.read_apply, he]
    refine (outs_dys m c t r j).trans ?_
    simp only [win_5, win_6, dyB_eq]
    rfl
  · obtain ⟨r, j, rfl⟩ : ∃ (r : Fin 8192) (j : Fin 256), i = ix2 r j := ⟨i 0, i 1, eq_ix2 i⟩
    obtain ⟨t, r, rfl⟩ := exists_row r
    exact ⟨t, flush0_9 t, by rw [← he t r j]; exact Finset.mem_map_of_mem _ (Finset.mem_univ _)⟩

theorem do_eq : (dats m 0 c).arrAt 10 cfg0.N = fun i => doR (aD m c) (aO m c) (aP m c) (aG m c) (aW m c) (i 0) (i 1) := by
  have he (t : Fin cfg0.N) (r : Fin 512) (j : Fin 512) : ((cfg0.win 10).blk t).view.emb (ix2 r j) = ix2 (row t r) j :=
    Lift.eq_ix2_of (show win0_10.index t 0 * 512 + 1 * r.val = t.val * 512 + r.val by simp [index_row t])
      (show win0_10.index t 1 * 512 + 1 * j.val = j.val by simp [index_row t])
  refine (dats m 0 c).arrAt_eq_of_cover 10 _ (fun t _ => ?_) fun i => ?_
  · rw [Value.flushed10]
    funext y
    obtain ⟨r, j, rfl⟩ : ∃ (r : Fin 512) (j : Fin 512), y = ix2 r j := ⟨y 0, y 1, eq_ix2 y⟩
    rw [View.read_apply, he]
    refine (outs_do m c t r j).trans ?_
    simp only [dB_eq, win_4]
    rfl
  · obtain ⟨r, j, rfl⟩ : ∃ (r : Fin 8192) (j : Fin 512), i = ix2 r j := ⟨i 0, i 1, eq_ix2 i⟩
    obtain ⟨t, r, rfl⟩ := exists_row r
    exact ⟨t, flush0_10 t, by rw [← he t r j]; exact Finset.mem_map_of_mem _ (Finset.mem_univ _)⟩

theorem dzm_eq : (dats m 0 c).arrAt 11 cfg0.N = fun i => dzmR (aD m c) (aO m c) (aP m c) (aG m c) (aW m c) (i 0) (i 1) := by
  have he (t : Fin cfg0.N) (r : Fin 512) (j : Fin 512) : ((cfg0.win 11).blk t).view.emb (ix2 r j) = ix2 (row t r) j :=
    Lift.eq_ix2_of (show win0_11.index t 0 * 512 + 1 * r.val = t.val * 512 + r.val by simp [index_row t])
      (show win0_11.index t 1 * 512 + 1 * j.val = j.val by simp [index_row t])
  refine (dats m 0 c).arrAt_eq_of_cover 11 _ (fun t _ => ?_) fun i => ?_
  · rw [Value.flushed11]
    funext y
    obtain ⟨r, j, rfl⟩ : ∃ (r : Fin 512) (j : Fin 512), y = ix2 r j := ⟨y 0, y 1, eq_ix2 y⟩
    rw [View.read_apply, he]
    refine (outs_dzm m c t r j).trans ?_
    simp only [dB_eq, win_2, win_4]
    rfl
  · obtain ⟨r, j, rfl⟩ : ∃ (r : Fin 8192) (j : Fin 512), i = ix2 r j := ⟨i 0, i 1, eq_ix2 i⟩
    obtain ⟨t, r, rfl⟩ := exists_row r
    exact ⟨t, flush0_11 t, by rw [← he t r j]; exact Finset.mem_map_of_mem _ (Finset.mem_univ _)⟩

theorem st_eq : (dats m 0 c).arrAt 12 cfg0.N = fun i => stR (aD m c) (aO m c) (aP m c) (aG m c) (aW m c) (aL m c) (i 0) (i 1) := by
  have he (t : Fin cfg0.N) (r : Fin 512) (j : Fin 512) : ((cfg0.win 12).blk t).view.emb (ix2 r j) = ix2 (row t r) j :=
    Lift.eq_ix2_of (show win0_12.index t 0 * 512 + 1 * r.val = t.val * 512 + r.val by simp [index_row t])
      (show win0_12.index t 1 * 512 + 1 * j.val = j.val by simp [index_row t])
  refine (dats m 0 c).arrAt_eq_of_cover 12 _ (fun t _ => ?_) fun i => ?_
  · rw [Value.flushed12]
    funext y
    obtain ⟨r, j, rfl⟩ : ∃ (r : Fin 512) (j : Fin 512), y = ix2 r j := ⟨y 0, y 1, eq_ix2 y⟩
    rw [View.read_apply, he]
    refine (outs_st m c t r j).trans ?_
    simp only [dB_eq, win_2, win_3, win_4]
    rfl
  · obtain ⟨r, j, rfl⟩ : ∃ (r : Fin 8192) (j : Fin 512), i = ix2 r j := ⟨i 0, i 1, eq_ix2 i⟩
    obtain ⟨t, r, rfl⟩ := exists_row r
    exact ⟨t, flush0_12 t, by rw [← he t r j]; exact Finset.mem_map_of_mem _ (Finset.mem_univ _)⟩

theorem gw_sum (k e : Fin 1024) : ∑ s : Fin 16, gwT m c ⟨s.val, by have : cfg0.N = 16 := N_0; omega⟩ k e = gwR (aD m c) (aC m c) (aS m c) (aO m c) (aP m c) (aG m c) k e := by
  unfold gwR
  rw [Fin.sum_univ_tiles 16 512 rfl]
  simp only [gwT, nB_eq, win_0, win_6]
  exact Finset.sum_congr rfl fun s _ => Finset.sum_congr rfl fun r _ => rfl

theorem gg_sum (j : Fin 1024) : ∑ s : Fin 16, ggT m c ⟨s.val, by have : cfg0.N = 16 := N_0; omega⟩ j = ggR (aD m c) (aC m c) (aS m c) (aO m c) (aP m c) (aW m c) j := by
  unfold ggR
  rw [Fin.sum_univ_tiles 16 512 rfl]
  simp only [ggT, nB_eq, dyB_eq]
  exact Finset.sum_congr rfl fun s _ => Finset.sum_congr rfl fun r _ => rfl

theorem gw_last (k e : Fin 1024) (n : ℕ) (h : n < cfg0.N) (hn : n = 15) :
    ((outsAt0 m c n h).2.2.2.2.2.1 : Vec Ideal S1024x1024 .f32) (ix2 k e) = gwR (aD m c) (aC m c) (aS m c) (aO m c) (aP m c) (aG m c) k e := by
  have hg (N : ℕ) (hN : N = n + 1) : ((outsAt0 m c n h).2.2.2.2.2.1 : Vec Ideal S1024x1024 .f32) (ix2 k e) = ∑ s : Fin N, gwT m c ⟨s.val, by omega⟩ k e := by
    subst hN
    exact outs_gw m c k e n h
  have h1 := hg 16 (by omega)
  have h2 := gw_sum m c k e
  rw [h1]
  exact h2

theorem gg_last (j : Fin 1024) (n : ℕ) (h : n < cfg0.N) (hn : n = 15) :
    ((outsAt0 m c n h).2.2.2.2.2.2 : Vec Ideal S1x1024 .f32) (ix2 0 j) = ggR (aD m c) (aC m c) (aS m c) (aO m c) (aP m c) (aW m c) j := by
  have hg (N : ℕ) (hN : N = n + 1) : ((outsAt0 m c n h).2.2.2.2.2.2 : Vec Ideal S1x1024 .f32) (ix2 0 j) = ∑ s : Fin N, ggT m c ⟨s.val, by omega⟩ j := by
    subst hN
    exact outs_gg m c j n h
  have h1 := hg 16 (by omega)
  have h2 := gg_sum m c j
  rw [h1]
  exact h2

theorem gw_eq : (dats m 0 c).arrAt 13 cfg0.N = fun i => gwR (aD m c) (aC m c) (aS m c) (aO m c) (aP m c) (aG m c) (i 0) (i 1) := by
  have he (t : Fin cfg0.N) (k e : Fin 1024) : ((cfg0.win 13).blk t).view.emb (ix2 k e) = ix2 k e :=
    Lift.eq_ix2_of (show win0_13.index t 0 * 1024 + 1 * k.val = k.val by simp [index_row t])
      (show win0_13.index t 1 * 1024 + 1 * e.val = e.val by simp [index_row t])
  have hN : cfg0.N = 16 := N_0
  refine (dats m 0 c).arrAt_eq_of_cover 13 _ (fun t hf => ?_) fun i => ?_
  · have ht : t.val = 15 := by have := (flush0_13 t).mp hf; have := t.isLt; omega
    rw [Value.flushed13]
    funext y
    obtain ⟨k, e, rfl⟩ : ∃ (k e : Fin 1024), y = ix2 k e := ⟨y 0, y 1, eq_ix2 y⟩
    rw [View.read_apply, he]
    refine (gw_last m c k e t.val t.isLt ht).trans ?_
    generalize gwR (aD m c) (aC m c) (aS m c) (aO m c) (aP m c) (aG m c) = f
    rfl
  · obtain ⟨k, e, rfl⟩ : ∃ (k e : Fin 1024), i = ix2 k e := ⟨i 0, i 1, eq_ix2 i⟩
    have h15 : 15 < cfg0.N := by omega
    exact ⟨⟨15, h15⟩, (flush0_13 _).mpr rfl, by rw [← he ⟨15, h15⟩ k e]; exact Finset.mem_map_of_mem _ (Finset.mem_univ _)⟩

theorem gg_eq : (dats m 0 c).arrAt 14 cfg0.N = fun i => ggR (aD m c) (aC m c) (aS m c) (aO m c) (aP m c) (aW m c) (i 1) := by
  have he (t : Fin cfg0.N) (j : Fin 1024) : ((cfg0.win 14).blk t).view.emb (ix2 0 j) = ix2 0 j :=
    Lift.eq_ix2_of (show win0_14.index t 0 * 1 + 1 * 0 = 0 by simp [index_row t])
      (show win0_14.index t 1 * 1024 + 1 * j.val = j.val by simp [index_row t])
  have hN : cfg0.N = 16 := N_0
  refine (dats m 0 c).arrAt_eq_of_cover 14 _ (fun t hf => ?_) fun i => ?_
  · have ht : t.val = 15 := by have := (flush0_14 t).mp hf; have := t.isLt; omega
    rw [Value.flushed14]
    funext y
    obtain ⟨r, j, rfl⟩ : ∃ (r : Fin 1) (j : Fin 1024), y = ix2 r j := ⟨y 0, y 1, eq_ix2 y⟩
    obtain rfl : r = 0 := Subsingleton.elim _ _
    rw [View.read_apply, he]
    refine (gg_last m c j t.val t.isLt ht).trans ?_
    generalize ggR (aD m c) (aC m c) (aS m c) (aO m c) (aP m c) (aW m c) = f
    rfl
  · obtain ⟨r, j, rfl⟩ : ∃ (r : Fin 1) (j : Fin 1024), i = ix2 r j := ⟨i 0, i 1, eq_ix2 i⟩
    obtain rfl : r = 0 := Subsingleton.elim _ _
    have h15 : 15 < cfg0.N := by omega
    exact ⟨⟨15, h15⟩, (flush0_14 _).mpr rfl, by rw [← he ⟨15, h15⟩ j]; exact Finset.mem_map_of_mem _ (Finset.mem_univ _)⟩

end Cert.PostBwdIdeal.Val
-- ==== Proof.PostRef.lean ====
/-
  The reference of the output stage's backward call: its results, and that they are the call's.
-/
module
public import proofs.«01_k».proof.Proof.Gen.PostRefIdeal.Read
public import proofs.«01_k».proof.Proof.PostKernel
@[expose] public section
noncomputable section
namespace Cert.PostRefIdeal.Val
open Idealize.ShloMosaic Idealize.SL.Sem Cert.PostRefIdeal Cert.PostRefIdeal.Gen Cert.PostRefIdeal.Read
open Cert.Lift Cert.Rows
open Cert.PostBwdIdeal.Val (ymR dyR dycR dysR dR doR dzmR stR nR gwR ggR)

variable (yc ys : Vec Ideal S8192x256 .f32) (o : Vec Ideal S8192x512 .f32) (p : Vec Ideal S8192x3104 .f32) (g : Vec Ideal S1024 .f32)
  (w : Vec Ideal S1024x1024 .f32) (q k : Vec Ideal S8192x8x96 .f32) (d : Vec Ideal S8192x1024 .f32)

theorem dy_ref (r : Fin 8192) (j : Fin 1024) : val_main_v58 w d (ix2 r j) = dyR d w r j := by
  simp only [val_main_v58]
  pointwise
  rfl

variable {YC YS : S8192x256.Idx → ℝ} {O : S8192x512.Idx → ℝ} {P : S8192x3104.Idx → ℝ} {G : S1024.Idx → ℝ} {W : S1024x1024.Idx → ℝ} {D : S8192x1024.Idx → ℝ}

theorem dy_real (hw : w = fun i => ((W i : ℝ) : EReal)) (hd : d = fun i => ((D i : ℝ) : EReal)) (r : Fin 8192) (j : Fin 1024) :
    dyR d w r j = ((∑ e, D (ix2 r e) * W (ix2 j e) : ℝ) : EReal) := by
  subst hw hd
  unfold dyR
  simp only [← EReal.coe_mul, coe_sum]

theorem dyg_real (hg : g = fun i => ((G i : ℝ) : EReal)) (hw : w = fun i => ((W i : ℝ) : EReal)) (hd : d = fun i => ((D i : ℝ) : EReal)) (r : Fin 8192) (j : Fin 1024) :
    dyR d w r j * g (ix1 j) = (((∑ e, D (ix2 r e) * W (ix2 j e)) * G (ix1 j) : ℝ) : EReal) := by
  rw [dy_real w d hw hd, hg, EReal.coe_mul]

theorem ym_real (ho : o = fun i => ((O i : ℝ) : EReal)) (hp : p = fun i => ((P i : ℝ) : EReal)) (r : Fin 8192) (j : Fin 512) :
    ymR o p r j = ((O (ix2 r j) * (P (ix2 r ⟨1824 + j.val, by omega⟩) * sgm (P (ix2 r ⟨1824 + j.val, by omega⟩))) : ℝ) : EReal) := by
  subst ho hp
  unfold ymR
  simp only [sg_real, ← EReal.coe_mul]

theorem dyc_ref (hy : yc = fun i => ((YC i : ℝ) : EReal)) (hg : g = fun i => ((G i : ℝ) : EReal)) (hw : w = fun i => ((W i : ℝ) : EReal)) (hd : d = fun i => ((D i : ℝ) : EReal))
    (r : Fin 8192) (j : Fin 256) : val_main_v124 yc g w d (ix2 r j) = dycR d yc g w r j := by
  simp only [val_main_v124, val_main_v123, val_main_v122, val_main_v121, val_main_v120, val_main_v119, val_main_cst_27, val_main_v118, val_main_v117, val_main_cst_26, val_main_v116, val_main_v115, val_main_v114, val_main_v113, val_main_v112, val_main_cst_25, val_main_v111, val_main_v109, val_main_v108, val_main_v59, val_main_v17, val_main_v14, val_main_v13, val_main_cst_2, val_main_v12, val_main_v11, val_main_v10, val_main_v9, val_main_cst_1, val_main_v8, val_main_v7, val_main_cst_0, val_main_v6, val_main_v5, val_main_cst, val_main_v4, val_main_v3]
  pointwise
  simp only [dy_ref]
  exact rb_ref (c := c256) (show (0 : ℝ) < 256 by norm_num) word_c256 word_256 (fun k => congrFun hy (ix2 r k)) (fun k => dyg_real g w d hg hw hd r ⟨k.val, by omega⟩) j

theorem dys_ref (hy : ys = fun i => ((YS i : ℝ) : EReal)) (hg : g = fun i => ((G i : ℝ) : EReal)) (hw : w = fun i => ((W i : ℝ) : EReal)) (hd : d = fun i => ((D i : ℝ) : EReal))
    (r : Fin 8192) (j : Fin 256) : val_main_v81 ys g w d (ix2 r j) = dysR d ys g w r j := by
  simp only [val_main_v81, val_main_v80, val_main_v79, val_main_v78, val_main_v77, val_main_v76, val_main_cst_15, val_main_v75, val_main_v74, val_main_cst_14, val_main_v73, val_main_v72, val_main_v71, val_main_v70, val_main_v69, val_main_cst_13, val_main_v68, val_main_v66, val_main_v65, val_main_v61, val_main_v51, val_main_v48, val_main_v47, val_main_cst_10, val_main_v46, val_main_v45, val_main_v44, val_main_v43, val_main_cst_9, val_main_v42, val_main_v41, val_main_cst_8, val_main_v40, val_main_v39, val_main_cst_7, val_main_v38, val_main_v37]
  pointwise
  simp only [dy_ref]
  exact rb_ref (c := c256) (show (0 : ℝ) < 256 by norm_num) word_c256 word_256 (fun k => congrFun hy (ix2 r k)) (fun k => dyg_real g w d hg hw hd r ⟨768 + k.val, by omega⟩) j

theorem d_ref (ho : o = fun i => ((O i : ℝ) : EReal)) (hp : p = fun i => ((P i : ℝ) : EReal)) (hg : g = fun i => ((G i : ℝ) : EReal)) (hw : w = fun i => ((W i : ℝ) : EReal)) (hd : d = fun i => ((D i : ℝ) : EReal))
    (r : Fin 8192) (j : Fin 512) : val_main_v102 o p g w d (ix2 r j) = dR d o p g w r j := by
  simp only [val_main_v102, val_main_v101, val_main_v100, val_main_v99, val_main_v98, val_main_v97, val_main_cst_21, val_main_v96, val_main_v95, val_main_cst_20, val_main_v94, val_main_v93, val_main_v92, val_main_v91, val_main_v90, val_main_cst_19, val_main_v89, val_main_v87, val_main_v86, val_main_v60, val_main_v34, val_main_v31, val_main_v30, val_main_cst_6, val_main_v29, val_main_v28, val_main_v27, val_main_v26, val_main_cst_5, val_main_v25, val_main_v24, val_main_cst_4, val_main_v23, val_main_v22, val_main_cst_3, val_main_v21, val_main_v20, val_main_v2, val_main_v1_0, val_main_v1_2, val_main_call0_v4, val_main_call0_cst_0, val_main_call0_v3, val_main_call0_v2, val_main_call0_cst, val_main_call0_v1, val_main_call0_v0, val_main_v0]
  pointwise
  simp only [dy_ref]
  simp only [logi]
  exact rb_ref (c := c512) (show (0 : ℝ) < 512 by norm_num) word_c512 word_512 (ym_real o p ho hp r) (fun k => dyg_real g w d hg hw hd r ⟨256 + k.val, by omega⟩) j

theorem do_ref (ho : o = fun i => ((O i : ℝ) : EReal)) (hp : p = fun i => ((P i : ℝ) : EReal)) (hg : g = fun i => ((G i : ℝ) : EReal)) (hw : w = fun i => ((W i : ℝ) : EReal)) (hd : d = fun i => ((D i : ℝ) : EReal))
    (r : Fin 8192) (j : Fin 512) : val_main_v128 o p g w d (ix2 r j) = doR d o p g w r j := by
  simp only [val_main_v128, val_main_v1_0, val_main_v1_2, val_main_call0_v4, val_main_call0_cst_0, val_main_call0_v3, val_main_call0_v2, val_main_call0_cst, val_main_call0_v1, val_main_call0_v0, val_main_v0]
  pointwise
  rw [d_ref o p g w d ho hp hg hw hd, logi]
  rfl

theorem dob_ref (ho : o = fun i => ((O i : ℝ) : EReal)) (hp : p = fun i => ((P i : ℝ) : EReal)) (hg : g = fun i => ((G i : ℝ) : EReal)) (hw : w = fun i => ((W i : ℝ) : EReal)) (hd : d = fun i => ((D i : ℝ) : EReal))
    (r : Fin 8192) (j : Fin 512) : val_main_v162 o p g w d (ix2 r j) = doR d o p g w r j := by
  rw [← do_ref o p g w d ho hp hg hw hd]
  simp only [val_main_v162]
  pointwise

theorem dzm_ref (ho : o = fun i => ((O i : ℝ) : EReal)) (hp : p = fun i => ((P i : ℝ) : EReal)) (hg : g = fun i => ((G i : ℝ) : EReal)) (hw : w = fun i => ((W i : ℝ) : EReal)) (hd : d = fun i => ((D i : ℝ) : EReal))
    (r : Fin 8192) (j : Fin 512) : val_main_v163 o p g w d (ix2 r j) = dzmR d o p g w r j := by
  simp only [val_main_v163, val_main_v129, val_main_call1_v2, val_main_call1_v1, val_main_call1_v0, val_main_v127, val_main_v1_1, val_main_call0_v7, val_main_call0_v6, val_main_call0_cst_1, val_main_v1_2, val_main_call0_v4, val_main_call0_cst_0, val_main_call0_v3, val_main_call0_v2, val_main_call0_cst, val_main_call0_v1, val_main_call0_v0, val_main_v0]
  pointwise
  rw [d_ref o p g w d ho hp hg hw hd, logi]
  unfold dzmR dsl
  rw [word_one]
  obtain ⟨x, hx⟩ := rb_real (c := c512) (show (0 : ℝ) < 512 by norm_num) word_c512 (ym_real o p ho hp r) (fun k => dyg_real g w d hg hw hd r ⟨256 + k.val, by omega⟩) j
  rw [show dR d o p g w r j = (x : EReal) from hx]
  subst ho hp
  simp only [sg_real, ← EReal.coe_one, ← EReal.coe_mul, ← EReal.coe_sub, ← EReal.coe_add]
  refine congrArg _ ?_
  ring

theorem n_1 (r : Fin 8192) (e : Fin 1024) (h : e.val < 256) : nR yc ys o p r e = yc (ix2 r ⟨e.val, h⟩) * rs c256 (fun k => yc (ix2 r k)) := by
  unfold nR; rw [dif_pos h]
theorem n_2 (r : Fin 8192) (e : Fin 1024) (h : ¬ e.val < 256) (h' : e.val < 768) : nR yc ys o p r e = ymR o p r ⟨e.val - 256, by omega⟩ * rs c512 (ymR o p r) := by
  unfold nR; rw [dif_neg h, dif_pos h']
theorem n_3 (r : Fin 8192) (e : Fin 1024) (h : ¬ e.val < 256) (h' : ¬ e.val < 768) : nR yc ys o p r e = ys (ix2 r ⟨e.val - 768, by omega⟩) * rs c256 (fun k => ys (ix2 r k)) := by
  unfold nR; rw [dif_neg h, dif_neg h']

theorem gw_ref (e j : Fin 1024) : val_main_v57 yc o ys p g d (ix2 e j) = gwR d yc ys o p g e j := by
  simp only [val_main_v57, val_main_v56, val_main_v54, val_main_v53, val_main_v52, val_main_v51, val_main_v50, val_main_v49, val_main_v45, val_main_v44, val_main_v43, val_main_cst_9, val_main_v42, val_main_v41, val_main_cst_8, val_main_v40, val_main_v39, val_main_cst_7, val_main_v38, val_main_v37, val_main_v36, val_main_v35, val_main_v34, val_main_v33, val_main_v32, val_main_v28, val_main_v27, val_main_v26, val_main_cst_5, val_main_v25, val_main_v24, val_main_cst_4, val_main_v23, val_main_v22, val_main_cst_3, val_main_v21, val_main_v20, val_main_v19, val_main_v18, val_main_v17, val_main_v16, val_main_v15, val_main_v11, val_main_v10, val_main_v9, val_main_cst_1, val_main_v8, val_main_v7, val_main_cst_0, val_main_v6, val_main_v5, val_main_cst, val_main_v4, val_main_v3, val_main_v2, val_main_v1_0, val_main_v1_2, val_main_call0_v4, val_main_call0_cst_0, val_main_call0_v3, val_main_call0_v2, val_main_call0_cst, val_main_call0_v1, val_main_call0_v0, val_main_v0]
  pointwise
  simp only [logi]
  unfold gwR
  refine Finset.sum_congr rfl fun r _ => ?_
  rw [mul_comm]
  refine congrArg (· * _) ?_
  by_cases h1 : e.val < 256
  · rw [dif_pos h1, n_1 yc ys o p r e h1, rs_div (N := 256) (by norm_num) word_c256 word_256 (fun k => yc (ix2 r k))]
  · rw [dif_neg h1]
    by_cases h2 : e.val < 768
    · rw [dif_pos (show e.val - 256 < 512 by omega), n_2 yc ys o p r e h1 h2]
      refine congrArg₂ (· * ·) (congrArg (_ * ·) (rs_div (N := 512) (by norm_num) word_c512 word_512 (ymR o p r))) ?_
      exact congrArg g (congrArg ix1 (Fin.ext (by dsimp only; omega)))
    · rw [dif_neg (show ¬ e.val - 256 < 512 by omega), n_3 yc ys o p r e h1 h2]
      refine congrArg₂ (· * ·) (congrArg₂ (· * ·) ?_ (rs_div (N := 256) (by norm_num) word_c256 word_256 (fun k => ys (ix2 r k)))) ?_
      · exact congrArg ys (congrArg (ix2 r) (Fin.ext (by dsimp only; omega)))
      · exact congrArg g (congrArg ix1 (Fin.ext (by dsimp only; omega)))

theorem gg_ref (j : Fin 1024) : val_main_v165 yc o ys p w d (ix2 0 j) = ggR d yc ys o p w j := by
  simp only [val_main_v165, val_main_v126, val_main_v125, val_main_cst_28, val_main_v110, val_main_cst_24, val_main_v107, val_main_v106, val_main_cst_23, val_main_v105, val_main_v104, val_main_v103, val_main_cst_22, val_main_v88, val_main_cst_18, val_main_v85, val_main_v84, val_main_cst_17, val_main_v83, val_main_v82, val_main_cst_16, val_main_v67, val_main_cst_12, val_main_v64, val_main_v63, val_main_cst_11, val_main_v62, val_main_v61, val_main_v60, val_main_v59, val_main_v50, val_main_v49, val_main_v45, val_main_v44, val_main_v43, val_main_cst_9, val_main_v42, val_main_v41, val_main_cst_8, val_main_v40, val_main_v39, val_main_cst_7, val_main_v38, val_main_v33, val_main_v32, val_main_v28, val_main_v27, val_main_v26, val_main_cst_5, val_main_v25, val_main_v24, val_main_cst_4, val_main_v23, val_main_v22, val_main_cst_3, val_main_v21, val_main_v16, val_main_v15, val_main_v11, val_main_v10, val_main_v9, val_main_cst_1, val_main_v8, val_main_v7, val_main_cst_0, val_main_v6, val_main_v5, val_main_cst, val_main_v4, val_main_v2, val_main_v1_0, val_main_v1_2, val_main_call0_v4, val_main_call0_cst_0, val_main_call0_v3, val_main_call0_v2, val_main_call0_cst, val_main_call0_v1, val_main_call0_v0, val_main_v0]
  pointwise
  simp only [logi, dy_ref]
  unfold ggR
  by_cases h1 : j.val < 256
  · rw [dif_pos h1, dif_neg (show ¬ (768 ≤ j.val ∧ j.val - 768 < 256) by omega), dif_neg (show ¬ (256 ≤ j.val ∧ j.val - 256 < 512) by omega), zero_add, zero_add]
    simp only [Finset.univ_unique, Finset.sum_singleton]
    refine Finset.sum_congr rfl fun r _ => ?_
    rw [n_1 yc ys o p r j h1, mul_comm]
    exact congrArg (_ * ·) (congrArg (_ * ·) (rs_div (N := 256) (by norm_num) word_c256 word_256 (fun k => yc (ix2 r k))))
  · rw [dif_neg h1, add_zero]
    by_cases h2 : j.val < 768
    · rw [dif_neg (show ¬ (768 ≤ j.val ∧ j.val - 768 < 256) by omega), dif_pos (show 256 ≤ j.val ∧ j.val - 256 < 512 by omega), zero_add]
      simp only [Finset.univ_unique, Finset.sum_singleton]
      refine Finset.sum_congr rfl fun r _ => ?_
      rw [n_2 yc ys o p r j h1 h2, mul_comm]
      refine congrArg₂ (· * ·) ?_ (congrArg (_ * ·) (rs_div (N := 512) (by norm_num) word_c512 word_512 (ymR o p r)))
      exact congrArg (dyR d w r) (Fin.ext (by dsimp only; omega))
    · rw [dif_pos (show 768 ≤ j.val ∧ j.val - 768 < 256 by omega), dif_neg (show ¬ (256 ≤ j.val ∧ j.val - 256 < 512) by omega), add_zero]
      simp only [Finset.univ_unique, Finset.sum_singleton]
      refine Finset.sum_congr rfl fun r _ => ?_
      rw [n_3 yc ys o p r j h1 h2, mul_comm]
      refine congrArg₂ (· * ·) ?_ (congrArg (_ * ·) (rs_div (N := 256) (by norm_num) word_c256 word_256 (fun k => ys (ix2 r k))))
      exact congrArg (dyR d w r) (Fin.ext (by dsimp only; omega))

/-- The masked scores of head `h`, and the logarithm of a row's sum of their exponentials. -/
def scR (q k : Vec Ideal S8192x8x96 .f32) (h : Fin 8) (r c : Fin 8192) : EReal :=
  Scalar.select (IntOp.cmpi CmpIPredicate.sle (BitVec.ofNat 32 c.val) (BitVec.ofNat 32 r.val))
    ((∑ x, q (ix3 r h x) * k (ix3 c h x)) * Ideal.ofBits FTy.f32 1037108716#32) (Ideal.ofBits FTy.f32 4286578688#32)
def topR (q k : Vec Ideal S8192x8x96 .f32) (h : Fin 8) (r : Fin 8192) : EReal :=
  Finset.univ.fold max (Ideal.ofBits FTy.f32 4286578688#32) fun c => scR q k h r c
def lseR (q k : Vec Ideal S8192x8x96 .f32) (h : Fin 8) (r : Fin 8192) : EReal :=
  topR q k h r + Ideal.log (∑ c, Ideal.exp (scR q k h r c - topR q k h r))

theorem sc_ref (h : Fin 8) (r c : Fin 8192) : val_main_v143 q k (ix3 h r c) = scR q k h r c := by
  simp only [val_main_v143, val_main_call2_v2, val_main_call2_v1, val_main_call2_v0, val_main_cst_31, val_main_v142, val_main_v141, val_main_v140, val_main_v139, val_main_v138, val_main_v137, val_main_v136, val_main_v135, val_main_v134, val_main_cst_30, val_main_v133]
  pointwise
  rfl

theorem top_ref (h : Fin 8) (r : Fin 8192) : val_main_v145 q k (ix3 h r 0) = topR q k h r := by
  simp only [val_main_v145, val_main_v144, val_main_cst_32]
  pointwise
  simp only [sc_ref]
  rfl

theorem sum_ref (h : Fin 8) (r : Fin 8192) : val_main_v149 q k (ix2 h r) = ∑ c, Ideal.exp (scR q k h r c - topR q k h r) := by
  simp only [val_main_v149, val_main_cst_33, val_main_v148, val_main_v147, val_main_v146]
  pointwise
  simp only [sc_ref, top_ref]

theorem log_ref (h : Fin 8) (r : Fin 8192) : val_main_v152 q k (ix3 h r 0) = topR q k h r + Ideal.log (val_main_v149 q k (ix2 h r)) := by
  rw [val_main_v152_apply, val_main_v151_apply, val_main_v150_apply, top_ref, show idx_main_v150 (ix3 h r 0) = ix2 h r from eq_ix2_of rfl rfl]
  generalize val_main_v149 q k (ix2 h r) = A
  generalize topR q k h r = B
  rfl

theorem lse_ref (r : Fin 8192) (h : Fin 8) : val_main_v154 q k (ix2 r h) = lseR q k h r := by
  unfold lseR
  rw [← sum_ref, ← log_ref]
  simp only [val_main_v154, val_main_v153]
  generalize val_main_v152 q k = A
  pointwise

theorem lanes_1 (r : Fin 8192) (h : Fin 8) (l : Fin 32) : val_main_v157 q k (ix3 r h l) = lseR q k h r := by
  simp only [val_main_v157, val_main_v156, val_main_v155]
  pointwise
  exact lse_ref q k r h

theorem del_ref (ho : o = fun i => ((O i : ℝ) : EReal)) (hp : p = fun i => ((P i : ℝ) : EReal)) (hg : g = fun i => ((G i : ℝ) : EReal)) (hw : w = fun i => ((W i : ℝ) : EReal)) (hd : d = fun i => ((D i : ℝ) : EReal)) (r : Fin 8192) (h : Fin 8) : val_main_v132 o p g w d (ix2 r h) =
      ∑ l : Fin 64, doR d o p g w r ⟨h.val * 64 + l.val, by omega⟩ * o (ix2 r ⟨h.val * 64 + l.val, by omega⟩) := by
  simp only [val_main_v132, val_main_v131, val_main_v130, val_main_cst_29]
  pointwise
  simp only [do_ref o p g w d ho hp hg hw hd]

theorem lanes_2 (r : Fin 8192) (h : Fin 8) (l : Fin 32) : val_main_v160 o p g w d (ix3 r h l) = val_main_v132 o p g w d (ix2 r h) := by
  simp only [val_main_v160, val_main_v159, val_main_v158]
  pointwise

theorem st_ref (ho : o = fun i => ((O i : ℝ) : EReal)) (hp : p = fun i => ((P i : ℝ) : EReal)) (hg : g = fun i => ((G i : ℝ) : EReal)) (hw : w = fun i => ((W i : ℝ) : EReal)) (hd : d = fun i => ((D i : ℝ) : EReal))
    (r : Fin 8192) (j : Fin 512) : val_main_v164 o p g w q k d (ix2 r j) =
      if j.val % 64 < 32 then lseR q k ⟨j.val / 64, by omega⟩ r else ∑ l : Fin 64, doR d o p g w r ⟨j.val / 64 * 64 + l.val, by omega⟩ * o (ix2 r ⟨j.val / 64 * 64 + l.val, by omega⟩) := by
  simp only [val_main_v164, val_main_v161]
  pointwise
  simp only [lanes_1, lanes_2, del_ref o p g w d ho hp hg hw hd]
  by_cases h : j.val % 64 < 32
  · rw [if_pos h]
    simp only [h, ↓reduceDIte, ↓reduceIte]
  · rw [if_neg h]
    simp only [h, ↓reduceDIte, ↓reduceIte]

/-! ## The row statistics the host hands the call -/

open Idealize.ShloMosaic.StableHlo in
theorem aL_ref (m : (ℓ : Loc Cert.PostBwdIdeal.nD Cert.PostBwdIdeal.τ Cert.PostBwdIdeal.sig) → Buf (Elt Ideal) ℓ) (c : Dev Cert.PostBwdIdeal.nD) :
    Cert.PostBwdIdeal.Val.aL m c = (shapeCast S8192x512 (broadcastInDim S8192x8x64 ![0, 1] Cert.PostBwdIdeal.Gen.facts.bcast_S8192x8_S8192x8x64_0_1
      (val_main_v154 (Cert.PostBwdIdeal.Val.aQ m c) (Cert.PostBwdIdeal.Val.aK m c) : Vec Ideal S8192x8 .f32)) Cert.PostBwdIdeal.Gen.facts.shapeCasts_S8192x8x64_S8192x512 : Vec Ideal S8192x512 .f32) := by
  unfold Cert.PostBwdIdeal.Val.aL
  show Cert.PostBwdIdeal.Gen.V m c Cert.PostBwdIdeal.main_v23 = _
  dsimp only [Cert.PostBwdIdeal.Gen.V, Cert.PostBwdIdeal.Gen.hostOps0, Cert.PostBwdIdeal.Gen.hostOps0_1, Cert.PostBwdIdeal.Gen.hostOps0_2]
  simp only [List.flatten_cons, List.flatten_nil, List.append_nil, List.cons_append, List.nil_append]
  after_results_simp
  simp only [val_main_v154, val_main_v153, val_main_v152, val_main_v151, val_main_v150, val_main_v149, val_main_cst_33, val_main_v148, val_main_v147, val_main_v146, val_main_v145, val_main_v144, val_main_cst_32, val_main_v143, val_main_call2_v2, val_main_call2_v1, val_main_call2_v0, val_main_cst_31, val_main_v142, val_main_v141, val_main_v140, val_main_v139, val_main_v138, val_main_v137, val_main_v136, val_main_v135, val_main_v134, val_main_cst_30, val_main_v133]
  rfl

theorem aL_lse (m : (ℓ : Loc Cert.PostBwdIdeal.nD Cert.PostBwdIdeal.τ Cert.PostBwdIdeal.sig) → Buf (Elt Ideal) ℓ) (c : Dev Cert.PostBwdIdeal.nD) (r : Fin 8192) (j : Fin 512) :
    Cert.PostBwdIdeal.Val.aL m c (ix2 r j) = lseR (Cert.PostBwdIdeal.Val.aQ m c) (Cert.PostBwdIdeal.Val.aK m c) ⟨j.val / 64, by omega⟩ r := by
  rw [aL_ref, ← lse_ref]
  generalize val_main_v154 (Cert.PostBwdIdeal.Val.aQ m c) (Cert.PostBwdIdeal.Val.aK m c) = A
  pointwise

theorem stR_lse (m : (ℓ : Loc Cert.PostBwdIdeal.nD Cert.PostBwdIdeal.τ Cert.PostBwdIdeal.sig) → Buf (Elt Ideal) ℓ) (c : Dev Cert.PostBwdIdeal.nD) (o : Vec Ideal S8192x512 .f32) (p : Vec Ideal S8192x3104 .f32) (g : Vec Ideal S1024 .f32)
    (w : Vec Ideal S1024x1024 .f32) (d : Vec Ideal S8192x1024 .f32) (r : Fin 8192) (j : Fin 512) :
    stR d o p g w (Cert.PostBwdIdeal.Val.aL m c) r j =
      if j.val % 64 < 32 then lseR (Cert.PostBwdIdeal.Val.aQ m c) (Cert.PostBwdIdeal.Val.aK m c) ⟨j.val / 64, by omega⟩ r
      else ∑ l : Fin 64, doR d o p g w r ⟨j.val / 64 * 64 + l.val, by omega⟩ * o (ix2 r ⟨j.val / 64 * 64 + l.val, by omega⟩) := by
  unfold stR
  rw [aL_lse]

end Cert.PostRefIdeal.Val
-- ==== Proof.PostClaim.lean ====
/-
  The claims of the output stage's backward call.
-/
module
public import proofs.«01_k».proof.Defs
public import proofs.«01_k».proof.Proof.Gen.PostBwd.Frame
public import proofs.«01_k».proof.Proof.Gen.Pre_finite_post
public import proofs.«01_k».proof.Proof.PostRef
public import Idealize.ShloMosaic.Lib.Claim
@[expose] public section
noncomputable section
namespace Cert.PostClaim
open Idealize.ShloMosaic Idealize.SL.Sem
open Cert.PostBwdIdeal.Val Cert.Lift

theorem frame_kernel : Cert.quiescent_PostBwd := fun m ρ _ => Cert.PostBwd.Gen.frame m ρ
theorem frame_ideal : Cert.quiescent_PostBwdIdeal := fun m ρ _ => Cert.PostBwdIdeal.Gen.frame m ρ
theorem frame_ideal_pre : Cert.quiescent_PostBwdIdeal_pre_finite_post := fun m ρ _ => Cert.PostBwdIdeal.Gen.frame m ρ

/-- The reference's run leaves its arguments and its counters. -/
theorem frame_ref : Cert.quiescent_PostRefIdeal := fun m ρ _ =>
  (θ_run Cert.PostRefIdeal.defs _ _).mono (fun r h => ⟨fun c => (h c).2.2.2.2.2.2.2, sem_eq_zero_of_no_sems (by decide) r.2⟩)
    (Cert.PostRefIdeal.Value.run m ρ)
theorem frame_ref_pre : Cert.quiescent_PostRefIdeal_pre_finite_post := fun m ρ _ => frame_ref m ρ trivial

set_option maxHeartbeats 4000000 in
/-- The call's seven results are the reference's, at finite branch outputs, projections, gains, weights and cotangents. -/
theorem value : Cert.algebraic_PostBwdIdeal_PostRefIdeal_pre_finite_post := by
  intro m g m' g' hpre hargs
  refine ⟨fun c => (Cert.PostBwdIdeal.Gen.dats m 0 c).arrAt 8 Cert.PostBwdIdeal.cfg0.N, fun c => (Cert.PostBwdIdeal.Gen.dats m 0 c).arrAt 9 Cert.PostBwdIdeal.cfg0.N,
    fun c => (Cert.PostBwdIdeal.Gen.dats m 0 c).arrAt 10 Cert.PostBwdIdeal.cfg0.N, fun c => (Cert.PostBwdIdeal.Gen.dats m 0 c).arrAt 11 Cert.PostBwdIdeal.cfg0.N,
    fun c => (Cert.PostBwdIdeal.Gen.dats m 0 c).arrAt 12 Cert.PostBwdIdeal.cfg0.N, fun c => (Cert.PostBwdIdeal.Gen.dats m 0 c).arrAt 13 Cert.PostBwdIdeal.cfg0.N,
    fun c => (Cert.PostBwdIdeal.Gen.dats m 0 c).arrAt 14 Cert.PostBwdIdeal.cfg0.N, Cert.PostBwdIdeal.Value.run_blocks m g,
    (θ_run Cert.PostRefIdeal.defs _ _).mono (fun r h c => ?_) (Cert.PostRefIdeal.Value.run m' g')⟩
  obtain ⟨h0, h1, h2, h3, h4, h5, h6, hk⟩ := h c
  obtain ⟨a0, a1, a2, a3, a4, a5, a6, a7, a8⟩ := hargs c
  have b0 : StableHlo.launchContents m' c (Proc.devRef .tc Cert.PostRefIdeal.main_arg0) = m (c.tc.loc Cert.PostBwdIdeal.main_arg0) := a0
  have b1 : StableHlo.launchContents m' c (Proc.devRef .tc Cert.PostRefIdeal.main_arg1) = m (c.tc.loc Cert.PostBwdIdeal.main_arg1) := a1
  have b2 : StableHlo.launchContents m' c (Proc.devRef .tc Cert.PostRefIdeal.main_arg2) = m (c.tc.loc Cert.PostBwdIdeal.main_arg2) := a2
  have b3 : StableHlo.launchContents m' c (Proc.devRef .tc Cert.PostRefIdeal.main_arg3) = m (c.tc.loc Cert.PostBwdIdeal.main_arg3) := a3
  have b4 : StableHlo.launchContents m' c (Proc.devRef .tc Cert.PostRefIdeal.main_arg4) = m (c.tc.loc Cert.PostBwdIdeal.main_arg4) := a4
  have b5 : StableHlo.launchContents m' c (Proc.devRef .tc Cert.PostRefIdeal.main_arg5) = m (c.tc.loc Cert.PostBwdIdeal.main_arg5) := a5
  have b6 : StableHlo.launchContents m' c (Proc.devRef .tc Cert.PostRefIdeal.main_arg6) = m (c.tc.loc Cert.PostBwdIdeal.main_arg6) := a6
  have b7 : StableHlo.launchContents m' c (Proc.devRef .tc Cert.PostRefIdeal.main_arg7) = m (c.tc.loc Cert.PostBwdIdeal.main_arg7) := a7
  have b8 : StableHlo.launchContents m' c (Proc.devRef .tc Cert.PostRefIdeal.main_arg8) = m (c.tc.loc Cert.PostBwdIdeal.main_arg8) := a8
  obtain ⟨p0, p1, p2, p3, p4, p5, p8⟩ := hpre c
  obtain ⟨YC, hyc⟩ := real_of_lt_inf (fun _ => rfl) p0
  obtain ⟨O, ho⟩ := real_of_lt_inf (fun _ => rfl) p1
  obtain ⟨YS, hys⟩ := real_of_lt_inf (fun _ => rfl) p2
  obtain ⟨P, hp⟩ := real_of_lt_inf (fun _ => rfl) p3
  obtain ⟨G, hg⟩ := real_of_lt_inf (fun _ => rfl) p4
  obtain ⟨W, hw⟩ := real_of_lt_inf (fun _ => rfl) p5
  obtain ⟨D, hd⟩ := real_of_lt_inf (fun _ => rfl) p8
  refine ⟨(h0.trans (Cert.PostRefIdeal.Read.val_main_v124_eq _)).trans ?_, (h1.trans (Cert.PostRefIdeal.Read.val_main_v81_eq _)).trans ?_,
    (h2.trans (Cert.PostRefIdeal.Read.val_main_v162_eq _)).trans ?_, (h3.trans (Cert.PostRefIdeal.Read.val_main_v163_eq _)).trans ?_,
    (h4.trans (Cert.PostRefIdeal.Read.val_main_v164_eq _)).trans ?_, (h5.trans (Cert.PostRefIdeal.Read.val_main_v57_eq _)).trans ?_,
    (h6.trans (Cert.PostRefIdeal.Read.val_main_v165_eq _)).trans ?_, hk⟩
  · rw [b0, b4, b5, b8]
    refine Eq.trans ?_ (dyc_eq m c).symm
    funext i
    obtain ⟨r, j, rfl⟩ : ∃ r j, i = ValueIdx.ix2 r j := ⟨i 0, i 1, ValueIdx.eq_ix2 i⟩
    exact Cert.PostRefIdeal.Val.dyc_ref _ _ _ _ hyc hg hw hd r j
  · rw [b2, b4, b5, b8]
    refine Eq.trans ?_ (dys_eq m c).symm
    funext i
    obtain ⟨r, j, rfl⟩ : ∃ r j, i = ValueIdx.ix2 r j := ⟨i 0, i 1, ValueIdx.eq_ix2 i⟩
    exact Cert.PostRefIdeal.Val.dys_ref _ _ _ _ hys hg hw hd r j
  · rw [b1, b3, b4, b5, b8]
    refine Eq.trans ?_ (do_eq m c).symm
    funext i
    obtain ⟨r, j, rfl⟩ : ∃ r j, i = ValueIdx.ix2 r j := ⟨i 0, i 1, ValueIdx.eq_ix2 i⟩
    exact Cert.PostRefIdeal.Val.dob_ref _ _ _ _ _ ho hp hg hw hd r j
  · rw [b1, b3, b4, b5, b8]
    refine Eq.trans ?_ (dzm_eq m c).symm
    funext i
    obtain ⟨r, j, rfl⟩ : ∃ r j, i = ValueIdx.ix2 r j := ⟨i 0, i 1, ValueIdx.eq_ix2 i⟩
    exact Cert.PostRefIdeal.Val.dzm_ref _ _ _ _ _ ho hp hg hw hd r j
  · rw [b1, b3, b4, b5, b6, b7, b8]
    refine Eq.trans ?_ (st_eq m c).symm
    funext i
    obtain ⟨r, j, rfl⟩ : ∃ r j, i = ValueIdx.ix2 r j := ⟨i 0, i 1, ValueIdx.eq_ix2 i⟩
    refine (Cert.PostRefIdeal.Val.st_ref _ _ _ _ _ _ _ ho hp hg hw hd r j).trans ?_
    exact (Cert.PostRefIdeal.Val.stR_lse m c _ _ _ _ _ r j).symm
  · rw [b0, b1, b2, b3, b4, b8]
    refine Eq.trans ?_ (gw_eq m c).symm
    funext i
    obtain ⟨r, j, rfl⟩ : ∃ r j, i = ValueIdx.ix2 r j := ⟨i 0, i 1, ValueIdx.eq_ix2 i⟩
    exact Cert.PostRefIdeal.Val.gw_ref _ _ _ _ _ _ r j
  · rw [b0, b1, b2, b3, b5, b8]
    refine Eq.trans ?_ (gg_eq m c).symm
    funext i
    obtain ⟨r, j, rfl⟩ : ∃ r j, i = ValueIdx.ix2 r j := ⟨i 0, i 1, ValueIdx.eq_ix2 i⟩
    obtain rfl : r = 0 := Subsingleton.elim _ _
    exact Cert.PostRefIdeal.Val.gg_ref _ _ _ _ _ _ j

end Cert.PostClaim
-- ==== Proof.LossKernel.lean ====
/-
  The forward call of the last output stage with the loss and its cotangent: what its two results hold, index by index, over the
  program's arguments.
-/
module
public import proofs.«01_k».proof.Proof.Gen.LossBwdIdeal.Value
public import Idealize.ShloMosaic.Lib.Pipeline.ReadBack
public import proofs.«01_k».proof.Proof.Rows
@[expose] public section
noncomputable section
namespace Cert.LossBwdIdeal.Val
open Idealize.ShloMosaic Idealize.SL.Sem Cert.LossBwdIdeal Cert.LossBwdIdeal.Gen
open Idealize.ShloMosaic.StableHlo Cert.Rows

/-- A row's norm times its gain. -/
def nrm (cc : EReal) {n : ℕ} (y g : Fin n → EReal) (k : Fin n) : EReal := y k * rs cc y * g k

section Payloads
variable (x tg : Vec Ideal S512x1024 .f32) (yc ys : Vec Ideal S512x256 .f32) (o z : Vec Ideal S512x512 .f32) (g : Vec Ideal S1x1024 .f32)
  (w : Vec Ideal S1024x1024 .bf16)

abbrev g1 := View.ld g (Rect.unit ![0, 0] ![1, 256] inb_S1x1024_S1x256_0_0)
abbrev g2 := View.ld g (Rect.unit ![0, 256] ![1, 512] inb_S1x1024_S1x512_0_256)
abbrev g3 := View.ld g (Rect.unit ![0, 768] ![1, 256] inb_S1x1024_S1x256_0_768)
abbrev w1 := View.ld w (Rect.unit ![0, 0] ![256, 1024] inb_S1024x1024_S256x1024_0_0)
abbrev w2 := View.ld w (Rect.unit ![256, 0] ![512, 1024] inb_S1024x1024_S512x1024_256_0)
abbrev w3 := View.ld w (Rect.unit ![768, 0] ![256, 1024] inb_S1024x1024_S256x1024_768_0)

/-- A row of the gated attention output. -/
def ymB (r : Fin 512) (j : Fin 512) : EReal := o (ix2 r j) * (z (ix2 r j) * sg (z (ix2 r j)))
/-- The output less the target in one row block. -/
def eB (r : Fin 512) (e : Fin 1024) : EReal :=
  x (ix2 r e)
    + (∑ k, nrm c256 (fun k : Fin 256 => yc (ix2 r k)) (fun k => g (ix2 0 ⟨k.val, by omega⟩)) k * w (ix2 ⟨k.val, by omega⟩ e))
    + (∑ k, nrm c512 (ymB o z r) (fun k => g (ix2 0 ⟨256 + k.val, by omega⟩)) k * w (ix2 ⟨256 + k.val, by omega⟩ e))
    + (∑ k, nrm c256 (fun k : Fin 256 => ys (ix2 r k)) (fun k => g (ix2 0 ⟨768 + k.val, by omega⟩)) k * w (ix2 ⟨768 + k.val, by omega⟩ e))
    - tg (ix2 r e)

abbrev pE := k0_pay8 (k0_pay5 o z) ys x (k0_pay6 (w1 w)) (k0_pay7 yc (g1 g)) (constant S512x1024 FTy.f32 0#32) (g2 g) (w2 w) (g3 g) (w3 w) tg

theorem e_apply (r : Fin 512) (e : Fin 1024) : pE x tg yc ys o z g w (ix2 r e) = eB x tg yc ys o z g w r e := by
  unfold pE g1 g2 g3 w1 w2 w3 eB nrm ymB rs sg
  unfold_payloads
  pointwise

theorem d_apply (E : Vec Ideal S512x1024 .f32) (r : Fin 512) (e : Fin 1024) : k0_pay1 (F := Ideal) E (ix2 r e) = E (ix2 r e) * Ideal.ofBits .f32 0x3A800000#32 := by
  unfold_payloads
  pointwise

/-- The sum of squares of one row class and one lane, a block of columns at a time. -/
def colB (E : Fin 512 → Fin 1024 → EReal) (a : Fin 8) (b : Fin 128) (q : Fin 8) : EReal :=
  ∑ k : Fin 64, E ⟨k.val * 8 + a.val, by omega⟩ ⟨q.val * 128 + b.val, by omega⟩ * E ⟨k.val * 8 + a.val, by omega⟩ ⟨q.val * 128 + b.val, by omega⟩

theorem acc_apply (E : Vec Ideal S512x1024 .f32) (old : Vec Ideal S8x128 .f32) (a : Fin 8) (b : Fin 128) :
    k0_pay2 E old (ix2 a b) = old (ix2 a b) + ∑ q, colB (fun r e => E (ix2 r e)) a b q := by
  rw [Fin.sum_univ_eight]
  unfold colB
  unfold_payloads
  pointwise

theorem tot_apply (v : Vec Ideal S8x128 .f32) (a : Fin 8) (b : Fin 128) :
    k0_pay3 v (ix2 a b) = (∑ i, ∑ l, v (ix2 i l)) * Ideal.ofBits .f32 0x3A000000#32 := by
  unfold_payloads
  pointwise

theorem zero_apply (a : Fin 8) (b : Fin 128) : k0_pay4 (F := Ideal) (ix2 a b) = 0 := by
  unfold_payloads
  pointwise

end Payloads

variable (m : (ℓ : Loc nD τ sig) → Buf (Elt Ideal) ℓ) (c : Dev nD)

theorem hz : (![0, 0] : Fin 2 → Nat) = fun _ => 0 := by funext a; fin_cases a <;> rfl

/-! ## What the body leaves at a grid point, over the point's input blocks -/

abbrev bx (t : Fin cfg0.N) : Vec Ideal S512x1024 .f32 := iblk m c 0 t
abbrev bc (t : Fin cfg0.N) : Vec Ideal S512x256 .f32 := iblk m c 1 t
abbrev bo (t : Fin cfg0.N) : Vec Ideal S512x512 .f32 := iblk m c 2 t
abbrev bz (t : Fin cfg0.N) : Vec Ideal S512x512 .f32 := X0_3 m c t
abbrev bs (t : Fin cfg0.N) : Vec Ideal S512x256 .f32 := iblk m c 4 t
abbrev bg (t : Fin cfg0.N) : Vec Ideal S1x1024 .f32 := iblk m c 5 t
abbrev bw (t : Fin cfg0.N) : Vec Ideal S1024x1024 .bf16 := iblk m c 6 t
abbrev bt (t : Fin cfg0.N) : Vec Ideal S512x1024 .f32 := iblk m c 7 t

/-- The output less the target in the row block of grid point `t`. -/
abbrev pT (t : Fin cfg0.N) : Vec Ideal S512x1024 .f32 := pE (bx m c t) (bt m c t) (bc m c t) (bs m c t) (bo m c t) (bz m c t) (bg m c t) (bw m c t)
def eT (t : Fin cfg0.N) (r : Fin 512) (e : Fin 1024) : EReal := eB (bx m c t) (bt m c t) (bc m c t) (bs m c t) (bo m c t) (bz m c t) (bg m c t) (bw m c t) r e

theorem sread (X : Vec Ideal S8x128 .f32) : View.read (Elt Ideal) (View.whole cc0_scratch0) ((Memref.isWhole_whole cc0_scratch0).unread X) = X :=
  Memref.IsWhole.read_unread _ X

theorem outs_d (t : Fin cfg0.N) (r : Fin 512) (e : Fin 1024) :
    ((outsAt0 m c t.val t.isLt).1 : Vec Ideal S512x1024 .f32) (ix2 r e) = eT m c t r e * Ideal.ofBits .f32 0x3A800000#32 := by
  refine Eq.trans ?_ ((d_apply (pT m c t) r e).trans (congrArg (· * _) (e_apply _ _ _ _ _ _ _ _ r e)))
  by_cases h0 : t.val % 16 = 0
  · have h1 : ¬ t.val % 16 = 15 := by omega
    rw [outsAt0_A m c t h0 h1]
    dsimp only
    unfold out0_A_8
    rw [View.read_writes_eq_canon _ _ _ (fun _ => cover0_A_8 ..)]
    unfold kernelRun0_A
    dsimp only
    rw [View.canon_unit_zero hz]
    sl_unfold_words
    try dsimp only
    simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, View.ld_unit_zero (S := S8x128) hz, shapeCast_self, sread]
  by_cases h1 : t.val % 16 = 15
  · skip
    rw [outsAt0_C m c t h0 h1]
    dsimp only
    unfold out0_C_8
    rw [View.read_writes_eq_canon _ _ _ (fun _ => cover0_C_8 ..)]
    unfold kernelRun0_C
    dsimp only
    rw [View.canon_unit_zero hz]
    sl_unfold_words
    try dsimp only
    simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, View.ld_unit_zero (S := S8x128) hz, shapeCast_self, sread]
  · skip
    rw [outsAt0_B m c t h0 h1]
    dsimp only
    unfold out0_B_8
    rw [View.read_writes_eq_canon _ _ _ (fun _ => cover0_B_8 ..)]
    unfold kernelRun0_B
    dsimp only
    rw [View.canon_unit_zero hz]
    sl_unfold_words
    try dsimp only
    simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, View.ld_unit_zero (S := S8x128) hz, shapeCast_self, sread]

/-- What grid point `t` adds to the carried sum of squares. -/
def colT (t : Fin cfg0.N) (a : Fin 8) (b : Fin 128) : EReal := ∑ q, colB (eT m c t) a b q

theorem acc_pT (t : Fin cfg0.N) (old : Vec Ideal S8x128 .f32) (a : Fin 8) (b : Fin 128) : k0_pay2 (pT m c t) old (ix2 a b) = old (ix2 a b) + colT m c t a b := by
  rw [acc_apply]
  unfold colT
  refine congrArg (old (ix2 a b) + ·) (Finset.sum_congr rfl fun q _ => congrArg (fun E => colB E a b q) ?_)
  funext r e
  exact e_apply _ _ _ _ _ _ _ _ r e

theorem outs_s0 (t : Fin cfg0.N) (h0 : t.val % 16 = 0) (a : Fin 8) (b : Fin 128) :
    ((outsAt0 m c t.val t.isLt).2.2 : Vec Ideal S8x128 .f32) (ix2 a b) = colT m c t a b := by
  refine Eq.trans ?_ ((acc_pT m c t (k0_pay4 (F := Ideal)) a b).trans ((congrArg (· + _) (zero_apply a b)).trans (zero_add _)))
  have h1 : ¬ t.val % 16 = 15 := by omega
  rw [outsAt0_A m c t h0 h1]
  dsimp only
  unfold sout0_A_0
  rw [View.read_writes_eq_canon _ _ _ (fun _ => scover0_A_0 ..)]
  unfold kernelRun0_A
  dsimp only
  rw [View.canon_cons_unit_zero (S := S8x128) hz]
  sl_unfold_words
  try dsimp only
  simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, View.ld_unit_zero (S := S8x128) hz, shapeCast_self, sread, View.readCov_unit_zero (S := S8x128) _ hz]

theorem outs_s1 (t : Fin cfg0.N) (h0 : ¬ t.val % 16 = 0) (a : Fin 8) (b : Fin 128) :
    ((outsAt0 m c t.val t.isLt).2.2 : Vec Ideal S8x128 .f32) (ix2 a b)
      = ((outsAt0 m c (t.val - 1) (by have := t.isLt; omega)).2.2 : Vec Ideal S8x128 .f32) (ix2 a b) + colT m c t a b := by
  refine Eq.trans ?_ (acc_pT m c t _ a b)
  by_cases h1 : t.val % 16 = 15
  · skip
    rw [outsAt0_C m c t h0 h1]
    dsimp only
    unfold sout0_C_0
    rw [View.read_writes_eq_canon _ _ _ (fun _ => scover0_C_0 ..)]
    unfold kernelRun0_C
    dsimp only
    sl_unfold_words
    try dsimp only
    rw [View.canon_unit_zero hz]
    simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, View.ld_unit_zero (S := S8x128) hz, shapeCast_self, sread]
  · skip
    rw [outsAt0_B m c t h0 h1]
    dsimp only
    unfold sout0_B_0
    rw [View.read_writes_eq_canon _ _ _ (fun _ => scover0_B_0 ..)]
    unfold kernelRun0_B
    dsimp only
    rw [View.canon_unit_zero hz]
    sl_unfold_words
    try dsimp only
    simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, View.ld_unit_zero (S := S8x128) hz, shapeCast_self, sread]

theorem outs_s (a : Fin 8) (b : Fin 128) : ∀ (n : ℕ) (h : n < cfg0.N), ((outsAt0 m c n h).2.2 : Vec Ideal S8x128 .f32) (ix2 a b)
      = ∑ s : Fin (n + 1), colT m c ⟨s.val, by omega⟩ a b
  | 0, h => by rw [outs_s0 m c ⟨0, h⟩ rfl]; simp
  | n + 1, h => by
    have hN : cfg0.N = 16 := N_0
    rw [outs_s1 m c ⟨n + 1, h⟩ (by dsimp only; omega), Fin.sum_univ_castSucc]
    exact congrArg₂ (· + ·) (outs_s a b n (by omega)) rfl

theorem outs_l (t : Fin cfg0.N) (h1 : t.val % 16 = 15) (a : Fin 8) (b : Fin 128) :
    ((outsAt0 m c t.val t.isLt).2.1 : Vec Ideal S8x128 .f32) (ix2 a b)
      = (∑ i, ∑ l, ((outsAt0 m c t.val t.isLt).2.2 : Vec Ideal S8x128 .f32) (ix2 i l)) * Ideal.ofBits .f32 0x3A000000#32 := by
  have h0 : ¬ t.val % 16 = 0 := by omega
  have hs : ((outsAt0 m c t.val t.isLt).2.2 : Vec Ideal S8x128 .f32) = k0_pay2 (pT m c t) ((outsAt0 m c (t.val - 1) (by have := t.isLt; omega)).2.2 : Vec Ideal S8x128 .f32) := by
    funext i
    obtain ⟨a, b, rfl⟩ : ∃ (a : Fin 8) (b : Fin 128), i = ix2 a b := ⟨i 0, i 1, eq_ix2 i⟩
    exact (outs_s1 m c t h0 a b).trans (acc_pT m c t _ a b).symm
  refine Eq.trans ?_ (tot_apply _ a b)
  rw [hs]
  rw [outsAt0_C m c t h0 h1]
  dsimp only
  unfold out0_C_9
  rw [View.read_writes_eq_canon _ _ _ (fun _ => cover0_C_9 ..)]
  unfold kernelRun0_C
  dsimp only
  rw [View.canon_unit_zero hz]
  sl_unfold_words
  try dsimp only
  simp only [View.readAt_eq_ld, Memref.IsWhole.read_unread, View.ld_unit_zero (S := S512x1024) hz, View.ld_unit_zero (S := S512x256) hz, View.ld_unit_zero (S := S512x512) hz, View.ld_unit_zero (S := S1x1024) hz, View.ld_unit_zero (S := S1024x1024) hz, View.ld_unit_zero (S := S8x128) hz, shapeCast_self, sread, View.readCov_unit_zero (S := S8x128) _ hz]

/-! ## The blocks in their arrays -/

/-- Row `r` of the row block of grid point `t`. -/
def row (t : Fin cfg0.N) (r : Fin 512) : Fin 8192 := ⟨t.val * 512 + r.val, by have := t.isLt; have : cfg0.N = 16 := N_0; have := r.isLt; omega⟩

theorem exists_row (r : Fin 8192) : ∃ (t : Fin cfg0.N) (r' : Fin 512), r = row t r' :=
  have hN : cfg0.N = 16 := N_0
  ⟨⟨r.val / 512, by have := r.isLt; show _ < cfg0.N; omega⟩, ⟨r.val % 512, by omega⟩, Fin.ext (by show r.val = r.val / 512 * 512 + r.val % 512; omega)⟩

theorem index_row : ∀ t : Fin cfg0.N, (win0_3.index t 0 = t.val ∧ win0_3.index t 1 = 3)
   ∧ (win0_0.index t 0 = t.val ∧ win0_0.index t 1 = 0)
   ∧ (win0_1.index t 0 = t.val ∧ win0_1.index t 1 = 0)
   ∧ (win0_2.index t 0 = t.val ∧ win0_2.index t 1 = 0)
   ∧ (win0_4.index t 0 = t.val ∧ win0_4.index t 1 = 0)
   ∧ (win0_7.index t 0 = t.val ∧ win0_7.index t 1 = 0)
   ∧ (win0_8.index t 0 = t.val ∧ win0_8.index t 1 = 0)
   ∧ (win0_5.index t 0 = 0 ∧ win0_5.index t 1 = 0)
   ∧ (win0_6.index t 0 = 0 ∧ win0_6.index t 1 = 0)
   ∧ (win0_9.index t 0 = 0 ∧ win0_9.index t 1 = 0) := by decide +kernel

abbrev aX : Vec Ideal S8192x1024 .f32 := m (c.tc.loc main_arg0)
abbrev aC : Vec Ideal S8192x256 .f32 := m (c.tc.loc main_arg1)
abbrev aO : Vec Ideal S8192x512 .f32 := m (c.tc.loc main_arg2)
abbrev aS : Vec Ideal S8192x256 .f32 := m (c.tc.loc main_arg3)
abbrev aP : Vec Ideal S8192x3104 .f32 := m (c.tc.loc main_arg4)
abbrev aG : Vec Ideal S1024 .f32 := m (c.tc.loc main_arg5)
abbrev aW : Vec Ideal S1024x1024 .f32 := m (c.tc.loc main_arg6)
abbrev aT : Vec Ideal S8192x1024 .f32 := m (c.tc.loc main_arg7)

section Host

theorem V_z (r : Fin 8192) (k : Fin 3200) : (V m c main_v6 : Vec Ideal S8192x3200 .f32) (ix2 r k)
    = if h : k.val < 1536 then aP m c (ix2 r ⟨k.val, by omega⟩)
      else if h : k.val - 1536 < 512 then aP m c (ix2 r ⟨1824 + (k.val - 1536), by omega⟩)
      else if h : k.val - 1536 - 512 < 256 then aP m c (ix2 r ⟨1536 + (k.val - 1536 - 512), by omega⟩)
      else if h : k.val - 1536 - 512 - 256 < 768 then aP m c (ix2 r ⟨2336 + (k.val - 1536 - 512 - 256), by omega⟩)
      else if h : k.val - 1536 - 512 - 256 - 768 < 32 then aP m c (ix2 r ⟨1792 + (k.val - 1536 - 512 - 256 - 768), by omega⟩)
      else 0 := by
  dsimp only [V, hostOps0]
  try simp only [List.flatten_cons, List.flatten_nil, List.append_nil, List.cons_append, List.nil_append]
  after_results_simp
  pointwise
  after_results_simp
  pointwise

theorem V_g (j : Fin 1024) : (V m c main_v7 : Vec Ideal S1x1024 .f32) (ix2 0 j) = aG m c (ix1 j) := by
  dsimp only [V, hostOps0]
  try simp only [List.flatten_cons, List.flatten_nil, List.append_nil, List.cons_append, List.nil_append]
  after_results_simp
  try simp only [TRef.toBuf, TRef.ofBuf, cast_eq]
  pointwise

theorem V_w (k e : Fin 1024) : (V m c main_v8 : Vec Ideal S1024x1024 .bf16) (ix2 k e) = aW m c (ix2 k e) := by
  dsimp only [V, hostOps0]
  try simp only [List.flatten_cons, List.flatten_nil, List.append_nil, List.cons_append, List.nil_append]
  after_results_simp
  try simp only [TRef.toBuf, TRef.ofBuf, cast_eq]
  pointwise

end Host

/-! ## The windows' blocks, read -/

theorem win_3 (t : Fin cfg0.N) (r : Fin 512) (j : Fin 512) : bz m c t (ix2 r j) = aP m c (ix2 (row t r) ⟨1824 + j.val, by omega⟩) := by
  have h0 : bz m c t (ix2 r j) = V m c main_v6 (ix2 (row t r) ⟨1536 + j.val, by omega⟩) := by
    unfold bz X0_3 Pipeline.Window.fill
    rw [dif_pos (moved0_3 t _)]
    unfold iblk
    rw [View.read_apply]
    refine congrArg (V m c main_v6) (Lift.eq_ix2_of (?_ : win0_3.index t 0 * 512 + 1 * r.val = t.val * 512 + r.val)
      (?_ : win0_3.index t 1 * 512 + 1 * j.val = 1536 + j.val)) <;> simp [index_row t]
  rw [h0, V_z, dif_neg (by dsimp only; omega), dif_pos (by dsimp only; omega)]
  exact congrArg (fun q => aP m c (ix2 (row t r) q)) (Fin.ext (by simp only; omega))

theorem win_0 (t : Fin cfg0.N) (r : Fin 512) (j : Fin 1024) : bx m c t (ix2 r j) = aX m c (ix2 (row t r) j) := by
  have h0 : bx m c t (ix2 r j) = V m c main_arg0 (ix2 (row t r) j) := by
    unfold bx iblk
    rw [View.read_apply]
    refine congrArg (V m c main_arg0) (Lift.eq_ix2_of (i := ((cfg0.win 0).blk t).view.emb (ix2 r j)) (?_ : win0_0.index t 0 * 512 + 1 * r.val = t.val * 512 + r.val)
      (?_ : win0_0.index t 1 * 1024 + 1 * j.val = j.val)) <;> simp [index_row t]
  exact h0.trans (congrFun (V_main_arg0 m c) _)

theorem win_1 (t : Fin cfg0.N) (r : Fin 512) (j : Fin 256) : bc m c t (ix2 r j) = aC m c (ix2 (row t r) j) := by
  have h0 : bc m c t (ix2 r j) = V m c main_arg1 (ix2 (row t r) j) := by
    unfold bc iblk
    rw [View.read_apply]
    refine congrArg (V m c main_arg1) (Lift.eq_ix2_of (i := ((cfg0.win 1).blk t).view.emb (ix2 r j)) (?_ : win0_1.index t 0 * 512 + 1 * r.val = t.val * 512 + r.val)
      (?_ : win0_1.index t 1 * 256 + 1 * j.val = j.val)) <;> simp [index_row t]
  exact h0.trans (congrFun (V_main_arg1 m c) _)

theorem win_2 (t : Fin cfg0.N) (r : Fin 512) (j : Fin 512) : bo m c t (ix2 r j) = aO m c (ix2 (row t r) j) := by
  have h0 : bo m c t (ix2 r j) = V m c main_arg2 (ix2 (row t r) j) := by
    unfold bo iblk
    rw [View.read_apply]
    refine congrArg (V m c main_arg2) (Lift.eq_ix2_of (i := ((cfg0.win 2).blk t).view.emb (ix2 r j)) (?_ : win0_2.index t 0 * 512 + 1 * r.val = t.val * 512 + r.val)
      (?_ : win0_2.index t 1 * 512 + 1 * j.val = j.val)) <;> simp [index_row t]
  exact h0.trans (congrFun (V_main_arg2 m c) _)

theorem win_4 (t : Fin cfg0.N) (r : Fin 512) (j : Fin 256) : bs m c t (ix2 r j) = aS m c (ix2 (row t r) j) := by
  have h0 : bs m c t (ix2 r j) = V m c main_arg3 (ix2 (row t r) j) := by
    unfold bs iblk
    rw [View.read_apply]
    refine congrArg (V m c main_arg3) (Lift.eq_ix2_of (i := ((cfg0.win 4).blk t).view.emb (ix2 r j)) (?_ : win0_4.index t 0 * 512 + 1 * r.val = t.val * 512 + r.val)
      (?_ : win0_4.index t 1 * 256 + 1 * j.val = j.val)) <;> simp [index_row t]
  exact h0.trans (congrFun (V_main_arg3 m c) _)

theorem win_5 (t : Fin cfg0.N) (r : Fin 1) (j : Fin 1024) : bg m c t (ix2 r j) = aG m c (ix1 j) := by
  have h0 : bg m c t (ix2 r j) = V m c main_v7 (ix2 r j) := by
    unfold bg iblk
    rw [View.read_apply]
    refine congrArg (V m c main_v7) (Lift.eq_ix2_of (i := ((cfg0.win 5).blk t).view.emb (ix2 r j)) (?_ : win0_5.index t 0 * 1 + 1 * r.val = r.val)
      (?_ : win0_5.index t 1 * 1024 + 1 * j.val = j.val)) <;> simp [index_row t]
  obtain rfl : r = 0 := Subsingleton.elim _ _
  exact h0.trans (V_g m c j)

theorem win_6 (t : Fin cfg0.N) (r : Fin 1024) (j : Fin 1024) : bw m c t (ix2 r j) = aW m c (ix2 r j) := by
  have h0 : bw m c t (ix2 r j) = V m c main_v8 (ix2 r j) := by
    unfold bw iblk
    rw [View.read_apply]
    refine congrArg (V m c main_v8) (Lift.eq_ix2_of (i := ((cfg0.win 6).blk t).view.emb (ix2 r j)) (?_ : win0_6.index t 0 * 1024 + 1 * r.val = r.val)
      (?_ : win0_6.index t 1 * 1024 + 1 * j.val = j.val)) <;> simp [index_row t]
  exact h0.trans (V_w m c r j)

theorem win_7 (t : Fin cfg0.N) (r : Fin 512) (j : Fin 1024) : bt m c t (ix2 r j) = aT m c (ix2 (row t r) j) := by
  have h0 : bt m c t (ix2 r j) = V m c main_arg7 (ix2 (row t r) j) := by
    unfold bt iblk
    rw [View.read_apply]
    refine congrArg (V m c main_arg7) (Lift.eq_ix2_of (i := ((cfg0.win 7).blk t).view.emb (ix2 r j)) (?_ : win0_7.index t 0 * 512 + 1 * r.val = t.val * 512 + r.val)
      (?_ : win0_7.index t 1 * 1024 + 1 * j.val = j.val)) <;> simp [index_row t]
  exact h0.trans (congrFun (V_main_arg7 m c) _)

/-! ## The results -/

section Results
variable (x tg : Vec Ideal S8192x1024 .f32) (yc ys : Vec Ideal S8192x256 .f32) (o : Vec Ideal S8192x512 .f32) (p : Vec Ideal S8192x3104 .f32)
  (g : Vec Ideal S1024 .f32) (w : Vec Ideal S1024x1024 .f32)

/-- A row of the gated attention output, and the output less the target. -/
def ymR (r : Fin 8192) (j : Fin 512) : EReal := o (ix2 r j) * (p (ix2 r ⟨1824 + j.val, by omega⟩) * sg (p (ix2 r ⟨1824 + j.val, by omega⟩)))
def eR (r : Fin 8192) (e : Fin 1024) : EReal :=
  x (ix2 r e)
    + (∑ k, nrm c256 (fun k : Fin 256 => yc (ix2 r k)) (fun k => g (ix1 ⟨k.val, by omega⟩)) k * w (ix2 ⟨k.val, by omega⟩ e))
    + (∑ k, nrm c512 (ymR o p r) (fun k => g (ix1 ⟨256 + k.val, by omega⟩)) k * w (ix2 ⟨256 + k.val, by omega⟩ e))
    + (∑ k, nrm c256 (fun k : Fin 256 => ys (ix2 r k)) (fun k => g (ix1 ⟨768 + k.val, by omega⟩)) k * w (ix2 ⟨768 + k.val, by omega⟩ e))
    - tg (ix2 r e)
/-- The sum of the squares. -/
def sqR : EReal := ∑ r, ∑ e, eR x tg yc ys o p g w r e * eR x tg yc ys o p g w r e
end Results

abbrev eA := eR (aX m c) (aT m c) (aC m c) (aS m c) (aO m c) (aP m c) (aG m c) (aW m c)
abbrev sqA := sqR (aX m c) (aT m c) (aC m c) (aS m c) (aO m c) (aP m c) (aG m c) (aW m c)

theorem ymB_eq (t : Fin cfg0.N) (r : Fin 512) : ymB (bo m c t) (bz m c t) r = ymR (aO m c) (aP m c) (row t r) := by
  funext j; unfold ymB ymR; rw [win_2, win_3]
theorem eT_eq (t : Fin cfg0.N) (r : Fin 512) (e : Fin 1024) : eT m c t r e = eA m c (row t r) e := by
  unfold eT eB eA eR
  simp only [ymB_eq, win_0, win_1, win_4, win_5, win_6, win_7]

theorem d_eq : (dats m 0 c).arrAt 8 cfg0.N = fun i => eA m c (i 0) (i 1) * Ideal.ofBits .f32 0x3A800000#32 := by
  have he (t : Fin cfg0.N) (r : Fin 512) (j : Fin 1024) : ((cfg0.win 8).blk t).view.emb (ix2 r j) = ix2 (row t r) j :=
    Lift.eq_ix2_of (show win0_8.index t 0 * 512 + 1 * r.val = t.val * 512 + r.val by simp [index_row t])
      (show win0_8.index t 1 * 1024 + 1 * j.val = j.val by simp [index_row t])
  refine (dats m 0 c).arrAt_eq_of_cover 8 _ (fun t _ => ?_) fun i => ?_
  · rw [Value.flushed8]
    funext y
    obtain ⟨r, j, rfl⟩ : ∃ (r : Fin 512) (j : Fin 1024), y = ix2 r j := ⟨y 0, y 1, eq_ix2 y⟩
    rw [View.read_apply, he]
    refine (outs_d m c t r j).trans ?_
    rw [eT_eq]
    generalize eA m c = f
    rfl
  · obtain ⟨r, j, rfl⟩ : ∃ (r : Fin 8192) (j : Fin 1024), i = ix2 r j := ⟨i 0, i 1, eq_ix2 i⟩
    obtain ⟨t, r, rfl⟩ := exists_row r
    exact ⟨t, flush0_8 t, by rw [← he t r j]; exact Finset.mem_map_of_mem _ (Finset.mem_univ _)⟩

/-- The carried sums, added up, are the sum of all the squares. -/
theorem sq_sum : ∑ i : Fin 8, ∑ l : Fin 128, ∑ s : Fin 16, colT m c ⟨s.val, by have : cfg0.N = 16 := N_0; omega⟩ i l = sqA m c := by
  have hin (f : Fin 512 → Fin 1024 → EReal) : ∑ i : Fin 8, ∑ l : Fin 128, ∑ q : Fin 8, ∑ k : Fin 64,
      f ⟨k.val * 8 + i.val, by omega⟩ ⟨q.val * 128 + l.val, by omega⟩ = ∑ r, ∑ e, f r e := by
    refine Eq.trans ?_ (Fin.sum_univ_tiles 64 8 rfl (fun r : Fin 512 => ∑ e, f r e)).symm
    refine Eq.trans ?_ Finset.sum_comm
    refine Finset.sum_congr rfl fun i _ => ?_
    calc (∑ l : Fin 128, ∑ q : Fin 8, ∑ k : Fin 64, f ⟨k.val * 8 + i.val, by omega⟩ ⟨q.val * 128 + l.val, by omega⟩)
        = ∑ l : Fin 128, ∑ k : Fin 64, ∑ q : Fin 8, f ⟨k.val * 8 + i.val, by omega⟩ ⟨q.val * 128 + l.val, by omega⟩ := Finset.sum_congr rfl fun l _ => Finset.sum_comm
      _ = ∑ k : Fin 64, ∑ l : Fin 128, ∑ q : Fin 8, f ⟨k.val * 8 + i.val, by omega⟩ ⟨q.val * 128 + l.val, by omega⟩ := Finset.sum_comm
      _ = ∑ k : Fin 64, ∑ q : Fin 8, ∑ l : Fin 128, f ⟨k.val * 8 + i.val, by omega⟩ ⟨q.val * 128 + l.val, by omega⟩ := Finset.sum_congr rfl fun k _ => Finset.sum_comm
      _ = ∑ k : Fin 64, ∑ e : Fin 1024, f ⟨k.val * 8 + i.val, by omega⟩ e :=
        Finset.sum_congr rfl fun k _ => (Fin.sum_univ_tiles 8 128 rfl (fun e : Fin 1024 => f ⟨k.val * 8 + i.val, by omega⟩ e)).symm
  unfold sqA sqR
  rw [Fin.sum_univ_tiles 16 512 rfl]
  simp only [fun (n : ℕ) (h : Fin n → Fin 16 → EReal) => Finset.sum_comm (s := Finset.univ) (t := Finset.univ) (f := h)]
  refine Finset.sum_congr rfl fun s _ => ?_
  refine Eq.trans ?_ (hin _)
  refine Finset.sum_congr rfl fun i _ => Finset.sum_congr rfl fun l _ => ?_
  unfold colT colB
  simp only [eT_eq]
  rfl

theorem l_last (a : Fin 8) (b : Fin 128) (t : Fin cfg0.N) (ht : t.val = 15) :
    ((outsAt0 m c t.val t.isLt).2.1 : Vec Ideal S8x128 .f32) (ix2 a b) = sqA m c * Ideal.ofBits .f32 0x3A000000#32 := by
  rw [outs_l m c t (by omega) a b]
  refine congrArg (· * _) (Eq.trans ?_ (sq_sum m c))
  refine Finset.sum_congr rfl fun i _ => Finset.sum_congr rfl fun l _ => ?_
  have hg (N : ℕ) (hN : N = t.val + 1) : ((outsAt0 m c t.val t.isLt).2.2 : Vec Ideal S8x128 .f32) (ix2 i l) = ∑ s : Fin N, colT m c ⟨s.val, by have := t.isLt; omega⟩ i l := by
    subst hN
    exact outs_s m c i l t.val t.isLt
  exact hg 16 (by omega)

theorem l_eq : (dats m 0 c).arrAt 9 cfg0.N = fun _ => sqA m c * Ideal.ofBits .f32 0x3A000000#32 := by
  have he (t : Fin cfg0.N) (a : Fin 8) (b : Fin 128) : ((cfg0.win 9).blk t).view.emb (ix2 a b) = ix2 a b :=
    Lift.eq_ix2_of (show win0_9.index t 0 * 8 + 1 * a.val = a.val by simp [index_row t])
      (show win0_9.index t 1 * 128 + 1 * b.val = b.val by simp [index_row t])
  have hN : cfg0.N = 16 := N_0
  refine (dats m 0 c).arrAt_eq_of_cover 9 _ (fun t hf => ?_) fun i => ?_
  · have ht : t.val = 15 := by have := (flush0_9 t).mp hf; have := t.isLt; omega
    rw [Value.flushed9]
    funext y
    obtain ⟨a, b, rfl⟩ : ∃ (a : Fin 8) (b : Fin 128), y = ix2 a b := ⟨y 0, y 1, eq_ix2 y⟩
    rw [View.read_apply]
    refine (l_last m c a b t ht).trans ?_
    generalize sqA m c = f
    rfl
  · obtain ⟨a, b, rfl⟩ : ∃ (a : Fin 8) (b : Fin 128), i = ix2 a b := ⟨i 0, i 1, eq_ix2 i⟩
    have h15 : 15 < cfg0.N := by omega
    exact ⟨⟨15, h15⟩, (flush0_9 _).mpr rfl, by rw [← he ⟨15, h15⟩ a b]; exact Finset.mem_map_of_mem _ (Finset.mem_univ _)⟩

end Cert.LossBwdIdeal.Val
-- ==== Proof.LossRef.lean ====
/-
  The reference of the last output stage with the loss and its cotangent: its two results, and that they are the call's.
-/
module
public import proofs.«01_k».proof.Proof.Gen.LossRefIdeal.Read
public import proofs.«01_k».proof.Proof.LossKernel
@[expose] public section
noncomputable section
namespace Cert.LossRefIdeal.Val
open Idealize.ShloMosaic Idealize.SL.Sem Cert.LossRefIdeal Cert.LossRefIdeal.Gen Cert.LossRefIdeal.Read
open Cert.Lift Cert.Rows
open Cert.LossBwdIdeal.Val (ymR eR sqR nrm)

variable (x tg : Vec Ideal S8192x1024 .f32) (yc ys : Vec Ideal S8192x256 .f32) (o : Vec Ideal S8192x512 .f32) (p : Vec Ideal S8192x3104 .f32)
  (g : Vec Ideal S1024 .f32) (w : Vec Ideal S1024x1024 .f32)

theorem ym_ref (r : Fin 8192) (j : Fin 512) : val_main_v2 o p (ix2 r j) = ymR o p r j := by
  simp only [val_main_v2, val_main_v1, val_main_call0_v5, val_main_call0_v4, val_main_call0_cst_0, val_main_call0_v3, val_main_call0_v2, val_main_call0_cst, val_main_call0_v1, val_main_call0_v0, val_main_v0]
  pointwise
  simp only [logi]
  rfl

theorem n1_ref (r : Fin 8192) (j : Fin 256) : val_main_v16 yc g (ix2 r j) = nrm c256 (fun k => yc (ix2 r k)) (fun k : Fin 256 => g (ix1 ⟨k.val, by omega⟩)) j := by
  simp only [val_main_v16, val_main_v15, val_main_v14, val_main_v13, val_main_v12, val_main_v11, val_main_v10, val_main_v9, val_main_cst_1, val_main_v8, val_main_v7, val_main_cst_0, val_main_v6, val_main_v5, val_main_cst, val_main_v4, val_main_v3]
  pointwise
  rw [rs_div (by norm_num) word_c256 word_256]
  rfl

theorem n3_ref (r : Fin 8192) (j : Fin 256) : val_main_v44 ys g (ix2 r j) = nrm c256 (fun k => ys (ix2 r k)) (fun k : Fin 256 => g (ix1 ⟨768 + k.val, by omega⟩)) j := by
  simp only [val_main_v44, val_main_v43, val_main_v42, val_main_v41, val_main_v40, val_main_v39, val_main_v38, val_main_v37, val_main_cst_7, val_main_v36, val_main_v35, val_main_cst_6, val_main_v34, val_main_v33, val_main_cst_5, val_main_v32, val_main_v31]
  pointwise
  rw [rs_div (by norm_num) word_c256 word_256]
  rfl

theorem n2_ref (r : Fin 8192) (j : Fin 512) : val_main_v30 o p g (ix2 r j) = nrm c512 (ymR o p r) (fun k : Fin 512 => g (ix1 ⟨256 + k.val, by omega⟩)) j := by
  simp only [val_main_v30, val_main_v29, val_main_v28, val_main_v27, val_main_v26, val_main_v25, val_main_v24, val_main_v23, val_main_cst_4, val_main_v22, val_main_v21, val_main_cst_3, val_main_v20, val_main_v19, val_main_cst_2, val_main_v18, val_main_v17]
  have hY := ym_ref o p
  generalize val_main_v2 o p = Y at hY ⊢
  pointwise
  simp only [hY]
  rw [rs_div (by norm_num) word_c512 word_512]
  rfl

/-- A sum over the columns of the three branches. -/
theorem sum_cols (f : Fin 1024 → EReal) : ∑ k, f k = (∑ k : Fin 256, f ⟨k.val, by omega⟩) + (∑ k : Fin 512, f ⟨256 + k.val, by omega⟩) + ∑ k : Fin 256, f ⟨768 + k.val, by omega⟩ := by
  rw [Fin.sum_univ_add (a := 768) (b := 256) f, Fin.sum_univ_add (a := 256) (b := 512)]
  rfl

theorem e_ref (r : Fin 8192) (e : Fin 1024) : val_main_v48 x yc o ys p g w tg (ix2 r e) = eR x tg yc ys o p g w r e := by
  simp only [val_main_v48, val_main_v47, val_main_v46, val_main_v45]
  have h1 := n1_ref yc g
  have h2 := n2_ref o p g
  have h3 := n3_ref ys g
  generalize val_main_v16 yc g = N1 at h1 ⊢
  generalize val_main_v30 o p g = N2 at h2 ⊢
  generalize val_main_v44 ys g = N3 at h3 ⊢
  pointwise
  rw [sum_cols]
  simp only [h1, h2, h3]
  rw [← add_assoc, ← add_assoc]
  unfold eR
  refine congrArg (· - tg _) (congrArg₂ (· + ·) (congrArg₂ (· + ·) (congrArg (x _ + ·) (Finset.sum_congr rfl fun k _ => ?_)) (Finset.sum_congr rfl fun k _ => ?_))
    (Finset.sum_congr rfl fun k _ => ?_))
  · rw [dif_pos k.isLt]
  · rw [dif_neg (by omega), dif_pos (by omega)]
    exact congrArg (fun q => nrm _ _ _ q * _) (Fin.ext (by simp only; omega))
  · rw [dif_neg (by omega), dif_neg (by omega)]
    exact congrArg (fun q => nrm _ _ _ q * _) (Fin.ext (by simp only; omega))

theorem word_half : (Ideal.ofBits .f32 0x3F000000#32 : EReal) = (((2 : ℝ)⁻¹ : ℝ) : EReal) := by
  simp [Ideal.ofBits, Ideal.ieee, -EReal.coe_mul]
  norm_num
theorem word_two : (Ideal.ofBits .f32 0x40000000#32 : EReal) = ((2 : ℝ) : EReal) := by
  simp [Ideal.ofBits, Ideal.ieee, -EReal.coe_mul]
  norm_num
theorem word_2048 : (Ideal.ofBits .f32 0x3A000000#32 : EReal) = (((2048 : ℝ)⁻¹ : ℝ) : EReal) := by
  simp [Ideal.ofBits, Ideal.ieee, -EReal.coe_mul]
  norm_num

theorem sq_nonneg' (v : EReal) : 0 ≤ v * v := by
  rcases le_total 0 v with h | h
  · exact mul_nonneg h h
  · have h' : 0 ≤ -v := by rwa [EReal.neg_nonneg]
    have := mul_nonneg h' h'
    rwa [EReal.neg_mul, mul_comm, EReal.neg_mul, neg_neg] at this

/-- A product distributes over a sum of numbers that aren't negative. -/
theorem sum_mul_nonneg {n : ℕ} (f : Fin n → EReal) (hf : ∀ r, 0 ≤ f r) (a : EReal) : ∑ r, f r * a = (∑ r, f r) * a := by
  classical
  have h (s : Finset (Fin n)) : ∑ r ∈ s, f r * a = (∑ r ∈ s, f r) * a := by
    induction s using Finset.induction_on with
    | empty => simp
    | insert b s hb ih =>
      rw [Finset.sum_insert hb, Finset.sum_insert hb, ih, EReal.right_distrib_of_nonneg (hf b) (Finset.sum_nonneg fun r _ => hf r)]
  exact h _

theorem d_ref (r : Fin 8192) (e : Fin 1024) : val_main_v62 x yc o ys p g w tg (ix2 r e) = eR x tg yc ys o p g w r e * Ideal.ofBits .f32 0x3A800000#32 := by
  simp only [val_main_v62, val_main_v61, val_main_v60, val_main_v59, val_main_cst_15, val_main_v58, val_main_v57, val_main_cst_14, val_main_cst_13, val_main_v51, val_main_v50, val_main_cst_8]
  have h := e_ref x tg yc ys o p g w
  generalize val_main_v48 x yc o ys p g w tg = E at h ⊢
  pointwise
  simp only [h]
  generalize eR x tg yc ys o p g w r e = v
  rw [word_half, word_1024', word_two, word_1024, div_real (by norm_num), ← mul_assoc, ← EReal.coe_mul, mul_comm]
  exact congrArg (v * ·) (congrArg _ (by norm_num))

theorem l_ref (a : Fin 8) (b : Fin 128) : val_main_v63 x yc o ys p g w tg (ix2 a b) = sqR x tg yc ys o p g w * Ideal.ofBits .f32 0x3A000000#32 := by
  simp only [val_main_v63, val_main_v56, val_main_cst_12, val_main_v55, val_main_cst_11, val_main_v54, val_main_v53, val_main_cst_10, val_main_v52, val_main_cst_9, val_main_v49]
  have h := e_ref x tg yc ys o p g w
  generalize val_main_v48 x yc o ys p g w tg = E at h ⊢
  pointwise
  simp only [h]
  unfold sqR
  generalize eR x tg yc ys o p g w = v
  simp only [word_half, word_1024', word_2048, fun a => Ideal.div_coe (x := a) (show (1024 : ℝ) ≠ 0 by norm_num)]
  rw [sum_mul_nonneg _ fun r => Finset.sum_nonneg fun e _ => sq_nonneg' _, ← mul_assoc, mul_comm _ (∑ _, _), mul_assoc, ← EReal.coe_mul]
  exact congrArg (_ * ·) (congrArg _ (by norm_num))

end Cert.LossRefIdeal.Val
-- ==== Proof.LossClaim.lean ====
/-
  The claims of the last output stage's forward call with the loss and its cotangent.
-/
module
public import proofs.«01_k».proof.Defs
public import proofs.«01_k».proof.Proof.Gen.LossBwd.Frame
public import proofs.«01_k».proof.Proof.LossRef
public import Idealize.ShloMosaic.Lib.Claim
@[expose] public section
noncomputable section
namespace Cert.LossClaim
open Idealize.ShloMosaic Idealize.SL.Sem
open Cert.LossBwdIdeal.Val Cert.Lift

theorem frame_kernel : Cert.quiescent_LossBwd := fun m ρ _ => Cert.LossBwd.Gen.frame m ρ
theorem frame_ideal : Cert.quiescent_LossBwdIdeal := fun m ρ _ => Cert.LossBwdIdeal.Gen.frame m ρ

/-- The reference's run leaves its arguments and its counters. -/
theorem frame_ref : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run m ρ)

set_option maxHeartbeats 4000000 in
/-- The call's two results, the cotangent and the loss, are the reference's, at any arguments. -/
theorem value : Cert.algebraic_LossBwdIdeal_LossRefIdeal := by
  intro m g m' g' _ hargs
  refine ⟨fun c => (Cert.LossBwdIdeal.Gen.dats m 0 c).arrAt 8 Cert.LossBwdIdeal.cfg0.N,
    fun c => (Cert.LossBwdIdeal.Gen.dats m 0 c).arrAt 9 Cert.LossBwdIdeal.cfg0.N, Cert.LossBwdIdeal.Value.run_blocks m g,
    (θ_run Cert.LossRefIdeal.defs _ _).mono (fun r h c => ?_) (Cert.LossRefIdeal.Value.run m' g')⟩
  obtain ⟨h0, h1, hk⟩ := h c
  obtain ⟨a0, a1, a2, a3, a4, a5, a6, a7⟩ := hargs c
  have b0 : StableHlo.launchContents m' c (Proc.devRef .tc Cert.LossRefIdeal.main_arg0) = m (c.tc.loc Cert.LossBwdIdeal.main_arg0) := a0
  have b1 : StableHlo.launchContents m' c (Proc.devRef .tc Cert.LossRefIdeal.main_arg1) = m (c.tc.loc Cert.LossBwdIdeal.main_arg1) := a1
  have b2 : StableHlo.launchContents m' c (Proc.devRef .tc Cert.LossRefIdeal.main_arg2) = m (c.tc.loc Cert.LossBwdIdeal.main_arg2) := a2
  have b3 : StableHlo.launchContents m' c (Proc.devRef .tc Cert.LossRefIdeal.main_arg3) = m (c.tc.loc Cert.LossBwdIdeal.main_arg3) := a3
  have b4 : StableHlo.launchContents m' c (Proc.devRef .tc Cert.LossRefIdeal.main_arg4) = m (c.tc.loc Cert.LossBwdIdeal.main_arg4) := a4
  have b5 : StableHlo.launchContents m' c (Proc.devRef .tc Cert.LossRefIdeal.main_arg5) = m (c.tc.loc Cert.LossBwdIdeal.main_arg5) := a5
  have b6 : StableHlo.launchContents m' c (Proc.devRef .tc Cert.LossRefIdeal.main_arg6) = m (c.tc.loc Cert.LossBwdIdeal.main_arg6) := a6
  have b7 : StableHlo.launchContents m' c (Proc.devRef .tc Cert.LossRefIdeal.main_arg7) = m (c.tc.loc Cert.LossBwdIdeal.main_arg7) := a7
  refine ⟨(h0.trans (Cert.LossRefIdeal.Read.val_main_v62_eq _ _)).trans ?_,
    (h1.trans (Cert.LossRefIdeal.Read.val_main_v63_eq _ _)).trans ?_, hk⟩
  · rw [a0, a1, a2, a3, a4, a5, a6, a7]
    refine Eq.trans ?_ (d_eq m c).symm
    funext i
    obtain ⟨r, j, rfl⟩ : ∃ r j, i = ValueIdx.ix2 r j := ⟨i 0, i 1, ValueIdx.eq_ix2 i⟩
    exact Cert.LossRefIdeal.Val.d_ref _ _ _ _ _ _ _ _ r j
  · rw [a0, a1, a2, a3, a4, a5, a6, a7]
    refine Eq.trans ?_ (l_eq m c).symm
    funext i
    obtain ⟨r, j, rfl⟩ : ∃ r j, i = ValueIdx.ix2 r j := ⟨i 0, i 1, ValueIdx.eq_ix2 i⟩
    exact Cert.LossRefIdeal.Val.l_ref _ _ _ _ _ _ _ _ r j

end Cert.LossClaim
-- ==== Proof.SguKernel.lean ====
/-
  The backward call of the spatial gating unit: what the gradients of its per-position gain and of its norm's gain and shift hold,
  index by index, over the program's arguments.
-/
module
public import proofs.«01_k».proof.Proof.Gen.SguBwdIdeal.Value
public import Idealize.ShloMosaic.Lib.Pipeline.ReadBack
public import Idealize.ShloMosaic.Lib.WritesUnit
public import proofs.«01_k».proof.Proof.Rows
@[expose] public section
set_option maxRecDepth 16384
set_option maxHeartbeats 400000
noncomputable section
namespace Cert.SguBwdIdeal.Val
open Idealize.ShloMosaic Idealize.SL.Sem Cert.SguBwdIdeal Cert.SguBwdIdeal.Gen
open Idealize.ShloMosaic.StableHlo Cert.Rows

/-- The gelu in its tanh form. -/
def gl (x : EReal) : EReal :=
  Ideal.ofBits .f32 0x3F000000#32 * x * (Ideal.ofBits .f32 0x3F800000#32 +
    Ideal.tanh (Ideal.ofBits .f32 0x3F4C422A#32 * (x + Ideal.ofBits .f32 0x3D372713#32 * x * x * x)))

/-- A row less its mean. -/
def xc (y : Fin 256 → EReal) (j : Fin 256) : EReal := y j - (∑ k, y k) * c256
/-- A row of the layer norm before its gain. -/
def xn (y : Fin 256 → EReal) (j : Fin 256) : EReal := xc y j * Ideal.rsqrt ((∑ k, xc y k * xc y k) * c256 + Ideal.ofBits .f32 0x358637BD#32)

section Payloads
variable (p : Vec Ideal S512x768 .f32) (dy : Vec Ideal S512x256 .f32)

/-- The cotangent of the mixed rows in one row block. -/
def dmB (r : Fin 512) (j : Fin 256) : EReal :=
  dy (ix2 r j) * gl (p (ix2 r ⟨j.val, by omega⟩)) * (p (ix2 r ⟨512 + j.val, by omega⟩) * sg (p (ix2 r ⟨512 + j.val, by omega⟩)))

abbrev pM : Vec Ideal S512x256 .f32 := k0_pay35 (k0_pay8 p) (k0_pay32 (k0_pay6 p)) (k0_pay33 (k0_pay8 p)) (FloatOps.ofBits .f32 0x3F800000#32) dy

theorem dm_apply (r : Fin 512) (j : Fin 256) : pM p dy (ix2 r j) = dmB p dy r j := by
  unfold pM dmB gl sg
  unfold_payloads
  pointwise

theorem xc_apply (r : Fin 512) (j : Fin 256) : k0_pay9 p (ix2 r j) = xc (fun k => gl (p (ix2 r ⟨256 + k.val, by omega⟩))) j := by
  unfold xc gl
  unfold_payloads
  pointwise

theorem xn_apply (r : Fin 512) (j : Fin 256) : k0_pay11 p (ix2 r j) = xn (fun k => gl (p (ix2 r ⟨256 + k.val, by omega⟩))) j := by
  have h := xc_apply p r
  revert h
  unfold xn k0_pay11 k0_pay10
  generalize k0_pay9 p = X
  intro h
  simp only [← h]
  pointwise

theorem head_apply (r : Fin 128) (j : Fin 256) : k0_pay15 (ix2 r j) = BitVec.ofNat 32 (j.val / 64) := by
  unfold_payloads
  pointwise
  revert j
  decide +kernel

theorem cmp_head : ∀ (j : Fin 256) (k : Fin 4), IntOp.cmpi .eq (BitVec.ofNat 32 (j.val / 64)) (BitVec.ofNat 32 k.val) = BitVec.ofBool (decide (j.val / 64 = k.val)) := by
  decide +kernel

theorem sel_bool (q : Bool) (a b : EReal) : Scalar.select (BitVec.ofBool q) a b = if q then a else b := by
  cases q <;> rfl

theorem sel_head (k : Fin 4) (j : Fin 256) (a b : EReal) :
    Scalar.select (IntOp.cmpi .eq (BitVec.ofNat 32 (j.val / 64)) (BitVec.ofNat 32 k.val)) a b = if j.val / 64 = k.val then a else b := by
  rw [cmp_head, sel_bool]
  simp

/-- The four heads' mixing rows, one selected by the lane. -/
theorem sel_four (j : Fin 256) (f : Fin 4 → EReal) (z : EReal) :
    (if j.val / 64 = 3 then f 3 else if j.val / 64 = 2 then f 2 else if j.val / 64 = 1 then f 1 else if j.val / 64 = 0 then f 0 else z)
      = f ⟨j.val / 64, by omega⟩ := by
  have hq (k : Fin 4) (e : j.val / 64 = k.val) : f ⟨j.val / 64, by omega⟩ = f k := congrArg f (Fin.ext e)
  by_cases e3 : j.val / 64 = 3
  · rw [if_pos e3]; exact (hq 3 e3).symm
  rw [if_neg e3]
  by_cases e2 : j.val / 64 = 2
  · rw [if_pos e2]; exact (hq 2 e2).symm
  rw [if_neg e2]
  by_cases e1 : j.val / 64 = 1
  · rw [if_pos e1]; exact (hq 1 e1).symm
  rw [if_neg e1]
  by_cases e0 : j.val / 64 = 0
  · rw [if_pos e0]; exact (hq 0 e0).symm
  omega

variable (w0 w1 w2 w3 : Vec Ideal S1x128x128 .bf16) (M : Vec Ideal S128x256 .f32)

abbrev mixP : Vec Ideal S128x256 .f32 := k0_pay54 k0_pay15 k0_pay51 (k0_pay52 M) k0_pay53 w0 w1 w2 w3

theorem mix_apply (r : Fin 128) (j : Fin 256) :
    mixP w0 w1 w2 w3 M (ix2 r j) = ∑ s : Fin 128, (![w0, w1, w2, w3] : Fin 4 → Vec Ideal S1x128x128 .bf16) ⟨j.val / 64, by omega⟩ (ix3 0 r s) * M (ix2 s j) := by
  unfold mixP
  generalize hh : k0_pay15 = h
  have hh (r : Fin 128) (j : Fin 256) : h (ix2 r j) = BitVec.ofNat 32 (j.val / 64) := by rw [← hh]; exact head_apply r j
  unfold_payloads
  pointwise
  simp only [hh]
  simp only [
    show ∀ j : Fin 256, ∀ a b : EReal, Scalar.select (IntOp.cmpi .eq (BitVec.ofNat 32 (j.val / 64)) 3#32) a b = if j.val / 64 = 3 then a else b from fun j => sel_head 3 j,
    show ∀ j : Fin 256, ∀ a b : EReal, Scalar.select (IntOp.cmpi .eq (BitVec.ofNat 32 (j.val / 64)) 2#32) a b = if j.val / 64 = 2 then a else b from fun j => sel_head 2 j,
    show ∀ j : Fin 256, ∀ a b : EReal, Scalar.select (IntOp.cmpi .eq (BitVec.ofNat 32 (j.val / 64)) 1#32) a b = if j.val / 64 = 1 then a else b from fun j => sel_head 1 j,
    show ∀ j : Fin 256, ∀ a b : EReal, Scalar.select (IntOp.cmpi .eq (BitVec.ofNat 32 (j.val / 64)) 0#32) a b = if j.val / 64 = 0 then a else b from fun j => sel_head 0 j]
  exact sel_four j (fun g => ∑ s : Fin 128, (![w0, w1, w2, w3] : Fin 4 → Vec Ideal S1x128x128 .bf16) g (ix3 0 r s) * M (ix2 s j)) _

abbrev gP (X : FVec Ideal S512x256 .f32) (dv : FVec Ideal S512x256 .f32) (old : FVec Ideal S1x256 .f32) : FVec Ideal S1x256 .f32 :=
  addf (F := Ideal) (φ := .f32) old (shapeCast S1x256 (multiReduction .add [0] S256 (mulf dv X) 0x00000000#32 reduces_S512x256_S256 (.inl rfl) rfl) shapeCasts_S256_S1x256)
abbrev bP (dv : FVec Ideal S512x256 .f32) (old : FVec Ideal S1x256 .f32) : FVec Ideal S1x256 .f32 :=
  addf (F := Ideal) (φ := .f32) old (shapeCast S1x256 (multiReduction .add [0] S256 dv 0x00000000#32 reduces_S512x256_S256 (.inl rfl) rfl) shapeCasts_S256_S1x256)

theorem g_apply (X : Vec Ideal S512x256 .f32) (dv : Vec Ideal S512x256 .f32) (old : Vec Ideal S1x256 .f32) (j : Fin 256) :
    gP X dv old (ix2 0 j) = old (ix2 0 j) + ∑ r : Fin 512, dv (ix2 r j) * X (ix2 r j) := by
  unfold gP
  pointwise

theorem b_apply (dv : Vec Ideal S512x256 .f32) (old : Vec Ideal S1x256 .f32) (j : Fin 256) :
    bP dv old (ix2 0 j) = old (ix2 0 j) + ∑ r : Fin 512, dv (ix2 r j) := by
  unfold bP
  pointwise

abbrev s0 (d : Vec Ideal S512x256 .f32) : Vec Ideal S128x256 .f32 := extractStridedSlice S128x256 ![0, 0] d slices_S512x256_o0_0_S128x256
abbrev s1 (d : Vec Ideal S512x256 .f32) : Vec Ideal S128x256 .f32 := extractStridedSlice S128x256 ![128, 0] d slices_S512x256_o128_0_S128x256
abbrev s2 (d : Vec Ideal S512x256 .f32) : Vec Ideal S128x256 .f32 := extractStridedSlice S128x256 ![256, 0] d slices_S512x256_o256_0_S128x256
abbrev s3 (d : Vec Ideal S512x256 .f32) : Vec Ideal S128x256 .f32 := extractStridedSlice S128x256 ![384, 0] d slices_S512x256_o384_0_S128x256

/-- Row `r` of chunk `q` of a row block. -/
def ch (q : Fin 4) (r : Fin 128) : Fin 512 := ⟨q.val * 128 + r.val, by omega⟩

theorem sl_apply (d : Vec Ideal S512x256 .f32) (q : Fin 4) (r : Fin 128) (j : Fin 256) : (![s0 d, s1 d, s2 d, s3 d] : Fin 4 → Vec Ideal S128x256 .f32) q (ix2 r j) = d (ix2 (ch q r) j) := by
  have h0 : s0 d (ix2 r j) = d (ix2 (ch 0 r) j) := by
    unfold s0 ch
    pointwise
    try simp
  have h1 : s1 d (ix2 r j) = d (ix2 (ch 1 r) j) := by
    unfold s1 ch
    pointwise
    try simp
  have h2 : s2 d (ix2 r j) = d (ix2 (ch 2 r) j) := by
    unfold s2 ch
    pointwise
    try simp
  have h3 : s3 d (ix2 r j) = d (ix2 (ch 3 r) j) := by
    unfold s3 ch
    pointwise
    try simp
  revert q
  exact Fin.forall_fin_succ.2 ⟨h0, Fin.forall_fin_succ.2 ⟨h1, Fin.forall_fin_succ.2 ⟨h2, Fin.forall_fin_succ.2 ⟨h3, fun x => x.elim0⟩⟩⟩⟩

abbrev chunks (d : Vec Ideal S512x256 .f32) : Vec Ideal S128x256 .f32 :=
  addf (addf (addf (addf (broadcast S128x256 (FloatOps.ofBits (F := Ideal) .f32 0x00000000#32)) (s0 d)) (s1 d)) (s2 d)) (s3 d)

theorem chunks_apply (d : Vec Ideal S512x256 .f32) (r : Fin 128) (j : Fin 256) : chunks d (ix2 r j) = ∑ q : Fin 4, d (ix2 (ch q r) j) := by
  have h := sl_apply d
  unfold chunks
  simp only [Fin.sum_univ_four, ← h]
  generalize s0 d = a0
  generalize s1 d = a1
  generalize s2 d = a2
  generalize s3 d = a3
  pointwise

end Payloads

section Pieces
variable {sig : RefSig} {κ : Kind} {sp : Space} (q0 q1 q2 q3 : Vec Ideal S128x256 .f32)

theorem mem_of_emb {s : Shape} {r : Rect s} (x : r.shape.Idx) {y : s.Idx} (h : r.emb x = y) : y ∈ r.set := by
  rw [← h, ← Rect.map_emb_univ]
  exact Finset.mem_map_of_mem _ (Finset.mem_univ x)

theorem embC (o : ℕ) (inb) (r : Fin 128) (j : Fin 256) (q : Fin 512) (h : q.val = o + r.val) :
    (Rect.unit (s := S512x256) ![o, 0] ![128, 256] inb).emb (ix2 r j) = ix2 q j :=
  Lift.eq_ix2_of (show o + 1 * r.val = q.val by omega) (show 0 + 1 * j.val = j.val by omega)

/-- Four chunks' rows stored one after the other and read back whole. -/
theorem cov (v : View sig κ sp S512x256 .f32) (r : Fin 512) (j : Fin 256) : v.readCov (Val := Elt Ideal) [⟨Rect.unit (s := S512x256) ![384, 0] ![128, 256] inb_S512x256_S128x256_384_0, q3⟩,
      ⟨Rect.unit (s := S512x256) ![256, 0] ![128, 256] inb_S512x256_S128x256_256_0, q2⟩, ⟨Rect.unit (s := S512x256) ![128, 0] ![128, 256] inb_S512x256_S128x256_128_0, q1⟩,
      ⟨Rect.unit (s := S512x256) ![0, 0] ![128, 256] inb_S512x256_S128x256_0_0, q0⟩] (Rect.unit (s := S512x256) ![0, 0] ![512, 256] inb_S512x256_S512x256_0_0).toLoadRect (ix2 r j)
      = (![q0, q1, q2, q3] : Fin 4 → Vec Ideal S128x256 .f32) ⟨r.val / 128, by omega⟩ (ix2 ⟨r.val % 128, by omega⟩ j) := by
  have key (i : S512x256.Idx) : View.canon (Val := Elt Ideal) (e := .f32) [⟨Rect.unit (s := S512x256) ![384, 0] ![128, 256] inb_S512x256_S128x256_384_0, q3⟩,
      ⟨Rect.unit (s := S512x256) ![256, 0] ![128, 256] inb_S512x256_S128x256_256_0, q2⟩, ⟨Rect.unit (s := S512x256) ![128, 0] ![128, 256] inb_S512x256_S128x256_128_0, q1⟩,
      ⟨Rect.unit (s := S512x256) ![0, 0] ![128, 256] inb_S512x256_S128x256_0_0, q0⟩] i
      = (fun i : S512x256.Idx => (![q0, q1, q2, q3] : Fin 4 → Vec Ideal S128x256 .f32) ⟨(i 0).val / 128, by have : (i 0).val < 512 := (i 0).isLt; omega⟩ (ix2 ⟨(i 0).val % 128, by omega⟩ (i 1))) i := by
    obtain ⟨r, j, rfl⟩ : ∃ (r : Fin 512) (j : Fin 256), i = ix2 r j := ⟨i 0, i 1, eq_ix2 i⟩
    have piece (o : ℕ) (inb) (q : Fin 4) (ho : o = q.val * 128) (x : (Rect.unit (s := S512x256) ![o, 0] ![128, 256] inb).shape.Idx) :
        (![q0, q1, q2, q3] : Fin 4 → Vec Ideal S128x256 .f32) q x
          = (fun i : S512x256.Idx => (![q0, q1, q2, q3] : Fin 4 → Vec Ideal S128x256 .f32) ⟨(i 0).val / 128, by have : (i 0).val < 512 := (i 0).isLt; omega⟩ (ix2 ⟨(i 0).val % 128, by omega⟩ (i 1)))
            ((Rect.unit (s := S512x256) ![o, 0] ![128, 256] inb).emb x) := by
      obtain ⟨r, j, rfl⟩ : ∃ (r : Fin 128) (j : Fin 256), x = ix2 r j := ⟨x 0, x 1, eq_ix2 x⟩
      rw [embC o inb r j (ch q r) (by unfold ch; dsimp only; omega)]
      have e1 : (⟨(ch q r).val / 128, by have := (ch q r).isLt; omega⟩ : Fin 4) = q := Fin.ext (by unfold ch; dsimp only; omega)
      have e2 : (⟨(ch q r).val % 128, by omega⟩ : Fin 128) = r := Fin.ext (by unfold ch; dsimp only; omega)
      show _ = (![q0, q1, q2, q3] : Fin 4 → Vec Ideal S128x256 .f32) ⟨(ch q r).val / 128, _⟩ (ix2 ⟨(ch q r).val % 128, _⟩ j)
      rw [e1, e2]
    refine View.canon_append_of_piecesOf (Val := Elt Ideal) (e := .f32) (fun i : S512x256.Idx => (![q0, q1, q2, q3] : Fin 4 → Vec Ideal S128x256 .f32) ⟨(i 0).val / 128, by have : (i 0).val < 512 := (i 0).isLt; omega⟩ (ix2 ⟨(i 0).val % 128, by omega⟩ (i 1))) [] [⟨Rect.unit (s := S512x256) ![384, 0] ![128, 256] inb_S512x256_S128x256_384_0, q3⟩, ⟨Rect.unit (s := S512x256) ![256, 0] ![128, 256] inb_S512x256_S128x256_256_0, q2⟩, ⟨Rect.unit (s := S512x256) ![128, 0] ![128, 256] inb_S512x256_S128x256_128_0, q1⟩, ⟨Rect.unit (s := S512x256) ![0, 0] ![128, 256] inb_S512x256_S128x256_0_0, q0⟩] ⟨piece 384 inb_S512x256_S128x256_384_0 3 rfl, piece 256 inb_S512x256_S128x256_256_0 2 rfl, piece 128 inb_S512x256_S128x256_128_0 1 rfl, piece 0 inb_S512x256_S128x256_0_0 0 rfl, trivial⟩ _ ?_
    by_cases c0 : r.val < 128
    · exact ⟨_, .tail _ (.tail _ (.tail _ (.head _))), mem_of_emb (ix2 ⟨r.val, c0⟩ j) (embC 0 inb_S512x256_S128x256_0_0 _ _ _ (by simp))⟩
    by_cases c1 : r.val < 256
    · exact ⟨_, .tail _ (.tail _ (.head _)), mem_of_emb (ix2 ⟨r.val - 128, by omega⟩ j) (embC 128 inb_S512x256_S128x256_128_0 _ _ _ (by simp only; omega))⟩
    by_cases c2 : r.val < 384
    · exact ⟨_, .tail _ (.head _), mem_of_emb (ix2 ⟨r.val - 256, by omega⟩ j) (embC 256 inb_S512x256_S128x256_256_0 _ _ _ (by simp only; omega))⟩
    · exact ⟨_, .head _, mem_of_emb (ix2 ⟨r.val - 384, by omega⟩ j) (embC 384 inb_S512x256_S128x256_384_0 _ _ _ (by simp only; omega))⟩
  rw [View.readCov_eq_canon']
  refine (key _).trans ?_
  have e : (Rect.unit (s := S512x256) ![0, 0] ![512, 256] inb_S512x256_S512x256_0_0).emb (ix2 r j) = ix2 r j :=
    Lift.eq_ix2_of (show 0 + 1 * r.val = r.val by omega) (show 0 + 1 * j.val = j.val by omega)
  exact congrArg (fun i : S512x256.Idx => (![q0, q1, q2, q3] : Fin 4 → Vec Ideal S128x256 .f32) ⟨(i 0).val / 128, by have : (i 0).val < 512 := (i 0).isLt; omega⟩ (ix2 ⟨(i 0).val % 128, by omega⟩ (i 1))) e

/-- Two rows stored one after the other, read back with what lay under them. -/
theorem two_rows (v : View sig κ sp S8x256 .f32) (f : v.ty.Contents (Elt Ideal)) (p0 p1 : Vec Ideal S1x256 .f32) (L : List (View.Piece (Elt Ideal) S8x256 .f32)) (r : Fin 8) (j : Fin 256) :
    v.read (Elt Ideal) (v.writes (Elt Ideal) f (⟨Rect.unit (s := S8x256) ![1, 0] ![1, 256] inb_S8x256_S1x256_1_0, p1⟩ :: ⟨Rect.unit (s := S8x256) ![0, 0] ![1, 256] inb_S8x256_S1x256_0_0, p0⟩ :: L)) (ix2 r j)
      = if r.val = 0 then p0 (ix2 0 j) else if r.val = 1 then p1 (ix2 0 j) else v.read (Elt Ideal) (v.writes (Elt Ideal) f L) (ix2 r j) := by
  by_cases h0 : r.val = 0
  · rw [if_pos h0, View.read_writes_cons_unit_of_not_mem (size := ![1, 256]) (off' := ![1, 0]) v f _ p1 _ _ rfl 0 (Or.inl (show r.val < 1 by omega)),
      View.read_writes_cons_unit_of_mem (size := ![1, 256]) (off' := ![0, 0]) v f _ p0 _ _ (ix2 0 j) rfl (fun a => ?_)]
    revert a
    refine Fin.forall_fin_succ.2 ⟨?_, Fin.forall_fin_succ.2 ⟨?_, fun x => x.elim0⟩⟩
    · show r.val = 0 + 0; omega
    · show j.val = 0 + j.val; omega
  rw [if_neg h0]
  by_cases h1 : r.val = 1
  · rw [if_pos h1, View.read_writes_cons_unit_of_mem (size := ![1, 256]) (off' := ![1, 0]) v f _ p1 _ _ (ix2 0 j) rfl (fun a => ?_)]
    revert a
    refine Fin.forall_fin_succ.2 ⟨?_, Fin.forall_fin_succ.2 ⟨?_, fun x => x.elim0⟩⟩
    · show r.val = 1 + 0; omega
    · show j.val = 0 + j.val; omega
  rw [if_neg h1]
  refine (View.read_writes_cons_unit_of_not_mem (size := ![1, 256]) (off' := ![1, 0]) v f _ p1 _ (ix2 r j) rfl 0 (Or.inr (show 1 + 1 ≤ r.val by omega))).trans (View.read_writes_cons_unit_of_not_mem (size := ![1, 256]) (off' := ![0, 0]) v f _ p0 _ (ix2 r j) rfl 0 (Or.inr (show 0 + 1 ≤ r.val by omega)))

end Pieces

variable (m : (ℓ : Loc nD τ sig) → Buf (Elt Ideal) ℓ) (c : Dev nD)

theorem hz : (![0, 0] : Fin 2 → Nat) = fun _ => 0 := by funext a; fin_cases a <;> rfl

/-! ## What the body leaves at a grid point, over the point's input blocks -/

abbrev bp (t : Fin cfg0.N) : Vec Ideal S512x768 .f32 := X0_0 m c t
abbrev bd (t : Fin cfg0.N) : Vec Ideal S512x256 .f32 := iblk m c 1 t
abbrev bt (t : Fin cfg0.N) : Vec Ideal S4x128x128 .bf16 := iblk m c 5 t

/-- What one row block adds to the gradient of the gain. -/
def msT (t : Fin cfg0.N) (r : Fin 128) (j : Fin 256) : EReal := ∑ q : Fin 4, dmB (bp m c t) (bd m c t) (ch q r) j

theorem outs_ms1 (t : Fin cfg0.N) (h : ¬ t.val % 16 = 0) (r : Fin 128) (j : Fin 256) :
    ((outsAt0 m c t.val t.isLt).2.2.1 : Vec Ideal S128x256 .f32) (ix2 r j)
      = ((outsAt0 m c (t.val - 1) (by have := t.isLt; omega)).2.2.1 : Vec Ideal S128x256 .f32) (ix2 r j) + msT m c t r j := by
  refine Eq.trans ?_ (congrArg (_ + ·) ((chunks_apply (pM (bp m c t) (bd m c t)) r j).trans (Finset.sum_congr rfl fun q _ => dm_apply _ _ _ _)))
  rw [outsAt0_B m c t h]
  dsimp only
  unfold out0_B_9
  rw [View.read_writes_eq_canon _ _ _ (fun _ => cover0_B_9 ..)]
  unfold kernelRun0_B
  dsimp only
  rw [View.canon_unit_zero hz]
  sl_unfold_words
  try dsimp only
  simp only [View.readAt_eq_ld, Memref.IsWhole.read_unread, View.ld_unit_zero (S := S512x768) hz, View.ld_unit_zero (S := S512x256) hz, View.ld_unit_zero (S := S1x256) hz, View.ld_unit_zero (S := S128x256) hz, shapeCast_self]
  unfold pM
  generalize k0_pay35 (F := Ideal) _ _ _ _ _ = D
  unfold_payloads
  simp only [shapeCast_self]
  rfl

theorem outs_ms0 (t : Fin cfg0.N) (h : t.val % 16 = 0) (r : Fin 128) (j : Fin 256) :
    ((outsAt0 m c t.val t.isLt).2.2.1 : Vec Ideal S128x256 .f32) (ix2 r j) = msT m c t r j := by
  have hz0 : (k0_pay3 (F := Ideal)) (ix2 r j) = (0 : EReal) := by
    unfold_payloads
    pointwise
  refine Eq.trans ?_ (((congrArg₂ (· + ·) hz0 ((chunks_apply (pM (bp m c t) (bd m c t)) r j).trans (Finset.sum_congr rfl fun q _ => dm_apply _ _ _ _)))).trans (zero_add _))
  rw [outsAt0_A m c t h]
  dsimp only
  unfold out0_A_9
  rw [View.read_writes_eq_canon _ _ _ (fun _ => cover0_A_9 ..)]
  unfold kernelRun0_A
  dsimp only
  rw [View.canon_cons_unit_zero (S := S128x256) hz]
  sl_unfold_words
  try dsimp only
  simp only [View.readAt_eq_ld, Memref.IsWhole.read_unread, View.ld_unit_zero (S := S512x768) hz, View.ld_unit_zero (S := S512x256) hz, View.ld_unit_zero (S := S1x256) hz, View.ld_unit_zero (S := S128x256) hz, shapeCast_self, View.readCov_unit_zero (S := S128x256) _ hz]
  rfl

/-- The mixing rows of head `q` of the transposed weight. -/
abbrev w0 (w : Vec Ideal S4x128x128 .bf16) : Vec Ideal S1x128x128 .bf16 := View.ld w (Rect.unit (s := S4x128x128) ![0, 0, 0] ![1, 128, 128] inb_S4x128x128_S1x128x128_0_0_0)
abbrev w1 (w : Vec Ideal S4x128x128 .bf16) : Vec Ideal S1x128x128 .bf16 := View.ld w (Rect.unit (s := S4x128x128) ![1, 0, 0] ![1, 128, 128] inb_S4x128x128_S1x128x128_1_0_0)
abbrev w2 (w : Vec Ideal S4x128x128 .bf16) : Vec Ideal S1x128x128 .bf16 := View.ld w (Rect.unit (s := S4x128x128) ![2, 0, 0] ![1, 128, 128] inb_S4x128x128_S1x128x128_2_0_0)
abbrev w3 (w : Vec Ideal S4x128x128 .bf16) : Vec Ideal S1x128x128 .bf16 := View.ld w (Rect.unit (s := S4x128x128) ![3, 0, 0] ![1, 128, 128] inb_S4x128x128_S1x128x128_3_0_0)

theorem w_apply (w : Vec Ideal S4x128x128 .bf16) (q : Fin 4) (a b : Fin 128) :
    (![w0 w, w1 w, w2 w, w3 w] : Fin 4 → Vec Ideal S1x128x128 .bf16) q (ix3 0 a b) = w (ix3 q a b) := by
  have em (o : ℕ) (inb) (q : Fin 4) (h : o = q.val) : (Rect.unit (s := S4x128x128) ![o, 0, 0] ![1, 128, 128] inb).emb (ix3 0 a b) = ix3 q a b := by
    subst h
    funext x
    apply Fin.ext
    revert x
    refine Fin.forall_fin_succ.2 ⟨?_, Fin.forall_fin_succ.2 ⟨?_, Fin.forall_fin_succ.2 ⟨?_, fun x => x.elim0⟩⟩⟩
    · show q.val + 1 * 0 = q.val; omega
    · show 0 + 1 * a.val = a.val; omega
    · show 0 + 1 * b.val = b.val; omega
  revert q
  exact Fin.forall_fin_succ.2 ⟨congrArg w (em 0 _ 0 rfl), Fin.forall_fin_succ.2 ⟨congrArg w (em 1 _ 1 rfl), Fin.forall_fin_succ.2 ⟨congrArg w (em 2 _ 2 rfl), Fin.forall_fin_succ.2 ⟨congrArg w (em 3 _ 3 rfl), fun x => x.elim0⟩⟩⟩⟩

/-- The cotangent of the normed rows in one row block: each chunk's rows mixed by its lane's head. -/
def dvB (p : Vec Ideal S512x768 .f32) (dy : Vec Ideal S512x256 .f32) (w : Vec Ideal S4x128x128 .bf16) (r : Fin 512) (j : Fin 256) : EReal :=
  ∑ s : Fin 128, w (ix3 ⟨j.val / 64, by omega⟩ ⟨r.val % 128, by omega⟩ s) * dmB p dy (ch ⟨r.val / 128, by omega⟩ s) j

theorem dv_apply {sig : RefSig} {κ : Kind} {sp : Space} (v : View sig κ sp S512x256 .f32) (p : Vec Ideal S512x768 .f32) (dy : Vec Ideal S512x256 .f32) (w : Vec Ideal S4x128x128 .bf16) (r : Fin 512) (j : Fin 256) :
    v.readCov (Val := Elt Ideal) [⟨Rect.unit (s := S512x256) ![384, 0] ![128, 256] inb_S512x256_S128x256_384_0, mixP (w0 w) (w1 w) (w2 w) (w3 w) (s3 (pM p dy))⟩,
      ⟨Rect.unit (s := S512x256) ![256, 0] ![128, 256] inb_S512x256_S128x256_256_0, mixP (w0 w) (w1 w) (w2 w) (w3 w) (s2 (pM p dy))⟩,
      ⟨Rect.unit (s := S512x256) ![128, 0] ![128, 256] inb_S512x256_S128x256_128_0, mixP (w0 w) (w1 w) (w2 w) (w3 w) (s1 (pM p dy))⟩,
      ⟨Rect.unit (s := S512x256) ![0, 0] ![128, 256] inb_S512x256_S128x256_0_0, mixP (w0 w) (w1 w) (w2 w) (w3 w) (s0 (pM p dy))⟩]
      (Rect.unit (s := S512x256) ![0, 0] ![512, 256] inb_S512x256_S512x256_0_0).toLoadRect (ix2 r j) = dvB p dy w r j := by
  have pick (f : Vec Ideal S128x256 .f32 → Vec Ideal S128x256 .f32) (a0 a1 a2 a3 : Vec Ideal S128x256 .f32) (q : Fin 4) :
      (![f a0, f a1, f a2, f a3] : Fin 4 → Vec Ideal S128x256 .f32) q = f ((![a0, a1, a2, a3] : Fin 4 → Vec Ideal S128x256 .f32) q) := by
    revert q
    exact Fin.forall_fin_succ.2 ⟨rfl, Fin.forall_fin_succ.2 ⟨rfl, Fin.forall_fin_succ.2 ⟨rfl, Fin.forall_fin_succ.2 ⟨rfl, fun x => x.elim0⟩⟩⟩⟩
  rw [cov, pick (mixP (w0 w) (w1 w) (w2 w) (w3 w)), mix_apply]
  unfold dvB
  refine Finset.sum_congr rfl fun s _ => ?_
  rw [w_apply, sl_apply, dm_apply]

abbrev xnB (p : Vec Ideal S512x768 .f32) (r : Fin 512) (j : Fin 256) : EReal := xn (fun k => gl (p (ix2 r ⟨256 + k.val, by omega⟩))) j

abbrev r0 (z : Vec Ideal S8x256 .f32) : Vec Ideal S1x256 .f32 := View.ld z (Rect.unit (s := S8x256) ![0, 0] ![1, 256] inb_S8x256_S1x256_0_0)
abbrev r1 (z : Vec Ideal S8x256 .f32) : Vec Ideal S1x256 .f32 := View.ld z (Rect.unit (s := S8x256) ![1, 0] ![1, 256] inb_S8x256_S1x256_1_0)

section Fills
variable {sig : RefSig} {κ : Kind} {sp : Space} (v : View sig κ sp S8x256 .f32) (f : v.ty.Contents (Elt Ideal)) (z : Vec Ideal S8x256 .f32) (p0 : Vec Ideal S1x256 .f32)

theorem fill8 (r : Fin 8) (j : Fin 256) : v.read (Elt Ideal) (v.writes (Elt Ideal) f [⟨Rect.unit (s := S8x256) ![0, 0] ![8, 256] inb_S8x256_S8x256_0_0, z⟩]) (ix2 r j) = z (ix2 r j) :=
  View.read_writes_cons_unit_of_mem (s := S8x256) (size := ![8, 256]) (off' := ![0, 0]) v f inb_S8x256_S8x256_0_0 z [] (ix2 r j) (ix2 r j) rfl (Fin.forall_fin_succ.2 ⟨(Nat.zero_add _).symm, Fin.forall_fin_succ.2 ⟨(Nat.zero_add _).symm, fun x => x.elim0⟩⟩)
theorem fill (r : Rect S8x256) : v.readCov (Val := Elt Ideal) [⟨Rect.unit (s := S8x256) ![0, 0] ![8, 256] inb_S8x256_S8x256_0_0, z⟩] r.toLoadRect = View.ld z r :=
  View.readCov_fill v _ z [] r (by decide)
theorem fill0 : v.readCov (Val := Elt Ideal) [⟨Rect.unit (s := S8x256) ![0, 0] ![8, 256] inb_S8x256_S8x256_0_0, z⟩] (Rect.unit (s := S8x256) ![0, 0] ![1, 256] inb_S8x256_S1x256_0_0).toLoadRect = r0 z :=
  fill v z _
theorem fill1 : v.readCov (Val := Elt Ideal) [⟨Rect.unit (s := S8x256) ![0, 0] ![1, 256] inb_S8x256_S1x256_0_0, p0⟩, ⟨Rect.unit (s := S8x256) ![0, 0] ![8, 256] inb_S8x256_S8x256_0_0, z⟩]
    (Rect.unit (s := S8x256) ![1, 0] ![1, 256] inb_S8x256_S1x256_1_0).toLoadRect = r1 z := by
  rw [View.readCov_skip (Val := Elt Ideal) v (Rect.unit (s := S8x256) ![0, 0] ![1, 256] inb_S8x256_S1x256_0_0) p0 _ _ (by decide +kernel)]
  exact fill v z _
end Fills

/-- What one row block adds to the norm's gradients. -/
def gvT (t : Fin cfg0.N) (r : Fin 8) (j : Fin 256) : EReal :=
  if r.val = 0 then ∑ s : Fin 512, dvB (bp m c t) (bd m c t) (bt m c t) s j * xnB (bp m c t) s j
  else if r.val = 1 then ∑ s : Fin 512, dvB (bp m c t) (bd m c t) (bt m c t) s j else 0

theorem r0_apply (z : Vec Ideal S8x256 .f32) (j : Fin 256) : r0 z (ix2 0 j) = z (ix2 0 j) :=
  congrArg z (Lift.eq_ix2_of rfl (show 0 + 1 * j.val = j.val by omega))
theorem r1_apply (z : Vec Ideal S8x256 .f32) (j : Fin 256) : r1 z (ix2 0 j) = z (ix2 1 j) :=
  congrArg z (Lift.eq_ix2_of rfl (show 0 + 1 * j.val = j.val by omega))

theorem gv_step {sig : RefSig} {κ : Kind} {sp : Space} (v : View sig κ sp S512x256 .f32) (old : Vec Ideal S8x256 .f32) (t : Fin cfg0.N) (q0 q1 q2 q3 : Vec Ideal S128x256 .f32)
    (h3 : q3 = mixP (w0 (bt m c t)) (w1 (bt m c t)) (w2 (bt m c t)) (w3 (bt m c t)) (s3 (pM (bp m c t) (bd m c t))))
    (h2 : q2 = mixP (w0 (bt m c t)) (w1 (bt m c t)) (w2 (bt m c t)) (w3 (bt m c t)) (s2 (pM (bp m c t) (bd m c t))))
    (h1 : q1 = mixP (w0 (bt m c t)) (w1 (bt m c t)) (w2 (bt m c t)) (w3 (bt m c t)) (s1 (pM (bp m c t) (bd m c t))))
    (h0 : q0 = mixP (w0 (bt m c t)) (w1 (bt m c t)) (w2 (bt m c t)) (w3 (bt m c t)) (s0 (pM (bp m c t) (bd m c t))))
    (r : Fin 8) (j : Fin 256) :
    (if r.val = 0 then gP (k0_pay11 (bp m c t)) (v.readCov (Val := Elt Ideal) [⟨Rect.unit (s := S512x256) ![384, 0] ![128, 256] inb_S512x256_S128x256_384_0, q3⟩,
      ⟨Rect.unit (s := S512x256) ![256, 0] ![128, 256] inb_S512x256_S128x256_256_0, q2⟩, ⟨Rect.unit (s := S512x256) ![128, 0] ![128, 256] inb_S512x256_S128x256_128_0, q1⟩,
      ⟨Rect.unit (s := S512x256) ![0, 0] ![128, 256] inb_S512x256_S128x256_0_0, q0⟩] (Rect.unit (s := S512x256) ![0, 0] ![512, 256] inb_S512x256_S512x256_0_0).toLoadRect) (r0 old) (ix2 0 j)
      else if r.val = 1 then bP (v.readCov (Val := Elt Ideal) [⟨Rect.unit (s := S512x256) ![384, 0] ![128, 256] inb_S512x256_S128x256_384_0, q3⟩,
      ⟨Rect.unit (s := S512x256) ![256, 0] ![128, 256] inb_S512x256_S128x256_256_0, q2⟩, ⟨Rect.unit (s := S512x256) ![128, 0] ![128, 256] inb_S512x256_S128x256_128_0, q1⟩,
      ⟨Rect.unit (s := S512x256) ![0, 0] ![128, 256] inb_S512x256_S128x256_0_0, q0⟩] (Rect.unit (s := S512x256) ![0, 0] ![512, 256] inb_S512x256_S512x256_0_0).toLoadRect) (r1 old) (ix2 0 j)
      else old (ix2 r j)) = old (ix2 r j) + gvT m c t r j := by
  subst h0 h1 h2 h3
  have hD := dv_apply v (bp m c t) (bd m c t) (bt m c t)
  unfold gvT
  by_cases h0 : r.val = 0
  · obtain rfl : r = 0 := Fin.ext h0
    rw [if_pos h0, if_pos h0, g_apply, r0_apply]
    exact congrArg (_ + ·) (Finset.sum_congr rfl fun s _ => by rw [hD, xn_apply])
  by_cases h1 : r.val = 1
  · obtain rfl : r = 1 := Fin.ext h1
    rw [if_neg h0, if_neg h0, if_pos h1, if_pos h1, b_apply, r1_apply]
    exact congrArg (_ + ·) (Finset.sum_congr rfl fun s _ => by rw [hD])
  rw [if_neg h0, if_neg h0, if_neg h1, if_neg h1]
  exact (add_zero _).symm

theorem outs_gv1 (t : Fin cfg0.N) (h : ¬ t.val % 16 = 0) (r : Fin 8) (j : Fin 256) :
    ((outsAt0 m c t.val t.isLt).2.2.2 : Vec Ideal S8x256 .f32) (ix2 r j)
      = ((outsAt0 m c (t.val - 1) (by have := t.isLt; omega)).2.2.2 : Vec Ideal S8x256 .f32) (ix2 r j) + gvT m c t r j := by
  rw [outsAt0_B m c t h]
  dsimp only
  unfold out0_B_10
  unfold kernelRun0_B
  dsimp only
  sl_unfold_words
  try dsimp only
  simp only [View.readAt_eq_ld, Memref.IsWhole.read_unread, View.ld_unit_zero (S := S512x768) hz, View.ld_unit_zero (S := S512x256) hz, View.ld_unit_zero (S := S1x256) hz, View.ld_unit_zero (S := S128x256) hz, shapeCast_self]
  refine (two_rows _ _ _ _ _ r j).trans ?_
  rw [View.writes_nil, Memref.IsWhole.read_unread]
  unfold k0_pay94 k0_pay95
  simp only [shapeCast_self]
  refine gv_step m c _ _ t _ _ _ _ ?_ ?_ ?_ ?_ r j
  all_goals
    unfold mixP pM
    generalize k0_pay35 (F := Ideal) _ _ _ _ _ = D
    unfold_payloads
    simp only [shapeCast_self]
    try rfl

theorem outs_gv0 (t : Fin cfg0.N) (h : t.val % 16 = 0) (r : Fin 8) (j : Fin 256) :
    ((outsAt0 m c t.val t.isLt).2.2.2 : Vec Ideal S8x256 .f32) (ix2 r j) = gvT m c t r j := by
  have hz0 : (k0_pay4 (F := Ideal)) (ix2 r j) = (0 : EReal) := by
    unfold_payloads
    pointwise
  refine Eq.trans ?_ ((congrArg (· + gvT m c t r j) hz0).trans (zero_add _))
  rw [outsAt0_A m c t h]
  dsimp only
  unfold out0_A_10
  unfold kernelRun0_A
  dsimp only
  sl_unfold_words
  try dsimp only
  simp only [View.readAt_eq_ld, Memref.IsWhole.read_unread, View.ld_unit_zero (S := S512x768) hz, View.ld_unit_zero (S := S512x256) hz, View.ld_unit_zero (S := S1x256) hz, View.ld_unit_zero (S := S128x256) hz, shapeCast_self]
  refine (two_rows _ _ _ _ _ r j).trans ?_
  rw [fill8, fill0, fill1]
  refine gv_step m c _ _ t _ _ _ _ ?_ ?_ ?_ ?_ r j
  all_goals
    unfold mixP pM
    generalize k0_pay35 (F := Ideal) _ _ _ _ _ = D
    unfold_payloads
    simp only [shapeCast_self]
    try rfl

/-! ## Sums over the grid -/

theorem outs_ms (r : Fin 128) (j : Fin 256) : ∀ (n : ℕ) (h : n < cfg0.N), ((outsAt0 m c n h).2.2.1 : Vec Ideal S128x256 .f32) (ix2 r j)
      = ∑ s : Fin (n + 1), msT m c ⟨s.val, by omega⟩ r j
  | 0, h => by rw [outs_ms0 m c ⟨0, h⟩ rfl]; simp
  | n + 1, h => by
    have hN : cfg0.N = 16 := N_0
    rw [outs_ms1 m c ⟨n + 1, h⟩ (by dsimp only; omega), Fin.sum_univ_castSucc]
    exact congrArg₂ (· + ·) (outs_ms r j n (by omega)) rfl

theorem outs_gv (r : Fin 8) (j : Fin 256) : ∀ (n : ℕ) (h : n < cfg0.N), ((outsAt0 m c n h).2.2.2 : Vec Ideal S8x256 .f32) (ix2 r j)
      = ∑ s : Fin (n + 1), gvT m c ⟨s.val, by omega⟩ r j
  | 0, h => by rw [outs_gv0 m c ⟨0, h⟩ rfl]; simp
  | n + 1, h => by
    have hN : cfg0.N = 16 := N_0
    rw [outs_gv1 m c ⟨n + 1, h⟩ (by dsimp only; omega), Fin.sum_univ_castSucc]
    exact congrArg₂ (· + ·) (outs_gv r j n (by omega)) rfl

/-! ## The blocks in their arrays -/

/-- Row `r` of the row block of grid point `t`. -/
def row (t : Fin cfg0.N) (r : Fin 512) : Fin 8192 := ⟨t.val * 512 + r.val, by have := t.isLt; have : cfg0.N = 16 := N_0; have := r.isLt; omega⟩

theorem index_row : ∀ t : Fin cfg0.N, (win0_0.index t 0 = t.val ∧ win0_0.index t 1 = 3)
   ∧ (win0_1.index t 0 = t.val ∧ win0_1.index t 1 = 0)
   ∧ (win0_5.index t 0 = 0 ∧ win0_5.index t 1 = 0 ∧ win0_5.index t 2 = 0)
   ∧ (win0_9.index t 0 = 0 ∧ win0_9.index t 1 = 0)
   ∧ (win0_10.index t 0 = 0 ∧ win0_10.index t 1 = 0) := by decide +kernel

/-- The arguments. -/
abbrev aP : Vec Ideal S8192x3104 .f32 := m (c.tc.loc main_arg0)
abbrev aW : Vec Ideal S4x128x128 .f32 := m (c.tc.loc main_arg3)
abbrev aD : Vec Ideal S8192x256 .f32 := m (c.tc.loc main_arg5)

/-- The lower triangle of the mixing weight. -/
def mk (w : Vec Ideal S4x128x128 .f32) (g : Fin 4) (t s : Fin 128) : EReal :=
  Scalar.select (Scalar.select (IntOp.cmpi .sge (IntOp.addi (BitVec.ofNat 32 t.val) 0#32) (BitVec.ofNat 32 s.val)) 1#1 0#1) (w (ix3 g t s)) (Ideal.ofBits .f32 0x00000000#32)

theorem V_p (r : Fin 8192) (k : Fin 3200) : (V m c main_v10 : Vec Ideal S8192x3200 .f32) (ix2 r k)
    = if h : k.val < 1536 then aP m c (ix2 r ⟨k.val, by omega⟩)
      else if h : k.val - 1536 < 512 then aP m c (ix2 r ⟨1824 + (k.val - 1536), by omega⟩)
      else if h : k.val - 1536 - 512 < 256 then aP m c (ix2 r ⟨1536 + (k.val - 1536 - 512), by omega⟩)
      else if h : k.val - 1536 - 512 - 256 < 768 then aP m c (ix2 r ⟨2336 + (k.val - 1536 - 512 - 256), by omega⟩)
      else if h : k.val - 1536 - 512 - 256 - 768 < 32 then aP m c (ix2 r ⟨1792 + (k.val - 1536 - 512 - 256 - 768), by omega⟩)
      else 0 := by
  dsimp only [V, hostOps0, hostOps0_1]
  simp only [List.flatten_cons, List.flatten_nil, List.append_nil, List.cons_append, List.nil_append]
  after_results_simp
  pointwise
  after_results_simp
  pointwise

theorem V_t (g : Fin 4) (a b : Fin 128) : (V m c main_v15 : Vec Ideal S4x128x128 .bf16) (ix3 g a b) = mk (aW m c) g b a := by
  dsimp only [V, hostOps0, hostOps0_1]
  simp only [List.flatten_cons, List.flatten_nil, List.append_nil, List.cons_append, List.nil_append]
  after_results_simp
  try simp only [TRef.toBuf, TRef.ofBuf, cast_eq]
  pointwise
  rfl

/-! ## The windows' blocks, read -/

theorem win_0 (t : Fin cfg0.N) (r : Fin 512) (j : Fin 768) : bp m c t (ix2 r j) = aP m c (ix2 (row t r) ⟨2336 + j.val, by omega⟩) := by
  have h0 : bp m c t (ix2 r j) = V m c main_v10 (ix2 (row t r) ⟨2304 + j.val, by omega⟩) := by
    unfold bp X0_0 Pipeline.Window.fill
    rw [dif_pos (moved0_0 t _)]
    unfold iblk
    rw [View.read_apply]
    refine congrArg (V m c main_v10) (Lift.eq_ix2_of (?_ : win0_0.index t 0 * 512 + 1 * r.val = t.val * 512 + r.val)
      (?_ : win0_0.index t 1 * 768 + 1 * j.val = 2304 + j.val)) <;> simp [index_row t]
  rw [h0, V_p, dif_neg (by dsimp only; omega), dif_neg (by dsimp only; omega), dif_neg (by dsimp only; omega), dif_pos (by dsimp only; omega)]
  exact congrArg (fun q => aP m c (ix2 (row t r) q)) (Fin.ext (by simp only; omega))

theorem win_1 (t : Fin cfg0.N) (r : Fin 512) (j : Fin 256) : bd m c t (ix2 r j) = aD m c (ix2 (row t r) j) := by
  have h0 : bd m c t (ix2 r j) = V m c main_arg5 (ix2 (row t r) j) := by
    unfold bd iblk
    rw [View.read_apply]
    refine congrArg (V m c main_arg5) (Lift.eq_ix2_of (i := ((cfg0.win 1).blk t).view.emb (ix2 r j)) (?_ : win0_1.index t 0 * 512 + 1 * r.val = t.val * 512 + r.val)
      (?_ : win0_1.index t 1 * 256 + 1 * j.val = j.val)) <;> simp [index_row t]
  exact h0.trans (congrFun (V_main_arg5 m c) _)

theorem win_5 (t : Fin cfg0.N) (g : Fin 4) (a b : Fin 128) : bt m c t (ix3 g a b) = mk (aW m c) g b a := by
  have e : ((cfg0.win 5).blk t).view.emb (ix3 g a b) = ix3 g a b := by
    funext x
    apply Fin.ext
    revert x
    refine Fin.forall_fin_succ.2 ⟨?_, Fin.forall_fin_succ.2 ⟨?_, Fin.forall_fin_succ.2 ⟨?_, fun x => x.elim0⟩⟩⟩
    · show win0_5.index t 0 * 4 + 1 * g.val = g.val; simp [index_row t]
    · show win0_5.index t 1 * 128 + 1 * a.val = a.val; simp [index_row t]
    · show win0_5.index t 2 * 128 + 1 * b.val = b.val; simp [index_row t]
  have h0 : bt m c t (ix3 g a b) = V m c main_v15 (ix3 g a b) := by
    unfold bt iblk
    rw [View.read_apply]
    exact congrArg (V m c main_v15) e
  exact h0.trans (V_t m c g a b)

/-! ## The results -/

section Results
variable (p : Vec Ideal S8192x3104 .f32) (w : Vec Ideal S4x128x128 .f32) (d : Vec Ideal S8192x256 .f32)

/-- The cotangent of the mixed rows. -/
def dmR (r : Fin 8192) (j : Fin 256) : EReal :=
  d (ix2 r j) * gl (p (ix2 r ⟨2336 + j.val, by omega⟩)) * (p (ix2 r ⟨2848 + j.val, by omega⟩) * sg (p (ix2 r ⟨2848 + j.val, by omega⟩)))
/-- Row `r` of chunk `q`. -/
def cr (q : Fin 64) (r : Fin 128) : Fin 8192 := ⟨q.val * 128 + r.val, by omega⟩
/-- The gradient of the per-position gain, one lane each. -/
def msR (r : Fin 128) (j : Fin 256) : EReal := ∑ q : Fin 64, dmR p d (cr q r) j
/-- The cotangent of the normed rows. -/
def dvR (r : Fin 8192) (j : Fin 256) : EReal :=
  ∑ s : Fin 128, mk w ⟨j.val / 64, by omega⟩ s ⟨r.val % 128, by omega⟩ * dmR p d (cr ⟨r.val / 128, by omega⟩ s) j
/-- The normed rows before their gain. -/
def xnR (r : Fin 8192) (j : Fin 256) : EReal := xn (fun k => gl (p (ix2 r ⟨2592 + k.val, by omega⟩))) j
/-- The gradients of the norm's gain and shift. -/
def gvR (r : Fin 8) (j : Fin 256) : EReal :=
  if r.val = 0 then ∑ s, dvR p w d s j * xnR p s j else if r.val = 1 then ∑ s, dvR p w d s j else 0
end Results

theorem dm_eq (t : Fin cfg0.N) (r : Fin 512) (j : Fin 256) : dmB (bp m c t) (bd m c t) r j = dmR (aP m c) (aD m c) (row t r) j := by
  have e (j : Fin 256) : (⟨2336 + (512 + j.val), by omega⟩ : Fin 3104) = ⟨2848 + j.val, by omega⟩ := Fin.ext (by simp only; omega)
  unfold dmB dmR
  simp only [win_0, win_1, e]

theorem xn_eq (t : Fin cfg0.N) (r : Fin 512) (j : Fin 256) : xnB (bp m c t) r j = xnR (aP m c) (row t r) j := by
  have e (j : Fin 256) : (⟨2336 + (256 + j.val), by omega⟩ : Fin 3104) = ⟨2592 + j.val, by omega⟩ := Fin.ext (by simp only; omega)
  unfold xnB xnR
  simp only [win_0, e]

theorem dv_eq (t : Fin cfg0.N) (r : Fin 512) (j : Fin 256) : dvB (bp m c t) (bd m c t) (bt m c t) r j = dvR (aP m c) (aW m c) (aD m c) (row t r) j := by
  unfold dvB dvR
  refine Finset.sum_congr rfl fun s _ => ?_
  have e1 : (⟨r.val % 128, by omega⟩ : Fin 128) = ⟨(row t r).val % 128, by omega⟩ := Fin.ext (by unfold row; dsimp only; omega)
  have e2 : row t (ch ⟨r.val / 128, by omega⟩ s) = cr ⟨(row t r).val / 128, by have := (row t r).isLt; omega⟩ s := Fin.ext (by unfold row ch cr; dsimp only; omega)
  rw [dm_eq, win_5, e1, e2]

theorem ms_sum (r : Fin 128) (j : Fin 256) : ∑ s : Fin 16, msT m c ⟨s.val, by have : cfg0.N = 16 := N_0; omega⟩ r j = msR (aP m c) (aD m c) r j := by
  unfold msR
  rw [Fin.sum_univ_tiles 16 4 rfl]
  simp only [msT, dm_eq]
  exact Finset.sum_congr rfl fun s _ => Finset.sum_congr rfl fun q _ => congrArg (dmR _ _ · j) (Fin.ext (by unfold row ch cr; dsimp only; omega))

theorem gv_sum (r : Fin 8) (j : Fin 256) : ∑ s : Fin 16, gvT m c ⟨s.val, by have : cfg0.N = 16 := N_0; omega⟩ r j = gvR (aP m c) (aW m c) (aD m c) r j := by
  unfold gvT gvR
  simp only [dv_eq, xn_eq]
  by_cases h0 : r.val = 0
  · simp only [if_pos h0]
    rw [Fin.sum_univ_tiles 16 512 rfl]
    exact Finset.sum_congr rfl fun s _ => Finset.sum_congr rfl fun r _ => rfl
  by_cases h1 : r.val = 1
  · simp only [if_neg h0, if_pos h1]
    rw [Fin.sum_univ_tiles 16 512 rfl]
    exact Finset.sum_congr rfl fun s _ => Finset.sum_congr rfl fun r _ => rfl
  simp only [if_neg h0, if_neg h1]
  exact Finset.sum_const_zero

theorem ms_last (r : Fin 128) (j : Fin 256) (n : ℕ) (h : n < cfg0.N) (hn : n = 15) :
    ((outsAt0 m c n h).2.2.1 : Vec Ideal S128x256 .f32) (ix2 r j) = msR (aP m c) (aD m c) r j := by
  have hg (N : ℕ) (hN : N = n + 1) : ((outsAt0 m c n h).2.2.1 : Vec Ideal S128x256 .f32) (ix2 r j)
      = ∑ s : Fin N, msT m c ⟨s.val, by omega⟩ r j := by
    subst hN
    exact outs_ms m c r j n h
  have h1 := hg 16 (by omega)
  have h2 := ms_sum m c r j
  rw [h1]
  exact h2

theorem gv_last (r : Fin 8) (j : Fin 256) (n : ℕ) (h : n < cfg0.N) (hn : n = 15) :
    ((outsAt0 m c n h).2.2.2 : Vec Ideal S8x256 .f32) (ix2 r j) = gvR (aP m c) (aW m c) (aD m c) r j := by
  have hg (N : ℕ) (hN : N = n + 1) : ((outsAt0 m c n h).2.2.2 : Vec Ideal S8x256 .f32) (ix2 r j) = ∑ s : Fin N, gvT m c ⟨s.val, by omega⟩ r j := by
    subst hN
    exact outs_gv m c r j n h
  have h1 := hg 16 (by omega)
  have h2 := gv_sum m c r j
  rw [h1]
  exact h2

theorem ms_eq : (dats m 0 c).arrAt 9 cfg0.N = fun i => msR (aP m c) (aD m c) (i 0) (i 1) := by
  have he (t : Fin cfg0.N) (k : Fin 128) (e : Fin 256) : ((cfg0.win 9).blk t).view.emb (ix2 k e) = ix2 k e :=
    Lift.eq_ix2_of (show win0_9.index t 0 * 128 + 1 * k.val = k.val by simp [index_row t])
      (show win0_9.index t 1 * 256 + 1 * e.val = e.val by simp [index_row t])
  have hN : cfg0.N = 16 := N_0
  refine (dats m 0 c).arrAt_eq_of_cover 9 _ (fun t hf => ?_) fun i => ?_
  · have ht : t.val = 15 := by have := (flush0_9 t).mp hf; have := t.isLt; omega
    rw [Value.flushed9]
    funext y
    obtain ⟨k, e, rfl⟩ : ∃ (k : Fin 128) (e : Fin 256), y = ix2 k e := ⟨y 0, y 1, eq_ix2 y⟩
    rw [View.read_apply, he]
    refine (ms_last m c k e t.val t.isLt ht).trans ?_
    generalize msR (aP m c) (aD m c) = f
    rfl
  · obtain ⟨k, e, rfl⟩ : ∃ (k : Fin 128) (e : Fin 256), i = ix2 k e := ⟨i 0, i 1, eq_ix2 i⟩
    have h15 : 15 < cfg0.N := by omega
    exact ⟨⟨15, h15⟩, (flush0_9 _).mpr rfl, by rw [← he ⟨15, h15⟩ k e]; exact Finset.mem_map_of_mem _ (Finset.mem_univ _)⟩

theorem gv_eq : (dats m 0 c).arrAt 10 cfg0.N = fun i => gvR (aP m c) (aW m c) (aD m c) (i 0) (i 1) := by
  have he (t : Fin cfg0.N) (k : Fin 8) (e : Fin 256) : ((cfg0.win 10).blk t).view.emb (ix2 k e) = ix2 k e :=
    Lift.eq_ix2_of (show win0_10.index t 0 * 8 + 1 * k.val = k.val by simp [index_row t])
      (show win0_10.index t 1 * 256 + 1 * e.val = e.val by simp [index_row t])
  have hN : cfg0.N = 16 := N_0
  refine (dats m 0 c).arrAt_eq_of_cover 10 _ (fun t hf => ?_) fun i => ?_
  · have ht : t.val = 15 := by have := (flush0_10 t).mp hf; have := t.isLt; omega
    rw [Value.flushed10]
    funext y
    obtain ⟨k, e, rfl⟩ : ∃ (k : Fin 8) (e : Fin 256), y = ix2 k e := ⟨y 0, y 1, eq_ix2 y⟩
    rw [View.read_apply, he]
    refine (gv_last m c k e t.val t.isLt ht).trans ?_
    generalize gvR (aP m c) (aW m c) (aD m c) = f
    rfl
  · obtain ⟨k, e, rfl⟩ : ∃ (k : Fin 8) (e : Fin 256), i = ix2 k e := ⟨i 0, i 1, eq_ix2 i⟩
    have h15 : 15 < cfg0.N := by omega
    exact ⟨⟨15, h15⟩, (flush0_10 _).mpr rfl, by rw [← he ⟨15, h15⟩ k e]; exact Finset.mem_map_of_mem _ (Finset.mem_univ _)⟩

end Cert.SguBwdIdeal.Val
-- ==== Proof.SguRef.lean ====
/-
  The reference of the spatial gating unit's backward call: the gradients of its gain and of its norm's gain and shift, and that they are the call's.
-/
module
public import proofs.«01_k».proof.Proof.Gen.SguRefIdeal.Read
public import proofs.«01_k».proof.Proof.SguKernel
@[expose] public section
set_option maxRecDepth 16384
set_option maxHeartbeats 1000000
noncomputable section
namespace Cert.SguRefIdeal.Val
open Idealize.ShloMosaic Idealize.SL.Sem Cert.SguRefIdeal Cert.SguRefIdeal.Gen Cert.SguRefIdeal.Read
open Cert.Lift Cert.Rows
open Cert.SguBwdIdeal.Val (gl xc xn mk dmR cr msR dvR xnR gvR)

variable (p : Vec Ideal S8192x3104 .f32) (w : Vec Ideal S4x128x128 .f32) (d : Vec Ideal S8192x256 .f32)

/-- The gelu as the reference multiplies it out. -/
theorem gl_eq (x : EReal) : x * (Ideal.ofBits .f32 0x3F000000#32 * (1 + Ideal.tanh (Ideal.ofBits .f32 0x3F4C422A#32 * (x + Ideal.ofBits .f32 0x3D372713#32 * (x * x * x))))) = gl x := by
  unfold gl
  rw [word_one, ← mul_assoc, mul_comm x (Ideal.ofBits .f32 0x3F000000#32), ← mul_assoc, ← mul_assoc]

theorem gu_ref (r : Fin 8192) (j : Fin 256) : val_main_v24 p (ix2 r j) = gl (p (ix2 r ⟨2336 + j.val, by omega⟩)) := by
  rw [← gl_eq]
  simp only [val_main_v24, val_main_v0, val_main_v23, val_main_v22, val_main_v21, val_main_cst_3, val_main_v20, val_main_v19, val_main_cst_2, val_main_v18, val_main_v17, val_main_v16, val_main_cst_1, val_main_v15, val_main_v14, val_main_v13, val_main_cst_0, val_main_v12]
  pointwise

theorem gv_ref (r : Fin 8192) (j : Fin 256) : val_main_v37 p (ix2 r j) = gl (p (ix2 r ⟨2592 + j.val, by omega⟩)) := by
  rw [← gl_eq]
  simp only [val_main_v37, val_main_v1, val_main_v36, val_main_v35, val_main_v34, val_main_cst_7, val_main_v33, val_main_v32, val_main_cst_6, val_main_v31, val_main_v30, val_main_v29, val_main_cst_5, val_main_v28, val_main_v27, val_main_v26, val_main_cst_4, val_main_v25]
  pointwise

theorem sz_ref (r : Fin 8192) (j : Fin 256) : val_main_v11 p (ix2 r j) = p (ix2 r ⟨2848 + j.val, by omega⟩) * sg (p (ix2 r ⟨2848 + j.val, by omega⟩)) := by
  simp only [val_main_v11, val_main_v2, val_main_call2_v5, val_main_call2_v4, val_main_call2_v3, val_main_call2_cst_0, val_main_call2_v2, val_main_call2_v1, val_main_call2_cst, val_main_call2_v0]
  pointwise
  rw [logi]

theorem dm_ref (r : Fin 8192) (j : Fin 256) : val_main_v72 p d (ix2 r j) = dmR p d r j := by
  simp only [val_main_v72, val_main_v71]
  pointwise
  rw [gu_ref, sz_ref]
  unfold dmR
  rw [mul_comm, mul_assoc, mul_comm _ (gl _), ← mul_assoc]

theorem mk_ref (g : Fin 4) (a b : Fin 128) : val_main_v7 w (ix3 g a b) = mk w g a b := by
  simp only [val_main_v7, val_main_call1_v0, val_main_v6, val_main_v5, val_main_cst, val_main_v4, val_main_call0_v4, val_main_v3, val_main_call0_v5, val_main_call0_v2, val_main_call0_v3, val_main_c, val_main_call0_c_0, val_main_call0_v0, val_main_call0_v1, val_main_call0_c]
  pointwise
  unfold mk
  rw [word_zero]

theorem xc_ref (r : Fin 8192) (j : Fin 256) : val_main_v43 p (ix2 r j) = xc (fun k => gl (p (ix2 r ⟨2592 + k.val, by omega⟩))) j := by
  have h := gv_ref p
  simp only [val_main_v43, val_main_v42, val_main_v41, val_main_v39, val_main_v40, val_main_v38, val_main_cst_9, val_main_cst_8]
  pointwise
  simp only [h]
  unfold xc
  rw [word_c256, word_256, Ideal.div_coe (by norm_num), one_div]

theorem xn_ref (r : Fin 8192) (j : Fin 256) : val_main_v55 p (ix2 r j) = xnR p r j := by
  have h := xc_ref p
  have e : val_main_v50 p = val_main_v43 p := rfl
  simp only [val_main_v55, val_main_v54, val_main_v53, val_main_v52, val_main_v48, val_main_v51, val_main_v46, val_main_v47, val_main_cst_12, val_main_v45, val_main_cst_11, val_main_v44, val_main_cst_10]
  pointwise
  simp only [e, h]
  unfold xnR xn
  rw [word_c256, word_256, Ideal.div_coe (by norm_num), one_div]

theorem ms_ref (r : Fin 128) (j : Fin 256) : val_main_v88 p d (ix2 r j) = msR p d r j := by
  have h := dm_ref p d
  simp only [val_main_v88, val_main_v76, val_main_v75, val_main_cst_14, val_main_v74, val_main_v73, val_main_cst_13]
  generalize val_main_v72 p d = D at h
  pointwise
  simp only [Fin.sum_univ_one]
  refine Finset.sum_congr rfl fun q _ => (h _ _).trans ?_
  exact congrArg (fun k => dmR p d k j) (Fin.ext (by simp [cr]))

theorem dv_ref (r : Fin 8192) (j : Fin 256) : val_main_v80 p w d (ix2 r j) = dvR p w d r j := by
  have h := dm_ref p d
  have hm := mk_ref w
  simp only [val_main_v80, val_main_v79, val_main_v78, val_main_v77, val_main_v73]
  generalize val_main_v72 p d = D at h
  generalize val_main_v7 w = W at hm
  pointwise
  unfold dvR
  refine Finset.sum_congr rfl fun x _ => ?_
  rw [h, hm, mul_comm]
  exact congrArg (fun k => mk w _ x _ * dmR p d k j) (Fin.ext (by simp [cr]))

theorem g_ref (j : Fin 256) : val_main_v89 p w d (ix2 (0 : Fin 1) j) = ∑ s, dvR p w d s j * xnR p s j := by
  have h := dv_ref p w d
  have hx := xn_ref p
  simp only [val_main_v89, val_main_v87, val_main_v86, val_main_cst_18, val_main_v85, val_main_v84, val_main_cst_17]
  generalize val_main_v80 p w d = D at h
  generalize val_main_v55 p = X at hx
  pointwise
  simp only [Fin.sum_univ_one]
  refine Finset.sum_congr rfl fun s _ => ?_
  rw [h, hx, mul_comm]

theorem b_ref (j : Fin 256) : val_main_v90 p w d (ix2 (0 : Fin 1) j) = ∑ s, dvR p w d s j := by
  have h := dv_ref p w d
  simp only [val_main_v90, val_main_v83, val_main_v82, val_main_cst_16, val_main_v81, val_main_cst_15]
  generalize val_main_v80 p w d = D at h
  pointwise
  simp only [Fin.sum_univ_one]
  exact Finset.sum_congr rfl fun s _ => h s j

theorem z_ref (r : Fin 6) (j : Fin 256) : val_main_v91 (F := Ideal) (ix2 r j) = 0 := by
  simp only [val_main_v91, val_main_cst_19]
  pointwise

theorem gs_ref (r : Fin 8) (j : Fin 256) : val_main_v92 p w d (ix2 r j) = gvR p w d r j := by
  unfold gvR
  rw [← g_ref, ← b_ref]
  have hz := z_ref
  simp only [val_main_v92]
  generalize val_main_v89 p w d = A
  generalize val_main_v90 p w d = B
  generalize val_main_v91 (F := Ideal) = Z at hz
  pointwise
  fin_cases r
  · rfl
  · rfl
  · exact hz 0 j
  · exact hz 1 j
  · exact hz 2 j
  · exact hz 3 j
  · exact hz 4 j
  · exact hz 5 j

end Cert.SguRefIdeal.Val
-- ==== Proof.SguClaim.lean ====
/-
  The claims of the spatial gating unit's backward call.
-/
module
public import proofs.«01_k».proof.Defs
public import proofs.«01_k».proof.Proof.Gen.SguBwd.Frame
public import proofs.«01_k».proof.Proof.SguRef
public import Idealize.ShloMosaic.Lib.Claim
@[expose] public section
noncomputable section
namespace Cert.SguClaim
open Idealize.ShloMosaic Idealize.SL.Sem
open Cert.SguBwdIdeal.Val Cert.Lift

theorem frame_kernel : Cert.quiescent_SguBwd := fun m ρ _ => Cert.SguBwd.Gen.frame m ρ
theorem frame_ideal : Cert.quiescent_SguBwdIdeal := fun m ρ _ => Cert.SguBwdIdeal.Gen.frame m ρ

/-- The reference's run leaves its arguments and its counters. -/
theorem frame_ref : Cert.quiescent_SguRefIdeal := fun m ρ _ =>
  (θ_run Cert.SguRefIdeal.defs _ _).mono (fun r h => ⟨fun c => (h c).2.2, sem_eq_zero_of_no_sems (by decide) r.2⟩)
    (Cert.SguRefIdeal.Value.run m ρ)

set_option maxHeartbeats 4000000 in
/-- Two of the call's results, the gradient of the spatial bias spread over lanes and the gradients of the norm's gain and shift, are the reference's, at any arguments. -/
theorem value : Cert.algebraic_SguBwdIdeal_SguRefIdeal := by
  intro m g m' g' _ hargs
  refine ⟨fun c => (Cert.SguBwdIdeal.Gen.dats m 0 c).arrAt 9 Cert.SguBwdIdeal.cfg0.N,
    fun c => (Cert.SguBwdIdeal.Gen.dats m 0 c).arrAt 10 Cert.SguBwdIdeal.cfg0.N,
    (θ_run Cert.SguBwdIdeal.defs _ _).mono (fun r h c => (h c).2.2) (Cert.SguBwdIdeal.Value.run_blocks m g),
    (θ_run Cert.SguRefIdeal.defs _ _).mono (fun r h c => ?_) (Cert.SguRefIdeal.Value.run m' g')⟩
  obtain ⟨h0, h1, hk⟩ := h c
  obtain ⟨a0, a1, a2, a3, a4, a5⟩ := hargs c
  refine ⟨(h0.trans (Cert.SguRefIdeal.Read.val_main_v88_eq _ _)).trans ?_,
    (h1.trans (Cert.SguRefIdeal.Read.val_main_v92_eq _ _)).trans ?_, hk⟩
  · rw [a0, a5]
    refine Eq.trans ?_ (ms_eq m c).symm
    funext i
    obtain ⟨r, j, rfl⟩ : ∃ r j, i = ValueIdx.ix2 r j := ⟨i 0, i 1, ValueIdx.eq_ix2 i⟩
    exact Cert.SguRefIdeal.Val.ms_ref _ _ r j
  · rw [a0, a3, a5]
    refine Eq.trans ?_ (gv_eq m c).symm
    funext i
    obtain ⟨r, j, rfl⟩ : ∃ r j, i = ValueIdx.ix2 r j := ⟨i 0, i 1, ValueIdx.eq_ix2 i⟩
    exact Cert.SguRefIdeal.Val.gs_ref _ _ _ r j

end Cert.SguClaim
-- ==== Proof.AttnTrip.lean ====
/-
  The counted loop of the attention backward: where a trip reads and writes, one trip, the state after any number of trips.
-/
module
public import proofs.«01_k».proof.Defs
public import proofs.«01_k».proof.Proof.Gen.AttnBwdIdeal.Launch
public import proofs.«01_k».proof.Proof.Gen.AttnBwdIdeal.Points
public import proofs.«01_k».proof.Proof.Gen.AttnBwdIdeal.Skeleton
public import proofs.«01_k».proof.Proof.Gen.AttnBwdIdeal.Loops
public import proofs.«01_k».proof.Proof.Gen.AttnBwdIdeal.Frame
public import Idealize.ShloMosaic.Lib.Ring
public import Idealize.ShloMosaic.Lib.Tactic
@[expose] public section

set_option maxRecDepth 16384

noncomputable section

namespace Cert.AttnRun

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off4_1 : ∀ (i : grid0.Coords) (k : Fin (k0_t1_loop i).trips), k0_off4 i k 1#32 = ![((i 1).val + 1 + 2 * k.val) * 512, 0] := by decide +kernel
instance (i : grid0.Coords) (k : Fin (k0_t1_loop i).trips) : ClosedOff (k0_off4 i k 1#32) := ⟨_, off4_1 i k⟩
theorem off4_2 : ∀ (i : grid0.Coords) (k : Fin (k0_t1_loop i).trips), k0_off4 i k 2#32 = ![((i 1).val + 2 + 2 * k.val) * 512, 0] := by decide +kernel
instance (i : grid0.Coords) (k : Fin (k0_t1_loop i).trips) : ClosedOff (k0_off4 i k 2#32) := ⟨_, off4_2 i k⟩
theorem off5_1 : ∀ (i : grid0.Coords) (k : Fin (k0_t1_loop i).trips), k0_off5 i k 1#32 = ![((i 1).val + 1 + 2 * k.val) * 512, 0] := by decide +kernel
instance (i : grid0.Coords) (k : Fin (k0_t1_loop i).trips) : ClosedOff (k0_off5 i k 1#32) := ⟨_, off5_1 i k⟩
theorem off5_2 : ∀ (i : grid0.Coords) (k : Fin (k0_t1_loop i).trips), k0_off5 i k 2#32 = ![((i 1).val + 2 + 2 * k.val) * 512, 0] := by decide +kernel
instance (i : grid0.Coords) (k : Fin (k0_t1_loop i).trips) : ClosedOff (k0_off5 i k 2#32) := ⟨_, off5_2 i k⟩
theorem off6_1 : ∀ (i : grid0.Coords) (k : Fin (k0_t1_loop i).trips), k0_off6 i k 1#32 = ![((i 1).val + 1 + 2 * k.val) * 512, 128] := by decide +kernel
instance (i : grid0.Coords) (k : Fin (k0_t1_loop i).trips) : ClosedOff (k0_off6 i k 1#32) := ⟨_, off6_1 i k⟩
theorem off6_2 : ∀ (i : grid0.Coords) (k : Fin (k0_t1_loop i).trips), k0_off6 i k 2#32 = ![((i 1).val + 2 + 2 * k.val) * 512, 128] := by decide +kernel
instance (i : grid0.Coords) (k : Fin (k0_t1_loop i).trips) : ClosedOff (k0_off6 i k 2#32) := ⟨_, off6_2 i k⟩

/-- The loop takes two row blocks a trip of those below the diagonal block; -/
theorem trips1 : ∀ i : grid0.Coords, (k0_t1_loop i).trips = (15 - (i 1).val) / 2 := by decide +kernel
/-- its remainder takes none. -/
theorem trips2 : ∀ i : grid0.Coords, (k0_t2_loop i).trips = 0 := by decide +kernel

section Trip

variable (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x256 .f32) (harg7 : arg7.IsWhole) (arg8 : Memref sig .tc .vmem S512x256 .f32) (harg8 : arg8.IsWhole) (arg9 : Memref sig .tc .vmem S512x128 .f32) (harg9 : arg9.IsWhole) (arg1 : BitVec 32) (v9 : IVec S512x128 32)
  (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ)))

/-- What a trip touches: the five inputs at their contents, the three outputs at theirs. -/
abbrev Res (f7 : Buf (Elt F) (arg7.view.loc (c : Thread nD τ))) (f8 : Buf (Elt F) (arg8.view.loc (c : Thread nD τ))) (f9 : Buf (Elt F) (arg9.view.loc (c : Thread nD τ))) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9))

set_option maxHeartbeats 4000000 in
/-- One trip: what it stores into each output, last first, as functions of what the outputs held. -/
@[irreducible] def trip (k : Fin (k0_t1_loop i).trips) (f7 : Buf (Elt F) (arg7.view.loc (c : Thread nD τ))) (f8 : Buf (Elt F) (arg8.view.loc (c : Thread nD τ))) (f9 : Buf (Elt F) (arg9.view.loc (c : Thread nD τ))) :
    Σ' (L7 : List (View.Piece (Elt F) S8192x256 .f32)), Σ' (L8 : List (View.Piece (Elt F) S512x256 .f32)), { L9 : List (View.Piece (Elt F) S512x128 .f32) //
      Res c arg2 arg3 arg4 arg5 arg6 arg7 arg8 arg9 X2 X3 X4 X5 X6 f7 f8 f9
        ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg1 v9 k ())
          (fun _ => Res c arg2 arg3 arg4 arg5 arg6 arg7 arg8 arg9 X2 X3 X4 X5 X6 (arg7.view.writes (Elt F) f7 L7) (arg8.view.writes (Elt F) f8 L8) (arg9.view.writes (Elt F) f9 L9)) } := by
  refine ⟨?_, ?_, ?_, ?run⟩
  case run =>
    unfold k0_t1_body
    iintro ⟨H2, H3, H4, H5, H6, H7, H8, H9⟩
    simp only [k0_part1_eq_skeleton, k0_part2_eq_skeleton, k0_part3_eq_skeleton, k0_part4_eq_skeleton]
    sl_exec
    sl_step
    sl_close

/-- The three lists of stores. -/
abbrev Lists (F : FTy → Type) : Type := List (View.Piece (Elt F) S8192x256 .f32) × List (View.Piece (Elt F) S512x256 .f32) × List (View.Piece (Elt F) S512x128 .f32)

variable (G7 : Buf (Elt F) (arg7.view.loc (c : Thread nD τ))) (G8 : Buf (Elt F) (arg8.view.loc (c : Thread nD τ))) (G9 : Buf (Elt F) (arg9.view.loc (c : Thread nD τ)))

/-- The stores after one more trip, over the outputs' contents `G7`, `G8`, `G9` before the loop. -/
@[irreducible] def next (k : ℕ) (s : Lists F) : Lists F :=
  if h : k < (k0_t1_loop i).trips then
    ((trip c i arg2 harg2 arg3 harg3 arg4 harg4 arg5 harg5 arg6 harg6 arg7 harg7 arg8 harg8 arg9 harg9 arg1 v9 X2 X3 X4 X5 X6 ⟨k, h⟩ (arg7.view.writes (Elt F) G7 s.1) (arg8.view.writes (Elt F) G8 s.2.1) (arg9.view.writes (Elt F) G9 s.2.2)).1 ++ s.1,
     (trip c i arg2 harg2 arg3 harg3 arg4 harg4 arg5 harg5 arg6 harg6 arg7 harg7 arg8 harg8 arg9 harg9 arg1 v9 X2 X3 X4 X5 X6 ⟨k, h⟩ (arg7.view.writes (Elt F) G7 s.1) (arg8.view.writes (Elt F) G8 s.2.1) (arg9.view.writes (Elt F) G9 s.2.2)).2.1 ++ s.2.1,
     (trip c i arg2 harg2 arg3 harg3 arg4 harg4 arg5 harg5 arg6 harg6 arg7 harg7 arg8 harg8 arg9 harg9 arg1 v9 X2 X3 X4 X5 X6 ⟨k, h⟩ (arg7.view.writes (Elt F) G7 s.1) (arg8.view.writes (Elt F) G8 s.2.1) (arg9.view.writes (Elt F) G9 s.2.2)).2.2.1 ++ s.2.2)
  else s

/-- The stores before trip `k`. -/
def pcs : ℕ → Lists F
  | 0 => ([], [], [])
  | k + 1 => next c i arg2 harg2 arg3 harg3 arg4 harg4 arg5 harg5 arg6 harg6 arg7 harg7 arg8 harg8 arg9 harg9 arg1 v9 X2 X3 X4 X5 X6 G7 G8 G9 k (pcs k)

theorem pcs_succ (k : Fin (k0_t1_loop i).trips) :
    pcs c i arg2 harg2 arg3 harg3 arg4 harg4 arg5 harg5 arg6 harg6 arg7 harg7 arg8 harg8 arg9 harg9 arg1 v9 X2 X3 X4 X5 X6 G7 G8 G9 (k.val + 1)
      = ((trip c i arg2 harg2 arg3 harg3 arg4 harg4 arg5 harg5 arg6 harg6 arg7 harg7 arg8 harg8 arg9 harg9 arg1 v9 X2 X3 X4 X5 X6 k (arg7.view.writes (Elt F) G7 (pcs c i arg2 harg2 arg3 harg3 arg4 harg4 arg5 harg5 arg6 harg6 arg7 harg7 arg8 harg8 arg9 harg9 arg1 v9 X2 X3 X4 X5 X6 G7 G8 G9 k.val).1) (arg8.view.writes (Elt F) G8 (pcs c i arg2 harg2 arg3 harg3 arg4 harg4 arg5 harg5 arg6 harg6 arg7 harg7 arg8 harg8 arg9 harg9 arg1 v9 X2 X3 X4 X5 X6 G7 G8 G9 k.val).2.1) (arg9.view.writes (Elt F) G9 (pcs c i arg2 harg2 arg3 harg3 arg4 harg4 arg5 harg5 arg6 harg6 arg7 harg7 arg8 harg8 arg9 harg9 arg1 v9 X2 X3 X4 X5 X6 G7 G8 G9 k.val).2.2)).1 ++ (pcs c i arg2 harg2 arg3 harg3 arg4 harg4 arg5 harg5 arg6 harg6 arg7 harg7 arg8 harg8 arg9 harg9 arg1 v9 X2 X3 X4 X5 X6 G7 G8 G9 k.val).1,
         (trip c i arg2 harg2 arg3 harg3 arg4 harg4 arg5 harg5 arg6 harg6 arg7 harg7 arg8 harg8 arg9 harg9 arg1 v9 X2 X3 X4 X5 X6 k (arg7.view.writes (Elt F) G7 (pcs c i arg2 harg2 arg3 harg3 arg4 harg4 arg5 harg5 arg6 harg6 arg7 harg7 arg8 harg8 arg9 harg9 arg1 v9 X2 X3 X4 X5 X6 G7 G8 G9 k.val).1) (arg8.view.writes (Elt F) G8 (pcs c i arg2 harg2 arg3 harg3 arg4 harg4 arg5 harg5 arg6 harg6 arg7 harg7 arg8 harg8 arg9 harg9 arg1 v9 X2 X3 X4 X5 X6 G7 G8 G9 k.val).2.1) (arg9.view.writes (Elt F) G9 (pcs c i arg2 harg2 arg3 harg3 arg4 harg4 arg5 harg5 arg6 harg6 arg7 harg7 arg8 harg8 arg9 harg9 arg1 v9 X2 X3 X4 X5 X6 G7 G8 G9 k.val).2.2)).2.1 ++ (pcs c i arg2 harg2 arg3 harg3 arg4 harg4 arg5 harg5 arg6 harg6 arg7 harg7 arg8 harg8 arg9 harg9 arg1 v9 X2 X3 X4 X5 X6 G7 G8 G9 k.val).2.1,
         (trip c i arg2 harg2 arg3 harg3 arg4 harg4 arg5 harg5 arg6 harg6 arg7 harg7 arg8 harg8 arg9 harg9 arg1 v9 X2 X3 X4 X5 X6 k (arg7.view.writes (Elt F) G7 (pcs c i arg2 harg2 arg3 harg3 arg4 harg4 arg5 harg5 arg6 harg6 arg7 harg7 arg8 harg8 arg9 harg9 arg1 v9 X2 X3 X4 X5 X6 G7 G8 G9 k.val).1) (arg8.view.writes (Elt F) G8 (pcs c i arg2 harg2 arg3 harg3 arg4 harg4 arg5 harg5 arg6 harg6 arg7 harg7 arg8 harg8 arg9 harg9 arg1 v9 X2 X3 X4 X5 X6 G7 G8 G9 k.val).2.1) (arg9.view.writes (Elt F) G9 (pcs c i arg2 harg2 arg3 harg3 arg4 harg4 arg5 harg5 arg6 harg6 arg7 harg7 arg8 harg8 arg9 harg9 arg1 v9 X2 X3 X4 X5 X6 G7 G8 G9 k.val).2.2)).2.2.1 ++ (pcs c i arg2 harg2 arg3 harg3 arg4 harg4 arg5 harg5 arg6 harg6 arg7 harg7 arg8 harg8 arg9 harg9 arg1 v9 X2 X3 X4 X5 X6 G7 G8 G9 k.val).2.2) := by
  rw [pcs.eq_2]; unfold next; exact dif_pos k.isLt

abbrev inv (k : ℕ) (_u : Unit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ (∃ f, (arg7.view.loc (c : Thread nD τ) ↦[arg7.view.set]{fullShare} f) ∗ ⌜f = arg7.view.writes (Elt F) G7 (pcs c i arg2 harg2 arg3 harg3 arg4 harg4 arg5 harg5 arg6 harg6 arg7 harg7 arg8 harg8 arg9 harg9 arg1 v9 X2 X3 X4 X5 X6 G7 G8 G9 k).1⌝)
    ∗ (∃ f, (arg8.view.loc (c : Thread nD τ) ↦[arg8.view.set]{fullShare} f) ∗ ⌜f = arg8.view.writes (Elt F) G8 (pcs c i arg2 harg2 arg3 harg3 arg4 harg4 arg5 harg5 arg6 harg6 arg7 harg7 arg8 harg8 arg9 harg9 arg1 v9 X2 X3 X4 X5 X6 G7 G8 G9 k).2.1⌝)
    ∗ (∃ f, (arg9.view.loc (c : Thread nD τ) ↦[arg9.view.set]{fullShare} f) ∗ ⌜f = arg9.view.writes (Elt F) G9 (pcs c i arg2 harg2 arg3 harg3 arg4 harg4 arg5 harg5 arg6 harg6 arg7 harg7 arg8 harg8 arg9 harg9 arg1 v9 X2 X3 X4 X5 X6 G7 G8 G9 k).2.2⌝))

set_option maxHeartbeats 4000000 in
set_option warn.classDefReducibility false in
/-- The loop's invariant. -/
@[sl_loop] def loopInv1 :
    LoopInvTy_k0_t1 (F := F) Unit ℕ (UR sig nD τ) ℕ Variants.none c none Set.univ i arg2 harg2 arg3 harg3 arg4 harg4 arg5 harg5 arg6 harg6 arg7 harg7 arg8 harg8 arg9 harg9 arg1 v9 where
  inv := inv c i arg2 harg2 arg3 harg3 arg4 harg4 arg5 harg5 arg6 harg6 arg7 harg7 arg8 harg8 arg9 harg9 arg1 v9 X2 X3 X4 X5 X6 G7 G8 G9
  step k acc := by
    iintro ⟨H2, H3, H4, H5, H6, ⟨%f7, H7, %h7⟩, ⟨%f8, H8, %h8⟩, ⟨%f9, H9, %h9⟩⟩
    subst h7; subst h8; subst h9
    iapply (wp_wand_r Idealize.ShloMosaic.frame (wpE (defs₀ (F := F)) Variants.none (c : Thread nD τ) none) Set.univ)
    isplitl [H2 H3 H4 H5 H6 H7 H8 H9]
    · iapply (trip c i arg2 harg2 arg3 harg3 arg4 harg4 arg5 harg5 arg6 harg6 arg7 harg7 arg8 harg8 arg9 harg9 arg1 v9 X2 X3 X4 X5 X6 k _ _ _).2.2.2
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iintro %_ ⟨H2, H3, H4, H5, H6, H7, H8, H9⟩
      isplitl [H2]; · iexact H2
      isplitl [H3]; · iexact H3
      isplitl [H4]; · iexact H4
      isplitl [H5]; · iexact H5
      isplitl [H6]; · iexact H6
      rw [pcs_succ]
      isplitl [H7]
      · iexists _; isplitl [H7]; · iexact H7
        ipureintro; exact (View.writes_append _ _ _ _).symm
      isplitl [H8]
      · iexists _; isplitl [H8]; · iexact H8
        ipureintro; exact (View.writes_append _ _ _ _).symm
      iexists _; isplitl [H9]; · iexact H9
      ipureintro; exact (View.writes_append _ _ _ _).symm

set_option warn.classDefReducibility false in
/-- The remainder loop's: it takes no trip. -/
@[sl_loop] def loopInv2 (v127 : BitVec 32) :
    LoopInvTy_k0_t2 (F := F) Unit ℕ (UR sig nD τ) ℕ Variants.none c none Set.univ i arg2 harg2 arg3 harg3 arg4 harg4 arg5 harg5 arg6 harg6 arg7 harg7 arg8 harg8 arg9 harg9 arg1 v9 v127 where
  inv _ _ := Res c arg2 arg3 arg4 arg5 arg6 arg7 arg8 arg9 X2 X3 X4 X5 X6 G7 G8 G9
  step k _ := (Nat.not_lt_zero _ (Nat.lt_of_lt_of_eq k.isLt (trips2 i))).elim

end Trip

end Cert.AttnRun

end
-- ==== Proof.AttnFrame.lean ====
/-
  The attention backward runs and leaves its arguments: what a point leaves in the three outputs, point after point, and the run.
-/
module
public import proofs.«01_k».proof.Defs
public import proofs.«01_k».proof.Proof.Gen.AttnBwdIdeal.Launch
public import proofs.«01_k».proof.Proof.Gen.AttnBwdIdeal.Points
public import proofs.«01_k».proof.Proof.Gen.AttnBwdIdeal.Skeleton
public import proofs.«01_k».proof.Proof.Gen.AttnBwdIdeal.Loops
public import proofs.«01_k».proof.Proof.Gen.AttnBwdIdeal.Frame
public import proofs.«01_k».proof.Proof.AttnTrip
public import Idealize.ShloMosaic.Lib.Pipeline.FrameBody
public import Idealize.ShloMosaic.Lib.Pipeline.KitQuiescent
public import Idealize.ShloMosaic.Lib.Ring
public import Idealize.ShloMosaic.Lib.Tactic
public import Idealize.ShloMosaic.Lib.WordCmp
public import Idealize.ShloMosaic.Lib.Claim
@[expose] public section

set_option maxRecDepth 16384

noncomputable section

namespace Cert.AttnRun

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The two conditions of the body: the first key block of a head pair (the query gradient is zeroed), and an odd
number of row blocks below the diagonal (the last one is taken alone). -/

abbrev cond0 (i : grid0.Coords) : Prop := Scalar.cmpi .ne (Scalar.extui (Scalar.cmpi .eq (BitVec.ofNat 32 (i 1).val) 0#32)) 0#32 = 1#1
abbrev rest (i : grid0.Coords) : BitVec 32 := Scalar.remsi (Scalar.subi 15#32 (BitVec.ofNat 32 (i 1).val)) (Scalar.select (Scalar.cmpi .eq 2#32 0#32) 1#32 2#32)
abbrev cond1 (i : grid0.Coords) : Prop :=
  Scalar.cmpi .ne (Scalar.extui (Scalar.cmpi .eq (Scalar.select (Scalar.andi (Scalar.xori (Scalar.cmpi .slt (rest i) 0#32)
    (Scalar.cmpi .slt (Scalar.select (Scalar.cmpi .eq 2#32 0#32) 1#32 2#32) 0#32)) (Scalar.cmpi .ne (rest i) 0#32))
    (Scalar.addi (rest i) (Scalar.select (Scalar.cmpi .eq 2#32 0#32) 1#32 2#32)) (rest i)) 1#32)) 0#32 = 1#1

theorem hcond0 : ∀ t : Fin grid0.N, cond0 (grid0.coords t) ↔ t.val % 16 = 0 := by decide +kernel
theorem hcond1 : ∀ t : Fin grid0.N, cond1 (grid0.coords t) ↔ t.val % 2 = 0 := by decide +kernel

set_option maxHeartbeats 4000000 in
/-- The body at a point: the first key block; what it leaves in the three outputs is found. -/
noncomputable def runA (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x256 .f32) (harg7 : arg7.IsWhole) (arg8 : Memref sig .tc .vmem S512x256 .f32) (harg8 : arg8.IsWhole) (arg9 : Memref sig .tc .vmem S512x128 .f32) (harg9 : arg9.IsWhole) (hc0 : cond0 i) (hc1 : cond1 i)
    (x2 : Vec F S8192x256 .bf16) (x3 : Vec F S512x256 .bf16) (x4 : Vec F S512x128 .bf16) (x5 : Vec F S8192x128 .bf16) (x6 : Vec F S8192x128 .f32) :
    Σ' (g7 : Buf (Elt F) (arg7.view.loc (c : Thread nD τ))), Σ' (g8 : Buf (Elt F) (arg8.view.loc (c : Thread nD τ))), { g9 : Buf (Elt F) (arg9.view.loc (c : Thread nD τ)) //
      ∀ (E : Set ℕ) (K : PUnit → sProp 𝕄), E = Set.univ →
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9)) -∗ K ⟨⟩))
          ⊢ wp frame (wpE (defs₀ (F := F)) Variants.none (c : Thread nD τ) none) E (cc0_attn_bwd i arg2 harg2 arg3 harg3 arg4 harg4 arg5 harg5 arg6 harg6 arg7 harg7 arg8 harg8 arg9 harg9) K } := by
  refine ⟨?_, ?_, ?_, fun E K hE => ?run⟩
  case run =>
    subst hE
    simp only [cc0_attn_bwd_eq_skeleton]; unfold cc0_attn_bwd_skel
    simp only [k0_part9_eq_skeleton, k0_part10_eq_skeleton, k0_part11_eq_skeleton, k0_part12_eq_skeleton, k0_part13_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf2; obtain rfl := harg3.eq_unread hf3; obtain rfl := harg4.eq_unread hf4; obtain rfl := harg5.eq_unread hf5; obtain rfl := harg6.eq_unread hf6
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexact H9

set_option maxHeartbeats 4000000 in
/-- The body at a point: a later one, the last row block taken alone; what it leaves in the three outputs is found. -/
noncomputable def runB (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x256 .f32) (harg7 : arg7.IsWhole) (arg8 : Memref sig .tc .vmem S512x256 .f32) (harg8 : arg8.IsWhole) (arg9 : Memref sig .tc .vmem S512x128 .f32) (harg9 : arg9.IsWhole) (hc0 : ¬cond0 i) (hc1 : cond1 i)
    (x2 : Vec F S8192x256 .bf16) (x3 : Vec F S512x256 .bf16) (x4 : Vec F S512x128 .bf16) (x5 : Vec F S8192x128 .bf16) (x6 : Vec F S8192x128 .f32) (x7 : Vec F S8192x256 .f32) :
    Σ' (g7 : Buf (Elt F) (arg7.view.loc (c : Thread nD τ))), Σ' (g8 : Buf (Elt F) (arg8.view.loc (c : Thread nD τ))), { g9 : Buf (Elt F) (arg9.view.loc (c : Thread nD τ)) //
      ∀ (E : Set ℕ) (K : PUnit → sProp 𝕄), E = Set.univ →
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9)) -∗ K ⟨⟩))
          ⊢ wp frame (wpE (defs₀ (F := F)) Variants.none (c : Thread nD τ) none) E (cc0_attn_bwd i arg2 harg2 arg3 harg3 arg4 harg4 arg5 harg5 arg6 harg6 arg7 harg7 arg8 harg8 arg9 harg9) K } := by
  refine ⟨?_, ?_, ?_, fun E K hE => ?run⟩
  case run =>
    subst hE
    simp only [cc0_attn_bwd_eq_skeleton]; unfold cc0_attn_bwd_skel
    simp only [k0_part9_eq_skeleton, k0_part10_eq_skeleton, k0_part11_eq_skeleton, k0_part12_eq_skeleton, k0_part13_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexact H9

set_option maxHeartbeats 4000000 in
/-- The body at a point: a later one, the row blocks all in pairs; what it leaves in the three outputs is found. -/
noncomputable def runC (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x256 .f32) (harg7 : arg7.IsWhole) (arg8 : Memref sig .tc .vmem S512x256 .f32) (harg8 : arg8.IsWhole) (arg9 : Memref sig .tc .vmem S512x128 .f32) (harg9 : arg9.IsWhole) (hc0 : ¬cond0 i) (hc1 : ¬cond1 i)
    (x2 : Vec F S8192x256 .bf16) (x3 : Vec F S512x256 .bf16) (x4 : Vec F S512x128 .bf16) (x5 : Vec F S8192x128 .bf16) (x6 : Vec F S8192x128 .f32) (x7 : Vec F S8192x256 .f32) :
    Σ' (g7 : Buf (Elt F) (arg7.view.loc (c : Thread nD τ))), Σ' (g8 : Buf (Elt F) (arg8.view.loc (c : Thread nD τ))), { g9 : Buf (Elt F) (arg9.view.loc (c : Thread nD τ)) //
      ∀ (E : Set ℕ) (K : PUnit → sProp 𝕄), E = Set.univ →
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9)) -∗ K ⟨⟩))
          ⊢ wp frame (wpE (defs₀ (F := F)) Variants.none (c : Thread nD τ) none) E (cc0_attn_bwd i arg2 harg2 arg3 harg3 arg4 harg4 arg5 harg5 arg6 harg6 arg7 harg7 arg8 harg8 arg9 harg9) K } := by
  refine ⟨?_, ?_, ?_, fun E K hE => ?run⟩
  case run =>
    subst hE
    simp only [cc0_attn_bwd_eq_skeleton]; unfold cc0_attn_bwd_skel
    simp only [k0_part9_eq_skeleton, k0_part10_eq_skeleton, k0_part11_eq_skeleton, k0_part12_eq_skeleton, k0_part13_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexact H7
    isplitl [H8]; · iexact H8
    iexact H9

/-! Each window's staging buffer at a point is whole. -/

theorem hst0 (t : Fin cfg0.N) : (st0_0 t).IsWhole := hstage0_0 ((cfg0.slots t 0).cast nbuf0_0)
theorem hst1 (t : Fin cfg0.N) : (st0_1 t).IsWhole := hstage0_1 ((cfg0.slots t 1).cast nbuf0_1)
theorem hst2 (t : Fin cfg0.N) : (st0_2 t).IsWhole := hstage0_2 ((cfg0.slots t 2).cast nbuf0_2)
theorem hst3 (t : Fin cfg0.N) : (st0_3 t).IsWhole := hstage0_3 ((cfg0.slots t 3).cast nbuf0_3)
theorem hst4 (t : Fin cfg0.N) : (st0_4 t).IsWhole := hstage0_4 ((cfg0.slots t 4).cast nbuf0_4)
theorem hst5 (t : Fin cfg0.N) : (st0_5 t).IsWhole := hstage0_5 ((cfg0.slots t 5).cast nbuf0_5)
theorem hst6 (t : Fin cfg0.N) : (st0_6 t).IsWhole := hstage0_6 ((cfg0.slots t 6).cast nbuf0_6)
theorem hst7 (t : Fin cfg0.N) : (st0_7 t).IsWhole := hstage0_7 ((cfg0.slots t 7).cast nbuf0_7)

variable (m : (ℓ : Loc nD τ sig) → Buf (Elt F) ℓ) (ρ : Dev nD → PrngReg)

/-- The three outputs' contents. -/
abbrev Outs (F : FTy → Type) : Type := Vec F S8192x256 .f32 × Vec F S512x256 .f32 × Vec F S512x128 .f32

/-- What point `t` of this case leaves in the outputs. -/
def outA (c : Dev nD) (t : Fin cfg0.N) (h0 : t.val % 16 = 0) (h1 : t.val % 2 = 0) : Outs F :=
  ((st0_5 t).view.read (Elt F) (runA c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) ((hcond0 t).mpr h0) ((hcond1 t).mpr h1) (iblk m c 0 t) (iblk m c 1 t) (iblk m c 2 t) (iblk m c 3 t) (iblk m c 4 t)).1, (st0_6 t).view.read (Elt F) (runA c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) ((hcond0 t).mpr h0) ((hcond1 t).mpr h1) (iblk m c 0 t) (iblk m c 1 t) (iblk m c 2 t) (iblk m c 3 t) (iblk m c 4 t)).2.1, (st0_7 t).view.read (Elt F) (runA c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) ((hcond0 t).mpr h0) ((hcond1 t).mpr h1) (iblk m c 0 t) (iblk m c 1 t) (iblk m c 2 t) (iblk m c 3 t) (iblk m c 4 t)).2.2.1)

/-- What point `t` of this case leaves in the outputs. -/
def outB (c : Dev nD) (t : Fin cfg0.N) (h0 : ¬t.val % 16 = 0) (h1 : t.val % 2 = 0) (x7 : Vec F S8192x256 .f32) : Outs F :=
  ((st0_5 t).view.read (Elt F) (runB c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (fun h => h0 ((hcond0 t).mp h)) ((hcond1 t).mpr h1) (iblk m c 0 t) (iblk m c 1 t) (iblk m c 2 t) (iblk m c 3 t) (iblk m c 4 t) x7).1, (st0_6 t).view.read (Elt F) (runB c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (fun h => h0 ((hcond0 t).mp h)) ((hcond1 t).mpr h1) (iblk m c 0 t) (iblk m c 1 t) (iblk m c 2 t) (iblk m c 3 t) (iblk m c 4 t) x7).2.1, (st0_7 t).view.read (Elt F) (runB c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (fun h => h0 ((hcond0 t).mp h)) ((hcond1 t).mpr h1) (iblk m c 0 t) (iblk m c 1 t) (iblk m c 2 t) (iblk m c 3 t) (iblk m c 4 t) x7).2.2.1)

/-- What point `t` of this case leaves in the outputs. -/
def outC (c : Dev nD) (t : Fin cfg0.N) (h0 : ¬t.val % 16 = 0) (h1 : ¬t.val % 2 = 0) (x7 : Vec F S8192x256 .f32) : Outs F :=
  ((st0_5 t).view.read (Elt F) (runC c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (fun h => h0 ((hcond0 t).mp h)) (fun h => h1 ((hcond1 t).mp h)) (iblk m c 0 t) (iblk m c 1 t) (iblk m c 2 t) (iblk m c 3 t) (iblk m c 4 t) x7).1, (st0_6 t).view.read (Elt F) (runC c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (fun h => h0 ((hcond0 t).mp h)) (fun h => h1 ((hcond1 t).mp h)) (iblk m c 0 t) (iblk m c 1 t) (iblk m c 2 t) (iblk m c 3 t) (iblk m c 4 t) x7).2.1, (st0_7 t).view.read (Elt F) (runC c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (fun h => h0 ((hcond0 t).mp h)) (fun h => h1 ((hcond1 t).mp h)) (iblk m c 0 t) (iblk m c 1 t) (iblk m c 2 t) (iblk m c 3 t) (iblk m c 4 t) x7).2.2.1)

/-- The outputs after each point: at the first key block of a head pair from nothing, later over the query gradient the point before left. -/
def outs (c : Dev nD) : (n : ℕ) → n < cfg0.N → Outs F
  | 0, hn => outA m c ⟨0, hn⟩ (by show 0 % 16 = 0; omega) (by show 0 % 2 = 0; omega)
  | n + 1, hn =>
    if h0 : (n + 1) % 16 = 0 then outA m c ⟨n + 1, hn⟩ h0 (by show (n + 1) % 2 = 0; omega)
    else if h1 : (n + 1) % 2 = 0 then outB m c ⟨n + 1, hn⟩ h0 h1 (outs c n (Nat.lt_of_succ_lt hn)).1
    else outC m c ⟨n + 1, hn⟩ h0 h1 (outs c n (Nat.lt_of_succ_lt hn)).1

/-- The query gradient's buffer before a point that is not the first of its head pair. -/
abbrev prev (c : Dev nD) (t : Fin cfg0.N) : Vec F S8192x256 .f32 :=
  (outs m c (t.val - 1) (Nat.lt_of_le_of_lt (Nat.sub_le _ _) t.isLt)).1

theorem outs_A (c : Dev nD) (t : Fin cfg0.N) (h0 : t.val % 16 = 0) (h1 : t.val % 2 = 0) : outs m c t.val t.isLt = outA m c t h0 h1 := by
  obtain ⟨n, hn⟩ := t
  cases n with
  | zero => exact rfl
  | succ n => exact dif_pos h0
theorem outs_B (c : Dev nD) (t : Fin cfg0.N) (h0 : ¬t.val % 16 = 0) (h1 : t.val % 2 = 0) : outs m c t.val t.isLt = outB m c t h0 h1 (prev m c t) := by
  obtain ⟨n, hn⟩ := t
  cases n with
  | zero => exact absurd (Nat.zero_mod _) h0
  | succ n => exact (dif_neg h0).trans (dif_pos h1)
theorem outs_C (c : Dev nD) (t : Fin cfg0.N) (h0 : ¬t.val % 16 = 0) (h1 : ¬t.val % 2 = 0) : outs m c t.val t.isLt = outC m c t h0 h1 (prev m c t) := by
  obtain ⟨n, hn⟩ := t
  cases n with
  | zero => exact absurd (Nat.zero_mod _) h0
  | succ n => exact (dif_neg h0).trans (dif_neg h1)

/-- The pipeline's data: each input's buffer at its block, the outputs' at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outs m c t.val t.isLt).1
    | ⟨6, _⟩ => (outs m c t.val t.isLt).2.1
    | ⟨7, _⟩ => (outs m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outs m c t.val t.isLt).1 := by dsimp only [dats]
theorem after_6 (c : Dev nD) (t : Fin cfg0.N) : (dats m 0 c).after 6 t = (outs m c t.val t.isLt).2.1 := by dsimp only [dats]
theorem after_7 (c : Dev nD) (t : Fin cfg0.N) : (dats m 0 c).after 7 t = (outs m c t.val t.isLt).2.2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
/-- The query gradient's buffer is not written back within a head pair: it holds what the point before left. -/
theorem before_5 (c : Dev nD) (t : Fin cfg0.N) (h0 : ¬t.val % 16 = 0) (d) : (dats m 0 c).before 5 t d = prev m c t := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  by_cases h0 : t.val % 16 = 0
  · have h1 : t.val % 2 = 0 := by omega
    rw [outs_A m c t h0 h1]
    unfold outA; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) ((hcond0 t).mpr h0) ((hcond1 t).mpr h1) (iblk m c 0 t) (iblk m c 1 t) (iblk m c 2 t) (iblk m c 3 t) (iblk m c 4 t)).2.2.2 Set.univ _ rfl)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; rfl
    isplitl [H6]
    · unfold owns; iexists _; isplitr
      swap; · iexact H6
      ipureintro; rfl
    unfold owns; iexists _; isplitr
    swap; · iexact H7
    ipureintro; rfl
  · by_cases h1 : t.val % 2 = 0
    · rw [outs_B m c t h0 h1]
      simp only [before_5 m c t h0]
      unfold outB; dsimp only
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (fun h => h0 ((hcond0 t).mp h)) ((hcond1 t).mpr h1) (iblk m c 0 t) (iblk m c 1 t) (iblk m c 2 t) (iblk m c 3 t) (iblk m c 4 t) (prev m c t)).2.2.2 Set.univ _ rfl)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; rfl
      isplitl [H6]
      · unfold owns; iexists _; isplitr
        swap; · iexact H6
        ipureintro; rfl
      unfold owns; iexists _; isplitr
      swap; · iexact H7
      ipureintro; rfl
    · rw [outs_C m c t h0 h1]
      simp only [before_5 m c t h0]
      unfold outC; dsimp only
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (fun h => h0 ((hcond0 t).mp h)) (fun h => h1 ((hcond1 t).mp h)) (iblk m c 0 t) (iblk m c 1 t) (iblk m c 2 t) (iblk m c 3 t) (iblk m c 4 t) (prev m c t)).2.2.2 Set.univ _ rfl)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; rfl
      isplitl [H6]
      · unfold owns; iexists _; isplitr
        swap; · iexact H6
        ipureintro; rfl
      unfold owns; iexists _; isplitr
      swap; · iexact H7
      ipureintro; rfl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run, every counter at zero at its end. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_main m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_post m ρ)) ((θ_run defs _ _).mono (fun _ h => h.2) (run_main m ρ))

end Cert.AttnRun

end
-- ==== Proof.AttnMath.lean ====
/-
  The attention's gradients over the reals: the probabilities do not depend on the number taken off the scores, and the two ways
  to write a score's gradient are one.
-/
module
public import proofs.«01_k».proof.Proof.Lift
@[expose] public section

noncomputable section

namespace Cert.AttnMath

open Idealize.ShloMosaic Cert.Lift

/-- The scale of the scores. -/
def wS : ℝ := 13698540 * (2 : ℝ)⁻¹ ^ 27
theorem word_wS : (Ideal.ofBits .f32 0x3DD105EC#32 : EReal) = ((wS : ℝ) : EReal) := by
  simp [Ideal.ofBits, Ideal.ieee, -EReal.coe_mul, wS]
theorem word_bot : (Ideal.ofBits .f32 0xFF800000#32 : EReal) = ⊥ := by
  simp [Ideal.ofBits, Ideal.ieee]

section Real
variable {N : ℕ} (sc da : Fin N → Fin N → ℝ)

/-- The exponential of a score less `t`, a row's sum of them, the probability and the gradient of the score. -/
def zz (t : ℝ) (R C : Fin N) : ℝ := if C.val ≤ R.val then Real.exp (sc R C - t) else 0
def ll (t : ℝ) (R : Fin N) : ℝ := ∑ C, zz sc t R C
def yy (R C : Fin N) : ℝ := zz sc 0 R C * (ll sc 0 R)⁻¹
def dl (R : Fin N) : ℝ := ∑ C, yy sc R C * da R C
def ss (R C : Fin N) : ℝ := yy sc R C * (da R C - dl sc da R)

theorem zz_shift (t : ℝ) (R C : Fin N) : zz sc t R C = Real.exp (-t) * zz sc 0 R C := by
  unfold zz
  split
  · rw [← Real.exp_add]; congr 1; ring
  · rw [mul_zero]
theorem zz_nonneg (t : ℝ) (R C : Fin N) : 0 ≤ zz sc t R C := by
  unfold zz; split
  · exact (Real.exp_pos _).le
  · exact le_rfl
theorem ll_pos (t : ℝ) (R : Fin N) : 0 < ll sc t R := by
  refine Finset.sum_pos' (fun C _ => zz_nonneg sc t R C) ⟨R, Finset.mem_univ _, ?_⟩
  unfold zz; rw [if_pos le_rfl]; exact Real.exp_pos _
theorem ll_shift (t : ℝ) (R : Fin N) : ll sc t R = Real.exp (-t) * ll sc 0 R := by
  unfold ll; rw [Finset.mul_sum]; exact Finset.sum_congr rfl fun C _ => zz_shift sc t R C
theorem yy_shift (t : ℝ) (R C : Fin N) : zz sc t R C * (ll sc t R)⁻¹ = yy sc R C := by
  have h := (ll_pos sc 0 R).ne'
  have e := (Real.exp_pos (-t)).ne'
  unfold yy
  rw [zz_shift, ll_shift]
  field_simp
theorem yy_lse (t : ℝ) (R C : Fin N) (h : C.val ≤ R.val) : Real.exp (sc R C - (t + Real.log (ll sc t R))) = yy sc R C := by
  rw [← yy_shift sc t, ← sub_sub, Real.exp_sub, Real.exp_log (ll_pos sc t R)]
  unfold zz; rw [if_pos h, div_eq_mul_inv]
theorem yy_zero (R C : Fin N) (h : ¬ C.val ≤ R.val) : yy sc R C = 0 := by
  unfold yy zz; rw [if_neg h, zero_mul]
theorem ss_zero (R C : Fin N) (h : ¬ C.val ≤ R.val) : ss sc da R C = 0 := by
  unfold ss; rw [yy_zero sc R C h, zero_mul]

/-- The gradient of a score as the softmax's own derivative writes it. -/
theorem ss_soft (t : ℝ) (R C : Fin N) :
    (da R C * (ll sc t R)⁻¹ + -(∑ D, da R D * (1 * (ll sc t R * ll sc t R)⁻¹) * zz sc t R D)) * zz sc t R C = ss sc da R C := by
  have h := (ll_pos sc t R).ne'
  have e : (∑ D, da R D * (1 * (ll sc t R * ll sc t R)⁻¹) * zz sc t R D) = (ll sc t R)⁻¹ * dl sc da R := by
    unfold dl; rw [Finset.mul_sum]
    refine Finset.sum_congr rfl fun D _ => ?_
    rw [← yy_shift sc t R D, mul_inv]; ring
  rw [e]; unfold ss; rw [← yy_shift sc t R C]; ring
end Real

section Ext
variable {N : ℕ} (sc : Fin N → Fin N → ℝ)

/-- A masked score. -/
def scE (R C : Fin N) : EReal := if C.val ≤ R.val then ((sc R C : ℝ) : EReal) else ⊥

theorem exp_scE (t : ℝ) (R C : Fin N) : Ideal.exp (scE sc R C - ((t : ℝ) : EReal)) = ((zz sc t R C : ℝ) : EReal) := by
  unfold scE zz
  split
  · rw [← EReal.coe_sub, Ideal.exp_coe]
  · rw [EReal.bot_sub, Ideal.exp_bot, EReal.coe_zero]

/-- A row's greatest masked score is a number. -/
theorem top_real (R : Fin N) : ∃ t : ℝ, (Finset.univ.fold max (⊥ : EReal) fun C : Fin N => scE sc R C) = ((t : ℝ) : EReal) := by
  have key : ∀ s : Finset (Fin N), (Finset.fold max (⊥ : EReal) (fun C : Fin N => scE sc R C) s) ≠ ⊤
      ∧ (R ∈ s → (Finset.fold max (⊥ : EReal) (fun C : Fin N => scE sc R C) s) ≠ ⊥) := by
    intro s
    classical
    induction s using Finset.induction_on with
    | empty => simp
    | insert a s ha ih =>
      rw [Finset.fold_insert ha]
      refine ⟨?_, fun hR => ?_⟩
      · have h1 : scE sc R a ≠ ⊤ := by unfold scE; split <;> simp
        rcases max_choice (scE sc R a) (Finset.fold max (⊥ : EReal) (fun C : Fin N => scE sc R C) s) with h | h <;> rw [h]
        · exact h1
        · exact ih.1
      · rw [Ne, max_eq_bot]
        rintro ⟨g1, g2⟩
        rcases Finset.mem_insert.mp hR with rfl | h
        · unfold scE at g1; rw [if_pos le_rfl] at g1; exact EReal.coe_ne_bot _ g1
        · exact ih.2 h g2
  exact ⟨_, (EReal.coe_toReal (key Finset.univ).1 ((key Finset.univ).2 (Finset.mem_univ _))).symm⟩
end Ext

/-- The mask's comparison, of the columns' and the rows' numbers. -/
theorem sel_le {α : Type} {R C : ℕ} (hR : R < 8192) (hC : C < 8192) (a b : α) :
    Scalar.select (IntOp.cmpi CmpIPredicate.sle (BitVec.ofNat 32 C) (BitVec.ofNat 32 R)) a b = if C ≤ R then a else b := by
  have e (n : ℕ) (h : n < 8192) : (BitVec.ofNat 32 n).toInt = (n : ℤ) := by
    have hn : (BitVec.ofNat 32 n).toNat = n := by rw [BitVec.toNat_ofNat]; exact Nat.mod_eq_of_lt (by omega)
    rw [BitVec.toInt_eq_toNat_of_lt (by rw [hn]; omega), hn]
  have h : (BitVec.sle (BitVec.ofNat 32 C) (BitVec.ofNat 32 R)) = decide (C ≤ R) := by
    unfold BitVec.sle; rw [e C hC, e R hR]; simp
  by_cases g : C ≤ R
  · rw [if_pos g]; simp [Scalar.select, IntOp.cmpi, h, g]
  · rw [if_neg g]; simp [Scalar.select, IntOp.cmpi, h, g]

/-- A head's 96 lanes, padded to 128 with zeros. -/
theorem sum_pad (f : Fin 96 → EReal) : (∑ l : Fin 128, if h : l.val < 96 then f ⟨l.val, h⟩ else 0) = ∑ l, f l := by
  rw [Fin.sum_univ_add (a := 96) (b := 32) (f := fun l : Fin (96 + 32) => if h : l.val < 96 then f ⟨l.val, h⟩ else 0)]
  refine (congrArg₂ (· + ·) (Finset.sum_congr rfl fun l _ => ?_) (Finset.sum_eq_zero fun l _ => ?_)).trans (add_zero _)
  · exact dif_pos l.isLt
  · exact dif_neg (by simp)

end Cert.AttnMath
-- ==== Proof.AttnRef.lean ====
/-
  The reference of the attention's backward call: its results over the arguments.
-/
module
public import proofs.«01_k».proof.Proof.Gen.AttnRefIdeal.Read
public import proofs.«01_k».proof.Proof.AttnMath
@[expose] public section
noncomputable section
namespace Cert.AttnRefIdeal.Val
open Idealize.ShloMosaic Idealize.SL.Sem Cert.AttnRefIdeal Cert.AttnRefIdeal.Gen Cert.AttnRefIdeal.Read
open Cert.Lift Cert.AttnMath

section Read
theorem sitofp_zero : (FloatOps.sitofp (F := Ideal) FTy.f32 (0#32 : BitVec 32) : EReal) = 0 := by
  show (((0#32 : BitVec 32).toInt : ℝ) : EReal) = 0
  simp

variable (q k : Vec Ideal S8192x8x96 .f32) (v d : Vec Ideal S8192x8x64 .f32) (n : Fin 8) (R C : Fin 8192)

theorem r10 : val_main_v10_0 q k (ix3 n R C) = Scalar.select (IntOp.cmpi CmpIPredicate.sle (BitVec.ofNat 32 C.val) (BitVec.ofNat 32 R.val))
      (∑ l : Fin 96, q (ix3 R n l) * Ideal.ofBits .f32 0x3DD105EC#32 * k (ix3 C n l)) (Ideal.ofBits .f32 0xFF800000#32) := by
  simp only [val_main_v10_0, val_main_call0_v2, val_main_v10_1, val_main_call0_v0, val_main_cst_0, val_main_v9, val_main_v8, val_main_v7, val_main_v6, val_main_v5, val_main_v4, val_main_v3, val_main_v2, val_main_v1, val_main_v0, val_main_cst]
  pointwise
  rfl
theorem red_max (s : Vec Ideal S8x8192x8192 .f32) (n : Fin 8) (R : Fin 8192) :
    Host.reduce (FloatOps.maximumf (F := Ideal) (φ := .f32)) s (constant (F := Ideal) S_ .f32 0xFF800000#32) reducesTo_S8x8192x8192_S8x8192_d2 h_S_ (ix2 n R)
      = Finset.univ.fold max (Ideal.ofBits .f32 0xFF800000#32) fun C : Fin 8192 => s (ix3 n R C) := by
  pointwise
theorem r11 : val_main_v11 q k (ix2 n R) = Finset.univ.fold max (Ideal.ofBits .f32 0xFF800000#32) fun C : Fin 8192 => val_main_v10_0 q k (ix3 n R C) := by
  unfold val_main_v11 val_main_cst_1
  exact red_max _ n R
theorem r18 : val_main_v18 q k (ix2 n R) = max (Ideal.ofBits .f32 0xFF800000#32) (val_main_v11 q k (ix2 n R)) := by
  rw [val_main_v18_apply]
  generalize val_main_v11 q k = B
  simp only [val_main_v17, val_main_cst_3]
  pointwise
theorem r31 : val_main_v31 q k (ix3 n R C) = Ideal.exp (val_main_v10_0 q k (ix3 n R C) - val_main_v18 q k (ix2 n R)) := by
  simp only [val_main_v31, val_main_v30, val_main_v29, val_main_v28]
  generalize val_main_v10_0 q k = A
  generalize val_main_v18 q k = B
  pointwise
theorem r33 : val_main_v33 q k (ix3 n R 0) = ∑ C : Fin 8192, val_main_v31 q k (ix3 n R C) := by
  simp only [val_main_v33, val_main_v32, val_main_cst_9]
  generalize val_main_v31 q k = A
  pointwise
theorem r35 : val_main_v35 q k (ix3 n R C) = Ideal.div (val_main_v31 q k (ix3 n R C)) (val_main_v33 q k (ix3 n R 0)) := by
  simp only [val_main_v35, val_main_v34]
  generalize val_main_v31 q k = A
  generalize val_main_v33 q k = B
  pointwise
theorem r42 : val_main_v42 v d (ix3 n R C) = ∑ l : Fin 64, d (ix3 R n l) * v (ix3 C n l) := by
  simp only [val_main_v42, val_main_v41]
  pointwise
theorem r38 : val_main_v38 q k (ix3 n R 0) = Ideal.div (Ideal.ofBits .f32 0x3F800000#32) (val_main_v33 q k (ix3 n R 0) * val_main_v33 q k (ix3 n R 0)) := by
  simp only [val_main_v38, val_main_v37, val_main_v36, val_main_cst_10]
  generalize val_main_v33 q k = B
  pointwise
theorem r50 : val_main_v50 q k v d (ix3 n R 0) = -(∑ C : Fin 8192, val_main_v42 v d (ix3 n R C) * val_main_v38 q k (ix3 n R 0) * val_main_v31 q k (ix3 n R C)) := by
  simp only [val_main_v50, val_main_v49, val_main_v48, val_main_cst_11, val_main_v47, val_main_v46, val_main_v45]
  generalize val_main_v31 q k = A
  generalize val_main_v38 q k = B
  generalize val_main_v42 v d = D
  pointwise
theorem r56 : val_main_v56 q k v d (ix3 n R C)
    = (Ideal.div (val_main_v42 v d (ix3 n R C)) (val_main_v33 q k (ix3 n R 0)) + val_main_v50 q k v d (ix3 n R 0)) * val_main_v31 q k (ix3 n R C) := by
  simp only [val_main_v56, val_main_v55, val_main_v54, val_main_v53, val_main_cst_12, val_main_v52, val_main_v51]
  generalize val_main_v31 q k = A
  generalize val_main_v33 q k = B
  generalize val_main_v42 v d = D
  generalize val_main_v50 q k v d = E
  pointwise
  rw [Fin.sum_univ_one]
theorem r57 : val_main_v57 q k v d (ix3 n R C) = Scalar.select (IntOp.cmpi CmpIPredicate.sle (BitVec.ofNat 32 C.val) (BitVec.ofNat 32 R.val))
      (val_main_v56 q k v d (ix3 n R C)) (Ideal.ofBits .f32 0x00000000#32) := by
  simp only [val_main_v57, val_main_call1_v0, val_main_call1_cst, val_main_v10_1, val_main_v9, val_main_v8, val_main_v7, val_main_v6, val_main_v5, val_main_v4, val_main_v3]
  generalize val_main_v56 q k v d = A
  pointwise
theorem pad_lanes (X : Vec Ideal S8192x8x96 .f32) (D : Fin 1024) :
    shapeCast S8192x1024 (pad S8192x8x128 ![0, 0, 0] ![0, 0, 32] ![0, 0, 0] X (sitofp (F := Ideal) .f32 (val_main_c (F := Ideal))) pads_S8192x8x96_S8192x8x128_000_000_0320 h_S_) shapeCasts_S8192x8x128_S8192x1024 (ix2 R D)
      = if h : D.val % 128 < 96 then X (ix3 R ⟨D.val / 128, by omega⟩ ⟨D.val % 128, h⟩) else 0 := by
  simp only [val_main_c]
  pointwise
  by_cases h : D.val % 128 < 96
  · rw [dif_pos h, dif_pos ⟨by omega, h⟩]
  · rw [dif_neg h, dif_neg (fun g => h g.2)]
    exact sitofp_zero
theorem r61 (l : Fin 96) : val_main_v61 q k v d (ix3 R n l) = ∑ C : Fin 8192, val_main_v57 q k v d (ix3 n R C) * k (ix3 C n l) := by
  simp only [val_main_v61, val_main_v60]
  generalize val_main_v57 q k v d = A
  pointwise
theorem r59 (l : Fin 96) : val_main_v59 q k v d (ix3 C n l) = ∑ R : Fin 8192, val_main_v57 q k v d (ix3 n R C) * (q (ix3 R n l) * Ideal.ofBits .f32 0x3DD105EC#32) := by
  simp only [val_main_v59, val_main_v58, val_main_v1, val_main_v0, val_main_cst]
  generalize val_main_v57 q k v d = A
  pointwise
theorem r63 (D : Fin 1024) : val_main_v63 q k v d (ix2 R D)
    = if h : D.val % 128 < 96 then val_main_v61 q k v d (ix3 R ⟨D.val / 128, by omega⟩ ⟨D.val % 128, h⟩) else 0 := by
  unfold val_main_v63 val_main_v62 val_main_call2_v0
  exact pad_lanes R _ D
theorem r65 (D : Fin 1024) : val_main_v65 q k v d (ix2 C D)
    = if h : D.val % 128 < 96 then val_main_v59 q k v d (ix3 C ⟨D.val / 128, by omega⟩ ⟨D.val % 128, h⟩) else 0 := by
  unfold val_main_v65 val_main_v64 val_main_call3_v0
  exact pad_lanes C _ D
theorem r66 (D : Fin 512) : val_main_v66 q k d (ix2 C D)
    = ∑ R : Fin 8192, d (ix3 R ⟨D.val / 64, by omega⟩ ⟨D.val % 64, by omega⟩) * val_main_v35 q k (ix3 ⟨D.val / 64, by omega⟩ R C) := by
  simp only [val_main_v66, val_main_v44, val_main_v43, val_main_v41]
  generalize val_main_v35 q k = A
  pointwise
end Read

end Cert.AttnRefIdeal.Val
-- ==== Proof.AttnTile.lean ====
/-
  The attention backward: one row block against one key block, element by element.
-/
module
public import proofs.«01_k».proof.Proof.AttnTrip
public import proofs.«01_k».proof.Proof.Lift
public import Idealize.ShloMosaic.Lib.Pointwise
@[expose] public section

set_option maxRecDepth 16384

noncomputable section

namespace Cert.AttnRun

open Cert.AttnBwdIdeal Cert.AttnBwdIdeal.Gen
open Idealize.ShloMosaic Idealize.SL.Sem

/-- A probability, recomputed from a score and the row's logarithm of the sum (column `o` of the row statistics). -/
def tP (o : Fin 128) (Q K : Vec Ideal S512x128 .bf16) (S : Vec Ideal S512x128 .f32) (r c : Fin 512) : EReal :=
  Ideal.exp ((∑ l : Fin 128, Q (ix2 r l) * K (ix2 c l)) - S (ix2 r o))
/-- The same on the diagonal block: nothing above the diagonal. -/
def tM (P : Fin 512 → Fin 512 → EReal) (r c : Fin 512) : EReal :=
  Scalar.select (IntOp.cmpi .sle (BitVec.ofNat 32 c.val) (BitVec.ofNat 32 r.val)) (P r c) 0
/-- A head's half of the lanes of the output's gradient. -/
def t0 (D : Vec Ideal S512x128 .bf16) (r : Fin 512) (l : Fin 128) : EReal :=
  Scalar.select (IntOp.cmpi .slt (BitVec.ofNat 32 l.val) 64#32) (D (ix2 r l)) 0
def t1 (D : Vec Ideal S512x128 .bf16) (r : Fin 512) (l : Fin 128) : EReal :=
  Scalar.select (IntOp.cmpi .sge (BitVec.ofNat 32 l.val) 64#32) (D (ix2 r l)) 0
/-- The score's gradient, from the row's product of output and its gradient (column `o`). -/
def tS (P : Fin 512 → Fin 512 → EReal) (E : Fin 512 → Fin 128 → EReal) (o : Fin 128) (V : Vec Ideal S512x128 .bf16) (S : Vec Ideal S512x128 .f32) (r c : Fin 512) : EReal :=
  P r c * ((∑ l : Fin 128, E r l * V (ix2 c l)) - S (ix2 r o))

theorem tM_eq (P : Fin 512 → Fin 512 → EReal) (r c : Fin 512) : tM P r c = if c.val ≤ r.val then P r c else 0 := by
  have h : (IntOp.cmpi .sle (BitVec.ofNat 32 c.val) (BitVec.ofNat 32 r.val) : BitVec 1) = if c.val ≤ r.val then 1#1 else 0#1 := by
    have hc := c.isLt; have hr := r.isLt
    have e1 : (BitVec.ofNat 32 c.val).toInt = c.val := by rw [BitVec.toInt_eq_toNat_of_lt] <;> simp <;> omega
    have e2 : (BitVec.ofNat 32 r.val).toInt = r.val := by rw [BitVec.toInt_eq_toNat_of_lt] <;> simp <;> omega
    simp only [IntOp.cmpi, BitVec.sle, e1, e2]
    by_cases h : c.val ≤ r.val <;> simp [h]
  unfold tM; rw [h]; split <;> rfl
theorem t0_eq (D : Vec Ideal S512x128 .bf16) (r : Fin 512) (l : Fin 128) : t0 D r l = if l.val < 64 then D (ix2 r l) else 0 := by
  have h : (IntOp.cmpi .slt (BitVec.ofNat 32 l.val) 64#32 : BitVec 1) = if l.val < 64 then 1#1 else 0#1 := by
    revert l; decide +kernel
  unfold t0; rw [h]; split <;> rfl
theorem t1_eq (D : Vec Ideal S512x128 .bf16) (r : Fin 512) (l : Fin 128) : t1 D r l = if 64 ≤ l.val then D (ix2 r l) else 0 := by
  have h : (IntOp.cmpi .sge (BitVec.ofNat 32 l.val) 64#32 : BitVec 1) = if 64 ≤ l.val then 1#1 else 0#1 := by
    revert l; decide +kernel
  unfold t1; rw [h]; split <;> rfl

variable (D Q0 Q1 K0 K1 V : Vec Ideal S512x128 .bf16) (S X : Vec Ideal S512x128 .f32)

set_option maxHeartbeats 1000000 in
theorem tile_b1_dk0 (c : Fin 512) (l : Fin 128) :
    (k0_pay20 (iota .tc S512x128 32 [1] iota_S512x128_d1_w32) D S Q0 K0 V X : Vec Ideal S512x128 .f32) (ix2 c l)
      = X (ix2 c l) + ∑ r : Fin 512, tS (tP 0 Q0 K0 S) (t0 D) 32 V S r c * Q0 (ix2 r l) := by
  unfold_payloads
  unfold tS tP t0
  pointwise

set_option maxHeartbeats 1000000 in
theorem tile_b1_dq0 (c : Fin 512) (l : Fin 128) :
    (k0_pay21 (k0_pay18 (iota .tc S512x128 32 [1] iota_S512x128_d1_w32) D S Q0 K0 V) X K0 : Vec Ideal S512x128 .f32) (ix2 c l)
      = X (ix2 c l) + ∑ k : Fin 512, tS (tP 0 Q0 K0 S) (t0 D) 32 V S c k * K0 (ix2 k l) := by
  unfold_payloads
  unfold tS tP t0
  pointwise

set_option maxHeartbeats 1000000 in
theorem tile_b1_dk1 (c : Fin 512) (l : Fin 128) :
    (k0_pay27 (iota .tc S512x128 32 [1] iota_S512x128_d1_w32) (k0_pay13 D) (k0_pay14 S) Q1 K1 V X : Vec Ideal S512x128 .f32) (ix2 c l)
      = X (ix2 c l) + ∑ r : Fin 512, tS (tP 64 Q1 K1 S) (t1 D) 96 V S r c * Q1 (ix2 r l) := by
  unfold_payloads
  unfold tS tP t1
  pointwise

set_option maxHeartbeats 1000000 in
theorem tile_b1_dq1 (c : Fin 512) (l : Fin 128) :
    (k0_pay28 (k0_pay25 (iota .tc S512x128 32 [1] iota_S512x128_d1_w32) (k0_pay13 D) (k0_pay14 S) Q1 K1 V) X K1 : Vec Ideal S512x128 .f32) (ix2 c l)
      = X (ix2 c l) + ∑ k : Fin 512, tS (tP 64 Q1 K1 S) (t1 D) 96 V S c k * K1 (ix2 k l) := by
  unfold_payloads
  unfold tS tP t1
  pointwise

set_option maxHeartbeats 1000000 in
theorem tile_b1_dv (c : Fin 512) (l : Fin 128) :
    (k0_pay29 (k0_pay26 (iota .tc S512x128 32 [1] iota_S512x128_d1_w32) (k0_pay13 D) (k0_pay14 S) (k0_pay19 (iota .tc S512x128 32 [1] iota_S512x128_d1_w32) D S Q0 K0) Q1 K1) X : Vec Ideal S512x128 .f32) (ix2 c l)
      = X (ix2 c l) + ((∑ r : Fin 512, (tP 0 Q0 K0 S) r c * t0 D r l) + ∑ r : Fin 512, (tP 64 Q1 K1 S) r c * t1 D r l) := by
  unfold_payloads
  unfold  tP t0 t1
  pointwise

set_option maxHeartbeats 1000000 in
theorem tile_b2_dk0 (c : Fin 512) (l : Fin 128) :
    (k0_pay40 (k0_pay32 Q0) (k0_pay33 (iota .tc S512x128 32 [1] iota_S512x128_d1_w32) D) (k0_pay34 S) (k0_pay35 S) (k0_pay36 K0) (constant S512x512 .f32 0x00000000#32) V X : Vec Ideal S512x128 .f32) (ix2 c l)
      = X (ix2 c l) + ∑ r : Fin 512, tS (tP 0 Q0 K0 S) (t0 D) 32 V S r c * Q0 (ix2 r l) := by
  unfold_payloads
  unfold tS tP t0
  pointwise

set_option maxHeartbeats 1000000 in
theorem tile_b2_dq0 (c : Fin 512) (l : Fin 128) :
    (k0_pay41 (k0_pay32 Q0) (k0_pay33 (iota .tc S512x128 32 [1] iota_S512x128_d1_w32) D) (k0_pay34 S) (k0_pay35 S) (k0_pay36 K0) (constant S512x512 .f32 0x00000000#32) V X K0 : Vec Ideal S512x128 .f32) (ix2 c l)
      = X (ix2 c l) + ∑ k : Fin 512, tS (tP 0 Q0 K0 S) (t0 D) 32 V S c k * K0 (ix2 k l) := by
  unfold_payloads
  unfold tS tP t0
  pointwise

set_option maxHeartbeats 1000000 in
theorem tile_b2_dk1 (c : Fin 512) (l : Fin 128) :
    (k0_pay3 (k0_pay42 Q1) (k0_pay43 (iota .tc S512x128 32 [1] iota_S512x128_d1_w32) (k0_pay30 D)) (k0_pay44 (k0_pay31 S)) (k0_pay45 (k0_pay31 S)) (k0_pay46 K1) (constant S512x512 .f32 0x00000000#32) V X : Vec Ideal S512x128 .f32) (ix2 c l)
      = X (ix2 c l) + ∑ r : Fin 512, tS (tP 64 Q1 K1 S) (t1 D) 96 V S r c * Q1 (ix2 r l) := by
  unfold_payloads
  unfold tS tP t1
  pointwise

set_option maxHeartbeats 1000000 in
theorem tile_b2_dq1 (c : Fin 512) (l : Fin 128) :
    (k0_pay4 (k0_pay42 Q1) (k0_pay43 (iota .tc S512x128 32 [1] iota_S512x128_d1_w32) (k0_pay30 D)) (k0_pay44 (k0_pay31 S)) (k0_pay45 (k0_pay31 S)) (k0_pay46 K1) (constant S512x512 .f32 0x00000000#32) V X K1 : Vec Ideal S512x128 .f32) (ix2 c l)
      = X (ix2 c l) + ∑ k : Fin 512, tS (tP 64 Q1 K1 S) (t1 D) 96 V S c k * K1 (ix2 k l) := by
  unfold_payloads
  unfold tS tP t1
  pointwise

set_option maxHeartbeats 1000000 in
theorem tile_b2_dv (c : Fin 512) (l : Fin 128) :
    (k0_pay5 (k0_pay39 (k0_pay32 Q0) (k0_pay33 (iota .tc S512x128 32 [1] iota_S512x128_d1_w32) D) (k0_pay34 S) (k0_pay36 K0) (constant S512x512 .f32 0x00000000#32)) (k0_pay42 Q1) (k0_pay43 (iota .tc S512x128 32 [1] iota_S512x128_d1_w32) (k0_pay30 D)) (k0_pay44 (k0_pay31 S)) (k0_pay46 K1) (constant S512x512 .f32 0x00000000#32) X : Vec Ideal S512x128 .f32) (ix2 c l)
      = X (ix2 c l) + ((∑ r : Fin 512, (tP 0 Q0 K0 S) r c * t0 D r l) + ∑ r : Fin 512, (tP 64 Q1 K1 S) r c * t1 D r l) := by
  unfold_payloads
  unfold  tP t0 t1
  pointwise

set_option maxHeartbeats 1000000 in
theorem tile_t_dk0 (c : Fin 512) (l : Fin 128) :
    (k0_pay88 (iota .tc S512x128 32 [1] iota_S512x128_d1_w32) D S Q0 K0 V X : Vec Ideal S512x128 .f32) (ix2 c l)
      = X (ix2 c l) + ∑ r : Fin 512, tS (tP 0 Q0 K0 S) (t0 D) 32 V S r c * Q0 (ix2 r l) := by
  unfold_payloads
  unfold tS tP t0
  pointwise

set_option maxHeartbeats 1000000 in
theorem tile_t_dq0 (c : Fin 512) (l : Fin 128) :
    (k0_pay90 (k0_pay86 (iota .tc S512x128 32 [1] iota_S512x128_d1_w32) D S Q0 K0 V) (k0_pay89 X) K0 : Vec Ideal S512x128 .f32) (ix2 c l)
      = X (ix2 c l) + ∑ k : Fin 512, tS (tP 0 Q0 K0 S) (t0 D) 32 V S c k * K0 (ix2 k l) := by
  unfold_payloads
  unfold tS tP t0
  pointwise

set_option maxHeartbeats 1000000 in
theorem tile_t_dk1 (c : Fin 512) (l : Fin 128) :
    (k0_pay96 (iota .tc S512x128 32 [1] iota_S512x128_d1_w32) (k0_pay81 D) (k0_pay82 S) Q1 K1 V X : Vec Ideal S512x128 .f32) (ix2 c l)
      = X (ix2 c l) + ∑ r : Fin 512, tS (tP 64 Q1 K1 S) (t1 D) 96 V S r c * Q1 (ix2 r l) := by
  unfold_payloads
  unfold tS tP t1
  pointwise

set_option maxHeartbeats 1000000 in
theorem tile_t_dq1 (c : Fin 512) (l : Fin 128) :
    (k0_pay11 (k0_pay94 (iota .tc S512x128 32 [1] iota_S512x128_d1_w32) (k0_pay81 D) (k0_pay82 S) Q1 K1 V) (k0_pay97 X) K1 : Vec Ideal S512x128 .f32) (ix2 c l)
      = X (ix2 c l) + ∑ k : Fin 512, tS (tP 64 Q1 K1 S) (t1 D) 96 V S c k * K1 (ix2 k l) := by
  unfold_payloads
  unfold tS tP t1
  pointwise

set_option maxHeartbeats 1000000 in
theorem tile_t_dv (c : Fin 512) (l : Fin 128) :
    (k0_pay12 (k0_pay95 (iota .tc S512x128 32 [1] iota_S512x128_d1_w32) (k0_pay81 D) (k0_pay82 S) (k0_pay87 (iota .tc S512x128 32 [1] iota_S512x128_d1_w32) D S Q0 K0) Q1 K1) X : Vec Ideal S512x128 .f32) (ix2 c l)
      = X (ix2 c l) + ((∑ r : Fin 512, (tP 0 Q0 K0 S) r c * t0 D r l) + ∑ r : Fin 512, (tP 64 Q1 K1 S) r c * t1 D r l) := by
  unfold_payloads
  unfold  tP t0 t1
  pointwise

set_option maxHeartbeats 1000000 in
theorem tile_d_dk0 (c : Fin 512) (l : Fin 128) :
    (k0_pay109 (k0_pay103 Q0) (k0_pay104 D) (k0_pay105 S) (k0_pay106 S Q0 K0) V X : Vec Ideal S512x128 .f32) (ix2 c l)
      = X (ix2 c l) + ∑ r : Fin 512, tS (tM (tP 0 Q0 K0 S)) (t0 D) 32 V S r c * Q0 (ix2 r l) := by
  unfold_payloads
  unfold tS tM tP t0
  pointwise

set_option maxHeartbeats 1000000 in
theorem tile_d_dq0 (c : Fin 512) (l : Fin 128) :
    (k0_pay110 (k0_pay104 D) (k0_pay105 S) (k0_pay106 S Q0 K0) V X K0 : Vec Ideal S512x128 .f32) (ix2 c l)
      = X (ix2 c l) + ∑ k : Fin 512, tS (tM (tP 0 Q0 K0 S)) (t0 D) 32 V S c k * K0 (ix2 k l) := by
  unfold_payloads
  unfold tS tM tP t0
  pointwise

set_option maxHeartbeats 1000000 in
theorem tile_d_dk1 (c : Fin 512) (l : Fin 128) :
    (k0_pay118 (k0_pay111 Q1) (k0_pay112 (iota .tc S512x128 32 [1] iota_S512x128_d1_w32) (k0_pay101 D)) (k0_pay113 (k0_pay102 S)) (k0_pay114 (k0_pay102 S) Q1 K1) (k0_pay115 (iota .tc S512x512 32 [0] iota_S512x512_d0_w32) (iota .tc S512x512 32 [1] iota_S512x512_d1_w32)) V X : Vec Ideal S512x128 .f32) (ix2 c l)
      = X (ix2 c l) + ∑ r : Fin 512, tS (tM (tP 64 Q1 K1 S)) (t1 D) 96 V S r c * Q1 (ix2 r l) := by
  unfold_payloads
  unfold tS tM tP t1
  pointwise

set_option maxHeartbeats 1000000 in
theorem tile_d_dq1 (c : Fin 512) (l : Fin 128) :
    (k0_pay119 (k0_pay112 (iota .tc S512x128 32 [1] iota_S512x128_d1_w32) (k0_pay101 D)) (k0_pay113 (k0_pay102 S)) (k0_pay114 (k0_pay102 S) Q1 K1) (k0_pay115 (iota .tc S512x512 32 [0] iota_S512x512_d0_w32) (iota .tc S512x512 32 [1] iota_S512x512_d1_w32)) V X K1 : Vec Ideal S512x128 .f32) (ix2 c l)
      = X (ix2 c l) + ∑ k : Fin 512, tS (tM (tP 64 Q1 K1 S)) (t1 D) 96 V S c k * K1 (ix2 k l) := by
  unfold_payloads
  unfold tS tM tP t1
  pointwise

set_option maxHeartbeats 1000000 in
theorem tile_d_dv (c : Fin 512) (l : Fin 128) :
    (k0_pay120 (k0_pay108 (k0_pay104 D) (k0_pay106 S Q0 K0)) (k0_pay112 (iota .tc S512x128 32 [1] iota_S512x128_d1_w32) (k0_pay101 D)) (k0_pay114 (k0_pay102 S) Q1 K1) (k0_pay115 (iota .tc S512x512 32 [0] iota_S512x512_d0_w32) (iota .tc S512x512 32 [1] iota_S512x512_d1_w32)) X : Vec Ideal S512x128 .f32) (ix2 c l)
      = X (ix2 c l) + ((∑ r : Fin 512, (tM (tP 0 Q0 K0 S)) r c * t0 D r l) + ∑ r : Fin 512, (tM (tP 64 Q1 K1 S)) r c * t1 D r l) := by
  unfold_payloads
  unfold  tM tP t0 t1
  pointwise

end Cert.AttnRun
-- ==== Proof.AttnRows.lean ====
/-
  The attention backward: what one row block adds to the three outputs, by rows of the whole buffers.
-/
module
public import proofs.«01_k».proof.Proof.AttnTile
public import Idealize.ShloMosaic.Lib.VecWindow
@[expose] public section

set_option maxRecDepth 16384

noncomputable section

namespace Cert.AttnRun

open Cert.AttnBwdIdeal Cert.AttnBwdIdeal.Gen
open Idealize.ShloMosaic Idealize.SL.Sem

/-- Row `r` of block `b`, lane `l` of half `a`. -/
abbrev row (b : Fin 16) (r : Fin 512) : Fin 8192 := ⟨b.val * 512 + r.val, by omega⟩
abbrev col (a : Fin 2) (l : Fin 128) : Fin 256 := ⟨a.val * 128 + l.val, by omega⟩
abbrev stL (a : Fin 2) : Fin 128 := ⟨a.val * 64, by omega⟩
abbrev stD (a : Fin 2) : Fin 128 := ⟨a.val * 64 + 32, by omega⟩

/-- Tiles of the buffers. -/
def TD {e : EltTy} (x : Vec Ideal S8192x128 e) (b : Fin 16) : Vec Ideal S512x128 e := fun y => x (ix2 (row b (y 0)) (y 1))
def TQ {e : EltTy} (x : Vec Ideal S8192x256 e) (b : Fin 16) (a : Fin 2) : Vec Ideal S512x128 e := fun y => x (ix2 (row b (y 0)) (col a (y 1)))
def TK {e : EltTy} (x : Vec Ideal S512x256 e) (a : Fin 2) : Vec Ideal S512x128 e := fun y => x (ix2 (y 0) (col a (y 1)))

section Read

variable {sig : RefSig} {κ : Kind} {sp : Space} {e : EltTy}

theorem ix2_eta {n m : ℕ} (x : (Shape.mk 2 ![n, m]).Idx) : ix2 (x 0) (x 1) = x := by
  funext a; revert a; exact Fin.forall_fin_two.mpr ⟨rfl, rfl⟩

theorem ext2 {n m : ℕ} {α : Type} {f g : (Shape.mk 2 ![n, m]).Idx → α} (h : ∀ (r : Fin n) (c : Fin m), f (ix2 r c) = g (ix2 r c)) : f = g := by
  funext x
  have e := ix2_eta x
  rw [← e]; exact h _ _

theorem ldD (v : View sig κ sp S8192x128 e) (f : v.ty.Contents (Elt Ideal)) {off : Fin 2 → ℕ} (inb) (b : Fin 16) (h : off = ![b.val * 512, 0]) :
    v.readAt (Elt Ideal) (Rect.unit (s := S8192x128) off S512x128.size inb).toLoadRect f = TD (v.read (Elt Ideal) f) b := by
  subst h; funext y
  exact congrArg (v.read (Elt Ideal) f) (funext (Fin.forall_fin_two.mpr ⟨Fin.ext (by show b.val * 512 + 1 * (y 0).val = _; simp [ix2]), Fin.ext (by show 0 + 1 * (y 1).val = _; simp [ix2])⟩))
theorem ldQ (v : View sig κ sp S8192x256 e) (f : v.ty.Contents (Elt Ideal)) {off : Fin 2 → ℕ} (inb) (b : Fin 16) (a : Fin 2) (h : off = ![b.val * 512, a.val * 128]) :
    v.readAt (Elt Ideal) (Rect.unit (s := S8192x256) off S512x128.size inb).toLoadRect f = TQ (v.read (Elt Ideal) f) b a := by
  subst h; funext y
  exact congrArg (v.read (Elt Ideal) f) (funext (Fin.forall_fin_two.mpr ⟨Fin.ext (by show b.val * 512 + 1 * (y 0).val = _; simp [ix2]), Fin.ext (by show a.val * 128 + 1 * (y 1).val = _; simp [ix2])⟩))
theorem ldK (v : View sig κ sp S512x256 e) (f : v.ty.Contents (Elt Ideal)) {off : Fin 2 → ℕ} (inb) (a : Fin 2) (h : off = ![0, a.val * 128]) :
    v.readAt (Elt Ideal) (Rect.unit (s := S512x256) off S512x128.size inb).toLoadRect f = TK (v.read (Elt Ideal) f) a := by
  subst h; funext y
  exact congrArg (v.read (Elt Ideal) f) (funext (Fin.forall_fin_two.mpr ⟨Fin.ext (by show 0 + 1 * (y 0).val = _; simp [ix2]), Fin.ext (by show a.val * 128 + 1 * (y 1).val = _; simp [ix2])⟩))

end Read

variable (x2 : Vec Ideal S8192x256 .bf16) (x3 : Vec Ideal S512x256 .bf16) (x4 : Vec Ideal S512x128 .bf16) (x5 : Vec Ideal S8192x128 .bf16) (x6 : Vec Ideal S8192x128 .f32)

/-- A probability of row `R` at column `c` of key block `j`: nothing above the diagonal. -/
def pJ (a : Fin 2) (j : Fin 16) (R : Fin 8192) (c : Fin 512) : EReal :=
  if j.val * 512 + c.val ≤ R.val then Ideal.exp ((∑ l : Fin 128, x2 (ix2 R (col a l)) * x3 (ix2 c (col a l))) - x6 (ix2 R (stL a))) else 0
def eR (a : Fin 2) (R : Fin 8192) (l : Fin 128) : EReal := if l.val / 64 = a.val then x5 (ix2 R l) else 0
def sJ (a : Fin 2) (j : Fin 16) (R : Fin 8192) (c : Fin 512) : EReal :=
  pJ x2 x3 x6 a j R c * ((∑ l : Fin 128, eR x5 a R l * x4 (ix2 c l)) - x6 (ix2 R (stD a)))
def half (C : Fin 256) : Fin 2 := ⟨C.val / 128, by omega⟩

/-- What a row block adds to the query's, the key's and the value's gradient. -/
def incQ (j : Fin 16) (R : Fin 8192) (C : Fin 256) : EReal := ∑ c : Fin 512, sJ x2 x3 x4 x5 x6 (half C) j R c * x3 (ix2 c C)
def incK (j b : Fin 16) (c : Fin 512) (C : Fin 256) : EReal := ∑ r : Fin 512, sJ x2 x3 x4 x5 x6 (half C) j (row b r) c * x2 (ix2 (row b r) C)
def incV (j b : Fin 16) (c : Fin 512) (l : Fin 128) : EReal :=
  (∑ r : Fin 512, pJ x2 x3 x6 0 j (row b r) c * eR x5 0 (row b r) l) + ∑ r : Fin 512, pJ x2 x3 x6 1 j (row b r) c * eR x5 1 (row b r) l

/-- The outputs after row block `b`. -/
def stQ (j b : Fin 16) (x : Vec Ideal S8192x256 .f32) : Vec Ideal S8192x256 .f32 :=
  fun y => if (y 0).val / 512 = b.val then x y + incQ x2 x3 x4 x5 x6 j (y 0) (y 1) else x y
def stK (j b : Fin 16) (x : Vec Ideal S512x256 .f32) : Vec Ideal S512x256 .f32 :=
  fun y => x y + incK x2 x3 x4 x5 x6 j b (y 0) (y 1)
def stV (j b : Fin 16) (x : Vec Ideal S512x128 .f32) : Vec Ideal S512x128 .f32 :=
  fun y => x y + incV x2 x3 x5 x6 j b (y 0) (y 1)

/-! The tiles' functions are the rows' functions. -/

theorem tP_row (a : Fin 2) (j b : Fin 16) (h : j < b) (r c : Fin 512) :
    tP (stL a) (TQ x2 b a) (TK x3 a) (TD x6 b) r c = pJ x2 x3 x6 a j (row b r) c := by
  unfold pJ
  rw [if_pos (by have := Fin.lt_def.mp h; show j.val * 512 + c.val ≤ b.val * 512 + r.val; omega)]
  rfl
theorem tM_row (a : Fin 2) (j : Fin 16) (r c : Fin 512) :
    tM (tP (stL a) (TQ x2 j a) (TK x3 a) (TD x6 j)) r c = pJ x2 x3 x6 a j (row j r) c := by
  rw [tM_eq]; unfold pJ
  by_cases h : c.val ≤ r.val
  · rw [if_pos h, if_pos (by show j.val * 512 + c.val ≤ j.val * 512 + r.val; omega)]; rfl
  · rw [if_neg h, if_neg (by show ¬ j.val * 512 + c.val ≤ j.val * 512 + r.val; omega)]
theorem t0_row (b : Fin 16) (r : Fin 512) (l : Fin 128) : t0 (TD x5 b) r l = eR x5 0 (row b r) l := by
  rw [t0_eq]; unfold eR
  by_cases h : l.val < 64
  · rw [if_pos h, if_pos (show l.val / 64 = (0 : Fin 2).val by show l.val / 64 = 0; omega)]; rfl
  · rw [if_neg h, if_neg (show ¬ l.val / 64 = (0 : Fin 2).val by show ¬ l.val / 64 = 0; omega)]
theorem t1_row (b : Fin 16) (r : Fin 512) (l : Fin 128) : t1 (TD x5 b) r l = eR x5 1 (row b r) l := by
  rw [t1_eq]; unfold eR
  by_cases h : 64 ≤ l.val
  · rw [if_pos h, if_pos (show l.val / 64 = (1 : Fin 2).val by show l.val / 64 = 1; omega)]; rfl
  · rw [if_neg h, if_neg (show ¬ l.val / 64 = (1 : Fin 2).val by show ¬ l.val / 64 = 1; omega)]
theorem tS_row (a : Fin 2) (j b : Fin 16) (P : Fin 512 → Fin 512 → EReal) (E : Fin 512 → Fin 128 → EReal)
    (hP : ∀ r c, P r c = pJ x2 x3 x6 a j (row b r) c) (hE : ∀ r l, E r l = eR x5 a (row b r) l) (r c : Fin 512) :
    tS P E (stD a) x4 (TD x6 b) r c = sJ x2 x3 x4 x5 x6 a j (row b r) c := by
  unfold tS sJ; rw [hP]; simp only [hE]; rfl

/-! Two halves put side by side. -/

theorem half_col (a : Fin 2) (l : Fin 128) : half (col a l) = a := Fin.ext (by show (a.val * 128 + l.val) / 128 = a.val; omega)

theorem joinQ (j b : Fin 16) (x : Vec Ideal S8192x256 .f32) (u0 u1 : Vec Ideal S512x128 .f32)
    (h0 : ∀ r l, u0 (ix2 r l) = TQ x b 0 (ix2 r l) + incQ x2 x3 x4 x5 x6 j (row b r) (col 0 l))
    (h1 : ∀ r l, u1 (ix2 r l) = TQ x b 1 (ix2 r l) + incQ x2 x3 x4 x5 x6 j (row b r) (col 1 l)) :
    VecWindow.put (VecWindow.put x ![b.val * 512, 0] S512x128.size u0) ![b.val * 512, 128] S512x128.size u1 = stQ x2 x3 x4 x5 x6 j b x := by
  refine ext2 (n := 8192) (m := 256) fun R C => ?_
  show _ = if R.val / 512 = b.val then x (ix2 R C) + incQ x2 x3 x4 x5 x6 j R C else x (ix2 R C)
  by_cases hR : R.val / 512 = b.val
  · rw [if_pos hR]
    by_cases hC : C.val < 128
    · have hr : R = row b ⟨R.val - b.val * 512, by omega⟩ := Fin.ext (by show R.val = b.val * 512 + (R.val - b.val * 512); omega)
      have hc : C = col 0 ⟨C.val, hC⟩ := Fin.ext (by show C.val = 0 * 128 + C.val; omega)
      unfold VecWindow.put
      rw [dif_neg (fun h => by have := (h 1).1; change 128 ≤ C.val at this; omega),
        dif_pos (Fin.forall_fin_two.mpr ⟨⟨show b.val * 512 ≤ R.val by omega, show R.val < b.val * 512 + 512 by omega⟩, ⟨Nat.zero_le _, show C.val < 0 + 128 by omega⟩⟩)]
      refine Eq.trans (b := u0 (ix2 ⟨R.val - b.val * 512, by omega⟩ ⟨C.val, hC⟩)) (congrArg u0 (funext (Fin.forall_fin_two.mpr ⟨rfl, rfl⟩))) ((h0 _ _).trans ?_)
      rw [← hr, ← hc]
      exact congrArg₂ _ (congrArg x (congrArg₂ ix2 hr.symm hc.symm)) rfl
    · have hr : R = row b ⟨R.val - b.val * 512, by omega⟩ := Fin.ext (by show R.val = b.val * 512 + (R.val - b.val * 512); omega)
      have hc : C = col 1 ⟨C.val - 128, by omega⟩ := Fin.ext (by show C.val = 1 * 128 + (C.val - 128); omega)
      unfold VecWindow.put
      rw [dif_pos (Fin.forall_fin_two.mpr ⟨⟨show b.val * 512 ≤ R.val by omega, show R.val < b.val * 512 + 512 by omega⟩, ⟨show 128 ≤ C.val by omega, show C.val < 128 + 128 by omega⟩⟩)]
      refine Eq.trans (b := u1 (ix2 ⟨R.val - b.val * 512, by omega⟩ ⟨C.val - 128, by omega⟩)) (congrArg u1 (funext (Fin.forall_fin_two.mpr ⟨rfl, rfl⟩))) ((h1 _ _).trans ?_)
      rw [← hr, ← hc]
      exact congrArg₂ _ (congrArg x (congrArg₂ ix2 hr.symm hc.symm)) rfl
  · rw [if_neg hR]
    unfold VecWindow.put
    rw [dif_neg (fun h => by have := h 0; change b.val * 512 ≤ R.val ∧ R.val < b.val * 512 + 512 at this; omega),
      dif_neg (fun h => by have := h 0; change b.val * 512 ≤ R.val ∧ R.val < b.val * 512 + 512 at this; omega)]

theorem putK (x : Vec Ideal S512x256 .f32) (u0 u1 : Vec Ideal S512x128 .f32) (c : Fin 512) (C : Fin 256) :
    VecWindow.put (VecWindow.put x ![0, 0] S512x128.size u0) ![0, 128] S512x128.size u1 (ix2 c C)
      = if h : C.val < 128 then u0 (ix2 c ⟨C.val, h⟩) else u1 (ix2 c ⟨C.val - 128, by omega⟩) := by
  by_cases hC : C.val < 128
  · rw [dif_pos hC]
    unfold VecWindow.put
    rw [dif_neg (fun h => by have := (h 1).1; change 128 ≤ C.val at this; omega),
      dif_pos (Fin.forall_fin_two.mpr ⟨⟨Nat.zero_le _, show c.val < 0 + 512 by omega⟩, ⟨Nat.zero_le _, show C.val < 0 + 128 by omega⟩⟩)]
    exact congrArg u0 (funext (Fin.forall_fin_two.mpr ⟨rfl, rfl⟩))
  · rw [dif_neg hC]
    unfold VecWindow.put
    rw [dif_pos (Fin.forall_fin_two.mpr ⟨⟨Nat.zero_le _, show c.val < 0 + 512 by omega⟩, ⟨show 128 ≤ C.val by omega, show C.val < 128 + 128 by omega⟩⟩)]
    exact congrArg u1 (funext (Fin.forall_fin_two.mpr ⟨rfl, rfl⟩))

theorem TK_put0 (x : Vec Ideal S512x256 .f32) (u0 u1 : Vec Ideal S512x128 .f32) :
    TK (VecWindow.put (VecWindow.put x ![0, 0] S512x128.size u0) ![0, 128] S512x128.size u1) 0 = u0 := by
  refine ext2 (n := 512) (m := 128) fun c l => ?_
  refine (putK x u0 u1 c (col 0 l)).trans ?_
  rw [dif_pos (show (col 0 l).val < 128 by show 0 * 128 + l.val < 128; omega)]
  exact congrArg u0 (congrArg (ix2 c) (Fin.ext (by show 0 * 128 + l.val = l.val; omega)))
theorem TK_put1 (x : Vec Ideal S512x256 .f32) (u0 u1 : Vec Ideal S512x128 .f32) :
    TK (VecWindow.put (VecWindow.put x ![0, 0] S512x128.size u0) ![0, 128] S512x128.size u1) 1 = u1 := by
  refine ext2 (n := 512) (m := 128) fun c l => ?_
  refine (putK x u0 u1 c (col 1 l)).trans ?_
  rw [dif_neg (show ¬ (col 1 l).val < 128 by show ¬ 1 * 128 + l.val < 128; omega)]
  exact congrArg u1 (congrArg (ix2 c) (Fin.ext (by show 1 * 128 + l.val - 128 = l.val; omega)))
theorem TK_putl (x : Vec Ideal S512x256 .f32) (u0 : Vec Ideal S512x128 .f32) :
    TK (VecWindow.put x ![0, 0] S512x128.size u0) 1 = TK x 1 := by
  funext y
  unfold TK VecWindow.put
  rw [dif_neg (fun h => by have := (h 1).2; change 1 * 128 + (y 1).val < 0 + 128 at this; omega)]

theorem joinK (j b : Fin 16) (x z : Vec Ideal S512x256 .f32) (u0 u1 : Vec Ideal S512x128 .f32)
    (h0 : ∀ r l, u0 (ix2 r l) = TK x 0 (ix2 r l) + incK x2 x3 x4 x5 x6 j b r (col 0 l))
    (h1 : ∀ r l, u1 (ix2 r l) = TK x 1 (ix2 r l) + incK x2 x3 x4 x5 x6 j b r (col 1 l)) :
    VecWindow.put (VecWindow.put z ![0, 0] S512x128.size u0) ![0, 128] S512x128.size u1 = stK x2 x3 x4 x5 x6 j b x := by
  refine ext2 (n := 512) (m := 256) fun c C => ?_
  refine (putK z u0 u1 c C).trans ?_
  show _ = x (ix2 c C) + incK x2 x3 x4 x5 x6 j b c C
  by_cases hC : C.val < 128
  · have hc : C = col 0 ⟨C.val, hC⟩ := Fin.ext (by show C.val = 0 * 128 + C.val; omega)
    rw [dif_pos hC, h0, ← hc]
    unfold TK
    exact congrArg₂ _ (congrArg x (congrArg (ix2 c) hc.symm)) rfl
  · have hc : C = col 1 ⟨C.val - 128, by omega⟩ := Fin.ext (by show C.val = 1 * 128 + (C.val - 128); omega)
    rw [dif_neg hC, h1, ← hc]
    unfold TK
    exact congrArg₂ _ (congrArg x (congrArg (ix2 c) hc.symm)) rfl

theorem joinV (j b : Fin 16) (x u : Vec Ideal S512x128 .f32)
    (h : ∀ c l, u (ix2 c l) = x (ix2 c l) + incV x2 x3 x5 x6 j b c l) : u = stV x2 x3 x5 x6 j b x := by
  exact ext2 (n := 512) (m := 128) fun c l => h c l

end Cert.AttnRun
-- ==== Proof.AttnBlocks.lean ====
/-
  The attention backward: each of the four printed copies of a block's arithmetic, on the buffers' tiles.
-/
module
public import proofs.«01_k».proof.Proof.AttnRows
@[expose] public section

set_option maxRecDepth 16384

noncomputable section

namespace Cert.AttnRun

open Cert.AttnBwdIdeal Cert.AttnBwdIdeal.Gen
open Idealize.ShloMosaic Idealize.SL.Sem

variable (x2 : Vec Ideal S8192x256 .bf16) (x3 : Vec Ideal S512x256 .bf16) (x4 : Vec Ideal S512x128 .bf16) (x5 : Vec Ideal S8192x128 .bf16) (x6 : Vec Ideal S8192x128 .f32)

theorem sumQ_u0 (j b : Fin 16) (hj : j < b) (r : Fin 512) (l : Fin 128) :
    (∑ k : Fin 512, tS (tP 0 (TQ x2 b 0) (TK x3 0) (TD x6 b)) (t0 (TD x5 b)) 32 x4 (TD x6 b) r k * TK x3 0 (ix2 k l)) = incQ x2 x3 x4 x5 x6 j (row b r) (col 0 l) := by
  unfold incQ; rw [half_col]
  exact Finset.sum_congr rfl fun k _ => congrArg₂ _ (tS_row x2 x3 x4 x5 x6 0 j b _ _ (tP_row x2 x3 x6 0 j b hj) (t0_row x5 b) r k) rfl
theorem sumK_u0 (j b : Fin 16) (hj : j < b) (c : Fin 512) (l : Fin 128) :
    (∑ r : Fin 512, tS (tP 0 (TQ x2 b 0) (TK x3 0) (TD x6 b)) (t0 (TD x5 b)) 32 x4 (TD x6 b) r c * TQ x2 b 0 (ix2 r l)) = incK x2 x3 x4 x5 x6 j b c (col 0 l) := by
  unfold incK; rw [half_col]
  exact Finset.sum_congr rfl fun r _ => congrArg₂ _ (tS_row x2 x3 x4 x5 x6 0 j b _ _ (tP_row x2 x3 x6 0 j b hj) (t0_row x5 b) r c) rfl
theorem sumQ_u1 (j b : Fin 16) (hj : j < b) (r : Fin 512) (l : Fin 128) :
    (∑ k : Fin 512, tS (tP 64 (TQ x2 b 1) (TK x3 1) (TD x6 b)) (t1 (TD x5 b)) 96 x4 (TD x6 b) r k * TK x3 1 (ix2 k l)) = incQ x2 x3 x4 x5 x6 j (row b r) (col 1 l) := by
  unfold incQ; rw [half_col]
  exact Finset.sum_congr rfl fun k _ => congrArg₂ _ (tS_row x2 x3 x4 x5 x6 1 j b _ _ (tP_row x2 x3 x6 1 j b hj) (t1_row x5 b) r k) rfl
theorem sumK_u1 (j b : Fin 16) (hj : j < b) (c : Fin 512) (l : Fin 128) :
    (∑ r : Fin 512, tS (tP 64 (TQ x2 b 1) (TK x3 1) (TD x6 b)) (t1 (TD x5 b)) 96 x4 (TD x6 b) r c * TQ x2 b 1 (ix2 r l)) = incK x2 x3 x4 x5 x6 j b c (col 1 l) := by
  unfold incK; rw [half_col]
  exact Finset.sum_congr rfl fun r _ => congrArg₂ _ (tS_row x2 x3 x4 x5 x6 1 j b _ _ (tP_row x2 x3 x6 1 j b hj) (t1_row x5 b) r c) rfl
theorem sumV_u (j b : Fin 16) (hj : j < b) (c : Fin 512) (l : Fin 128) :
    ((∑ r : Fin 512, (tP 0 (TQ x2 b 0) (TK x3 0) (TD x6 b)) r c * t0 (TD x5 b) r l) + ∑ r : Fin 512, (tP 64 (TQ x2 b 1) (TK x3 1) (TD x6 b)) r c * t1 (TD x5 b) r l) = incV x2 x3 x5 x6 j b c l := by
  unfold incV
  exact congrArg₂ _ (Finset.sum_congr rfl fun r _ => congrArg₂ _ (tP_row x2 x3 x6 0 j b hj r c) (t0_row x5 b r l)) (Finset.sum_congr rfl fun r _ => congrArg₂ _ (tP_row x2 x3 x6 1 j b hj r c) (t1_row x5 b r l))

theorem sumQ_d0 (b : Fin 16) (r : Fin 512) (l : Fin 128) :
    (∑ k : Fin 512, tS (tM (tP 0 (TQ x2 b 0) (TK x3 0) (TD x6 b))) (t0 (TD x5 b)) 32 x4 (TD x6 b) r k * TK x3 0 (ix2 k l)) = incQ x2 x3 x4 x5 x6 b (row b r) (col 0 l) := by
  unfold incQ; rw [half_col]
  exact Finset.sum_congr rfl fun k _ => congrArg₂ _ (tS_row x2 x3 x4 x5 x6 0 b b _ _ (tM_row x2 x3 x6 0 b) (t0_row x5 b) r k) rfl
theorem sumK_d0 (b : Fin 16) (c : Fin 512) (l : Fin 128) :
    (∑ r : Fin 512, tS (tM (tP 0 (TQ x2 b 0) (TK x3 0) (TD x6 b))) (t0 (TD x5 b)) 32 x4 (TD x6 b) r c * TQ x2 b 0 (ix2 r l)) = incK x2 x3 x4 x5 x6 b b c (col 0 l) := by
  unfold incK; rw [half_col]
  exact Finset.sum_congr rfl fun r _ => congrArg₂ _ (tS_row x2 x3 x4 x5 x6 0 b b _ _ (tM_row x2 x3 x6 0 b) (t0_row x5 b) r c) rfl
theorem sumQ_d1 (b : Fin 16) (r : Fin 512) (l : Fin 128) :
    (∑ k : Fin 512, tS (tM (tP 64 (TQ x2 b 1) (TK x3 1) (TD x6 b))) (t1 (TD x5 b)) 96 x4 (TD x6 b) r k * TK x3 1 (ix2 k l)) = incQ x2 x3 x4 x5 x6 b (row b r) (col 1 l) := by
  unfold incQ; rw [half_col]
  exact Finset.sum_congr rfl fun k _ => congrArg₂ _ (tS_row x2 x3 x4 x5 x6 1 b b _ _ (tM_row x2 x3 x6 1 b) (t1_row x5 b) r k) rfl
theorem sumK_d1 (b : Fin 16) (c : Fin 512) (l : Fin 128) :
    (∑ r : Fin 512, tS (tM (tP 64 (TQ x2 b 1) (TK x3 1) (TD x6 b))) (t1 (TD x5 b)) 96 x4 (TD x6 b) r c * TQ x2 b 1 (ix2 r l)) = incK x2 x3 x4 x5 x6 b b c (col 1 l) := by
  unfold incK; rw [half_col]
  exact Finset.sum_congr rfl fun r _ => congrArg₂ _ (tS_row x2 x3 x4 x5 x6 1 b b _ _ (tM_row x2 x3 x6 1 b) (t1_row x5 b) r c) rfl
theorem sumV_d (b : Fin 16) (c : Fin 512) (l : Fin 128) :
    ((∑ r : Fin 512, (tM (tP 0 (TQ x2 b 0) (TK x3 0) (TD x6 b))) r c * t0 (TD x5 b) r l) + ∑ r : Fin 512, (tM (tP 64 (TQ x2 b 1) (TK x3 1) (TD x6 b))) r c * t1 (TD x5 b) r l) = incV x2 x3 x5 x6 b b c l := by
  unfold incV
  exact congrArg₂ _ (Finset.sum_congr rfl fun r _ => congrArg₂ _ (tM_row x2 x3 x6 0 b r c) (t0_row x5 b r l)) (Finset.sum_congr rfl fun r _ => congrArg₂ _ (tM_row x2 x3 x6 1 b r c) (t1_row x5 b r l))

theorem b1_dk0 (X : Vec Ideal S512x128 .f32) (j b : Fin 16) (hj : j < b) (c : Fin 512) (l : Fin 128) :
    (k0_pay20 (iota .tc S512x128 32 [1] iota_S512x128_d1_w32) (TD x5 b) (TD x6 b) (TQ x2 b 0) (TK x3 0) x4 X : Vec Ideal S512x128 .f32) (ix2 c l) = X (ix2 c l) + incK x2 x3 x4 x5 x6 j b c (col 0 l) :=
  (tile_b1_dk0 (TD x5 b) (TQ x2 b 0) (TK x3 0) x4 (TD x6 b) X c l).trans (congrArg (X (ix2 c l) + ·) (sumK_u0 x2 x3 x4 x5 x6 j b hj c l))
theorem b1_dq0 (X : Vec Ideal S512x128 .f32) (j b : Fin 16) (hj : j < b) (c : Fin 512) (l : Fin 128) :
    (k0_pay21 (k0_pay18 (iota .tc S512x128 32 [1] iota_S512x128_d1_w32) (TD x5 b) (TD x6 b) (TQ x2 b 0) (TK x3 0) x4) X (TK x3 0) : Vec Ideal S512x128 .f32) (ix2 c l) = X (ix2 c l) + incQ x2 x3 x4 x5 x6 j (row b c) (col 0 l) :=
  (tile_b1_dq0 (TD x5 b) (TQ x2 b 0) (TK x3 0) x4 (TD x6 b) X c l).trans (congrArg (X (ix2 c l) + ·) (sumQ_u0 x2 x3 x4 x5 x6 j b hj c l))
theorem b1_dk1 (X : Vec Ideal S512x128 .f32) (j b : Fin 16) (hj : j < b) (c : Fin 512) (l : Fin 128) :
    (k0_pay27 (iota .tc S512x128 32 [1] iota_S512x128_d1_w32) (k0_pay13 (TD x5 b)) (k0_pay14 (TD x6 b)) (TQ x2 b 1) (TK x3 1) x4 X : Vec Ideal S512x128 .f32) (ix2 c l) = X (ix2 c l) + incK x2 x3 x4 x5 x6 j b c (col 1 l) :=
  (tile_b1_dk1 (TD x5 b) (TQ x2 b 1) (TK x3 1) x4 (TD x6 b) X c l).trans (congrArg (X (ix2 c l) + ·) (sumK_u1 x2 x3 x4 x5 x6 j b hj c l))
theorem b1_dq1 (X : Vec Ideal S512x128 .f32) (j b : Fin 16) (hj : j < b) (c : Fin 512) (l : Fin 128) :
    (k0_pay28 (k0_pay25 (iota .tc S512x128 32 [1] iota_S512x128_d1_w32) (k0_pay13 (TD x5 b)) (k0_pay14 (TD x6 b)) (TQ x2 b 1) (TK x3 1) x4) X (TK x3 1) : Vec Ideal S512x128 .f32) (ix2 c l) = X (ix2 c l) + incQ x2 x3 x4 x5 x6 j (row b c) (col 1 l) :=
  (tile_b1_dq1 (TD x5 b) (TQ x2 b 1) (TK x3 1) x4 (TD x6 b) X c l).trans (congrArg (X (ix2 c l) + ·) (sumQ_u1 x2 x3 x4 x5 x6 j b hj c l))
theorem b1_dv (X : Vec Ideal S512x128 .f32) (j b : Fin 16) (hj : j < b) (c : Fin 512) (l : Fin 128) :
    (k0_pay29 (k0_pay26 (iota .tc S512x128 32 [1] iota_S512x128_d1_w32) (k0_pay13 (TD x5 b)) (k0_pay14 (TD x6 b)) (k0_pay19 (iota .tc S512x128 32 [1] iota_S512x128_d1_w32) (TD x5 b) (TD x6 b) (TQ x2 b 0) (TK x3 0)) (TQ x2 b 1) (TK x3 1)) X : Vec Ideal S512x128 .f32) (ix2 c l) = X (ix2 c l) + incV x2 x3 x5 x6 j b c l :=
  (tile_b1_dv (TD x5 b) (TQ x2 b 0) (TQ x2 b 1) (TK x3 0) (TK x3 1) (TD x6 b) X c l).trans (congrArg (X (ix2 c l) + ·) (sumV_u x2 x3 x5 x6 j b hj c l))
theorem b2_dk0 (X : Vec Ideal S512x128 .f32) (j b : Fin 16) (hj : j < b) (c : Fin 512) (l : Fin 128) :
    (k0_pay40 (k0_pay32 (TQ x2 b 0)) (k0_pay33 (iota .tc S512x128 32 [1] iota_S512x128_d1_w32) (TD x5 b)) (k0_pay34 (TD x6 b)) (k0_pay35 (TD x6 b)) (k0_pay36 (TK x3 0)) (constant S512x512 .f32 0x00000000#32) x4 X : Vec Ideal S512x128 .f32) (ix2 c l) = X (ix2 c l) + incK x2 x3 x4 x5 x6 j b c (col 0 l) :=
  (tile_b2_dk0 (TD x5 b) (TQ x2 b 0) (TK x3 0) x4 (TD x6 b) X c l).trans (congrArg (X (ix2 c l) + ·) (sumK_u0 x2 x3 x4 x5 x6 j b hj c l))
theorem b2_dq0 (X : Vec Ideal S512x128 .f32) (j b : Fin 16) (hj : j < b) (c : Fin 512) (l : Fin 128) :
    (k0_pay41 (k0_pay32 (TQ x2 b 0)) (k0_pay33 (iota .tc S512x128 32 [1] iota_S512x128_d1_w32) (TD x5 b)) (k0_pay34 (TD x6 b)) (k0_pay35 (TD x6 b)) (k0_pay36 (TK x3 0)) (constant S512x512 .f32 0x00000000#32) x4 X (TK x3 0) : Vec Ideal S512x128 .f32) (ix2 c l) = X (ix2 c l) + incQ x2 x3 x4 x5 x6 j (row b c) (col 0 l) :=
  (tile_b2_dq0 (TD x5 b) (TQ x2 b 0) (TK x3 0) x4 (TD x6 b) X c l).trans (congrArg (X (ix2 c l) + ·) (sumQ_u0 x2 x3 x4 x5 x6 j b hj c l))
theorem b2_dk1 (X : Vec Ideal S512x128 .f32) (j b : Fin 16) (hj : j < b) (c : Fin 512) (l : Fin 128) :
    (k0_pay3 (k0_pay42 (TQ x2 b 1)) (k0_pay43 (iota .tc S512x128 32 [1] iota_S512x128_d1_w32) (k0_pay30 (TD x5 b))) (k0_pay44 (k0_pay31 (TD x6 b))) (k0_pay45 (k0_pay31 (TD x6 b))) (k0_pay46 (TK x3 1)) (constant S512x512 .f32 0x00000000#32) x4 X : Vec Ideal S512x128 .f32) (ix2 c l) = X (ix2 c l) + incK x2 x3 x4 x5 x6 j b c (col 1 l) :=
  (tile_b2_dk1 (TD x5 b) (TQ x2 b 1) (TK x3 1) x4 (TD x6 b) X c l).trans (congrArg (X (ix2 c l) + ·) (sumK_u1 x2 x3 x4 x5 x6 j b hj c l))
theorem b2_dq1 (X : Vec Ideal S512x128 .f32) (j b : Fin 16) (hj : j < b) (c : Fin 512) (l : Fin 128) :
    (k0_pay4 (k0_pay42 (TQ x2 b 1)) (k0_pay43 (iota .tc S512x128 32 [1] iota_S512x128_d1_w32) (k0_pay30 (TD x5 b))) (k0_pay44 (k0_pay31 (TD x6 b))) (k0_pay45 (k0_pay31 (TD x6 b))) (k0_pay46 (TK x3 1)) (constant S512x512 .f32 0x00000000#32) x4 X (TK x3 1) : Vec Ideal S512x128 .f32) (ix2 c l) = X (ix2 c l) + incQ x2 x3 x4 x5 x6 j (row b c) (col 1 l) :=
  (tile_b2_dq1 (TD x5 b) (TQ x2 b 1) (TK x3 1) x4 (TD x6 b) X c l).trans (congrArg (X (ix2 c l) + ·) (sumQ_u1 x2 x3 x4 x5 x6 j b hj c l))
theorem b2_dv (X : Vec Ideal S512x128 .f32) (j b : Fin 16) (hj : j < b) (c : Fin 512) (l : Fin 128) :
    (k0_pay5 (k0_pay39 (k0_pay32 (TQ x2 b 0)) (k0_pay33 (iota .tc S512x128 32 [1] iota_S512x128_d1_w32) (TD x5 b)) (k0_pay34 (TD x6 b)) (k0_pay36 (TK x3 0)) (constant S512x512 .f32 0x00000000#32)) (k0_pay42 (TQ x2 b 1)) (k0_pay43 (iota .tc S512x128 32 [1] iota_S512x128_d1_w32) (k0_pay30 (TD x5 b))) (k0_pay44 (k0_pay31 (TD x6 b))) (k0_pay46 (TK x3 1)) (constant S512x512 .f32 0x00000000#32) X : Vec Ideal S512x128 .f32) (ix2 c l) = X (ix2 c l) + incV x2 x3 x5 x6 j b c l :=
  (tile_b2_dv (TD x5 b) (TQ x2 b 0) (TQ x2 b 1) (TK x3 0) (TK x3 1) (TD x6 b) X c l).trans (congrArg (X (ix2 c l) + ·) (sumV_u x2 x3 x5 x6 j b hj c l))
theorem t_dk0 (X : Vec Ideal S512x128 .f32) (j b : Fin 16) (hj : j < b) (c : Fin 512) (l : Fin 128) :
    (k0_pay88 (iota .tc S512x128 32 [1] iota_S512x128_d1_w32) (TD x5 b) (TD x6 b) (TQ x2 b 0) (TK x3 0) x4 X : Vec Ideal S512x128 .f32) (ix2 c l) = X (ix2 c l) + incK x2 x3 x4 x5 x6 j b c (col 0 l) :=
  (tile_t_dk0 (TD x5 b) (TQ x2 b 0) (TK x3 0) x4 (TD x6 b) X c l).trans (congrArg (X (ix2 c l) + ·) (sumK_u0 x2 x3 x4 x5 x6 j b hj c l))
theorem t_dq0 (X : Vec Ideal S512x128 .f32) (j b : Fin 16) (hj : j < b) (c : Fin 512) (l : Fin 128) :
    (k0_pay90 (k0_pay86 (iota .tc S512x128 32 [1] iota_S512x128_d1_w32) (TD x5 b) (TD x6 b) (TQ x2 b 0) (TK x3 0) x4) (k0_pay89 X) (TK x3 0) : Vec Ideal S512x128 .f32) (ix2 c l) = X (ix2 c l) + incQ x2 x3 x4 x5 x6 j (row b c) (col 0 l) :=
  (tile_t_dq0 (TD x5 b) (TQ x2 b 0) (TK x3 0) x4 (TD x6 b) X c l).trans (congrArg (X (ix2 c l) + ·) (sumQ_u0 x2 x3 x4 x5 x6 j b hj c l))
theorem t_dk1 (X : Vec Ideal S512x128 .f32) (j b : Fin 16) (hj : j < b) (c : Fin 512) (l : Fin 128) :
    (k0_pay96 (iota .tc S512x128 32 [1] iota_S512x128_d1_w32) (k0_pay81 (TD x5 b)) (k0_pay82 (TD x6 b)) (TQ x2 b 1) (TK x3 1) x4 X : Vec Ideal S512x128 .f32) (ix2 c l) = X (ix2 c l) + incK x2 x3 x4 x5 x6 j b c (col 1 l) :=
  (tile_t_dk1 (TD x5 b) (TQ x2 b 1) (TK x3 1) x4 (TD x6 b) X c l).trans (congrArg (X (ix2 c l) + ·) (sumK_u1 x2 x3 x4 x5 x6 j b hj c l))
theorem t_dq1 (X : Vec Ideal S512x128 .f32) (j b : Fin 16) (hj : j < b) (c : Fin 512) (l : Fin 128) :
    (k0_pay11 (k0_pay94 (iota .tc S512x128 32 [1] iota_S512x128_d1_w32) (k0_pay81 (TD x5 b)) (k0_pay82 (TD x6 b)) (TQ x2 b 1) (TK x3 1) x4) (k0_pay97 X) (TK x3 1) : Vec Ideal S512x128 .f32) (ix2 c l) = X (ix2 c l) + incQ x2 x3 x4 x5 x6 j (row b c) (col 1 l) :=
  (tile_t_dq1 (TD x5 b) (TQ x2 b 1) (TK x3 1) x4 (TD x6 b) X c l).trans (congrArg (X (ix2 c l) + ·) (sumQ_u1 x2 x3 x4 x5 x6 j b hj c l))
theorem t_dv (X : Vec Ideal S512x128 .f32) (j b : Fin 16) (hj : j < b) (c : Fin 512) (l : Fin 128) :
    (k0_pay12 (k0_pay95 (iota .tc S512x128 32 [1] iota_S512x128_d1_w32) (k0_pay81 (TD x5 b)) (k0_pay82 (TD x6 b)) (k0_pay87 (iota .tc S512x128 32 [1] iota_S512x128_d1_w32) (TD x5 b) (TD x6 b) (TQ x2 b 0) (TK x3 0)) (TQ x2 b 1) (TK x3 1)) X : Vec Ideal S512x128 .f32) (ix2 c l) = X (ix2 c l) + incV x2 x3 x5 x6 j b c l :=
  (tile_t_dv (TD x5 b) (TQ x2 b 0) (TQ x2 b 1) (TK x3 0) (TK x3 1) (TD x6 b) X c l).trans (congrArg (X (ix2 c l) + ·) (sumV_u x2 x3 x5 x6 j b hj c l))
theorem d_dk0 (X : Vec Ideal S512x128 .f32) (b : Fin 16) (c : Fin 512) (l : Fin 128) :
    (k0_pay109 (k0_pay103 (TQ x2 b 0)) (k0_pay104 (TD x5 b)) (k0_pay105 (TD x6 b)) (k0_pay106 (TD x6 b) (TQ x2 b 0) (TK x3 0)) x4 X : Vec Ideal S512x128 .f32) (ix2 c l) = X (ix2 c l) + incK x2 x3 x4 x5 x6 b b c (col 0 l) :=
  (tile_d_dk0 (TD x5 b) (TQ x2 b 0) (TK x3 0) x4 (TD x6 b) X c l).trans (congrArg (X (ix2 c l) + ·) (sumK_d0 x2 x3 x4 x5 x6 b c l))
theorem d_dq0 (X : Vec Ideal S512x128 .f32) (b : Fin 16) (c : Fin 512) (l : Fin 128) :
    (k0_pay110 (k0_pay104 (TD x5 b)) (k0_pay105 (TD x6 b)) (k0_pay106 (TD x6 b) (TQ x2 b 0) (TK x3 0)) x4 X (TK x3 0) : Vec Ideal S512x128 .f32) (ix2 c l) = X (ix2 c l) + incQ x2 x3 x4 x5 x6 b (row b c) (col 0 l) :=
  (tile_d_dq0 (TD x5 b) (TQ x2 b 0) (TK x3 0) x4 (TD x6 b) X c l).trans (congrArg (X (ix2 c l) + ·) (sumQ_d0 x2 x3 x4 x5 x6 b c l))
theorem d_dk1 (X : Vec Ideal S512x128 .f32) (b : Fin 16) (c : Fin 512) (l : Fin 128) :
    (k0_pay118 (k0_pay111 (TQ x2 b 1)) (k0_pay112 (iota .tc S512x128 32 [1] iota_S512x128_d1_w32) (k0_pay101 (TD x5 b))) (k0_pay113 (k0_pay102 (TD x6 b))) (k0_pay114 (k0_pay102 (TD x6 b)) (TQ x2 b 1) (TK x3 1)) (k0_pay115 (iota .tc S512x512 32 [0] iota_S512x512_d0_w32) (iota .tc S512x512 32 [1] iota_S512x512_d1_w32)) x4 X : Vec Ideal S512x128 .f32) (ix2 c l) = X (ix2 c l) + incK x2 x3 x4 x5 x6 b b c (col 1 l) :=
  (tile_d_dk1 (TD x5 b) (TQ x2 b 1) (TK x3 1) x4 (TD x6 b) X c l).trans (congrArg (X (ix2 c l) + ·) (sumK_d1 x2 x3 x4 x5 x6 b c l))
theorem d_dq1 (X : Vec Ideal S512x128 .f32) (b : Fin 16) (c : Fin 512) (l : Fin 128) :
    (k0_pay119 (k0_pay112 (iota .tc S512x128 32 [1] iota_S512x128_d1_w32) (k0_pay101 (TD x5 b))) (k0_pay113 (k0_pay102 (TD x6 b))) (k0_pay114 (k0_pay102 (TD x6 b)) (TQ x2 b 1) (TK x3 1)) (k0_pay115 (iota .tc S512x512 32 [0] iota_S512x512_d0_w32) (iota .tc S512x512 32 [1] iota_S512x512_d1_w32)) x4 X (TK x3 1) : Vec Ideal S512x128 .f32) (ix2 c l) = X (ix2 c l) + incQ x2 x3 x4 x5 x6 b (row b c) (col 1 l) :=
  (tile_d_dq1 (TD x5 b) (TQ x2 b 1) (TK x3 1) x4 (TD x6 b) X c l).trans (congrArg (X (ix2 c l) + ·) (sumQ_d1 x2 x3 x4 x5 x6 b c l))
theorem d_dv (X : Vec Ideal S512x128 .f32) (b : Fin 16) (c : Fin 512) (l : Fin 128) :
    (k0_pay120 (k0_pay108 (k0_pay104 (TD x5 b)) (k0_pay106 (TD x6 b) (TQ x2 b 0) (TK x3 0))) (k0_pay112 (iota .tc S512x128 32 [1] iota_S512x128_d1_w32) (k0_pay101 (TD x5 b))) (k0_pay114 (k0_pay102 (TD x6 b)) (TQ x2 b 1) (TK x3 1)) (k0_pay115 (iota .tc S512x512 32 [0] iota_S512x512_d0_w32) (iota .tc S512x512 32 [1] iota_S512x512_d1_w32)) X : Vec Ideal S512x128 .f32) (ix2 c l) = X (ix2 c l) + incV x2 x3 x5 x6 b b c l :=
  (tile_d_dv (TD x5 b) (TQ x2 b 0) (TQ x2 b 1) (TK x3 0) (TK x3 1) (TD x6 b) X c l).trans (congrArg (X (ix2 c l) + ·) (sumV_d x2 x3 x5 x6 b c l))

end Cert.AttnRun
-- ==== Proof.AttnTripVal.lean ====
/-
  A trip of the attention backward's loop: two row blocks, one after the other.
-/
module
public import proofs.«01_k».proof.Proof.AttnBlocks
@[expose] public section

set_option maxRecDepth 16384

noncomputable section

namespace Cert.AttnRun

open Cert.AttnBwdIdeal Cert.AttnBwdIdeal.Gen
open Idealize.ShloMosaic Idealize.ShloMosaic.TcCoe Idealize.SL.Sem

/-- The lanes' indices. -/
abbrev v9i : IVec S512x128 32 := iota .tc S512x128 32 [1] iota_S512x128_d1_w32

/-- The two row blocks of a trip. -/
def blk1 (i : grid0.Coords) (k : Fin (k0_t1_loop i).trips) : Fin 16 :=
  ⟨(i 1).val + 1 + 2 * k.val, by have h : k.val < (15 - (i 1).val) / 2 := lt_of_lt_of_eq k.isLt (trips1 i); omega⟩
def blk2 (i : grid0.Coords) (k : Fin (k0_t1_loop i).trips) : Fin 16 :=
  ⟨(i 1).val + 2 + 2 * k.val, by have h : k.val < (15 - (i 1).val) / 2 := lt_of_lt_of_eq k.isLt (trips1 i); omega⟩
/-- The key block of a point. -/
def kb (i : grid0.Coords) : Fin 16 := ⟨(i 1).val, (i 1).isLt⟩
theorem kb_lt1 (i : grid0.Coords) (k : Fin (k0_t1_loop i).trips) : kb i < blk1 i k := by
  rw [Fin.lt_def]; show (i 1).val < (i 1).val + 1 + 2 * k.val; omega
theorem kb_lt2 (i : grid0.Coords) (k : Fin (k0_t1_loop i).trips) : kb i < blk2 i k := by
  rw [Fin.lt_def]; show (i 1).val < (i 1).val + 2 + 2 * k.val; omega

section Steps

variable {sig : RefSig} {κ : Kind} {sp : Space}
variable (x2 : Vec Ideal S8192x256 .bf16) (x3 : Vec Ideal S512x256 .bf16) (x4 : Vec Ideal S512x128 .bf16) (x5 : Vec Ideal S8192x128 .bf16) (x6 : Vec Ideal S8192x128 .f32)

/-- The stores of a row block into the query's gradient. -/
theorem step7 (v : View sig κ sp S8192x256 .f32) (f : v.ty.Contents (Elt Ideal)) (j b : Fin 16) {o0 o1 : Fin 2 → ℕ} (i0 i1)
    (h0 : o0 = ![b.val * 512, 0]) (h1 : o1 = ![b.val * 512, 128]) (u0 u1 : Vec Ideal S512x128 .f32) (L : List (View.Piece (Elt Ideal) S8192x256 .f32))
    (x : Vec Ideal S8192x256 .f32) (hx : v.read (Elt Ideal) (v.writes (Elt Ideal) f L) = x)
    (e0 : ∀ r l, u0 (ix2 r l) = TQ x b 0 (ix2 r l) + incQ x2 x3 x4 x5 x6 j (row b r) (col 0 l))
    (e1 : ∀ r l, u1 (ix2 r l) = TQ x b 1 (ix2 r l) + incQ x2 x3 x4 x5 x6 j (row b r) (col 1 l)) :
    v.read (Elt Ideal) (v.writes (Elt Ideal) f (⟨Rect.unit (s := S8192x256) o1 S512x128.size i1, u1⟩ :: ⟨Rect.unit (s := S8192x256) o0 S512x128.size i0, u0⟩ :: L))
      = stQ x2 x3 x4 x5 x6 j b x := by
  rw [View.read_writes_cons_put v f i1 u1 _ h1, View.read_writes_cons_put v f i0 u0 _ h0, hx]
  exact joinQ x2 x3 x4 x5 x6 j b x u0 u1 e0 e1

/-- The stores of a row block into the key's gradient. -/
theorem step8 (v : View sig κ sp S512x256 .f32) (f : v.ty.Contents (Elt Ideal)) (j b : Fin 16)
    (u0 u1 : Vec Ideal S512x128 .f32) (L : List (View.Piece (Elt Ideal) S512x256 .f32)) (x : Vec Ideal S512x256 .f32)
    (e0 : ∀ r l, u0 (ix2 r l) = TK x 0 (ix2 r l) + incK x2 x3 x4 x5 x6 j b r (col 0 l))
    (e1 : ∀ r l, u1 (ix2 r l) = TK x 1 (ix2 r l) + incK x2 x3 x4 x5 x6 j b r (col 1 l)) :
    v.read (Elt Ideal) (v.writes (Elt Ideal) f (⟨Rect.unit (s := S512x256) ![0, 128] S512x128.size inb_S512x256_S512x128_0_128, u1⟩ :: ⟨Rect.unit (s := S512x256) ![0, 0] S512x128.size inb_S512x256_S512x128_0_0, u0⟩ :: L))
      = stK x2 x3 x4 x5 x6 j b x := by
  rw [View.read_writes_cons_put v f inb_S512x256_S512x128_0_128 u1 _ rfl, View.read_writes_cons_put v f inb_S512x256_S512x128_0_0 u0 _ rfl]
  exact joinK x2 x3 x4 x5 x6 j b x _ u0 u1 e0 e1

/-- What a later block reads of the key's gradient: the left half as the earlier stores left it, and the right half too, over the left half's new store. -/
theorem cov8_0 (v : View sig κ sp S512x256 .f32) (L : List (View.Piece (Elt Ideal) S512x256 .f32)) (x : Vec Ideal S512x256 .f32)
    (h : v.read (Elt Ideal) (v.writes (Elt Ideal) v.junk L) = x) :
    v.readCov L (Rect.unit (s := S512x256) ![0, 0] S512x128.size inb_S512x256_S512x128_0_0).toLoadRect = TK x 0 := by
  rw [← h]; exact ldK v _ _ 0 rfl
theorem cov8_1 (v : View sig κ sp S512x256 .f32) (L : List (View.Piece (Elt Ideal) S512x256 .f32)) (x : Vec Ideal S512x256 .f32) (u : Vec Ideal S512x128 .f32)
    (h : v.read (Elt Ideal) (v.writes (Elt Ideal) v.junk L) = x) :
    v.readCov (⟨Rect.unit (s := S512x256) ![0, 0] S512x128.size inb_S512x256_S512x128_0_0, u⟩ :: L) (Rect.unit (s := S512x256) ![0, 128] S512x128.size inb_S512x256_S512x128_0_128).toLoadRect = TK x 1 := by
  rw [← h]; refine (ldK v _ _ 1 rfl).trans ?_
  rw [View.read_writes_cons_put v _ inb_S512x256_S512x128_0_0 u _ rfl]
  exact TK_putl _ _

end Steps

/-- A row block leaves the other rows. -/
theorem TQ_stQ (x2 : Vec Ideal S8192x256 .bf16) (x3 : Vec Ideal S512x256 .bf16) (x4 : Vec Ideal S512x128 .bf16) (x5 : Vec Ideal S8192x128 .bf16) (x6 : Vec Ideal S8192x128 .f32)
    (j b b' : Fin 16) (h : b ≠ b') (x : Vec Ideal S8192x256 .f32) (a : Fin 2) : TQ (stQ x2 x3 x4 x5 x6 j b x) b' a = TQ x b' a := by
  refine ext2 (n := 512) (m := 128) fun r l => ?_
  exact if_neg (fun e => h (Fin.ext (by have : (b'.val * 512 + r.val) / 512 = b.val := e; omega)))

section Trip

variable (c : Dev nD) (i : grid0.Coords) (arg2 : Memref Cert.AttnBwdIdeal.sig .tc .vmem S8192x256 .bf16) (harg2 : arg2.IsWhole) (arg3 : Memref Cert.AttnBwdIdeal.sig .tc .vmem S512x256 .bf16) (harg3 : arg3.IsWhole) (arg4 : Memref Cert.AttnBwdIdeal.sig .tc .vmem S512x128 .bf16) (harg4 : arg4.IsWhole) (arg5 : Memref Cert.AttnBwdIdeal.sig .tc .vmem S8192x128 .bf16) (harg5 : arg5.IsWhole) (arg6 : Memref Cert.AttnBwdIdeal.sig .tc .vmem S8192x128 .f32) (harg6 : arg6.IsWhole) (arg7 : Memref Cert.AttnBwdIdeal.sig .tc .vmem S8192x256 .f32) (harg7 : arg7.IsWhole) (arg8 : Memref Cert.AttnBwdIdeal.sig .tc .vmem S512x256 .f32) (harg8 : arg8.IsWhole) (arg9 : Memref Cert.AttnBwdIdeal.sig .tc .vmem S512x128 .f32) (harg9 : arg9.IsWhole) (arg1 : BitVec 32)
  (X2 : Buf (Elt Ideal) (arg2.view.loc (c : Thread nD τ))) (X3 : Buf (Elt Ideal) (arg3.view.loc (c : Thread nD τ))) (X4 : Buf (Elt Ideal) (arg4.view.loc (c : Thread nD τ))) (X5 : Buf (Elt Ideal) (arg5.view.loc (c : Thread nD τ))) (X6 : Buf (Elt Ideal) (arg6.view.loc (c : Thread nD τ)))

variable (k : Fin (k0_t1_loop i).trips) (f7 : Buf (Elt Ideal) (arg7.view.loc (c : Thread nD τ))) (f8 : Buf (Elt Ideal) (arg8.view.loc (c : Thread nD τ))) (f9 : Buf (Elt Ideal) (arg9.view.loc (c : Thread nD τ)))

set_option maxHeartbeats 2000000 in
theorem trip_list7 : (trip c i arg2 harg2 arg3 harg3 arg4 harg4 arg5 harg5 arg6 harg6 arg7 harg7 arg8 harg8 arg9 harg9 arg1 v9i X2 X3 X4 X5 X6 k f7 f8 f9).1 =
    [⟨(Rect.unit (s := S8192x256) (k0_off6 i k 2#32) S512x128.size (k0_off6_inb i k 1)), k0_pay4 (k0_pay42 (arg2.view.readAt (Elt Ideal) (Rect.unit (s := S8192x256) (k0_off6 i k 2#32) S512x128.size (k0_off6_inb i k 1)).toLoadRect X2)) (k0_pay43 v9i (k0_pay30 (arg5.view.readAt (Elt Ideal) (Rect.unit (s := S8192x128) (k0_off4 i k 2#32) S512x128.size (k0_off4_inb i k 1)).toLoadRect X5))) (k0_pay44 (k0_pay31 (arg6.view.readAt (Elt Ideal) (Rect.unit (s := S8192x128) (k0_off4 i k 2#32) S512x128.size (k0_off4_inb i k 1)).toLoadRect X6))) (k0_pay45 (k0_pay31 (arg6.view.readAt (Elt Ideal) (Rect.unit (s := S8192x128) (k0_off4 i k 2#32) S512x128.size (k0_off4_inb i k 1)).toLoadRect X6))) (k0_pay46 (arg3.view.readAt (Elt Ideal) (Rect.unit (s := S512x256) ![0, 128] S512x128.size inb_S512x256_S512x128_0_128).toLoadRect X3)) (constant S512x512 .f32 0x00000000#32) (arg4.view.readAt (Elt Ideal) (Rect.unit (s := S512x128) ![0, 0] S512x128.size inb_S512x128_S512x128_0_0).toLoadRect X4) (arg7.view.readAt (Elt Ideal) (Rect.unit (s := S8192x256) (k0_off6 i k 2#32) S512x128.size (k0_off6_inb i k 1)).toLoadRect f7) (arg3.view.readAt (Elt Ideal) (Rect.unit (s := S512x256) ![0, 128] S512x128.size inb_S512x256_S512x128_0_128).toLoadRect X3)⟩,
      ⟨(Rect.unit (s := S8192x256) (k0_off5 i k 2#32) S512x128.size (k0_off5_inb i k 1)), k0_pay41 (k0_pay32 (arg2.view.readAt (Elt Ideal) (Rect.unit (s := S8192x256) (k0_off5 i k 2#32) S512x128.size (k0_off5_inb i k 1)).toLoadRect X2)) (k0_pay33 v9i (arg5.view.readAt (Elt Ideal) (Rect.unit (s := S8192x128) (k0_off4 i k 2#32) S512x128.size (k0_off4_inb i k 1)).toLoadRect X5)) (k0_pay34 (arg6.view.readAt (Elt Ideal) (Rect.unit (s := S8192x128) (k0_off4 i k 2#32) S512x128.size (k0_off4_inb i k 1)).toLoadRect X6)) (k0_pay35 (arg6.view.readAt (Elt Ideal) (Rect.unit (s := S8192x128) (k0_off4 i k 2#32) S512x128.size (k0_off4_inb i k 1)).toLoadRect X6)) (k0_pay36 (arg3.view.readAt (Elt Ideal) (Rect.unit (s := S512x256) ![0, 0] S512x128.size inb_S512x256_S512x128_0_0).toLoadRect X3)) (constant S512x512 .f32 0x00000000#32) (arg4.view.readAt (Elt Ideal) (Rect.unit (s := S512x128) ![0, 0] S512x128.size inb_S512x128_S512x128_0_0).toLoadRect X4) (arg7.view.readAt (Elt Ideal) (Rect.unit (s := S8192x256) (k0_off5 i k 2#32) S512x128.size (k0_off5_inb i k 1)).toLoadRect f7) (arg3.view.readAt (Elt Ideal) (Rect.unit (s := S512x256) ![0, 0] S512x128.size inb_S512x256_S512x128_0_0).toLoadRect X3)⟩,
      ⟨(Rect.unit (s := S8192x256) (k0_off6 i k 1#32) S512x128.size (k0_off6_inb i k 0)), k0_pay28 (k0_pay25 v9i (k0_pay13 (arg5.view.readAt (Elt Ideal) (Rect.unit (s := S8192x128) (k0_off4 i k 1#32) S512x128.size (k0_off4_inb i k 0)).toLoadRect X5)) (k0_pay14 (arg6.view.readAt (Elt Ideal) (Rect.unit (s := S8192x128) (k0_off4 i k 1#32) S512x128.size (k0_off4_inb i k 0)).toLoadRect X6)) (arg2.view.readAt (Elt Ideal) (Rect.unit (s := S8192x256) (k0_off6 i k 1#32) S512x128.size (k0_off6_inb i k 0)).toLoadRect X2) (arg3.view.readAt (Elt Ideal) (Rect.unit (s := S512x256) ![0, 128] S512x128.size inb_S512x256_S512x128_0_128).toLoadRect X3) (arg4.view.readAt (Elt Ideal) (Rect.unit (s := S512x128) ![0, 0] S512x128.size inb_S512x128_S512x128_0_0).toLoadRect X4)) (arg7.view.readAt (Elt Ideal) (Rect.unit (s := S8192x256) (k0_off6 i k 1#32) S512x128.size (k0_off6_inb i k 0)).toLoadRect f7) (arg3.view.readAt (Elt Ideal) (Rect.unit (s := S512x256) ![0, 128] S512x128.size inb_S512x256_S512x128_0_128).toLoadRect X3)⟩,
      ⟨(Rect.unit (s := S8192x256) (k0_off5 i k 1#32) S512x128.size (k0_off5_inb i k 0)), k0_pay21 (k0_pay18 v9i (arg5.view.readAt (Elt Ideal) (Rect.unit (s := S8192x128) (k0_off4 i k 1#32) S512x128.size (k0_off4_inb i k 0)).toLoadRect X5) (arg6.view.readAt (Elt Ideal) (Rect.unit (s := S8192x128) (k0_off4 i k 1#32) S512x128.size (k0_off4_inb i k 0)).toLoadRect X6) (arg2.view.readAt (Elt Ideal) (Rect.unit (s := S8192x256) (k0_off5 i k 1#32) S512x128.size (k0_off5_inb i k 0)).toLoadRect X2) (arg3.view.readAt (Elt Ideal) (Rect.unit (s := S512x256) ![0, 0] S512x128.size inb_S512x256_S512x128_0_0).toLoadRect X3) (arg4.view.readAt (Elt Ideal) (Rect.unit (s := S512x128) ![0, 0] S512x128.size inb_S512x128_S512x128_0_0).toLoadRect X4)) (arg7.view.readAt (Elt Ideal) (Rect.unit (s := S8192x256) (k0_off5 i k 1#32) S512x128.size (k0_off5_inb i k 0)).toLoadRect f7) (arg3.view.readAt (Elt Ideal) (Rect.unit (s := S512x256) ![0, 0] S512x128.size inb_S512x256_S512x128_0_0).toLoadRect X3)⟩] := by
  unfold trip; rfl

set_option maxHeartbeats 2000000 in
theorem trip_list8 : (trip c i arg2 harg2 arg3 harg3 arg4 harg4 arg5 harg5 arg6 harg6 arg7 harg7 arg8 harg8 arg9 harg9 arg1 v9i X2 X3 X4 X5 X6 k f7 f8 f9).2.1 =
    [⟨(Rect.unit (s := S512x256) ![0, 128] S512x128.size inb_S512x256_S512x128_0_128), k0_pay3 (k0_pay42 (arg2.view.readAt (Elt Ideal) (Rect.unit (s := S8192x256) (k0_off6 i k 2#32) S512x128.size (k0_off6_inb i k 1)).toLoadRect X2)) (k0_pay43 v9i (k0_pay30 (arg5.view.readAt (Elt Ideal) (Rect.unit (s := S8192x128) (k0_off4 i k 2#32) S512x128.size (k0_off4_inb i k 1)).toLoadRect X5))) (k0_pay44 (k0_pay31 (arg6.view.readAt (Elt Ideal) (Rect.unit (s := S8192x128) (k0_off4 i k 2#32) S512x128.size (k0_off4_inb i k 1)).toLoadRect X6))) (k0_pay45 (k0_pay31 (arg6.view.readAt (Elt Ideal) (Rect.unit (s := S8192x128) (k0_off4 i k 2#32) S512x128.size (k0_off4_inb i k 1)).toLoadRect X6))) (k0_pay46 (arg3.view.readAt (Elt Ideal) (Rect.unit (s := S512x256) ![0, 128] S512x128.size inb_S512x256_S512x128_0_128).toLoadRect X3)) (constant S512x512 .f32 0x00000000#32) (arg4.view.readAt (Elt Ideal) (Rect.unit (s := S512x128) ![0, 0] S512x128.size inb_S512x128_S512x128_0_0).toLoadRect X4) (arg8.view.readCov [⟨(Rect.unit (s := S512x256) ![0, 0] S512x128.size inb_S512x256_S512x128_0_0), k0_pay40 (k0_pay32 (arg2.view.readAt (Elt Ideal) (Rect.unit (s := S8192x256) (k0_off5 i k 2#32) S512x128.size (k0_off5_inb i k 1)).toLoadRect X2)) (k0_pay33 v9i (arg5.view.readAt (Elt Ideal) (Rect.unit (s := S8192x128) (k0_off4 i k 2#32) S512x128.size (k0_off4_inb i k 1)).toLoadRect X5)) (k0_pay34 (arg6.view.readAt (Elt Ideal) (Rect.unit (s := S8192x128) (k0_off4 i k 2#32) S512x128.size (k0_off4_inb i k 1)).toLoadRect X6)) (k0_pay35 (arg6.view.readAt (Elt Ideal) (Rect.unit (s := S8192x128) (k0_off4 i k 2#32) S512x128.size (k0_off4_inb i k 1)).toLoadRect X6)) (k0_pay36 (arg3.view.readAt (Elt Ideal) (Rect.unit (s := S512x256) ![0, 0] S512x128.size inb_S512x256_S512x128_0_0).toLoadRect X3)) (constant S512x512 .f32 0x00000000#32) (arg4.view.readAt (Elt Ideal) (Rect.unit (s := S512x128) ![0, 0] S512x128.size inb_S512x128_S512x128_0_0).toLoadRect X4) (arg8.view.readCov [⟨(Rect.unit (s := S512x256) ![0, 128] S512x128.size inb_S512x256_S512x128_0_128), k0_pay27 v9i (k0_pay13 (arg5.view.readAt (Elt Ideal) (Rect.unit (s := S8192x128) (k0_off4 i k 1#32) S512x128.size (k0_off4_inb i k 0)).toLoadRect X5)) (k0_pay14 (arg6.view.readAt (Elt Ideal) (Rect.unit (s := S8192x128) (k0_off4 i k 1#32) S512x128.size (k0_off4_inb i k 0)).toLoadRect X6)) (arg2.view.readAt (Elt Ideal) (Rect.unit (s := S8192x256) (k0_off6 i k 1#32) S512x128.size (k0_off6_inb i k 0)).toLoadRect X2) (arg3.view.readAt (Elt Ideal) (Rect.unit (s := S512x256) ![0, 128] S512x128.size inb_S512x256_S512x128_0_128).toLoadRect X3) (arg4.view.readAt (Elt Ideal) (Rect.unit (s := S512x128) ![0, 0] S512x128.size inb_S512x128_S512x128_0_0).toLoadRect X4) (arg8.view.readAt (Elt Ideal) (Rect.unit (s := S512x256) ![0, 128] S512x128.size inb_S512x256_S512x128_0_128).toLoadRect f8)⟩, ⟨(Rect.unit (s := S512x256) ![0, 0] S512x128.size inb_S512x256_S512x128_0_0), k0_pay20 v9i (arg5.view.readAt (Elt Ideal) (Rect.unit (s := S8192x128) (k0_off4 i k 1#32) S512x128.size (k0_off4_inb i k 0)).toLoadRect X5) (arg6.view.readAt (Elt Ideal) (Rect.unit (s := S8192x128) (k0_off4 i k 1#32) S512x128.size (k0_off4_inb i k 0)).toLoadRect X6) (arg2.view.readAt (Elt Ideal) (Rect.unit (s := S8192x256) (k0_off5 i k 1#32) S512x128.size (k0_off5_inb i k 0)).toLoadRect X2) (arg3.view.readAt (Elt Ideal) (Rect.unit (s := S512x256) ![0, 0] S512x128.size inb_S512x256_S512x128_0_0).toLoadRect X3) (arg4.view.readAt (Elt Ideal) (Rect.unit (s := S512x128) ![0, 0] S512x128.size inb_S512x128_S512x128_0_0).toLoadRect X4) (arg8.view.readAt (Elt Ideal) (Rect.unit (s := S512x256) ![0, 0] S512x128.size inb_S512x256_S512x128_0_0).toLoadRect f8)⟩] (Rect.unit (s := S512x256) ![0, 0] S512x128.size inb_S512x256_S512x128_0_0).toLoadRect)⟩, ⟨(Rect.unit (s := S512x256) ![0, 128] S512x128.size inb_S512x256_S512x128_0_128), k0_pay27 v9i (k0_pay13 (arg5.view.readAt (Elt Ideal) (Rect.unit (s := S8192x128) (k0_off4 i k 1#32) S512x128.size (k0_off4_inb i k 0)).toLoadRect X5)) (k0_pay14 (arg6.view.readAt (Elt Ideal) (Rect.unit (s := S8192x128) (k0_off4 i k 1#32) S512x128.size (k0_off4_inb i k 0)).toLoadRect X6)) (arg2.view.readAt (Elt Ideal) (Rect.unit (s := S8192x256) (k0_off6 i k 1#32) S512x128.size (k0_off6_inb i k 0)).toLoadRect X2) (arg3.view.readAt (Elt Ideal) (Rect.unit (s := S512x256) ![0, 128] S512x128.size inb_S512x256_S512x128_0_128).toLoadRect X3) (arg4.view.readAt (Elt Ideal) (Rect.unit (s := S512x128) ![0, 0] S512x128.size inb_S512x128_S512x128_0_0).toLoadRect X4) (arg8.view.readAt (Elt Ideal) (Rect.unit (s := S512x256) ![0, 128] S512x128.size inb_S512x256_S512x128_0_128).toLoadRect f8)⟩, ⟨(Rect.unit (s := S512x256) ![0, 0] S512x128.size inb_S512x256_S512x128_0_0), k0_pay20 v9i (arg5.view.readAt (Elt Ideal) (Rect.unit (s := S8192x128) (k0_off4 i k 1#32) S512x128.size (k0_off4_inb i k 0)).toLoadRect X5) (arg6.view.readAt (Elt Ideal) (Rect.unit (s := S8192x128) (k0_off4 i k 1#32) S512x128.size (k0_off4_inb i k 0)).toLoadRect X6) (arg2.view.readAt (Elt Ideal) (Rect.unit (s := S8192x256) (k0_off5 i k 1#32) S512x128.size (k0_off5_inb i k 0)).toLoadRect X2) (arg3.view.readAt (Elt Ideal) (Rect.unit (s := S512x256) ![0, 0] S512x128.size inb_S512x256_S512x128_0_0).toLoadRect X3) (arg4.view.readAt (Elt Ideal) (Rect.unit (s := S512x128) ![0, 0] S512x128.size inb_S512x128_S512x128_0_0).toLoadRect X4) (arg8.view.readAt (Elt Ideal) (Rect.unit (s := S512x256) ![0, 0] S512x128.size inb_S512x256_S512x128_0_0).toLoadRect f8)⟩] (Rect.unit (s := S512x256) ![0, 128] S512x128.size inb_S512x256_S512x128_0_128).toLoadRect)⟩,
      ⟨(Rect.unit (s := S512x256) ![0, 0] S512x128.size inb_S512x256_S512x128_0_0), k0_pay40 (k0_pay32 (arg2.view.readAt (Elt Ideal) (Rect.unit (s := S8192x256) (k0_off5 i k 2#32) S512x128.size (k0_off5_inb i k 1)).toLoadRect X2)) (k0_pay33 v9i (arg5.view.readAt (Elt Ideal) (Rect.unit (s := S8192x128) (k0_off4 i k 2#32) S512x128.size (k0_off4_inb i k 1)).toLoadRect X5)) (k0_pay34 (arg6.view.readAt (Elt Ideal) (Rect.unit (s := S8192x128) (k0_off4 i k 2#32) S512x128.size (k0_off4_inb i k 1)).toLoadRect X6)) (k0_pay35 (arg6.view.readAt (Elt Ideal) (Rect.unit (s := S8192x128) (k0_off4 i k 2#32) S512x128.size (k0_off4_inb i k 1)).toLoadRect X6)) (k0_pay36 (arg3.view.readAt (Elt Ideal) (Rect.unit (s := S512x256) ![0, 0] S512x128.size inb_S512x256_S512x128_0_0).toLoadRect X3)) (constant S512x512 .f32 0x00000000#32) (arg4.view.readAt (Elt Ideal) (Rect.unit (s := S512x128) ![0, 0] S512x128.size inb_S512x128_S512x128_0_0).toLoadRect X4) (arg8.view.readCov [⟨(Rect.unit (s := S512x256) ![0, 128] S512x128.size inb_S512x256_S512x128_0_128), k0_pay27 v9i (k0_pay13 (arg5.view.readAt (Elt Ideal) (Rect.unit (s := S8192x128) (k0_off4 i k 1#32) S512x128.size (k0_off4_inb i k 0)).toLoadRect X5)) (k0_pay14 (arg6.view.readAt (Elt Ideal) (Rect.unit (s := S8192x128) (k0_off4 i k 1#32) S512x128.size (k0_off4_inb i k 0)).toLoadRect X6)) (arg2.view.readAt (Elt Ideal) (Rect.unit (s := S8192x256) (k0_off6 i k 1#32) S512x128.size (k0_off6_inb i k 0)).toLoadRect X2) (arg3.view.readAt (Elt Ideal) (Rect.unit (s := S512x256) ![0, 128] S512x128.size inb_S512x256_S512x128_0_128).toLoadRect X3) (arg4.view.readAt (Elt Ideal) (Rect.unit (s := S512x128) ![0, 0] S512x128.size inb_S512x128_S512x128_0_0).toLoadRect X4) (arg8.view.readAt (Elt Ideal) (Rect.unit (s := S512x256) ![0, 128] S512x128.size inb_S512x256_S512x128_0_128).toLoadRect f8)⟩, ⟨(Rect.unit (s := S512x256) ![0, 0] S512x128.size inb_S512x256_S512x128_0_0), k0_pay20 v9i (arg5.view.readAt (Elt Ideal) (Rect.unit (s := S8192x128) (k0_off4 i k 1#32) S512x128.size (k0_off4_inb i k 0)).toLoadRect X5) (arg6.view.readAt (Elt Ideal) (Rect.unit (s := S8192x128) (k0_off4 i k 1#32) S512x128.size (k0_off4_inb i k 0)).toLoadRect X6) (arg2.view.readAt (Elt Ideal) (Rect.unit (s := S8192x256) (k0_off5 i k 1#32) S512x128.size (k0_off5_inb i k 0)).toLoadRect X2) (arg3.view.readAt (Elt Ideal) (Rect.unit (s := S512x256) ![0, 0] S512x128.size inb_S512x256_S512x128_0_0).toLoadRect X3) (arg4.view.readAt (Elt Ideal) (Rect.unit (s := S512x128) ![0, 0] S512x128.size inb_S512x128_S512x128_0_0).toLoadRect X4) (arg8.view.readAt (Elt Ideal) (Rect.unit (s := S512x256) ![0, 0] S512x128.size inb_S512x256_S512x128_0_0).toLoadRect f8)⟩] (Rect.unit (s := S512x256) ![0, 0] S512x128.size inb_S512x256_S512x128_0_0).toLoadRect)⟩,
      ⟨(Rect.unit (s := S512x256) ![0, 128] S512x128.size inb_S512x256_S512x128_0_128), k0_pay27 v9i (k0_pay13 (arg5.view.readAt (Elt Ideal) (Rect.unit (s := S8192x128) (k0_off4 i k 1#32) S512x128.size (k0_off4_inb i k 0)).toLoadRect X5)) (k0_pay14 (arg6.view.readAt (Elt Ideal) (Rect.unit (s := S8192x128) (k0_off4 i k 1#32) S512x128.size (k0_off4_inb i k 0)).toLoadRect X6)) (arg2.view.readAt (Elt Ideal) (Rect.unit (s := S8192x256) (k0_off6 i k 1#32) S512x128.size (k0_off6_inb i k 0)).toLoadRect X2) (arg3.view.readAt (Elt Ideal) (Rect.unit (s := S512x256) ![0, 128] S512x128.size inb_S512x256_S512x128_0_128).toLoadRect X3) (arg4.view.readAt (Elt Ideal) (Rect.unit (s := S512x128) ![0, 0] S512x128.size inb_S512x128_S512x128_0_0).toLoadRect X4) (arg8.view.readAt (Elt Ideal) (Rect.unit (s := S512x256) ![0, 128] S512x128.size inb_S512x256_S512x128_0_128).toLoadRect f8)⟩,
      ⟨(Rect.unit (s := S512x256) ![0, 0] S512x128.size inb_S512x256_S512x128_0_0), k0_pay20 v9i (arg5.view.readAt (Elt Ideal) (Rect.unit (s := S8192x128) (k0_off4 i k 1#32) S512x128.size (k0_off4_inb i k 0)).toLoadRect X5) (arg6.view.readAt (Elt Ideal) (Rect.unit (s := S8192x128) (k0_off4 i k 1#32) S512x128.size (k0_off4_inb i k 0)).toLoadRect X6) (arg2.view.readAt (Elt Ideal) (Rect.unit (s := S8192x256) (k0_off5 i k 1#32) S512x128.size (k0_off5_inb i k 0)).toLoadRect X2) (arg3.view.readAt (Elt Ideal) (Rect.unit (s := S512x256) ![0, 0] S512x128.size inb_S512x256_S512x128_0_0).toLoadRect X3) (arg4.view.readAt (Elt Ideal) (Rect.unit (s := S512x128) ![0, 0] S512x128.size inb_S512x128_S512x128_0_0).toLoadRect X4) (arg8.view.readAt (Elt Ideal) (Rect.unit (s := S512x256) ![0, 0] S512x128.size inb_S512x256_S512x128_0_0).toLoadRect f8)⟩] := by
  unfold trip; rfl

set_option maxHeartbeats 2000000 in
theorem trip_list9 : (trip c i arg2 harg2 arg3 harg3 arg4 harg4 arg5 harg5 arg6 harg6 arg7 harg7 arg8 harg8 arg9 harg9 arg1 v9i X2 X3 X4 X5 X6 k f7 f8 f9).2.2.1 =
    [⟨(Rect.unit (s := S512x128) ![0, 0] S512x128.size inb_S512x128_S512x128_0_0), k0_pay5 (k0_pay39 (k0_pay32 (arg2.view.readAt (Elt Ideal) (Rect.unit (s := S8192x256) (k0_off5 i k 2#32) S512x128.size (k0_off5_inb i k 1)).toLoadRect X2)) (k0_pay33 v9i (arg5.view.readAt (Elt Ideal) (Rect.unit (s := S8192x128) (k0_off4 i k 2#32) S512x128.size (k0_off4_inb i k 1)).toLoadRect X5)) (k0_pay34 (arg6.view.readAt (Elt Ideal) (Rect.unit (s := S8192x128) (k0_off4 i k 2#32) S512x128.size (k0_off4_inb i k 1)).toLoadRect X6)) (k0_pay36 (arg3.view.readAt (Elt Ideal) (Rect.unit (s := S512x256) ![0, 0] S512x128.size inb_S512x256_S512x128_0_0).toLoadRect X3)) (constant S512x512 .f32 0x00000000#32)) (k0_pay42 (arg2.view.readAt (Elt Ideal) (Rect.unit (s := S8192x256) (k0_off6 i k 2#32) S512x128.size (k0_off6_inb i k 1)).toLoadRect X2)) (k0_pay43 v9i (k0_pay30 (arg5.view.readAt (Elt Ideal) (Rect.unit (s := S8192x128) (k0_off4 i k 2#32) S512x128.size (k0_off4_inb i k 1)).toLoadRect X5))) (k0_pay44 (k0_pay31 (arg6.view.readAt (Elt Ideal) (Rect.unit (s := S8192x128) (k0_off4 i k 2#32) S512x128.size (k0_off4_inb i k 1)).toLoadRect X6))) (k0_pay46 (arg3.view.readAt (Elt Ideal) (Rect.unit (s := S512x256) ![0, 128] S512x128.size inb_S512x256_S512x128_0_128).toLoadRect X3)) (constant S512x512 .f32 0x00000000#32) (arg9.view.readCov [⟨(Rect.unit (s := S512x128) ![0, 0] S512x128.size inb_S512x128_S512x128_0_0), k0_pay29 (k0_pay26 v9i (k0_pay13 (arg5.view.readAt (Elt Ideal) (Rect.unit (s := S8192x128) (k0_off4 i k 1#32) S512x128.size (k0_off4_inb i k 0)).toLoadRect X5)) (k0_pay14 (arg6.view.readAt (Elt Ideal) (Rect.unit (s := S8192x128) (k0_off4 i k 1#32) S512x128.size (k0_off4_inb i k 0)).toLoadRect X6)) (k0_pay19 v9i (arg5.view.readAt (Elt Ideal) (Rect.unit (s := S8192x128) (k0_off4 i k 1#32) S512x128.size (k0_off4_inb i k 0)).toLoadRect X5) (arg6.view.readAt (Elt Ideal) (Rect.unit (s := S8192x128) (k0_off4 i k 1#32) S512x128.size (k0_off4_inb i k 0)).toLoadRect X6) (arg2.view.readAt (Elt Ideal) (Rect.unit (s := S8192x256) (k0_off5 i k 1#32) S512x128.size (k0_off5_inb i k 0)).toLoadRect X2) (arg3.view.readAt (Elt Ideal) (Rect.unit (s := S512x256) ![0, 0] S512x128.size inb_S512x256_S512x128_0_0).toLoadRect X3)) (arg2.view.readAt (Elt Ideal) (Rect.unit (s := S8192x256) (k0_off6 i k 1#32) S512x128.size (k0_off6_inb i k 0)).toLoadRect X2) (arg3.view.readAt (Elt Ideal) (Rect.unit (s := S512x256) ![0, 128] S512x128.size inb_S512x256_S512x128_0_128).toLoadRect X3)) (arg9.view.readAt (Elt Ideal) (Rect.unit (s := S512x128) ![0, 0] S512x128.size inb_S512x128_S512x128_0_0).toLoadRect f9)⟩] (Rect.unit (s := S512x128) ![0, 0] S512x128.size inb_S512x128_S512x128_0_0).toLoadRect)⟩,
      ⟨(Rect.unit (s := S512x128) ![0, 0] S512x128.size inb_S512x128_S512x128_0_0), k0_pay29 (k0_pay26 v9i (k0_pay13 (arg5.view.readAt (Elt Ideal) (Rect.unit (s := S8192x128) (k0_off4 i k 1#32) S512x128.size (k0_off4_inb i k 0)).toLoadRect X5)) (k0_pay14 (arg6.view.readAt (Elt Ideal) (Rect.unit (s := S8192x128) (k0_off4 i k 1#32) S512x128.size (k0_off4_inb i k 0)).toLoadRect X6)) (k0_pay19 v9i (arg5.view.readAt (Elt Ideal) (Rect.unit (s := S8192x128) (k0_off4 i k 1#32) S512x128.size (k0_off4_inb i k 0)).toLoadRect X5) (arg6.view.readAt (Elt Ideal) (Rect.unit (s := S8192x128) (k0_off4 i k 1#32) S512x128.size (k0_off4_inb i k 0)).toLoadRect X6) (arg2.view.readAt (Elt Ideal) (Rect.unit (s := S8192x256) (k0_off5 i k 1#32) S512x128.size (k0_off5_inb i k 0)).toLoadRect X2) (arg3.view.readAt (Elt Ideal) (Rect.unit (s := S512x256) ![0, 0] S512x128.size inb_S512x256_S512x128_0_0).toLoadRect X3)) (arg2.view.readAt (Elt Ideal) (Rect.unit (s := S8192x256) (k0_off6 i k 1#32) S512x128.size (k0_off6_inb i k 0)).toLoadRect X2) (arg3.view.readAt (Elt Ideal) (Rect.unit (s := S512x256) ![0, 128] S512x128.size inb_S512x256_S512x128_0_128).toLoadRect X3)) (arg9.view.readAt (Elt Ideal) (Rect.unit (s := S512x128) ![0, 0] S512x128.size inb_S512x128_S512x128_0_0).toLoadRect f9)⟩] := by
  unfold trip; rfl

theorem trip_1_dk0 (X : Vec Ideal S512x128 .f32) (r : Fin 512) (l : Fin 128) :
    (k0_pay20 v9i (arg5.view.readAt (Elt Ideal) (Rect.unit (s := S8192x128) (k0_off4 i k 1#32) S512x128.size (k0_off4_inb i k 0)).toLoadRect X5) (arg6.view.readAt (Elt Ideal) (Rect.unit (s := S8192x128) (k0_off4 i k 1#32) S512x128.size (k0_off4_inb i k 0)).toLoadRect X6) (arg2.view.readAt (Elt Ideal) (Rect.unit (s := S8192x256) (k0_off5 i k 1#32) S512x128.size (k0_off5_inb i k 0)).toLoadRect X2) (arg3.view.readAt (Elt Ideal) (Rect.unit (s := S512x256) ![0, 0] S512x128.size inb_S512x256_S512x128_0_0).toLoadRect X3) (arg4.view.readAt (Elt Ideal) (Rect.unit (s := S512x128) ![0, 0] S512x128.size inb_S512x128_S512x128_0_0).toLoadRect X4) X : Vec Ideal S512x128 .f32) (ix2 r l)
      = X (ix2 r l) + incK (arg2.view.read (Elt Ideal) X2) (arg3.view.read (Elt Ideal) X3) (arg4.view.read (Elt Ideal) X4) (arg5.view.read (Elt Ideal) X5) (arg6.view.read (Elt Ideal) X6) (kb i) (blk1 i k) r (col 0 l) := by
  rw [ldD (off := k0_off4 i k 1#32) arg5.view X5 (k0_off4_inb i k 0) (blk1 i k) (off4_1 i k), ldD (off := k0_off4 i k 1#32) arg6.view X6 (k0_off4_inb i k 0) (blk1 i k) (off4_1 i k), ldQ (off := k0_off5 i k 1#32) arg2.view X2 (k0_off5_inb i k 0) (blk1 i k) 0 (off5_1 i k), ldK arg3.view X3 inb_S512x256_S512x128_0_0 0 rfl, View.readAt_full arg4.view X4 inb_S512x128_S512x128_0_0]
  exact b1_dk0 (arg2.view.read (Elt Ideal) X2) (arg3.view.read (Elt Ideal) X3) (arg4.view.read (Elt Ideal) X4) (arg5.view.read (Elt Ideal) X5) (arg6.view.read (Elt Ideal) X6) X (kb i) (blk1 i k) (kb_lt1 i k) r l

theorem trip_1_dq0 (X : Vec Ideal S512x128 .f32) (r : Fin 512) (l : Fin 128) :
    (k0_pay21 (k0_pay18 v9i (arg5.view.readAt (Elt Ideal) (Rect.unit (s := S8192x128) (k0_off4 i k 1#32) S512x128.size (k0_off4_inb i k 0)).toLoadRect X5) (arg6.view.readAt (Elt Ideal) (Rect.unit (s := S8192x128) (k0_off4 i k 1#32) S512x128.size (k0_off4_inb i k 0)).toLoadRect X6) (arg2.view.readAt (Elt Ideal) (Rect.unit (s := S8192x256) (k0_off5 i k 1#32) S512x128.size (k0_off5_inb i k 0)).toLoadRect X2) (arg3.view.readAt (Elt Ideal) (Rect.unit (s := S512x256) ![0, 0] S512x128.size inb_S512x256_S512x128_0_0).toLoadRect X3) (arg4.view.readAt (Elt Ideal) (Rect.unit (s := S512x128) ![0, 0] S512x128.size inb_S512x128_S512x128_0_0).toLoadRect X4)) X (arg3.view.readAt (Elt Ideal) (Rect.unit (s := S512x256) ![0, 0] S512x128.size inb_S512x256_S512x128_0_0).toLoadRect X3) : Vec Ideal S512x128 .f32) (ix2 r l)
      = X (ix2 r l) + incQ (arg2.view.read (Elt Ideal) X2) (arg3.view.read (Elt Ideal) X3) (arg4.view.read (Elt Ideal) X4) (arg5.view.read (Elt Ideal) X5) (arg6.view.read (Elt Ideal) X6) (kb i) (row (blk1 i k) r) (col 0 l) := by
  rw [ldD (off := k0_off4 i k 1#32) arg5.view X5 (k0_off4_inb i k 0) (blk1 i k) (off4_1 i k), ldD (off := k0_off4 i k 1#32) arg6.view X6 (k0_off4_inb i k 0) (blk1 i k) (off4_1 i k), ldQ (off := k0_off5 i k 1#32) arg2.view X2 (k0_off5_inb i k 0) (blk1 i k) 0 (off5_1 i k), ldK arg3.view X3 inb_S512x256_S512x128_0_0 0 rfl, View.readAt_full arg4.view X4 inb_S512x128_S512x128_0_0]
  exact b1_dq0 (arg2.view.read (Elt Ideal) X2) (arg3.view.read (Elt Ideal) X3) (arg4.view.read (Elt Ideal) X4) (arg5.view.read (Elt Ideal) X5) (arg6.view.read (Elt Ideal) X6) X (kb i) (blk1 i k) (kb_lt1 i k) r l

theorem trip_1_dk1 (X : Vec Ideal S512x128 .f32) (r : Fin 512) (l : Fin 128) :
    (k0_pay27 v9i (k0_pay13 (arg5.view.readAt (Elt Ideal) (Rect.unit (s := S8192x128) (k0_off4 i k 1#32) S512x128.size (k0_off4_inb i k 0)).toLoadRect X5)) (k0_pay14 (arg6.view.readAt (Elt Ideal) (Rect.unit (s := S8192x128) (k0_off4 i k 1#32) S512x128.size (k0_off4_inb i k 0)).toLoadRect X6)) (arg2.view.readAt (Elt Ideal) (Rect.unit (s := S8192x256) (k0_off6 i k 1#32) S512x128.size (k0_off6_inb i k 0)).toLoadRect X2) (arg3.view.readAt (Elt Ideal) (Rect.unit (s := S512x256) ![0, 128] S512x128.size inb_S512x256_S512x128_0_128).toLoadRect X3) (arg4.view.readAt (Elt Ideal) (Rect.unit (s := S512x128) ![0, 0] S512x128.size inb_S512x128_S512x128_0_0).toLoadRect X4) X : Vec Ideal S512x128 .f32) (ix2 r l)
      = X (ix2 r l) + incK (arg2.view.read (Elt Ideal) X2) (arg3.view.read (Elt Ideal) X3) (arg4.view.read (Elt Ideal) X4) (arg5.view.read (Elt Ideal) X5) (arg6.view.read (Elt Ideal) X6) (kb i) (blk1 i k) r (col 1 l) := by
  rw [ldD (off := k0_off4 i k 1#32) arg5.view X5 (k0_off4_inb i k 0) (blk1 i k) (off4_1 i k), ldD (off := k0_off4 i k 1#32) arg6.view X6 (k0_off4_inb i k 0) (blk1 i k) (off4_1 i k), ldQ (off := k0_off6 i k 1#32) arg2.view X2 (k0_off6_inb i k 0) (blk1 i k) 1 (off6_1 i k), ldK arg3.view X3 inb_S512x256_S512x128_0_128 1 rfl, View.readAt_full arg4.view X4 inb_S512x128_S512x128_0_0]
  exact b1_dk1 (arg2.view.read (Elt Ideal) X2) (arg3.view.read (Elt Ideal) X3) (arg4.view.read (Elt Ideal) X4) (arg5.view.read (Elt Ideal) X5) (arg6.view.read (Elt Ideal) X6) X (kb i) (blk1 i k) (kb_lt1 i k) r l

theorem trip_1_dq1 (X : Vec Ideal S512x128 .f32) (r : Fin 512) (l : Fin 128) :
    (k0_pay28 (k0_pay25 v9i (k0_pay13 (arg5.view.readAt (Elt Ideal) (Rect.unit (s := S8192x128) (k0_off4 i k 1#32) S512x128.size (k0_off4_inb i k 0)).toLoadRect X5)) (k0_pay14 (arg6.view.readAt (Elt Ideal) (Rect.unit (s := S8192x128) (k0_off4 i k 1#32) S512x128.size (k0_off4_inb i k 0)).toLoadRect X6)) (arg2.view.readAt (Elt Ideal) (Rect.unit (s := S8192x256) (k0_off6 i k 1#32) S512x128.size (k0_off6_inb i k 0)).toLoadRect X2) (arg3.view.readAt (Elt Ideal) (Rect.unit (s := S512x256) ![0, 128] S512x128.size inb_S512x256_S512x128_0_128).toLoadRect X3) (arg4.view.readAt (Elt Ideal) (Rect.unit (s := S512x128) ![0, 0] S512x128.size inb_S512x128_S512x128_0_0).toLoadRect X4)) X (arg3.view.readAt (Elt Ideal) (Rect.unit (s := S512x256) ![0, 128] S512x128.size inb_S512x256_S512x128_0_128).toLoadRect X3) : Vec Ideal S512x128 .f32) (ix2 r l)
      = X (ix2 r l) + incQ (arg2.view.read (Elt Ideal) X2) (arg3.view.read (Elt Ideal) X3) (arg4.view.read (Elt Ideal) X4) (arg5.view.read (Elt Ideal) X5) (arg6.view.read (Elt Ideal) X6) (kb i) (row (blk1 i k) r) (col 1 l) := by
  rw [ldD (off := k0_off4 i k 1#32) arg5.view X5 (k0_off4_inb i k 0) (blk1 i k) (off4_1 i k), ldD (off := k0_off4 i k 1#32) arg6.view X6 (k0_off4_inb i k 0) (blk1 i k) (off4_1 i k), ldQ (off := k0_off6 i k 1#32) arg2.view X2 (k0_off6_inb i k 0) (blk1 i k) 1 (off6_1 i k), ldK arg3.view X3 inb_S512x256_S512x128_0_128 1 rfl, View.readAt_full arg4.view X4 inb_S512x128_S512x128_0_0]
  exact b1_dq1 (arg2.view.read (Elt Ideal) X2) (arg3.view.read (Elt Ideal) X3) (arg4.view.read (Elt Ideal) X4) (arg5.view.read (Elt Ideal) X5) (arg6.view.read (Elt Ideal) X6) X (kb i) (blk1 i k) (kb_lt1 i k) r l

theorem trip_1_dv (X : Vec Ideal S512x128 .f32) (r : Fin 512) (l : Fin 128) :
    (k0_pay29 (k0_pay26 v9i (k0_pay13 (arg5.view.readAt (Elt Ideal) (Rect.unit (s := S8192x128) (k0_off4 i k 1#32) S512x128.size (k0_off4_inb i k 0)).toLoadRect X5)) (k0_pay14 (arg6.view.readAt (Elt Ideal) (Rect.unit (s := S8192x128) (k0_off4 i k 1#32) S512x128.size (k0_off4_inb i k 0)).toLoadRect X6)) (k0_pay19 v9i (arg5.view.readAt (Elt Ideal) (Rect.unit (s := S8192x128) (k0_off4 i k 1#32) S512x128.size (k0_off4_inb i k 0)).toLoadRect X5) (arg6.view.readAt (Elt Ideal) (Rect.unit (s := S8192x128) (k0_off4 i k 1#32) S512x128.size (k0_off4_inb i k 0)).toLoadRect X6) (arg2.view.readAt (Elt Ideal) (Rect.unit (s := S8192x256) (k0_off5 i k 1#32) S512x128.size (k0_off5_inb i k 0)).toLoadRect X2) (arg3.view.readAt (Elt Ideal) (Rect.unit (s := S512x256) ![0, 0] S512x128.size inb_S512x256_S512x128_0_0).toLoadRect X3)) (arg2.view.readAt (Elt Ideal) (Rect.unit (s := S8192x256) (k0_off6 i k 1#32) S512x128.size (k0_off6_inb i k 0)).toLoadRect X2) (arg3.view.readAt (Elt Ideal) (Rect.unit (s := S512x256) ![0, 128] S512x128.size inb_S512x256_S512x128_0_128).toLoadRect X3)) X : Vec Ideal S512x128 .f32) (ix2 r l)
      = X (ix2 r l) + incV (arg2.view.read (Elt Ideal) X2) (arg3.view.read (Elt Ideal) X3) (arg5.view.read (Elt Ideal) X5) (arg6.view.read (Elt Ideal) X6) (kb i) (blk1 i k) r l := by
  rw [ldD (off := k0_off4 i k 1#32) arg5.view X5 (k0_off4_inb i k 0) (blk1 i k) (off4_1 i k), ldD (off := k0_off4 i k 1#32) arg6.view X6 (k0_off4_inb i k 0) (blk1 i k) (off4_1 i k), ldQ (off := k0_off5 i k 1#32) arg2.view X2 (k0_off5_inb i k 0) (blk1 i k) 0 (off5_1 i k), ldQ (off := k0_off6 i k 1#32) arg2.view X2 (k0_off6_inb i k 0) (blk1 i k) 1 (off6_1 i k), ldK arg3.view X3 inb_S512x256_S512x128_0_0 0 rfl, ldK arg3.view X3 inb_S512x256_S512x128_0_128 1 rfl]
  exact b1_dv (arg2.view.read (Elt Ideal) X2) (arg3.view.read (Elt Ideal) X3) (arg5.view.read (Elt Ideal) X5) (arg6.view.read (Elt Ideal) X6) X (kb i) (blk1 i k) (kb_lt1 i k) r l

theorem trip_2_dk0 (X : Vec Ideal S512x128 .f32) (r : Fin 512) (l : Fin 128) :
    (k0_pay40 (k0_pay32 (arg2.view.readAt (Elt Ideal) (Rect.unit (s := S8192x256) (k0_off5 i k 2#32) S512x128.size (k0_off5_inb i k 1)).toLoadRect X2)) (k0_pay33 v9i (arg5.view.readAt (Elt Ideal) (Rect.unit (s := S8192x128) (k0_off4 i k 2#32) S512x128.size (k0_off4_inb i k 1)).toLoadRect X5)) (k0_pay34 (arg6.view.readAt (Elt Ideal) (Rect.unit (s := S8192x128) (k0_off4 i k 2#32) S512x128.size (k0_off4_inb i k 1)).toLoadRect X6)) (k0_pay35 (arg6.view.readAt (Elt Ideal) (Rect.unit (s := S8192x128) (k0_off4 i k 2#32) S512x128.size (k0_off4_inb i k 1)).toLoadRect X6)) (k0_pay36 (arg3.view.readAt (Elt Ideal) (Rect.unit (s := S512x256) ![0, 0] S512x128.size inb_S512x256_S512x128_0_0).toLoadRect X3)) (constant S512x512 .f32 0x00000000#32) (arg4.view.readAt (Elt Ideal) (Rect.unit (s := S512x128) ![0, 0] S512x128.size inb_S512x128_S512x128_0_0).toLoadRect X4) X : Vec Ideal S512x128 .f32) (ix2 r l)
      = X (ix2 r l) + incK (arg2.view.read (Elt Ideal) X2) (arg3.view.read (Elt Ideal) X3) (arg4.view.read (Elt Ideal) X4) (arg5.view.read (Elt Ideal) X5) (arg6.view.read (Elt Ideal) X6) (kb i) (blk2 i k) r (col 0 l) := by
  rw [ldD (off := k0_off4 i k 2#32) arg5.view X5 (k0_off4_inb i k 1) (blk2 i k) (off4_2 i k), ldD (off := k0_off4 i k 2#32) arg6.view X6 (k0_off4_inb i k 1) (blk2 i k) (off4_2 i k), ldQ (off := k0_off5 i k 2#32) arg2.view X2 (k0_off5_inb i k 1) (blk2 i k) 0 (off5_2 i k), ldK arg3.view X3 inb_S512x256_S512x128_0_0 0 rfl, View.readAt_full arg4.view X4 inb_S512x128_S512x128_0_0]
  exact b2_dk0 (arg2.view.read (Elt Ideal) X2) (arg3.view.read (Elt Ideal) X3) (arg4.view.read (Elt Ideal) X4) (arg5.view.read (Elt Ideal) X5) (arg6.view.read (Elt Ideal) X6) X (kb i) (blk2 i k) (kb_lt2 i k) r l

theorem trip_2_dq0 (X : Vec Ideal S512x128 .f32) (r : Fin 512) (l : Fin 128) :
    (k0_pay41 (k0_pay32 (arg2.view.readAt (Elt Ideal) (Rect.unit (s := S8192x256) (k0_off5 i k 2#32) S512x128.size (k0_off5_inb i k 1)).toLoadRect X2)) (k0_pay33 v9i (arg5.view.readAt (Elt Ideal) (Rect.unit (s := S8192x128) (k0_off4 i k 2#32) S512x128.size (k0_off4_inb i k 1)).toLoadRect X5)) (k0_pay34 (arg6.view.readAt (Elt Ideal) (Rect.unit (s := S8192x128) (k0_off4 i k 2#32) S512x128.size (k0_off4_inb i k 1)).toLoadRect X6)) (k0_pay35 (arg6.view.readAt (Elt Ideal) (Rect.unit (s := S8192x128) (k0_off4 i k 2#32) S512x128.size (k0_off4_inb i k 1)).toLoadRect X6)) (k0_pay36 (arg3.view.readAt (Elt Ideal) (Rect.unit (s := S512x256) ![0, 0] S512x128.size inb_S512x256_S512x128_0_0).toLoadRect X3)) (constant S512x512 .f32 0x00000000#32) (arg4.view.readAt (Elt Ideal) (Rect.unit (s := S512x128) ![0, 0] S512x128.size inb_S512x128_S512x128_0_0).toLoadRect X4) X (arg3.view.readAt (Elt Ideal) (Rect.unit (s := S512x256) ![0, 0] S512x128.size inb_S512x256_S512x128_0_0).toLoadRect X3) : Vec Ideal S512x128 .f32) (ix2 r l)
      = X (ix2 r l) + incQ (arg2.view.read (Elt Ideal) X2) (arg3.view.read (Elt Ideal) X3) (arg4.view.read (Elt Ideal) X4) (arg5.view.read (Elt Ideal) X5) (arg6.view.read (Elt Ideal) X6) (kb i) (row (blk2 i k) r) (col 0 l) := by
  rw [ldD (off := k0_off4 i k 2#32) arg5.view X5 (k0_off4_inb i k 1) (blk2 i k) (off4_2 i k), ldD (off := k0_off4 i k 2#32) arg6.view X6 (k0_off4_inb i k 1) (blk2 i k) (off4_2 i k), ldQ (off := k0_off5 i k 2#32) arg2.view X2 (k0_off5_inb i k 1) (blk2 i k) 0 (off5_2 i k), ldK arg3.view X3 inb_S512x256_S512x128_0_0 0 rfl, View.readAt_full arg4.view X4 inb_S512x128_S512x128_0_0]
  exact b2_dq0 (arg2.view.read (Elt Ideal) X2) (arg3.view.read (Elt Ideal) X3) (arg4.view.read (Elt Ideal) X4) (arg5.view.read (Elt Ideal) X5) (arg6.view.read (Elt Ideal) X6) X (kb i) (blk2 i k) (kb_lt2 i k) r l

theorem trip_2_dk1 (X : Vec Ideal S512x128 .f32) (r : Fin 512) (l : Fin 128) :
    (k0_pay3 (k0_pay42 (arg2.view.readAt (Elt Ideal) (Rect.unit (s := S8192x256) (k0_off6 i k 2#32) S512x128.size (k0_off6_inb i k 1)).toLoadRect X2)) (k0_pay43 v9i (k0_pay30 (arg5.view.readAt (Elt Ideal) (Rect.unit (s := S8192x128) (k0_off4 i k 2#32) S512x128.size (k0_off4_inb i k 1)).toLoadRect X5))) (k0_pay44 (k0_pay31 (arg6.view.readAt (Elt Ideal) (Rect.unit (s := S8192x128) (k0_off4 i k 2#32) S512x128.size (k0_off4_inb i k 1)).toLoadRect X6))) (k0_pay45 (k0_pay31 (arg6.view.readAt (Elt Ideal) (Rect.unit (s := S8192x128) (k0_off4 i k 2#32) S512x128.size (k0_off4_inb i k 1)).toLoadRect X6))) (k0_pay46 (arg3.view.readAt (Elt Ideal) (Rect.unit (s := S512x256) ![0, 128] S512x128.size inb_S512x256_S512x128_0_128).toLoadRect X3)) (constant S512x512 .f32 0x00000000#32) (arg4.view.readAt (Elt Ideal) (Rect.unit (s := S512x128) ![0, 0] S512x128.size inb_S512x128_S512x128_0_0).toLoadRect X4) X : Vec Ideal S512x128 .f32) (ix2 r l)
      = X (ix2 r l) + incK (arg2.view.read (Elt Ideal) X2) (arg3.view.read (Elt Ideal) X3) (arg4.view.read (Elt Ideal) X4) (arg5.view.read (Elt Ideal) X5) (arg6.view.read (Elt Ideal) X6) (kb i) (blk2 i k) r (col 1 l) := by
  rw [ldD (off := k0_off4 i k 2#32) arg5.view X5 (k0_off4_inb i k 1) (blk2 i k) (off4_2 i k), ldD (off := k0_off4 i k 2#32) arg6.view X6 (k0_off4_inb i k 1) (blk2 i k) (off4_2 i k), ldQ (off := k0_off6 i k 2#32) arg2.view X2 (k0_off6_inb i k 1) (blk2 i k) 1 (off6_2 i k), ldK arg3.view X3 inb_S512x256_S512x128_0_128 1 rfl, View.readAt_full arg4.view X4 inb_S512x128_S512x128_0_0]
  exact b2_dk1 (arg2.view.read (Elt Ideal) X2) (arg3.view.read (Elt Ideal) X3) (arg4.view.read (Elt Ideal) X4) (arg5.view.read (Elt Ideal) X5) (arg6.view.read (Elt Ideal) X6) X (kb i) (blk2 i k) (kb_lt2 i k) r l

theorem trip_2_dq1 (X : Vec Ideal S512x128 .f32) (r : Fin 512) (l : Fin 128) :
    (k0_pay4 (k0_pay42 (arg2.view.readAt (Elt Ideal) (Rect.unit (s := S8192x256) (k0_off6 i k 2#32) S512x128.size (k0_off6_inb i k 1)).toLoadRect X2)) (k0_pay43 v9i (k0_pay30 (arg5.view.readAt (Elt Ideal) (Rect.unit (s := S8192x128) (k0_off4 i k 2#32) S512x128.size (k0_off4_inb i k 1)).toLoadRect X5))) (k0_pay44 (k0_pay31 (arg6.view.readAt (Elt Ideal) (Rect.unit (s := S8192x128) (k0_off4 i k 2#32) S512x128.size (k0_off4_inb i k 1)).toLoadRect X6))) (k0_pay45 (k0_pay31 (arg6.view.readAt (Elt Ideal) (Rect.unit (s := S8192x128) (k0_off4 i k 2#32) S512x128.size (k0_off4_inb i k 1)).toLoadRect X6))) (k0_pay46 (arg3.view.readAt (Elt Ideal) (Rect.unit (s := S512x256) ![0, 128] S512x128.size inb_S512x256_S512x128_0_128).toLoadRect X3)) (constant S512x512 .f32 0x00000000#32) (arg4.view.readAt (Elt Ideal) (Rect.unit (s := S512x128) ![0, 0] S512x128.size inb_S512x128_S512x128_0_0).toLoadRect X4) X (arg3.view.readAt (Elt Ideal) (Rect.unit (s := S512x256) ![0, 128] S512x128.size inb_S512x256_S512x128_0_128).toLoadRect X3) : Vec Ideal S512x128 .f32) (ix2 r l)
      = X (ix2 r l) + incQ (arg2.view.read (Elt Ideal) X2) (arg3.view.read (Elt Ideal) X3) (arg4.view.read (Elt Ideal) X4) (arg5.view.read (Elt Ideal) X5) (arg6.view.read (Elt Ideal) X6) (kb i) (row (blk2 i k) r) (col 1 l) := by
  rw [ldD (off := k0_off4 i k 2#32) arg5.view X5 (k0_off4_inb i k 1) (blk2 i k) (off4_2 i k), ldD (off := k0_off4 i k 2#32) arg6.view X6 (k0_off4_inb i k 1) (blk2 i k) (off4_2 i k), ldQ (off := k0_off6 i k 2#32) arg2.view X2 (k0_off6_inb i k 1) (blk2 i k) 1 (off6_2 i k), ldK arg3.view X3 inb_S512x256_S512x128_0_128 1 rfl, View.readAt_full arg4.view X4 inb_S512x128_S512x128_0_0]
  exact b2_dq1 (arg2.view.read (Elt Ideal) X2) (arg3.view.read (Elt Ideal) X3) (arg4.view.read (Elt Ideal) X4) (arg5.view.read (Elt Ideal) X5) (arg6.view.read (Elt Ideal) X6) X (kb i) (blk2 i k) (kb_lt2 i k) r l

theorem trip_2_dv (X : Vec Ideal S512x128 .f32) (r : Fin 512) (l : Fin 128) :
    (k0_pay5 (k0_pay39 (k0_pay32 (arg2.view.readAt (Elt Ideal) (Rect.unit (s := S8192x256) (k0_off5 i k 2#32) S512x128.size (k0_off5_inb i k 1)).toLoadRect X2)) (k0_pay33 v9i (arg5.view.readAt (Elt Ideal) (Rect.unit (s := S8192x128) (k0_off4 i k 2#32) S512x128.size (k0_off4_inb i k 1)).toLoadRect X5)) (k0_pay34 (arg6.view.readAt (Elt Ideal) (Rect.unit (s := S8192x128) (k0_off4 i k 2#32) S512x128.size (k0_off4_inb i k 1)).toLoadRect X6)) (k0_pay36 (arg3.view.readAt (Elt Ideal) (Rect.unit (s := S512x256) ![0, 0] S512x128.size inb_S512x256_S512x128_0_0).toLoadRect X3)) (constant S512x512 .f32 0x00000000#32)) (k0_pay42 (arg2.view.readAt (Elt Ideal) (Rect.unit (s := S8192x256) (k0_off6 i k 2#32) S512x128.size (k0_off6_inb i k 1)).toLoadRect X2)) (k0_pay43 v9i (k0_pay30 (arg5.view.readAt (Elt Ideal) (Rect.unit (s := S8192x128) (k0_off4 i k 2#32) S512x128.size (k0_off4_inb i k 1)).toLoadRect X5))) (k0_pay44 (k0_pay31 (arg6.view.readAt (Elt Ideal) (Rect.unit (s := S8192x128) (k0_off4 i k 2#32) S512x128.size (k0_off4_inb i k 1)).toLoadRect X6))) (k0_pay46 (arg3.view.readAt (Elt Ideal) (Rect.unit (s := S512x256) ![0, 128] S512x128.size inb_S512x256_S512x128_0_128).toLoadRect X3)) (constant S512x512 .f32 0x00000000#32) X : Vec Ideal S512x128 .f32) (ix2 r l)
      = X (ix2 r l) + incV (arg2.view.read (Elt Ideal) X2) (arg3.view.read (Elt Ideal) X3) (arg5.view.read (Elt Ideal) X5) (arg6.view.read (Elt Ideal) X6) (kb i) (blk2 i k) r l := by
  rw [ldD (off := k0_off4 i k 2#32) arg5.view X5 (k0_off4_inb i k 1) (blk2 i k) (off4_2 i k), ldD (off := k0_off4 i k 2#32) arg6.view X6 (k0_off4_inb i k 1) (blk2 i k) (off4_2 i k), ldQ (off := k0_off5 i k 2#32) arg2.view X2 (k0_off5_inb i k 1) (blk2 i k) 0 (off5_2 i k), ldQ (off := k0_off6 i k 2#32) arg2.view X2 (k0_off6_inb i k 1) (blk2 i k) 1 (off6_2 i k), ldK arg3.view X3 inb_S512x256_S512x128_0_0 0 rfl, ldK arg3.view X3 inb_S512x256_S512x128_0_128 1 rfl]
  exact b2_dv (arg2.view.read (Elt Ideal) X2) (arg3.view.read (Elt Ideal) X3) (arg5.view.read (Elt Ideal) X5) (arg6.view.read (Elt Ideal) X6) X (kb i) (blk2 i k) (kb_lt2 i k) r l

theorem trip_read7 : arg7.view.read (Elt Ideal) (arg7.view.writes (Elt Ideal) f7 (trip c i arg2 harg2 arg3 harg3 arg4 harg4 arg5 harg5 arg6 harg6 arg7 harg7 arg8 harg8 arg9 harg9 arg1 v9i X2 X3 X4 X5 X6 k f7 f8 f9).1)
    = stQ (arg2.view.read (Elt Ideal) X2) (arg3.view.read (Elt Ideal) X3) (arg4.view.read (Elt Ideal) X4) (arg5.view.read (Elt Ideal) X5) (arg6.view.read (Elt Ideal) X6) (kb i) (blk2 i k) (stQ (arg2.view.read (Elt Ideal) X2) (arg3.view.read (Elt Ideal) X3) (arg4.view.read (Elt Ideal) X4) (arg5.view.read (Elt Ideal) X5) (arg6.view.read (Elt Ideal) X6) (kb i) (blk1 i k) (arg7.view.read (Elt Ideal) f7)) := by
  have hne : blk1 i k ≠ blk2 i k := fun h => by
    have : (i 1).val + 1 + 2 * k.val = (i 1).val + 2 + 2 * k.val := congrArg Fin.val h
    omega
  rw [trip_list7]
  refine step7 (arg2.view.read (Elt Ideal) X2) (arg3.view.read (Elt Ideal) X3) (arg4.view.read (Elt Ideal) X4) (arg5.view.read (Elt Ideal) X5) (arg6.view.read (Elt Ideal) X6) arg7.view f7 (kb i) (blk2 i k) _ _ (off5_2 i k) (off6_2 i k) _ _ _ _
    (step7 (arg2.view.read (Elt Ideal) X2) (arg3.view.read (Elt Ideal) X3) (arg4.view.read (Elt Ideal) X4) (arg5.view.read (Elt Ideal) X5) (arg6.view.read (Elt Ideal) X6) arg7.view f7 (kb i) (blk1 i k) _ _ (off5_1 i k) (off6_1 i k) _ _ [] (arg7.view.read (Elt Ideal) f7) rfl (fun r l => ?_) (fun r l => ?_)) (fun r l => ?_) (fun r l => ?_)
  · rw [trip_1_dq0, ldQ (off := k0_off5 i k 1#32) arg7.view f7 (k0_off5_inb i k 0) (blk1 i k) 0 (off5_1 i k)]
  · rw [trip_1_dq1, ldQ (off := k0_off6 i k 1#32) arg7.view f7 (k0_off6_inb i k 0) (blk1 i k) 1 (off6_1 i k)]
  · rw [trip_2_dq0, ldQ (off := k0_off5 i k 2#32) arg7.view f7 (k0_off5_inb i k 1) (blk2 i k) 0 (off5_2 i k), TQ_stQ (arg2.view.read (Elt Ideal) X2) (arg3.view.read (Elt Ideal) X3) (arg4.view.read (Elt Ideal) X4) (arg5.view.read (Elt Ideal) X5) (arg6.view.read (Elt Ideal) X6) (kb i) (blk1 i k) (blk2 i k) hne (arg7.view.read (Elt Ideal) f7)]
  · rw [trip_2_dq1, ldQ (off := k0_off6 i k 2#32) arg7.view f7 (k0_off6_inb i k 1) (blk2 i k) 1 (off6_2 i k), TQ_stQ (arg2.view.read (Elt Ideal) X2) (arg3.view.read (Elt Ideal) X3) (arg4.view.read (Elt Ideal) X4) (arg5.view.read (Elt Ideal) X5) (arg6.view.read (Elt Ideal) X6) (kb i) (blk1 i k) (blk2 i k) hne (arg7.view.read (Elt Ideal) f7)]

theorem trip_read8 : arg8.view.read (Elt Ideal) (arg8.view.writes (Elt Ideal) f8 (trip c i arg2 harg2 arg3 harg3 arg4 harg4 arg5 harg5 arg6 harg6 arg7 harg7 arg8 harg8 arg9 harg9 arg1 v9i X2 X3 X4 X5 X6 k f7 f8 f9).2.1)
    = stK (arg2.view.read (Elt Ideal) X2) (arg3.view.read (Elt Ideal) X3) (arg4.view.read (Elt Ideal) X4) (arg5.view.read (Elt Ideal) X5) (arg6.view.read (Elt Ideal) X6) (kb i) (blk2 i k) (stK (arg2.view.read (Elt Ideal) X2) (arg3.view.read (Elt Ideal) X3) (arg4.view.read (Elt Ideal) X4) (arg5.view.read (Elt Ideal) X5) (arg6.view.read (Elt Ideal) X6) (kb i) (blk1 i k) (arg8.view.read (Elt Ideal) f8)) := by
  rw [trip_list8]
  refine step8 (arg2.view.read (Elt Ideal) X2) (arg3.view.read (Elt Ideal) X3) (arg4.view.read (Elt Ideal) X4) (arg5.view.read (Elt Ideal) X5) (arg6.view.read (Elt Ideal) X6) arg8.view f8 (kb i) (blk2 i k) _ _ _ (stK (arg2.view.read (Elt Ideal) X2) (arg3.view.read (Elt Ideal) X3) (arg4.view.read (Elt Ideal) X4) (arg5.view.read (Elt Ideal) X5) (arg6.view.read (Elt Ideal) X6) (kb i) (blk1 i k) (arg8.view.read (Elt Ideal) f8)) (fun r l => ?_) (fun r l => ?_)
  · rw [trip_2_dk0, cov8_0 arg8.view _ _ (step8 (arg2.view.read (Elt Ideal) X2) (arg3.view.read (Elt Ideal) X3) (arg4.view.read (Elt Ideal) X4) (arg5.view.read (Elt Ideal) X5) (arg6.view.read (Elt Ideal) X6) arg8.view arg8.view.junk (kb i) (blk1 i k) _ _ [] (arg8.view.read (Elt Ideal) f8) (fun r l => ?_) (fun r l => ?_))]
    · rw [trip_1_dk0, ldK arg8.view f8 inb_S512x256_S512x128_0_0 0 rfl]
    · rw [trip_1_dk1, ldK arg8.view f8 inb_S512x256_S512x128_0_128 1 rfl]
  · rw [trip_2_dk1, cov8_1 arg8.view _ _ _ (step8 (arg2.view.read (Elt Ideal) X2) (arg3.view.read (Elt Ideal) X3) (arg4.view.read (Elt Ideal) X4) (arg5.view.read (Elt Ideal) X5) (arg6.view.read (Elt Ideal) X6) arg8.view arg8.view.junk (kb i) (blk1 i k) _ _ [] (arg8.view.read (Elt Ideal) f8) (fun r l => ?_) (fun r l => ?_))]
    · rw [trip_1_dk0, ldK arg8.view f8 inb_S512x256_S512x128_0_0 0 rfl]
    · rw [trip_1_dk1, ldK arg8.view f8 inb_S512x256_S512x128_0_128 1 rfl]

theorem trip_read9 : arg9.view.read (Elt Ideal) (arg9.view.writes (Elt Ideal) f9 (trip c i arg2 harg2 arg3 harg3 arg4 harg4 arg5 harg5 arg6 harg6 arg7 harg7 arg8 harg8 arg9 harg9 arg1 v9i X2 X3 X4 X5 X6 k f7 f8 f9).2.2.1)
    = stV (arg2.view.read (Elt Ideal) X2) (arg3.view.read (Elt Ideal) X3) (arg5.view.read (Elt Ideal) X5) (arg6.view.read (Elt Ideal) X6) (kb i) (blk2 i k) (stV (arg2.view.read (Elt Ideal) X2) (arg3.view.read (Elt Ideal) X3) (arg5.view.read (Elt Ideal) X5) (arg6.view.read (Elt Ideal) X6) (kb i) (blk1 i k) (arg9.view.read (Elt Ideal) f9)) := by
  rw [trip_list9]
  refine (View.read_writes_full _ _ _ _ _).trans (joinV (arg2.view.read (Elt Ideal) X2) (arg3.view.read (Elt Ideal) X3) (arg5.view.read (Elt Ideal) X5) (arg6.view.read (Elt Ideal) X6) (kb i) (blk2 i k) _ _ (fun r l => ?_))
  rw [trip_2_dv]
  refine congrArg (· + _) (congrFun ((View.readCov_full _ _ _ _ _).trans (joinV (arg2.view.read (Elt Ideal) X2) (arg3.view.read (Elt Ideal) X3) (arg5.view.read (Elt Ideal) X5) (arg6.view.read (Elt Ideal) X6) (kb i) (blk1 i k) _ _ (fun r l => ?_))) _)
  rw [trip_1_dv, View.readAt_full arg9.view f9]

end Trip

end Cert.AttnRun
-- ==== Proof.AttnBlock1.lean ====
/-
  The attention backward at a point: the diagonal row block and the last one.
-/
module
public import proofs.«01_k».proof.Proof.AttnTripVal
@[expose] public section

set_option maxRecDepth 16384

noncomputable section

namespace Cert.AttnRun

open Cert.AttnBwdIdeal Cert.AttnBwdIdeal.Gen
open Idealize.ShloMosaic Idealize.ShloMosaic.TcCoe Idealize.SL.Sem

theorem off1 : ∀ i : grid0.Coords, k0_off1 i = ![(kb i).val * 512, 0] := by decide +kernel
theorem off2 : ∀ i : grid0.Coords, k0_off2 i = ![(kb i).val * 512, 0] := by decide +kernel
theorem off3 : ∀ i : grid0.Coords, k0_off3 i = ![(kb i).val * 512, 128] := by decide +kernel

/-- The right half of a row block is read as it was before the left half's store. -/
theorem cov7_1 {sig : RefSig} {κ : Kind} {sp : Space} (v : View sig κ sp S8192x256 .f32) (f : v.ty.Contents (Elt Ideal)) (b : Fin 16) {o0 o1 : Fin 2 → ℕ} (i0 i1)
    (h0 : o0 = ![b.val * 512, 0]) (h1 : o1 = ![b.val * 512, 128]) (u : Vec Ideal S512x128 .f32) (L : List (View.Piece (Elt Ideal) S8192x256 .f32)) :
    v.readAt (Elt Ideal) (Rect.unit (s := S8192x256) o1 S512x128.size i1).toLoadRect (v.writes (Elt Ideal) f (⟨Rect.unit (s := S8192x256) o0 S512x128.size i0, u⟩ :: L))
      = TQ (v.read (Elt Ideal) (v.writes (Elt Ideal) f L)) b 1 := by
  refine (ldQ v _ i1 b 1 h1).trans ?_
  rw [View.read_writes_cons_put v f i0 u _ h0]
  refine ext2 (n := 512) (m := 128) fun r l => ?_
  unfold TQ VecWindow.put
  rw [dif_neg (fun h => by have := (h 1).2; change 1 * 128 + l.val < 0 + 128 at this; omega)]

section Blocks

variable (c : Dev nD) (i : grid0.Coords) (arg2 : Memref Cert.AttnBwdIdeal.sig .tc .vmem S8192x256 .bf16) (harg2 : arg2.IsWhole) (arg3 : Memref Cert.AttnBwdIdeal.sig .tc .vmem S512x256 .bf16) (harg3 : arg3.IsWhole) (arg4 : Memref Cert.AttnBwdIdeal.sig .tc .vmem S512x128 .bf16) (harg4 : arg4.IsWhole) (arg5 : Memref Cert.AttnBwdIdeal.sig .tc .vmem S8192x128 .bf16) (harg5 : arg5.IsWhole) (arg6 : Memref Cert.AttnBwdIdeal.sig .tc .vmem S8192x128 .f32) (harg6 : arg6.IsWhole) (arg7 : Memref Cert.AttnBwdIdeal.sig .tc .vmem S8192x256 .f32) (harg7 : arg7.IsWhole) (arg8 : Memref Cert.AttnBwdIdeal.sig .tc .vmem S512x256 .f32) (harg8 : arg8.IsWhole) (arg9 : Memref Cert.AttnBwdIdeal.sig .tc .vmem S512x128 .f32) (harg9 : arg9.IsWhole)
  (X2 : Buf (Elt Ideal) (arg2.view.loc (c : Thread nD τ))) (X3 : Buf (Elt Ideal) (arg3.view.loc (c : Thread nD τ))) (X4 : Buf (Elt Ideal) (arg4.view.loc (c : Thread nD τ))) (X5 : Buf (Elt Ideal) (arg5.view.loc (c : Thread nD τ))) (X6 : Buf (Elt Ideal) (arg6.view.loc (c : Thread nD τ)))

variable (f7 : Buf (Elt Ideal) (arg7.view.loc (c : Thread nD τ)))

/-- The stores of the diagonal row block; of the query's gradient the left half's first, then the right half's, which has read `Xr`. -/
def dia7l (L7 : List (View.Piece (Elt Ideal) S8192x256 .f32)) : List (View.Piece (Elt Ideal) S8192x256 .f32) :=
  ⟨(Rect.unit (s := S8192x256) (k0_off2 i) S512x128.size (k0_off2_inb i)), k0_pay110 (k0_pay104 (arg5.view.readAt (Elt Ideal) (Rect.unit (s := S8192x128) (k0_off1 i) S512x128.size (k0_off1_inb i)).toLoadRect X5)) (k0_pay105 (arg6.view.readAt (Elt Ideal) (Rect.unit (s := S8192x128) (k0_off1 i) S512x128.size (k0_off1_inb i)).toLoadRect X6)) (k0_pay106 (arg6.view.readAt (Elt Ideal) (Rect.unit (s := S8192x128) (k0_off1 i) S512x128.size (k0_off1_inb i)).toLoadRect X6) (arg2.view.readAt (Elt Ideal) (Rect.unit (s := S8192x256) (k0_off2 i) S512x128.size (k0_off2_inb i)).toLoadRect X2) (arg3.view.readAt (Elt Ideal) (Rect.unit (s := S512x256) ![0, 0] S512x128.size inb_S512x256_S512x128_0_0).toLoadRect X3)) (arg4.view.readAt (Elt Ideal) (Rect.unit (s := S512x128) ![0, 0] S512x128.size inb_S512x128_S512x128_0_0).toLoadRect X4) (arg7.view.readAt (Elt Ideal) (Rect.unit (s := S8192x256) (k0_off2 i) S512x128.size (k0_off2_inb i)).toLoadRect (arg7.view.writes (Elt Ideal) f7 L7)) (arg3.view.readAt (Elt Ideal) (Rect.unit (s := S512x256) ![0, 0] S512x128.size inb_S512x256_S512x128_0_0).toLoadRect X3)⟩ :: L7
def dia7 (Xr : Vec Ideal S512x128 .f32) (L7 : List (View.Piece (Elt Ideal) S8192x256 .f32)) : List (View.Piece (Elt Ideal) S8192x256 .f32) :=
  ⟨(Rect.unit (s := S8192x256) (k0_off3 i) S512x128.size (k0_off3_inb i)), k0_pay119 (k0_pay112 v9i (k0_pay101 (arg5.view.readAt (Elt Ideal) (Rect.unit (s := S8192x128) (k0_off1 i) S512x128.size (k0_off1_inb i)).toLoadRect X5))) (k0_pay113 (k0_pay102 (arg6.view.readAt (Elt Ideal) (Rect.unit (s := S8192x128) (k0_off1 i) S512x128.size (k0_off1_inb i)).toLoadRect X6))) (k0_pay114 (k0_pay102 (arg6.view.readAt (Elt Ideal) (Rect.unit (s := S8192x128) (k0_off1 i) S512x128.size (k0_off1_inb i)).toLoadRect X6)) (arg2.view.readAt (Elt Ideal) (Rect.unit (s := S8192x256) (k0_off3 i) S512x128.size (k0_off3_inb i)).toLoadRect X2) (arg3.view.readAt (Elt Ideal) (Rect.unit (s := S512x256) ![0, 128] S512x128.size inb_S512x256_S512x128_0_128).toLoadRect X3)) (k0_pay115 (iota .tc S512x512 32 [0] iota_S512x512_d0_w32) (iota .tc S512x512 32 [1] iota_S512x512_d1_w32)) (arg4.view.readAt (Elt Ideal) (Rect.unit (s := S512x128) ![0, 0] S512x128.size inb_S512x128_S512x128_0_0).toLoadRect X4) Xr (arg3.view.readAt (Elt Ideal) (Rect.unit (s := S512x256) ![0, 128] S512x128.size inb_S512x256_S512x128_0_128).toLoadRect X3)⟩ ::
  dia7l c i arg2 arg3 arg4 arg5 arg6 arg7 X2 X3 X4 X5 X6 f7 L7
def dia8 (L8 : List (View.Piece (Elt Ideal) S512x256 .f32)) : List (View.Piece (Elt Ideal) S512x256 .f32) :=
  ⟨(Rect.unit (s := S512x256) ![0, 128] S512x128.size inb_S512x256_S512x128_0_128), k0_pay118 (k0_pay111 (arg2.view.readAt (Elt Ideal) (Rect.unit (s := S8192x256) (k0_off3 i) S512x128.size (k0_off3_inb i)).toLoadRect X2)) (k0_pay112 v9i (k0_pay101 (arg5.view.readAt (Elt Ideal) (Rect.unit (s := S8192x128) (k0_off1 i) S512x128.size (k0_off1_inb i)).toLoadRect X5))) (k0_pay113 (k0_pay102 (arg6.view.readAt (Elt Ideal) (Rect.unit (s := S8192x128) (k0_off1 i) S512x128.size (k0_off1_inb i)).toLoadRect X6))) (k0_pay114 (k0_pay102 (arg6.view.readAt (Elt Ideal) (Rect.unit (s := S8192x128) (k0_off1 i) S512x128.size (k0_off1_inb i)).toLoadRect X6)) (arg2.view.readAt (Elt Ideal) (Rect.unit (s := S8192x256) (k0_off3 i) S512x128.size (k0_off3_inb i)).toLoadRect X2) (arg3.view.readAt (Elt Ideal) (Rect.unit (s := S512x256) ![0, 128] S512x128.size inb_S512x256_S512x128_0_128).toLoadRect X3)) (k0_pay115 (iota .tc S512x512 32 [0] iota_S512x512_d0_w32) (iota .tc S512x512 32 [1] iota_S512x512_d1_w32)) (arg4.view.readAt (Elt Ideal) (Rect.unit (s := S512x128) ![0, 0] S512x128.size inb_S512x128_S512x128_0_0).toLoadRect X4) (arg8.view.readCov (⟨(Rect.unit (s := S512x256) ![0, 0] S512x128.size inb_S512x256_S512x128_0_0), k0_pay109 (k0_pay103 (arg2.view.readAt (Elt Ideal) (Rect.unit (s := S8192x256) (k0_off2 i) S512x128.size (k0_off2_inb i)).toLoadRect X2)) (k0_pay104 (arg5.view.readAt (Elt Ideal) (Rect.unit (s := S8192x128) (k0_off1 i) S512x128.size (k0_off1_inb i)).toLoadRect X5)) (k0_pay105 (arg6.view.readAt (Elt Ideal) (Rect.unit (s := S8192x128) (k0_off1 i) S512x128.size (k0_off1_inb i)).toLoadRect X6)) (k0_pay106 (arg6.view.readAt (Elt Ideal) (Rect.unit (s := S8192x128) (k0_off1 i) S512x128.size (k0_off1_inb i)).toLoadRect X6) (arg2.view.readAt (Elt Ideal) (Rect.unit (s := S8192x256) (k0_off2 i) S512x128.size (k0_off2_inb i)).toLoadRect X2) (arg3.view.readAt (Elt Ideal) (Rect.unit (s := S512x256) ![0, 0] S512x128.size inb_S512x256_S512x128_0_0).toLoadRect X3)) (arg4.view.readAt (Elt Ideal) (Rect.unit (s := S512x128) ![0, 0] S512x128.size inb_S512x128_S512x128_0_0).toLoadRect X4) (arg8.view.readCov L8 (Rect.unit (s := S512x256) ![0, 0] S512x128.size inb_S512x256_S512x128_0_0).toLoadRect)⟩ :: L8) (Rect.unit (s := S512x256) ![0, 128] S512x128.size inb_S512x256_S512x128_0_128).toLoadRect)⟩ ::
  ⟨(Rect.unit (s := S512x256) ![0, 0] S512x128.size inb_S512x256_S512x128_0_0), k0_pay109 (k0_pay103 (arg2.view.readAt (Elt Ideal) (Rect.unit (s := S8192x256) (k0_off2 i) S512x128.size (k0_off2_inb i)).toLoadRect X2)) (k0_pay104 (arg5.view.readAt (Elt Ideal) (Rect.unit (s := S8192x128) (k0_off1 i) S512x128.size (k0_off1_inb i)).toLoadRect X5)) (k0_pay105 (arg6.view.readAt (Elt Ideal) (Rect.unit (s := S8192x128) (k0_off1 i) S512x128.size (k0_off1_inb i)).toLoadRect X6)) (k0_pay106 (arg6.view.readAt (Elt Ideal) (Rect.unit (s := S8192x128) (k0_off1 i) S512x128.size (k0_off1_inb i)).toLoadRect X6) (arg2.view.readAt (Elt Ideal) (Rect.unit (s := S8192x256) (k0_off2 i) S512x128.size (k0_off2_inb i)).toLoadRect X2) (arg3.view.readAt (Elt Ideal) (Rect.unit (s := S512x256) ![0, 0] S512x128.size inb_S512x256_S512x128_0_0).toLoadRect X3)) (arg4.view.readAt (Elt Ideal) (Rect.unit (s := S512x128) ![0, 0] S512x128.size inb_S512x128_S512x128_0_0).toLoadRect X4) (arg8.view.readCov L8 (Rect.unit (s := S512x256) ![0, 0] S512x128.size inb_S512x256_S512x128_0_0).toLoadRect)⟩ :: L8
def dia9 (L9 : List (View.Piece (Elt Ideal) S512x128 .f32)) : List (View.Piece (Elt Ideal) S512x128 .f32) :=
  ⟨(Rect.unit (s := S512x128) ![0, 0] S512x128.size inb_S512x128_S512x128_0_0), k0_pay120 (k0_pay108 (k0_pay104 (arg5.view.readAt (Elt Ideal) (Rect.unit (s := S8192x128) (k0_off1 i) S512x128.size (k0_off1_inb i)).toLoadRect X5)) (k0_pay106 (arg6.view.readAt (Elt Ideal) (Rect.unit (s := S8192x128) (k0_off1 i) S512x128.size (k0_off1_inb i)).toLoadRect X6) (arg2.view.readAt (Elt Ideal) (Rect.unit (s := S8192x256) (k0_off2 i) S512x128.size (k0_off2_inb i)).toLoadRect X2) (arg3.view.readAt (Elt Ideal) (Rect.unit (s := S512x256) ![0, 0] S512x128.size inb_S512x256_S512x128_0_0).toLoadRect X3))) (k0_pay112 v9i (k0_pay101 (arg5.view.readAt (Elt Ideal) (Rect.unit (s := S8192x128) (k0_off1 i) S512x128.size (k0_off1_inb i)).toLoadRect X5))) (k0_pay114 (k0_pay102 (arg6.view.readAt (Elt Ideal) (Rect.unit (s := S8192x128) (k0_off1 i) S512x128.size (k0_off1_inb i)).toLoadRect X6)) (arg2.view.readAt (Elt Ideal) (Rect.unit (s := S8192x256) (k0_off3 i) S512x128.size (k0_off3_inb i)).toLoadRect X2) (arg3.view.readAt (Elt Ideal) (Rect.unit (s := S512x256) ![0, 128] S512x128.size inb_S512x256_S512x128_0_128).toLoadRect X3)) (k0_pay115 (iota .tc S512x512 32 [0] iota_S512x512_d0_w32) (iota .tc S512x512 32 [1] iota_S512x512_d1_w32)) (arg9.view.readCov L9 (Rect.unit (s := S512x128) ![0, 0] S512x128.size inb_S512x128_S512x128_0_0).toLoadRect)⟩ :: L9

theorem dia_dk0 (X : Vec Ideal S512x128 .f32) (r : Fin 512) (l : Fin 128) :
    (k0_pay109 (k0_pay103 (arg2.view.readAt (Elt Ideal) (Rect.unit (s := S8192x256) (k0_off2 i) S512x128.size (k0_off2_inb i)).toLoadRect X2)) (k0_pay104 (arg5.view.readAt (Elt Ideal) (Rect.unit (s := S8192x128) (k0_off1 i) S512x128.size (k0_off1_inb i)).toLoadRect X5)) (k0_pay105 (arg6.view.readAt (Elt Ideal) (Rect.unit (s := S8192x128) (k0_off1 i) S512x128.size (k0_off1_inb i)).toLoadRect X6)) (k0_pay106 (arg6.view.readAt (Elt Ideal) (Rect.unit (s := S8192x128) (k0_off1 i) S512x128.size (k0_off1_inb i)).toLoadRect X6) (arg2.view.readAt (Elt Ideal) (Rect.unit (s := S8192x256) (k0_off2 i) S512x128.size (k0_off2_inb i)).toLoadRect X2) (arg3.view.readAt (Elt Ideal) (Rect.unit (s := S512x256) ![0, 0] S512x128.size inb_S512x256_S512x128_0_0).toLoadRect X3)) (arg4.view.readAt (Elt Ideal) (Rect.unit (s := S512x128) ![0, 0] S512x128.size inb_S512x128_S512x128_0_0).toLoadRect X4) X : Vec Ideal S512x128 .f32) (ix2 r l)
      = X (ix2 r l) + incK (arg2.view.read (Elt Ideal) X2) (arg3.view.read (Elt Ideal) X3) (arg4.view.read (Elt Ideal) X4) (arg5.view.read (Elt Ideal) X5) (arg6.view.read (Elt Ideal) X6) (kb i) (kb i) r (col 0 l) := by
  rw [ldD (off := k0_off1 i) arg5.view X5 (k0_off1_inb i) (kb i) (off1 i), ldD (off := k0_off1 i) arg6.view X6 (k0_off1_inb i) (kb i) (off1 i), ldQ (off := k0_off2 i) arg2.view X2 (k0_off2_inb i) (kb i) 0 (off2 i), ldK arg3.view X3 inb_S512x256_S512x128_0_0 0 rfl, View.readAt_full arg4.view X4 inb_S512x128_S512x128_0_0]
  exact d_dk0 (arg2.view.read (Elt Ideal) X2) (arg3.view.read (Elt Ideal) X3) (arg4.view.read (Elt Ideal) X4) (arg5.view.read (Elt Ideal) X5) (arg6.view.read (Elt Ideal) X6) X (kb i) r l

theorem dia_dq0 (X : Vec Ideal S512x128 .f32) (r : Fin 512) (l : Fin 128) :
    (k0_pay110 (k0_pay104 (arg5.view.readAt (Elt Ideal) (Rect.unit (s := S8192x128) (k0_off1 i) S512x128.size (k0_off1_inb i)).toLoadRect X5)) (k0_pay105 (arg6.view.readAt (Elt Ideal) (Rect.unit (s := S8192x128) (k0_off1 i) S512x128.size (k0_off1_inb i)).toLoadRect X6)) (k0_pay106 (arg6.view.readAt (Elt Ideal) (Rect.unit (s := S8192x128) (k0_off1 i) S512x128.size (k0_off1_inb i)).toLoadRect X6) (arg2.view.readAt (Elt Ideal) (Rect.unit (s := S8192x256) (k0_off2 i) S512x128.size (k0_off2_inb i)).toLoadRect X2) (arg3.view.readAt (Elt Ideal) (Rect.unit (s := S512x256) ![0, 0] S512x128.size inb_S512x256_S512x128_0_0).toLoadRect X3)) (arg4.view.readAt (Elt Ideal) (Rect.unit (s := S512x128) ![0, 0] S512x128.size inb_S512x128_S512x128_0_0).toLoadRect X4) X (arg3.view.readAt (Elt Ideal) (Rect.unit (s := S512x256) ![0, 0] S512x128.size inb_S512x256_S512x128_0_0).toLoadRect X3) : Vec Ideal S512x128 .f32) (ix2 r l)
      = X (ix2 r l) + incQ (arg2.view.read (Elt Ideal) X2) (arg3.view.read (Elt Ideal) X3) (arg4.view.read (Elt Ideal) X4) (arg5.view.read (Elt Ideal) X5) (arg6.view.read (Elt Ideal) X6) (kb i) (row (kb i) r) (col 0 l) := by
  rw [ldD (off := k0_off1 i) arg5.view X5 (k0_off1_inb i) (kb i) (off1 i), ldD (off := k0_off1 i) arg6.view X6 (k0_off1_inb i) (kb i) (off1 i), ldQ (off := k0_off2 i) arg2.view X2 (k0_off2_inb i) (kb i) 0 (off2 i), ldK arg3.view X3 inb_S512x256_S512x128_0_0 0 rfl, View.readAt_full arg4.view X4 inb_S512x128_S512x128_0_0]
  exact d_dq0 (arg2.view.read (Elt Ideal) X2) (arg3.view.read (Elt Ideal) X3) (arg4.view.read (Elt Ideal) X4) (arg5.view.read (Elt Ideal) X5) (arg6.view.read (Elt Ideal) X6) X (kb i) r l

theorem dia_dk1 (X : Vec Ideal S512x128 .f32) (r : Fin 512) (l : Fin 128) :
    (k0_pay118 (k0_pay111 (arg2.view.readAt (Elt Ideal) (Rect.unit (s := S8192x256) (k0_off3 i) S512x128.size (k0_off3_inb i)).toLoadRect X2)) (k0_pay112 v9i (k0_pay101 (arg5.view.readAt (Elt Ideal) (Rect.unit (s := S8192x128) (k0_off1 i) S512x128.size (k0_off1_inb i)).toLoadRect X5))) (k0_pay113 (k0_pay102 (arg6.view.readAt (Elt Ideal) (Rect.unit (s := S8192x128) (k0_off1 i) S512x128.size (k0_off1_inb i)).toLoadRect X6))) (k0_pay114 (k0_pay102 (arg6.view.readAt (Elt Ideal) (Rect.unit (s := S8192x128) (k0_off1 i) S512x128.size (k0_off1_inb i)).toLoadRect X6)) (arg2.view.readAt (Elt Ideal) (Rect.unit (s := S8192x256) (k0_off3 i) S512x128.size (k0_off3_inb i)).toLoadRect X2) (arg3.view.readAt (Elt Ideal) (Rect.unit (s := S512x256) ![0, 128] S512x128.size inb_S512x256_S512x128_0_128).toLoadRect X3)) (k0_pay115 (iota .tc S512x512 32 [0] iota_S512x512_d0_w32) (iota .tc S512x512 32 [1] iota_S512x512_d1_w32)) (arg4.view.readAt (Elt Ideal) (Rect.unit (s := S512x128) ![0, 0] S512x128.size inb_S512x128_S512x128_0_0).toLoadRect X4) X : Vec Ideal S512x128 .f32) (ix2 r l)
      = X (ix2 r l) + incK (arg2.view.read (Elt Ideal) X2) (arg3.view.read (Elt Ideal) X3) (arg4.view.read (Elt Ideal) X4) (arg5.view.read (Elt Ideal) X5) (arg6.view.read (Elt Ideal) X6) (kb i) (kb i) r (col 1 l) := by
  rw [ldD (off := k0_off1 i) arg5.view X5 (k0_off1_inb i) (kb i) (off1 i), ldD (off := k0_off1 i) arg6.view X6 (k0_off1_inb i) (kb i) (off1 i), ldQ (off := k0_off3 i) arg2.view X2 (k0_off3_inb i) (kb i) 1 (off3 i), ldK arg3.view X3 inb_S512x256_S512x128_0_128 1 rfl, View.readAt_full arg4.view X4 inb_S512x128_S512x128_0_0]
  exact d_dk1 (arg2.view.read (Elt Ideal) X2) (arg3.view.read (Elt Ideal) X3) (arg4.view.read (Elt Ideal) X4) (arg5.view.read (Elt Ideal) X5) (arg6.view.read (Elt Ideal) X6) X (kb i) r l

theorem dia_dq1 (X : Vec Ideal S512x128 .f32) (r : Fin 512) (l : Fin 128) :
    (k0_pay119 (k0_pay112 v9i (k0_pay101 (arg5.view.readAt (Elt Ideal) (Rect.unit (s := S8192x128) (k0_off1 i) S512x128.size (k0_off1_inb i)).toLoadRect X5))) (k0_pay113 (k0_pay102 (arg6.view.readAt (Elt Ideal) (Rect.unit (s := S8192x128) (k0_off1 i) S512x128.size (k0_off1_inb i)).toLoadRect X6))) (k0_pay114 (k0_pay102 (arg6.view.readAt (Elt Ideal) (Rect.unit (s := S8192x128) (k0_off1 i) S512x128.size (k0_off1_inb i)).toLoadRect X6)) (arg2.view.readAt (Elt Ideal) (Rect.unit (s := S8192x256) (k0_off3 i) S512x128.size (k0_off3_inb i)).toLoadRect X2) (arg3.view.readAt (Elt Ideal) (Rect.unit (s := S512x256) ![0, 128] S512x128.size inb_S512x256_S512x128_0_128).toLoadRect X3)) (k0_pay115 (iota .tc S512x512 32 [0] iota_S512x512_d0_w32) (iota .tc S512x512 32 [1] iota_S512x512_d1_w32)) (arg4.view.readAt (Elt Ideal) (Rect.unit (s := S512x128) ![0, 0] S512x128.size inb_S512x128_S512x128_0_0).toLoadRect X4) X (arg3.view.readAt (Elt Ideal) (Rect.unit (s := S512x256) ![0, 128] S512x128.size inb_S512x256_S512x128_0_128).toLoadRect X3) : Vec Ideal S512x128 .f32) (ix2 r l)
      = X (ix2 r l) + incQ (arg2.view.read (Elt Ideal) X2) (arg3.view.read (Elt Ideal) X3) (arg4.view.read (Elt Ideal) X4) (arg5.view.read (Elt Ideal) X5) (arg6.view.read (Elt Ideal) X6) (kb i) (row (kb i) r) (col 1 l) := by
  rw [ldD (off := k0_off1 i) arg5.view X5 (k0_off1_inb i) (kb i) (off1 i), ldD (off := k0_off1 i) arg6.view X6 (k0_off1_inb i) (kb i) (off1 i), ldQ (off := k0_off3 i) arg2.view X2 (k0_off3_inb i) (kb i) 1 (off3 i), ldK arg3.view X3 inb_S512x256_S512x128_0_128 1 rfl, View.readAt_full arg4.view X4 inb_S512x128_S512x128_0_0]
  exact d_dq1 (arg2.view.read (Elt Ideal) X2) (arg3.view.read (Elt Ideal) X3) (arg4.view.read (Elt Ideal) X4) (arg5.view.read (Elt Ideal) X5) (arg6.view.read (Elt Ideal) X6) X (kb i) r l

theorem dia_dv (X : Vec Ideal S512x128 .f32) (r : Fin 512) (l : Fin 128) :
    (k0_pay120 (k0_pay108 (k0_pay104 (arg5.view.readAt (Elt Ideal) (Rect.unit (s := S8192x128) (k0_off1 i) S512x128.size (k0_off1_inb i)).toLoadRect X5)) (k0_pay106 (arg6.view.readAt (Elt Ideal) (Rect.unit (s := S8192x128) (k0_off1 i) S512x128.size (k0_off1_inb i)).toLoadRect X6) (arg2.view.readAt (Elt Ideal) (Rect.unit (s := S8192x256) (k0_off2 i) S512x128.size (k0_off2_inb i)).toLoadRect X2) (arg3.view.readAt (Elt Ideal) (Rect.unit (s := S512x256) ![0, 0] S512x128.size inb_S512x256_S512x128_0_0).toLoadRect X3))) (k0_pay112 v9i (k0_pay101 (arg5.view.readAt (Elt Ideal) (Rect.unit (s := S8192x128) (k0_off1 i) S512x128.size (k0_off1_inb i)).toLoadRect X5))) (k0_pay114 (k0_pay102 (arg6.view.readAt (Elt Ideal) (Rect.unit (s := S8192x128) (k0_off1 i) S512x128.size (k0_off1_inb i)).toLoadRect X6)) (arg2.view.readAt (Elt Ideal) (Rect.unit (s := S8192x256) (k0_off3 i) S512x128.size (k0_off3_inb i)).toLoadRect X2) (arg3.view.readAt (Elt Ideal) (Rect.unit (s := S512x256) ![0, 128] S512x128.size inb_S512x256_S512x128_0_128).toLoadRect X3)) (k0_pay115 (iota .tc S512x512 32 [0] iota_S512x512_d0_w32) (iota .tc S512x512 32 [1] iota_S512x512_d1_w32)) X : Vec Ideal S512x128 .f32) (ix2 r l)
      = X (ix2 r l) + incV (arg2.view.read (Elt Ideal) X2) (arg3.view.read (Elt Ideal) X3) (arg5.view.read (Elt Ideal) X5) (arg6.view.read (Elt Ideal) X6) (kb i) (kb i) r l := by
  rw [ldD (off := k0_off1 i) arg5.view X5 (k0_off1_inb i) (kb i) (off1 i), ldD (off := k0_off1 i) arg6.view X6 (k0_off1_inb i) (kb i) (off1 i), ldQ (off := k0_off2 i) arg2.view X2 (k0_off2_inb i) (kb i) 0 (off2 i), ldQ (off := k0_off3 i) arg2.view X2 (k0_off3_inb i) (kb i) 1 (off3 i), ldK arg3.view X3 inb_S512x256_S512x128_0_0 0 rfl, ldK arg3.view X3 inb_S512x256_S512x128_0_128 1 rfl]
  exact d_dv (arg2.view.read (Elt Ideal) X2) (arg3.view.read (Elt Ideal) X3) (arg5.view.read (Elt Ideal) X5) (arg6.view.read (Elt Ideal) X6) X (kb i) r l

theorem dia_read7 (Xr : Vec Ideal S512x128 .f32) (L7 : List (View.Piece (Elt Ideal) S8192x256 .f32)) (hX : Xr = TQ (arg7.view.read (Elt Ideal) (arg7.view.writes (Elt Ideal) f7 L7)) (kb i) 1) : arg7.view.read (Elt Ideal) (arg7.view.writes (Elt Ideal) f7 (dia7 c i arg2 arg3 arg4 arg5 arg6 arg7 X2 X3 X4 X5 X6 f7 Xr L7)) = stQ (arg2.view.read (Elt Ideal) X2) (arg3.view.read (Elt Ideal) X3) (arg4.view.read (Elt Ideal) X4) (arg5.view.read (Elt Ideal) X5) (arg6.view.read (Elt Ideal) X6) (kb i) (kb i) (arg7.view.read (Elt Ideal) (arg7.view.writes (Elt Ideal) f7 L7)) := by
  unfold dia7 dia7l
  refine step7 (arg2.view.read (Elt Ideal) X2) (arg3.view.read (Elt Ideal) X3) (arg4.view.read (Elt Ideal) X4) (arg5.view.read (Elt Ideal) X5) (arg6.view.read (Elt Ideal) X6) arg7.view f7 (kb i) (kb i) _ _ (off2 i) (off3 i) _ _ L7 (arg7.view.read (Elt Ideal) (arg7.view.writes (Elt Ideal) f7 L7)) rfl (fun r l => ?_) (fun r l => ?_)
  · rw [dia_dq0, ldQ (off := k0_off2 i) arg7.view _ (k0_off2_inb i) (kb i) 0 (off2 i)]
  · rw [dia_dq1, hX]

theorem dia_right (L7 : List (View.Piece (Elt Ideal) S8192x256 .f32)) : (arg7.view.readAt (Elt Ideal) (Rect.unit (s := S8192x256) (k0_off3 i) S512x128.size (k0_off3_inb i)).toLoadRect (arg7.view.writes (Elt Ideal) f7 (dia7l c i arg2 arg3 arg4 arg5 arg6 arg7 X2 X3 X4 X5 X6 f7 L7))) = TQ (arg7.view.read (Elt Ideal) (arg7.view.writes (Elt Ideal) f7 L7)) (kb i) 1 := by
  unfold dia7l; exact cov7_1 arg7.view f7 (kb i) (k0_off2_inb i) (k0_off3_inb i) (off2 i) (off3 i) _ L7

theorem dia_read8 (L8 : List (View.Piece (Elt Ideal) S512x256 .f32)) : arg8.view.read (Elt Ideal) (arg8.view.writes (Elt Ideal) arg8.view.junk (dia8 c i arg2 arg3 arg4 arg5 arg6 arg8 X2 X3 X4 X5 X6 L8)) = stK (arg2.view.read (Elt Ideal) X2) (arg3.view.read (Elt Ideal) X3) (arg4.view.read (Elt Ideal) X4) (arg5.view.read (Elt Ideal) X5) (arg6.view.read (Elt Ideal) X6) (kb i) (kb i) (arg8.view.read (Elt Ideal) (arg8.view.writes (Elt Ideal) arg8.view.junk L8)) := by
  unfold dia8
  refine step8 (arg2.view.read (Elt Ideal) X2) (arg3.view.read (Elt Ideal) X3) (arg4.view.read (Elt Ideal) X4) (arg5.view.read (Elt Ideal) X5) (arg6.view.read (Elt Ideal) X6) arg8.view _ (kb i) (kb i) _ _ L8 (arg8.view.read (Elt Ideal) (arg8.view.writes (Elt Ideal) arg8.view.junk L8)) (fun r l => ?_) (fun r l => ?_)
  · rw [dia_dk0, cov8_0 arg8.view L8 _ rfl]
  · rw [dia_dk1, cov8_1 arg8.view L8 _ _ rfl]

theorem dia_read9 (L9 : List (View.Piece (Elt Ideal) S512x128 .f32)) : arg9.view.read (Elt Ideal) (arg9.view.writes (Elt Ideal) arg9.view.junk (dia9 c i arg2 arg3 arg5 arg6 arg9 X2 X3 X5 X6 L9)) = stV (arg2.view.read (Elt Ideal) X2) (arg3.view.read (Elt Ideal) X3) (arg5.view.read (Elt Ideal) X5) (arg6.view.read (Elt Ideal) X6) (kb i) (kb i) (arg9.view.read (Elt Ideal) (arg9.view.writes (Elt Ideal) arg9.view.junk L9)) := by
  unfold dia9
  refine (View.read_writes_full _ _ _ _ _).trans (joinV (arg2.view.read (Elt Ideal) X2) (arg3.view.read (Elt Ideal) X3) (arg5.view.read (Elt Ideal) X5) (arg6.view.read (Elt Ideal) X6) (kb i) (kb i) _ _ (fun r l => ?_))
  rw [dia_dv]
  exact congrArg (· + _) (congrFun (View.readAt_full arg9.view _ _) _)

/-- The stores of the last row block, taken alone; of the query's gradient the left half's first, then the right half's, which has read `Xr`. -/
def las7l (L7 : List (View.Piece (Elt Ideal) S8192x256 .f32)) : List (View.Piece (Elt Ideal) S8192x256 .f32) :=
  ⟨(Rect.unit (s := S8192x256) ![7680, 0] S512x128.size inb_S8192x256_S512x128_7680_0), k0_pay90 (k0_pay86 v9i (arg5.view.readAt (Elt Ideal) (Rect.unit (s := S8192x128) ![7680, 0] S512x128.size inb_S8192x128_S512x128_7680_0).toLoadRect X5) (arg6.view.readAt (Elt Ideal) (Rect.unit (s := S8192x128) ![7680, 0] S512x128.size inb_S8192x128_S512x128_7680_0).toLoadRect X6) (arg2.view.readAt (Elt Ideal) (Rect.unit (s := S8192x256) ![7680, 0] S512x128.size inb_S8192x256_S512x128_7680_0).toLoadRect X2) (arg3.view.readAt (Elt Ideal) (Rect.unit (s := S512x256) ![0, 0] S512x128.size inb_S512x256_S512x128_0_0).toLoadRect X3) (arg4.view.readAt (Elt Ideal) (Rect.unit (s := S512x128) ![0, 0] S512x128.size inb_S512x128_S512x128_0_0).toLoadRect X4)) (k0_pay89 (arg7.view.readAt (Elt Ideal) (Rect.unit (s := S8192x256) ![7680, 0] S512x128.size inb_S8192x256_S512x128_7680_0).toLoadRect (arg7.view.writes (Elt Ideal) f7 L7))) (arg3.view.readAt (Elt Ideal) (Rect.unit (s := S512x256) ![0, 0] S512x128.size inb_S512x256_S512x128_0_0).toLoadRect X3)⟩ :: L7
def las7 (Xr : Vec Ideal S512x128 .f32) (L7 : List (View.Piece (Elt Ideal) S8192x256 .f32)) : List (View.Piece (Elt Ideal) S8192x256 .f32) :=
  ⟨(Rect.unit (s := S8192x256) ![7680, 128] S512x128.size inb_S8192x256_S512x128_7680_128), k0_pay11 (k0_pay94 v9i (k0_pay81 (arg5.view.readAt (Elt Ideal) (Rect.unit (s := S8192x128) ![7680, 0] S512x128.size inb_S8192x128_S512x128_7680_0).toLoadRect X5)) (k0_pay82 (arg6.view.readAt (Elt Ideal) (Rect.unit (s := S8192x128) ![7680, 0] S512x128.size inb_S8192x128_S512x128_7680_0).toLoadRect X6)) (arg2.view.readAt (Elt Ideal) (Rect.unit (s := S8192x256) ![7680, 128] S512x128.size inb_S8192x256_S512x128_7680_128).toLoadRect X2) (arg3.view.readAt (Elt Ideal) (Rect.unit (s := S512x256) ![0, 128] S512x128.size inb_S512x256_S512x128_0_128).toLoadRect X3) (arg4.view.readAt (Elt Ideal) (Rect.unit (s := S512x128) ![0, 0] S512x128.size inb_S512x128_S512x128_0_0).toLoadRect X4)) (k0_pay97 Xr) (arg3.view.readAt (Elt Ideal) (Rect.unit (s := S512x256) ![0, 128] S512x128.size inb_S512x256_S512x128_0_128).toLoadRect X3)⟩ ::
  las7l c arg2 arg3 arg4 arg5 arg6 arg7 X2 X3 X4 X5 X6 f7 L7
def las8 (L8 : List (View.Piece (Elt Ideal) S512x256 .f32)) : List (View.Piece (Elt Ideal) S512x256 .f32) :=
  ⟨(Rect.unit (s := S512x256) ![0, 128] S512x128.size inb_S512x256_S512x128_0_128), k0_pay96 v9i (k0_pay81 (arg5.view.readAt (Elt Ideal) (Rect.unit (s := S8192x128) ![7680, 0] S512x128.size inb_S8192x128_S512x128_7680_0).toLoadRect X5)) (k0_pay82 (arg6.view.readAt (Elt Ideal) (Rect.unit (s := S8192x128) ![7680, 0] S512x128.size inb_S8192x128_S512x128_7680_0).toLoadRect X6)) (arg2.view.readAt (Elt Ideal) (Rect.unit (s := S8192x256) ![7680, 128] S512x128.size inb_S8192x256_S512x128_7680_128).toLoadRect X2) (arg3.view.readAt (Elt Ideal) (Rect.unit (s := S512x256) ![0, 128] S512x128.size inb_S512x256_S512x128_0_128).toLoadRect X3) (arg4.view.readAt (Elt Ideal) (Rect.unit (s := S512x128) ![0, 0] S512x128.size inb_S512x128_S512x128_0_0).toLoadRect X4) (arg8.view.readCov (⟨(Rect.unit (s := S512x256) ![0, 0] S512x128.size inb_S512x256_S512x128_0_0), k0_pay88 v9i (arg5.view.readAt (Elt Ideal) (Rect.unit (s := S8192x128) ![7680, 0] S512x128.size inb_S8192x128_S512x128_7680_0).toLoadRect X5) (arg6.view.readAt (Elt Ideal) (Rect.unit (s := S8192x128) ![7680, 0] S512x128.size inb_S8192x128_S512x128_7680_0).toLoadRect X6) (arg2.view.readAt (Elt Ideal) (Rect.unit (s := S8192x256) ![7680, 0] S512x128.size inb_S8192x256_S512x128_7680_0).toLoadRect X2) (arg3.view.readAt (Elt Ideal) (Rect.unit (s := S512x256) ![0, 0] S512x128.size inb_S512x256_S512x128_0_0).toLoadRect X3) (arg4.view.readAt (Elt Ideal) (Rect.unit (s := S512x128) ![0, 0] S512x128.size inb_S512x128_S512x128_0_0).toLoadRect X4) (arg8.view.readCov L8 (Rect.unit (s := S512x256) ![0, 0] S512x128.size inb_S512x256_S512x128_0_0).toLoadRect)⟩ :: L8) (Rect.unit (s := S512x256) ![0, 128] S512x128.size inb_S512x256_S512x128_0_128).toLoadRect)⟩ ::
  ⟨(Rect.unit (s := S512x256) ![0, 0] S512x128.size inb_S512x256_S512x128_0_0), k0_pay88 v9i (arg5.view.readAt (Elt Ideal) (Rect.unit (s := S8192x128) ![7680, 0] S512x128.size inb_S8192x128_S512x128_7680_0).toLoadRect X5) (arg6.view.readAt (Elt Ideal) (Rect.unit (s := S8192x128) ![7680, 0] S512x128.size inb_S8192x128_S512x128_7680_0).toLoadRect X6) (arg2.view.readAt (Elt Ideal) (Rect.unit (s := S8192x256) ![7680, 0] S512x128.size inb_S8192x256_S512x128_7680_0).toLoadRect X2) (arg3.view.readAt (Elt Ideal) (Rect.unit (s := S512x256) ![0, 0] S512x128.size inb_S512x256_S512x128_0_0).toLoadRect X3) (arg4.view.readAt (Elt Ideal) (Rect.unit (s := S512x128) ![0, 0] S512x128.size inb_S512x128_S512x128_0_0).toLoadRect X4) (arg8.view.readCov L8 (Rect.unit (s := S512x256) ![0, 0] S512x128.size inb_S512x256_S512x128_0_0).toLoadRect)⟩ :: L8
def las9 (L9 : List (View.Piece (Elt Ideal) S512x128 .f32)) : List (View.Piece (Elt Ideal) S512x128 .f32) :=
  ⟨(Rect.unit (s := S512x128) ![0, 0] S512x128.size inb_S512x128_S512x128_0_0), k0_pay12 (k0_pay95 v9i (k0_pay81 (arg5.view.readAt (Elt Ideal) (Rect.unit (s := S8192x128) ![7680, 0] S512x128.size inb_S8192x128_S512x128_7680_0).toLoadRect X5)) (k0_pay82 (arg6.view.readAt (Elt Ideal) (Rect.unit (s := S8192x128) ![7680, 0] S512x128.size inb_S8192x128_S512x128_7680_0).toLoadRect X6)) (k0_pay87 v9i (arg5.view.readAt (Elt Ideal) (Rect.unit (s := S8192x128) ![7680, 0] S512x128.size inb_S8192x128_S512x128_7680_0).toLoadRect X5) (arg6.view.readAt (Elt Ideal) (Rect.unit (s := S8192x128) ![7680, 0] S512x128.size inb_S8192x128_S512x128_7680_0).toLoadRect X6) (arg2.view.readAt (Elt Ideal) (Rect.unit (s := S8192x256) ![7680, 0] S512x128.size inb_S8192x256_S512x128_7680_0).toLoadRect X2) (arg3.view.readAt (Elt Ideal) (Rect.unit (s := S512x256) ![0, 0] S512x128.size inb_S512x256_S512x128_0_0).toLoadRect X3)) (arg2.view.readAt (Elt Ideal) (Rect.unit (s := S8192x256) ![7680, 128] S512x128.size inb_S8192x256_S512x128_7680_128).toLoadRect X2) (arg3.view.readAt (Elt Ideal) (Rect.unit (s := S512x256) ![0, 128] S512x128.size inb_S512x256_S512x128_0_128).toLoadRect X3)) (arg9.view.readCov L9 (Rect.unit (s := S512x128) ![0, 0] S512x128.size inb_S512x128_S512x128_0_0).toLoadRect)⟩ :: L9

theorem las_dk0 (hj : kb i < 15) (X : Vec Ideal S512x128 .f32) (r : Fin 512) (l : Fin 128) :
    (k0_pay88 v9i (arg5.view.readAt (Elt Ideal) (Rect.unit (s := S8192x128) ![7680, 0] S512x128.size inb_S8192x128_S512x128_7680_0).toLoadRect X5) (arg6.view.readAt (Elt Ideal) (Rect.unit (s := S8192x128) ![7680, 0] S512x128.size inb_S8192x128_S512x128_7680_0).toLoadRect X6) (arg2.view.readAt (Elt Ideal) (Rect.unit (s := S8192x256) ![7680, 0] S512x128.size inb_S8192x256_S512x128_7680_0).toLoadRect X2) (arg3.view.readAt (Elt Ideal) (Rect.unit (s := S512x256) ![0, 0] S512x128.size inb_S512x256_S512x128_0_0).toLoadRect X3) (arg4.view.readAt (Elt Ideal) (Rect.unit (s := S512x128) ![0, 0] S512x128.size inb_S512x128_S512x128_0_0).toLoadRect X4) X : Vec Ideal S512x128 .f32) (ix2 r l)
      = X (ix2 r l) + incK (arg2.view.read (Elt Ideal) X2) (arg3.view.read (Elt Ideal) X3) (arg4.view.read (Elt Ideal) X4) (arg5.view.read (Elt Ideal) X5) (arg6.view.read (Elt Ideal) X6) (kb i) (15 : Fin 16) r (col 0 l) := by
  rw [ldD (off := ![7680, 0]) arg5.view X5 inb_S8192x128_S512x128_7680_0 (15 : Fin 16) rfl, ldD (off := ![7680, 0]) arg6.view X6 inb_S8192x128_S512x128_7680_0 (15 : Fin 16) rfl, ldQ (off := ![7680, 0]) arg2.view X2 inb_S8192x256_S512x128_7680_0 (15 : Fin 16) 0 rfl, ldK arg3.view X3 inb_S512x256_S512x128_0_0 0 rfl, View.readAt_full arg4.view X4 inb_S512x128_S512x128_0_0]
  exact t_dk0 (arg2.view.read (Elt Ideal) X2) (arg3.view.read (Elt Ideal) X3) (arg4.view.read (Elt Ideal) X4) (arg5.view.read (Elt Ideal) X5) (arg6.view.read (Elt Ideal) X6) X (kb i) (15 : Fin 16) hj r l

theorem las_dq0 (hj : kb i < 15) (X : Vec Ideal S512x128 .f32) (r : Fin 512) (l : Fin 128) :
    (k0_pay90 (k0_pay86 v9i (arg5.view.readAt (Elt Ideal) (Rect.unit (s := S8192x128) ![7680, 0] S512x128.size inb_S8192x128_S512x128_7680_0).toLoadRect X5) (arg6.view.readAt (Elt Ideal) (Rect.unit (s := S8192x128) ![7680, 0] S512x128.size inb_S8192x128_S512x128_7680_0).toLoadRect X6) (arg2.view.readAt (Elt Ideal) (Rect.unit (s := S8192x256) ![7680, 0] S512x128.size inb_S8192x256_S512x128_7680_0).toLoadRect X2) (arg3.view.readAt (Elt Ideal) (Rect.unit (s := S512x256) ![0, 0] S512x128.size inb_S512x256_S512x128_0_0).toLoadRect X3) (arg4.view.readAt (Elt Ideal) (Rect.unit (s := S512x128) ![0, 0] S512x128.size inb_S512x128_S512x128_0_0).toLoadRect X4)) (k0_pay89 X) (arg3.view.readAt (Elt Ideal) (Rect.unit (s := S512x256) ![0, 0] S512x128.size inb_S512x256_S512x128_0_0).toLoadRect X3) : Vec Ideal S512x128 .f32) (ix2 r l)
      = X (ix2 r l) + incQ (arg2.view.read (Elt Ideal) X2) (arg3.view.read (Elt Ideal) X3) (arg4.view.read (Elt Ideal) X4) (arg5.view.read (Elt Ideal) X5) (arg6.view.read (Elt Ideal) X6) (kb i) (row (15 : Fin 16) r) (col 0 l) := by
  rw [ldD (off := ![7680, 0]) arg5.view X5 inb_S8192x128_S512x128_7680_0 (15 : Fin 16) rfl, ldD (off := ![7680, 0]) arg6.view X6 inb_S8192x128_S512x128_7680_0 (15 : Fin 16) rfl, ldQ (off := ![7680, 0]) arg2.view X2 inb_S8192x256_S512x128_7680_0 (15 : Fin 16) 0 rfl, ldK arg3.view X3 inb_S512x256_S512x128_0_0 0 rfl, View.readAt_full arg4.view X4 inb_S512x128_S512x128_0_0]
  exact t_dq0 (arg2.view.read (Elt Ideal) X2) (arg3.view.read (Elt Ideal) X3) (arg4.view.read (Elt Ideal) X4) (arg5.view.read (Elt Ideal) X5) (arg6.view.read (Elt Ideal) X6) X (kb i) (15 : Fin 16) hj r l

theorem las_dk1 (hj : kb i < 15) (X : Vec Ideal S512x128 .f32) (r : Fin 512) (l : Fin 128) :
    (k0_pay96 v9i (k0_pay81 (arg5.view.readAt (Elt Ideal) (Rect.unit (s := S8192x128) ![7680, 0] S512x128.size inb_S8192x128_S512x128_7680_0).toLoadRect X5)) (k0_pay82 (arg6.view.readAt (Elt Ideal) (Rect.unit (s := S8192x128) ![7680, 0] S512x128.size inb_S8192x128_S512x128_7680_0).toLoadRect X6)) (arg2.view.readAt (Elt Ideal) (Rect.unit (s := S8192x256) ![7680, 128] S512x128.size inb_S8192x256_S512x128_7680_128).toLoadRect X2) (arg3.view.readAt (Elt Ideal) (Rect.unit (s := S512x256) ![0, 128] S512x128.size inb_S512x256_S512x128_0_128).toLoadRect X3) (arg4.view.readAt (Elt Ideal) (Rect.unit (s := S512x128) ![0, 0] S512x128.size inb_S512x128_S512x128_0_0).toLoadRect X4) X : Vec Ideal S512x128 .f32) (ix2 r l)
      = X (ix2 r l) + incK (arg2.view.read (Elt Ideal) X2) (arg3.view.read (Elt Ideal) X3) (arg4.view.read (Elt Ideal) X4) (arg5.view.read (Elt Ideal) X5) (arg6.view.read (Elt Ideal) X6) (kb i) (15 : Fin 16) r (col 1 l) := by
  rw [ldD (off := ![7680, 0]) arg5.view X5 inb_S8192x128_S512x128_7680_0 (15 : Fin 16) rfl, ldD (off := ![7680, 0]) arg6.view X6 inb_S8192x128_S512x128_7680_0 (15 : Fin 16) rfl, ldQ (off := ![7680, 128]) arg2.view X2 inb_S8192x256_S512x128_7680_128 (15 : Fin 16) 1 rfl, ldK arg3.view X3 inb_S512x256_S512x128_0_128 1 rfl, View.readAt_full arg4.view X4 inb_S512x128_S512x128_0_0]
  exact t_dk1 (arg2.view.read (Elt Ideal) X2) (arg3.view.read (Elt Ideal) X3) (arg4.view.read (Elt Ideal) X4) (arg5.view.read (Elt Ideal) X5) (arg6.view.read (Elt Ideal) X6) X (kb i) (15 : Fin 16) hj r l

theorem las_dq1 (hj : kb i < 15) (X : Vec Ideal S512x128 .f32) (r : Fin 512) (l : Fin 128) :
    (k0_pay11 (k0_pay94 v9i (k0_pay81 (arg5.view.readAt (Elt Ideal) (Rect.unit (s := S8192x128) ![7680, 0] S512x128.size inb_S8192x128_S512x128_7680_0).toLoadRect X5)) (k0_pay82 (arg6.view.readAt (Elt Ideal) (Rect.unit (s := S8192x128) ![7680, 0] S512x128.size inb_S8192x128_S512x128_7680_0).toLoadRect X6)) (arg2.view.readAt (Elt Ideal) (Rect.unit (s := S8192x256) ![7680, 128] S512x128.size inb_S8192x256_S512x128_7680_128).toLoadRect X2) (arg3.view.readAt (Elt Ideal) (Rect.unit (s := S512x256) ![0, 128] S512x128.size inb_S512x256_S512x128_0_128).toLoadRect X3) (arg4.view.readAt (Elt Ideal) (Rect.unit (s := S512x128) ![0, 0] S512x128.size inb_S512x128_S512x128_0_0).toLoadRect X4)) (k0_pay97 X) (arg3.view.readAt (Elt Ideal) (Rect.unit (s := S512x256) ![0, 128] S512x128.size inb_S512x256_S512x128_0_128).toLoadRect X3) : Vec Ideal S512x128 .f32) (ix2 r l)
      = X (ix2 r l) + incQ (arg2.view.read (Elt Ideal) X2) (arg3.view.read (Elt Ideal) X3) (arg4.view.read (Elt Ideal) X4) (arg5.view.read (Elt Ideal) X5) (arg6.view.read (Elt Ideal) X6) (kb i) (row (15 : Fin 16) r) (col 1 l) := by
  rw [ldD (off := ![7680, 0]) arg5.view X5 inb_S8192x128_S512x128_7680_0 (15 : Fin 16) rfl, ldD (off := ![7680, 0]) arg6.view X6 inb_S8192x128_S512x128_7680_0 (15 : Fin 16) rfl, ldQ (off := ![7680, 128]) arg2.view X2 inb_S8192x256_S512x128_7680_128 (15 : Fin 16) 1 rfl, ldK arg3.view X3 inb_S512x256_S512x128_0_128 1 rfl, View.readAt_full arg4.view X4 inb_S512x128_S512x128_0_0]
  exact t_dq1 (arg2.view.read (Elt Ideal) X2) (arg3.view.read (Elt Ideal) X3) (arg4.view.read (Elt Ideal) X4) (arg5.view.read (Elt Ideal) X5) (arg6.view.read (Elt Ideal) X6) X (kb i) (15 : Fin 16) hj r l

theorem las_dv (hj : kb i < 15) (X : Vec Ideal S512x128 .f32) (r : Fin 512) (l : Fin 128) :
    (k0_pay12 (k0_pay95 v9i (k0_pay81 (arg5.view.readAt (Elt Ideal) (Rect.unit (s := S8192x128) ![7680, 0] S512x128.size inb_S8192x128_S512x128_7680_0).toLoadRect X5)) (k0_pay82 (arg6.view.readAt (Elt Ideal) (Rect.unit (s := S8192x128) ![7680, 0] S512x128.size inb_S8192x128_S512x128_7680_0).toLoadRect X6)) (k0_pay87 v9i (arg5.view.readAt (Elt Ideal) (Rect.unit (s := S8192x128) ![7680, 0] S512x128.size inb_S8192x128_S512x128_7680_0).toLoadRect X5) (arg6.view.readAt (Elt Ideal) (Rect.unit (s := S8192x128) ![7680, 0] S512x128.size inb_S8192x128_S512x128_7680_0).toLoadRect X6) (arg2.view.readAt (Elt Ideal) (Rect.unit (s := S8192x256) ![7680, 0] S512x128.size inb_S8192x256_S512x128_7680_0).toLoadRect X2) (arg3.view.readAt (Elt Ideal) (Rect.unit (s := S512x256) ![0, 0] S512x128.size inb_S512x256_S512x128_0_0).toLoadRect X3)) (arg2.view.readAt (Elt Ideal) (Rect.unit (s := S8192x256) ![7680, 128] S512x128.size inb_S8192x256_S512x128_7680_128).toLoadRect X2) (arg3.view.readAt (Elt Ideal) (Rect.unit (s := S512x256) ![0, 128] S512x128.size inb_S512x256_S512x128_0_128).toLoadRect X3)) X : Vec Ideal S512x128 .f32) (ix2 r l)
      = X (ix2 r l) + incV (arg2.view.read (Elt Ideal) X2) (arg3.view.read (Elt Ideal) X3) (arg5.view.read (Elt Ideal) X5) (arg6.view.read (Elt Ideal) X6) (kb i) (15 : Fin 16) r l := by
  rw [ldD (off := ![7680, 0]) arg5.view X5 inb_S8192x128_S512x128_7680_0 (15 : Fin 16) rfl, ldD (off := ![7680, 0]) arg6.view X6 inb_S8192x128_S512x128_7680_0 (15 : Fin 16) rfl, ldQ (off := ![7680, 0]) arg2.view X2 inb_S8192x256_S512x128_7680_0 (15 : Fin 16) 0 rfl, ldQ (off := ![7680, 128]) arg2.view X2 inb_S8192x256_S512x128_7680_128 (15 : Fin 16) 1 rfl, ldK arg3.view X3 inb_S512x256_S512x128_0_0 0 rfl, ldK arg3.view X3 inb_S512x256_S512x128_0_128 1 rfl]
  exact t_dv (arg2.view.read (Elt Ideal) X2) (arg3.view.read (Elt Ideal) X3) (arg5.view.read (Elt Ideal) X5) (arg6.view.read (Elt Ideal) X6) X (kb i) (15 : Fin 16) hj r l

theorem las_read7 (hj : kb i < 15) (Xr : Vec Ideal S512x128 .f32) (L7 : List (View.Piece (Elt Ideal) S8192x256 .f32)) (hX : Xr = TQ (arg7.view.read (Elt Ideal) (arg7.view.writes (Elt Ideal) f7 L7)) (15 : Fin 16) 1) : arg7.view.read (Elt Ideal) (arg7.view.writes (Elt Ideal) f7 (las7 c arg2 arg3 arg4 arg5 arg6 arg7 X2 X3 X4 X5 X6 f7 Xr L7)) = stQ (arg2.view.read (Elt Ideal) X2) (arg3.view.read (Elt Ideal) X3) (arg4.view.read (Elt Ideal) X4) (arg5.view.read (Elt Ideal) X5) (arg6.view.read (Elt Ideal) X6) (kb i) (15 : Fin 16) (arg7.view.read (Elt Ideal) (arg7.view.writes (Elt Ideal) f7 L7)) := by
  unfold las7 las7l
  refine step7 (arg2.view.read (Elt Ideal) X2) (arg3.view.read (Elt Ideal) X3) (arg4.view.read (Elt Ideal) X4) (arg5.view.read (Elt Ideal) X5) (arg6.view.read (Elt Ideal) X6) arg7.view f7 (kb i) (15 : Fin 16) _ _ rfl rfl _ _ L7 (arg7.view.read (Elt Ideal) (arg7.view.writes (Elt Ideal) f7 L7)) rfl (fun r l => ?_) (fun r l => ?_)
  · rw [las_dq0 (hj := hj), ldQ (off := ![7680, 0]) arg7.view _ inb_S8192x256_S512x128_7680_0 (15 : Fin 16) 0 rfl]
  · rw [las_dq1 (hj := hj), hX]

theorem las_right (L7 : List (View.Piece (Elt Ideal) S8192x256 .f32)) : (arg7.view.readAt (Elt Ideal) (Rect.unit (s := S8192x256) ![7680, 128] S512x128.size inb_S8192x256_S512x128_7680_128).toLoadRect (arg7.view.writes (Elt Ideal) f7 (las7l c arg2 arg3 arg4 arg5 arg6 arg7 X2 X3 X4 X5 X6 f7 L7))) = TQ (arg7.view.read (Elt Ideal) (arg7.view.writes (Elt Ideal) f7 L7)) (15 : Fin 16) 1 := by
  unfold las7l; exact cov7_1 arg7.view f7 (15 : Fin 16) inb_S8192x256_S512x128_7680_0 inb_S8192x256_S512x128_7680_128 rfl rfl _ L7

theorem las_read8 (hj : kb i < 15) (L8 : List (View.Piece (Elt Ideal) S512x256 .f32)) : arg8.view.read (Elt Ideal) (arg8.view.writes (Elt Ideal) arg8.view.junk (las8 c arg2 arg3 arg4 arg5 arg6 arg8 X2 X3 X4 X5 X6 L8)) = stK (arg2.view.read (Elt Ideal) X2) (arg3.view.read (Elt Ideal) X3) (arg4.view.read (Elt Ideal) X4) (arg5.view.read (Elt Ideal) X5) (arg6.view.read (Elt Ideal) X6) (kb i) (15 : Fin 16) (arg8.view.read (Elt Ideal) (arg8.view.writes (Elt Ideal) arg8.view.junk L8)) := by
  unfold las8
  refine step8 (arg2.view.read (Elt Ideal) X2) (arg3.view.read (Elt Ideal) X3) (arg4.view.read (Elt Ideal) X4) (arg5.view.read (Elt Ideal) X5) (arg6.view.read (Elt Ideal) X6) arg8.view _ (kb i) (15 : Fin 16) _ _ L8 (arg8.view.read (Elt Ideal) (arg8.view.writes (Elt Ideal) arg8.view.junk L8)) (fun r l => ?_) (fun r l => ?_)
  · rw [las_dk0 (hj := hj), cov8_0 arg8.view L8 _ rfl]
  · rw [las_dk1 (hj := hj), cov8_1 arg8.view L8 _ _ rfl]

theorem las_read9 (hj : kb i < 15) (L9 : List (View.Piece (Elt Ideal) S512x128 .f32)) : arg9.view.read (Elt Ideal) (arg9.view.writes (Elt Ideal) arg9.view.junk (las9 c arg2 arg3 arg5 arg6 arg9 X2 X3 X5 X6 L9)) = stV (arg2.view.read (Elt Ideal) X2) (arg3.view.read (Elt Ideal) X3) (arg5.view.read (Elt Ideal) X5) (arg6.view.read (Elt Ideal) X6) (kb i) (15 : Fin 16) (arg9.view.read (Elt Ideal) (arg9.view.writes (Elt Ideal) arg9.view.junk L9)) := by
  unfold las9
  refine (View.read_writes_full _ _ _ _ _).trans (joinV (arg2.view.read (Elt Ideal) X2) (arg3.view.read (Elt Ideal) X3) (arg5.view.read (Elt Ideal) X5) (arg6.view.read (Elt Ideal) X6) (kb i) (15 : Fin 16) _ _ (fun r l => ?_))
  rw [las_dv (hj := hj)]
  exact congrArg (· + _) (congrFun (View.readAt_full arg9.view _ _) _)

end Blocks

end Cert.AttnRun

end
-- ==== Proof.AttnUp.lean ====
/-
  The attention backward at a point: what it leaves in the three outputs, over all row blocks.
-/
module
public import proofs.«01_k».proof.Proof.AttnBlock1
public import proofs.«01_k».proof.Proof.Rows
@[expose] public section

set_option maxRecDepth 16384

noncomputable section

namespace Cert.AttnRun

open Cert.AttnBwdIdeal Cert.AttnBwdIdeal.Gen
open Idealize.ShloMosaic Idealize.ShloMosaic.TcCoe Idealize.SL.Sem

section Up

variable (x2 : Vec Ideal S8192x256 .bf16) (x3 : Vec Ideal S512x256 .bf16) (x4 : Vec Ideal S512x128 .bf16) (x5 : Vec Ideal S8192x128 .bf16) (x6 : Vec Ideal S8192x128 .f32)

/-! The outputs after the row blocks below `n`; those before the diagonal add nothing. -/

def upQ (j : Fin 16) (n : ℕ) (x : Vec Ideal S8192x256 .f32) : Vec Ideal S8192x256 .f32 :=
  fun y => if (y 0).val / 512 < n then x y + incQ x2 x3 x4 x5 x6 j (y 0) (y 1) else x y
def upK (j : Fin 16) (n : ℕ) (x : Vec Ideal S512x256 .f32) : Vec Ideal S512x256 .f32 :=
  fun y => x y + ∑ b : Fin 16, if b.val < n then incK x2 x3 x4 x5 x6 j b (y 0) (y 1) else 0
def upV (j : Fin 16) (n : ℕ) (x : Vec Ideal S512x128 .f32) : Vec Ideal S512x128 .f32 :=
  fun y => x y + ∑ b : Fin 16, if b.val < n then incV x2 x3 x5 x6 j b (y 0) (y 1) else 0

theorem pJ_above (a : Fin 2) (j : Fin 16) (R : Fin 8192) (c : Fin 512) (h : R.val / 512 < j.val) : pJ x2 x3 x6 a j R c = 0 :=
  if_neg (by omega)
theorem sJ_above (a : Fin 2) (j : Fin 16) (R : Fin 8192) (c : Fin 512) (h : R.val / 512 < j.val) : sJ x2 x3 x4 x5 x6 a j R c = 0 := by
  unfold sJ; rw [pJ_above x2 x3 x6 a j R c h, zero_mul]
theorem incQ_above (j : Fin 16) (R : Fin 8192) (C : Fin 256) (h : R.val / 512 < j.val) : incQ x2 x3 x4 x5 x6 j R C = 0 := by
  unfold incQ
  exact Finset.sum_eq_zero fun c _ => by rw [sJ_above x2 x3 x4 x5 x6 _ j R c h, zero_mul]
theorem row_div (b : Fin 16) (r : Fin 512) : (row b r).val / 512 = b.val := by show (b.val * 512 + r.val) / 512 = b.val; omega
theorem incK_above (j b : Fin 16) (c : Fin 512) (C : Fin 256) (h : b.val < j.val) : incK x2 x3 x4 x5 x6 j b c C = 0 := by
  unfold incK
  exact Finset.sum_eq_zero fun r _ => by rw [sJ_above x2 x3 x4 x5 x6 _ j (row b r) c (by rw [row_div]; exact h), zero_mul]
theorem incV_above (j b : Fin 16) (c : Fin 512) (l : Fin 128) (h : b.val < j.val) : incV x2 x3 x5 x6 j b c l = 0 := by
  unfold incV
  rw [Finset.sum_eq_zero fun r _ => by rw [pJ_above x2 x3 x6 0 j (row b r) c (by rw [row_div]; exact h), zero_mul],
    Finset.sum_eq_zero fun r _ => by rw [pJ_above x2 x3 x6 1 j (row b r) c (by rw [row_div]; exact h), zero_mul], add_zero]

theorem sum_upto (f : Fin 16 → EReal) (b : Fin 16) :
    (∑ b' : Fin 16, if b'.val < b.val + 1 then f b' else 0) = (∑ b' : Fin 16, if b'.val < b.val then f b' else 0) + f b := by
  have e : ∀ b' : Fin 16, (if b'.val < b.val + 1 then f b' else 0) = (if b'.val < b.val then f b' else 0) + (if b' = b then f b' else 0) := by
    intro b'
    rcases Nat.lt_trichotomy b'.val b.val with h | h | h
    · rw [if_pos (by omega), if_pos h, if_neg (fun e => by rw [e] at h; omega), add_zero]
    · rw [if_pos (by omega), if_neg (by omega), if_pos (Fin.ext h), zero_add]
    · rw [if_neg (by omega), if_neg (by omega), if_neg (fun e => by rw [e] at h; omega), add_zero]
  rw [Finset.sum_congr rfl fun b' _ => e b', Finset.sum_add_distrib, Finset.sum_ite_eq' Finset.univ b f, if_pos (Finset.mem_univ b)]

theorem upQ_start (j : Fin 16) (x : Vec Ideal S8192x256 .f32) : upQ x2 x3 x4 x5 x6 j j.val x = x := by
  refine ext2 (n := 8192) (m := 256) fun R C => ?_
  show (if R.val / 512 < j.val then x (ix2 R C) + incQ x2 x3 x4 x5 x6 j R C else x (ix2 R C)) = x (ix2 R C)
  by_cases h : R.val / 512 < j.val
  · rw [if_pos h, incQ_above x2 x3 x4 x5 x6 j R C h, add_zero]
  · rw [if_neg h]
theorem upK_start (j : Fin 16) (x : Vec Ideal S512x256 .f32) : upK x2 x3 x4 x5 x6 j j.val x = x := by
  refine ext2 (n := 512) (m := 256) fun c C => ?_
  show x (ix2 c C) + (∑ b : Fin 16, if b.val < j.val then incK x2 x3 x4 x5 x6 j b c C else 0) = x (ix2 c C)
  rw [Finset.sum_eq_zero fun b _ => ?_, add_zero]
  by_cases h : b.val < j.val
  · rw [if_pos h, incK_above x2 x3 x4 x5 x6 j b c C h]
  · rw [if_neg h]
theorem upV_start (j : Fin 16) (x : Vec Ideal S512x128 .f32) : upV x2 x3 x5 x6 j j.val x = x := by
  refine ext2 (n := 512) (m := 128) fun c l => ?_
  show x (ix2 c l) + (∑ b : Fin 16, if b.val < j.val then incV x2 x3 x5 x6 j b c l else 0) = x (ix2 c l)
  rw [Finset.sum_eq_zero fun b _ => ?_, add_zero]
  by_cases h : b.val < j.val
  · rw [if_pos h, incV_above x2 x3 x5 x6 j b c l h]
  · rw [if_neg h]

theorem upQ_succ (j b : Fin 16) (n : ℕ) (hn : n = b.val) (x : Vec Ideal S8192x256 .f32) :
    stQ x2 x3 x4 x5 x6 j b (upQ x2 x3 x4 x5 x6 j n x) = upQ x2 x3 x4 x5 x6 j (n + 1) x := by
  subst hn
  refine ext2 (n := 8192) (m := 256) fun R C => ?_
  show (if R.val / 512 = b.val then (if R.val / 512 < b.val then x (ix2 R C) + incQ x2 x3 x4 x5 x6 j R C else x (ix2 R C)) + incQ x2 x3 x4 x5 x6 j R C
      else (if R.val / 512 < b.val then x (ix2 R C) + incQ x2 x3 x4 x5 x6 j R C else x (ix2 R C)))
    = if R.val / 512 < b.val + 1 then x (ix2 R C) + incQ x2 x3 x4 x5 x6 j R C else x (ix2 R C)
  by_cases h : R.val / 512 = b.val
  · rw [if_pos h, if_neg (by omega), if_pos (by omega)]
  · rw [if_neg h]
    by_cases h' : R.val / 512 < b.val
    · rw [if_pos h', if_pos (by omega)]
    · rw [if_neg h', if_neg (by omega)]
theorem upK_succ (j b : Fin 16) (n : ℕ) (hn : n = b.val) (x : Vec Ideal S512x256 .f32) :
    stK x2 x3 x4 x5 x6 j b (upK x2 x3 x4 x5 x6 j n x) = upK x2 x3 x4 x5 x6 j (n + 1) x := by
  subst hn
  refine ext2 (n := 512) (m := 256) fun c C => ?_
  show (x (ix2 c C) + ∑ b' : Fin 16, if b'.val < b.val then incK x2 x3 x4 x5 x6 j b' c C else 0) + incK x2 x3 x4 x5 x6 j b c C
    = x (ix2 c C) + ∑ b' : Fin 16, if b'.val < b.val + 1 then incK x2 x3 x4 x5 x6 j b' c C else 0
  rw [sum_upto, add_assoc]
theorem upV_succ (j b : Fin 16) (n : ℕ) (hn : n = b.val) (x : Vec Ideal S512x128 .f32) :
    stV x2 x3 x5 x6 j b (upV x2 x3 x5 x6 j n x) = upV x2 x3 x5 x6 j (n + 1) x := by
  subst hn
  refine ext2 (n := 512) (m := 128) fun c l => ?_
  show (x (ix2 c l) + ∑ b' : Fin 16, if b'.val < b.val then incV x2 x3 x5 x6 j b' c l else 0) + incV x2 x3 x5 x6 j b c l
    = x (ix2 c l) + ∑ b' : Fin 16, if b'.val < b.val + 1 then incV x2 x3 x5 x6 j b' c l else 0
  rw [sum_upto, add_assoc]

/-! What a point leaves: the query's gradient grown by this key block, this key block's own gradients. -/

def finQ (j : Fin 16) (x : Vec Ideal S8192x256 .f32) : Vec Ideal S8192x256 .f32 := fun y => x y + incQ x2 x3 x4 x5 x6 j (y 0) (y 1)
def finK (j : Fin 16) : Vec Ideal S512x256 .f32 := fun y => ∑ b : Fin 16, incK x2 x3 x4 x5 x6 j b (y 0) (y 1)
def finV (j : Fin 16) : Vec Ideal S512x128 .f32 := fun y => ∑ b : Fin 16, incV x2 x3 x5 x6 j b (y 0) (y 1)

theorem upQ_end (j : Fin 16) (n : ℕ) (hn : n = 16) (x : Vec Ideal S8192x256 .f32) : upQ x2 x3 x4 x5 x6 j n x = finQ x2 x3 x4 x5 x6 j x := by
  subst hn
  refine ext2 (n := 8192) (m := 256) fun R C => ?_
  exact if_pos (show R.val / 512 < 16 by have := R.isLt; omega)
theorem upK_end (j : Fin 16) (n : ℕ) (hn : n = 16) (x : Vec Ideal S512x256 .f32) (hx : ∀ y, x y = 0) : upK x2 x3 x4 x5 x6 j n x = finK x2 x3 x4 x5 x6 j := by
  subst hn
  refine ext2 (n := 512) (m := 256) fun c C => ?_
  show x (ix2 c C) + (∑ b : Fin 16, if b.val < 16 then incK x2 x3 x4 x5 x6 j b c C else 0) = ∑ b : Fin 16, incK x2 x3 x4 x5 x6 j b c C
  rw [hx, zero_add]
  exact Finset.sum_congr rfl fun b _ => if_pos b.isLt
theorem upV_end (j : Fin 16) (n : ℕ) (hn : n = 16) (x : Vec Ideal S512x128 .f32) (hx : ∀ y, x y = 0) : upV x2 x3 x5 x6 j n x = finV x2 x3 x5 x6 j := by
  subst hn
  refine ext2 (n := 512) (m := 128) fun c l => ?_
  show x (ix2 c l) + (∑ b : Fin 16, if b.val < 16 then incV x2 x3 x5 x6 j b c l else 0) = ∑ b : Fin 16, incV x2 x3 x5 x6 j b c l
  rw [hx, zero_add]
  exact Finset.sum_congr rfl fun b _ => if_pos b.isLt

theorem pay98_zero (y : S8192x256.Idx) : (k0_pay98 (F := Ideal) : Vec Ideal S8192x256 .f32) y = 0 := Cert.Rows.word_zero
theorem pay99_zero (y : S512x256.Idx) : (k0_pay99 (F := Ideal) : Vec Ideal S512x256 .f32) y = 0 := Cert.Rows.word_zero
theorem pay100_zero (y : S512x128.Idx) : (k0_pay100 (F := Ideal) : Vec Ideal S512x128 .f32) y = 0 := Cert.Rows.word_zero

end Up

section Loop

variable (c : Dev nD) (i : grid0.Coords) (arg2 : Memref Cert.AttnBwdIdeal.sig .tc .vmem S8192x256 .bf16) (harg2 : arg2.IsWhole) (arg3 : Memref Cert.AttnBwdIdeal.sig .tc .vmem S512x256 .bf16) (harg3 : arg3.IsWhole) (arg4 : Memref Cert.AttnBwdIdeal.sig .tc .vmem S512x128 .bf16) (harg4 : arg4.IsWhole) (arg5 : Memref Cert.AttnBwdIdeal.sig .tc .vmem S8192x128 .bf16) (harg5 : arg5.IsWhole) (arg6 : Memref Cert.AttnBwdIdeal.sig .tc .vmem S8192x128 .f32) (harg6 : arg6.IsWhole) (arg7 : Memref Cert.AttnBwdIdeal.sig .tc .vmem S8192x256 .f32) (harg7 : arg7.IsWhole) (arg8 : Memref Cert.AttnBwdIdeal.sig .tc .vmem S512x256 .f32) (harg8 : arg8.IsWhole) (arg9 : Memref Cert.AttnBwdIdeal.sig .tc .vmem S512x128 .f32) (harg9 : arg9.IsWhole) (arg1 : BitVec 32)
  (X2 : Buf (Elt Ideal) (arg2.view.loc (c : Thread nD τ))) (X3 : Buf (Elt Ideal) (arg3.view.loc (c : Thread nD τ))) (X4 : Buf (Elt Ideal) (arg4.view.loc (c : Thread nD τ))) (X5 : Buf (Elt Ideal) (arg5.view.loc (c : Thread nD τ))) (X6 : Buf (Elt Ideal) (arg6.view.loc (c : Thread nD τ)))

variable (G7 : Buf (Elt Ideal) (arg7.view.loc (c : Thread nD τ))) (G8 : Buf (Elt Ideal) (arg8.view.loc (c : Thread nD τ))) (G9 : Buf (Elt Ideal) (arg9.view.loc (c : Thread nD τ)))

/-- The loop, trip by trip. -/
theorem pcs_read7 (x : Vec Ideal S8192x256 .f32) (h : arg7.view.read (Elt Ideal) G7 = upQ (arg2.view.read (Elt Ideal) X2) (arg3.view.read (Elt Ideal) X3) (arg4.view.read (Elt Ideal) X4) (arg5.view.read (Elt Ideal) X5) (arg6.view.read (Elt Ideal) X6) (kb i) ((kb i).val + 1) x) :
    ∀ k : ℕ, k ≤ (k0_t1_loop i).trips →
      arg7.view.read (Elt Ideal) (arg7.view.writes (Elt Ideal) G7 (pcs c i arg2 harg2 arg3 harg3 arg4 harg4 arg5 harg5 arg6 harg6 arg7 harg7 arg8 harg8 arg9 harg9 arg1 v9i X2 X3 X4 X5 X6 G7 G8 G9 k).1) = upQ (arg2.view.read (Elt Ideal) X2) (arg3.view.read (Elt Ideal) X3) (arg4.view.read (Elt Ideal) X4) (arg5.view.read (Elt Ideal) X5) (arg6.view.read (Elt Ideal) X6) (kb i) ((kb i).val + 1 + 2 * k) x
  | 0, _ => h
  | k + 1, hk => by
    have ih := pcs_read7 x h k (Nat.le_of_succ_le hk)
    rw [pcs_succ c i arg2 harg2 arg3 harg3 arg4 harg4 arg5 harg5 arg6 harg6 arg7 harg7 arg8 harg8 arg9 harg9 arg1 v9i X2 X3 X4 X5 X6 G7 G8 G9 ⟨k, hk⟩]
    rw [View.writes_append, trip_read7 c i arg2 harg2 arg3 harg3 arg4 harg4 arg5 harg5 arg6 harg6 arg7 harg7 arg8 harg8 arg9 harg9 arg1 X2 X3 X4 X5 X6 ⟨k, hk⟩, ih,
      upQ_succ (arg2.view.read (Elt Ideal) X2) (arg3.view.read (Elt Ideal) X3) (arg4.view.read (Elt Ideal) X4) (arg5.view.read (Elt Ideal) X5) (arg6.view.read (Elt Ideal) X6) (kb i) (blk1 i ⟨k, hk⟩) ((kb i).val + 1 + 2 * k) rfl x,
      upQ_succ (arg2.view.read (Elt Ideal) X2) (arg3.view.read (Elt Ideal) X3) (arg4.view.read (Elt Ideal) X4) (arg5.view.read (Elt Ideal) X5) (arg6.view.read (Elt Ideal) X6) (kb i) (blk2 i ⟨k, hk⟩) ((kb i).val + 1 + 2 * k + 1) (by show (i 1).val + 1 + 2 * k + 1 = (i 1).val + 2 + 2 * k; omega) x]
    rfl

/-- The loop, trip by trip. -/
theorem pcs_read8 (x : Vec Ideal S512x256 .f32) (h : arg8.view.read (Elt Ideal) G8 = upK (arg2.view.read (Elt Ideal) X2) (arg3.view.read (Elt Ideal) X3) (arg4.view.read (Elt Ideal) X4) (arg5.view.read (Elt Ideal) X5) (arg6.view.read (Elt Ideal) X6) (kb i) ((kb i).val + 1) x) :
    ∀ k : ℕ, k ≤ (k0_t1_loop i).trips →
      arg8.view.read (Elt Ideal) (arg8.view.writes (Elt Ideal) G8 (pcs c i arg2 harg2 arg3 harg3 arg4 harg4 arg5 harg5 arg6 harg6 arg7 harg7 arg8 harg8 arg9 harg9 arg1 v9i X2 X3 X4 X5 X6 G7 G8 G9 k).2.1) = upK (arg2.view.read (Elt Ideal) X2) (arg3.view.read (Elt Ideal) X3) (arg4.view.read (Elt Ideal) X4) (arg5.view.read (Elt Ideal) X5) (arg6.view.read (Elt Ideal) X6) (kb i) ((kb i).val + 1 + 2 * k) x
  | 0, _ => h
  | k + 1, hk => by
    have ih := pcs_read8 x h k (Nat.le_of_succ_le hk)
    rw [pcs_succ c i arg2 harg2 arg3 harg3 arg4 harg4 arg5 harg5 arg6 harg6 arg7 harg7 arg8 harg8 arg9 harg9 arg1 v9i X2 X3 X4 X5 X6 G7 G8 G9 ⟨k, hk⟩]
    rw [View.writes_append, trip_read8 c i arg2 harg2 arg3 harg3 arg4 harg4 arg5 harg5 arg6 harg6 arg7 harg7 arg8 harg8 arg9 harg9 arg1 X2 X3 X4 X5 X6 ⟨k, hk⟩, ih,
      upK_succ (arg2.view.read (Elt Ideal) X2) (arg3.view.read (Elt Ideal) X3) (arg4.view.read (Elt Ideal) X4) (arg5.view.read (Elt Ideal) X5) (arg6.view.read (Elt Ideal) X6) (kb i) (blk1 i ⟨k, hk⟩) ((kb i).val + 1 + 2 * k) rfl x,
      upK_succ (arg2.view.read (Elt Ideal) X2) (arg3.view.read (Elt Ideal) X3) (arg4.view.read (Elt Ideal) X4) (arg5.view.read (Elt Ideal) X5) (arg6.view.read (Elt Ideal) X6) (kb i) (blk2 i ⟨k, hk⟩) ((kb i).val + 1 + 2 * k + 1) (by show (i 1).val + 1 + 2 * k + 1 = (i 1).val + 2 + 2 * k; omega) x]
    rfl

/-- The loop, trip by trip. -/
theorem pcs_read9 (x : Vec Ideal S512x128 .f32) (h : arg9.view.read (Elt Ideal) G9 = upV (arg2.view.read (Elt Ideal) X2) (arg3.view.read (Elt Ideal) X3) (arg5.view.read (Elt Ideal) X5) (arg6.view.read (Elt Ideal) X6) (kb i) ((kb i).val + 1) x) :
    ∀ k : ℕ, k ≤ (k0_t1_loop i).trips →
      arg9.view.read (Elt Ideal) (arg9.view.writes (Elt Ideal) G9 (pcs c i arg2 harg2 arg3 harg3 arg4 harg4 arg5 harg5 arg6 harg6 arg7 harg7 arg8 harg8 arg9 harg9 arg1 v9i X2 X3 X4 X5 X6 G7 G8 G9 k).2.2) = upV (arg2.view.read (Elt Ideal) X2) (arg3.view.read (Elt Ideal) X3) (arg5.view.read (Elt Ideal) X5) (arg6.view.read (Elt Ideal) X6) (kb i) ((kb i).val + 1 + 2 * k) x
  | 0, _ => h
  | k + 1, hk => by
    have ih := pcs_read9 x h k (Nat.le_of_succ_le hk)
    rw [pcs_succ c i arg2 harg2 arg3 harg3 arg4 harg4 arg5 harg5 arg6 harg6 arg7 harg7 arg8 harg8 arg9 harg9 arg1 v9i X2 X3 X4 X5 X6 G7 G8 G9 ⟨k, hk⟩]
    rw [View.writes_append, trip_read9 c i arg2 harg2 arg3 harg3 arg4 harg4 arg5 harg5 arg6 harg6 arg7 harg7 arg8 harg8 arg9 harg9 arg1 X2 X3 X4 X5 X6 ⟨k, hk⟩, ih,
      upV_succ (arg2.view.read (Elt Ideal) X2) (arg3.view.read (Elt Ideal) X3) (arg5.view.read (Elt Ideal) X5) (arg6.view.read (Elt Ideal) X6) (kb i) (blk1 i ⟨k, hk⟩) ((kb i).val + 1 + 2 * k) rfl x,
      upV_succ (arg2.view.read (Elt Ideal) X2) (arg3.view.read (Elt Ideal) X3) (arg5.view.read (Elt Ideal) X5) (arg6.view.read (Elt Ideal) X6) (kb i) (blk2 i ⟨k, hk⟩) ((kb i).val + 1 + 2 * k + 1) (by show (i 1).val + 1 + 2 * k + 1 = (i 1).val + 2 + 2 * k; omega) x]
    rfl

end Loop

end Cert.AttnRun

end
-- ==== Proof.AttnPoint.lean ====
/-
  The attention backward at a point: what it leaves in the three outputs.
-/
module
public import proofs.«01_k».proof.Proof.AttnUp
public import proofs.«01_k».proof.Proof.AttnFrame
public import Idealize.ShloMosaic.Lib.Tactic
@[expose] public section

set_option maxRecDepth 16384

noncomputable section

namespace Cert.AttnRun

open Cert.AttnBwdIdeal Cert.AttnBwdIdeal.Gen
open Idealize.ShloMosaic Idealize.ShloMosaic.TcCoe Idealize.ShloMosaic.Tactic Idealize.SL.Sem

theorem trips_odd (i : grid0.Coords) (h : (15 - (i 1).val) % 2 = 1) : (kb i).val + 1 + 2 * (k0_t1_loop i).trips = 15 := by
  rw [trips1 i]; show (i 1).val + 1 + 2 * ((15 - (i 1).val) / 2) = 15; have := (kb i).isLt; change (i 1).val < 16 at this; omega
theorem trips_even (i : grid0.Coords) (h : (15 - (i 1).val) % 2 = 0) : (kb i).val + 1 + 2 * (k0_t1_loop i).trips = 16 := by
  rw [trips1 i]; show (i 1).val + 1 + 2 * ((15 - (i 1).val) / 2) = 16; have := (kb i).isLt; change (i 1).val < 16 at this; omega

section Runs

variable (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x256 .f32) (harg7 : arg7.IsWhole) (arg8 : Memref sig .tc .vmem S512x256 .f32) (harg8 : arg8.IsWhole) (arg9 : Memref sig .tc .vmem S512x128 .f32) (harg9 : arg9.IsWhole) (x2 : Vec Ideal S8192x256 .bf16) (x3 : Vec Ideal S512x256 .bf16) (x4 : Vec Ideal S512x128 .bf16) (x5 : Vec Ideal S8192x128 .bf16) (x6 : Vec Ideal S8192x128 .f32) (x7 : Vec Ideal S8192x256 .f32)

set_option maxHeartbeats 4000000 in
theorem listA7 (hc0 : cond0 i) (hc1 : cond1 i) : (runA c i arg2 harg2 arg3 harg3 arg4 harg4 arg5 harg5 arg6 harg6 arg7 harg7 arg8 harg8 arg9 harg9 hc0 hc1 x2 x3 x4 x5 x6).1 = arg7.view.writes (Elt Ideal) arg7.view.junk (las7 c arg2 arg3 arg4 arg5 arg6 arg7 (harg2.unread x2) (harg3.unread x3) (harg4.unread x4) (harg5.unread x5) (harg6.unread x6) arg7.view.junk (arg7.view.readAt (Elt Ideal) (Rect.unit (s := S8192x256) ![7680, 128] S512x128.size inb_S8192x256_S512x128_7680_128).toLoadRect (arg7.view.writes (Elt Ideal) arg7.view.junk (las7l c arg2 arg3 arg4 arg5 arg6 arg7 (harg2.unread x2) (harg3.unread x3) (harg4.unread x4) (harg5.unread x5) (harg6.unread x6) arg7.view.junk ((pcs c i arg2 harg2 arg3 harg3 arg4 harg4 arg5 harg5 arg6 harg6 arg7 harg7 arg8 harg8 arg9 harg9 (BitVec.ofNat 32 (i 1).val) v9i (harg2.unread x2) (harg3.unread x3) (harg4.unread x4) (harg5.unread x5) (harg6.unread x6) (arg7.view.writes (Elt Ideal) arg7.view.junk (dia7 c i arg2 arg3 arg4 arg5 arg6 arg7 (harg2.unread x2) (harg3.unread x3) (harg4.unread x4) (harg5.unread x5) (harg6.unread x6) arg7.view.junk (arg7.view.readAt (Elt Ideal) (Rect.unit (s := S8192x256) (k0_off3 i) S512x128.size (k0_off3_inb i)).toLoadRect (arg7.view.writes (Elt Ideal) arg7.view.junk (dia7l c i arg2 arg3 arg4 arg5 arg6 arg7 (harg2.unread x2) (harg3.unread x3) (harg4.unread x4) (harg5.unread x5) (harg6.unread x6) arg7.view.junk [⟨Rect.unit (s := S8192x256) ![0, 0] S8192x256.size inb_S8192x256_S8192x256_0_0, (k0_pay98 (F := Ideal))⟩]))) [⟨Rect.unit (s := S8192x256) ![0, 0] S8192x256.size inb_S8192x256_S8192x256_0_0, (k0_pay98 (F := Ideal))⟩])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) (k0_t1_loop i).trips).1 ++ (dia7 c i arg2 arg3 arg4 arg5 arg6 arg7 (harg2.unread x2) (harg3.unread x3) (harg4.unread x4) (harg5.unread x5) (harg6.unread x6) arg7.view.junk (arg7.view.readAt (Elt Ideal) (Rect.unit (s := S8192x256) (k0_off3 i) S512x128.size (k0_off3_inb i)).toLoadRect (arg7.view.writes (Elt Ideal) arg7.view.junk (dia7l c i arg2 arg3 arg4 arg5 arg6 arg7 (harg2.unread x2) (harg3.unread x3) (harg4.unread x4) (harg5.unread x5) (harg6.unread x6) arg7.view.junk [⟨Rect.unit (s := S8192x256) ![0, 0] S8192x256.size inb_S8192x256_S8192x256_0_0, (k0_pay98 (F := Ideal))⟩]))) [⟨Rect.unit (s := S8192x256) ![0, 0] S8192x256.size inb_S8192x256_S8192x256_0_0, (k0_pay98 (F := Ideal))⟩]))))) ((pcs c i arg2 harg2 arg3 harg3 arg4 harg4 arg5 harg5 arg6 harg6 arg7 harg7 arg8 harg8 arg9 harg9 (BitVec.ofNat 32 (i 1).val) v9i (harg2.unread x2) (harg3.unread x3) (harg4.unread x4) (harg5.unread x5) (harg6.unread x6) (arg7.view.writes (Elt Ideal) arg7.view.junk (dia7 c i arg2 arg3 arg4 arg5 arg6 arg7 (harg2.unread x2) (harg3.unread x3) (harg4.unread x4) (harg5.unread x5) (harg6.unread x6) arg7.view.junk (arg7.view.readAt (Elt Ideal) (Rect.unit (s := S8192x256) (k0_off3 i) S512x128.size (k0_off3_inb i)).toLoadRect (arg7.view.writes (Elt Ideal) arg7.view.junk (dia7l c i arg2 arg3 arg4 arg5 arg6 arg7 (harg2.unread x2) (harg3.unread x3) (harg4.unread x4) (harg5.unread x5) (harg6.unread x6) arg7.view.junk [⟨Rect.unit (s := S8192x256) ![0, 0] S8192x256.size inb_S8192x256_S8192x256_0_0, (k0_pay98 (F := Ideal))⟩]))) [⟨Rect.unit (s := S8192x256) ![0, 0] S8192x256.size inb_S8192x256_S8192x256_0_0, (k0_pay98 (F := Ideal))⟩])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) (k0_t1_loop i).trips).1 ++ (dia7 c i arg2 arg3 arg4 arg5 arg6 arg7 (harg2.unread x2) (harg3.unread x3) (harg4.unread x4) (harg5.unread x5) (harg6.unread x6) arg7.view.junk (arg7.view.readAt (Elt Ideal) (Rect.unit (s := S8192x256) (k0_off3 i) S512x128.size (k0_off3_inb i)).toLoadRect (arg7.view.writes (Elt Ideal) arg7.view.junk (dia7l c i arg2 arg3 arg4 arg5 arg6 arg7 (harg2.unread x2) (harg3.unread x3) (harg4.unread x4) (harg5.unread x5) (harg6.unread x6) arg7.view.junk [⟨Rect.unit (s := S8192x256) ![0, 0] S8192x256.size inb_S8192x256_S8192x256_0_0, (k0_pay98 (F := Ideal))⟩]))) [⟨Rect.unit (s := S8192x256) ![0, 0] S8192x256.size inb_S8192x256_S8192x256_0_0, (k0_pay98 (F := Ideal))⟩]))) := by
  unfold runA; rfl

set_option maxHeartbeats 4000000 in
theorem listA8 (hc0 : cond0 i) (hc1 : cond1 i) : (runA c i arg2 harg2 arg3 harg3 arg4 harg4 arg5 harg5 arg6 harg6 arg7 harg7 arg8 harg8 arg9 harg9 hc0 hc1 x2 x3 x4 x5 x6).2.1 = arg8.view.writes (Elt Ideal) arg8.view.junk (las8 c arg2 arg3 arg4 arg5 arg6 arg8 (harg2.unread x2) (harg3.unread x3) (harg4.unread x4) (harg5.unread x5) (harg6.unread x6) ((pcs c i arg2 harg2 arg3 harg3 arg4 harg4 arg5 harg5 arg6 harg6 arg7 harg7 arg8 harg8 arg9 harg9 (BitVec.ofNat 32 (i 1).val) v9i (harg2.unread x2) (harg3.unread x3) (harg4.unread x4) (harg5.unread x5) (harg6.unread x6) (arg7.view.writes (Elt Ideal) arg7.view.junk (dia7 c i arg2 arg3 arg4 arg5 arg6 arg7 (harg2.unread x2) (harg3.unread x3) (harg4.unread x4) (harg5.unread x5) (harg6.unread x6) arg7.view.junk (arg7.view.readAt (Elt Ideal) (Rect.unit (s := S8192x256) (k0_off3 i) S512x128.size (k0_off3_inb i)).toLoadRect (arg7.view.writes (Elt Ideal) arg7.view.junk (dia7l c i arg2 arg3 arg4 arg5 arg6 arg7 (harg2.unread x2) (harg3.unread x3) (harg4.unread x4) (harg5.unread x5) (harg6.unread x6) arg7.view.junk [⟨Rect.unit (s := S8192x256) ![0, 0] S8192x256.size inb_S8192x256_S8192x256_0_0, (k0_pay98 (F := Ideal))⟩]))) [⟨Rect.unit (s := S8192x256) ![0, 0] S8192x256.size inb_S8192x256_S8192x256_0_0, (k0_pay98 (F := Ideal))⟩])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) (k0_t1_loop i).trips).2.1 ++ (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩]))) := by
  unfold runA; rfl

set_option maxHeartbeats 4000000 in
theorem listA9 (hc0 : cond0 i) (hc1 : cond1 i) : (runA c i arg2 harg2 arg3 harg3 arg4 harg4 arg5 harg5 arg6 harg6 arg7 harg7 arg8 harg8 arg9 harg9 hc0 hc1 x2 x3 x4 x5 x6).2.2.1 = arg9.view.writes (Elt Ideal) arg9.view.junk (las9 c arg2 arg3 arg5 arg6 arg9 (harg2.unread x2) (harg3.unread x3) (harg5.unread x5) (harg6.unread x6) ((pcs c i arg2 harg2 arg3 harg3 arg4 harg4 arg5 harg5 arg6 harg6 arg7 harg7 arg8 harg8 arg9 harg9 (BitVec.ofNat 32 (i 1).val) v9i (harg2.unread x2) (harg3.unread x3) (harg4.unread x4) (harg5.unread x5) (harg6.unread x6) (arg7.view.writes (Elt Ideal) arg7.view.junk (dia7 c i arg2 arg3 arg4 arg5 arg6 arg7 (harg2.unread x2) (harg3.unread x3) (harg4.unread x4) (harg5.unread x5) (harg6.unread x6) arg7.view.junk (arg7.view.readAt (Elt Ideal) (Rect.unit (s := S8192x256) (k0_off3 i) S512x128.size (k0_off3_inb i)).toLoadRect (arg7.view.writes (Elt Ideal) arg7.view.junk (dia7l c i arg2 arg3 arg4 arg5 arg6 arg7 (harg2.unread x2) (harg3.unread x3) (harg4.unread x4) (harg5.unread x5) (harg6.unread x6) arg7.view.junk [⟨Rect.unit (s := S8192x256) ![0, 0] S8192x256.size inb_S8192x256_S8192x256_0_0, (k0_pay98 (F := Ideal))⟩]))) [⟨Rect.unit (s := S8192x256) ![0, 0] S8192x256.size inb_S8192x256_S8192x256_0_0, (k0_pay98 (F := Ideal))⟩])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) (k0_t1_loop i).trips).2.2 ++ (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩]))) := by
  unfold runA; rfl

theorem readA7 (hc0 : cond0 i) (hc1 : cond1 i) (hp : (15 - (i 1).val) % 2 = 1) : arg7.view.read (Elt Ideal) (runA c i arg2 harg2 arg3 harg3 arg4 harg4 arg5 harg5 arg6 harg6 arg7 harg7 arg8 harg8 arg9 harg9 hc0 hc1 x2 x3 x4 x5 x6).1 = finQ x2 x3 x4 x5 x6 (kb i) (k0_pay98 (F := Ideal)) := by
  have hs : arg7.view.read (Elt Ideal) (arg7.view.writes (Elt Ideal) arg7.view.junk [⟨Rect.unit (s := S8192x256) ![0, 0] S8192x256.size inb_S8192x256_S8192x256_0_0, (k0_pay98 (F := Ideal))⟩]) = (k0_pay98 (F := Ideal)) := View.read_writes_full _ _ _ _ _
  have hd : arg7.view.read (Elt Ideal) (arg7.view.writes (Elt Ideal) arg7.view.junk (dia7 c i arg2 arg3 arg4 arg5 arg6 arg7 (harg2.unread x2) (harg3.unread x3) (harg4.unread x4) (harg5.unread x5) (harg6.unread x6) arg7.view.junk (arg7.view.readAt (Elt Ideal) (Rect.unit (s := S8192x256) (k0_off3 i) S512x128.size (k0_off3_inb i)).toLoadRect (arg7.view.writes (Elt Ideal) arg7.view.junk (dia7l c i arg2 arg3 arg4 arg5 arg6 arg7 (harg2.unread x2) (harg3.unread x3) (harg4.unread x4) (harg5.unread x5) (harg6.unread x6) arg7.view.junk [⟨Rect.unit (s := S8192x256) ![0, 0] S8192x256.size inb_S8192x256_S8192x256_0_0, (k0_pay98 (F := Ideal))⟩]))) [⟨Rect.unit (s := S8192x256) ![0, 0] S8192x256.size inb_S8192x256_S8192x256_0_0, (k0_pay98 (F := Ideal))⟩])) = upQ x2 x3 x4 x5 x6 (kb i) ((kb i).val + 1) (k0_pay98 (F := Ideal)) := by
    rw [dia_read7 (hX := dia_right _ _ _ _ _ _ _ _ _ _ _ _ _ _ _), hs, harg2.read_unread, harg3.read_unread, harg4.read_unread, harg5.read_unread, harg6.read_unread, ← upQ_succ x2 x3 x4 x5 x6 (kb i) (kb i) _ rfl, upQ_start]
  have hl := pcs_read7 c i arg2 harg2 arg3 harg3 arg4 harg4 arg5 harg5 arg6 harg6 arg7 harg7 arg8 harg8 arg9 harg9 (BitVec.ofNat 32 (i 1).val) (harg2.unread x2) (harg3.unread x3) (harg4.unread x4) (harg5.unread x5) (harg6.unread x6) (arg7.view.writes (Elt Ideal) arg7.view.junk (dia7 c i arg2 arg3 arg4 arg5 arg6 arg7 (harg2.unread x2) (harg3.unread x3) (harg4.unread x4) (harg5.unread x5) (harg6.unread x6) arg7.view.junk (arg7.view.readAt (Elt Ideal) (Rect.unit (s := S8192x256) (k0_off3 i) S512x128.size (k0_off3_inb i)).toLoadRect (arg7.view.writes (Elt Ideal) arg7.view.junk (dia7l c i arg2 arg3 arg4 arg5 arg6 arg7 (harg2.unread x2) (harg3.unread x3) (harg4.unread x4) (harg5.unread x5) (harg6.unread x6) arg7.view.junk [⟨Rect.unit (s := S8192x256) ![0, 0] S8192x256.size inb_S8192x256_S8192x256_0_0, (k0_pay98 (F := Ideal))⟩]))) [⟨Rect.unit (s := S8192x256) ![0, 0] S8192x256.size inb_S8192x256_S8192x256_0_0, (k0_pay98 (F := Ideal))⟩])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) (k0_pay98 (F := Ideal)) (by rw [hd, harg2.read_unread, harg3.read_unread, harg4.read_unread, harg5.read_unread, harg6.read_unread]) (k0_t1_loop i).trips le_rfl
  rw [← View.writes_append, harg2.read_unread, harg3.read_unread, harg4.read_unread, harg5.read_unread, harg6.read_unread] at hl
  rw [listA7 c i arg2 harg2 arg3 harg3 arg4 harg4 arg5 harg5 arg6 harg6 arg7 harg7 arg8 harg8 arg9 harg9 x2 x3 x4 x5 x6 hc0 hc1]
  rw [las_read7 (hX := las_right _ _ _ _ _ _ _ _ _ _ _ _ _ _) (hj := by rw [Fin.lt_def]; show (i 1).val < 15; omega), hl, harg2.read_unread, harg3.read_unread, harg4.read_unread, harg5.read_unread, harg6.read_unread, upQ_succ x2 x3 x4 x5 x6 (kb i) 15 _ (trips_odd i hp)]
  exact upQ_end x2 x3 x4 x5 x6 (kb i) _ (congrArg (· + 1) (trips_odd i hp)) _

theorem readA8 (hc0 : cond0 i) (hc1 : cond1 i) (hp : (15 - (i 1).val) % 2 = 1) : arg8.view.read (Elt Ideal) (runA c i arg2 harg2 arg3 harg3 arg4 harg4 arg5 harg5 arg6 harg6 arg7 harg7 arg8 harg8 arg9 harg9 hc0 hc1 x2 x3 x4 x5 x6).2.1 = finK x2 x3 x4 x5 x6 (kb i) := by
  have hs : arg8.view.read (Elt Ideal) (arg8.view.writes (Elt Ideal) arg8.view.junk [⟨Rect.unit (s := S512x256) ![0, 0] S512x256.size inb_S512x256_S512x256_0_0, (k0_pay99 (F := Ideal))⟩]) = (k0_pay99 (F := Ideal)) := View.read_writes_full _ _ _ _ _
  have hd : arg8.view.read (Elt Ideal) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) = upK x2 x3 x4 x5 x6 (kb i) ((kb i).val + 1) (k0_pay99 (F := Ideal)) := by
    rw [dia_read8, hs, harg2.read_unread, harg3.read_unread, harg4.read_unread, harg5.read_unread, harg6.read_unread, ← upK_succ x2 x3 x4 x5 x6 (kb i) (kb i) _ rfl, upK_start]
  have hl := pcs_read8 c i arg2 harg2 arg3 harg3 arg4 harg4 arg5 harg5 arg6 harg6 arg7 harg7 arg8 harg8 arg9 harg9 (BitVec.ofNat 32 (i 1).val) (harg2.unread x2) (harg3.unread x3) (harg4.unread x4) (harg5.unread x5) (harg6.unread x6) (arg7.view.writes (Elt Ideal) arg7.view.junk (dia7 c i arg2 arg3 arg4 arg5 arg6 arg7 (harg2.unread x2) (harg3.unread x3) (harg4.unread x4) (harg5.unread x5) (harg6.unread x6) arg7.view.junk (arg7.view.readAt (Elt Ideal) (Rect.unit (s := S8192x256) (k0_off3 i) S512x128.size (k0_off3_inb i)).toLoadRect (arg7.view.writes (Elt Ideal) arg7.view.junk (dia7l c i arg2 arg3 arg4 arg5 arg6 arg7 (harg2.unread x2) (harg3.unread x3) (harg4.unread x4) (harg5.unread x5) (harg6.unread x6) arg7.view.junk [⟨Rect.unit (s := S8192x256) ![0, 0] S8192x256.size inb_S8192x256_S8192x256_0_0, (k0_pay98 (F := Ideal))⟩]))) [⟨Rect.unit (s := S8192x256) ![0, 0] S8192x256.size inb_S8192x256_S8192x256_0_0, (k0_pay98 (F := Ideal))⟩])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) (k0_pay99 (F := Ideal)) (by rw [hd, harg2.read_unread, harg3.read_unread, harg4.read_unread, harg5.read_unread, harg6.read_unread]) (k0_t1_loop i).trips le_rfl
  rw [← View.writes_append, harg2.read_unread, harg3.read_unread, harg4.read_unread, harg5.read_unread, harg6.read_unread] at hl
  rw [listA8 c i arg2 harg2 arg3 harg3 arg4 harg4 arg5 harg5 arg6 harg6 arg7 harg7 arg8 harg8 arg9 harg9 x2 x3 x4 x5 x6 hc0 hc1]
  rw [las_read8 (hj := by rw [Fin.lt_def]; show (i 1).val < 15; omega), hl, harg2.read_unread, harg3.read_unread, harg4.read_unread, harg5.read_unread, harg6.read_unread, upK_succ x2 x3 x4 x5 x6 (kb i) 15 _ (trips_odd i hp)]
  exact upK_end x2 x3 x4 x5 x6 (kb i) _ (congrArg (· + 1) (trips_odd i hp)) _ pay99_zero

theorem readA9 (hc0 : cond0 i) (hc1 : cond1 i) (hp : (15 - (i 1).val) % 2 = 1) : arg9.view.read (Elt Ideal) (runA c i arg2 harg2 arg3 harg3 arg4 harg4 arg5 harg5 arg6 harg6 arg7 harg7 arg8 harg8 arg9 harg9 hc0 hc1 x2 x3 x4 x5 x6).2.2.1 = finV x2 x3 x5 x6 (kb i) := by
  have hs : arg9.view.read (Elt Ideal) (arg9.view.writes (Elt Ideal) arg9.view.junk [⟨Rect.unit (s := S512x128) ![0, 0] S512x128.size inb_S512x128_S512x128_0_0, (k0_pay100 (F := Ideal))⟩]) = (k0_pay100 (F := Ideal)) := View.read_writes_full _ _ _ _ _
  have hd : arg9.view.read (Elt Ideal) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) = upV x2 x3 x5 x6 (kb i) ((kb i).val + 1) (k0_pay100 (F := Ideal)) := by
    rw [dia_read9, hs, harg2.read_unread, harg3.read_unread, harg5.read_unread, harg6.read_unread, ← upV_succ x2 x3 x5 x6 (kb i) (kb i) _ rfl, upV_start]
  have hl := pcs_read9 c i arg2 harg2 arg3 harg3 arg4 harg4 arg5 harg5 arg6 harg6 arg7 harg7 arg8 harg8 arg9 harg9 (BitVec.ofNat 32 (i 1).val) (harg2.unread x2) (harg3.unread x3) (harg4.unread x4) (harg5.unread x5) (harg6.unread x6) (arg7.view.writes (Elt Ideal) arg7.view.junk (dia7 c i arg2 arg3 arg4 arg5 arg6 arg7 (harg2.unread x2) (harg3.unread x3) (harg4.unread x4) (harg5.unread x5) (harg6.unread x6) arg7.view.junk (arg7.view.readAt (Elt Ideal) (Rect.unit (s := S8192x256) (k0_off3 i) S512x128.size (k0_off3_inb i)).toLoadRect (arg7.view.writes (Elt Ideal) arg7.view.junk (dia7l c i arg2 arg3 arg4 arg5 arg6 arg7 (harg2.unread x2) (harg3.unread x3) (harg4.unread x4) (harg5.unread x5) (harg6.unread x6) arg7.view.junk [⟨Rect.unit (s := S8192x256) ![0, 0] S8192x256.size inb_S8192x256_S8192x256_0_0, (k0_pay98 (F := Ideal))⟩]))) [⟨Rect.unit (s := S8192x256) ![0, 0] S8192x256.size inb_S8192x256_S8192x256_0_0, (k0_pay98 (F := Ideal))⟩])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) (k0_pay100 (F := Ideal)) (by rw [hd, harg2.read_unread, harg3.read_unread, harg5.read_unread, harg6.read_unread]) (k0_t1_loop i).trips le_rfl
  rw [← View.writes_append, harg2.read_unread, harg3.read_unread, harg5.read_unread, harg6.read_unread] at hl
  rw [listA9 c i arg2 harg2 arg3 harg3 arg4 harg4 arg5 harg5 arg6 harg6 arg7 harg7 arg8 harg8 arg9 harg9 x2 x3 x4 x5 x6 hc0 hc1]
  rw [las_read9 (hj := by rw [Fin.lt_def]; show (i 1).val < 15; omega), hl, harg2.read_unread, harg3.read_unread, harg5.read_unread, harg6.read_unread, upV_succ x2 x3 x5 x6 (kb i) 15 _ (trips_odd i hp)]
  exact upV_end x2 x3 x5 x6 (kb i) _ (congrArg (· + 1) (trips_odd i hp)) _ pay100_zero

set_option maxHeartbeats 4000000 in
theorem listB7 (hc0 : ¬cond0 i) (hc1 : cond1 i) : (runB c i arg2 harg2 arg3 harg3 arg4 harg4 arg5 harg5 arg6 harg6 arg7 harg7 arg8 harg8 arg9 harg9 hc0 hc1 x2 x3 x4 x5 x6 x7).1 = arg7.view.writes (Elt Ideal) (harg7.unread x7) (las7 c arg2 arg3 arg4 arg5 arg6 arg7 (harg2.unread x2) (harg3.unread x3) (harg4.unread x4) (harg5.unread x5) (harg6.unread x6) (harg7.unread x7) (arg7.view.readAt (Elt Ideal) (Rect.unit (s := S8192x256) ![7680, 128] S512x128.size inb_S8192x256_S512x128_7680_128).toLoadRect (arg7.view.writes (Elt Ideal) (harg7.unread x7) (las7l c arg2 arg3 arg4 arg5 arg6 arg7 (harg2.unread x2) (harg3.unread x3) (harg4.unread x4) (harg5.unread x5) (harg6.unread x6) (harg7.unread x7) ((pcs c i arg2 harg2 arg3 harg3 arg4 harg4 arg5 harg5 arg6 harg6 arg7 harg7 arg8 harg8 arg9 harg9 (BitVec.ofNat 32 (i 1).val) v9i (harg2.unread x2) (harg3.unread x3) (harg4.unread x4) (harg5.unread x5) (harg6.unread x6) (arg7.view.writes (Elt Ideal) (harg7.unread x7) (dia7 c i arg2 arg3 arg4 arg5 arg6 arg7 (harg2.unread x2) (harg3.unread x3) (harg4.unread x4) (harg5.unread x5) (harg6.unread x6) (harg7.unread x7) (arg7.view.readAt (Elt Ideal) (Rect.unit (s := S8192x256) (k0_off3 i) S512x128.size (k0_off3_inb i)).toLoadRect (harg7.unread x7)) [])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) (k0_t1_loop i).trips).1 ++ (dia7 c i arg2 arg3 arg4 arg5 arg6 arg7 (harg2.unread x2) (harg3.unread x3) (harg4.unread x4) (harg5.unread x5) (harg6.unread x6) (harg7.unread x7) (arg7.view.readAt (Elt Ideal) (Rect.unit (s := S8192x256) (k0_off3 i) S512x128.size (k0_off3_inb i)).toLoadRect (harg7.unread x7)) []))))) ((pcs c i arg2 harg2 arg3 harg3 arg4 harg4 arg5 harg5 arg6 harg6 arg7 harg7 arg8 harg8 arg9 harg9 (BitVec.ofNat 32 (i 1).val) v9i (harg2.unread x2) (harg3.unread x3) (harg4.unread x4) (harg5.unread x5) (harg6.unread x6) (arg7.view.writes (Elt Ideal) (harg7.unread x7) (dia7 c i arg2 arg3 arg4 arg5 arg6 arg7 (harg2.unread x2) (harg3.unread x3) (harg4.unread x4) (harg5.unread x5) (harg6.unread x6) (harg7.unread x7) (arg7.view.readAt (Elt Ideal) (Rect.unit (s := S8192x256) (k0_off3 i) S512x128.size (k0_off3_inb i)).toLoadRect (harg7.unread x7)) [])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) (k0_t1_loop i).trips).1 ++ (dia7 c i arg2 arg3 arg4 arg5 arg6 arg7 (harg2.unread x2) (harg3.unread x3) (harg4.unread x4) (harg5.unread x5) (harg6.unread x6) (harg7.unread x7) (arg7.view.readAt (Elt Ideal) (Rect.unit (s := S8192x256) (k0_off3 i) S512x128.size (k0_off3_inb i)).toLoadRect (harg7.unread x7)) []))) := by
  unfold runB; rfl

set_option maxHeartbeats 4000000 in
theorem listB8 (hc0 : ¬cond0 i) (hc1 : cond1 i) : (runB c i arg2 harg2 arg3 harg3 arg4 harg4 arg5 harg5 arg6 harg6 arg7 harg7 arg8 harg8 arg9 harg9 hc0 hc1 x2 x3 x4 x5 x6 x7).2.1 = arg8.view.writes (Elt Ideal) arg8.view.junk (las8 c arg2 arg3 arg4 arg5 arg6 arg8 (harg2.unread x2) (harg3.unread x3) (harg4.unread x4) (harg5.unread x5) (harg6.unread x6) ((pcs c i arg2 harg2 arg3 harg3 arg4 harg4 arg5 harg5 arg6 harg6 arg7 harg7 arg8 harg8 arg9 harg9 (BitVec.ofNat 32 (i 1).val) v9i (harg2.unread x2) (harg3.unread x3) (harg4.unread x4) (harg5.unread x5) (harg6.unread x6) (arg7.view.writes (Elt Ideal) (harg7.unread x7) (dia7 c i arg2 arg3 arg4 arg5 arg6 arg7 (harg2.unread x2) (harg3.unread x3) (harg4.unread x4) (harg5.unread x5) (harg6.unread x6) (harg7.unread x7) (arg7.view.readAt (Elt Ideal) (Rect.unit (s := S8192x256) (k0_off3 i) S512x128.size (k0_off3_inb i)).toLoadRect (harg7.unread x7)) [])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) (k0_t1_loop i).trips).2.1 ++ (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩]))) := by
  unfold runB; rfl

set_option maxHeartbeats 4000000 in
theorem listB9 (hc0 : ¬cond0 i) (hc1 : cond1 i) : (runB c i arg2 harg2 arg3 harg3 arg4 harg4 arg5 harg5 arg6 harg6 arg7 harg7 arg8 harg8 arg9 harg9 hc0 hc1 x2 x3 x4 x5 x6 x7).2.2.1 = arg9.view.writes (Elt Ideal) arg9.view.junk (las9 c arg2 arg3 arg5 arg6 arg9 (harg2.unread x2) (harg3.unread x3) (harg5.unread x5) (harg6.unread x6) ((pcs c i arg2 harg2 arg3 harg3 arg4 harg4 arg5 harg5 arg6 harg6 arg7 harg7 arg8 harg8 arg9 harg9 (BitVec.ofNat 32 (i 1).val) v9i (harg2.unread x2) (harg3.unread x3) (harg4.unread x4) (harg5.unread x5) (harg6.unread x6) (arg7.view.writes (Elt Ideal) (harg7.unread x7) (dia7 c i arg2 arg3 arg4 arg5 arg6 arg7 (harg2.unread x2) (harg3.unread x3) (harg4.unread x4) (harg5.unread x5) (harg6.unread x6) (harg7.unread x7) (arg7.view.readAt (Elt Ideal) (Rect.unit (s := S8192x256) (k0_off3 i) S512x128.size (k0_off3_inb i)).toLoadRect (harg7.unread x7)) [])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) (k0_t1_loop i).trips).2.2 ++ (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩]))) := by
  unfold runB; rfl

theorem readB7 (hc0 : ¬cond0 i) (hc1 : cond1 i) (hp : (15 - (i 1).val) % 2 = 1) : arg7.view.read (Elt Ideal) (runB c i arg2 harg2 arg3 harg3 arg4 harg4 arg5 harg5 arg6 harg6 arg7 harg7 arg8 harg8 arg9 harg9 hc0 hc1 x2 x3 x4 x5 x6 x7).1 = finQ x2 x3 x4 x5 x6 (kb i) x7 := by
  have hs : arg7.view.read (Elt Ideal) (arg7.view.writes (Elt Ideal) (harg7.unread x7) []) = x7 := harg7.read_unread x7
  have hd : arg7.view.read (Elt Ideal) (arg7.view.writes (Elt Ideal) (harg7.unread x7) (dia7 c i arg2 arg3 arg4 arg5 arg6 arg7 (harg2.unread x2) (harg3.unread x3) (harg4.unread x4) (harg5.unread x5) (harg6.unread x6) (harg7.unread x7) (arg7.view.readAt (Elt Ideal) (Rect.unit (s := S8192x256) (k0_off3 i) S512x128.size (k0_off3_inb i)).toLoadRect (harg7.unread x7)) [])) = upQ x2 x3 x4 x5 x6 (kb i) ((kb i).val + 1) x7 := by
    rw [dia_read7 (f7 := (harg7.unread x7)) (L7 := []) (hX := by rw [View.writes_nil]; exact ldQ (off := k0_off3 i) arg7.view _ (k0_off3_inb i) (kb i) 1 (off3 i)), hs, harg2.read_unread, harg3.read_unread, harg4.read_unread, harg5.read_unread, harg6.read_unread, ← upQ_succ x2 x3 x4 x5 x6 (kb i) (kb i) _ rfl, upQ_start]
  have hl := pcs_read7 c i arg2 harg2 arg3 harg3 arg4 harg4 arg5 harg5 arg6 harg6 arg7 harg7 arg8 harg8 arg9 harg9 (BitVec.ofNat 32 (i 1).val) (harg2.unread x2) (harg3.unread x3) (harg4.unread x4) (harg5.unread x5) (harg6.unread x6) (arg7.view.writes (Elt Ideal) (harg7.unread x7) (dia7 c i arg2 arg3 arg4 arg5 arg6 arg7 (harg2.unread x2) (harg3.unread x3) (harg4.unread x4) (harg5.unread x5) (harg6.unread x6) (harg7.unread x7) (arg7.view.readAt (Elt Ideal) (Rect.unit (s := S8192x256) (k0_off3 i) S512x128.size (k0_off3_inb i)).toLoadRect (harg7.unread x7)) [])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) x7 (by rw [hd, harg2.read_unread, harg3.read_unread, harg4.read_unread, harg5.read_unread, harg6.read_unread]) (k0_t1_loop i).trips le_rfl
  rw [← View.writes_append, harg2.read_unread, harg3.read_unread, harg4.read_unread, harg5.read_unread, harg6.read_unread] at hl
  rw [listB7 c i arg2 harg2 arg3 harg3 arg4 harg4 arg5 harg5 arg6 harg6 arg7 harg7 arg8 harg8 arg9 harg9 x2 x3 x4 x5 x6 x7 hc0 hc1]
  rw [las_read7 (hX := las_right _ _ _ _ _ _ _ _ _ _ _ _ _ _) (hj := by rw [Fin.lt_def]; show (i 1).val < 15; omega), hl, harg2.read_unread, harg3.read_unread, harg4.read_unread, harg5.read_unread, harg6.read_unread, upQ_succ x2 x3 x4 x5 x6 (kb i) 15 _ (trips_odd i hp)]
  exact upQ_end x2 x3 x4 x5 x6 (kb i) _ (congrArg (· + 1) (trips_odd i hp)) _

theorem readB8 (hc0 : ¬cond0 i) (hc1 : cond1 i) (hp : (15 - (i 1).val) % 2 = 1) : arg8.view.read (Elt Ideal) (runB c i arg2 harg2 arg3 harg3 arg4 harg4 arg5 harg5 arg6 harg6 arg7 harg7 arg8 harg8 arg9 harg9 hc0 hc1 x2 x3 x4 x5 x6 x7).2.1 = finK x2 x3 x4 x5 x6 (kb i) := by
  have hs : arg8.view.read (Elt Ideal) (arg8.view.writes (Elt Ideal) arg8.view.junk [⟨Rect.unit (s := S512x256) ![0, 0] S512x256.size inb_S512x256_S512x256_0_0, (k0_pay99 (F := Ideal))⟩]) = (k0_pay99 (F := Ideal)) := View.read_writes_full _ _ _ _ _
  have hd : arg8.view.read (Elt Ideal) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) = upK x2 x3 x4 x5 x6 (kb i) ((kb i).val + 1) (k0_pay99 (F := Ideal)) := by
    rw [dia_read8, hs, harg2.read_unread, harg3.read_unread, harg4.read_unread, harg5.read_unread, harg6.read_unread, ← upK_succ x2 x3 x4 x5 x6 (kb i) (kb i) _ rfl, upK_start]
  have hl := pcs_read8 c i arg2 harg2 arg3 harg3 arg4 harg4 arg5 harg5 arg6 harg6 arg7 harg7 arg8 harg8 arg9 harg9 (BitVec.ofNat 32 (i 1).val) (harg2.unread x2) (harg3.unread x3) (harg4.unread x4) (harg5.unread x5) (harg6.unread x6) (arg7.view.writes (Elt Ideal) (harg7.unread x7) (dia7 c i arg2 arg3 arg4 arg5 arg6 arg7 (harg2.unread x2) (harg3.unread x3) (harg4.unread x4) (harg5.unread x5) (harg6.unread x6) (harg7.unread x7) (arg7.view.readAt (Elt Ideal) (Rect.unit (s := S8192x256) (k0_off3 i) S512x128.size (k0_off3_inb i)).toLoadRect (harg7.unread x7)) [])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) (k0_pay99 (F := Ideal)) (by rw [hd, harg2.read_unread, harg3.read_unread, harg4.read_unread, harg5.read_unread, harg6.read_unread]) (k0_t1_loop i).trips le_rfl
  rw [← View.writes_append, harg2.read_unread, harg3.read_unread, harg4.read_unread, harg5.read_unread, harg6.read_unread] at hl
  rw [listB8 c i arg2 harg2 arg3 harg3 arg4 harg4 arg5 harg5 arg6 harg6 arg7 harg7 arg8 harg8 arg9 harg9 x2 x3 x4 x5 x6 x7 hc0 hc1]
  rw [las_read8 (hj := by rw [Fin.lt_def]; show (i 1).val < 15; omega), hl, harg2.read_unread, harg3.read_unread, harg4.read_unread, harg5.read_unread, harg6.read_unread, upK_succ x2 x3 x4 x5 x6 (kb i) 15 _ (trips_odd i hp)]
  exact upK_end x2 x3 x4 x5 x6 (kb i) _ (congrArg (· + 1) (trips_odd i hp)) _ pay99_zero

theorem readB9 (hc0 : ¬cond0 i) (hc1 : cond1 i) (hp : (15 - (i 1).val) % 2 = 1) : arg9.view.read (Elt Ideal) (runB c i arg2 harg2 arg3 harg3 arg4 harg4 arg5 harg5 arg6 harg6 arg7 harg7 arg8 harg8 arg9 harg9 hc0 hc1 x2 x3 x4 x5 x6 x7).2.2.1 = finV x2 x3 x5 x6 (kb i) := by
  have hs : arg9.view.read (Elt Ideal) (arg9.view.writes (Elt Ideal) arg9.view.junk [⟨Rect.unit (s := S512x128) ![0, 0] S512x128.size inb_S512x128_S512x128_0_0, (k0_pay100 (F := Ideal))⟩]) = (k0_pay100 (F := Ideal)) := View.read_writes_full _ _ _ _ _
  have hd : arg9.view.read (Elt Ideal) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) = upV x2 x3 x5 x6 (kb i) ((kb i).val + 1) (k0_pay100 (F := Ideal)) := by
    rw [dia_read9, hs, harg2.read_unread, harg3.read_unread, harg5.read_unread, harg6.read_unread, ← upV_succ x2 x3 x5 x6 (kb i) (kb i) _ rfl, upV_start]
  have hl := pcs_read9 c i arg2 harg2 arg3 harg3 arg4 harg4 arg5 harg5 arg6 harg6 arg7 harg7 arg8 harg8 arg9 harg9 (BitVec.ofNat 32 (i 1).val) (harg2.unread x2) (harg3.unread x3) (harg4.unread x4) (harg5.unread x5) (harg6.unread x6) (arg7.view.writes (Elt Ideal) (harg7.unread x7) (dia7 c i arg2 arg3 arg4 arg5 arg6 arg7 (harg2.unread x2) (harg3.unread x3) (harg4.unread x4) (harg5.unread x5) (harg6.unread x6) (harg7.unread x7) (arg7.view.readAt (Elt Ideal) (Rect.unit (s := S8192x256) (k0_off3 i) S512x128.size (k0_off3_inb i)).toLoadRect (harg7.unread x7)) [])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) (k0_pay100 (F := Ideal)) (by rw [hd, harg2.read_unread, harg3.read_unread, harg5.read_unread, harg6.read_unread]) (k0_t1_loop i).trips le_rfl
  rw [← View.writes_append, harg2.read_unread, harg3.read_unread, harg5.read_unread, harg6.read_unread] at hl
  rw [listB9 c i arg2 harg2 arg3 harg3 arg4 harg4 arg5 harg5 arg6 harg6 arg7 harg7 arg8 harg8 arg9 harg9 x2 x3 x4 x5 x6 x7 hc0 hc1]
  rw [las_read9 (hj := by rw [Fin.lt_def]; show (i 1).val < 15; omega), hl, harg2.read_unread, harg3.read_unread, harg5.read_unread, harg6.read_unread, upV_succ x2 x3 x5 x6 (kb i) 15 _ (trips_odd i hp)]
  exact upV_end x2 x3 x5 x6 (kb i) _ (congrArg (· + 1) (trips_odd i hp)) _ pay100_zero

set_option maxHeartbeats 4000000 in
theorem listC7 (hc0 : ¬cond0 i) (hc1 : ¬cond1 i) : (runC c i arg2 harg2 arg3 harg3 arg4 harg4 arg5 harg5 arg6 harg6 arg7 harg7 arg8 harg8 arg9 harg9 hc0 hc1 x2 x3 x4 x5 x6 x7).1 = arg7.view.writes (Elt Ideal) (harg7.unread x7) ((pcs c i arg2 harg2 arg3 harg3 arg4 harg4 arg5 harg5 arg6 harg6 arg7 harg7 arg8 harg8 arg9 harg9 (BitVec.ofNat 32 (i 1).val) v9i (harg2.unread x2) (harg3.unread x3) (harg4.unread x4) (harg5.unread x5) (harg6.unread x6) (arg7.view.writes (Elt Ideal) (harg7.unread x7) (dia7 c i arg2 arg3 arg4 arg5 arg6 arg7 (harg2.unread x2) (harg3.unread x3) (harg4.unread x4) (harg5.unread x5) (harg6.unread x6) (harg7.unread x7) (arg7.view.readAt (Elt Ideal) (Rect.unit (s := S8192x256) (k0_off3 i) S512x128.size (k0_off3_inb i)).toLoadRect (harg7.unread x7)) [])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) (k0_t1_loop i).trips).1 ++ (dia7 c i arg2 arg3 arg4 arg5 arg6 arg7 (harg2.unread x2) (harg3.unread x3) (harg4.unread x4) (harg5.unread x5) (harg6.unread x6) (harg7.unread x7) (arg7.view.readAt (Elt Ideal) (Rect.unit (s := S8192x256) (k0_off3 i) S512x128.size (k0_off3_inb i)).toLoadRect (harg7.unread x7)) [])) := by
  unfold runC; rfl

set_option maxHeartbeats 4000000 in
theorem listC8 (hc0 : ¬cond0 i) (hc1 : ¬cond1 i) : (runC c i arg2 harg2 arg3 harg3 arg4 harg4 arg5 harg5 arg6 harg6 arg7 harg7 arg8 harg8 arg9 harg9 hc0 hc1 x2 x3 x4 x5 x6 x7).2.1 = arg8.view.writes (Elt Ideal) arg8.view.junk ((pcs c i arg2 harg2 arg3 harg3 arg4 harg4 arg5 harg5 arg6 harg6 arg7 harg7 arg8 harg8 arg9 harg9 (BitVec.ofNat 32 (i 1).val) v9i (harg2.unread x2) (harg3.unread x3) (harg4.unread x4) (harg5.unread x5) (harg6.unread x6) (arg7.view.writes (Elt Ideal) (harg7.unread x7) (dia7 c i arg2 arg3 arg4 arg5 arg6 arg7 (harg2.unread x2) (harg3.unread x3) (harg4.unread x4) (harg5.unread x5) (harg6.unread x6) (harg7.unread x7) (arg7.view.readAt (Elt Ideal) (Rect.unit (s := S8192x256) (k0_off3 i) S512x128.size (k0_off3_inb i)).toLoadRect (harg7.unread x7)) [])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) (k0_t1_loop i).trips).2.1 ++ (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) := by
  unfold runC; rfl

set_option maxHeartbeats 4000000 in
theorem listC9 (hc0 : ¬cond0 i) (hc1 : ¬cond1 i) : (runC c i arg2 harg2 arg3 harg3 arg4 harg4 arg5 harg5 arg6 harg6 arg7 harg7 arg8 harg8 arg9 harg9 hc0 hc1 x2 x3 x4 x5 x6 x7).2.2.1 = arg9.view.writes (Elt Ideal) arg9.view.junk ((pcs c i arg2 harg2 arg3 harg3 arg4 harg4 arg5 harg5 arg6 harg6 arg7 harg7 arg8 harg8 arg9 harg9 (BitVec.ofNat 32 (i 1).val) v9i (harg2.unread x2) (harg3.unread x3) (harg4.unread x4) (harg5.unread x5) (harg6.unread x6) (arg7.view.writes (Elt Ideal) (harg7.unread x7) (dia7 c i arg2 arg3 arg4 arg5 arg6 arg7 (harg2.unread x2) (harg3.unread x3) (harg4.unread x4) (harg5.unread x5) (harg6.unread x6) (harg7.unread x7) (arg7.view.readAt (Elt Ideal) (Rect.unit (s := S8192x256) (k0_off3 i) S512x128.size (k0_off3_inb i)).toLoadRect (harg7.unread x7)) [])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) (k0_t1_loop i).trips).2.2 ++ (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) := by
  unfold runC; rfl

theorem readC7 (hc0 : ¬cond0 i) (hc1 : ¬cond1 i) (hp : (15 - (i 1).val) % 2 = 0) : arg7.view.read (Elt Ideal) (runC c i arg2 harg2 arg3 harg3 arg4 harg4 arg5 harg5 arg6 harg6 arg7 harg7 arg8 harg8 arg9 harg9 hc0 hc1 x2 x3 x4 x5 x6 x7).1 = finQ x2 x3 x4 x5 x6 (kb i) x7 := by
  have hs : arg7.view.read (Elt Ideal) (arg7.view.writes (Elt Ideal) (harg7.unread x7) []) = x7 := harg7.read_unread x7
  have hd : arg7.view.read (Elt Ideal) (arg7.view.writes (Elt Ideal) (harg7.unread x7) (dia7 c i arg2 arg3 arg4 arg5 arg6 arg7 (harg2.unread x2) (harg3.unread x3) (harg4.unread x4) (harg5.unread x5) (harg6.unread x6) (harg7.unread x7) (arg7.view.readAt (Elt Ideal) (Rect.unit (s := S8192x256) (k0_off3 i) S512x128.size (k0_off3_inb i)).toLoadRect (harg7.unread x7)) [])) = upQ x2 x3 x4 x5 x6 (kb i) ((kb i).val + 1) x7 := by
    rw [dia_read7 (f7 := (harg7.unread x7)) (L7 := []) (hX := by rw [View.writes_nil]; exact ldQ (off := k0_off3 i) arg7.view _ (k0_off3_inb i) (kb i) 1 (off3 i)), hs, harg2.read_unread, harg3.read_unread, harg4.read_unread, harg5.read_unread, harg6.read_unread, ← upQ_succ x2 x3 x4 x5 x6 (kb i) (kb i) _ rfl, upQ_start]
  have hl := pcs_read7 c i arg2 harg2 arg3 harg3 arg4 harg4 arg5 harg5 arg6 harg6 arg7 harg7 arg8 harg8 arg9 harg9 (BitVec.ofNat 32 (i 1).val) (harg2.unread x2) (harg3.unread x3) (harg4.unread x4) (harg5.unread x5) (harg6.unread x6) (arg7.view.writes (Elt Ideal) (harg7.unread x7) (dia7 c i arg2 arg3 arg4 arg5 arg6 arg7 (harg2.unread x2) (harg3.unread x3) (harg4.unread x4) (harg5.unread x5) (harg6.unread x6) (harg7.unread x7) (arg7.view.readAt (Elt Ideal) (Rect.unit (s := S8192x256) (k0_off3 i) S512x128.size (k0_off3_inb i)).toLoadRect (harg7.unread x7)) [])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) x7 (by rw [hd, harg2.read_unread, harg3.read_unread, harg4.read_unread, harg5.read_unread, harg6.read_unread]) (k0_t1_loop i).trips le_rfl
  rw [← View.writes_append, harg2.read_unread, harg3.read_unread, harg4.read_unread, harg5.read_unread, harg6.read_unread] at hl
  rw [listC7 c i arg2 harg2 arg3 harg3 arg4 harg4 arg5 harg5 arg6 harg6 arg7 harg7 arg8 harg8 arg9 harg9 x2 x3 x4 x5 x6 x7 hc0 hc1]
  rw [hl]
  exact upQ_end x2 x3 x4 x5 x6 (kb i) _ (trips_even i hp) _

theorem readC8 (hc0 : ¬cond0 i) (hc1 : ¬cond1 i) (hp : (15 - (i 1).val) % 2 = 0) : arg8.view.read (Elt Ideal) (runC c i arg2 harg2 arg3 harg3 arg4 harg4 arg5 harg5 arg6 harg6 arg7 harg7 arg8 harg8 arg9 harg9 hc0 hc1 x2 x3 x4 x5 x6 x7).2.1 = finK x2 x3 x4 x5 x6 (kb i) := by
  have hs : arg8.view.read (Elt Ideal) (arg8.view.writes (Elt Ideal) arg8.view.junk [⟨Rect.unit (s := S512x256) ![0, 0] S512x256.size inb_S512x256_S512x256_0_0, (k0_pay99 (F := Ideal))⟩]) = (k0_pay99 (F := Ideal)) := View.read_writes_full _ _ _ _ _
  have hd : arg8.view.read (Elt Ideal) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) = upK x2 x3 x4 x5 x6 (kb i) ((kb i).val + 1) (k0_pay99 (F := Ideal)) := by
    rw [dia_read8, hs, harg2.read_unread, harg3.read_unread, harg4.read_unread, harg5.read_unread, harg6.read_unread, ← upK_succ x2 x3 x4 x5 x6 (kb i) (kb i) _ rfl, upK_start]
  have hl := pcs_read8 c i arg2 harg2 arg3 harg3 arg4 harg4 arg5 harg5 arg6 harg6 arg7 harg7 arg8 harg8 arg9 harg9 (BitVec.ofNat 32 (i 1).val) (harg2.unread x2) (harg3.unread x3) (harg4.unread x4) (harg5.unread x5) (harg6.unread x6) (arg7.view.writes (Elt Ideal) (harg7.unread x7) (dia7 c i arg2 arg3 arg4 arg5 arg6 arg7 (harg2.unread x2) (harg3.unread x3) (harg4.unread x4) (harg5.unread x5) (harg6.unread x6) (harg7.unread x7) (arg7.view.readAt (Elt Ideal) (Rect.unit (s := S8192x256) (k0_off3 i) S512x128.size (k0_off3_inb i)).toLoadRect (harg7.unread x7)) [])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) (k0_pay99 (F := Ideal)) (by rw [hd, harg2.read_unread, harg3.read_unread, harg4.read_unread, harg5.read_unread, harg6.read_unread]) (k0_t1_loop i).trips le_rfl
  rw [← View.writes_append, harg2.read_unread, harg3.read_unread, harg4.read_unread, harg5.read_unread, harg6.read_unread] at hl
  rw [listC8 c i arg2 harg2 arg3 harg3 arg4 harg4 arg5 harg5 arg6 harg6 arg7 harg7 arg8 harg8 arg9 harg9 x2 x3 x4 x5 x6 x7 hc0 hc1]
  rw [hl]
  exact upK_end x2 x3 x4 x5 x6 (kb i) _ (trips_even i hp) _ pay99_zero

theorem readC9 (hc0 : ¬cond0 i) (hc1 : ¬cond1 i) (hp : (15 - (i 1).val) % 2 = 0) : arg9.view.read (Elt Ideal) (runC c i arg2 harg2 arg3 harg3 arg4 harg4 arg5 harg5 arg6 harg6 arg7 harg7 arg8 harg8 arg9 harg9 hc0 hc1 x2 x3 x4 x5 x6 x7).2.2.1 = finV x2 x3 x5 x6 (kb i) := by
  have hs : arg9.view.read (Elt Ideal) (arg9.view.writes (Elt Ideal) arg9.view.junk [⟨Rect.unit (s := S512x128) ![0, 0] S512x128.size inb_S512x128_S512x128_0_0, (k0_pay100 (F := Ideal))⟩]) = (k0_pay100 (F := Ideal)) := View.read_writes_full _ _ _ _ _
  have hd : arg9.view.read (Elt Ideal) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) = upV x2 x3 x5 x6 (kb i) ((kb i).val + 1) (k0_pay100 (F := Ideal)) := by
    rw [dia_read9, hs, harg2.read_unread, harg3.read_unread, harg5.read_unread, harg6.read_unread, ← upV_succ x2 x3 x5 x6 (kb i) (kb i) _ rfl, upV_start]
  have hl := pcs_read9 c i arg2 harg2 arg3 harg3 arg4 harg4 arg5 harg5 arg6 harg6 arg7 harg7 arg8 harg8 arg9 harg9 (BitVec.ofNat 32 (i 1).val) (harg2.unread x2) (harg3.unread x3) (harg4.unread x4) (harg5.unread x5) (harg6.unread x6) (arg7.view.writes (Elt Ideal) (harg7.unread x7) (dia7 c i arg2 arg3 arg4 arg5 arg6 arg7 (harg2.unread x2) (harg3.unread x3) (harg4.unread x4) (harg5.unread x5) (harg6.unread x6) (harg7.unread x7) (arg7.view.readAt (Elt Ideal) (Rect.unit (s := S8192x256) (k0_off3 i) S512x128.size (k0_off3_inb i)).toLoadRect (harg7.unread x7)) [])) (arg8.view.writes (Elt Ideal) arg8.view.junk (dia8 c i arg2 arg3 arg4 arg5 arg6 arg8 (harg2.unread x2) (harg3.unread x3) (harg4.unread x4) (harg5.unread x5) (harg6.unread x6) [⟨Rect.unit (s := S512x256) ![0, 0] S512x256.size inb_S512x256_S512x256_0_0, (k0_pay99 (F := Ideal))⟩])) (arg9.view.writes (Elt Ideal) arg9.view.junk (dia9 c i arg2 arg3 arg5 arg6 arg9 (harg2.unread x2) (harg3.unread x3) (harg5.unread x5) (harg6.unread x6) [⟨Rect.unit (s := S512x128) ![0, 0] S512x128.size inb_S512x128_S512x128_0_0, (k0_pay100 (F := Ideal))⟩])) (k0_pay100 (F := Ideal)) (by rw [hd, harg2.read_unread, harg3.read_unread, harg5.read_unread, harg6.read_unread]) (k0_t1_loop i).trips le_rfl
  rw [← View.writes_append, harg2.read_unread, harg3.read_unread, harg5.read_unread, harg6.read_unread] at hl
  rw [listC9 c i arg2 harg2 arg3 harg3 arg4 harg4 arg5 harg5 arg6 harg6 arg7 harg7 arg8 harg8 arg9 harg9 x2 x3 x4 x5 x6 x7 hc0 hc1]
  rw [hl]
  exact upV_end x2 x3 x5 x6 (kb i) _ (trips_even i hp) _ pay100_zero

end Runs

end Cert.AttnRun

end
-- ==== Proof.AttnFold.lean ====
/-
  The attention backward: what the three outputs hold after the last grid point, over the arrays the region is entered with.
-/
module
public import proofs.«01_k».proof.Proof.AttnPoint
public import proofs.«01_k».proof.Proof.AttnFrame
public import Idealize.ShloMosaic.Lib.Pipeline.ReadBack
public import proofs.«01_k».proof.Proof.Lift
@[expose] public section

set_option maxRecDepth 16384

noncomputable section

namespace Cert.AttnRun

open Cert.AttnBwdIdeal Cert.AttnBwdIdeal.Gen
open Idealize.ShloMosaic Idealize.SL.Sem

theorem coords_1 : ∀ t : Fin cfg0.N, ((grid0.coords t) 1).val = t.val % 16 := by decide +kernel

variable (m : (ℓ : Loc nD τ sig) → Buf (Elt Ideal) ℓ) (c : Dev nD)

abbrev bq (t : Fin cfg0.N) : Vec Ideal S8192x256 .bf16 := iblk m c 0 t
abbrev bk (t : Fin cfg0.N) : Vec Ideal S512x256 .bf16 := iblk m c 1 t
abbrev bv (t : Fin cfg0.N) : Vec Ideal S512x128 .bf16 := iblk m c 2 t
abbrev bo (t : Fin cfg0.N) : Vec Ideal S8192x128 .bf16 := iblk m c 3 t
abbrev bs (t : Fin cfg0.N) : Vec Ideal S8192x128 .f32 := iblk m c 4 t
/-- The key block of grid point `t`. -/
abbrev jt (t : Fin cfg0.N) : Fin 16 := kb (grid0.coords t)

theorem jt_val (t : Fin cfg0.N) : (jt t).val = t.val % 16 := coords_1 t

theorem par_even (t : Fin cfg0.N) (h : t.val % 2 = 0) : (15 - ((grid0.coords t) 1).val) % 2 = 1 := by
  have := coords_1 t; omega
theorem par_odd (t : Fin cfg0.N) (h : ¬ t.val % 2 = 0) : (15 - ((grid0.coords t) 1).val) % 2 = 0 := by
  have := coords_1 t; omega

/-! ## A grid point over its blocks -/

theorem outs_q0 (t : Fin cfg0.N) (h0 : t.val % 16 = 0) :
    (outs m c t.val t.isLt).1 = finQ (bq m c t) (bk m c t) (bv m c t) (bo m c t) (bs m c t) (jt t) (k0_pay98 (F := Ideal)) := by
  have h1 : t.val % 2 = 0 := by omega
  rw [outs_A m c t h0 h1]
  exact readA7 (hp := par_even t h1) ..

theorem outs_q1 (t : Fin cfg0.N) (h0 : ¬ t.val % 16 = 0) :
    (outs m c t.val t.isLt).1 = finQ (bq m c t) (bk m c t) (bv m c t) (bo m c t) (bs m c t) (jt t) (prev m c t) := by
  by_cases h1 : t.val % 2 = 0
  · rw [outs_B m c t h0 h1]
    exact readB7 (hp := par_even t h1) ..
  · rw [outs_C m c t h0 h1]
    exact readC7 (hp := par_odd t h1) ..

theorem outs_k (t : Fin cfg0.N) :
    (outs m c t.val t.isLt).2.1 = finK (bq m c t) (bk m c t) (bv m c t) (bo m c t) (bs m c t) (jt t) := by
  by_cases h0 : t.val % 16 = 0
  · have h1 : t.val % 2 = 0 := by omega
    rw [outs_A m c t h0 h1]
    exact readA8 (hp := par_even t h1) ..
  by_cases h1 : t.val % 2 = 0
  · rw [outs_B m c t h0 h1]
    exact readB8 (hp := par_even t h1) ..
  · rw [outs_C m c t h0 h1]
    exact readC8 (hp := par_odd t h1) ..

theorem outs_v (t : Fin cfg0.N) :
    (outs m c t.val t.isLt).2.2 = finV (bq m c t) (bk m c t) (bo m c t) (bs m c t) (jt t) := by
  by_cases h0 : t.val % 16 = 0
  · have h1 : t.val % 2 = 0 := by omega
    rw [outs_A m c t h0 h1]
    exact readA9 (hp := par_even t h1) ..
  by_cases h1 : t.val % 2 = 0
  · rw [outs_B m c t h0 h1]
    exact readB9 (hp := par_even t h1) ..
  · rw [outs_C m c t h0 h1]
    exact readC9 (hp := par_odd t h1) ..

/-- What grid point `t` adds to the query's gradient. -/
def qT (t : Fin cfg0.N) (R : Fin 8192) (C : Fin 256) : EReal := incQ (bq m c t) (bk m c t) (bv m c t) (bo m c t) (bs m c t) (jt t) R C

theorem outs_q (h : Fin 4) (R : Fin 8192) (C : Fin 256) : ∀ (j : ℕ) (hj : j < 16),
    ((outs m c (h.val * 16 + j) (by have : cfg0.N = 64 := N_0; omega)).1 : Vec Ideal S8192x256 .f32) (ix2 R C)
      = ∑ s : Fin (j + 1), qT m c ⟨h.val * 16 + s.val, by have : cfg0.N = 64 := N_0; omega⟩ R C
  | 0, hj => by
    refine (congrFun (outs_q0 m c ⟨h.val * 16 + 0, by have : cfg0.N = 64 := N_0; omega⟩ (by dsimp only; omega)) (ix2 R C)).trans ?_
    unfold finQ
    rw [pay98_zero, zero_add]
    exact (Fin.sum_univ_one (fun s : Fin 1 => qT m c ⟨h.val * 16 + s.val, by have : cfg0.N = 64 := N_0; omega⟩ R C)).symm
  | j + 1, hj => by
    refine (congrFun (outs_q1 m c ⟨h.val * 16 + (j + 1), by have : cfg0.N = 64 := N_0; omega⟩ (by dsimp only; omega)) (ix2 R C)).trans ?_
    rw [Fin.sum_univ_castSucc]
    exact congrArg₂ (· + ·) (outs_q h R C j (by omega)) rfl

/-! ## The blocks in their arrays -/

theorem index_row : ∀ t : Fin cfg0.N, (win0_0.index t 0 = 0 ∧ win0_0.index t 1 = t.val / 16)
   ∧ (win0_1.index t 0 = t.val % 16 ∧ win0_1.index t 1 = t.val / 16)
   ∧ (win0_2.index t 0 = t.val % 16 ∧ win0_2.index t 1 = t.val / 16)
   ∧ (win0_3.index t 0 = 0 ∧ win0_3.index t 1 = t.val / 16)
   ∧ (win0_4.index t 0 = 0 ∧ win0_4.index t 1 = t.val / 16)
   ∧ (win0_5.index t 0 = 0 ∧ win0_5.index t 1 = t.val / 16)
   ∧ (win0_6.index t 0 = t.val % 16 ∧ win0_6.index t 1 = t.val / 16)
   ∧ (win0_7.index t 0 = t.val % 16 ∧ win0_7.index t 1 = t.val / 16) := by decide +kernel

/-- The head pair of grid point `t`; a column of a head pair's 256 or 128 lanes. -/
abbrev ht (t : Fin cfg0.N) : Fin 4 := ⟨t.val / 16, by have := t.isLt; have : cfg0.N = 64 := N_0; omega⟩
abbrev c256 (h : Fin 4) (C : Fin 256) : Fin 1024 := ⟨h.val * 256 + C.val, by omega⟩
abbrev c128 (h : Fin 4) (C : Fin 128) : Fin 512 := ⟨h.val * 128 + C.val, by omega⟩

abbrev VQ : Vec Ideal S8192x1024 .bf16 := V m c main_v6
abbrev VK : Vec Ideal S8192x1024 .bf16 := V m c main_v11
abbrev VV : Vec Ideal S8192x512 .bf16 := V m c main_v46
abbrev VO : Vec Ideal S8192x512 .bf16 := V m c main_v48
abbrev VS : Vec Ideal S8192x512 .f32 := V m c main_v49

theorem win_0 (t : Fin cfg0.N) (r : Fin 8192) (j : Fin 256) : bq m c t (ix2 r j) = VQ m c (ix2 r (c256 (ht t) j)) := by
  unfold bq iblk
  rw [View.read_apply]
  refine congrArg (V m c main_v6) (Lift.eq_ix2_of (i := ((cfg0.win 0).blk t).view.emb (ix2 r j)) (?_ : win0_0.index t 0 * 8192 + 1 * r.val = r.val)
    (?_ : win0_0.index t 1 * 256 + 1 * j.val = t.val / 16 * 256 + j.val)) <;> simp [index_row t]
theorem win_1 (t : Fin cfg0.N) (r : Fin 512) (j : Fin 256) : bk m c t (ix2 r j) = VK m c (ix2 (row (jt t) r) (c256 (ht t) j)) := by
  unfold bk iblk
  rw [View.read_apply]
  refine congrArg (V m c main_v11) (Lift.eq_ix2_of (i := ((cfg0.win 1).blk t).view.emb (ix2 r j)) (?_ : win0_1.index t 0 * 512 + 1 * r.val = (jt t).val * 512 + r.val)
    (?_ : win0_1.index t 1 * 256 + 1 * j.val = t.val / 16 * 256 + j.val)) <;> simp [index_row t, jt_val]
theorem win_2 (t : Fin cfg0.N) (r : Fin 512) (j : Fin 128) : bv m c t (ix2 r j) = VV m c (ix2 (row (jt t) r) (c128 (ht t) j)) := by
  unfold bv iblk
  rw [View.read_apply]
  refine congrArg (V m c main_v46) (Lift.eq_ix2_of (i := ((cfg0.win 2).blk t).view.emb (ix2 r j)) (?_ : win0_2.index t 0 * 512 + 1 * r.val = (jt t).val * 512 + r.val)
    (?_ : win0_2.index t 1 * 128 + 1 * j.val = t.val / 16 * 128 + j.val)) <;> simp [index_row t, jt_val]
theorem win_3 (t : Fin cfg0.N) (r : Fin 8192) (j : Fin 128) : bo m c t (ix2 r j) = VO m c (ix2 r (c128 (ht t) j)) := by
  unfold bo iblk
  rw [View.read_apply]
  refine congrArg (V m c main_v48) (Lift.eq_ix2_of (i := ((cfg0.win 3).blk t).view.emb (ix2 r j)) (?_ : win0_3.index t 0 * 8192 + 1 * r.val = r.val)
    (?_ : win0_3.index t 1 * 128 + 1 * j.val = t.val / 16 * 128 + j.val)) <;> simp [index_row t]
theorem win_4 (t : Fin cfg0.N) (r : Fin 8192) (j : Fin 128) : bs m c t (ix2 r j) = VS m c (ix2 r (c128 (ht t) j)) := by
  unfold bs iblk
  rw [View.read_apply]
  refine congrArg (V m c main_v49) (Lift.eq_ix2_of (i := ((cfg0.win 4).blk t).view.emb (ix2 r j)) (?_ : win0_4.index t 0 * 8192 + 1 * r.val = r.val)
    (?_ : win0_4.index t 1 * 128 + 1 * j.val = t.val / 16 * 128 + j.val)) <;> simp [index_row t]

/-! ## The results over the whole arrays -/

section Results
variable (q k : Vec Ideal S8192x1024 .bf16) (v o : Vec Ideal S8192x512 .bf16) (s : Vec Ideal S8192x512 .f32)

/-- Lane `l` of head `n`. -/
abbrev hq (n : Fin 8) (l : Fin 128) : Fin 1024 := ⟨n.val * 128 + l.val, by omega⟩
abbrev hv (n : Fin 8) (l : Fin 64) : Fin 512 := ⟨n.val * 64 + l.val, by omega⟩
/-- The probability of row `R` at column `C`, and the gradient of its score. -/
def pA (n : Fin 8) (R C : Fin 8192) : EReal :=
  if C.val ≤ R.val then Ideal.exp ((∑ l : Fin 128, q (ix2 R (hq n l)) * k (ix2 C (hq n l))) - s (ix2 R (hv n 0))) else 0
def sA (n : Fin 8) (R C : Fin 8192) : EReal :=
  pA q k s n R C * ((∑ l : Fin 64, o (ix2 R (hv n l)) * v (ix2 C (hv n l))) - s (ix2 R (hv n 32)))
def dqA (n : Fin 8) (R : Fin 8192) (l : Fin 128) : EReal := ∑ C : Fin 8192, sA q k v o s n R C * k (ix2 C (hq n l))
def dkA (n : Fin 8) (C : Fin 8192) (l : Fin 128) : EReal := ∑ R : Fin 8192, sA q k v o s n R C * q (ix2 R (hq n l))
def dvA (n : Fin 8) (C : Fin 8192) (l : Fin 64) : EReal := ∑ R : Fin 8192, pA q k s n R C * o (ix2 R (hv n l))
end Results

/-- Head `a` of pair `h`. -/
abbrev hd (h : Fin 4) (a : Fin 2) : Fin 8 := ⟨h.val * 2 + a.val, by omega⟩

theorem pJ_eq (t : Fin cfg0.N) (a : Fin 2) (R : Fin 8192) (r : Fin 512) :
    pJ (bq m c t) (bk m c t) (bs m c t) a (jt t) R r = pA (VQ m c) (VK m c) (VS m c) (hd (ht t) a) R (row (jt t) r) := by
  unfold pJ pA
  refine congrArg (fun z => if (jt t).val * 512 + r.val ≤ R.val then Ideal.exp z else 0) (congrArg₂ (· - ·) (Finset.sum_congr rfl fun l _ => ?_) ?_)
  · rw [win_0, win_1]
    have e : c256 (ht t) (col a l) = hq (hd (ht t) a) l := Fin.ext (by show _ = _; simp only; omega)
    rw [e]
  · rw [win_4]
    exact congrArg (fun z => VS m c (ix2 R z)) (Fin.ext (by show _ = _; simp only [Fin.val_zero]; omega))

theorem lanes (f g : Fin 128 → EReal) (a : Fin 2) :
    ∑ l : Fin 128, (if l.val / 64 = a.val then f l else 0) * g l = ∑ l : Fin 64, f ⟨a.val * 64 + l.val, by omega⟩ * g ⟨a.val * 64 + l.val, by omega⟩ := by
  rw [Fin.sum_univ_tiles 2 64 rfl, Fin.sum_univ_two]
  obtain ⟨a, ha⟩ := a
  have h0 (l : Fin 64) : (0 * 64 + l.val) / 64 = 0 := by omega
  have h1 (l : Fin 64) : (1 * 64 + l.val) / 64 = 1 := by omega
  have h2 (l : Fin 64) : l.val / 64 = 0 := by omega
  interval_cases a
  · simp [h0, h1, h2]
  · simp [h0, h1, h2]

theorem sJ_eq (t : Fin cfg0.N) (a : Fin 2) (R : Fin 8192) (r : Fin 512) :
    sJ (bq m c t) (bk m c t) (bv m c t) (bo m c t) (bs m c t) a (jt t) R r
      = sA (VQ m c) (VK m c) (VV m c) (VO m c) (VS m c) (hd (ht t) a) R (row (jt t) r) := by
  unfold sJ sA
  rw [pJ_eq]
  refine congrArg (_ * ·) (congrArg₂ (· - ·) ?_ ?_)
  · unfold eR
    rw [lanes (fun l => bo m c t (ix2 R l)) (fun l => bv m c t (ix2 r l)) a]
    refine Finset.sum_congr rfl fun l _ => ?_
    rw [win_2, win_3]
    have e : c128 (ht t) ⟨a.val * 64 + l.val, by omega⟩ = hv (hd (ht t) a) l := Fin.ext (by show _ = _; simp only; omega)
    rw [e]
  · rw [win_4]
    exact congrArg (fun z => VS m c (ix2 R z)) (Fin.ext (by show _ = ((ht t).val * 2 + a.val) * 64 + 32; simp only; omega))

/-- A column's head and lane. -/
abbrev hn (C : Fin 1024) : Fin 8 := ⟨C.val / 128, by omega⟩
abbrev hl (C : Fin 1024) : Fin 128 := ⟨C.val % 128, by omega⟩
abbrev vn (C : Fin 512) : Fin 8 := ⟨C.val / 64, by omega⟩
abbrev vl (C : Fin 512) : Fin 64 := ⟨C.val % 64, by omega⟩

theorem c256_n (h : Fin 4) (C : Fin 256) : hd h (half C) = hn (c256 h C) := Fin.ext (by show h.val * 2 + C.val / 128 = (h.val * 256 + C.val) / 128; omega)
theorem hq_c (D : Fin 1024) : hq (hn D) (hl D) = D := Fin.ext (by show D.val / 128 * 128 + D.val % 128 = D.val; omega)
theorem hv_c (D : Fin 512) : hv (vn D) (vl D) = D := Fin.ext (by show D.val / 64 * 64 + D.val % 64 = D.val; omega)

theorem qT_eq (t : Fin cfg0.N) (R : Fin 8192) (C : Fin 256) :
    qT m c t R C = ∑ r : Fin 512, sA (VQ m c) (VK m c) (VV m c) (VO m c) (VS m c) (hn (c256 (ht t) C)) R (row (jt t) r) * VK m c (ix2 (row (jt t) r) (c256 (ht t) C)) := by
  unfold qT incQ
  refine Finset.sum_congr rfl fun r _ => ?_
  rw [sJ_eq, win_1, c256_n]

theorem q_val (h : Fin 4) (R : Fin 8192) (C : Fin 256) (n : ℕ) (hn' : n < cfg0.N) (e : n = h.val * 16 + 15) :
    ((outs m c n hn').1 : Vec Ideal S8192x256 .f32) (ix2 R C)
      = dqA (VQ m c) (VK m c) (VV m c) (VO m c) (VS m c) (hn (c256 h C)) R (hl (c256 h C)) := by
  subst e
  rw [outs_q m c h R C 15 (by omega)]
  unfold dqA
  rw [Fin.sum_univ_tiles 16 512 rfl, hq_c]
  refine Finset.sum_congr rfl fun s _ => ?_
  rw [qT_eq]
  have e1 : ht ⟨h.val * 16 + s.val, by have : cfg0.N = 64 := N_0; omega⟩ = h := Fin.ext (by show (h.val * 16 + s.val) / 16 = h.val; omega)
  have e2 : jt ⟨h.val * 16 + s.val, by have : cfg0.N = 64 := N_0; omega⟩ = s := Fin.ext ((jt_val _).trans (by show (h.val * 16 + s.val) % 16 = s.val; omega))
  rw [e1, e2]

theorem k_val (t : Fin cfg0.N) (r : Fin 512) (C : Fin 256) :
    ((outs m c t.val t.isLt).2.1 : Vec Ideal S512x256 .f32) (ix2 r C)
      = dkA (VQ m c) (VK m c) (VV m c) (VO m c) (VS m c) (hn (c256 (ht t) C)) (row (jt t) r) (hl (c256 (ht t) C)) := by
  rw [outs_k]
  unfold dkA
  rw [Fin.sum_univ_tiles 16 512 rfl, hq_c]
  show (∑ b : Fin 16, incK _ _ _ _ _ (jt t) b r C) = _
  refine Finset.sum_congr rfl fun b _ => ?_
  unfold incK
  refine Finset.sum_congr rfl fun r' _ => ?_
  rw [sJ_eq, win_0, c256_n]

theorem v_val (t : Fin cfg0.N) (r : Fin 512) (C : Fin 128) :
    ((outs m c t.val t.isLt).2.2 : Vec Ideal S512x128 .f32) (ix2 r C)
      = dvA (VQ m c) (VK m c) (VO m c) (VS m c) (vn (c128 (ht t) C)) (row (jt t) r) (vl (c128 (ht t) C)) := by
  rw [outs_v]
  unfold dvA
  rw [Fin.sum_univ_tiles 16 512 rfl, hv_c]
  show (∑ b : Fin 16, incV _ _ _ _ (jt t) b r C) = _
  refine Finset.sum_congr rfl fun b _ => ?_
  unfold incV
  have key (a : Fin 2) (ha : C.val / 64 = a.val) (r' : Fin 512) :
      pJ (bq m c t) (bk m c t) (bs m c t) a (jt t) (row b r') r * eR (bo m c t) a (row b r') C
        = pA (VQ m c) (VK m c) (VS m c) (vn (c128 (ht t) C)) (row b r') (row (jt t) r) * VO m c (ix2 (row b r') (c128 (ht t) C)) := by
    unfold eR
    rw [if_pos ha, pJ_eq, win_3]
    have e : hd (ht t) a = vn (c128 (ht t) C) := Fin.ext (by show t.val / 16 * 2 + a.val = (t.val / 16 * 128 + C.val) / 64; omega)
    rw [e]
  have zer (a : Fin 2) (ha : ¬ C.val / 64 = a.val) (r' : Fin 512) :
      pJ (bq m c t) (bk m c t) (bs m c t) a (jt t) (row b r') r * eR (bo m c t) a (row b r') C = 0 := by
    unfold eR; rw [if_neg ha, mul_zero]
  by_cases hC : C.val / 64 = 0
  · simp only [key 0 hC, zer 1 (by rw [hC]; decide), Finset.sum_const_zero, add_zero]
  · have hC1 : C.val / 64 = 1 := by omega
    simp only [key 1 hC1, zer 0 (by rw [hC1]; decide), Finset.sum_const_zero, zero_add]

/-! ## The arrays after the run -/

theorem flushed5 (t : Fin cfg0.N) : (dats m 0 c).flushed 5 t = ((outs m c t.val t.isLt).1 : Vec Ideal S8192x256 .f32) := rfl
theorem flushed6 (t : Fin cfg0.N) : (dats m 0 c).flushed 6 t = ((outs m c t.val t.isLt).2.1 : Vec Ideal S512x256 .f32) := rfl
theorem flushed7 (t : Fin cfg0.N) : (dats m 0 c).flushed 7 t = ((outs m c t.val t.isLt).2.2 : Vec Ideal S512x128 .f32) := rfl

theorem dq_eq : (dats m 0 c).arrAt 5 cfg0.N = fun i => dqA (VQ m c) (VK m c) (VV m c) (VO m c) (VS m c) (hn (i 1)) (i 0) (hl (i 1)) := by
  have he (t : Fin cfg0.N) (r : Fin 8192) (j : Fin 256) : ((cfg0.win 5).blk t).view.emb (ix2 r j) = ix2 r (c256 (ht t) j) :=
    Lift.eq_ix2_of (show win0_5.index t 0 * 8192 + 1 * r.val = r.val by simp [index_row t])
      (show win0_5.index t 1 * 256 + 1 * j.val = t.val / 16 * 256 + j.val by simp [index_row t])
  refine (dats m 0 c).arrAt_eq_of_cover 5 _ (fun t hf => ?_) fun i => ?_
  · rw [flushed5]
    funext y
    obtain ⟨r, j, rfl⟩ : ∃ (r : Fin 8192) (j : Fin 256), y = ix2 r j := ⟨y 0, y 1, eq_ix2 y⟩
    rw [View.read_apply, he]
    have h15 := (flush0_5 t).mp hf
    exact q_val m c (ht t) r j t.val t.isLt (by show t.val = t.val / 16 * 16 + 15; omega)
  · obtain ⟨r, j, rfl⟩ : ∃ (r : Fin 8192) (j : Fin 1024), i = ix2 r j := ⟨i 0, i 1, eq_ix2 i⟩
    have hN : cfg0.N = 64 := N_0
    let t : Fin cfg0.N := ⟨j.val / 256 * 16 + 15, by omega⟩
    have hj : j = c256 (ht t) ⟨j.val % 256, by omega⟩ := Fin.ext (by show j.val = (j.val / 256 * 16 + 15) / 16 * 256 + j.val % 256; omega)
    refine ⟨t, (flush0_5 t).mpr (by show (j.val / 256 * 16 + 15) % 16 = 15; omega), ?_⟩
    rw [hj, ← he t r]; exact Finset.mem_map_of_mem _ (Finset.mem_univ _)

theorem dk_eq : (dats m 0 c).arrAt 6 cfg0.N = fun i => dkA (VQ m c) (VK m c) (VV m c) (VO m c) (VS m c) (hn (i 1)) (i 0) (hl (i 1)) := by
  have he (t : Fin cfg0.N) (r : Fin 512) (j : Fin 256) : ((cfg0.win 6).blk t).view.emb (ix2 r j) = ix2 (row (jt t) r) (c256 (ht t) j) :=
    Lift.eq_ix2_of (show win0_6.index t 0 * 512 + 1 * r.val = (jt t).val * 512 + r.val by simp [index_row t, jt_val])
      (show win0_6.index t 1 * 256 + 1 * j.val = t.val / 16 * 256 + j.val by simp [index_row t])
  refine (dats m 0 c).arrAt_eq_of_cover 6 _ (fun t hf => ?_) fun i => ?_
  · rw [flushed6]
    funext y
    obtain ⟨r, j, rfl⟩ : ∃ (r : Fin 512) (j : Fin 256), y = ix2 r j := ⟨y 0, y 1, eq_ix2 y⟩
    rw [View.read_apply, he]
    exact k_val m c t r j
  · obtain ⟨r, j, rfl⟩ : ∃ (r : Fin 8192) (j : Fin 1024), i = ix2 r j := ⟨i 0, i 1, eq_ix2 i⟩
    have hN : cfg0.N = 64 := N_0
    let t : Fin cfg0.N := ⟨j.val / 256 * 16 + r.val / 512, by omega⟩
    have hj : j = c256 (ht t) ⟨j.val % 256, by omega⟩ := Fin.ext (by show j.val = (j.val / 256 * 16 + r.val / 512) / 16 * 256 + j.val % 256; omega)
    have hr : r = row (jt t) ⟨r.val % 512, by omega⟩ := Fin.ext (by
      show r.val = (jt t).val * 512 + r.val % 512
      rw [jt_val]; show r.val = (j.val / 256 * 16 + r.val / 512) % 16 * 512 + r.val % 512; omega)
    refine ⟨t, flush0_6 t, ?_⟩
    rw [hj, hr, ← he t]; exact Finset.mem_map_of_mem _ (Finset.mem_univ _)

theorem dv_eq : (dats m 0 c).arrAt 7 cfg0.N = fun i => dvA (VQ m c) (VK m c) (VO m c) (VS m c) (vn (i 1)) (i 0) (vl (i 1)) := by
  have he (t : Fin cfg0.N) (r : Fin 512) (j : Fin 128) : ((cfg0.win 7).blk t).view.emb (ix2 r j) = ix2 (row (jt t) r) (c128 (ht t) j) :=
    Lift.eq_ix2_of (show win0_7.index t 0 * 512 + 1 * r.val = (jt t).val * 512 + r.val by simp [index_row t, jt_val])
      (show win0_7.index t 1 * 128 + 1 * j.val = t.val / 16 * 128 + j.val by simp [index_row t])
  refine (dats m 0 c).arrAt_eq_of_cover 7 _ (fun t hf => ?_) fun i => ?_
  · rw [flushed7]
    funext y
    obtain ⟨r, j, rfl⟩ : ∃ (r : Fin 512) (j : Fin 128), y = ix2 r j := ⟨y 0, y 1, eq_ix2 y⟩
    rw [View.read_apply, he]
    exact v_val m c t r j
  · obtain ⟨r, j, rfl⟩ : ∃ (r : Fin 8192) (j : Fin 512), i = ix2 r j := ⟨i 0, i 1, eq_ix2 i⟩
    have hN : cfg0.N = 64 := N_0
    let t : Fin cfg0.N := ⟨j.val / 128 * 16 + r.val / 512, by omega⟩
    have hj : j = c128 (ht t) ⟨j.val % 128, by omega⟩ := Fin.ext (by show j.val = (j.val / 128 * 16 + r.val / 512) / 16 * 128 + j.val % 128; omega)
    have hr : r = row (jt t) ⟨r.val % 512, by omega⟩ := Fin.ext (by
      show r.val = (jt t).val * 512 + r.val % 512
      rw [jt_val]; show r.val = (j.val / 128 * 16 + r.val / 512) % 16 * 512 + r.val % 512; omega)
    refine ⟨t, flush0_7 t, ?_⟩
    rw [hj, hr, ← he t]; exact Finset.mem_map_of_mem _ (Finset.mem_univ _)

variable (ρ : Dev nD → PrngReg)

/-- The run: the three results at the arrays above, the arguments as they were. -/
theorem run_arrays : θ_run defs (onTc (τ := τ) (main (F := Ideal))) ⟨m, fun _ => 0, ρ⟩ (fun r => ∀ c : Dev nD,
      r.2.mem ((c.tc : Thread nD τ).loc main_v50_0) = (dats m 0 c).arrAt 5 cfg0.N
      ∧ r.2.mem ((c.tc : Thread nD τ).loc main_v50_1) = (dats m 0 c).arrAt 6 cfg0.N
      ∧ r.2.mem ((c.tc : Thread nD τ).loc main_v50_2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1 5, (h.1 c).1 6, (h.1 c).1 7, h.2.1 c⟩)
    (θ_run_and (run_post m ρ) (frame m ρ))

end Cert.AttnRun
-- ==== Proof.AttnHost.lean ====
/-
  The attention backward: the arrays the region is entered with, over the arguments.
-/
module
public import proofs.«01_k».proof.Proof.AttnFold
public import Idealize.ShloMosaic.Lib.Pointwise
@[expose] public section

set_option maxRecDepth 16384

noncomputable section

namespace Cert.AttnRun

open Cert.AttnBwdIdeal Cert.AttnBwdIdeal.Gen
open Idealize.ShloMosaic Idealize.SL.Sem Idealize.ShloMosaic.StableHlo

variable (m : (ℓ : Loc nD τ sig) → Buf (Elt Ideal) ℓ) (c : Dev nD)

abbrev aQ : Vec Ideal S8192x8x96 .f32 := m (c.tc.loc main_arg0)
abbrev aK : Vec Ideal S8192x8x96 .f32 := m (c.tc.loc main_arg1)
abbrev aV : Vec Ideal S8192x8x64 .f32 := m (c.tc.loc main_arg2)
abbrev aD : Vec Ideal S8192x8x64 .f32 := m (c.tc.loc main_arg3)

theorem sitofp_zero : (FloatOps.sitofp (F := Ideal) FTy.f32 (0#32 : BitVec 32) : EReal) = 0 := by
  show (((0#32 : BitVec 32).toInt : ℝ) : EReal) = 0
  simp

theorem V_q (R : Fin 8192) (D : Fin 1024) : VQ m c (ix2 R D)
    = if h : D.val % 128 < 96 then aQ m c (ix3 R ⟨D.val / 128, by omega⟩ ⟨D.val % 128, h⟩) * Ideal.ofBits .f32 0x3DD105EC#32 else 0 := by
  dsimp only [VQ, V, hostOps0, hostOps0_1, hostOps0_2, hostOps0_3, hostOps0_4, hostOps0_5, hostOps0_6]
  try simp only [List.flatten_cons, List.flatten_nil, List.append_nil, List.cons_append, List.nil_append]
  after_results_simp
  try simp only [TRef.toBuf, TRef.ofBuf, cast_eq]
  pointwise
  by_cases h : D.val % 128 < 96
  · rw [dif_pos h, dif_pos ⟨by omega, h⟩]
  · rw [dif_neg h, dif_neg (fun g => h g.2)]
    exact sitofp_zero

theorem V_k (R : Fin 8192) (D : Fin 1024) : VK m c (ix2 R D)
    = if h : D.val % 128 < 96 then aK m c (ix3 R ⟨D.val / 128, by omega⟩ ⟨D.val % 128, h⟩) else 0 := by
  dsimp only [VK, V, hostOps0, hostOps0_1, hostOps0_2, hostOps0_3, hostOps0_4, hostOps0_5, hostOps0_6]
  try simp only [List.flatten_cons, List.flatten_nil, List.append_nil, List.cons_append, List.nil_append]
  after_results_simp
  try simp only [TRef.toBuf, TRef.ofBuf, cast_eq]
  pointwise
  by_cases h : D.val % 128 < 96
  · rw [dif_pos h, dif_pos ⟨by omega, h⟩]
  · rw [dif_neg h, dif_neg (fun g => h g.2)]
    exact sitofp_zero

theorem V_v (R : Fin 8192) (D : Fin 512) : VV m c (ix2 R D) = aV m c (ix3 R ⟨D.val / 64, by omega⟩ ⟨D.val % 64, by omega⟩) := by
  dsimp only [VV, V, hostOps0, hostOps0_1, hostOps0_2, hostOps0_3, hostOps0_4, hostOps0_5, hostOps0_6]
  try simp only [List.flatten_cons, List.flatten_nil, List.append_nil, List.cons_append, List.nil_append]
  after_results_simp
  try simp only [TRef.toBuf, TRef.ofBuf, cast_eq]
  pointwise

theorem V_o (R : Fin 8192) (D : Fin 512) : VO m c (ix2 R D) = aD m c (ix3 R ⟨D.val / 64, by omega⟩ ⟨D.val % 64, by omega⟩) := by
  dsimp only [VO, V, hostOps0, hostOps0_1, hostOps0_2, hostOps0_3, hostOps0_4, hostOps0_5, hostOps0_6]
  try simp only [List.flatten_cons, List.flatten_nil, List.append_nil, List.cons_append, List.nil_append]
  after_results_simp
  try simp only [TRef.toBuf, TRef.ofBuf, cast_eq]
  pointwise

/-! ## The row statistics -/

section Stats
abbrev S3 := Vec Ideal S8x8192x8192 .f32

/-- The masked scores. -/
def hoS (q k : Vec Ideal S8192x8x96 .f32) : S3 :=
  select (broadcastInDim S8x8192x8192 ![0, 1, 2] bcast_S1x8192x8192_S8x8192x8192_0_1_2 (broadcastInDim S1x8192x8192 ![1, 2] bcast_S8192x8192_S1x8192x8192_1_2
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0))))))
    (Host.dotGeneral (φ₁ := .f32) (φ₂ := .f32) dot_S8192x8x96_S8192x8x96_S8x8192x8192_2_2_0_0_1_1 none (mulf (F := Ideal) (φ := .f32) q (broadcastInDim S8192x8x96 ![] bcast_S_S8192x8x96 (constant (F := Ideal) S_ .f32 0x3DD105EC#32))) k)
    (broadcastInDim S8x8192x8192 ![] bcast_S_S8x8192x8192 (id (constant (F := Ideal) S_ .f32 0xFF800000#32)))
/-- A row's greatest score, the exponentials under it, and their sum. -/
def hoM (s : S3) : Vec Ideal S8x8192x1 .f32 :=
  broadcastInDim S8x8192x1 ![0, 1] bcast_S8x8192_S8x8192x1_0_1 (Host.reduce (FloatOps.maximumf (F := Ideal) (φ := .f32)) s (constant (F := Ideal) S_ .f32 0xFF800000#32) reducesTo_S8x8192x8192_S8x8192_d2 h_S_)
def hoE (s : S3) (t : Vec Ideal S8x8192x1 .f32) : S3 :=
  Host.exp (F := Ideal) (φ := .f32) (subf (F := Ideal) (φ := .f32) s (broadcastInDim S8x8192x8192 ![0, 1, 2] bcast_S8x8192x1_S8x8192x8192_0_1_2 t))
def hoL (e : S3) : Vec Ideal S8x8192x1 .f32 :=
  broadcastInDim S8x8192x1 ![0, 1] bcast_S8x8192_S8x8192x1_0_1 (Host.reduceAdd e (constant (F := Ideal) S_ .f32 0x00000000#32) reducesTo_S8x8192x8192_S8x8192_d2 h_S_)
/-- The logarithm of a row's sum. -/
def hoLse (t l : Vec Ideal S8x8192x1 .f32) : Vec Ideal S8192x8 .f32 :=
  transpose S8192x8 [1, 0] (shapeCast S8x8192 (addf (F := Ideal) (φ := .f32) t (Host.log (F := Ideal) (φ := .f32) l)) shapeCasts_S8x8192x1_S8x8192) transposes_S8x8192_S8192x8_1_0
/-- The probabilities. -/
def hoP (e : S3) (l : Vec Ideal S8x8192x1 .f32) : S3 :=
  Host.divf (F := Ideal) (φ := .f32) e (broadcastInDim S8x8192x8192 ![0, 1, 2] bcast_S8x8192x1_S8x8192x8192_0_1_2 l)
/-- A row's sum of the output times its cotangent. -/
def hoDel (p : S3) (v d : Vec Ideal S8192x8x64 .f32) : Vec Ideal S8192x8 .f32 :=
  Host.reduceAdd (mulf (F := Ideal) (φ := .f32) d (transpose S8192x8x64 [2, 0, 1] (Host.dotGeneral (φ₁ := .f32) (φ₂ := .f32) dot_S8192x8x64_S8x8192x8192_S8x64x8192_0_2_2_1_1_0 none v p) transposes_S8x64x8192_S8192x8x64_2_0_1))
    (constant (F := Ideal) S_ .f32 0x00000000#32) reducesTo_S8192x8x64_S8192x8_d2 h_S_
def hoW (a : Vec Ideal S8192x8 .f32) : Vec Ideal S8192x8x32 .f32 :=
  shapeCast S8192x8x32 (broadcastInDim S8192x8x1x32 ![0, 1, 2] bcast_S8192x8x1_S8192x8x1x32_0_1_2 (broadcastInDim S8192x8x1 ![0, 1] bcast_S8192x8_S8192x8x1_0_1 a)) shapeCasts_S8192x8x1x32_S8192x8x32
def hoC (a b : Vec Ideal S8192x8x32 .f32) : Vec Ideal S8192x512 .f32 :=
  shapeCast S8192x512 (concatenate S8192x8x64 2 [⟨S8192x8x32, a⟩, ⟨S8192x8x32, b⟩] concatenates_S8192x8x32_S8192x8x32_S8192x8x64_d2) shapeCasts_S8192x8x64_S8192x512

theorem hoC_lo (a b : Vec Ideal S8192x8x32 .f32) (R : Fin 8192) (n : Fin 8) : hoC a b (ix2 R (hv n 0)) = a (ix3 R n 0) := by
  unfold hoC
  pointwise
  rw [dif_pos (by omega)]
  exact congrArg a (by congr 1 <;> exact Fin.ext (by simp))
theorem hoC_hi (a b : Vec Ideal S8192x8x32 .f32) (R : Fin 8192) (n : Fin 8) : hoC a b (ix2 R (hv n 32)) = b (ix3 R n 0) := by
  unfold hoC
  pointwise
  rw [dif_neg (by omega)]
  exact congrArg b (by congr 1 <;> exact Fin.ext (by simp; try omega))
theorem hoW_apply (a : Vec Ideal S8192x8 .f32) (R : Fin 8192) (n : Fin 8) (x : Fin 32) : hoW a (ix3 R n x) = a (ix2 R n) := by
  unfold hoW
  pointwise
theorem hoDel_apply (p : S3) (v d : Vec Ideal S8192x8x64 .f32) (R : Fin 8192) (n : Fin 8) :
    hoDel p v d (ix2 R n) = ∑ l : Fin 64, d (ix3 R n l) * ∑ C : Fin 8192, v (ix3 C n l) * p (ix3 n R C) := by
  unfold hoDel
  pointwise
theorem hoP_apply (e : S3) (l : Vec Ideal S8x8192x1 .f32) (R C : Fin 8192) (n : Fin 8) :
    hoP e l (ix3 n R C) = Ideal.div (e (ix3 n R C)) (l (ix3 n R 0)) := by
  unfold hoP
  pointwise
theorem hoLse_apply (t l : Vec Ideal S8x8192x1 .f32) (R : Fin 8192) (n : Fin 8) :
    hoLse t l (ix2 R n) = t (ix3 n R 0) + Ideal.log (l (ix3 n R 0)) := by
  unfold hoLse
  pointwise
theorem hoL_apply (e : S3) (R : Fin 8192) (n : Fin 8) : hoL e (ix3 n R 0) = ∑ C : Fin 8192, e (ix3 n R C) := by
  unfold hoL
  pointwise
theorem hoE_apply (s : S3) (t : Vec Ideal S8x8192x1 .f32) (R C : Fin 8192) (n : Fin 8) :
    hoE s t (ix3 n R C) = Ideal.exp (s (ix3 n R C) - t (ix3 n R 0)) := by
  unfold hoE
  pointwise
theorem hoM_apply (s : S3) (R : Fin 8192) (n : Fin 8) : hoM s (ix3 n R 0) = Finset.univ.fold max (Ideal.ofBits .f32 0xFF800000#32) fun C : Fin 8192 => s (ix3 n R C) := by
  unfold hoM
  pointwise
theorem hoS_apply (q k : Vec Ideal S8192x8x96 .f32) (R C : Fin 8192) (n : Fin 8) :
    hoS q k (ix3 n R C) = Scalar.select (IntOp.cmpi CmpIPredicate.sle (BitVec.ofNat 32 C.val) (BitVec.ofNat 32 R.val))
      (∑ l : Fin 96, q (ix3 R n l) * Ideal.ofBits .f32 0x3DD105EC#32 * k (ix3 C n l)) (Ideal.ofBits .f32 0xFF800000#32) := by
  unfold hoS
  pointwise
  rfl
end Stats

abbrev oS := hoS (aQ m c) (aK m c)
abbrev oM := hoM (oS m c)
abbrev oE := hoE (oS m c) (oM m c)
abbrev oL := hoL (oE m c)

set_option maxHeartbeats 2000000 in
theorem V_s : VS m c = hoC (hoW (hoLse (oM m c) (oL m c))) (hoW (hoDel (hoP (oE m c) (oL m c)) (aV m c) (aD m c))) := by
  dsimp only [VS, V, hostOps0, hostOps0_1, hostOps0_2, hostOps0_3, hostOps0_4, hostOps0_5, hostOps0_6]
  try simp only [List.flatten_cons, List.flatten_nil, List.append_nil, List.cons_append, List.nil_append]
  after_results_simp
  try simp only [TRef.toBuf, TRef.ofBuf, cast_eq]
  refine congrArg₂ hoC ?_ ?_
  · after_results_simp
    try simp only [TRef.toBuf, TRef.ofBuf, cast_eq]
    unfold oL oE oM oS hoW hoLse hoL hoE hoM hoS
    rfl
  · after_results_simp
    try simp only [TRef.toBuf, TRef.ofBuf, cast_eq]
    unfold oE oL oM oS hoW hoDel hoP hoL hoE hoM hoS
    rfl

end Cert.AttnRun
-- ==== Proof.AttnLeft.lean ====
/-
  The attention backward's three results at real arguments: the probabilities and the score gradients of each head.
-/
module
public import proofs.«01_k».proof.Proof.AttnHost
public import proofs.«01_k».proof.Proof.AttnMath
@[expose] public section

noncomputable section

namespace Cert.AttnMath
/-- A head's scores and the cotangents of its probabilities. -/
def scR (Q K : Fin 8192 → Fin 8 → Fin 96 → ℝ) (n : Fin 8) (R C : Fin 8192) : ℝ := ∑ l, Q R n l * wS * K C n l
def daR (D V : Fin 8192 → Fin 8 → Fin 64 → ℝ) (n : Fin 8) (R C : Fin 8192) : ℝ := ∑ l, D R n l * V C n l
end Cert.AttnMath

namespace Cert.AttnRun

open Cert.AttnBwdIdeal Cert.AttnBwdIdeal.Gen Cert.AttnMath Cert.Lift
open Idealize.ShloMosaic Idealize.SL.Sem

variable (m : (ℓ : Loc nD τ sig) → Buf (Elt Ideal) ℓ) (c : Dev nD)
variable (Q K : Fin 8192 → Fin 8 → Fin 96 → ℝ) (W D : Fin 8192 → Fin 8 → Fin 64 → ℝ)

/-- The arguments are the given reals. -/
structure Reals : Prop where
  q : ∀ R n l, aQ m c (ix3 R n l) = ((Q R n l : ℝ) : EReal)
  k : ∀ R n l, aK m c (ix3 R n l) = ((K R n l : ℝ) : EReal)
  v : ∀ R n l, aV m c (ix3 R n l) = ((W R n l : ℝ) : EReal)
  d : ∀ R n l, aD m c (ix3 R n l) = ((D R n l : ℝ) : EReal)

variable {m c Q K W D} (h : Reals m c Q K W D) (n : Fin 8) (R C : Fin 8192)
include h

theorem oS_real : oS m c (ix3 n R C) = scE (scR Q K n) R C := by
  rw [oS, hoS_apply, sel_le R.isLt C.isLt, word_bot]
  unfold scE
  split
  · simp only [h.q, h.k, word_wS, ← EReal.coe_mul, coe_sum]; rfl
  · rfl
theorem oM_real : ∃ t : ℝ, oM m c (ix3 n R 0) = ((t : ℝ) : EReal) := by
  obtain ⟨t, ht⟩ := top_real (scR Q K n) R
  refine ⟨t, ?_⟩
  rw [oM, hoM_apply, word_bot]
  simp only [oS_real h]
  exact ht
theorem oE_real {t : ℝ} (ht : oM m c (ix3 n R 0) = ((t : ℝ) : EReal)) : oE m c (ix3 n R C) = ((zz (scR Q K n) t R C : ℝ) : EReal) := by
  rw [oE, hoE_apply, ht, oS_real h, exp_scE]
theorem oL_real {t : ℝ} (ht : oM m c (ix3 n R 0) = ((t : ℝ) : EReal)) : oL m c (ix3 n R 0) = ((ll (scR Q K n) t R : ℝ) : EReal) := by
  rw [oL, hoL_apply]
  simp only [oE_real h n R _ ht, coe_sum]
  rfl
theorem s_lo : ∃ t : ℝ, VS m c (ix2 R (hv n 0)) = ((t + Real.log (ll (scR Q K n) t R) : ℝ) : EReal) := by
  obtain ⟨t, ht⟩ := oM_real h n R
  refine ⟨t, ?_⟩
  rw [V_s, hoC_lo, hoW_apply, hoLse_apply, ht, oL_real h n R ht, Ideal.log_coe, if_neg (not_le.mpr (ll_pos (scR Q K n) t R)), ← EReal.coe_add]
theorem p_real : hoP (oE m c) (oL m c) (ix3 n R C) = ((yy (scR Q K n) R C : ℝ) : EReal) := by
  obtain ⟨t, ht⟩ := oM_real h n R
  rw [hoP_apply, oE_real h n R C ht, oL_real h n R ht, div_real (ll_pos (scR Q K n) t R).ne', yy_shift]
theorem s_hi : VS m c (ix2 R (hv n 32)) = ((dl (scR Q K n) (daR D W n) R : ℝ) : EReal) := by
  rw [V_s, hoC_hi, hoW_apply, hoDel_apply]
  simp only [p_real h, h.v, h.d, ← EReal.coe_mul, coe_sum]
  refine congrArg ((↑) : ℝ → EReal) ?_
  unfold dl daR
  simp only [Finset.mul_sum]
  rw [Finset.sum_comm]
  exact Finset.sum_congr rfl fun C _ => Finset.sum_congr rfl fun l _ => by ring
theorem q_lane (l : Fin 128) : VQ m c (ix2 R (hq n l)) = if g : l.val < 96 then ((Q R n ⟨l.val, g⟩ * wS : ℝ) : EReal) else 0 := by
  have e1 : (hq n l).val / 128 = n.val := by show (n.val * 128 + l.val) / 128 = n.val; omega
  have e2 : (hq n l).val % 128 = l.val := by show (n.val * 128 + l.val) % 128 = l.val; omega
  rw [V_q]
  by_cases g : l.val < 96
  · rw [dif_pos (by rw [e2]; exact g), dif_pos g, word_wS, EReal.coe_mul, ← h.q]
    congr 3
    · exact Fin.ext e1
    · exact Fin.ext e2
  · rw [dif_neg (by rw [e2]; exact g), dif_neg g]
theorem k_lane (l : Fin 128) : VK m c (ix2 R (hq n l)) = if g : l.val < 96 then ((K R n ⟨l.val, g⟩ : ℝ) : EReal) else 0 := by
  have e1 : (hq n l).val / 128 = n.val := by show (n.val * 128 + l.val) / 128 = n.val; omega
  have e2 : (hq n l).val % 128 = l.val := by show (n.val * 128 + l.val) % 128 = l.val; omega
  rw [V_k]
  by_cases g : l.val < 96
  · rw [dif_pos (by rw [e2]; exact g), dif_pos g, ← h.k]
    congr 2
    · exact Fin.ext e1
    · exact Fin.ext e2
  · rw [dif_neg (by rw [e2]; exact g), dif_neg g]
theorem v_lane (l : Fin 64) : VV m c (ix2 R (hv n l)) = ((W R n l : ℝ) : EReal) := by
  rw [V_v, ← h.v]
  congr 2
  · exact Fin.ext (by show (n.val * 64 + l.val) / 64 = n.val; omega)
  · exact Fin.ext (by show (n.val * 64 + l.val) % 64 = l.val; omega)
theorem o_lane (l : Fin 64) : VO m c (ix2 R (hv n l)) = ((D R n l : ℝ) : EReal) := by
  rw [V_o, ← h.d]
  congr 2
  · exact Fin.ext (by show (n.val * 64 + l.val) / 64 = n.val; omega)
  · exact Fin.ext (by show (n.val * 64 + l.val) % 64 = l.val; omega)
theorem dot_real : (∑ l : Fin 128, VQ m c (ix2 R (hq n l)) * VK m c (ix2 C (hq n l))) = ((scR Q K n R C : ℝ) : EReal) := by
  have e : ∀ l : Fin 128, VQ m c (ix2 R (hq n l)) * VK m c (ix2 C (hq n l))
      = if g : l.val < 96 then (fun x : Fin 96 => ((Q R n x * wS * K C n x : ℝ) : EReal)) ⟨l.val, g⟩ else 0 := fun l => by
    rw [q_lane h, k_lane h]
    by_cases g : l.val < 96
    · rw [dif_pos g, dif_pos g, dif_pos g, ← EReal.coe_mul]
    · rw [dif_neg g, dif_neg g, dif_neg g, mul_zero]
  refine ((Finset.sum_congr rfl fun l _ => e l).trans (sum_pad fun x : Fin 96 => ((Q R n x * wS * K C n x : ℝ) : EReal))).trans ?_
  rw [coe_sum]
  rfl
theorem pA_real : pA (VQ m c) (VK m c) (VS m c) n R C = ((yy (scR Q K n) R C : ℝ) : EReal) := by
  obtain ⟨t, ht⟩ := s_lo h n R
  unfold pA
  split
  · next g => rw [dot_real h, ht, ← EReal.coe_sub, Ideal.exp_coe, yy_lse _ _ _ _ g]
  · next g => rw [yy_zero _ _ _ g, EReal.coe_zero]
theorem sA_real : sA (VQ m c) (VK m c) (VV m c) (VO m c) (VS m c) n R C = ((ss (scR Q K n) (daR D W n) R C : ℝ) : EReal) := by
  unfold sA
  rw [pA_real h, s_hi h]
  simp only [v_lane h, o_lane h, ← EReal.coe_mul, coe_sum, ← EReal.coe_sub]
  rfl

theorem dqA_real (l : Fin 128) : dqA (VQ m c) (VK m c) (VV m c) (VO m c) (VS m c) n R l
    = if g : l.val < 96 then ((∑ C, ss (scR Q K n) (daR D W n) R C * K C n ⟨l.val, g⟩ : ℝ) : EReal) else 0 := by
  unfold dqA
  simp only [sA_real h, k_lane h]
  by_cases g : l.val < 96
  · simp only [dif_pos g, ← EReal.coe_mul, coe_sum]
  · simp only [dif_neg g, mul_zero, Finset.sum_const_zero]
theorem dkA_real (l : Fin 128) : dkA (VQ m c) (VK m c) (VV m c) (VO m c) (VS m c) n C l
    = if g : l.val < 96 then ((∑ R, ss (scR Q K n) (daR D W n) R C * (Q R n ⟨l.val, g⟩ * wS) : ℝ) : EReal) else 0 := by
  unfold dkA
  simp only [sA_real h, q_lane h]
  by_cases g : l.val < 96
  · simp only [dif_pos g, ← EReal.coe_mul, coe_sum]
  · simp only [dif_neg g, mul_zero, Finset.sum_const_zero]
theorem dvA_real (l : Fin 64) : dvA (VQ m c) (VK m c) (VO m c) (VS m c) n C l = ((∑ R, yy (scR Q K n) R C * D R n l : ℝ) : EReal) := by
  unfold dvA
  simp only [pA_real h, o_lane h, ← EReal.coe_mul, coe_sum]

end Cert.AttnRun
-- ==== Proof.AttnRight.lean ====
/-
  The reference of the attention's backward call at real arguments.
-/
module
public import proofs.«01_k».proof.Proof.AttnRef
public import proofs.«01_k».proof.Proof.AttnLeft
public import proofs.«01_k».proof.Proof.Rows
@[expose] public section
noncomputable section
namespace Cert.AttnRefIdeal.Val
open Idealize.ShloMosaic Idealize.SL.Sem Cert.AttnRefIdeal Cert.AttnRefIdeal.Gen Cert.AttnRefIdeal.Read
open Cert.Lift Cert.AttnMath

/-- The arguments are the given reals. -/
structure Reals (q k : Vec Ideal S8192x8x96 .f32) (v d : Vec Ideal S8192x8x64 .f32) (Q K : Fin 8192 → Fin 8 → Fin 96 → ℝ) (W D : Fin 8192 → Fin 8 → Fin 64 → ℝ) : Prop where
  q : ∀ R n l, q (ix3 R n l) = ((Q R n l : ℝ) : EReal)
  k : ∀ R n l, k (ix3 R n l) = ((K R n l : ℝ) : EReal)
  v : ∀ R n l, v (ix3 R n l) = ((W R n l : ℝ) : EReal)
  d : ∀ R n l, d (ix3 R n l) = ((D R n l : ℝ) : EReal)

variable {q k : Vec Ideal S8192x8x96 .f32} {v d : Vec Ideal S8192x8x64 .f32} {Q K : Fin 8192 → Fin 8 → Fin 96 → ℝ} {W D : Fin 8192 → Fin 8 → Fin 64 → ℝ}
variable (h : Reals q k v d Q K W D) (n : Fin 8) (R C : Fin 8192)
include h

theorem s_real : val_main_v10_0 q k (ix3 n R C) = scE (scR Q K n) R C := by
  rw [r10, sel_le R.isLt C.isLt, word_bot]
  unfold scE
  split
  · simp only [h.q, h.k, word_wS, ← EReal.coe_mul, coe_sum]; rfl
  · rfl
theorem t_real : ∃ t : ℝ, val_main_v18 q k (ix2 n R) = ((t : ℝ) : EReal) := by
  obtain ⟨t, ht⟩ := top_real (scR Q K n) R
  refine ⟨t, ?_⟩
  rw [r18, r11, word_bot]
  simp only [s_real h]
  rw [ht]
  exact max_eq_right bot_le
theorem e_real {t : ℝ} (ht : val_main_v18 q k (ix2 n R) = ((t : ℝ) : EReal)) : val_main_v31 q k (ix3 n R C) = ((zz (scR Q K n) t R C : ℝ) : EReal) := by
  rw [r31, ht, s_real h, exp_scE]
theorem l_real {t : ℝ} (ht : val_main_v18 q k (ix2 n R) = ((t : ℝ) : EReal)) : val_main_v33 q k (ix3 n R 0) = ((ll (scR Q K n) t R : ℝ) : EReal) := by
  rw [r33]
  simp only [e_real h n R _ ht, coe_sum]
  rfl
theorem p_real : val_main_v35 q k (ix3 n R C) = ((yy (scR Q K n) R C : ℝ) : EReal) := by
  obtain ⟨t, ht⟩ := t_real h n R
  rw [r35, e_real h n R C ht, l_real h n R ht, div_real (ll_pos (scR Q K n) t R).ne', yy_shift]
theorem a_real : val_main_v42 v d (ix3 n R C) = ((daR D W n R C : ℝ) : EReal) := by
  rw [r42]
  simp only [h.v, h.d, ← EReal.coe_mul, coe_sum]
  rfl
theorem c_real : val_main_v57 q k v d (ix3 n R C) = ((ss (scR Q K n) (daR D W n) R C : ℝ) : EReal) := by
  obtain ⟨t, ht⟩ := t_real h n R
  have hl := ll_pos (scR Q K n) t R
  rw [r57, sel_le R.isLt C.isLt, Cert.Rows.word_zero]
  split
  · rw [r56, r50, r38, l_real h n R ht, Cert.Rows.word_one, a_real h, e_real h n R C ht, div_real hl.ne', ← EReal.coe_mul, ← EReal.coe_one,
      div_real (mul_pos hl hl).ne']
    simp only [a_real h, e_real h n R _ ht, ← EReal.coe_mul, coe_sum, ← EReal.coe_neg, ← EReal.coe_add]
    rw [ss_soft]
  · next g => rw [ss_zero _ _ _ _ g, EReal.coe_zero]

theorem dq_real (E : Fin 1024) : val_main_v63 q k v d (ix2 R E)
    = if g : E.val % 128 < 96 then ((∑ C, ss (scR Q K ⟨E.val / 128, by omega⟩) (daR D W ⟨E.val / 128, by omega⟩) R C * K C ⟨E.val / 128, by omega⟩ ⟨E.val % 128, g⟩ : ℝ) : EReal) else 0 := by
  rw [r63]
  by_cases g : E.val % 128 < 96
  · rw [dif_pos g, dif_pos g, r61]
    simp only [c_real h, h.k, ← EReal.coe_mul, coe_sum]
  · rw [dif_neg g, dif_neg g]
theorem dk_real (E : Fin 1024) : val_main_v65 q k v d (ix2 C E)
    = if g : E.val % 128 < 96 then ((∑ R, ss (scR Q K ⟨E.val / 128, by omega⟩) (daR D W ⟨E.val / 128, by omega⟩) R C * (Q R ⟨E.val / 128, by omega⟩ ⟨E.val % 128, g⟩ * wS) : ℝ) : EReal) else 0 := by
  rw [r65]
  by_cases g : E.val % 128 < 96
  · rw [dif_pos g, dif_pos g, r59]
    simp only [c_real h, h.q, word_wS, ← EReal.coe_mul, coe_sum]
  · rw [dif_neg g, dif_neg g]
theorem dv_real (E : Fin 512) : val_main_v66 q k d (ix2 C E)
    = ((∑ R, yy (scR Q K ⟨E.val / 64, by omega⟩) R C * D R ⟨E.val / 64, by omega⟩ ⟨E.val % 64, by omega⟩ : ℝ) : EReal) := by
  rw [r66]
  simp only [p_real h, h.d, ← EReal.coe_mul, coe_sum]
  exact congrArg ((↑) : ℝ → EReal) (Finset.sum_congr rfl fun R _ => mul_comm _ _)

end Cert.AttnRefIdeal.Val
-- ==== Proof.AttnClaim.lean ====
/-
  The claims of the attention's backward call.
-/
module
public import proofs.«01_k».proof.Defs
public import proofs.«01_k».proof.Proof.AttnFrame
public import proofs.«01_k».proof.Proof.Gen.AttnBwd.Launch
public import proofs.«01_k».proof.Proof.AttnRight
public import proofs.«01_k».proof.Proof.Gen.AttnRefIdeal.Run
public import proofs.«01_k».proof.Proof.Gen.Pre_finite_attn
public import Idealize.ShloMosaic.Lib.Claim
@[expose] public section
noncomputable section
namespace Cert.AttnClaim
open Idealize.ShloMosaic Idealize.ShloMosaic.Tactic Idealize.SL.Sem

theorem frame_ideal : Cert.quiescent_AttnBwdIdeal := fun m ρ _ => Cert.AttnRun.frame m ρ

/-- The ideal program's run at the machine's floats. -/
def AtBits : Prop :=
  ∀ (m : (ℓ : Loc Cert.AttnBwdIdeal.nD Cert.AttnBwdIdeal.τ Cert.AttnBwdIdeal.sig) → Buf (Elt Bits) ℓ) (g : Dev Cert.AttnBwdIdeal.nD → PrngReg), True →
    θ_run (Cert.AttnBwdIdeal.defs (F := Bits)) (onTc (τ := Cert.AttnBwdIdeal.τ) (Cert.AttnBwdIdeal.main (F := Bits))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

/-- The kernel as compiled is the same text. -/
theorem same : Cert.quiescent_AttnBwd = AtBits := by sl_kernel_rfl

theorem frame_kernel : Cert.quiescent_AttnBwd := same.mpr fun m ρ _ => Cert.AttnRun.frame (F := Bits) m ρ

/-- The reference's run leaves its arguments and its counters. -/
theorem frame_ref : Cert.quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run m ρ)

theorem frame_ideal_pre : Cert.quiescent_AttnBwdIdeal_pre_finite_attn := fun m ρ _ => Cert.AttnRun.frame m ρ
theorem frame_ref_pre : Cert.quiescent_AttnRefIdeal_pre_finite_attn := fun m ρ _ => frame_ref m ρ trivial

open Cert.Lift

set_option maxRecDepth 16384

set_option maxHeartbeats 4000000 in
/-- The call's three gradients are the reference's, at finite queries, keys, values and cotangents. -/
theorem value : Cert.algebraic_AttnBwdIdeal_AttnRefIdeal_pre_finite_attn := by
  intro m g m' g' hpre hargs
  refine ⟨fun c => (Cert.AttnRun.dats m 0 c).arrAt 5 Cert.AttnBwdIdeal.cfg0.N, fun c => (Cert.AttnRun.dats m 0 c).arrAt 6 Cert.AttnBwdIdeal.cfg0.N,
    fun c => (Cert.AttnRun.dats m 0 c).arrAt 7 Cert.AttnBwdIdeal.cfg0.N, Cert.AttnRun.run_arrays m g,
    (θ_run Cert.AttnRefIdeal.defs _ _).mono (fun r h c => ?_) (Cert.AttnRefIdeal.Value.run m' g')⟩
  obtain ⟨h0, h1, h2, hk⟩ := h c
  obtain ⟨a0, a1, a2, a3⟩ := hargs c
  have b0 : m' (c.tc.loc Cert.AttnRefIdeal.main_arg0) = m (c.tc.loc Cert.AttnBwdIdeal.main_arg0) := a0
  have b1 : m' (c.tc.loc Cert.AttnRefIdeal.main_arg1) = m (c.tc.loc Cert.AttnBwdIdeal.main_arg1) := a1
  have b2 : m' (c.tc.loc Cert.AttnRefIdeal.main_arg2) = m (c.tc.loc Cert.AttnBwdIdeal.main_arg2) := a2
  have b3 : m' (c.tc.loc Cert.AttnRefIdeal.main_arg3) = m (c.tc.loc Cert.AttnBwdIdeal.main_arg3) := a3
  obtain ⟨p0, p1, p2, p3⟩ := hpre c
  obtain ⟨Q, hq⟩ := real_of_lt_inf (fun _ => rfl) p0
  obtain ⟨K, hk'⟩ := real_of_lt_inf (fun _ => rfl) p1
  obtain ⟨W, hw⟩ := real_of_lt_inf (fun _ => rfl) p2
  obtain ⟨D, hd⟩ := real_of_lt_inf (fun _ => rfl) p3
  have HL : Cert.AttnRun.Reals m c (fun R n l => Q (ix3 R n l)) (fun R n l => K (ix3 R n l)) (fun R n l => W (ix3 R n l)) (fun R n l => D (ix3 R n l)) :=
    ⟨fun R n l => congrFun hq _, fun R n l => congrFun hk' _, fun R n l => congrFun hw _, fun R n l => congrFun hd _⟩
  have HR := Cert.AttnRefIdeal.Val.Reals.mk (fun R n l => HL.q R n l) (fun R n l => HL.k R n l) (fun R n l => HL.v R n l) (fun R n l => HL.d R n l)
  refine ⟨(h0.trans (Cert.AttnRefIdeal.Read.val_main_v63_eq m' c)).trans ?_, (h1.trans (Cert.AttnRefIdeal.Read.val_main_v65_eq m' c)).trans ?_,
    (h2.trans (Cert.AttnRefIdeal.Read.val_main_v66_eq m' c)).trans ?_, hk⟩
  · rw [b0, b1, b2, b3]
    refine Eq.trans ?_ (Cert.AttnRun.dq_eq m c).symm
    funext i
    obtain ⟨r, j, rfl⟩ : ∃ r j, i = ValueIdx.ix2 r j := ⟨i 0, i 1, ValueIdx.eq_ix2 i⟩
    exact (Cert.AttnRefIdeal.Val.dq_real HR r j).trans (Cert.AttnRun.dqA_real HL (Cert.AttnRun.hn j) r (Cert.AttnRun.hl j)).symm
  · rw [b0, b1, b2, b3]
    refine Eq.trans ?_ (Cert.AttnRun.dk_eq m c).symm
    funext i
    obtain ⟨r, j, rfl⟩ : ∃ r j, i = ValueIdx.ix2 r j := ⟨i 0, i 1, ValueIdx.eq_ix2 i⟩
    exact (Cert.AttnRefIdeal.Val.dk_real HR r j).trans (Cert.AttnRun.dkA_real HL (Cert.AttnRun.hn j) r (Cert.AttnRun.hl j)).symm
  · rw [b0, b1, b3]
    refine Eq.trans ?_ (Cert.AttnRun.dv_eq m c).symm
    funext i
    obtain ⟨r, j, rfl⟩ : ∃ r j, i = ValueIdx.ix2 r j := ⟨i 0, i 1, ValueIdx.eq_ix2 i⟩
    exact (Cert.AttnRefIdeal.Val.dv_real HR r j).trans (Cert.AttnRun.dvA_real HL (Cert.AttnRun.vn j) r (Cert.AttnRun.vl j)).symm

end Cert.AttnClaim
-- ==== Proof.ConvKernel.lean ====
/-
  The backward call of the convolution branch: what the gradient of its last product's weight holds, index by index,
  over the program's arguments.
-/
module
public import proofs.«01_k».proof.Proof.Gen.ConvBwdIdeal.Value
public import proofs.«01_k».proof.Proof.Gen.ConvRefIdeal.Read
public import Idealize.ShloMosaic.Lib.Pipeline.ReadBack
public import Idealize.ShloMosaic.Lib.WritesUnit
public import proofs.«01_k».proof.Proof.Rows
@[expose] public section
set_option maxRecDepth 16384
set_option maxHeartbeats 1000000
noncomputable section
namespace Cert.ConvBwdIdeal.Val
open Idealize.ShloMosaic Idealize.SL.Sem Cert.ConvBwdIdeal Cert.ConvBwdIdeal.Gen
open Idealize.ShloMosaic.StableHlo Cert.Rows

/-- A row less its mean. -/
def xc (y : Fin 256 → EReal) (j : Fin 256) : EReal := y j - (∑ k, y k) * c256
/-- A row of the layer norm before its gain. -/
def xn (y : Fin 256 → EReal) (j : Fin 256) : EReal := xc y j * Ideal.rsqrt ((∑ k, xc y k * xc y k) * c256 + Ideal.ofBits .f32 0x358637BD#32)
/-- The gate of a number by itself. -/
def sl (x : EReal) : EReal := x * sg x
/-- A row of the normed convolution behind its gate. -/
def sw (y g b : Fin 256 → EReal) (j : Fin 256) : EReal := sl (xn y j * g j + b j)

section Payloads
variable (p : Vec Ideal S512x768 .f32) (y : Vec Ideal S512x256 .f32) (g b : Vec Ideal S1x256 .f32) (d : Vec Ideal S512x256 .f32)

theorem xc_apply (r : Fin 512) (j : Fin 256) : k0_pay49 y (ix2 r j) = xc (fun k => y (ix2 r k)) j := by
  unfold xc
  unfold_payloads
  pointwise

theorem xn_apply (r : Fin 512) (j : Fin 256) : k0_pay51 y (ix2 r j) = xn (fun k => y (ix2 r k)) j := by
  have h := xc_apply y r
  revert h
  unfold xn k0_pay51 k0_pay50
  generalize k0_pay49 y = X
  intro h
  simp only [← h]
  pointwise

theorem ln_apply (r : Fin 512) (j : Fin 256) : k0_pay53 y g b (ix2 r j) = xn (fun k => y (ix2 r k)) j * g (ix2 0 j) + b (ix2 0 j) := by
  have h := xn_apply y r
  revert h
  unfold k0_pay53 k0_pay52
  generalize k0_pay51 y = X
  intro h
  simp only [← h]
  pointwise

theorem sw_apply (r : Fin 512) (j : Fin 256) : k0_pay54 y g b (ix2 r j) = sw (fun k => y (ix2 r k)) (fun k => g (ix2 0 k)) (fun k => b (ix2 0 k)) j := by
  have h := ln_apply y g b r
  revert h
  unfold sw sl sg k0_pay54
  generalize k0_pay53 y g b = X
  intro h
  simp only [← h]
  pointwise

theorem dp_apply (r : Fin 512) (j : Fin 256) : k0_pay58 (k0_pay45 p) d (ix2 r j) = d (ix2 r j) * sl (p (ix2 r ⟨512 + j.val, by omega⟩)) := by
  unfold sl sg
  unfold_payloads
  pointwise

/-- What one row block adds to the weight's gradient. -/
def gB (i j : Fin 256) : EReal :=
  ∑ r : Fin 512, sw (fun k => y (ix2 r k)) (fun k => g (ix2 0 k)) (fun k => b (ix2 0 k)) i * (d (ix2 r j) * sl (p (ix2 r ⟨512 + j.val, by omega⟩)))

theorem g_apply (old : Vec Ideal S256x256 .f32) (i j : Fin 256) :
    k0_pay60 (k0_pay45 p) (k0_pay54 y g b) d old (ix2 i j) = old (ix2 i j) + gB p y g b d i j := by
  have h1 := sw_apply y g b
  have h2 := dp_apply p d
  revert h1 h2
  unfold gB k0_pay60
  generalize k0_pay54 y g b = X
  generalize k0_pay58 (k0_pay45 p) d = Y
  intro h1 h2
  simp only [← h1, ← h2]
  pointwise

end Payloads

variable (m : (ℓ : Loc nD τ sig) → Buf (Elt Ideal) ℓ) (c : Dev nD)

theorem hz : (![0, 0] : Fin 2 → Nat) = fun _ => 0 := by funext a; fin_cases a <;> rfl

/-! ## What the body leaves at a grid point, over the point's input blocks -/

abbrev bp (t : Fin cfg0.N) : Vec Ideal S512x768 .f32 := X0_0 m c t
abbrev bY (t : Fin cfg0.N) : Vec Ideal S512x256 .f32 := iblk m c 2 t
abbrev bd (t : Fin cfg0.N) : Vec Ideal S512x256 .f32 := iblk m c 3 t
abbrev bg (t : Fin cfg0.N) : Vec Ideal S1x256 .f32 := iblk m c 5 t
abbrev bb (t : Fin cfg0.N) : Vec Ideal S1x256 .f32 := iblk m c 6 t

/-- What grid point `t` adds to the weight's gradient. -/
def gT (t : Fin cfg0.N) (i j : Fin 256) : EReal := gB (bp m c t) (bY m c t) (bg m c t) (bb m c t) (bd m c t) i j

theorem outs_B (t : Fin cfg0.N) (h0 : ¬ t.val % 16 = 0) (h1 : ¬ t.val % 16 = 15) (i j : Fin 256) :
    ((outsAt0 m c t.val t.isLt).2.2.1 : Vec Ideal S256x256 .f32) (ix2 i j)
      = ((outsAt0 m c (t.val - 1) (by have := t.isLt; omega)).2.2.1 : Vec Ideal S256x256 .f32) (ix2 i j) + gT m c t i j := by
  refine Eq.trans ?_ (g_apply (bp m c t) (bY m c t) (bg m c t) (bb m c t) (bd m c t) _ i j)
  rw [outsAt0_B m c t h0 h1]
  dsimp only
  unfold out0_B_11
  rw [View.read_writes_eq_canon _ _ _ (fun _ => cover0_B_11 ..)]
  unfold kernelRun0_B
  dsimp only
  rw [View.canon_unit_zero hz]
  sl_unfold_words
  try dsimp only
  simp only [View.readAt_eq_ld, Memref.IsWhole.read_unread, View.ld_unit_zero (S := S512x768) hz, View.ld_unit_zero (S := S512x256) hz, View.ld_unit_zero (S := S1x256) hz, View.ld_unit_zero (S := S256x256) hz, shapeCast_self]

theorem outs_C (t : Fin cfg0.N) (h0 : ¬ t.val % 16 = 0) (h1 : t.val % 16 = 15) (i j : Fin 256) :
    ((outsAt0 m c t.val t.isLt).2.2.1 : Vec Ideal S256x256 .f32) (ix2 i j)
      = ((outsAt0 m c (t.val - 1) (by have := t.isLt; omega)).2.2.1 : Vec Ideal S256x256 .f32) (ix2 i j) + gT m c t i j := by
  refine Eq.trans ?_ (g_apply (bp m c t) (bY m c t) (bg m c t) (bb m c t) (bd m c t) _ i j)
  rw [outsAt0_C m c t h0 h1]
  dsimp only
  unfold out0_C_11
  rw [View.read_writes_eq_canon _ _ _ (fun _ => cover0_C_11 ..)]
  unfold kernelRun0_C
  dsimp only
  rw [View.canon_unit_zero hz]
  sl_unfold_words
  try dsimp only
  simp only [View.readAt_eq_ld, Memref.IsWhole.read_unread, View.ld_unit_zero (S := S512x768) hz, View.ld_unit_zero (S := S512x256) hz, View.ld_unit_zero (S := S1x256) hz, View.ld_unit_zero (S := S256x256) hz, shapeCast_self]

theorem outs_A (t : Fin cfg0.N) (h0 : t.val % 16 = 0) (h1 : ¬ t.val % 16 = 15) (i j : Fin 256) :
    ((outsAt0 m c t.val t.isLt).2.2.1 : Vec Ideal S256x256 .f32) (ix2 i j) = gT m c t i j := by
  have hz0 : (k0_pay41 (F := Ideal)) (ix2 i j) = (0 : EReal) := by
    unfold_payloads
    pointwise
  refine Eq.trans ?_ ((g_apply (bp m c t) (bY m c t) (bg m c t) (bb m c t) (bd m c t) (k0_pay41 (F := Ideal)) i j).trans ((congrArg (· + gB (bp m c t) (bY m c t) (bg m c t) (bb m c t) (bd m c t) i j) hz0).trans (zero_add _)))
  rw [outsAt0_A m c t h0 h1]
  dsimp only
  unfold out0_A_11
  rw [View.read_writes_eq_canon _ _ _ (fun _ => cover0_A_11 ..)]
  unfold kernelRun0_A
  dsimp only
  rw [View.canon_cons_unit_zero (S := S256x256) hz]
  sl_unfold_words
  try dsimp only
  simp only [View.readAt_eq_ld, Memref.IsWhole.read_unread, View.ld_unit_zero (S := S512x768) hz, View.ld_unit_zero (S := S512x256) hz, View.ld_unit_zero (S := S1x256) hz, View.ld_unit_zero (S := S256x256) hz, shapeCast_self, View.readCov_unit_zero (S := S256x256) _ hz]

/-! ## The sum over the grid -/

theorem outs_g (i j : Fin 256) : ∀ (n : ℕ) (h : n < cfg0.N), ((outsAt0 m c n h).2.2.1 : Vec Ideal S256x256 .f32) (ix2 i j)
      = ∑ s : Fin (n + 1), gT m c ⟨s.val, by omega⟩ i j
  | 0, h => by rw [outs_A m c ⟨0, h⟩ rfl (by dsimp only; omega)]; simp
  | n + 1, h => by
    have hN : cfg0.N = 16 := N_0
    have step : ((outsAt0 m c (n + 1) h).2.2.1 : Vec Ideal S256x256 .f32) (ix2 i j)
        = ((outsAt0 m c n (by omega)).2.2.1 : Vec Ideal S256x256 .f32) (ix2 i j) + gT m c ⟨n + 1, h⟩ i j := by
      by_cases h1 : (n + 1) % 16 = 15
      · exact outs_C m c ⟨n + 1, h⟩ (by dsimp only; omega) h1 i j
      · exact outs_B m c ⟨n + 1, h⟩ (by dsimp only; omega) h1 i j
    rw [step, Fin.sum_univ_castSucc]
    exact congrArg₂ (· + ·) (outs_g i j n (by omega)) rfl

/-! ## The blocks in their arrays: the row blocks are visited from the last to the first -/

/-- Row `r` of the row block of grid point `t`. -/
def row (t : Fin cfg0.N) (r : Fin 512) : Fin 8192 := ⟨(15 - t.val) * 512 + r.val, by have := t.isLt; have : cfg0.N = 16 := N_0; have := r.isLt; omega⟩

theorem index_row : ∀ t : Fin cfg0.N, (win0_0.index t 0 = 15 - t.val ∧ win0_0.index t 1 = 0)
   ∧ (win0_2.index t 0 = 15 - t.val ∧ win0_2.index t 1 = 0)
   ∧ (win0_3.index t 0 = 15 - t.val ∧ win0_3.index t 1 = 0)
   ∧ (win0_5.index t 0 = 0 ∧ win0_5.index t 1 = 0)
   ∧ (win0_6.index t 0 = 0 ∧ win0_6.index t 1 = 0)
   ∧ (win0_11.index t 0 = 0 ∧ win0_11.index t 1 = 0) := by decide +kernel

/-- The arguments. -/
abbrev aP : Vec Ideal S8192x3104 .f32 := m (c.tc.loc main_arg0)
abbrev aW : Vec Ideal S31x256 .f32 := m (c.tc.loc main_arg1)
abbrev aB : Vec Ideal S256 .f32 := m (c.tc.loc main_arg2)
abbrev aG : Vec Ideal S256 .f32 := m (c.tc.loc main_arg3)
abbrev aL : Vec Ideal S256 .f32 := m (c.tc.loc main_arg4)
abbrev aD : Vec Ideal S8192x256 .f32 := m (c.tc.loc main_arg7)

set_option maxHeartbeats 40000000 in
theorem V_p (r : Fin 8192) (k : Fin 3200) (h : k.val < 1536) : (V m c main_v6 : Vec Ideal S8192x3200 .f32) (ix2 r k) = aP m c (ix2 r ⟨k.val, by omega⟩) := by
  dsimp only [V, hostOps0, hostOps0_1, hostOps0_2]
  simp only [List.flatten_cons, List.flatten_nil, List.append_nil, List.cons_append, List.nil_append]
  after_results_simp
  pointwise
  rw [dif_pos h]
  after_results_simp
  pointwise

set_option maxHeartbeats 40000000 in
/-- The convolution's rows are the reference's. -/
theorem V_y : (V m c main_v239 : Vec Ideal S8192x256 .f32) = Cert.ConvRefIdeal.Read.val_main_v232 (F := Ideal) (aP m c) (aW m c) (aB m c) := by
  dsimp only [V, hostOps0, hostOps0_1, hostOps0_2]
  simp only [List.flatten_cons, List.flatten_nil, List.append_nil, List.cons_append, List.nil_append]
  after_results_simp
  rfl

set_option maxHeartbeats 40000000 in
theorem V_g (j : Fin 256) : (V m c main_v240 : Vec Ideal S1x256 .f32) (ix2 0 j) = aG m c (ix1 j) := by
  dsimp only [V, hostOps0, hostOps0_1, hostOps0_2]
  simp only [List.flatten_cons, List.flatten_nil, List.append_nil, List.cons_append, List.nil_append]
  after_results_simp
  pointwise

set_option maxHeartbeats 40000000 in
theorem V_b (j : Fin 256) : (V m c main_v241 : Vec Ideal S1x256 .f32) (ix2 0 j) = aL m c (ix1 j) := by
  dsimp only [V, hostOps0, hostOps0_1, hostOps0_2]
  simp only [List.flatten_cons, List.flatten_nil, List.append_nil, List.cons_append, List.nil_append]
  after_results_simp
  pointwise

/-! ## The windows' blocks, read -/

theorem win_0 (t : Fin cfg0.N) (r : Fin 512) (j : Fin 768) : bp m c t (ix2 r j) = aP m c (ix2 (row t r) ⟨j.val, by omega⟩) := by
  have h0 : bp m c t (ix2 r j) = V m c main_v6 (ix2 (row t r) ⟨j.val, by omega⟩) := by
    unfold bp X0_0 Pipeline.Window.fill
    rw [dif_pos (moved0_0 t _)]
    unfold iblk
    rw [View.read_apply]
    refine congrArg (V m c main_v6) (Lift.eq_ix2_of (?_ : win0_0.index t 0 * 512 + 1 * r.val = (15 - t.val) * 512 + r.val)
      (?_ : win0_0.index t 1 * 768 + 1 * j.val = j.val)) <;> simp [index_row t]
  rw [h0, V_p m c _ _ (by dsimp only; omega)]

theorem win_2 (t : Fin cfg0.N) (r : Fin 512) (j : Fin 256) : bY m c t (ix2 r j) = Cert.ConvRefIdeal.Read.val_main_v232 (F := Ideal) (aP m c) (aW m c) (aB m c) (ix2 (row t r) j) := by
  have h0 : bY m c t (ix2 r j) = V m c main_v239 (ix2 (row t r) j) := by
    unfold bY iblk
    rw [View.read_apply]
    refine congrArg (V m c main_v239) (Lift.eq_ix2_of (i := ((cfg0.win 2).blk t).view.emb (ix2 r j)) (?_ : win0_2.index t 0 * 512 + 1 * r.val = (15 - t.val) * 512 + r.val)
      (?_ : win0_2.index t 1 * 256 + 1 * j.val = j.val)) <;> simp [index_row t]
  exact h0.trans (congrFun (V_y m c) _)

theorem win_3 (t : Fin cfg0.N) (r : Fin 512) (j : Fin 256) : bd m c t (ix2 r j) = aD m c (ix2 (row t r) j) := by
  have h0 : bd m c t (ix2 r j) = V m c main_arg7 (ix2 (row t r) j) := by
    unfold bd iblk
    rw [View.read_apply]
    refine congrArg (V m c main_arg7) (Lift.eq_ix2_of (i := ((cfg0.win 3).blk t).view.emb (ix2 r j)) (?_ : win0_3.index t 0 * 512 + 1 * r.val = (15 - t.val) * 512 + r.val)
      (?_ : win0_3.index t 1 * 256 + 1 * j.val = j.val)) <;> simp [index_row t]
  exact h0.trans (congrFun (V_main_arg7 m c) _)

theorem win_5 (t : Fin cfg0.N) (j : Fin 256) : bg m c t (ix2 0 j) = aG m c (ix1 j) := by
  have h0 : bg m c t (ix2 0 j) = V m c main_v240 (ix2 0 j) := by
    unfold bg iblk
    rw [View.read_apply]
    refine congrArg (V m c main_v240) (Lift.eq_ix2_of (i := ((cfg0.win 5).blk t).view.emb (ix2 0 j)) (?_ : win0_5.index t 0 * 1 + 1 * 0 = 0)
      (?_ : win0_5.index t 1 * 256 + 1 * j.val = j.val)) <;> simp [index_row t]
  exact h0.trans (V_g m c j)

theorem win_6 (t : Fin cfg0.N) (j : Fin 256) : bb m c t (ix2 0 j) = aL m c (ix1 j) := by
  have h0 : bb m c t (ix2 0 j) = V m c main_v241 (ix2 0 j) := by
    unfold bb iblk
    rw [View.read_apply]
    refine congrArg (V m c main_v241) (Lift.eq_ix2_of (i := ((cfg0.win 6).blk t).view.emb (ix2 0 j)) (?_ : win0_6.index t 0 * 1 + 1 * 0 = 0)
      (?_ : win0_6.index t 1 * 256 + 1 * j.val = j.val)) <;> simp [index_row t]
  exact h0.trans (V_b m c j)

/-! ## The result -/

/-- The gradient of the last product's weight, over the projection, the convolution's rows, the norm's gain and shift and the cotangent. -/
def gR (p : Vec Ideal S8192x3104 .f32) (y : Vec Ideal S8192x256 .f32) (g b : Vec Ideal S256 .f32) (d : Vec Ideal S8192x256 .f32) (i j : Fin 256) : EReal :=
  ∑ r : Fin 8192, sw (fun k => y (ix2 r k)) (fun k => g (ix1 k)) (fun k => b (ix1 k)) i * (d (ix2 r j) * sl (p (ix2 r ⟨512 + j.val, by omega⟩)))

abbrev gA (i j : Fin 256) : EReal := gR (aP m c) (Cert.ConvRefIdeal.Read.val_main_v232 (F := Ideal) (aP m c) (aW m c) (aB m c)) (aG m c) (aL m c) (aD m c) i j

theorem g_sum (i j : Fin 256) : ∑ s : Fin 16, gT m c ⟨s.val, by have : cfg0.N = 16 := N_0; omega⟩ i j = gA m c i j := by
  unfold gA gR gT gB
  simp only [win_0, win_2, win_3, win_5, win_6]
  generalize Cert.ConvRefIdeal.Read.val_main_v232 (F := Ideal) (aP m c) (aW m c) (aB m c) = y
  rw [Fin.sum_univ_tiles 16 512 rfl, ← Equiv.sum_comp Fin.revPerm]
  refine Finset.sum_congr rfl fun s _ => Finset.sum_congr rfl fun r _ => ?_
  have e : row (⟨(Fin.revPerm s).val, by have : cfg0.N = 16 := N_0; omega⟩ : Fin cfg0.N) r = ⟨s.val * 512 + r.val, by omega⟩ := by
    apply Fin.ext
    unfold row
    simp only [Fin.revPerm_apply, Fin.val_rev]
    omega
  rw [e]

theorem g_last (i j : Fin 256) (n : ℕ) (h : n < cfg0.N) (hn : n = 15) :
    ((outsAt0 m c n h).2.2.1 : Vec Ideal S256x256 .f32) (ix2 i j) = gA m c i j := by
  have hg (N : ℕ) (hN : N = n + 1) : ((outsAt0 m c n h).2.2.1 : Vec Ideal S256x256 .f32) (ix2 i j)
      = ∑ s : Fin N, gT m c ⟨s.val, by omega⟩ i j := by
    subst hN
    exact outs_g m c i j n h
  have h1 := hg 16 (by omega)
  have h2 := g_sum m c i j
  rw [h1]
  exact h2

theorem g_eq : (dats m 0 c).arrAt 11 cfg0.N = fun i => gA m c (i 0) (i 1) := by
  have he (t : Fin cfg0.N) (k : Fin 256) (e : Fin 256) : ((cfg0.win 11).blk t).view.emb (ix2 k e) = ix2 k e :=
    Lift.eq_ix2_of (show win0_11.index t 0 * 256 + 1 * k.val = k.val by simp [index_row t])
      (show win0_11.index t 1 * 256 + 1 * e.val = e.val by simp [index_row t])
  have hN : cfg0.N = 16 := N_0
  refine (dats m 0 c).arrAt_eq_of_cover 11 _ (fun t hf => ?_) fun i => ?_
  · have ht : t.val = 15 := by have := (flush0_11 t).mp hf; have := t.isLt; omega
    rw [Value.flushed11]
    funext y
    obtain ⟨k, e, rfl⟩ : ∃ (k : Fin 256) (e : Fin 256), y = ix2 k e := ⟨y 0, y 1, eq_ix2 y⟩
    rw [View.read_apply, he]
    refine (g_last m c k e t.val t.isLt ht).trans ?_
    generalize gR (aP m c) (Cert.ConvRefIdeal.Read.val_main_v232 (F := Ideal) (aP m c) (aW m c) (aB m c)) (aG m c) (aL m c) (aD m c) = f
    rfl
  · obtain ⟨k, e, rfl⟩ : ∃ (k : Fin 256) (e : Fin 256), i = ix2 k e := ⟨i 0, i 1, eq_ix2 i⟩
    have h15 : 15 < cfg0.N := by omega
    exact ⟨⟨15, h15⟩, (flush0_11 _).mpr rfl, by rw [← he ⟨15, h15⟩ k e]; exact Finset.mem_map_of_mem _ (Finset.mem_univ _)⟩

end Cert.ConvBwdIdeal.Val
-- ==== Proof.ConvRef.lean ====
/-
  The reference of the convolution branch's backward call: the gradient of its last product's weight, and that it is the call's.
-/
module
public import proofs.«01_k».proof.Proof.ConvKernel
@[expose] public section
set_option maxRecDepth 16384
set_option maxHeartbeats 1000000
noncomputable section
namespace Cert.ConvRefIdeal.Val
open Idealize.ShloMosaic Idealize.SL.Sem Cert.ConvRefIdeal Cert.ConvRefIdeal.Gen Cert.ConvRefIdeal.Read
open Cert.Lift Cert.Rows
open Cert.ConvBwdIdeal.Val (xc xn sl sw gR)

variable (p : Vec Ideal S8192x3104 .f32) (w : Vec Ideal S31x256 .f32) (b : Vec Ideal S256 .f32) (g l : Vec Ideal S256 .f32) (d : Vec Ideal S8192x256 .f32)

theorem xc_ref (r : Fin 8192) (j : Fin 256) : val_main_v245 p w b (ix2 r j) = xc (fun k => val_main_v232 p w b (ix2 r k)) j := by
  simp only [val_main_v245, val_main_v244, val_main_v236, val_main_v235, val_main_cst_4, val_main_v234, val_main_v233, val_main_cst_3]
  generalize val_main_v232 p w b = Y
  pointwise
  unfold xc
  rw [word_c256, word_256, Ideal.div_coe (by norm_num), one_div]

theorem xn_ref (r : Fin 8192) (j : Fin 256) : val_main_v250 p w b (ix2 r j) = xn (fun k => val_main_v232 p w b (ix2 r k)) j := by
  have h := xc_ref p w b
  have e : val_main_v238 p w b = val_main_v245 p w b := rfl
  simp only [val_main_v250, val_main_v249, val_main_v248, val_main_v247, val_main_v246, val_main_cst_7, val_main_v243, val_main_v242, val_main_cst_6, val_main_v241, val_main_v240, val_main_cst_5, val_main_v239]
  rw [e]
  generalize val_main_v245 p w b = X at h
  pointwise
  simp only [h]
  unfold xn
  rw [word_c256, word_256, Ideal.div_coe (by norm_num), one_div]

theorem ln_ref (r : Fin 8192) (j : Fin 256) : val_main_v256 p w b g l (ix2 r j) = xn (fun k => val_main_v232 p w b (ix2 r k)) j * g (ix1 j) + l (ix1 j) := by
  have h := xn_ref p w b
  simp only [val_main_v256, val_main_v255, val_main_v254, val_main_v253, val_main_v252, val_main_v251]
  generalize val_main_v250 p w b = X at h
  pointwise
  simp only [h]

theorem sw_ref (r : Fin 8192) (j : Fin 256) : val_main_v257 p w b g l (ix2 r j)
    = sw (fun k => val_main_v232 p w b (ix2 r k)) (fun k => g (ix1 k)) (fun k => l (ix1 k)) j := by
  have h := ln_ref p w b g l
  simp only [val_main_v257, val_main_call0_v5, val_main_call0_v4, val_main_call0_cst_0, val_main_call0_v3, val_main_call0_v2, val_main_call0_cst, val_main_call0_v1, val_main_call0_v0]
  generalize val_main_v256 p w b g l = X at h
  pointwise
  unfold sw sl
  simp only [h, word_one, logi]

theorem dp_ref (r : Fin 8192) (j : Fin 256) : val_main_v264 p d (ix2 r j) = d (ix2 r j) * sl (p (ix2 r ⟨512 + j.val, by omega⟩)) := by
  simp only [val_main_v264, val_main_v262, val_main_call1_v5, val_main_call1_v4, val_main_call1_cst_0, val_main_call1_v3, val_main_call1_v2, val_main_call1_cst, val_main_call1_v1, val_main_call1_v0, val_main_v2]
  pointwise
  unfold sl
  simp only [word_one, logi]

theorem g_ref (i j : Fin 256) : val_main_v266 p w b g l d (ix2 i j) = gR p (val_main_v232 p w b) g l d i j := by
  have h1 := sw_ref p w b g l
  have h2 := dp_ref p d
  simp only [val_main_v266, val_main_v265]
  generalize val_main_v257 p w b g l = X at h1
  generalize val_main_v264 p d = Y at h2
  pointwise
  unfold gR
  exact Finset.sum_congr rfl fun r _ => by rw [h1, h2, mul_comm]

end Cert.ConvRefIdeal.Val
-- ==== Proof.ConvClaim.lean ====
/-
  The claims of the convolution's backward call.
-/
module
public import proofs.«01_k».proof.Defs
public import proofs.«01_k».proof.Proof.Gen.ConvBwd.Frame
public import proofs.«01_k».proof.Proof.Gen.ConvRefIdeal.Run
public import proofs.«01_k».proof.Proof.ConvRef
public import Idealize.ShloMosaic.Lib.Claim
@[expose] public section
noncomputable section
namespace Cert.ConvClaim
open Idealize.ShloMosaic Idealize.SL.Sem
open Cert.ConvBwdIdeal.Val Cert.Lift

theorem frame_kernel : Cert.quiescent_ConvBwd := fun m ρ _ => Cert.ConvBwd.Gen.frame m ρ
theorem frame_ideal : Cert.quiescent_ConvBwdIdeal := fun m ρ _ => Cert.ConvBwdIdeal.Gen.frame m ρ

/-- The reference's run leaves its arguments and its counters. -/
theorem frame_ref : Cert.quiescent_ConvRefIdeal := fun m ρ _ =>
  (θ_run Cert.ConvRefIdeal.defs _ _).mono (fun r h => ⟨fun c => (h c).2, sem_eq_zero_of_no_sems (by decide) r.2⟩)
    (Cert.ConvRefIdeal.Value.run m ρ)

set_option maxHeartbeats 4000000 in
/-- One of the call's results, the gradient of the last product's weight, is the reference's, at any arguments. -/
theorem value : Cert.algebraic_ConvBwdIdeal_ConvRefIdeal := by
  intro m g m' g' _ hargs
  refine ⟨fun c => (Cert.ConvBwdIdeal.Gen.dats m 0 c).arrAt 11 Cert.ConvBwdIdeal.cfg0.N,
    (θ_run Cert.ConvBwdIdeal.defs _ _).mono (fun r h c => ⟨(h c).2.2.1, (h c).2.2.2.2⟩) (Cert.ConvBwdIdeal.Value.run_blocks m g),
    (θ_run Cert.ConvRefIdeal.defs _ _).mono (fun r h c => ?_) (Cert.ConvRefIdeal.Value.run m' g')⟩
  obtain ⟨h0, hk⟩ := h c
  obtain ⟨a0, a1, a2, a3, a4, a5, a6, a7⟩ := hargs c
  refine ⟨(h0.trans (Cert.ConvRefIdeal.Read.val_main_v266_eq _)).trans ?_, hk⟩
  show Cert.ConvRefIdeal.Read.val_main_v266 (F := Ideal) (m' (c.tc.loc Cert.ConvRefIdeal.main_arg0)) (m' (c.tc.loc Cert.ConvRefIdeal.main_arg1)) (m' (c.tc.loc Cert.ConvRefIdeal.main_arg2)) (m' (c.tc.loc Cert.ConvRefIdeal.main_arg3)) (m' (c.tc.loc Cert.ConvRefIdeal.main_arg4)) (m' (c.tc.loc Cert.ConvRefIdeal.main_arg7)) = _
  rw [a0, a1, a2, a3, a4, a7]
  refine Eq.trans ?_ (g_eq m c).symm
  funext i
  obtain ⟨r, j, rfl⟩ : ∃ r j, i = ValueIdx.ix2 r j := ⟨i 0, i 1, ValueIdx.eq_ix2 i⟩
  exact Cert.ConvRefIdeal.Val.g_ref _ _ _ _ _ _ r j

end Cert.ConvClaim
-- ==== Proof.lean ====
module

public import proofs.«01_k».proof.Defs
public import proofs.«01_k».proof.Proof.Gen.ProjBwd
public import proofs.«01_k».proof.Proof.Gen.ProjBwd.Skeleton
public import proofs.«01_k».proof.Proof.Gen.ProjBwd.Launch
public import proofs.«01_k».proof.Proof.Gen.ProjBwd.Points
public import proofs.«01_k».proof.Proof.Gen.ProjBwd.Frame
public import proofs.«01_k».proof.Proof.Gen.ProjBwdIdeal
public import proofs.«01_k».proof.Proof.Gen.ProjBwdIdeal.Skeleton
public import proofs.«01_k».proof.Proof.Gen.ProjBwdIdeal.Launch
public import proofs.«01_k».proof.Proof.Gen.ProjBwdIdeal.Points
public import proofs.«01_k».proof.Proof.Gen.ProjBwdIdeal.Frame
public import proofs.«01_k».proof.Proof.Gen.ProjBwdIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Pre_finite_proj
public import proofs.«01_k».proof.Proof.ProjClaim
public import proofs.«01_k».proof.Proof.Gen.PostBwd
public import proofs.«01_k».proof.Proof.Gen.PostBwd.Skeleton
public import proofs.«01_k».proof.Proof.Gen.PostBwd.Launch
public import proofs.«01_k».proof.Proof.Gen.PostBwd.Points
public import proofs.«01_k».proof.Proof.Gen.PostBwd.Frame
public import proofs.«01_k».proof.Proof.Gen.PostBwdIdeal
public import proofs.«01_k».proof.Proof.Gen.PostBwdIdeal.Skeleton
public import proofs.«01_k».proof.Proof.Gen.PostBwdIdeal.Launch
public import proofs.«01_k».proof.Proof.Gen.PostBwdIdeal.Points
public import proofs.«01_k».proof.Proof.Gen.PostBwdIdeal.Frame
public import proofs.«01_k».proof.Proof.Gen.PostBwdIdeal.Value
public import proofs.«01_k».proof.Proof.Gen.PostRefIdeal
public import proofs.«01_k».proof.Proof.Gen.PostRefIdeal.Run
public import proofs.«01_k».proof.Proof.Gen.PostRefIdeal.Read
public import proofs.«01_k».proof.Proof.Gen.Pre_finite_post
public import proofs.«01_k».proof.Proof.PostClaim
public import proofs.«01_k».proof.Proof.Gen.LossBwd
public import proofs.«01_k».proof.Proof.Gen.LossBwd.Skeleton
public import proofs.«01_k».proof.Proof.Gen.LossBwd.Launch
public import proofs.«01_k».proof.Proof.Gen.LossBwd.Points
public import proofs.«01_k».proof.Proof.Gen.LossBwd.Frame
public import proofs.«01_k».proof.Proof.Gen.LossBwdIdeal
public import proofs.«01_k».proof.Proof.Gen.LossBwdIdeal.Skeleton
public import proofs.«01_k».proof.Proof.Gen.LossBwdIdeal.Launch
public import proofs.«01_k».proof.Proof.Gen.LossBwdIdeal.Points
public import proofs.«01_k».proof.Proof.Gen.LossBwdIdeal.Frame
public import proofs.«01_k».proof.Proof.Gen.LossBwdIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.SguBwd
public import proofs.«01_k».proof.Proof.Gen.SguBwd.Skeleton
public import proofs.«01_k».proof.Proof.Gen.SguBwd.Launch
public import proofs.«01_k».proof.Proof.Gen.SguBwd.Points
public import proofs.«01_k».proof.Proof.Gen.SguBwd.Frame
public import proofs.«01_k».proof.Proof.Gen.SguBwdIdeal
public import proofs.«01_k».proof.Proof.Gen.SguBwdIdeal.Skeleton
public import proofs.«01_k».proof.Proof.Gen.SguBwdIdeal.Launch
public import proofs.«01_k».proof.Proof.Gen.SguBwdIdeal.Points
public import proofs.«01_k».proof.Proof.Gen.SguBwdIdeal.Frame
public import proofs.«01_k».proof.Proof.Gen.SguBwdIdeal.Value
public import proofs.«01_k».proof.Proof.Gen.SguRefIdeal
public import proofs.«01_k».proof.Proof.Gen.SguRefIdeal.Run
public import proofs.«01_k».proof.Proof.Gen.SguRefIdeal.Read
public import proofs.«01_k».proof.Proof.LossClaim
public import proofs.«01_k».proof.Proof.SguClaim
public import proofs.«01_k».proof.Proof.AttnClaim
public import proofs.«01_k».proof.Proof.ConvClaim
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwd.Loops

public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdIdeal.Loops

public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_finite_attn
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.ConvBwdIdeal.Value
public import Idealize.ShloMosaic.Adequacy
public import Idealize.ShloMosaic.Init

@[expose] public section

noncomputable section

namespace Cert.Proof

open Idealize.ShloMosaic Idealize.SL.Sem Cert.ProjBwd

/-- The claims of the backward calls, in the order in which they are stated. -/
theorem claim : Cert.Claim := ⟨Cert.ProjBwd.Gen.facts, Cert.ProjBwdIdeal.Gen.facts, Cert.ProjRefIdeal.Gen.facts,
  Cert.PostBwd.Gen.facts, Cert.PostBwdIdeal.Gen.facts, Cert.PostRefIdeal.Gen.facts,
  Cert.LossBwd.Gen.facts, Cert.LossBwdIdeal.Gen.facts, Cert.LossRefIdeal.Gen.facts,
  Cert.SguBwd.Gen.facts, Cert.SguBwdIdeal.Gen.facts, Cert.SguRefIdeal.Gen.facts,
  Cert.AttnBwd.Gen.facts, Cert.AttnBwdIdeal.Gen.facts, Cert.AttnRefIdeal.Gen.facts,
  Cert.ConvBwd.Gen.facts, Cert.ConvBwdIdeal.Gen.facts, Cert.ConvRefIdeal.Gen.facts,
  Cert.Pre_finite_proj.Gen.facts, Cert.Pre_finite_post.Gen.facts, Cert.Pre_finite_attn.Gen.facts,
  Cert.ProjClaim.frame_kernel, Cert.ProjClaim.frame_ideal, Cert.ProjClaim.frame_ideal_pre, Cert.ProjClaim.frame_ref, Cert.ProjClaim.frame_ref_pre,
  Cert.PostClaim.frame_kernel, Cert.PostClaim.frame_ideal, Cert.PostClaim.frame_ideal_pre, Cert.PostClaim.frame_ref, Cert.PostClaim.frame_ref_pre,
  Cert.LossClaim.frame_kernel, Cert.LossClaim.frame_ideal, Cert.LossClaim.frame_ref,
  Cert.SguClaim.frame_kernel, Cert.SguClaim.frame_ideal, Cert.SguClaim.frame_ref,
  Cert.AttnClaim.frame_kernel, Cert.AttnClaim.frame_ideal, Cert.AttnClaim.frame_ideal_pre, Cert.AttnClaim.frame_ref, Cert.AttnClaim.frame_ref_pre,
  Cert.ConvClaim.frame_kernel, Cert.ConvClaim.frame_ideal, Cert.ConvClaim.frame_ref,
  trivial, Cert.ProjClaim.value, trivial, Cert.PostClaim.value, trivial, Cert.LossClaim.value, trivial, Cert.SguClaim.value,
  trivial, Cert.AttnClaim.value, trivial, Cert.ConvClaim.value⟩

end Cert.Proof
